-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v635) = v0 c
          ∧ r.2.mem ((c.tc : Thread Cert.Reference3Ideal.nD Cert.Reference3Ideal.τ).loc Cert.Reference3Ideal.main_v638) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S12288x2048 : Shape := ⟨2, ![12288, 2048]⟩
abbrev S12288x7168 : Shape := ⟨2, ![12288, 7168]⟩
abbrev S2x2x1024 : Shape := ⟨3, ![2, 2, 1024]⟩
abbrev S1x128 : Shape := ⟨2, ![1, 128]⟩
abbrev S8192x2048 : Shape := ⟨2, ![8192, 2048]⟩
abbrev S_ : Shape := ⟨0, ![]⟩

class Facts : Prop where
  slices_S12288x7168_S8192x2048_0_0 : S12288x7168.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2x2x1024 : S_.BroadcastsInDim S2x2x1024 (![] : Fin 0 → Fin S2x2x1024.rank)
  reducesTo_S2x2x1024_S_d0_1_2 : S2x2x1024.ReducesTo [0, 1, 2] S_

variable [Facts]

def fn {F : FTy → Type} [FloatOps F] (main_arg0 : FVec F S12288x2048 .f32) (main_arg1 : FVec F S12288x7168 .bf16) (main_arg2 : FVec F S2x2x1024 .f32) (main_arg3 : FVec F S1x128 .f32) : IVec S_ 1 :=
  let main_v0 : FVec F S8192x2048 .bf16 := (extractStridedSlice S8192x2048 ![0, 0] · slices_S12288x7168_S8192x2048_0_0) main_arg1
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S2x2x1024 .f32 := Host.absf main_arg2
  let main_cst_0 : FVec F S_ .f32 := constant S_ .f32 0x7F800000#32
  let main_v7 : FVec F S2x2x1024 .f32 := broadcastInDim S2x2x1024 ![] bcast_S_S2x2x1024 main_cst_0
  let main_v8 : IVec S2x2x1024 1 := cmpf .olt main_v6 main_v7
  let main_c_1 : IVec S_ 1 := constantI S_ 1 1#1
  let main_v9 : IVec S_ 1 := (fun x v => Host.reduce IntOp.andi x v reducesTo_S2x2x1024_S_d0_1_2 h_S_) main_v8 main_c_1
  let main_v10 : IVec S_ 1 := andi main_v5 main_v9
  main_v10
-- ==== Kernel.lean ====
abbrev S12288x2048 : Shape := ⟨2, ![12288, 2048]⟩
abbrev S12288x7168 : Shape := ⟨2, ![12288, 7168]⟩
abbrev S2x2x1024 : Shape := ⟨3, ![2, 2, 1024]⟩
abbrev S1x128 : Shape := ⟨2, ![1, 128]⟩
abbrev S7x128x128 : Shape := ⟨3, ![7, 128, 128]⟩
abbrev S_ : Shape := ⟨0, ![]⟩
abbrev S1x128x128 : Shape := ⟨3, ![1, 128, 128]⟩
abbrev S9x128x128 : Shape := ⟨3, ![9, 128, 128]⟩
abbrev S8x128x128 : Shape := ⟨3, ![8, 128, 128]⟩
abbrev S1x9x128x128 : Shape := ⟨4, ![1, 9, 128, 128]⟩
abbrev S2x9x128x128 : Shape := ⟨4, ![2, 9, 128, 128]⟩
abbrev S2x1152x128 : Shape := ⟨3, ![2, 1152, 128]⟩
abbrev S1x8x128x128 : Shape := ⟨4, ![1, 8, 128, 128]⟩
abbrev S2x8x128x128 : Shape := ⟨4, ![2, 8, 128, 128]⟩
abbrev S128 : Shape := ⟨1, ![128]⟩
abbrev S12288x1024 : Shape := ⟨2, ![12288, 1024]⟩
abbrev S32x1x2x8x128x128 : Shape := ⟨6, ![32, 1, 2, 8, 128, 128]⟩
abbrev S256x256 : Shape := ⟨2, ![256, 256]⟩
abbrev S2x2x256 : Shape := ⟨3, ![2, 2, 256]⟩
abbrev S1x1x2x2x128x128 : Shape := ⟨6, ![1, 1, 2, 2, 128, 128]⟩
abbrev S2x2x128x128 : Shape := ⟨4, ![2, 2, 128, 128]⟩
abbrev S2x2x1152x256 : Shape := ⟨4, ![2, 2, 1152, 256]⟩
abbrev S2x2x128x256 : Shape := ⟨4, ![2, 2, 128, 256]⟩
abbrev S2x256 : Shape := ⟨2, ![2, 256]⟩
abbrev S1x2x256 : Shape := ⟨3, ![1, 2, 256]⟩
abbrev S128x128 : Shape := ⟨2, ![128, 128]⟩
abbrev S1x1x128x128 : Shape := ⟨4, ![1, 1, 128, 128]⟩
abbrev S128x256 : Shape := ⟨2, ![128, 256]⟩
abbrev S1x256 : Shape := ⟨2, ![1, 256]⟩
abbrev S1x1152x128 : Shape := ⟨3, ![1, 1152, 128]⟩
abbrev S1152x128 : Shape := ⟨2, ![1152, 128]⟩
abbrev S1152x256 : Shape := ⟨2, ![1152, 256]⟩
abbrev S1x1x1152x256 : Shape := ⟨4, ![1, 1, 1152, 256]⟩
abbrev S1x1x128x256 : Shape := ⟨4, ![1, 1, 128, 256]⟩
abbrev S256x128 : Shape := ⟨2, ![256, 128]⟩
abbrev S256 : Shape := ⟨1, ![256]⟩
abbrev S256x1 : Shape := ⟨2, ![256, 1]⟩
abbrev S1x1x1x1x128x128 : Shape := ⟨6, ![1, 1, 1, 1, 128, 128]⟩

abbrev nBuf : Space → Nat
  | .hbm => 50
  | .vmem => 24
  | .smem => 0
  | _ => 0

abbrev bufTy : (tb : Table) → Fin (tcTables nBuf tb) → BufTy
  | .hbm, ⟨0, _⟩ => ⟨S12288x2048, .f32⟩
  | .hbm, ⟨1, _⟩ => ⟨S12288x7168, .bf16⟩
  | .hbm, ⟨2, _⟩ => ⟨S2x2x1024, .f32⟩
  | .hbm, ⟨3, _⟩ => ⟨S1x128, .f32⟩
  | .hbm, ⟨4, _⟩ => ⟨S7x128x128, .i32⟩
  | .hbm, ⟨5, _⟩ => ⟨S7x128x128, .i32⟩
  | .hbm, ⟨6, _⟩ => ⟨S7x128x128, .i32⟩
  | .hbm, ⟨7, _⟩ => ⟨S7x128x128, .i32⟩
  | .hbm, ⟨8, _⟩ => ⟨S7x128x128, .i32⟩
  | .hbm, ⟨9, _⟩ => ⟨S_, .i32⟩
  | .hbm, ⟨10, _⟩ => ⟨S7x128x128, .i32⟩
  | .hbm, ⟨11, _⟩ => ⟨S7x128x128, .i32⟩
  | .hbm, ⟨12, _⟩ => ⟨S_, .i32⟩
  | .hbm, ⟨13, _⟩ => ⟨S7x128x128, .i32⟩
  | .hbm, ⟨14, _⟩ => ⟨S7x128x128, .i1⟩
  | .hbm, ⟨15, _⟩ => ⟨S7x128x128, .i1⟩
  | .hbm, ⟨16, _⟩ => ⟨S7x128x128, .i1⟩
  | .hbm, ⟨17, _⟩ => ⟨S7x128x128, .i1⟩
  | .hbm, ⟨18, _⟩ => ⟨S7x128x128, .i1⟩
  | .hbm, ⟨19, _⟩ => ⟨S_, .i32⟩
  | .hbm, ⟨20, _⟩ => ⟨S7x128x128, .i32⟩
  | .hbm, ⟨21, _⟩ => ⟨S7x128x128, .i32⟩
  | .hbm, ⟨22, _⟩ => ⟨S7x128x128, .i1⟩
  | .hbm, ⟨23, _⟩ => ⟨S7x128x128, .i1⟩
  | .hbm, ⟨24, _⟩ => ⟨S7x128x128, .i1⟩
  | .hbm, ⟨25, _⟩ => ⟨S1x128x128, .i1⟩
  | .hbm, ⟨26, _⟩ => ⟨S7x128x128, .i1⟩
  | .hbm, ⟨27, _⟩ => ⟨S1x128x128, .i1⟩
  | .hbm, ⟨28, _⟩ => ⟨S9x128x128, .i1⟩
  | .hbm, ⟨29, _⟩ => ⟨S9x128x128, .f32⟩
  | .hbm, ⟨30, _⟩ => ⟨S7x128x128, .i1⟩
  | .hbm, ⟨31, _⟩ => ⟨S1x128x128, .i1⟩
  | .hbm, ⟨32, _⟩ => ⟨S8x128x128, .i1⟩
  | .hbm, ⟨33, _⟩ => ⟨S8x128x128, .f32⟩
  | .hbm, ⟨34, _⟩ => ⟨S9x128x128, .f32⟩
  | .hbm, ⟨35, _⟩ => ⟨S8x128x128, .f32⟩
  | .hbm, ⟨36, _⟩ => ⟨S1x9x128x128, .f32⟩
  | .hbm, ⟨37, _⟩ => ⟨S1x9x128x128, .f32⟩
  | .hbm, ⟨38, _⟩ => ⟨S2x9x128x128, .f32⟩
  | .hbm, ⟨39, _⟩ => ⟨S2x1152x128, .f32⟩
  | .hbm, ⟨40, _⟩ => ⟨S1x8x128x128, .f32⟩
  | .hbm, ⟨41, _⟩ => ⟨S1x8x128x128, .f32⟩
  | .hbm, ⟨42, _⟩ => ⟨S2x8x128x128, .f32⟩
  | .hbm, ⟨43, _⟩ => ⟨S2x1152x128, .bf16⟩
  | .hbm, ⟨44, _⟩ => ⟨S128, .f32⟩
  | .hbm, ⟨45, _⟩ => ⟨S1x128, .f32⟩
  | .hbm, ⟨46, _⟩ => ⟨S_, .bf16⟩
  | .hbm, ⟨47, _⟩ => ⟨S12288x1024, .bf16⟩
  | .hbm, ⟨48, _⟩ => ⟨S12288x1024, .bf16⟩
  | .hbm, ⟨49, _⟩ => ⟨S32x1x2x8x128x128, .f32⟩
  | .local _ .vmem, ⟨0, _⟩ => ⟨S256x256, .bf16⟩
  | .local _ .vmem, ⟨1, _⟩ => ⟨S256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S2x2x256, .f32⟩
  | .local _ .vmem, ⟨11, _⟩ => ⟨S2x2x256, .f32⟩
  | .local _ .vmem, ⟨12, _⟩ => ⟨S1x128, .f32⟩
  | .local _ .vmem, ⟨13, _⟩ => ⟨S2x1152x128, .bf16⟩
  | .local _ .vmem, ⟨14, _⟩ => ⟨S2x8x128x128, .f32⟩
  | .local _ .vmem, ⟨15, _⟩ => ⟨S256x256, .bf16⟩
  | .local _ .vmem, ⟨16, _⟩ => ⟨S256x256, .bf16⟩
  | .local _ .vmem, ⟨17, _⟩ => ⟨S1x1x2x2x128x128, .f32⟩
  | .local _ .vmem, ⟨18, _⟩ => ⟨S1x1x2x2x128x128, .f32⟩
  | .local _ .vmem, ⟨19, _⟩ => ⟨S256x256, .f32⟩
  | .local _ .vmem, ⟨20, _⟩ => ⟨S256x256, .f32⟩
  | .local _ .vmem, ⟨21, _⟩ => ⟨S2x2x128x128, .f32⟩
  | .local _ .vmem, ⟨22, _⟩ => ⟨S2x2x1152x256, .f32⟩
  | .local _ .vmem, ⟨23, _⟩ => ⟨S2x2x128x256, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst : Ref sig .tc := ⟨.hbm, 46, rfl⟩
abbrev main_v39 : Ref sig .tc := ⟨.hbm, 47, rfl⟩
abbrev main_v40_0 : Ref sig .tc := ⟨.hbm, 48, rfl⟩
abbrev main_v40_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 4], ![false, false]⟩

def k0_mult1 : BitVec 32 :=
  let c0_i32 : BitVec 32 := 0#32
  c0_i32
def k0_mult2 : BitVec 32 :=
  let c128_i32 : BitVec 32 := 128#32
  c128_i32
def k0_mult3 : BitVec 32 :=
  let c0_i32_68 : BitVec 32 := 0#32
  c0_i32_68
def k0_mult4 : BitVec 32 :=
  let c128_i32_234 : BitVec 32 := 128#32
  c128_i32_234
def k0_mult5 : BitVec 32 :=
  let c128_i32_414 : BitVec 32 := 128#32
  c128_i32_414
def k0_mult6 : BitVec 32 :=
  let c0_i32_438 : BitVec 32 := 0#32
  c0_i32_438
def k0_mult7 : BitVec 32 :=
  let c128_i32_462 : BitVec 32 := 128#32
  c128_i32_462
def k0_mult8 : BitVec 32 :=
  let c0_i32_642 : BitVec 32 := 0#32
  c0_i32_642
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_11 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1152x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x2x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S12288x2048 : Shape := ⟨2, ![12288, 2048]⟩
abbrev S12288x7168 : Shape := ⟨2, ![12288, 7168]⟩
abbrev S2x2x1024 : Shape := ⟨3, ![2, 2, 1024]⟩
abbrev S1x128 : Shape := ⟨2, ![1, 128]⟩
abbrev S_ : Shape := ⟨0, ![]⟩
abbrev S2x1024 : Shape := ⟨2, ![2, 1024]⟩
abbrev S1x2x1024 : Shape := ⟨3, ![1, 2, 1024]⟩
abbrev S32x2x8x128x128 : Shape := ⟨5, ![32, 2, 8, 128, 128]⟩
abbrev S8192x1024 : Shape := ⟨2, ![8192, 1024]⟩
abbrev S32x256x1024 : Shape := ⟨3, ![32, 256, 1024]⟩
abbrev S32x256x8x128 : Shape := ⟨4, ![32, 256, 8, 128]⟩
abbrev S32x8x256x128 : Shape := ⟨4, ![32, 8, 256, 128]⟩
abbrev S1x1024 : Shape := ⟨2, ![1, 1024]⟩
abbrev S1024 : Shape := ⟨1, ![1024]⟩
abbrev S1x1x1024 : Shape := ⟨3, ![1, 1, 1024]⟩
abbrev S32x1x8x128x128 : Shape := ⟨5, ![32, 1, 8, 128, 128]⟩
abbrev S32x8x128x128 : Shape := ⟨4, ![32, 8, 128, 128]⟩
abbrev S64x8x256x128 : Shape := ⟨4, ![64, 8, 256, 128]⟩
abbrev S64x8x128x128 : Shape := ⟨4, ![64, 8, 128, 128]⟩
abbrev S16x16 : Shape := ⟨2, ![16, 16]⟩
abbrev S64x8x16x16x128 : Shape := ⟨5, ![64, 8, 16, 16, 128]⟩
abbrev S16x64x8x16x128 : Shape := ⟨5, ![16, 64, 8, 16, 128]⟩
abbrev S1x64x8x16x128 : Shape := ⟨5, ![1, 64, 8, 16, 128]⟩
abbrev S64x8x16x128 : Shape := ⟨4, ![64, 8, 16, 128]⟩
abbrev S64x8x16x1x128 : Shape := ⟨5, ![64, 8, 16, 1, 128]⟩
abbrev S64x8x1x16x128 : Shape := ⟨5, ![64, 8, 1, 16, 128]⟩
abbrev S16x16x1 : Shape := ⟨3, ![16, 16, 1]⟩
abbrev S64x8x16x16 : Shape := ⟨4, ![64, 8, 16, 16]⟩
abbrev S64x8x1x128 : Shape := ⟨4, ![64, 8, 1, 128]⟩
abbrev S64x8x128 : Shape := ⟨3, ![64, 8, 128]⟩
abbrev S64x8x128x1 : Shape := ⟨4, ![64, 8, 128, 1]⟩
abbrev S128 : Shape := ⟨1, ![128]⟩
abbrev S32x8x256 : Shape := ⟨3, ![32, 8, 256]⟩
abbrev S32x8x256x1 : Shape := ⟨4, ![32, 8, 256, 1]⟩
abbrev S1x1x1x128 : Shape := ⟨4, ![1, 1, 1, 128]⟩
abbrev S4096x1024 : Shape := ⟨2, ![4096, 1024]⟩
abbrev S12288x1024 : Shape := ⟨2, ![12288, 1024]⟩
abbrev S32x1x2x8x128x128 : Shape := ⟨6, ![32, 1, 2, 8, 128, 128]⟩

abbrev nBuf : Space → Nat
  | .hbm => 328
  | .vmem => 0
  | .smem => 0
  | _ => 0

abbrev hbmTy0_0 (i : Nat) : BufTy := match i % 128 with
  | 0 => ⟨S12288x2048, .f32⟩
  | 1 => ⟨S12288x7168, .bf16⟩
  | 2 => ⟨S2x2x1024, .f32⟩
  | 3 => ⟨S1x128, .f32⟩
  | 4 => ⟨S_, .f32⟩
  | 5 => ⟨S2x1024, .f32⟩
  | 6 => ⟨S_, .f32⟩
  | 7 => ⟨S2x1024, .f32⟩
  | 8 => ⟨S2x1024, .f32⟩
  | 9 => ⟨S1x2x1024, .f32⟩
  | 10 => ⟨S2x2x1024, .f32⟩
  | 11 => ⟨S2x2x1024, .f32⟩
  | 12 => ⟨S2x2x1024, .f32⟩
  | 13 => ⟨S_, .f32⟩
  | 14 => ⟨S2x1024, .f32⟩
  | 15 => ⟨S1x2x1024, .f32⟩
  | 16 => ⟨S2x2x1024, .f32⟩
  | 17 => ⟨S2x2x1024, .f32⟩
  | 18 => ⟨S_, .f32⟩
  | 19 => ⟨S_, .f32⟩
  | 20 => ⟨S2x2x1024, .f32⟩
  | 21 => ⟨S1x2x1024, .f32⟩
  | 22 => ⟨S2x1024, .f32⟩
  | 23 => ⟨S_, .f32⟩
  | 24 => ⟨S32x2x8x128x128, .f32⟩
  | 25 => ⟨S8192x1024, .bf16⟩
  | 26 => ⟨S8192x1024, .f32⟩
  | 27 => ⟨S32x256x1024, .f32⟩
  | 28 => ⟨S8192x1024, .f32⟩
  | 29 => ⟨S32x256x1024, .f32⟩
  | 30 => ⟨S8192x1024, .f32⟩
  | 31 => ⟨S32x256x1024, .f32⟩
  | 32 => ⟨S8192x1024, .bf16⟩
  | 33 => ⟨S8192x1024, .f32⟩
  | 34 => ⟨S32x256x1024, .f32⟩
  | 35 => ⟨S32x256x1024, .f32⟩
  | 36 => ⟨S32x256x1024, .f32⟩
  | 37 => ⟨S_, .f32⟩
  | 38 => ⟨S32x256x1024, .f32⟩
  | 39 => ⟨S32x256x1024, .f32⟩
  | 40 => ⟨S_, .f32⟩
  | 41 => ⟨S32x256x1024, .f32⟩
  | 42 => ⟨S32x256x1024, .f32⟩
  | 43 => ⟨S32x256x1024, .f32⟩
  | 44 => ⟨S32x256x8x128, .f32⟩
  | 45 => ⟨S32x8x256x128, .f32⟩
  | 46 => ⟨S32x256x8x128, .f32⟩
  | 47 => ⟨S32x8x256x128, .f32⟩
  | 48 => ⟨S1x1024, .f32⟩
  | 49 => ⟨S1024, .f32⟩
  | 50 => ⟨S1024, .f32⟩
  | 51 => ⟨S1024, .f32⟩
  | 52 => ⟨S1024, .f32⟩
  | 53 => ⟨S32x256x1024, .f32⟩
  | 54 => ⟨S_, .f32⟩
  | 55 => ⟨S32x256x1024, .f32⟩
  | 56 => ⟨S32x256x1024, .f32⟩
  | 57 => ⟨S32x256x1024, .f32⟩
  | 58 => ⟨S32x256x1024, .f32⟩
  | 59 => ⟨S32x256x1024, .i1⟩
  | 60 => ⟨S32x256x1024, .f32⟩
  | 61 => ⟨S32x256x1024, .f32⟩
  | 62 => ⟨S32x256x1024, .f32⟩
  | 63 => ⟨S32x256x1024, .f32⟩
  | 64 => ⟨S32x256x1024, .f32⟩
  | 65 => ⟨S32x256x1024, .f32⟩
  | 66 => ⟨S32x256x1024, .f32⟩
  | 67 => ⟨S32x256x1024, .f32⟩
  | 68 => ⟨S32x256x1024, .f32⟩
  | 69 => ⟨S1x1x1024, .f32⟩
  | 70 => ⟨S32x256x1024, .f32⟩
  | 71 => ⟨S32x256x1024, .f32⟩
  | 72 => ⟨S1x1x1024, .f32⟩
  | 73 => ⟨S32x256x1024, .f32⟩
  | 74 => ⟨S32x256x1024, .f32⟩
  | 75 => ⟨S32x256x1024, .f32⟩
  | 76 => ⟨S32x256x1024, .f32⟩
  | 77 => ⟨S32x256x1024, .i1⟩
  | 78 => ⟨S32x256x1024, .f32⟩
  | 79 => ⟨S32x256x1024, .f32⟩
  | 80 => ⟨S32x256x1024, .f32⟩
  | 81 => ⟨S32x256x1024, .f32⟩
  | 82 => ⟨S32x256x1024, .f32⟩
  | 83 => ⟨S32x256x1024, .f32⟩
  | 84 => ⟨S32x256x1024, .f32⟩
  | 85 => ⟨S32x256x1024, .f32⟩
  | 86 => ⟨S_, .f32⟩
  | 87 => ⟨S1024, .f32⟩
  | 88 => ⟨S1024, .f32⟩
  | 89 => ⟨S32x256x1024, .f32⟩
  | 90 => ⟨S32x256x1024, .f32⟩
  | 91 => ⟨S32x256x1024, .f32⟩
  | 92 => ⟨S_, .f32⟩
  | 93 => ⟨S32x256x1024, .f32⟩
  | 94 => ⟨S32x256x1024, .f32⟩
  | 95 => ⟨S_, .f32⟩
  | 96 => ⟨S32x256x1024, .f32⟩
  | 97 => ⟨S32x256x1024, .f32⟩
  | 98 => ⟨S1x1x1024, .f32⟩
  | 99 => ⟨S32x256x1024, .f32⟩
  | 100 => ⟨S32x256x1024, .f32⟩
  | 101 => ⟨S32x256x8x128, .f32⟩
  | 102 => ⟨S32x8x256x128, .f32⟩
  | 103 => ⟨S32x256x8x128, .f32⟩
  | 104 => ⟨S32x8x256x128, .f32⟩
  | 105 => ⟨S32x1x8x128x128, .f32⟩
  | 106 => ⟨S32x8x128x128, .f32⟩
  | 107 => ⟨S1x1024, .f32⟩
  | 108 => ⟨S1024, .f32⟩
  | 109 => ⟨S1024, .f32⟩
  | 110 => ⟨S1024, .f32⟩
  | 111 => ⟨S1024, .f32⟩
  | 112 => ⟨S32x256x1024, .f32⟩
  | 113 => ⟨S_, .f32⟩
  | 114 => ⟨S32x256x1024, .f32⟩
  | 115 => ⟨S32x256x1024, .f32⟩
  | 116 => ⟨S32x256x1024, .f32⟩
  | 117 => ⟨S32x256x1024, .f32⟩
  | 118 => ⟨S32x256x1024, .i1⟩
  | 119 => ⟨S32x256x1024, .f32⟩
  | 120 => ⟨S32x256x1024, .f32⟩
  | 121 => ⟨S32x256x1024, .f32⟩
  | 122 => ⟨S32x256x1024, .f32⟩
  | 123 => ⟨S32x256x1024, .f32⟩
  | 124 => ⟨S32x256x1024, .f32⟩
  | 125 => ⟨S32x256x1024, .f32⟩
  | 126 => ⟨S32x256x1024, .f32⟩
  | 127 => ⟨S32x256x1024, .f32⟩
  | _ => ⟨S12288x2048, .f32⟩

abbrev hbmTy0_1 (i : Nat) : BufTy := match i % 128 with
  | 0 => ⟨S1x1x1024, .f32⟩
  | 1 => ⟨S32x256x1024, .f32⟩
  | 2 => ⟨S32x256x1024, .f32⟩
  | 3 => ⟨S1x1x1024, .f32⟩
  | 4 => ⟨S32x256x1024, .f32⟩
  | 5 => ⟨S32x256x1024, .f32⟩
  | 6 => ⟨S32x256x1024, .f32⟩
  | 7 => ⟨S32x256x1024, .f32⟩
  | 8 => ⟨S32x256x1024, .i1⟩
  | 9 => ⟨S32x256x1024, .f32⟩
  | 10 => ⟨S32x256x1024, .f32⟩
  | 11 => ⟨S32x256x1024, .f32⟩
  | 12 => ⟨S32x256x1024, .f32⟩
  | 13 => ⟨S32x256x1024, .f32⟩
  | 14 => ⟨S32x256x1024, .f32⟩
  | 15 => ⟨S32x256x1024, .f32⟩
  | 16 => ⟨S32x256x1024, .f32⟩
  | 17 => ⟨S_, .f32⟩
  | 18 => ⟨S1024, .f32⟩
  | 19 => ⟨S1024, .f32⟩
  | 20 => ⟨S32x256x1024, .f32⟩
  | 21 => ⟨S32x256x1024, .f32⟩
  | 22 => ⟨S32x256x1024, .f32⟩
  | 23 => ⟨S_, .f32⟩
  | 24 => ⟨S32x256x1024, .f32⟩
  | 25 => ⟨S32x256x1024, .f32⟩
  | 26 => ⟨S_, .f32⟩
  | 27 => ⟨S32x256x1024, .f32⟩
  | 28 => ⟨S32x256x1024, .f32⟩
  | 29 => ⟨S1x1x1024, .f32⟩
  | 30 => ⟨S32x256x1024, .f32⟩
  | 31 => ⟨S32x256x1024, .f32⟩
  | 32 => ⟨S32x256x8x128, .f32⟩
  | 33 => ⟨S32x8x256x128, .f32⟩
  | 34 => ⟨S32x256x8x128, .f32⟩
  | 35 => ⟨S32x8x256x128, .f32⟩
  | 36 => ⟨S32x8x256x128, .f32⟩
  | 37 => ⟨S32x8x256x128, .f32⟩
  | 38 => ⟨S32x8x256x128, .f32⟩
  | 39 => ⟨S32x8x256x128, .f32⟩
  | 40 => ⟨S32x1x8x128x128, .f32⟩
  | 41 => ⟨S32x8x128x128, .f32⟩
  | 42 => ⟨S64x8x256x128, .f32⟩
  | 43 => ⟨S64x8x256x128, .f32⟩
  | 44 => ⟨S64x8x256x128, .f32⟩
  | 45 => ⟨S64x8x256x128, .f32⟩
  | 46 => ⟨S64x8x128x128, .f32⟩
  | 47 => ⟨S_, .i1⟩
  | 48 => ⟨S16x16, .i1⟩
  | 49 => ⟨S16x16, .i32⟩
  | 50 => ⟨S_, .i32⟩
  | 51 => ⟨S16x16, .i32⟩
  | 52 => ⟨S16x16, .i32⟩
  | 53 => ⟨S16x16, .i32⟩
  | 54 => ⟨S16x16, .i1⟩
  | 55 => ⟨S_, .i1⟩
  | 56 => ⟨S16x16, .i1⟩
  | 57 => ⟨S16x16, .i1⟩
  | 58 => ⟨S64x8x16x16x128, .f32⟩
  | 59 => ⟨S16x64x8x16x128, .f32⟩
  | 60 => ⟨S64x8x16x16x128, .f32⟩
  | 61 => ⟨S16x64x8x16x128, .f32⟩
  | 62 => ⟨S64x8x16x16x128, .f32⟩
  | 63 => ⟨S16x64x8x16x128, .f32⟩
  | 64 => ⟨S64x8x16x16x128, .f32⟩
  | 65 => ⟨S16x64x8x16x128, .f32⟩
  | 66 => ⟨S_, .f32⟩
  | 67 => ⟨S16x64x8x16x128, .f32⟩
  | 68 => ⟨S_, .i32⟩
  | 69 => ⟨S16x64x8x16x128, .f32⟩
  | 70 => ⟨S16x64x8x16x128, .f32⟩
  | 71 => ⟨S16x64x8x16x128, .f32⟩
  | 72 => ⟨S16x64x8x16x128, .f32⟩
  | 73 => ⟨S16x16, .i1⟩
  | 74 => ⟨S_, .i32⟩
  | 75 => ⟨S64x8x128x128, .f32⟩
  | 76 => ⟨S16x64x8x16x128, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x64x8x16x128, .f32⟩
  | 84 => ⟨S64x8x16x128, .f32⟩
  | 85 => ⟨S_, .i32⟩
  | 86 => ⟨S_, .i32⟩
  | 87 => ⟨S_, .i32⟩
  | 88 => ⟨S_, .i32⟩
  | 89 => ⟨S1x64x8x16x128, .f32⟩
  | 90 => ⟨S64x8x16x128, .f32⟩
  | 91 => ⟨S_, .i32⟩
  | 92 => ⟨S_, .i32⟩
  | 93 => ⟨S_, .i32⟩
  | 94 => ⟨S_, .i32⟩
  | 95 => ⟨S1x64x8x16x128, .f32⟩
  | 96 => ⟨S64x8x16x128, .f32⟩
  | 97 => ⟨S_, .i32⟩
  | 98 => ⟨S_, .i32⟩
  | 99 => ⟨S_, .i32⟩
  | 100 => ⟨S_, .i32⟩
  | 101 => ⟨S1x64x8x16x128, .f32⟩
  | 102 => ⟨S64x8x16x128, .f32⟩
  | 103 => ⟨S_, .f32⟩
  | 104 => ⟨S_, .f32⟩
  | 105 => ⟨S64x8x16x128, .f32⟩
  | 106 => ⟨S64x8x16x128, .f32⟩
  | 107 => ⟨S64x8x16x128, .f32⟩
  | 108 => ⟨S64x8x16x128, .f32⟩
  | 109 => ⟨S64x8x16x1x128, .f32⟩
  | 110 => ⟨S64x8x1x16x128, .f32⟩
  | 111 => ⟨S64x8x16x16x128, .f32⟩
  | 112 => ⟨S64x8x16x16x128, .f32⟩
  | 113 => ⟨S64x8x16x16x128, .f32⟩
  | 114 => ⟨S16x16x1, .i1⟩
  | 115 => ⟨S_, .f32⟩
  | 116 => ⟨S_, .f32⟩
  | 117 => ⟨S64x8x16x16x128, .i1⟩
  | 118 => ⟨S64x8x16x16x128, .f32⟩
  | 119 => ⟨S64x8x16x16x128, .f32⟩
  | 120 => ⟨S64x8x16x16x128, .f32⟩
  | 121 => ⟨S64x8x16x1x128, .f32⟩
  | 122 => ⟨S64x8x1x16x128, .f32⟩
  | 123 => ⟨S64x8x16x16x128, .f32⟩
  | 124 => ⟨S64x8x16x16x128, .f32⟩
  | 125 => ⟨S64x8x16x16x128, .f32⟩
  | 126 => ⟨S64x8x16x16x128, .f32⟩
  | 127 => ⟨S_, .f32⟩
  | _ => ⟨S12288x2048, .f32⟩

abbrev hbmTy0_2 (i : Nat) : BufTy := match i % 128 with
  | 0 => ⟨S64x8x16x16, .f32⟩
  | 1 => ⟨S64x8x16x128, .f32⟩
  | 2 => ⟨S64x8x1x128, .f32⟩
  | 3 => ⟨S64x8x128, .f32⟩
  | 4 => ⟨S64x8x128, .f32⟩
  | 5 => ⟨S64x8x128x1, .f32⟩
  | 6 => ⟨S64x8x128x128, .f32⟩
  | 7 => ⟨S64x8x128x128, .f32⟩
  | 8 => ⟨S64x8x16x128, .f32⟩
  | 9 => ⟨S64x8x16x128, .f32⟩
  | 10 => ⟨S64x8x16x128, .f32⟩
  | 11 => ⟨S64x8x16x128, .f32⟩
  | 12 => ⟨S64x8x128x128, .f32⟩
  | 13 => ⟨S64x8x128x128, .f32⟩
  | 14 => ⟨S64x8x16x128, .f32⟩
  | 15 => ⟨S1x64x8x16x128, .f32⟩
  | 16 => ⟨S_, .i32⟩
  | 17 => ⟨S_, .i32⟩
  | 18 => ⟨S_, .i32⟩
  | 19 => ⟨S_, .i32⟩
  | 20 => ⟨S16x64x8x16x128, .f32⟩
  | 21 => ⟨S_, .i32⟩
  | 22 => ⟨S_, .i32⟩
  | 23 => ⟨S64x8x16x16x128, .f32⟩
  | 24 => ⟨S64x8x256x128, .f32⟩
  | 25 => ⟨S32x8x256x128, .f32⟩
  | 26 => ⟨S32x8x256x128, .f32⟩
  | 27 => ⟨S32x8x256x128, .f32⟩
  | 28 => ⟨S32x8x128x128, .f32⟩
  | 29 => ⟨S32x8x128x128, .f32⟩
  | 30 => ⟨S8192x1024, .bf16⟩
  | 31 => ⟨S8192x1024, .f32⟩
  | 32 => ⟨S32x256x1024, .f32⟩
  | 33 => ⟨S32x8x256x128, .f32⟩
  | 34 => ⟨S128, .f32⟩
  | 35 => ⟨S32x8x256x128, .f32⟩
  | 36 => ⟨S_, .f32⟩
  | 37 => ⟨S32x8x256, .f32⟩
  | 38 => ⟨S32x8x256x1, .f32⟩
  | 39 => ⟨S_, .f32⟩
  | 40 => ⟨S32x8x256x1, .f32⟩
  | 41 => ⟨S32x8x256x1, .f32⟩
  | 42 => ⟨S_, .f32⟩
  | 43 => ⟨S32x8x256x1, .f32⟩
  | 44 => ⟨S32x8x256x1, .f32⟩
  | 45 => ⟨S32x8x256x1, .f32⟩
  | 46 => ⟨S32x8x256x128, .f32⟩
  | 47 => ⟨S32x8x256x128, .f32⟩
  | 48 => ⟨S1x1x1x128, .f32⟩
  | 49 => ⟨S32x8x256x128, .f32⟩
  | 50 => ⟨S32x8x256x128, .f32⟩
  | 51 => ⟨S32x256x8x128, .f32⟩
  | 52 => ⟨S32x256x1024, .f32⟩
  | 53 => ⟨S32x256x1024, .f32⟩
  | 54 => ⟨S32x256x1024, .f32⟩
  | 55 => ⟨S_, .f32⟩
  | 56 => ⟨S32x256x1024, .f32⟩
  | 57 => ⟨S32x256x1024, .f32⟩
  | 58 => ⟨S_, .f32⟩
  | 59 => ⟨S32x256x1024, .f32⟩
  | 60 => ⟨S32x256x1024, .f32⟩
  | 61 => ⟨S32x256x1024, .f32⟩
  | 62 => ⟨S32x256x1024, .f32⟩
  | 63 => ⟨S32x1x8x128x128, .f32⟩
  | 64 => ⟨S32x1x8x128x128, .f32⟩
  | 65 => ⟨S32x2x8x128x128, .f32⟩
  | 66 => ⟨S8192x1024, .f32⟩
  | 67 => ⟨S_, .f32⟩
  | 68 => ⟨S4096x1024, .f32⟩
  | 69 => ⟨S12288x1024, .f32⟩
  | 70 => ⟨S12288x1024, .bf16⟩
  | 71 => ⟨S32x1x2x8x128x128, .f32⟩
  | _ => ⟨S12288x2048, .f32⟩

abbrev hbmTy (i : Nat) : BufTy := match i / 128 with
  | 0 => hbmTy0_0 i
  | 1 => hbmTy0_1 i
  | 2 => hbmTy0_2 i
  | _ => ⟨S12288x2048, .f32⟩

abbrev bufTy : (tb : Table) → Fin (tcTables nBuf tb) → BufTy
  | .hbm, ⟨i, _⟩ => hbmTy i
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_v0 : Ref sig .tc := ⟨.hbm, 53, rfl⟩
abbrev main_call2_call0_cst : Ref sig .tc := ⟨.hbm, 54, rfl⟩
abbrev main_call2_call0_v0 : Ref sig .tc := ⟨.hbm, 55, rfl⟩
abbrev main_call2_call0_v1 : Ref sig .tc := ⟨.hbm, 56, rfl⟩
abbrev main_call2_call0_v2 : Ref sig .tc := ⟨.hbm, 57, rfl⟩
abbrev main_call2_call0_v3 : Ref sig .tc := ⟨.hbm, 58, rfl⟩
abbrev main_call2_call0_v4 : Ref sig .tc := ⟨.hbm, 59, rfl⟩
abbrev main_call2_call0_v5 : Ref sig .tc := ⟨.hbm, 60, rfl⟩
abbrev main_call2_call0_v6 : Ref sig .tc := ⟨.hbm, 61, rfl⟩
abbrev main_call2_call0_v7 : Ref sig .tc := ⟨.hbm, 62, rfl⟩
abbrev main_call2_call0_v8 : Ref sig .tc := ⟨.hbm, 63, rfl⟩
abbrev main_call2_call0_v9 : Ref sig .tc := ⟨.hbm, 64, rfl⟩
abbrev main_call2_call0_v10 : Ref sig .tc := ⟨.hbm, 65, rfl⟩
abbrev main_call2_call0_v11 : Ref sig .tc := ⟨.hbm, 66, rfl⟩
abbrev main_call2_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_3 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_4 : Ref sig .tc := ⟨.hbm, 92, rfl⟩
abbrev main_v58 : Ref sig .tc := ⟨.hbm, 93, rfl⟩
abbrev main_v59 : Ref sig .tc := ⟨.hbm, 94, rfl⟩
abbrev main_cst_5 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call3_v0 : Ref sig .tc := ⟨.hbm, 112, rfl⟩
abbrev main_call3_call0_cst : Ref sig .tc := ⟨.hbm, 113, rfl⟩
abbrev main_call3_call0_v0 : Ref sig .tc := ⟨.hbm, 114, rfl⟩
abbrev main_call3_call0_v1 : Ref sig .tc := ⟨.hbm, 115, rfl⟩
abbrev main_call3_call0_v2 : Ref sig .tc := ⟨.hbm, 116, rfl⟩
abbrev main_call3_call0_v3 : Ref sig .tc := ⟨.hbm, 117, rfl⟩
abbrev main_call3_call0_v4 : Ref sig .tc := ⟨.hbm, 118, rfl⟩
abbrev main_call3_call0_v5 : Ref sig .tc := ⟨.hbm, 119, rfl⟩
abbrev main_call3_call0_v6 : Ref sig .tc := ⟨.hbm, 120, rfl⟩
abbrev main_call3_call0_v7 : Ref sig .tc := ⟨.hbm, 121, rfl⟩
abbrev main_call3_call0_v8 : Ref sig .tc := ⟨.hbm, 122, rfl⟩
abbrev main_call3_call0_v9 : Ref sig .tc := ⟨.hbm, 123, rfl⟩
abbrev main_call3_call0_v10 : Ref sig .tc := ⟨.hbm, 124, rfl⟩
abbrev main_call3_call0_v11 : Ref sig .tc := ⟨.hbm, 125, rfl⟩
abbrev main_call3_v1 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_6 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_7 : Ref sig .tc := ⟨.hbm, 151, rfl⟩
abbrev main_v99 : Ref sig .tc := ⟨.hbm, 152, rfl⟩
abbrev main_v100 : Ref sig .tc := ⟨.hbm, 153, rfl⟩
abbrev main_cst_8 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_c : Ref sig .tc := ⟨.hbm, 175, rfl⟩
abbrev main_v121 : Ref sig .tc := ⟨.hbm, 176, rfl⟩
abbrev main_call8_v0 : Ref sig .tc := ⟨.hbm, 177, rfl⟩
abbrev main_call8_c : Ref sig .tc := ⟨.hbm, 178, rfl⟩
abbrev main_call8_v1 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_call8_c_0 : Ref sig .tc := ⟨.hbm, 183, rfl⟩
abbrev main_call8_v5 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_9 : Ref sig .tc := ⟨.hbm, 194, rfl⟩
abbrev main_v131 : Ref sig .tc := ⟨.hbm, 195, rfl⟩
abbrev main_c_10 : Ref sig .tc := ⟨.hbm, 196, rfl⟩
abbrev main_v132_0 : Ref sig .tc := ⟨.hbm, 197, rfl⟩
abbrev main_v132_1 : Ref sig .tc := ⟨.hbm, 198, rfl⟩
abbrev main_v132_2 : Ref sig .tc := ⟨.hbm, 199, rfl⟩
abbrev main_v132_3 : Ref sig .tc := ⟨.hbm, 200, rfl⟩
abbrev main_v132_4 : Ref sig .tc := ⟨.hbm, 201, rfl⟩
abbrev main_v132_5 : Ref sig .tc := ⟨.hbm, 202, rfl⟩
abbrev main_v132_6 : Ref sig .tc := ⟨.hbm, 203, rfl⟩
abbrev main_v132_7 : Ref sig .tc := ⟨.hbm, 204, rfl⟩
abbrev main_while0c_c_22 : Ref sig .tc := ⟨.hbm, 205, rfl⟩
abbrev main_while0c_v170 : Ref sig .tc := ⟨.hbm, 206, rfl⟩
abbrev main_while0b_call9_c : Ref sig .tc := ⟨.hbm, 207, rfl⟩
abbrev main_while0b_call9_c_0 : Ref sig .tc := ⟨.hbm, 208, rfl⟩
abbrev main_while0b_call9_c_1 : Ref sig .tc := ⟨.hbm, 209, rfl⟩
abbrev main_while0b_call9_c_2 : Ref sig .tc := ⟨.hbm, 210, rfl⟩
abbrev main_while0b_call9_v0 : Ref sig .tc := ⟨.hbm, 211, rfl⟩
abbrev main_while0b_v170 : Ref sig .tc := ⟨.hbm, 212, rfl⟩
abbrev main_while0b_call10_c : Ref sig .tc := ⟨.hbm, 213, rfl⟩
abbrev main_while0b_call10_c_0 : Ref sig .tc := ⟨.hbm, 214, rfl⟩
abbrev main_while0b_call10_c_1 : Ref sig .tc := ⟨.hbm, 215, rfl⟩
abbrev main_while0b_call10_c_2 : Ref sig .tc := ⟨.hbm, 216, rfl⟩
abbrev main_while0b_call10_v0 : Ref sig .tc := ⟨.hbm, 217, rfl⟩
abbrev main_while0b_v171 : Ref sig .tc := ⟨.hbm, 218, rfl⟩
abbrev main_while0b_call11_c : Ref sig .tc := ⟨.hbm, 219, rfl⟩
abbrev main_while0b_call11_c_0 : Ref sig .tc := ⟨.hbm, 220, rfl⟩
abbrev main_while0b_call11_c_1 : Ref sig .tc := ⟨.hbm, 221, rfl⟩
abbrev main_while0b_call11_c_2 : Ref sig .tc := ⟨.hbm, 222, rfl⟩
abbrev main_while0b_call11_v0 : Ref sig .tc := ⟨.hbm, 223, rfl⟩
abbrev main_while0b_v172 : Ref sig .tc := ⟨.hbm, 224, rfl⟩
abbrev main_while0b_call12_c : Ref sig .tc := ⟨.hbm, 225, rfl⟩
abbrev main_while0b_call12_c_0 : Ref sig .tc := ⟨.hbm, 226, rfl⟩
abbrev main_while0b_call12_c_1 : Ref sig .tc := ⟨.hbm, 227, rfl⟩
abbrev main_while0b_call12_c_2 : Ref sig .tc := ⟨.hbm, 228, rfl⟩
abbrev main_while0b_call12_v0 : Ref sig .tc := ⟨.hbm, 229, rfl⟩
abbrev main_while0b_v173 : Ref sig .tc := ⟨.hbm, 230, rfl⟩
abbrev main_while0b_call13_call0_cst : Ref sig .tc := ⟨.hbm, 231, rfl⟩
abbrev main_while0b_call13_call0_v0 : Ref sig .tc := ⟨.hbm, 232, rfl⟩
abbrev main_while0b_v174 : Ref sig .tc := ⟨.hbm, 233, rfl⟩
abbrev main_while0b_v175 : Ref sig .tc := ⟨.hbm, 234, rfl⟩
abbrev main_while0b_v176 : Ref sig .tc := ⟨.hbm, 235, rfl⟩
abbrev main_while0b_v177 : Ref sig .tc := ⟨.hbm, 236, rfl⟩
abbrev main_while0b_v178 : Ref sig .tc := ⟨.hbm, 237, rfl⟩
abbrev main_while0b_v179 : Ref sig .tc := ⟨.hbm, 238, rfl⟩
abbrev main_while0b_v180 : Ref sig .tc := ⟨.hbm, 239, rfl⟩
abbrev main_while0b_v181 : Ref sig .tc := ⟨.hbm, 240, rfl⟩
abbrev main_while0b_v182 : Ref sig .tc := ⟨.hbm, 241, rfl⟩
abbrev main_while0b_v183 : Ref sig .tc := ⟨.hbm, 242, rfl⟩
abbrev main_while0b_cst_22 : Ref sig .tc := ⟨.hbm, 243, rfl⟩
abbrev main_while0b_call14_v0 : Ref sig .tc := ⟨.hbm, 244, rfl⟩
abbrev main_while0b_call14_v1 : Ref sig .tc := ⟨.hbm, 245, rfl⟩
abbrev main_while0b_call14_v2 : Ref sig .tc := ⟨.hbm, 246, rfl⟩
abbrev main_while0b_v184 : Ref sig .tc := ⟨.hbm, 247, rfl⟩
abbrev main_while0b_v185 : Ref sig .tc := ⟨.hbm, 248, rfl⟩
abbrev main_while0b_v186 : Ref sig .tc := ⟨.hbm, 249, rfl⟩
abbrev main_while0b_v187 : Ref sig .tc := ⟨.hbm, 250, rfl⟩
abbrev main_while0b_v188 : Ref sig .tc := ⟨.hbm, 251, rfl⟩
abbrev main_while0b_v189 : Ref sig .tc := ⟨.hbm, 252, rfl⟩
abbrev main_while0b_v190 : Ref sig .tc := ⟨.hbm, 253, rfl⟩
abbrev main_while0b_v191 : Ref sig .tc := ⟨.hbm, 254, rfl⟩
abbrev main_while0b_cst_23 : Ref sig .tc := ⟨.hbm, 255, rfl⟩
abbrev main_while0b_v192 : Ref sig .tc := ⟨.hbm, 256, rfl⟩
abbrev main_while0b_v193 : Ref sig .tc := ⟨.hbm, 257, rfl⟩
abbrev main_while0b_v194 : Ref sig .tc := ⟨.hbm, 258, rfl⟩
abbrev main_while0b_v195 : Ref sig .tc := ⟨.hbm, 259, rfl⟩
abbrev main_while0b_v196 : Ref sig .tc := ⟨.hbm, 260, rfl⟩
abbrev main_while0b_v197 : Ref sig .tc := ⟨.hbm, 261, rfl⟩
abbrev main_while0b_v198 : Ref sig .tc := ⟨.hbm, 262, rfl⟩
abbrev main_while0b_v199 : Ref sig .tc := ⟨.hbm, 263, rfl⟩
abbrev main_while0b_v200 : Ref sig .tc := ⟨.hbm, 264, rfl⟩
abbrev main_while0b_v201 : Ref sig .tc := ⟨.hbm, 265, rfl⟩
abbrev main_while0b_v202 : Ref sig .tc := ⟨.hbm, 266, rfl⟩
abbrev main_while0b_v203 : Ref sig .tc := ⟨.hbm, 267, rfl⟩
abbrev main_while0b_v204 : Ref sig .tc := ⟨.hbm, 268, rfl⟩
abbrev main_while0b_v205 : Ref sig .tc := ⟨.hbm, 269, rfl⟩
abbrev main_while0b_v206 : Ref sig .tc := ⟨.hbm, 270, rfl⟩
abbrev main_while0b_call15_v0 : Ref sig .tc := ⟨.hbm, 271, rfl⟩
abbrev main_while0b_call15_c : Ref sig .tc := ⟨.hbm, 272, rfl⟩
abbrev main_while0b_call15_c_0 : Ref sig .tc := ⟨.hbm, 273, rfl⟩
abbrev main_while0b_call15_c_1 : Ref sig .tc := ⟨.hbm, 274, rfl⟩
abbrev main_while0b_call15_c_2 : Ref sig .tc := ⟨.hbm, 275, rfl⟩
abbrev main_while0b_v207 : Ref sig .tc := ⟨.hbm, 276, rfl⟩
abbrev main_while0b_c_24 : Ref sig .tc := ⟨.hbm, 277, rfl⟩
abbrev main_while0b_v208 : Ref sig .tc := ⟨.hbm, 278, rfl⟩
abbrev main_v133 : Ref sig .tc := ⟨.hbm, 279, rfl⟩
abbrev main_v134 : Ref sig .tc := ⟨.hbm, 280, rfl⟩
abbrev main_v135 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_v139 : Ref sig .tc := ⟨.hbm, 285, rfl⟩
abbrev main_v140 : Ref sig .tc := ⟨.hbm, 286, rfl⟩
abbrev main_v141 : Ref sig .tc := ⟨.hbm, 287, rfl⟩
abbrev main_v142 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_cst_11 : Ref sig .tc := ⟨.hbm, 292, rfl⟩
abbrev main_v146 : Ref sig .tc := ⟨.hbm, 293, rfl⟩
abbrev main_v147 : Ref sig .tc := ⟨.hbm, 294, rfl⟩
abbrev main_cst_12 : Ref sig .tc := ⟨.hbm, 295, rfl⟩
abbrev main_v148 : Ref sig .tc := ⟨.hbm, 296, rfl⟩
abbrev main_v149 : Ref sig .tc := ⟨.hbm, 297, rfl⟩
abbrev main_cst_13 : Ref sig .tc := ⟨.hbm, 298, rfl⟩
abbrev main_v150 : Ref sig .tc := ⟨.hbm, 299, rfl⟩
abbrev main_v151 : Ref sig .tc := ⟨.hbm, 300, rfl⟩
abbrev main_v152 : Ref sig .tc := ⟨.hbm, 301, rfl⟩
abbrev main_v153 : Ref sig .tc := ⟨.hbm, 302, rfl⟩
abbrev main_v154 : Ref sig .tc := ⟨.hbm, 303, rfl⟩
abbrev main_v155 : Ref sig .tc := ⟨.hbm, 304, rfl⟩
abbrev main_v156 : Ref sig .tc := ⟨.hbm, 305, rfl⟩
abbrev main_v157 : Ref sig .tc := ⟨.hbm, 306, rfl⟩
abbrev main_v158 : Ref sig .tc := ⟨.hbm, 307, rfl⟩
abbrev main_v159 : Ref sig .tc := ⟨.hbm, 308, rfl⟩
abbrev main_call17_v0 : Ref sig .tc := ⟨.hbm, 309, rfl⟩
abbrev main_call17_v1 : Ref sig .tc := ⟨.hbm, 310, rfl⟩
abbrev main_call17_cst : Ref sig .tc := ⟨.hbm, 311, rfl⟩
abbrev main_call17_v2 : Ref sig .tc := ⟨.hbm, 312, rfl⟩
abbrev main_call17_v3 : Ref sig .tc := ⟨.hbm, 313, rfl⟩
abbrev main_call17_cst_0 : Ref sig .tc := ⟨.hbm, 314, rfl⟩
abbrev main_call17_v4 : Ref sig .tc := ⟨.hbm, 315, rfl⟩
abbrev main_call17_v5 : Ref sig .tc := ⟨.hbm, 316, rfl⟩
abbrev main_v160 : Ref sig .tc := ⟨.hbm, 317, rfl⟩
abbrev main_v161 : Ref sig .tc := ⟨.hbm, 318, rfl⟩
abbrev main_v162 : Ref sig .tc := ⟨.hbm, 319, rfl⟩
abbrev main_v163 : Ref sig .tc := ⟨.hbm, 320, rfl⟩
abbrev main_v164 : Ref sig .tc := ⟨.hbm, 321, rfl⟩
abbrev main_v165 : Ref sig .tc := ⟨.hbm, 322, rfl⟩
abbrev main_cst_14 : Ref sig .tc := ⟨.hbm, 323, rfl⟩
abbrev main_v166 : Ref sig .tc := ⟨.hbm, 324, rfl⟩
abbrev main_v167 : Ref sig .tc := ⟨.hbm, 325, rfl⟩
abbrev main_v168 : Ref sig .tc := ⟨.hbm, 326, rfl⟩
abbrev main_v169 : Ref sig .tc := ⟨.hbm, 327, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S32x256x1024 : Shape := ⟨3, ![32, 256, 1024]⟩
abbrev S2x2048x1024 : Shape := ⟨3, ![2, 2048, 1024]⟩
abbrev S8x6144 : Shape := ⟨2, ![8, 6144]⟩
abbrev S1x2x1024 : Shape := ⟨3, ![1, 2, 1024]⟩
abbrev S1x1024x9216 : Shape := ⟨3, ![1, 1024, 9216]⟩
abbrev S8192x1024 : Shape := ⟨2, ![8192, 1024]⟩
abbrev S4096x1024 : Shape := ⟨2, ![4096, 1024]⟩
abbrev S8x6x1024 : Shape := ⟨3, ![8, 6, 1024]⟩
abbrev S1024x9216 : Shape := ⟨2, ![1024, 9216]⟩
abbrev S1024x2048 : Shape := ⟨2, ![1024, 2048]⟩
abbrev S1024x1024 : Shape := ⟨2, ![1024, 1024]⟩
abbrev S1024x6144 : Shape := ⟨2, ![1024, 6144]⟩
abbrev S1x1x1024 : Shape := ⟨3, ![1, 1, 1024]⟩
abbrev S1x1024 : Shape := ⟨2, ![1, 1024]⟩
abbrev S12288x2048 : Shape := ⟨2, ![12288, 2048]⟩
abbrev S12288x7168 : Shape := ⟨2, ![12288, 7168]⟩
abbrev S1x6x1024 : Shape := ⟨3, ![1, 6, 1024]⟩
abbrev S1024 : Shape := ⟨1, ![1024]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S32x256x1024, .f32⟩
  | .hbm, ⟨1, _⟩ => ⟨S2x2048x1024, .f32⟩
  | .hbm, ⟨2, _⟩ => ⟨S8x6144, .f32⟩
  | .hbm, ⟨3, _⟩ => ⟨S1x2x1024, .f32⟩
  | .hbm, ⟨4, _⟩ => ⟨S1x1024x9216, .f32⟩
  | .hbm, ⟨5, _⟩ => ⟨S8192x1024, .f32⟩
  | .hbm, ⟨6, _⟩ => ⟨S4096x1024, .f32⟩
  | .hbm, ⟨7, _⟩ => ⟨S8x6x1024, .f32⟩
  | .hbm, ⟨8, _⟩ => ⟨S1024x9216, .f32⟩
  | .hbm, ⟨9, _⟩ => ⟨S1024x2048, .f32⟩
  | .hbm, ⟨10, _⟩ => ⟨S1024x1024, .f32⟩
  | .hbm, ⟨11, _⟩ => ⟨S1024x6144, .f32⟩
  | .hbm, ⟨12, _⟩ => ⟨S1024x9216, .f32⟩
  | .hbm, ⟨13, _⟩ => ⟨S1024x9216, .bf16⟩
  | .hbm, ⟨14, _⟩ => ⟨S1x1x1024, .f32⟩
  | .hbm, ⟨15, _⟩ => ⟨S1x1024, .f32⟩
  | .hbm, ⟨16, _⟩ => ⟨S12288x2048, .f32⟩
  | .hbm, ⟨17, _⟩ => ⟨S12288x7168, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![12, 9], ![false, false]⟩

def k0_cond3 (i : grid0.Coords) : BitVec 1 :=
  let arg1 : BitVec 32 := BitVec.ofNat 32 (i 1).val
  let c2_i32 : BitVec 32 := 2#32
  let v10 : BitVec 1 := Scalar.cmpi .slt arg1 c2_i32
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32_5 : BitVec 32 := 2#32
  let v13 : BitVec 1 := Scalar.cmpi .sge arg1 c2_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S32x256x1024 : Shape := ⟨3, ![32, 256, 1024]⟩
abbrev S2x2048x1024 : Shape := ⟨3, ![2, 2048, 1024]⟩
abbrev S8x6144 : Shape := ⟨2, ![8, 6144]⟩
abbrev S1x2x1024 : Shape := ⟨3, ![1, 2, 1024]⟩
abbrev S1x1024x9216 : Shape := ⟨3, ![1, 1024, 9216]⟩
abbrev S1x6144 : Shape := ⟨2, ![1, 6144]⟩
abbrev S6144 : Shape := ⟨1, ![6144]⟩
abbrev S32x6144 : Shape := ⟨2, ![32, 6144]⟩
abbrev S2x1024 : Shape := ⟨2, ![2, 1024]⟩
abbrev S1024x9216 : Shape := ⟨2, ![1024, 9216]⟩
abbrev S32x1x6144 : Shape := ⟨3, ![32, 1, 6144]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x9216 : Shape := ⟨3, ![32, 256, 9216]⟩
abbrev S2x6144 : Shape := ⟨2, ![2, 6144]⟩
abbrev S2x1x6144 : Shape := ⟨3, ![2, 1, 6144]⟩
abbrev S2x1x1024 : Shape := ⟨3, ![2, 1, 1024]⟩
abbrev S2x2048 : Shape := ⟨2, ![2, 2048]⟩
abbrev S2x2048x1 : Shape := ⟨3, ![2, 2048, 1]⟩
abbrev S2x2048x9216 : Shape := ⟨3, ![2, 2048, 9216]⟩
abbrev S8192x9216 : Shape := ⟨2, ![8192, 9216]⟩
abbrev S4096x9216 : Shape := ⟨2, ![4096, 9216]⟩
abbrev S12288x9216 : Shape := ⟨2, ![12288, 9216]⟩
abbrev S12288x2048 : Shape := ⟨2, ![12288, 2048]⟩
abbrev S12288x1024 : Shape := ⟨2, ![12288, 1024]⟩
abbrev S12288x6144 : Shape := ⟨2, ![12288, 6144]⟩
abbrev S12288x7168 : Shape := ⟨2, ![12288, 7168]⟩

abbrev nBuf : Space → Nat
  | .hbm => 87
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x2048x1024, .f32⟩
  | .hbm, ⟨2, _⟩ => ⟨S8x6144, .f32⟩
  | .hbm, ⟨3, _⟩ => ⟨S1x2x1024, .f32⟩
  | .hbm, ⟨4, _⟩ => ⟨S1x1024x9216, .f32⟩
  | .hbm, ⟨5, _⟩ => ⟨S1x6144, .f32⟩
  | .hbm, ⟨6, _⟩ => ⟨S6144, .f32⟩
  | .hbm, ⟨7, _⟩ => ⟨S32x6144, .f32⟩
  | .hbm, ⟨8, _⟩ => ⟨S2x1024, .f32⟩
  | .hbm, ⟨9, _⟩ => ⟨S1024x9216, .f32⟩
  | .hbm, ⟨10, _⟩ => ⟨S32x1x6144, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S1x1024, .f32⟩
  | .hbm, ⟨18, _⟩ => ⟨S1024, .f32⟩
  | .hbm, ⟨19, _⟩ => ⟨S32x256x1024, .f32⟩
  | .hbm, ⟨20, _⟩ => ⟨S_, .f32⟩
  | .hbm, ⟨21, _⟩ => ⟨S32x256, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S_, .f32⟩
  | .hbm, ⟨27, _⟩ => ⟨S32x256x1, .f32⟩
  | .hbm, ⟨28, _⟩ => ⟨S32x256x1, .f32⟩
  | .hbm, ⟨29, _⟩ => ⟨S32x256x1, .f32⟩
  | .hbm, ⟨30, _⟩ => ⟨S32x256x1024, .f32⟩
  | .hbm, ⟨31, _⟩ => ⟨S32x256x1024, .f32⟩
  | .hbm, ⟨32, _⟩ => ⟨S1x1x1024, .f32⟩
  | .hbm, ⟨33, _⟩ => ⟨S32x256x1024, .f32⟩
  | .hbm, ⟨34, _⟩ => ⟨S32x256x1024, .f32⟩
  | .hbm, ⟨35, _⟩ => ⟨S_, .f32⟩
  | .hbm, ⟨36, _⟩ => ⟨S32x1x1024, .f32⟩
  | .hbm, ⟨37, _⟩ => ⟨S32x1x1024, .f32⟩
  | .hbm, ⟨38, _⟩ => ⟨S32x256x1024, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S32x256x9216, .f32⟩
  | .hbm, ⟨43, _⟩ => ⟨S2x6144, .f32⟩
  | .hbm, ⟨44, _⟩ => ⟨S2x1024, .f32⟩
  | .hbm, ⟨45, _⟩ => ⟨S1024x9216, .f32⟩
  | .hbm, ⟨46, _⟩ => ⟨S2x1x6144, .f32⟩
  | .hbm, ⟨47, _⟩ => ⟨S2x1x1024, .f32⟩
  | .hbm, ⟨48, _⟩ => ⟨S2x1x1024, .f32⟩
  | .hbm, ⟨49, _⟩ => ⟨S2x1x1024, .f32⟩
  | .hbm, ⟨50, _⟩ => ⟨S2x1x1024, .f32⟩
  | .hbm, ⟨51, _⟩ => ⟨S2x1x1024, .f32⟩
  | .hbm, ⟨52, _⟩ => ⟨S2x1x1024, .f32⟩
  | .hbm, ⟨53, _⟩ => ⟨S1x1024, .f32⟩
  | .hbm, ⟨54, _⟩ => ⟨S1024, .f32⟩
  | .hbm, ⟨55, _⟩ => ⟨S2x2048x1024, .f32⟩
  | .hbm, ⟨56, _⟩ => ⟨S_, .f32⟩
  | .hbm, ⟨57, _⟩ => ⟨S2x2048, .f32⟩
  | .hbm, ⟨58, _⟩ => ⟨S2x2048x1, .f32⟩
  | .hbm, ⟨59, _⟩ => ⟨S_, .f32⟩
  | .hbm, ⟨60, _⟩ => ⟨S2x2048x1, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S2x2048x1, .f32⟩
  | .hbm, ⟨66, _⟩ => ⟨S2x2048x1024, .f32⟩
  | .hbm, ⟨67, _⟩ => ⟨S2x2048x1024, .f32⟩
  | .hbm, ⟨68, _⟩ => ⟨S1x1x1024, .f32⟩
  | .hbm, ⟨69, _⟩ => ⟨S2x2048x1024, .f32⟩
  | .hbm, ⟨70, _⟩ => ⟨S2x2048x1024, .f32⟩
  | .hbm, ⟨71, _⟩ => ⟨S_, .f32⟩
  | .hbm, ⟨72, _⟩ => ⟨S2x1x1024, .f32⟩
  | .hbm, ⟨73, _⟩ => ⟨S2x1x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x9216, .f32⟩
  | .hbm, ⟨79, _⟩ => ⟨S8192x9216, .f32⟩
  | .hbm, ⟨80, _⟩ => ⟨S4096x9216, .f32⟩
  | .hbm, ⟨81, _⟩ => ⟨S12288x9216, .f32⟩
  | .hbm, ⟨82, _⟩ => ⟨S12288x2048, .f32⟩
  | .hbm, ⟨83, _⟩ => ⟨S12288x1024, .f32⟩
  | .hbm, ⟨84, _⟩ => ⟨S12288x6144, .f32⟩
  | .hbm, ⟨85, _⟩ => ⟨S12288x7168, .f32⟩
  | .hbm, ⟨86, _⟩ => ⟨S12288x7168, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]
-- ==== Kernel3.lean ====
abbrev S32x256x1024 : Shape := ⟨3, ![32, 256, 1024]⟩
abbrev S2x2048x1024 : Shape := ⟨3, ![2, 2048, 1024]⟩
abbrev S12288x1024 : Shape := ⟨2, ![12288, 1024]⟩
abbrev S12288x7168 : Shape := ⟨2, ![12288, 7168]⟩
abbrev S8x6144 : Shape := ⟨2, ![8, 6144]⟩
abbrev S1x2x1024 : Shape := ⟨3, ![1, 2, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S8192x1024 : Shape := ⟨2, ![8192, 1024]⟩
abbrev S4096x1024 : Shape := ⟨2, ![4096, 1024]⟩
abbrev S8x6x1024 : Shape := ⟨3, ![8, 6, 1024]⟩
abbrev S1x1x1024 : Shape := ⟨3, ![1, 1, 1024]⟩
abbrev S31x1024 : Shape := ⟨2, ![31, 1024]⟩
abbrev S1024 : Shape := ⟨1, ![1024]⟩
abbrev S1024x1024 : Shape := ⟨2, ![1024, 1024]⟩
abbrev S256x1024 : Shape := ⟨2, ![256, 1024]⟩
abbrev S16x1024 : Shape := ⟨2, ![16, 1024]⟩
abbrev S1x6x1024 : Shape := ⟨3, ![1, 6, 1024]⟩
abbrev S288x1024 : Shape := ⟨2, ![288, 1024]⟩
abbrev S31x128 : Shape := ⟨2, ![31, 128]⟩
abbrev S1x128 : Shape := ⟨2, ![1, 128]⟩
abbrev S64x128 : Shape := ⟨2, ![64, 128]⟩
abbrev S96x128 : Shape := ⟨2, ![96, 128]⟩
abbrev S256 : Shape := ⟨1, ![256]⟩
abbrev S256x1 : Shape := ⟨2, ![256, 1]⟩

abbrev nBuf : Space → Nat
  | .hbm => 33
  | .vmem => 38
  | .smem => 0
  | _ => 0

abbrev bufTy : (tb : Table) → Fin (tcTables nBuf tb) → BufTy
  | .hbm, ⟨0, _⟩ => ⟨S32x256x1024, .f32⟩
  | .hbm, ⟨1, _⟩ => ⟨S2x2048x1024, .f32⟩
  | .hbm, ⟨2, _⟩ => ⟨S12288x1024, .bf16⟩
  | .hbm, ⟨3, _⟩ => ⟨S12288x7168, .bf16⟩
  | .hbm, ⟨4, _⟩ => ⟨S8x6144, .f32⟩
  | .hbm, ⟨5, _⟩ => ⟨S1x2x1024, .f32⟩
  | .hbm, ⟨6, _⟩ => ⟨S1x31x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S8192x1024, .f32⟩
  | .hbm, ⟨14, _⟩ => ⟨S4096x1024, .f32⟩
  | .hbm, ⟨15, _⟩ => ⟨S8x6x1024, .f32⟩
  | .hbm, ⟨16, _⟩ => ⟨S1x1x1024, .f32⟩
  | .hbm, ⟨17, _⟩ => ⟨S1x1024, .f32⟩
  | .hbm, ⟨18, _⟩ => ⟨S31x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S12288x1024, .f32⟩
  | .hbm, ⟨32, _⟩ => ⟨S12288x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S1x6x1024, .f32⟩
  | .local _ .vmem, ⟨23, _⟩ => ⟨S1x6x1024, .f32⟩
  | .local _ .vmem, ⟨24, _⟩ => ⟨S1x1024, .f32⟩
  | .local _ .vmem, ⟨25, _⟩ => ⟨S31x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S288x1024, .f32⟩
  | .local _ .vmem, ⟨37, _⟩ => ⟨S256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c32_i32_0 : BitVec 32 := 32#32
  let v3 : BitVec 1 := Scalar.cmpi .slt arg0 c32_i32_0
  let v4249 : BitVec 32 := Scalar.extui v3
  let c0_i32_434 : BitVec 32 := 0#32
  let v4250 : BitVec 1 := Scalar.cmpi .ne v4249 c0_i32_434
  v4250

def k0_cond2 (i : grid0.Coords) : BitVec 1 :=
  let arg0 : BitVec 32 := BitVec.ofNat 32 (i 0).val
  let c32_i32_0 : BitVec 32 := 32#32
  let v3 : BitVec 1 := Scalar.cmpi .slt arg0 c32_i32_0
  let v_true : BitVec 1 := 1#1
  let v4251 : BitVec 1 := Scalar.xori v3 v_true
  let v4252 : BitVec 32 := Scalar.extui v4251
  let c0_i32_435 : BitVec 32 := 0#32
  let v4253 : BitVec 1 := Scalar.cmpi .ne v4252 c0_i32_435
  v4253

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c767_i32 : BitVec 32 := 767#32
  let v2 : BitVec 32 := Scalar.minsi v1 c767_i32
  let c3_i32 : BitVec 32 := 3#32
  let c0_i32 : BitVec 32 := 0#32
  ![v2.toNat, c3_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c767_i32 : BitVec 32 := 767#32
  let v2 : BitVec 32 := Scalar.minsi v1 c767_i32
  let c4_i32 : BitVec 32 := 4#32
  let c0_i32 : BitVec 32 := 0#32
  ![v2.toNat, c4_i32.toNat]

def cc0_transform_11 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S31x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S32x256x1024 : Shape := ⟨3, ![32, 256, 1024]⟩
abbrev S2x2048x1024 : Shape := ⟨3, ![2, 2048, 1024]⟩
abbrev S12288x1024 : Shape := ⟨2, ![12288, 1024]⟩
abbrev S12288x7168 : Shape := ⟨2, ![12288, 7168]⟩
abbrev S8x6144 : Shape := ⟨2, ![8, 6144]⟩
abbrev S1x2x1024 : Shape := ⟨3, ![1, 2, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S2x1024 : Shape := ⟨2, ![2, 1024]⟩
abbrev S31x1024 : Shape := ⟨2, ![31, 1024]⟩
abbrev S1024 : Shape := ⟨1, ![1024]⟩
abbrev S1024x1024 : Shape := ⟨2, ![1024, 1024]⟩
abbrev S12288x4096 : Shape := ⟨2, ![12288, 4096]⟩
abbrev S1x6144 : Shape := ⟨2, ![1, 6144]⟩
abbrev S6144 : Shape := ⟨1, ![6144]⟩
abbrev S32x6144 : Shape := ⟨2, ![32, 6144]⟩
abbrev S8192x4096 : Shape := ⟨2, ![8192, 4096]⟩
abbrev S32x256x4096 : Shape := ⟨3, ![32, 256, 4096]⟩
abbrev S8192x1024 : Shape := ⟨2, ![8192, 1024]⟩
abbrev S32x1x6144 : Shape := ⟨3, ![32, 1, 6144]⟩
abbrev S32x1x1024 : Shape := ⟨3, ![32, 1, 1024]⟩
abbrev S_ : Shape := ⟨0, ![]⟩
abbrev S32x286x1024 : Shape := ⟨3, ![32, 286, 1024]⟩
abbrev S1x1x1024 : Shape := ⟨3, ![1, 1, 1024]⟩
abbrev S32x256 : Shape := ⟨2, ![32, 256]⟩
abbrev S32x256x1 : Shape := ⟨3, ![32, 256, 1]⟩
abbrev S2x6144 : Shape := ⟨2, ![2, 6144]⟩
abbrev S4096x4096 : Shape := ⟨2, ![4096, 4096]⟩
abbrev S2x2048x4096 : Shape := ⟨3, ![2, 2048, 4096]⟩
abbrev S4096x1024 : Shape := ⟨2, ![4096, 1024]⟩
abbrev S2x1x6144 : Shape := ⟨3, ![2, 1, 6144]⟩
abbrev S2x1x1024 : Shape := ⟨3, ![2, 1, 1024]⟩
abbrev S2x2078x1024 : Shape := ⟨3, ![2, 2078, 1024]⟩
abbrev S2x2048 : Shape := ⟨2, ![2, 2048]⟩
abbrev S2x2048x1 : Shape := ⟨3, ![2, 2048, 1]⟩

abbrev nBuf : Space → Nat
  | .hbm => 702
  | .vmem => 0
  | .smem => 0
  | _ => 0

abbrev hbmTy0_0 (i : Nat) : BufTy := match i % 128 with
  | 0 => ⟨S32x256x1024, .f32⟩
  | 1 => ⟨S2x2048x1024, .f32⟩
  | 2 => ⟨S12288x1024, .bf16⟩
  | 3 => ⟨S12288x7168, .bf16⟩
  | 4 => ⟨S8x6144, .f32⟩
  | 5 => ⟨S1x2x1024, .f32⟩
  | 6 => ⟨S1x31x1024, .f32⟩
  | 7 => ⟨S1x1024, .f32⟩
  | 8 => ⟨S1x1024, .f32⟩
  | 9 => ⟨S1x1024, .f32⟩
  | 10 => ⟨S1x1024x1024, .f32⟩
  | 11 => ⟨S1x1024x1024, .f32⟩
  | 12 => ⟨S1x1024x1024, .f32⟩
  | 13 => ⟨S2x1024, .f32⟩
  | 14 => ⟨S31x1024, .f32⟩
  | 15 => ⟨S1024, .f32⟩
  | 16 => ⟨S1024, .f32⟩
  | 17 => ⟨S1024, .f32⟩
  | 18 => ⟨S1024x1024, .f32⟩
  | 19 => ⟨S1024x1024, .f32⟩
  | 20 => ⟨S1024x1024, .f32⟩
  | 21 => ⟨S12288x1024, .f32⟩
  | 22 => ⟨S12288x4096, .bf16⟩
  | 23 => ⟨S12288x4096, .f32⟩
  | 24 => ⟨S1x6144, .f32⟩
  | 25 => ⟨S6144, .f32⟩
  | 26 => ⟨S32x6144, .f32⟩
  | 27 => ⟨S8192x4096, .f32⟩
  | 28 => ⟨S32x256x4096, .f32⟩
  | 29 => ⟨S32x256x1024, .f32⟩
  | 30 => ⟨S32x256x1024, .f32⟩
  | 31 => ⟨S32x256x1024, .f32⟩
  | 32 => ⟨S32x256x1024, .f32⟩
  | 33 => ⟨S8192x1024, .f32⟩
  | 34 => ⟨S32x256x1024, .f32⟩
  | 35 => ⟨S32x1x6144, .f32⟩
  | 36 => ⟨S32x1x1024, .f32⟩
  | 37 => ⟨S32x1x1024, .f32⟩
  | 38 => ⟨S32x1x1024, .f32⟩
  | 39 => ⟨S32x1x1024, .f32⟩
  | 40 => ⟨S32x1x1024, .f32⟩
  | 41 => ⟨S32x1x1024, .f32⟩
  | 42 => ⟨S32x256x1024, .f32⟩
  | 43 => ⟨S32x256x1024, .f32⟩
  | 44 => ⟨S32x256x1024, .f32⟩
  | 45 => ⟨S_, .f32⟩
  | 46 => ⟨S32x256x1024, .f32⟩
  | 47 => ⟨S32x256x1024, .f32⟩
  | 48 => ⟨S_, .f32⟩
  | 49 => ⟨S32x256x1024, .f32⟩
  | 50 => ⟨S32x256x1024, .f32⟩
  | 51 => ⟨S32x256x1024, .f32⟩
  | 52 => ⟨S_, .i32⟩
  | 53 => ⟨S_, .f32⟩
  | 54 => ⟨S32x286x1024, .f32⟩
  | 55 => ⟨S32x256x1024, .f32⟩
  | 56 => ⟨S1x1024, .f32⟩
  | 57 => ⟨S1024, .f32⟩
  | 58 => ⟨S1x1x1024, .f32⟩
  | 59 => ⟨S32x256x1024, .f32⟩
  | 60 => ⟨S32x256x1024, .f32⟩
  | 61 => ⟨S32x256x1024, .f32⟩
  | 62 => ⟨S1x1024, .f32⟩
  | 63 => ⟨S1024, .f32⟩
  | 64 => ⟨S1x1x1024, .f32⟩
  | 65 => ⟨S32x256x1024, .f32⟩
  | 66 => ⟨S32x256x1024, .f32⟩
  | 67 => ⟨S32x256x1024, .f32⟩
  | 68 => ⟨S32x256x1024, .f32⟩
  | 69 => ⟨S1x1024, .f32⟩
  | 70 => ⟨S1024, .f32⟩
  | 71 => ⟨S1x1x1024, .f32⟩
  | 72 => ⟨S32x256x1024, .f32⟩
  | 73 => ⟨S32x256x1024, .f32⟩
  | 74 => ⟨S32x256x1024, .f32⟩
  | 75 => ⟨S32x256x1024, .f32⟩
  | 76 => ⟨S1x1024, .f32⟩
  | 77 => ⟨S1024, .f32⟩
  | 78 => ⟨S1x1x1024, .f32⟩
  | 79 => ⟨S32x256x1024, .f32⟩
  | 80 => ⟨S32x256x1024, .f32⟩
  | 81 => ⟨S32x256x1024, .f32⟩
  | 82 => ⟨S32x256x1024, .f32⟩
  | 83 => ⟨S1x1024, .f32⟩
  | 84 => ⟨S1024, .f32⟩
  | 85 => ⟨S1x1x1024, .f32⟩
  | 86 => ⟨S32x256x1024, .f32⟩
  | 87 => ⟨S32x256x1024, .f32⟩
  | 88 => ⟨S32x256x1024, .f32⟩
  | 89 => ⟨S32x256x1024, .f32⟩
  | 90 => ⟨S1x1024, .f32⟩
  | 91 => ⟨S1024, .f32⟩
  | 92 => ⟨S1x1x1024, .f32⟩
  | 93 => ⟨S32x256x1024, .f32⟩
  | 94 => ⟨S32x256x1024, .f32⟩
  | 95 => ⟨S32x256x1024, .f32⟩
  | 96 => ⟨S32x256x1024, .f32⟩
  | 97 => ⟨S1x1024, .f32⟩
  | 98 => ⟨S1024, .f32⟩
  | 99 => ⟨S1x1x1024, .f32⟩
  | 100 => ⟨S32x256x1024, .f32⟩
  | 101 => ⟨S32x256x1024, .f32⟩
  | 102 => ⟨S32x256x1024, .f32⟩
  | 103 => ⟨S32x256x1024, .f32⟩
  | 104 => ⟨S1x1024, .f32⟩
  | 105 => ⟨S1024, .f32⟩
  | 106 => ⟨S1x1x1024, .f32⟩
  | 107 => ⟨S32x256x1024, .f32⟩
  | 108 => ⟨S32x256x1024, .f32⟩
  | 109 => ⟨S32x256x1024, .f32⟩
  | 110 => ⟨S32x256x1024, .f32⟩
  | 111 => ⟨S1x1024, .f32⟩
  | 112 => ⟨S1024, .f32⟩
  | 113 => ⟨S1x1x1024, .f32⟩
  | 114 => ⟨S32x256x1024, .f32⟩
  | 115 => ⟨S32x256x1024, .f32⟩
  | 116 => ⟨S32x256x1024, .f32⟩
  | 117 => ⟨S32x256x1024, .f32⟩
  | 118 => ⟨S1x1024, .f32⟩
  | 119 => ⟨S1024, .f32⟩
  | 120 => ⟨S1x1x1024, .f32⟩
  | 121 => ⟨S32x256x1024, .f32⟩
  | 122 => ⟨S32x256x1024, .f32⟩
  | 123 => ⟨S32x256x1024, .f32⟩
  | 124 => ⟨S32x256x1024, .f32⟩
  | 125 => ⟨S1x1024, .f32⟩
  | 126 => ⟨S1024, .f32⟩
  | 127 => ⟨S1x1x1024, .f32⟩
  | _ => ⟨S32x256x1024, .f32⟩

abbrev hbmTy0_1 (i : Nat) : BufTy := match i % 128 with
  | 0 => ⟨S32x256x1024, .f32⟩
  | 1 => ⟨S32x256x1024, .f32⟩
  | 2 => ⟨S32x256x1024, .f32⟩
  | 3 => ⟨S32x256x1024, .f32⟩
  | 4 => ⟨S1x1024, .f32⟩
  | 5 => ⟨S1024, .f32⟩
  | 6 => ⟨S1x1x1024, .f32⟩
  | 7 => ⟨S32x256x1024, .f32⟩
  | 8 => ⟨S32x256x1024, .f32⟩
  | 9 => ⟨S32x256x1024, .f32⟩
  | 10 => ⟨S32x256x1024, .f32⟩
  | 11 => ⟨S1x1024, .f32⟩
  | 12 => ⟨S1024, .f32⟩
  | 13 => ⟨S1x1x1024, .f32⟩
  | 14 => ⟨S32x256x1024, .f32⟩
  | 15 => ⟨S32x256x1024, .f32⟩
  | 16 => ⟨S32x256x1024, .f32⟩
  | 17 => ⟨S32x256x1024, .f32⟩
  | 18 => ⟨S1x1024, .f32⟩
  | 19 => ⟨S1024, .f32⟩
  | 20 => ⟨S1x1x1024, .f32⟩
  | 21 => ⟨S32x256x1024, .f32⟩
  | 22 => ⟨S32x256x1024, .f32⟩
  | 23 => ⟨S32x256x1024, .f32⟩
  | 24 => ⟨S32x256x1024, .f32⟩
  | 25 => ⟨S1x1024, .f32⟩
  | 26 => ⟨S1024, .f32⟩
  | 27 => ⟨S1x1x1024, .f32⟩
  | 28 => ⟨S32x256x1024, .f32⟩
  | 29 => ⟨S32x256x1024, .f32⟩
  | 30 => ⟨S32x256x1024, .f32⟩
  | 31 => ⟨S32x256x1024, .f32⟩
  | 32 => ⟨S1x1024, .f32⟩
  | 33 => ⟨S1024, .f32⟩
  | 34 => ⟨S1x1x1024, .f32⟩
  | 35 => ⟨S32x256x1024, .f32⟩
  | 36 => ⟨S32x256x1024, .f32⟩
  | 37 => ⟨S32x256x1024, .f32⟩
  | 38 => ⟨S32x256x1024, .f32⟩
  | 39 => ⟨S1x1024, .f32⟩
  | 40 => ⟨S1024, .f32⟩
  | 41 => ⟨S1x1x1024, .f32⟩
  | 42 => ⟨S32x256x1024, .f32⟩
  | 43 => ⟨S32x256x1024, .f32⟩
  | 44 => ⟨S32x256x1024, .f32⟩
  | 45 => ⟨S32x256x1024, .f32⟩
  | 46 => ⟨S1x1024, .f32⟩
  | 47 => ⟨S1024, .f32⟩
  | 48 => ⟨S1x1x1024, .f32⟩
  | 49 => ⟨S32x256x1024, .f32⟩
  | 50 => ⟨S32x256x1024, .f32⟩
  | 51 => ⟨S32x256x1024, .f32⟩
  | 52 => ⟨S32x256x1024, .f32⟩
  | 53 => ⟨S1x1024, .f32⟩
  | 54 => ⟨S1024, .f32⟩
  | 55 => ⟨S1x1x1024, .f32⟩
  | 56 => ⟨S32x256x1024, .f32⟩
  | 57 => ⟨S32x256x1024, .f32⟩
  | 58 => ⟨S32x256x1024, .f32⟩
  | 59 => ⟨S32x256x1024, .f32⟩
  | 60 => ⟨S1x1024, .f32⟩
  | 61 => ⟨S1024, .f32⟩
  | 62 => ⟨S1x1x1024, .f32⟩
  | 63 => ⟨S32x256x1024, .f32⟩
  | 64 => ⟨S32x256x1024, .f32⟩
  | 65 => ⟨S32x256x1024, .f32⟩
  | 66 => ⟨S32x256x1024, .f32⟩
  | 67 => ⟨S1x1024, .f32⟩
  | 68 => ⟨S1024, .f32⟩
  | 69 => ⟨S1x1x1024, .f32⟩
  | 70 => ⟨S32x256x1024, .f32⟩
  | 71 => ⟨S32x256x1024, .f32⟩
  | 72 => ⟨S32x256x1024, .f32⟩
  | 73 => ⟨S32x256x1024, .f32⟩
  | 74 => ⟨S1x1024, .f32⟩
  | 75 => ⟨S1024, .f32⟩
  | 76 => ⟨S1x1x1024, .f32⟩
  | 77 => ⟨S32x256x1024, .f32⟩
  | 78 => ⟨S32x256x1024, .f32⟩
  | 79 => ⟨S32x256x1024, .f32⟩
  | 80 => ⟨S32x256x1024, .f32⟩
  | 81 => ⟨S1x1024, .f32⟩
  | 82 => ⟨S1024, .f32⟩
  | 83 => ⟨S1x1x1024, .f32⟩
  | 84 => ⟨S32x256x1024, .f32⟩
  | 85 => ⟨S32x256x1024, .f32⟩
  | 86 => ⟨S32x256x1024, .f32⟩
  | 87 => ⟨S32x256x1024, .f32⟩
  | 88 => ⟨S1x1024, .f32⟩
  | 89 => ⟨S1024, .f32⟩
  | 90 => ⟨S1x1x1024, .f32⟩
  | 91 => ⟨S32x256x1024, .f32⟩
  | 92 => ⟨S32x256x1024, .f32⟩
  | 93 => ⟨S32x256x1024, .f32⟩
  | 94 => ⟨S32x256x1024, .f32⟩
  | 95 => ⟨S1x1024, .f32⟩
  | 96 => ⟨S1024, .f32⟩
  | 97 => ⟨S1x1x1024, .f32⟩
  | 98 => ⟨S32x256x1024, .f32⟩
  | 99 => ⟨S32x256x1024, .f32⟩
  | 100 => ⟨S32x256x1024, .f32⟩
  | 101 => ⟨S32x256x1024, .f32⟩
  | 102 => ⟨S1x1024, .f32⟩
  | 103 => ⟨S1024, .f32⟩
  | 104 => ⟨S1x1x1024, .f32⟩
  | 105 => ⟨S32x256x1024, .f32⟩
  | 106 => ⟨S32x256x1024, .f32⟩
  | 107 => ⟨S32x256x1024, .f32⟩
  | 108 => ⟨S32x256x1024, .f32⟩
  | 109 => ⟨S1x1024, .f32⟩
  | 110 => ⟨S1024, .f32⟩
  | 111 => ⟨S1x1x1024, .f32⟩
  | 112 => ⟨S32x256x1024, .f32⟩
  | 113 => ⟨S32x256x1024, .f32⟩
  | 114 => ⟨S32x256x1024, .f32⟩
  | 115 => ⟨S32x256x1024, .f32⟩
  | 116 => ⟨S1x1024, .f32⟩
  | 117 => ⟨S1024, .f32⟩
  | 118 => ⟨S1x1x1024, .f32⟩
  | 119 => ⟨S32x256x1024, .f32⟩
  | 120 => ⟨S32x256x1024, .f32⟩
  | 121 => ⟨S32x256x1024, .f32⟩
  | 122 => ⟨S32x256x1024, .f32⟩
  | 123 => ⟨S1x1024, .f32⟩
  | 124 => ⟨S1024, .f32⟩
  | 125 => ⟨S1x1x1024, .f32⟩
  | 126 => ⟨S32x256x1024, .f32⟩
  | 127 => ⟨S32x256x1024, .f32⟩
  | _ => ⟨S32x256x1024, .f32⟩

abbrev hbmTy0_2 (i : Nat) : BufTy := match i % 128 with
  | 0 => ⟨S32x256x1024, .f32⟩
  | 1 => ⟨S32x256x1024, .f32⟩
  | 2 => ⟨S1x1024, .f32⟩
  | 3 => ⟨S1024, .f32⟩
  | 4 => ⟨S1x1x1024, .f32⟩
  | 5 => ⟨S32x256x1024, .f32⟩
  | 6 => ⟨S32x256x1024, .f32⟩
  | 7 => ⟨S32x256x1024, .f32⟩
  | 8 => ⟨S32x256x1024, .f32⟩
  | 9 => ⟨S1x1024, .f32⟩
  | 10 => ⟨S1024, .f32⟩
  | 11 => ⟨S1x1x1024, .f32⟩
  | 12 => ⟨S32x256x1024, .f32⟩
  | 13 => ⟨S32x256x1024, .f32⟩
  | 14 => ⟨S32x256x1024, .f32⟩
  | 15 => ⟨S1x1x1024, .f32⟩
  | 16 => ⟨S32x256x1024, .f32⟩
  | 17 => ⟨S32x256x1024, .f32⟩
  | 18 => ⟨S_, .f32⟩
  | 19 => ⟨S32x256, .f32⟩
  | 20 => ⟨S32x256x1, .f32⟩
  | 21 => ⟨S_, .f32⟩
  | 22 => ⟨S32x256x1, .f32⟩
  | 23 => ⟨S32x256x1, .f32⟩
  | 24 => ⟨S32x256x1024, .f32⟩
  | 25 => ⟨S32x256x1024, .f32⟩
  | 26 => ⟨S32x256x1024, .f32⟩
  | 27 => ⟨S_, .f32⟩
  | 28 => ⟨S32x256, .f32⟩
  | 29 => ⟨S32x256x1, .f32⟩
  | 30 => ⟨S_, .f32⟩
  | 31 => ⟨S32x256x1, .f32⟩
  | 32 => ⟨S32x256x1, .f32⟩
  | 33 => ⟨S32x256x1024, .f32⟩
  | 34 => ⟨S32x256x1024, .f32⟩
  | 35 => ⟨S_, .f32⟩
  | 36 => ⟨S32x256x1, .f32⟩
  | 37 => ⟨S32x256x1, .f32⟩
  | 38 => ⟨S32x256x1, .f32⟩
  | 39 => ⟨S32x256x1024, .f32⟩
  | 40 => ⟨S32x256x1024, .f32⟩
  | 41 => ⟨S1x1x1024, .f32⟩
  | 42 => ⟨S32x256x1024, .f32⟩
  | 43 => ⟨S32x256x1024, .f32⟩
  | 44 => ⟨S1x1x1024, .f32⟩
  | 45 => ⟨S32x256x1024, .f32⟩
  | 46 => ⟨S32x256x1024, .f32⟩
  | 47 => ⟨S32x256x1024, .f32⟩
  | 48 => ⟨S32x256x1024, .f32⟩
  | 49 => ⟨S_, .f32⟩
  | 50 => ⟨S32x256x1024, .f32⟩
  | 51 => ⟨S32x256x1024, .f32⟩
  | 52 => ⟨S_, .f32⟩
  | 53 => ⟨S32x256x1024, .f32⟩
  | 54 => ⟨S32x256x1024, .f32⟩
  | 55 => ⟨S32x256x1024, .f32⟩
  | 56 => ⟨S32x256x1024, .f32⟩
  | 57 => ⟨S32x256x1024, .f32⟩
  | 58 => ⟨S32x256x1024, .f32⟩
  | 59 => ⟨S_, .f32⟩
  | 60 => ⟨S32x256x1024, .f32⟩
  | 61 => ⟨S32x256x1024, .f32⟩
  | 62 => ⟨S_, .f32⟩
  | 63 => ⟨S32x256x1024, .f32⟩
  | 64 => ⟨S32x256x1024, .f32⟩
  | 65 => ⟨S32x256x1024, .f32⟩
  | 66 => ⟨S32x256x1024, .f32⟩
  | 67 => ⟨S32x256x1024, .f32⟩
  | 68 => ⟨S_, .f32⟩
  | 69 => ⟨S32x256x1024, .f32⟩
  | 70 => ⟨S32x256x1024, .f32⟩
  | 71 => ⟨S_, .f32⟩
  | 72 => ⟨S32x256x1024, .f32⟩
  | 73 => ⟨S32x256x1024, .f32⟩
  | 74 => ⟨S32x256x1024, .f32⟩
  | 75 => ⟨S32x256x1024, .f32⟩
  | 76 => ⟨S32x256x1024, .f32⟩
  | 77 => ⟨S32x256x1024, .f32⟩
  | 78 => ⟨S32x256x1024, .f32⟩
  | 79 => ⟨S32x256x1024, .f32⟩
  | 80 => ⟨S1x1024, .f32⟩
  | 81 => ⟨S1024, .f32⟩
  | 82 => ⟨S32x256x1024, .f32⟩
  | 83 => ⟨S_, .f32⟩
  | 84 => ⟨S32x256, .f32⟩
  | 85 => ⟨S32x256x1, .f32⟩
  | 86 => ⟨S_, .f32⟩
  | 87 => ⟨S32x256x1, .f32⟩
  | 88 => ⟨S32x256x1, .f32⟩
  | 89 => ⟨S_, .f32⟩
  | 90 => ⟨S32x256x1, .f32⟩
  | 91 => ⟨S32x256x1, .f32⟩
  | 92 => ⟨S32x256x1, .f32⟩
  | 93 => ⟨S32x256x1024, .f32⟩
  | 94 => ⟨S32x256x1024, .f32⟩
  | 95 => ⟨S1x1x1024, .f32⟩
  | 96 => ⟨S32x256x1024, .f32⟩
  | 97 => ⟨S32x256x1024, .f32⟩
  | 98 => ⟨S_, .f32⟩
  | 99 => ⟨S32x1x1024, .f32⟩
  | 100 => ⟨S32x1x1024, .f32⟩
  | 101 => ⟨S32x256x1024, .f32⟩
  | 102 => ⟨S32x256x1024, .f32⟩
  | 103 => ⟨S32x256x1024, .f32⟩
  | 104 => ⟨S32x256x1024, .f32⟩
  | 105 => ⟨S2x6144, .f32⟩
  | 106 => ⟨S4096x4096, .f32⟩
  | 107 => ⟨S2x2048x4096, .f32⟩
  | 108 => ⟨S2x2048x1024, .f32⟩
  | 109 => ⟨S2x2048x1024, .f32⟩
  | 110 => ⟨S2x2048x1024, .f32⟩
  | 111 => ⟨S2x2048x1024, .f32⟩
  | 112 => ⟨S4096x1024, .f32⟩
  | 113 => ⟨S2x2048x1024, .f32⟩
  | 114 => ⟨S2x1x6144, .f32⟩
  | 115 => ⟨S2x1x1024, .f32⟩
  | 116 => ⟨S2x1x1024, .f32⟩
  | 117 => ⟨S2x1x1024, .f32⟩
  | 118 => ⟨S2x1x1024, .f32⟩
  | 119 => ⟨S2x1x1024, .f32⟩
  | 120 => ⟨S2x1x1024, .f32⟩
  | 121 => ⟨S2x2048x1024, .f32⟩
  | 122 => ⟨S2x2048x1024, .f32⟩
  | 123 => ⟨S2x2048x1024, .f32⟩
  | 124 => ⟨S_, .f32⟩
  | 125 => ⟨S2x2048x1024, .f32⟩
  | 126 => ⟨S2x2048x1024, .f32⟩
  | 127 => ⟨S_, .f32⟩
  | _ => ⟨S32x256x1024, .f32⟩

abbrev hbmTy0_3 (i : Nat) : BufTy := match i % 128 with
  | 0 => ⟨S2x2048x1024, .f32⟩
  | 1 => ⟨S2x2048x1024, .f32⟩
  | 2 => ⟨S2x2048x1024, .f32⟩
  | 3 => ⟨S_, .i32⟩
  | 4 => ⟨S_, .f32⟩
  | 5 => ⟨S2x2078x1024, .f32⟩
  | 6 => ⟨S2x2048x1024, .f32⟩
  | 7 => ⟨S1x1024, .f32⟩
  | 8 => ⟨S1024, .f32⟩
  | 9 => ⟨S1x1x1024, .f32⟩
  | 10 => ⟨S2x2048x1024, .f32⟩
  | 11 => ⟨S2x2048x1024, .f32⟩
  | 12 => ⟨S2x2048x1024, .f32⟩
  | 13 => ⟨S1x1024, .f32⟩
  | 14 => ⟨S1024, .f32⟩
  | 15 => ⟨S1x1x1024, .f32⟩
  | 16 => ⟨S2x2048x1024, .f32⟩
  | 17 => ⟨S2x2048x1024, .f32⟩
  | 18 => ⟨S2x2048x1024, .f32⟩
  | 19 => ⟨S2x2048x1024, .f32⟩
  | 20 => ⟨S1x1024, .f32⟩
  | 21 => ⟨S1024, .f32⟩
  | 22 => ⟨S1x1x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S1x1024, .f32⟩
  | 28 => ⟨S1024, .f32⟩
  | 29 => ⟨S1x1x1024, .f32⟩
  | 30 => ⟨S2x2048x1024, .f32⟩
  | 31 => ⟨S2x2048x1024, .f32⟩
  | 32 => ⟨S2x2048x1024, .f32⟩
  | 33 => ⟨S2x2048x1024, .f32⟩
  | 34 => ⟨S1x1024, .f32⟩
  | 35 => ⟨S1024, .f32⟩
  | 36 => ⟨S1x1x1024, .f32⟩
  | 37 => ⟨S2x2048x1024, .f32⟩
  | 38 => ⟨S2x2048x1024, .f32⟩
  | 39 => ⟨S2x2048x1024, .f32⟩
  | 40 => ⟨S2x2048x1024, .f32⟩
  | 41 => ⟨S1x1024, .f32⟩
  | 42 => ⟨S1024, .f32⟩
  | 43 => ⟨S1x1x1024, .f32⟩
  | 44 => ⟨S2x2048x1024, .f32⟩
  | 45 => ⟨S2x2048x1024, .f32⟩
  | 46 => ⟨S2x2048x1024, .f32⟩
  | 47 => ⟨S2x2048x1024, .f32⟩
  | 48 => ⟨S1x1024, .f32⟩
  | 49 => ⟨S1024, .f32⟩
  | 50 => ⟨S1x1x1024, .f32⟩
  | 51 => ⟨S2x2048x1024, .f32⟩
  | 52 => ⟨S2x2048x1024, .f32⟩
  | 53 => ⟨S2x2048x1024, .f32⟩
  | 54 => ⟨S2x2048x1024, .f32⟩
  | 55 => ⟨S1x1024, .f32⟩
  | 56 => ⟨S1024, .f32⟩
  | 57 => ⟨S1x1x1024, .f32⟩
  | 58 => ⟨S2x2048x1024, .f32⟩
  | 59 => ⟨S2x2048x1024, .f32⟩
  | 60 => ⟨S2x2048x1024, .f32⟩
  | 61 => ⟨S2x2048x1024, .f32⟩
  | 62 => ⟨S1x1024, .f32⟩
  | 63 => ⟨S1024, .f32⟩
  | 64 => ⟨S1x1x1024, .f32⟩
  | 65 => ⟨S2x2048x1024, .f32⟩
  | 66 => ⟨S2x2048x1024, .f32⟩
  | 67 => ⟨S2x2048x1024, .f32⟩
  | 68 => ⟨S2x2048x1024, .f32⟩
  | 69 => ⟨S1x1024, .f32⟩
  | 70 => ⟨S1024, .f32⟩
  | 71 => ⟨S1x1x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S1x1024, .f32⟩
  | 77 => ⟨S1024, .f32⟩
  | 78 => ⟨S1x1x1024, .f32⟩
  | 79 => ⟨S2x2048x1024, .f32⟩
  | 80 => ⟨S2x2048x1024, .f32⟩
  | 81 => ⟨S2x2048x1024, .f32⟩
  | 82 => ⟨S2x2048x1024, .f32⟩
  | 83 => ⟨S1x1024, .f32⟩
  | 84 => ⟨S1024, .f32⟩
  | 85 => ⟨S1x1x1024, .f32⟩
  | 86 => ⟨S2x2048x1024, .f32⟩
  | 87 => ⟨S2x2048x1024, .f32⟩
  | 88 => ⟨S2x2048x1024, .f32⟩
  | 89 => ⟨S2x2048x1024, .f32⟩
  | 90 => ⟨S1x1024, .f32⟩
  | 91 => ⟨S1024, .f32⟩
  | 92 => ⟨S1x1x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S1x1024, .f32⟩
  | 98 => ⟨S1024, .f32⟩
  | 99 => ⟨S1x1x1024, .f32⟩
  | 100 => ⟨S2x2048x1024, .f32⟩
  | 101 => ⟨S2x2048x1024, .f32⟩
  | 102 => ⟨S2x2048x1024, .f32⟩
  | 103 => ⟨S2x2048x1024, .f32⟩
  | 104 => ⟨S1x1024, .f32⟩
  | 105 => ⟨S1024, .f32⟩
  | 106 => ⟨S1x1x1024, .f32⟩
  | 107 => ⟨S2x2048x1024, .f32⟩
  | 108 => ⟨S2x2048x1024, .f32⟩
  | 109 => ⟨S2x2048x1024, .f32⟩
  | 110 => ⟨S2x2048x1024, .f32⟩
  | 111 => ⟨S1x1024, .f32⟩
  | 112 => ⟨S1024, .f32⟩
  | 113 => ⟨S1x1x1024, .f32⟩
  | 114 => ⟨S2x2048x1024, .f32⟩
  | 115 => ⟨S2x2048x1024, .f32⟩
  | 116 => ⟨S2x2048x1024, .f32⟩
  | 117 => ⟨S2x2048x1024, .f32⟩
  | 118 => ⟨S1x1024, .f32⟩
  | 119 => ⟨S1024, .f32⟩
  | 120 => ⟨S1x1x1024, .f32⟩
  | 121 => ⟨S2x2048x1024, .f32⟩
  | 122 => ⟨S2x2048x1024, .f32⟩
  | 123 => ⟨S2x2048x1024, .f32⟩
  | 124 => ⟨S2x2048x1024, .f32⟩
  | 125 => ⟨S1x1024, .f32⟩
  | 126 => ⟨S1024, .f32⟩
  | 127 => ⟨S1x1x1024, .f32⟩
  | _ => ⟨S32x256x1024, .f32⟩

abbrev hbmTy0_4 (i : Nat) : BufTy := match i % 128 with
  | 0 => ⟨S2x2048x1024, .f32⟩
  | 1 => ⟨S2x2048x1024, .f32⟩
  | 2 => ⟨S2x2048x1024, .f32⟩
  | 3 => ⟨S2x2048x1024, .f32⟩
  | 4 => ⟨S1x1024, .f32⟩
  | 5 => ⟨S1024, .f32⟩
  | 6 => ⟨S1x1x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S1x1024, .f32⟩
  | 12 => ⟨S1024, .f32⟩
  | 13 => ⟨S1x1x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S1x1024, .f32⟩
  | 19 => ⟨S1024, .f32⟩
  | 20 => ⟨S1x1x1024, .f32⟩
  | 21 => ⟨S2x2048x1024, .f32⟩
  | 22 => ⟨S2x2048x1024, .f32⟩
  | 23 => ⟨S2x2048x1024, .f32⟩
  | 24 => ⟨S2x2048x1024, .f32⟩
  | 25 => ⟨S1x1024, .f32⟩
  | 26 => ⟨S1024, .f32⟩
  | 27 => ⟨S1x1x1024, .f32⟩
  | 28 => ⟨S2x2048x1024, .f32⟩
  | 29 => ⟨S2x2048x1024, .f32⟩
  | 30 => ⟨S2x2048x1024, .f32⟩
  | 31 => ⟨S2x2048x1024, .f32⟩
  | 32 => ⟨S1x1024, .f32⟩
  | 33 => ⟨S1024, .f32⟩
  | 34 => ⟨S1x1x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S1x1024, .f32⟩
  | 40 => ⟨S1024, .f32⟩
  | 41 => ⟨S1x1x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S1x1024, .f32⟩
  | 47 => ⟨S1024, .f32⟩
  | 48 => ⟨S1x1x1024, .f32⟩
  | 49 => ⟨S2x2048x1024, .f32⟩
  | 50 => ⟨S2x2048x1024, .f32⟩
  | 51 => ⟨S2x2048x1024, .f32⟩
  | 52 => ⟨S2x2048x1024, .f32⟩
  | 53 => ⟨S1x1024, .f32⟩
  | 54 => ⟨S1024, .f32⟩
  | 55 => ⟨S1x1x1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S1x1024, .f32⟩
  | 61 => ⟨S1024, .f32⟩
  | 62 => ⟨S1x1x1024, .f32⟩
  | 63 => ⟨S2x2048x1024, .f32⟩
  | 64 => ⟨S2x2048x1024, .f32⟩
  | 65 => ⟨S2x2048x1024, .f32⟩
  | 66 => ⟨S2x2048x1024, .f32⟩
  | 67 => ⟨S1x1024, .f32⟩
  | 68 => ⟨S1024, .f32⟩
  | 69 => ⟨S1x1x1024, .f32⟩
  | 70 => ⟨S2x2048x1024, .f32⟩
  | 71 => ⟨S2x2048x1024, .f32⟩
  | 72 => ⟨S2x2048x1024, .f32⟩
  | 73 => ⟨S2x2048x1024, .f32⟩
  | 74 => ⟨S1x1024, .f32⟩
  | 75 => ⟨S1024, .f32⟩
  | 76 => ⟨S1x1x1024, .f32⟩
  | 77 => ⟨S2x2048x1024, .f32⟩
  | 78 => ⟨S2x2048x1024, .f32⟩
  | 79 => ⟨S2x2048x1024, .f32⟩
  | 80 => ⟨S2x2048x1024, .f32⟩
  | 81 => ⟨S1x1024, .f32⟩
  | 82 => ⟨S1024, .f32⟩
  | 83 => ⟨S1x1x1024, .f32⟩
  | 84 => ⟨S2x2048x1024, .f32⟩
  | 85 => ⟨S2x2048x1024, .f32⟩
  | 86 => ⟨S2x2048x1024, .f32⟩
  | 87 => ⟨S2x2048x1024, .f32⟩
  | 88 => ⟨S1x1024, .f32⟩
  | 89 => ⟨S1024, .f32⟩
  | 90 => ⟨S1x1x1024, .f32⟩
  | 91 => ⟨S2x2048x1024, .f32⟩
  | 92 => ⟨S2x2048x1024, .f32⟩
  | 93 => ⟨S2x2048x1024, .f32⟩
  | 94 => ⟨S1x1x1024, .f32⟩
  | 95 => ⟨S2x2048x1024, .f32⟩
  | 96 => ⟨S2x2048x1024, .f32⟩
  | 97 => ⟨S_, .f32⟩
  | 98 => ⟨S2x2048, .f32⟩
  | 99 => ⟨S2x2048x1, .f32⟩
  | 100 => ⟨S_, .f32⟩
  | 101 => ⟨S2x2048x1, .f32⟩
  | 102 => ⟨S2x2048x1, .f32⟩
  | 103 => ⟨S2x2048x1024, .f32⟩
  | 104 => ⟨S2x2048x1024, .f32⟩
  | 105 => ⟨S2x2048x1024, .f32⟩
  | 106 => ⟨S_, .f32⟩
  | 107 => ⟨S2x2048, .f32⟩
  | 108 => ⟨S2x2048x1, .f32⟩
  | 109 => ⟨S_, .f32⟩
  | 110 => ⟨S2x2048x1, .f32⟩
  | 111 => ⟨S2x2048x1, .f32⟩
  | 112 => ⟨S2x2048x1024, .f32⟩
  | 113 => ⟨S2x2048x1024, .f32⟩
  | 114 => ⟨S_, .f32⟩
  | 115 => ⟨S2x2048x1, .f32⟩
  | 116 => ⟨S2x2048x1, .f32⟩
  | 117 => ⟨S2x2048x1, .f32⟩
  | 118 => ⟨S2x2048x1024, .f32⟩
  | 119 => ⟨S2x2048x1024, .f32⟩
  | 120 => ⟨S1x1x1024, .f32⟩
  | 121 => ⟨S2x2048x1024, .f32⟩
  | 122 => ⟨S2x2048x1024, .f32⟩
  | 123 => ⟨S1x1x1024, .f32⟩
  | 124 => ⟨S2x2048x1024, .f32⟩
  | 125 => ⟨S2x2048x1024, .f32⟩
  | 126 => ⟨S2x2048x1024, .f32⟩
  | 127 => ⟨S2x2048x1024, .f32⟩
  | _ => ⟨S32x256x1024, .f32⟩

abbrev hbmTy0_5 (i : Nat) : BufTy := match i % 128 with
  | 0 => ⟨S_, .f32⟩
  | 1 => ⟨S2x2048x1024, .f32⟩
  | 2 => ⟨S2x2048x1024, .f32⟩
  | 3 => ⟨S_, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S_, .f32⟩
  | 11 => ⟨S2x2048x1024, .f32⟩
  | 12 => ⟨S2x2048x1024, .f32⟩
  | 13 => ⟨S_, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S_, .f32⟩
  | 20 => ⟨S2x2048x1024, .f32⟩
  | 21 => ⟨S2x2048x1024, .f32⟩
  | 22 => ⟨S_, .f32⟩
  | 23 => ⟨S2x2048x1024, .f32⟩
  | 24 => ⟨S2x2048x1024, .f32⟩
  | 25 => ⟨S2x2048x1024, .f32⟩
  | 26 => ⟨S2x2048x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S1x1024, .f32⟩
  | 32 => ⟨S1024, .f32⟩
  | 33 => ⟨S2x2048x1024, .f32⟩
  | 34 => ⟨S_, .f32⟩
  | 35 => ⟨S2x2048, .f32⟩
  | 36 => ⟨S2x2048x1, .f32⟩
  | 37 => ⟨S_, .f32⟩
  | 38 => ⟨S2x2048x1, .f32⟩
  | 39 => ⟨S2x2048x1, .f32⟩
  | 40 => ⟨S_, .f32⟩
  | 41 => ⟨S2x2048x1, .f32⟩
  | 42 => ⟨S2x2048x1, .f32⟩
  | 43 => ⟨S2x2048x1, .f32⟩
  | 44 => ⟨S2x2048x1024, .f32⟩
  | 45 => ⟨S2x2048x1024, .f32⟩
  | 46 => ⟨S1x1x1024, .f32⟩
  | 47 => ⟨S2x2048x1024, .f32⟩
  | 48 => ⟨S2x2048x1024, .f32⟩
  | 49 => ⟨S_, .f32⟩
  | 50 => ⟨S2x1x1024, .f32⟩
  | 51 => ⟨S2x1x1024, .f32⟩
  | 52 => ⟨S2x2048x1024, .f32⟩
  | 53 => ⟨S2x2048x1024, .f32⟩
  | 54 => ⟨S2x2048x1024, .f32⟩
  | 55 => ⟨S2x2048x1024, .f32⟩
  | 56 => ⟨S8192x1024, .f32⟩
  | 57 => ⟨S4096x1024, .f32⟩
  | 58 => ⟨S12288x1024, .f32⟩
  | 59 => ⟨S8192x1024, .f32⟩
  | 60 => ⟨S4096x1024, .f32⟩
  | 61 => ⟨S12288x1024, .f32⟩
  | _ => ⟨S32x256x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call0_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_cst_1 : Ref sig .tc := ⟨.hbm, 274, rfl⟩
abbrev main_v257 : Ref sig .tc := ⟨.hbm, 275, rfl⟩
abbrev main_v258 : Ref sig .tc := ⟨.hbm, 276, rfl⟩
abbrev main_cst_2 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_cst_3 : Ref sig .tc := ⟨.hbm, 283, rfl⟩
abbrev main_v264 : Ref sig .tc := ⟨.hbm, 284, rfl⟩
abbrev main_v265 : Ref sig .tc := ⟨.hbm, 285, rfl⟩
abbrev main_cst_4 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_cst_5 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_call1_v0 : Ref sig .tc := ⟨.hbm, 303, rfl⟩
abbrev main_call1_v1 : Ref sig .tc := ⟨.hbm, 304, rfl⟩
abbrev main_call1_cst : Ref sig .tc := ⟨.hbm, 305, rfl⟩
abbrev main_call1_v2 : Ref sig .tc := ⟨.hbm, 306, rfl⟩
abbrev main_call1_v3 : Ref sig .tc := ⟨.hbm, 307, rfl⟩
abbrev main_call1_cst_0 : Ref sig .tc := ⟨.hbm, 308, rfl⟩
abbrev main_call1_v4 : Ref sig .tc := ⟨.hbm, 309, rfl⟩
abbrev main_call1_v5 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_cst_6 : Ref sig .tc := ⟨.hbm, 315, rfl⟩
abbrev main_v285 : Ref sig .tc := ⟨.hbm, 316, rfl⟩
abbrev main_v286 : Ref sig .tc := ⟨.hbm, 317, rfl⟩
abbrev main_cst_7 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_cst_8 : Ref sig .tc := ⟨.hbm, 324, rfl⟩
abbrev main_v292 : Ref sig .tc := ⟨.hbm, 325, rfl⟩
abbrev main_v293 : Ref sig .tc := ⟨.hbm, 326, rfl⟩
abbrev main_cst_9 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_cst_10 : Ref sig .tc := ⟨.hbm, 339, rfl⟩
abbrev main_v305 : Ref sig .tc := ⟨.hbm, 340, rfl⟩
abbrev main_v306 : Ref sig .tc := ⟨.hbm, 341, rfl⟩
abbrev main_cst_11 : Ref sig .tc := ⟨.hbm, 342, rfl⟩
abbrev main_v307 : Ref sig .tc := ⟨.hbm, 343, rfl⟩
abbrev main_v308 : Ref sig .tc := ⟨.hbm, 344, rfl⟩
abbrev main_cst_12 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_v315 : Ref sig .tc := ⟨.hbm, 352, rfl⟩
abbrev main_v316 : Ref sig .tc := ⟨.hbm, 353, rfl⟩
abbrev main_cst_13 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_cst_14 : Ref sig .tc := ⟨.hbm, 380, rfl⟩
abbrev main_v342 : Ref sig .tc := ⟨.hbm, 381, rfl⟩
abbrev main_v343 : Ref sig .tc := ⟨.hbm, 382, rfl⟩
abbrev main_cst_15 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_c_16 : Ref sig .tc := ⟨.hbm, 387, rfl⟩
abbrev main_call2_v0 : Ref sig .tc := ⟨.hbm, 388, rfl⟩
abbrev main_v347 : Ref sig .tc := ⟨.hbm, 389, rfl⟩
abbrev main_v348 : Ref sig .tc := ⟨.hbm, 390, rfl⟩
abbrev main_v349 : Ref sig .tc := ⟨.hbm, 391, rfl⟩
abbrev main_v350 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_v356 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_v360 : Ref sig .tc := ⟨.hbm, 402, rfl⟩
abbrev main_v361 : Ref sig .tc := ⟨.hbm, 403, rfl⟩
abbrev main_v362 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩
abbrev main_v368 : Ref sig .tc := ⟨.hbm, 410, rfl⟩
abbrev main_v369 : Ref sig .tc := ⟨.hbm, 411, rfl⟩
abbrev main_v370 : Ref sig .tc := ⟨.hbm, 412, rfl⟩
abbrev main_v371 : Ref sig .tc := ⟨.hbm, 413, rfl⟩
abbrev main_v372 : Ref sig .tc := ⟨.hbm, 414, rfl⟩
abbrev main_v373 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_v378 : Ref sig .tc := ⟨.hbm, 420, rfl⟩
abbrev main_v379 : Ref sig .tc := ⟨.hbm, 421, rfl⟩
abbrev main_v380 : Ref sig .tc := ⟨.hbm, 422, rfl⟩
abbrev main_v381 : Ref sig .tc := ⟨.hbm, 423, rfl⟩
abbrev main_v382 : Ref sig .tc := ⟨.hbm, 424, rfl⟩
abbrev main_v383 : Ref sig .tc := ⟨.hbm, 425, rfl⟩
abbrev main_v384 : Ref sig .tc := ⟨.hbm, 426, rfl⟩
abbrev main_v385 : Ref sig .tc := ⟨.hbm, 427, rfl⟩
abbrev main_v386 : Ref sig .tc := ⟨.hbm, 428, rfl⟩
abbrev main_v387 : Ref sig .tc := ⟨.hbm, 429, rfl⟩
abbrev main_v388 : Ref sig .tc := ⟨.hbm, 430, rfl⟩
abbrev main_v389 : Ref sig .tc := ⟨.hbm, 431, rfl⟩
abbrev main_v390 : Ref sig .tc := ⟨.hbm, 432, rfl⟩
abbrev main_v391 : Ref sig .tc := ⟨.hbm, 433, rfl⟩
abbrev main_v392 : Ref sig .tc := ⟨.hbm, 434, rfl⟩
abbrev main_v393 : Ref sig .tc := ⟨.hbm, 435, rfl⟩
abbrev main_v394 : Ref sig .tc := ⟨.hbm, 436, rfl⟩
abbrev main_v395 : Ref sig .tc := ⟨.hbm, 437, rfl⟩
abbrev main_v396 : Ref sig .tc := ⟨.hbm, 438, rfl⟩
abbrev main_v397 : Ref sig .tc := ⟨.hbm, 439, rfl⟩
abbrev main_v398 : Ref sig .tc := ⟨.hbm, 440, rfl⟩
abbrev main_v399 : Ref sig .tc := ⟨.hbm, 441, rfl⟩
abbrev main_v400 : Ref sig .tc := ⟨.hbm, 442, rfl⟩
abbrev main_v401 : Ref sig .tc := ⟨.hbm, 443, rfl⟩
abbrev main_v402 : Ref sig .tc := ⟨.hbm, 444, rfl⟩
abbrev main_v403 : Ref sig .tc := ⟨.hbm, 445, rfl⟩
abbrev main_v404 : Ref sig .tc := ⟨.hbm, 446, rfl⟩
abbrev main_v405 : Ref sig .tc := ⟨.hbm, 447, rfl⟩
abbrev main_v406 : Ref sig .tc := ⟨.hbm, 448, rfl⟩
abbrev main_v407 : Ref sig .tc := ⟨.hbm, 449, rfl⟩
abbrev main_v408 : Ref sig .tc := ⟨.hbm, 450, rfl⟩
abbrev main_v409 : Ref sig .tc := ⟨.hbm, 451, rfl⟩
abbrev main_v410 : Ref sig .tc := ⟨.hbm, 452, rfl⟩
abbrev main_v411 : Ref sig .tc := ⟨.hbm, 453, rfl⟩
abbrev main_v412 : Ref sig .tc := ⟨.hbm, 454, rfl⟩
abbrev main_v413 : Ref sig .tc := ⟨.hbm, 455, rfl⟩
abbrev main_v414 : Ref sig .tc := ⟨.hbm, 456, rfl⟩
abbrev main_v415 : Ref sig .tc := ⟨.hbm, 457, rfl⟩
abbrev main_v416 : Ref sig .tc := ⟨.hbm, 458, rfl⟩
abbrev main_v417 : Ref sig .tc := ⟨.hbm, 459, rfl⟩
abbrev main_v418 : Ref sig .tc := ⟨.hbm, 460, rfl⟩
abbrev main_v419 : Ref sig .tc := ⟨.hbm, 461, rfl⟩
abbrev main_v420 : Ref sig .tc := ⟨.hbm, 462, rfl⟩
abbrev main_v421 : Ref sig .tc := ⟨.hbm, 463, rfl⟩
abbrev main_v422 : Ref sig .tc := ⟨.hbm, 464, rfl⟩
abbrev main_v423 : Ref sig .tc := ⟨.hbm, 465, rfl⟩
abbrev main_v424 : Ref sig .tc := ⟨.hbm, 466, rfl⟩
abbrev main_v425 : Ref sig .tc := ⟨.hbm, 467, rfl⟩
abbrev main_v426 : Ref sig .tc := ⟨.hbm, 468, rfl⟩
abbrev main_v427 : Ref sig .tc := ⟨.hbm, 469, rfl⟩
abbrev main_v428 : Ref sig .tc := ⟨.hbm, 470, rfl⟩
abbrev main_v429 : Ref sig .tc := ⟨.hbm, 471, rfl⟩
abbrev main_v430 : Ref sig .tc := ⟨.hbm, 472, rfl⟩
abbrev main_v431 : Ref sig .tc := ⟨.hbm, 473, rfl⟩
abbrev main_v432 : Ref sig .tc := ⟨.hbm, 474, rfl⟩
abbrev main_v433 : Ref sig .tc := ⟨.hbm, 475, rfl⟩
abbrev main_v434 : Ref sig .tc := ⟨.hbm, 476, rfl⟩
abbrev main_v435 : Ref sig .tc := ⟨.hbm, 477, rfl⟩
abbrev main_v436 : Ref sig .tc := ⟨.hbm, 478, rfl⟩
abbrev main_v437 : Ref sig .tc := ⟨.hbm, 479, rfl⟩
abbrev main_v438 : Ref sig .tc := ⟨.hbm, 480, rfl⟩
abbrev main_v439 : Ref sig .tc := ⟨.hbm, 481, rfl⟩
abbrev main_v440 : Ref sig .tc := ⟨.hbm, 482, rfl⟩
abbrev main_v441 : Ref sig .tc := ⟨.hbm, 483, rfl⟩
abbrev main_v442 : Ref sig .tc := ⟨.hbm, 484, rfl⟩
abbrev main_v443 : Ref sig .tc := ⟨.hbm, 485, rfl⟩
abbrev main_v444 : Ref sig .tc := ⟨.hbm, 486, rfl⟩
abbrev main_v445 : Ref sig .tc := ⟨.hbm, 487, rfl⟩
abbrev main_v446 : Ref sig .tc := ⟨.hbm, 488, rfl⟩
abbrev main_v447 : Ref sig .tc := ⟨.hbm, 489, rfl⟩
abbrev main_v448 : Ref sig .tc := ⟨.hbm, 490, rfl⟩
abbrev main_v449 : Ref sig .tc := ⟨.hbm, 491, rfl⟩
abbrev main_v450 : Ref sig .tc := ⟨.hbm, 492, rfl⟩
abbrev main_v451 : Ref sig .tc := ⟨.hbm, 493, rfl⟩
abbrev main_v452 : Ref sig .tc := ⟨.hbm, 494, rfl⟩
abbrev main_v453 : Ref sig .tc := ⟨.hbm, 495, rfl⟩
abbrev main_v454 : Ref sig .tc := ⟨.hbm, 496, rfl⟩
abbrev main_v455 : Ref sig .tc := ⟨.hbm, 497, rfl⟩
abbrev main_v456 : Ref sig .tc := ⟨.hbm, 498, rfl⟩
abbrev main_v457 : Ref sig .tc := ⟨.hbm, 499, rfl⟩
abbrev main_v458 : Ref sig .tc := ⟨.hbm, 500, rfl⟩
abbrev main_v459 : Ref sig .tc := ⟨.hbm, 501, rfl⟩
abbrev main_v460 : Ref sig .tc := ⟨.hbm, 502, rfl⟩
abbrev main_v461 : Ref sig .tc := ⟨.hbm, 503, rfl⟩
abbrev main_v462 : Ref sig .tc := ⟨.hbm, 504, rfl⟩
abbrev main_v463 : Ref sig .tc := ⟨.hbm, 505, rfl⟩
abbrev main_v464 : Ref sig .tc := ⟨.hbm, 506, rfl⟩
abbrev main_v465 : Ref sig .tc := ⟨.hbm, 507, rfl⟩
abbrev main_v466 : Ref sig .tc := ⟨.hbm, 508, rfl⟩
abbrev main_v467 : Ref sig .tc := ⟨.hbm, 509, rfl⟩
abbrev main_v468 : Ref sig .tc := ⟨.hbm, 510, rfl⟩
abbrev main_v469 : Ref sig .tc := ⟨.hbm, 511, rfl⟩
abbrev main_v470 : Ref sig .tc := ⟨.hbm, 512, rfl⟩
abbrev main_v471 : Ref sig .tc := ⟨.hbm, 513, rfl⟩
abbrev main_v472 : Ref sig .tc := ⟨.hbm, 514, rfl⟩
abbrev main_v473 : Ref sig .tc := ⟨.hbm, 515, rfl⟩
abbrev main_v474 : Ref sig .tc := ⟨.hbm, 516, rfl⟩
abbrev main_v475 : Ref sig .tc := ⟨.hbm, 517, rfl⟩
abbrev main_v476 : Ref sig .tc := ⟨.hbm, 518, rfl⟩
abbrev main_v477 : Ref sig .tc := ⟨.hbm, 519, rfl⟩
abbrev main_v478 : Ref sig .tc := ⟨.hbm, 520, rfl⟩
abbrev main_v479 : Ref sig .tc := ⟨.hbm, 521, rfl⟩
abbrev main_v480 : Ref sig .tc := ⟨.hbm, 522, rfl⟩
abbrev main_v481 : Ref sig .tc := ⟨.hbm, 523, rfl⟩
abbrev main_v482 : Ref sig .tc := ⟨.hbm, 524, rfl⟩
abbrev main_v483 : Ref sig .tc := ⟨.hbm, 525, rfl⟩
abbrev main_v484 : Ref sig .tc := ⟨.hbm, 526, rfl⟩
abbrev main_v485 : Ref sig .tc := ⟨.hbm, 527, rfl⟩
abbrev main_v486 : Ref sig .tc := ⟨.hbm, 528, rfl⟩
abbrev main_v487 : Ref sig .tc := ⟨.hbm, 529, rfl⟩
abbrev main_v488 : Ref sig .tc := ⟨.hbm, 530, rfl⟩
abbrev main_v489 : Ref sig .tc := ⟨.hbm, 531, rfl⟩
abbrev main_v490 : Ref sig .tc := ⟨.hbm, 532, rfl⟩
abbrev main_v491 : Ref sig .tc := ⟨.hbm, 533, rfl⟩
abbrev main_v492 : Ref sig .tc := ⟨.hbm, 534, rfl⟩
abbrev main_v493 : Ref sig .tc := ⟨.hbm, 535, rfl⟩
abbrev main_v494 : Ref sig .tc := ⟨.hbm, 536, rfl⟩
abbrev main_v495 : Ref sig .tc := ⟨.hbm, 537, rfl⟩
abbrev main_v496 : Ref sig .tc := ⟨.hbm, 538, rfl⟩
abbrev main_v497 : Ref sig .tc := ⟨.hbm, 539, rfl⟩
abbrev main_v498 : Ref sig .tc := ⟨.hbm, 540, rfl⟩
abbrev main_v499 : Ref sig .tc := ⟨.hbm, 541, rfl⟩
abbrev main_v500 : Ref sig .tc := ⟨.hbm, 542, rfl⟩
abbrev main_v501 : Ref sig .tc := ⟨.hbm, 543, rfl⟩
abbrev main_v502 : Ref sig .tc := ⟨.hbm, 544, rfl⟩
abbrev main_v503 : Ref sig .tc := ⟨.hbm, 545, rfl⟩
abbrev main_v504 : Ref sig .tc := ⟨.hbm, 546, rfl⟩
abbrev main_v505 : Ref sig .tc := ⟨.hbm, 547, rfl⟩
abbrev main_v506 : Ref sig .tc := ⟨.hbm, 548, rfl⟩
abbrev main_v507 : Ref sig .tc := ⟨.hbm, 549, rfl⟩
abbrev main_v508 : Ref sig .tc := ⟨.hbm, 550, rfl⟩
abbrev main_v509 : Ref sig .tc := ⟨.hbm, 551, rfl⟩
abbrev main_v510 : Ref sig .tc := ⟨.hbm, 552, rfl⟩
abbrev main_v511 : Ref sig .tc := ⟨.hbm, 553, rfl⟩
abbrev main_v512 : Ref sig .tc := ⟨.hbm, 554, rfl⟩
abbrev main_v513 : Ref sig .tc := ⟨.hbm, 555, rfl⟩
abbrev main_v514 : Ref sig .tc := ⟨.hbm, 556, rfl⟩
abbrev main_v515 : Ref sig .tc := ⟨.hbm, 557, rfl⟩
abbrev main_v516 : Ref sig .tc := ⟨.hbm, 558, rfl⟩
abbrev main_v517 : Ref sig .tc := ⟨.hbm, 559, rfl⟩
abbrev main_v518 : Ref sig .tc := ⟨.hbm, 560, rfl⟩
abbrev main_v519 : Ref sig .tc := ⟨.hbm, 561, rfl⟩
abbrev main_v520 : Ref sig .tc := ⟨.hbm, 562, rfl⟩
abbrev main_v521 : Ref sig .tc := ⟨.hbm, 563, rfl⟩
abbrev main_v522 : Ref sig .tc := ⟨.hbm, 564, rfl⟩
abbrev main_v523 : Ref sig .tc := ⟨.hbm, 565, rfl⟩
abbrev main_v524 : Ref sig .tc := ⟨.hbm, 566, rfl⟩
abbrev main_v525 : Ref sig .tc := ⟨.hbm, 567, rfl⟩
abbrev main_v526 : Ref sig .tc := ⟨.hbm, 568, rfl⟩
abbrev main_v527 : Ref sig .tc := ⟨.hbm, 569, rfl⟩
abbrev main_v528 : Ref sig .tc := ⟨.hbm, 570, rfl⟩
abbrev main_v529 : Ref sig .tc := ⟨.hbm, 571, rfl⟩
abbrev main_v530 : Ref sig .tc := ⟨.hbm, 572, rfl⟩
abbrev main_v531 : Ref sig .tc := ⟨.hbm, 573, rfl⟩
abbrev main_v532 : Ref sig .tc := ⟨.hbm, 574, rfl⟩
abbrev main_v533 : Ref sig .tc := ⟨.hbm, 575, rfl⟩
abbrev main_v534 : Ref sig .tc := ⟨.hbm, 576, rfl⟩
abbrev main_v535 : Ref sig .tc := ⟨.hbm, 577, rfl⟩
abbrev main_v536 : Ref sig .tc := ⟨.hbm, 578, rfl⟩
abbrev main_v537 : Ref sig .tc := ⟨.hbm, 579, rfl⟩
abbrev main_v538 : Ref sig .tc := ⟨.hbm, 580, rfl⟩
abbrev main_v539 : Ref sig .tc := ⟨.hbm, 581, rfl⟩
abbrev main_v540 : Ref sig .tc := ⟨.hbm, 582, rfl⟩
abbrev main_v541 : Ref sig .tc := ⟨.hbm, 583, rfl⟩
abbrev main_v542 : Ref sig .tc := ⟨.hbm, 584, rfl⟩
abbrev main_v543 : Ref sig .tc := ⟨.hbm, 585, rfl⟩
abbrev main_v544 : Ref sig .tc := ⟨.hbm, 586, rfl⟩
abbrev main_v545 : Ref sig .tc := ⟨.hbm, 587, rfl⟩
abbrev main_v546 : Ref sig .tc := ⟨.hbm, 588, rfl⟩
abbrev main_v547 : Ref sig .tc := ⟨.hbm, 589, rfl⟩
abbrev main_v548 : Ref sig .tc := ⟨.hbm, 590, rfl⟩
abbrev main_v549 : Ref sig .tc := ⟨.hbm, 591, rfl⟩
abbrev main_v550 : Ref sig .tc := ⟨.hbm, 592, rfl⟩
abbrev main_v551 : Ref sig .tc := ⟨.hbm, 593, rfl⟩
abbrev main_v552 : Ref sig .tc := ⟨.hbm, 594, rfl⟩
abbrev main_v553 : Ref sig .tc := ⟨.hbm, 595, rfl⟩
abbrev main_v554 : Ref sig .tc := ⟨.hbm, 596, rfl⟩
abbrev main_v555 : Ref sig .tc := ⟨.hbm, 597, rfl⟩
abbrev main_v556 : Ref sig .tc := ⟨.hbm, 598, rfl⟩
abbrev main_v557 : Ref sig .tc := ⟨.hbm, 599, rfl⟩
abbrev main_v558 : Ref sig .tc := ⟨.hbm, 600, rfl⟩
abbrev main_v559 : Ref sig .tc := ⟨.hbm, 601, rfl⟩
abbrev main_v560 : Ref sig .tc := ⟨.hbm, 602, rfl⟩
abbrev main_v561 : Ref sig .tc := ⟨.hbm, 603, rfl⟩
abbrev main_v562 : Ref sig .tc := ⟨.hbm, 604, rfl⟩
abbrev main_v563 : Ref sig .tc := ⟨.hbm, 605, rfl⟩
abbrev main_v564 : Ref sig .tc := ⟨.hbm, 606, rfl⟩
abbrev main_v565 : Ref sig .tc := ⟨.hbm, 607, rfl⟩
abbrev main_v566 : Ref sig .tc := ⟨.hbm, 608, rfl⟩
abbrev main_cst_17 : Ref sig .tc := ⟨.hbm, 609, rfl⟩
abbrev main_v567 : Ref sig .tc := ⟨.hbm, 610, rfl⟩
abbrev main_v568 : Ref sig .tc := ⟨.hbm, 611, rfl⟩
abbrev main_cst_18 : Ref sig .tc := ⟨.hbm, 612, rfl⟩
abbrev main_v569 : Ref sig .tc := ⟨.hbm, 613, rfl⟩
abbrev main_v570 : Ref sig .tc := ⟨.hbm, 614, rfl⟩
abbrev main_v571 : Ref sig .tc := ⟨.hbm, 615, rfl⟩
abbrev main_v572 : Ref sig .tc := ⟨.hbm, 616, rfl⟩
abbrev main_v573 : Ref sig .tc := ⟨.hbm, 617, rfl⟩
abbrev main_cst_19 : Ref sig .tc := ⟨.hbm, 618, rfl⟩
abbrev main_v574 : Ref sig .tc := ⟨.hbm, 619, rfl⟩
abbrev main_v575 : Ref sig .tc := ⟨.hbm, 620, rfl⟩
abbrev main_cst_20 : Ref sig .tc := ⟨.hbm, 621, rfl⟩
abbrev main_v576 : Ref sig .tc := ⟨.hbm, 622, rfl⟩
abbrev main_v577 : Ref sig .tc := ⟨.hbm, 623, rfl⟩
abbrev main_v578 : Ref sig .tc := ⟨.hbm, 624, rfl⟩
abbrev main_v579 : Ref sig .tc := ⟨.hbm, 625, rfl⟩
abbrev main_cst_21 : Ref sig .tc := ⟨.hbm, 626, rfl⟩
abbrev main_v580 : Ref sig .tc := ⟨.hbm, 627, rfl⟩
abbrev main_v581 : Ref sig .tc := ⟨.hbm, 628, rfl⟩
abbrev main_v582 : Ref sig .tc := ⟨.hbm, 629, rfl⟩
abbrev main_v583 : Ref sig .tc := ⟨.hbm, 630, rfl⟩
abbrev main_v584 : Ref sig .tc := ⟨.hbm, 631, rfl⟩
abbrev main_v585 : Ref sig .tc := ⟨.hbm, 632, rfl⟩
abbrev main_v586 : Ref sig .tc := ⟨.hbm, 633, rfl⟩
abbrev main_v587 : Ref sig .tc := ⟨.hbm, 634, rfl⟩
abbrev main_v588 : Ref sig .tc := ⟨.hbm, 635, rfl⟩
abbrev main_v589 : Ref sig .tc := ⟨.hbm, 636, rfl⟩
abbrev main_v590 : Ref sig .tc := ⟨.hbm, 637, rfl⟩
abbrev main_call3_v0 : Ref sig .tc := ⟨.hbm, 638, rfl⟩
abbrev main_call3_v1 : Ref sig .tc := ⟨.hbm, 639, rfl⟩
abbrev main_call3_cst : Ref sig .tc := ⟨.hbm, 640, rfl⟩
abbrev main_call3_v2 : Ref sig .tc := ⟨.hbm, 641, rfl⟩
abbrev main_call3_v3 : Ref sig .tc := ⟨.hbm, 642, rfl⟩
abbrev main_call3_cst_0 : Ref sig .tc := ⟨.hbm, 643, rfl⟩
abbrev main_call3_v4 : Ref sig .tc := ⟨.hbm, 644, rfl⟩
abbrev main_call3_v5 : Ref sig .tc := ⟨.hbm, 645, rfl⟩
abbrev main_v591 : Ref sig .tc := ⟨.hbm, 646, rfl⟩
abbrev main_v592 : Ref sig .tc := ⟨.hbm, 647, rfl⟩
abbrev main_v593 : Ref sig .tc := ⟨.hbm, 648, rfl⟩
abbrev main_v594 : Ref sig .tc := ⟨.hbm, 649, rfl⟩
abbrev main_cst_22 : Ref sig .tc := ⟨.hbm, 650, rfl⟩
abbrev main_v595 : Ref sig .tc := ⟨.hbm, 651, rfl⟩
abbrev main_v596 : Ref sig .tc := ⟨.hbm, 652, rfl⟩
abbrev main_cst_23 : Ref sig .tc := ⟨.hbm, 653, rfl⟩
abbrev main_v597 : Ref sig .tc := ⟨.hbm, 654, rfl⟩
abbrev main_v598 : Ref sig .tc := ⟨.hbm, 655, rfl⟩
abbrev main_v599 : Ref sig .tc := ⟨.hbm, 656, rfl⟩
abbrev main_v600 : Ref sig .tc := ⟨.hbm, 657, rfl⟩
abbrev main_v601 : Ref sig .tc := ⟨.hbm, 658, rfl⟩
abbrev main_cst_24 : Ref sig .tc := ⟨.hbm, 659, rfl⟩
abbrev main_v602 : Ref sig .tc := ⟨.hbm, 660, rfl⟩
abbrev main_v603 : Ref sig .tc := ⟨.hbm, 661, rfl⟩
abbrev main_cst_25 : Ref sig .tc := ⟨.hbm, 662, rfl⟩
abbrev main_v604 : Ref sig .tc := ⟨.hbm, 663, rfl⟩
abbrev main_v605 : Ref sig .tc := ⟨.hbm, 664, rfl⟩
abbrev main_v606 : Ref sig .tc := ⟨.hbm, 665, rfl⟩
abbrev main_v607 : Ref sig .tc := ⟨.hbm, 666, rfl⟩
abbrev main_v608 : Ref sig .tc := ⟨.hbm, 667, rfl⟩
abbrev main_v609 : Ref sig .tc := ⟨.hbm, 668, rfl⟩
abbrev main_v610 : Ref sig .tc := ⟨.hbm, 669, rfl⟩
abbrev main_v611 : Ref sig .tc := ⟨.hbm, 670, rfl⟩
abbrev main_v612 : Ref sig .tc := ⟨.hbm, 671, rfl⟩
abbrev main_v613 : Ref sig .tc := ⟨.hbm, 672, rfl⟩
abbrev main_v614 : Ref sig .tc := ⟨.hbm, 673, rfl⟩
abbrev main_cst_26 : Ref sig .tc := ⟨.hbm, 674, rfl⟩
abbrev main_v615 : Ref sig .tc := ⟨.hbm, 675, rfl⟩
abbrev main_v616 : Ref sig .tc := ⟨.hbm, 676, rfl⟩
abbrev main_cst_27 : Ref sig .tc := ⟨.hbm, 677, rfl⟩
abbrev main_v617 : Ref sig .tc := ⟨.hbm, 678, rfl⟩
abbrev main_v618 : Ref sig .tc := ⟨.hbm, 679, rfl⟩
abbrev main_cst_28 : Ref sig .tc := ⟨.hbm, 680, rfl⟩
abbrev main_v619 : Ref sig .tc := ⟨.hbm, 681, rfl⟩
abbrev main_v620 : Ref sig .tc := ⟨.hbm, 682, rfl⟩
abbrev main_v621 : Ref sig .tc := ⟨.hbm, 683, rfl⟩
abbrev main_v622 : Ref sig .tc := ⟨.hbm, 684, rfl⟩
abbrev main_v623 : Ref sig .tc := ⟨.hbm, 685, rfl⟩
abbrev main_v624 : Ref sig .tc := ⟨.hbm, 686, rfl⟩
abbrev main_v625 : Ref sig .tc := ⟨.hbm, 687, rfl⟩
abbrev main_v626 : Ref sig .tc := ⟨.hbm, 688, rfl⟩
abbrev main_cst_29 : Ref sig .tc := ⟨.hbm, 689, rfl⟩
abbrev main_v627 : Ref sig .tc := ⟨.hbm, 690, rfl⟩
abbrev main_v628 : Ref sig .tc := ⟨.hbm, 691, rfl⟩
abbrev main_v629 : Ref sig .tc := ⟨.hbm, 692, rfl⟩
abbrev main_v630 : Ref sig .tc := ⟨.hbm, 693, rfl⟩
abbrev main_v631 : Ref sig .tc := ⟨.hbm, 694, rfl⟩
abbrev main_v632 : Ref sig .tc := ⟨.hbm, 695, rfl⟩
abbrev main_v633 : Ref sig .tc := ⟨.hbm, 696, rfl⟩
abbrev main_v634 : Ref sig .tc := ⟨.hbm, 697, rfl⟩
abbrev main_v635 : Ref sig .tc := ⟨.hbm, 698, rfl⟩
abbrev main_v636 : Ref sig .tc := ⟨.hbm, 699, rfl⟩
abbrev main_v637 : Ref sig .tc := ⟨.hbm, 700, rfl⟩
abbrev main_v638 : Ref sig .tc := ⟨.hbm, 701, rfl⟩

abbrev nD : Nat := 1
abbrev τ : Topo := Topo.v7x

variable {F : FTy → Type} [FloatOps F]
-- ==== Proof.Words.lean ====
module

public import proofs.«01_k».proof.Proof.Gen.KernelIdeal.Value
public import Idealize.ShloMosaic.Lib.MatmulPlain
public import Idealize.ShloMosaic.Lib.ValueLayout
public import Idealize.ShloMosaic.Lib.IdealHost
public import Idealize.ShloMosaic.Lib.WritesUnit

@[expose] public section

set_option maxRecDepth 16384

noncomputable section

namespace Cert.Hgrn

open Idealize.ShloMosaic Idealize.ShloMosaic.TcCoe Idealize.ShloMosaic.ValueIdx
open Cert.KernelIdeal Cert.KernelIdeal.Gen
open scoped BigOperators

/-! ## The vector operations read at an index of the exact values -/

section Elementwise
variable {s : Shape} {φ : FTy}

/-- A sum of vectors, at an index. -/
theorem addf_ap (a b : FVec Ideal s φ) (i : s.Idx) : addf a b i = a i + b i := rfl
/-- A difference of vectors, at an index. -/
theorem subf_ap (a b : FVec Ideal s φ) (i : s.Idx) : subf a b i = a i - b i := rfl
/-- A product of vectors, at an index. -/
theorem mulf_ap (a b : FVec Ideal s φ) (i : s.Idx) : mulf a b i = a i * b i := rfl
/-- A quotient of vectors, at an index. -/
theorem divf_ap (a b : FVec Ideal s φ) (i : s.Idx) : divf a b i = Ideal.div (a i) (b i) := rfl
/-- The exponential of a vector, at an index. -/
theorem exp_ap (a : FVec Ideal s φ) (i : s.Idx) : exp a i = Ideal.exp (a i) := rfl
/-- The logarithm of a vector, at an index. -/
theorem log_ap (a : FVec Ideal s φ) (i : s.Idx) : log a i = Ideal.log (a i) := rfl
/-- The reciprocal square root of a vector, at an index. -/
theorem rsqrt_ap (a : FVec Ideal s φ) (i : s.Idx) : rsqrt a i = Ideal.rsqrt (a i) := rfl
/-- A widened vector keeps its values. -/
theorem extf_ap (ψ : FTy) (a : FVec Ideal s φ) (h : φ.bits < ψ.bits) (i : s.Idx) : (extf ψ a h : FVec Ideal s ψ) i = a i := rfl
/-- A narrowed vector keeps its exact values. -/
theorem truncf_ap (ψ : FTy) (a : FVec Ideal s φ) (h : ψ.bits < φ.bits) (i : s.Idx) : (truncf ψ a h : FVec Ideal s ψ) i = a i := rfl
/-- A scalar constant is its pattern's value. -/
theorem scalar_ap (b : BitVec φ.bits) : (Scalar.ofBits φ b : Ideal φ) = Ideal.ofBits φ b := rfl

end Elementwise

/-! ## Positions -/

/-- Position `t` of half `o` of a length of 256. -/
abbrev row (o : Fin 2) (t : Fin 128) : Fin 256 := ⟨128 * o.val + t.val, by omega⟩
/-- Position `t` of block `i` of the nine blocks of decay factors. -/
abbrev lvRow (i : Fin 9) (t : Fin 128) : Fin 1152 := ⟨128 * i.val + t.val, by omega⟩

/-! ## Layout operations at an index -/

section Layout
variable {α : Type}

/-- Dropping two leading unit axes. -/
theorem sc_11ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- Adding two leading unit axes. -/
theorem sc_ab_11ab {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp)

/-- The first half of the columns. -/
theorem cols0 (x : S128x256.Idx → α) (h : S128x256.Slices ![0, 0] S128x128) (t e : Fin 128) :
    extractStridedSlice S128x128 ![0, 0] x h (ix2 t e) = x (ix2 t (row 0 e)) :=
  extractStridedSlice_apply _ x h _ _ (fun a => by
    match a with
    | ⟨0, _⟩ => show t.val = 0 + t.val; omega
    | ⟨1, _⟩ => show 128 * 0 + e.val = 0 + e.val; omega)

/-- The second half of the columns. -/
theorem cols1 (x : S128x256.Idx → α) (h : S128x256.Slices ![0, 128] S128x128) (t e : Fin 128) :
    extractStridedSlice S128x128 ![0, 128] x h (ix2 t e) = x (ix2 t (row 1 e)) :=
  extractStridedSlice_apply _ x h _ _ (fun a => by
    match a with
    | ⟨0, _⟩ => show t.val = 0 + t.val; omega
    | ⟨1, _⟩ => show 128 * 1 + e.val = 128 + e.val; omega)

/-- One row of two, at a column. -/
theorem row2 (d : Fin 2) (o : ℕ) (ho : o = d.val) (x : S2x256.Idx → α) (h : S2x256.Slices ![o, 0] S1x256) (c : Fin 256) :
    extractStridedSlice S1x256 ![o, 0] x h (ix2 (0 : Fin 1) c) = x (ix2 d c) :=
  extractStridedSlice_apply _ x h _ _ (fun a => by
    match a with
    | ⟨0, _⟩ => show d.val = o + 0; omega
    | ⟨1, _⟩ => show c.val = 0 + c.val; omega)

/-- One row of a half, at a column of head `hh`. -/
theorem row1 (hh : Fin 2) (r : Fin 128) (o o' : ℕ) (ho : o = r.val) (ho' : o' = 128 * hh.val) (x : S128x256.Idx → α)
    (h : S128x256.Slices ![o, o'] S1x128) (c : Fin 128) :
    extractStridedSlice S1x128 ![o, o'] x h (ix2 (0 : Fin 1) c) = x (ix2 r (row hh c)) :=
  extractStridedSlice_apply _ x h _ _ (fun a => by
    match a with
    | ⟨0, _⟩ => show r.val = o + 0; omega
    | ⟨1, _⟩ => show 128 * hh.val + c.val = o' + c.val; omega)

/-- A row of 256 repeated down 128 rows. -/
theorem bct256 (x : S1x256.Idx → α) (h : S1x256.Broadcasts S128x256) (t : Fin 128) (c : Fin 256) :
    broadcastTo S128x256 x h (ix2 t c) = x (ix2 (0 : Fin 1) c) :=
  broadcastTo_apply x h _ _ (fun a => by
    match a with
    | ⟨0, _⟩ => rfl
    | ⟨1, _⟩ => rfl)

/-- A row of 128 repeated down 128 rows. -/
theorem bct128 (x : S1x128.Idx → α) (h : S1x128.Broadcasts S128x128) (t : Fin 128) (c : Fin 128) :
    broadcastTo S128x128 x h (ix2 t c) = x (ix2 (0 : Fin 1) c) :=
  broadcastTo_apply x h _ _ (fun a => by
    match a with
    | ⟨0, _⟩ => rfl
    | ⟨1, _⟩ => rfl)

end Layout

/-! ## The matrix products at an index -/

/-- Rows times columns, the decay sums. -/
theorem mm_decay {φ₁ φ₂ : FTy} (L : FVec Ideal S1152x128 φ₁) (R : FVec Ideal S128x256 φ₂) (i : Fin 1152) (j : Fin 256) :
    matmul dot_S1152x128_S128x256_S1152x256_1_0_0_1_n_n none L R (constant S1152x256 .f32 0x00000000#32) (ix2 i j)
      = ∑ k : Fin 128, L (ix2 i k) * R (ix2 k j) :=
  (Ideal.matmul_plain_apply (M := 1152) (K := 128) (N := 256) none L R (constant S1152x256 .f32 0x00000000#32) i j).trans (by
    show Ideal.ofBits .f32 0x00000000#32 + _ = _
    rw [Ideal.ofBits_zero_f32, zero_add])

/-- Rows times columns. -/
theorem mm_nn {φ₁ φ₂ : FTy} (L : FVec Ideal S128x128 φ₁) (R : FVec Ideal S128x128 φ₂) (i j : Fin 128) :
    matmul dot_S128x128_S128x128_S128x128_1_0_0_1_n_n none L R (constant S128x128 .f32 0x00000000#32) (ix2 i j)
      = ∑ k : Fin 128, L (ix2 i k) * R (ix2 k j) :=
  (Ideal.matmul_plain_apply (M := 128) (K := 128) (N := 128) none L R (constant S128x128 .f32 0x00000000#32) i j).trans (by
    show Ideal.ofBits .f32 0x00000000#32 + _ = _
    rw [Ideal.ofBits_zero_f32, zero_add])

/-- Rows times rows. -/
theorem mm_nt {φ₁ φ₂ : FTy} (L : FVec Ideal S128x128 φ₁) (R : FVec Ideal S128x128 φ₂) (i j : Fin 128) :
    matmul dot_S128x128_S128x128_S128x128_1_1_0_0_n_n none L R (constant S128x128 .f32 0x00000000#32) (ix2 i j)
      = ∑ k : Fin 128, L (ix2 i k) * R (ix2 j k) :=
  (Ideal.matmul_transposedRhs_apply (M := 128) (K := 128) (N := 128) none L R (constant S128x128 .f32 0x00000000#32) i j).trans (by
    show Ideal.ofBits .f32 0x00000000#32 + _ = _
    rw [Ideal.ofBits_zero_f32, zero_add])

/-- Columns times columns. -/
theorem mm_tn {φ₁ φ₂ : FTy} (L : FVec Ideal S128x128 φ₁) (R : FVec Ideal S128x128 φ₂) (i j : Fin 128) :
    matmul dot_S128x128_S128x128_S128x128_0_0_1_1_n_n none L R (constant S128x128 .f32 0x00000000#32) (ix2 i j)
      = ∑ k : Fin 128, L (ix2 k i) * R (ix2 k j) := by
  refine (Ideal.matmul_constant_zero_apply dot_S128x128_S128x128_S128x128_0_0_1_1_n_n none L R (ix2 i j)).trans ?_
  let e := contrEquiv1 dot_S128x128_S128x128_S128x128_0_0_1_1_n_n 128 rfl rfl
  rw [← Equiv.sum_comp e.symm]
  refine Finset.sum_congr rfl fun k _ => ?_
  have hk := contrEquiv1_symm_val dot_S128x128_S128x128_S128x128_0_0_1_1_n_n 128 rfl rfl k
  have el : dot_S128x128_S128x128_S128x128_0_0_1_1_n_n.lhsIdx (ix2 i j) (e.symm k) = ix2 k i := by
    funext a; apply Fin.ext
    match a with
    | ⟨0, _⟩ => exact hk
    | ⟨1, _⟩ => rfl
  have er : dot_S128x128_S128x128_S128x128_0_0_1_1_n_n.rhsIdx (ix2 i j) (e.symm k) = ix2 k j := by
    funext a; apply Fin.ext
    match a with
    | ⟨0, _⟩ => exact hk
    | ⟨1, _⟩ => rfl
  rw [el, er]

/-! ## Loads -/

/-- A load off a whole buffer reads its contents at the rectangle's index. -/
theorem load_ap {sp : Space} {s : Shape} {e : EltTy} (m : Memref sig .tc sp s e) (h : m.IsWhole) (X : Vec Ideal s e) (r : Rect s)
    (j : r.shape.Idx) : View.readAt (Elt Ideal) m.view r.toLoadRect (h.unread X) j = X (r.idx j) := by
  rw [View.readAt_eq_ld, h.read_unread]

/-- The first half of the rows. -/
theorem rows0 {e : EltTy} (X : Vec Ideal S256x256 e) (inb) (t : Fin 128) (c : Fin 256) :
    X ((Rect.unit (s := S256x256) ![0, 0] S128x256.size inb).idx (ix2 t c)) = X (ix2 (row 0 t) c) :=
  congrArg X (funext fun a => Fin.ext (by
    match a with
    | ⟨0, _⟩ => show 0 + 1 * t.val = 128 * 0 + t.val; omega
    | ⟨1, _⟩ => show 0 + 1 * c.val = c.val; omega))

/-- The second half of the rows. -/
theorem rows1 {e : EltTy} (X : Vec Ideal S256x256 e) (inb) (t : Fin 128) (c : Fin 256) :
    X ((Rect.unit (s := S256x256) ![128, 0] S128x256.size inb).idx (ix2 t c)) = X (ix2 (row 1 t) c) :=
  congrArg X (funext fun a => Fin.ext (by
    match a with
    | ⟨0, _⟩ => show 128 + 1 * t.val = 128 * 1 + t.val; omega
    | ⟨1, _⟩ => show 0 + 1 * c.val = c.val; omega))

/-- One of the two directions' stacks of 0/1 rows. -/
theorem blkA {e : EltTy} (X : Vec Ideal S2x1152x128 e) (d : Fin 2) (o : ℕ) (ho : o = d.val) (inb) (R : Fin 1152) (r : Fin 128) :
    X ((Rect.unit (s := S2x1152x128) ![o, 0, 0] S1x1152x128.size inb).idx (ix3 (0 : Fin 1) R r)) = X (ix3 d R r) :=
  congrArg X (funext fun a => Fin.ext (by
    match a with
    | ⟨0, _⟩ => show o + 1 * 0 = d.val; omega
    | ⟨1, _⟩ => show 0 + 1 * R.val = R.val; omega
    | ⟨2, _⟩ => show 0 + 1 * r.val = r.val; omega))

/-- One of the level masks. -/
theorem blkM {e : EltTy} (X : Vec Ideal S2x8x128x128 e) (d : Fin 2) (i : Fin 8) (o o' : ℕ) (ho : o = d.val) (ho' : o' = i.val) (inb)
    (t s : Fin 128) :
    X ((Rect.unit (s := S2x8x128x128) ![o, o', 0, 0] S1x1x128x128.size inb).idx (ix4 (0 : Fin 1) (0 : Fin 1) t s)) = X (ix4 d i t s) :=
  congrArg X (funext fun a => Fin.ext (by
    match a with
    | ⟨0, _⟩ => show o + 1 * 0 = d.val; omega
    | ⟨1, _⟩ => show o' + 1 * 0 = i.val; omega
    | ⟨2, _⟩ => show 0 + 1 * t.val = t.val; omega
    | ⟨3, _⟩ => show 0 + 1 * s.val = s.val; omega))

/-! ## The decay factors and the keys at an index -/

/-- The logistic function as the kernel spells it. -/
def sgm (z : EReal) : EReal := Ideal.div 1 (1 + Ideal.exp (0 - z))
/-- The query: the input times its logistic value. -/
def qOf (x : EReal) : EReal := x * sgm x
/-- The logarithm of the forget gate. -/
def gOf (lb z : EReal) : EReal := Ideal.log (lb + (1 - lb) * sgm z)
/-- The key: one minus the forget gate. -/
def kOf (lb z : EReal) : EReal := (1 - lb) * sgm (0 - z)
/-- A decay factor: the exponential of a sum of logarithms, taken in two parts. -/
def xOf (A g : Fin 128 → EReal) : EReal := Ideal.exp ((∑ r, A r * g r) + ∑ r, A r * (g r - g r))

/-- The decay factors of direction 0, chunk 0. -/
theorem pay9_ap (v9 : Vec Ideal S2x256 .f32) (z : Vec Ideal S128x256 .f32) (A : Vec Ideal S1x1152x128 .bf16) (R : Fin 1152) (c : Fin 256) :
    k0_pay9 v9 z A (ix4 (0 : Fin 1) (0 : Fin 1) R c)
      = xOf (fun r => A (ix3 (0 : Fin 1) R r)) (fun r => gOf (v9 (ix2 (0 : Fin 2) c)) (z (ix2 r c))) := by
  simp only [k0_pay9, k0_pay8, sc_ab_11ab, exp_ap, addf_ap, mm_decay, shapeCast_1ab_ab_apply, truncf_ap, extf_ap, subf_ap, log_ap,
    mulf_ap, divf_ap, bct256, row2 0 0 rfl, broadcast_apply, scalar_ap, Ideal.ofBits_zero_f32, Ideal.ofBits_one_f32, xOf, gOf, sgm]

end Cert.Hgrn

end
-- ==== Proof.Decay.lean ====
module

public import proofs.«01_k».proof.Proof.Words

@[expose] public section

set_option maxRecDepth 16384

noncomputable section

namespace Cert.Hgrn

open Idealize.ShloMosaic Idealize.ShloMosaic.TcCoe Idealize.ShloMosaic.ValueIdx
open Cert.KernelIdeal Cert.KernelIdeal.Gen
open scoped BigOperators

/-! ## The scratch buffers read back -/

section Scratch
variable {Val : EltTy → Type} [∀ e, Nonempty (Val e)] {e : EltTy} {A B n : ℕ}

/-- The newest piece is the block asked for. -/
theorem quad_hit (v : View sig .tc .vmem ⟨4, ![2, 2, A, B]⟩ e) (f : v.ty.Contents Val) (d s : Fin 2) (od os : ℕ) (hd : od = d.val) (hs : os = s.val)
    (inb : ∀ a, ![od, os, 0, 0] a + ![1, 1, A, B] a ≤ (⟨4, ![2, 2, A, B]⟩ : Shape).size a)
    (w : (Rect.unit (s := ⟨4, ![2, 2, A, B]⟩) ![od, os, 0, 0] ![1, 1, A, B] inb).shape.Idx → Val e)
    (L : List (View.Piece Val ⟨4, ![2, 2, A, B]⟩ e)) (i : Fin A) (j : Fin B) :
    v.read Val (v.writes Val f (⟨Rect.unit ![od, os, 0, 0] ![1, 1, A, B] inb, w⟩ :: L)) (ix4 d s i j)
      = w (ix4 (0 : Fin 1) (0 : Fin 1) i j) :=
  View.read_writes_cons_unit_of_mem v f inb w L (ix4 d s i j) (ix4 (0 : Fin 1) (0 : Fin 1) i j) rfl (fun a => by
    match a with
    | ⟨0, _⟩ => show d.val = od + 0; omega
    | ⟨1, _⟩ => show s.val = os + 0; omega
    | ⟨2, _⟩ => show i.val = 0 + i.val; omega
    | ⟨3, _⟩ => show j.val = 0 + j.val; omega)

/-- The newest piece is another block. -/
theorem quad_miss (v : View sig .tc .vmem ⟨4, ![2, 2, A, B]⟩ e) (f : v.ty.Contents Val) (d s : Fin 2) (od os : ℕ) (h : od ≠ d.val ∨ os ≠ s.val)
    (inb : ∀ a, ![od, os, 0, 0] a + ![1, 1, A, B] a ≤ (⟨4, ![2, 2, A, B]⟩ : Shape).size a)
    (w : (Rect.unit (s := ⟨4, ![2, 2, A, B]⟩) ![od, os, 0, 0] ![1, 1, A, B] inb).shape.Idx → Val e)
    (L : List (View.Piece Val ⟨4, ![2, 2, A, B]⟩ e)) (i : Fin A) (j : Fin B) :
    v.read Val (v.writes Val f (⟨Rect.unit ![od, os, 0, 0] ![1, 1, A, B] inb, w⟩ :: L)) (ix4 d s i j)
      = v.read Val (v.writes Val f L) (ix4 d s i j) := by
  rcases h with h | h
  · refine View.read_writes_cons_unit_of_not_mem v f inb w L (ix4 d s i j) rfl (0 : Fin 4) ?_
    show d.val < od ∨ od + 1 ≤ d.val
    omega
  · refine View.read_writes_cons_unit_of_not_mem v f inb w L (ix4 d s i j) rfl (1 : Fin 4) ?_
    show s.val < os ∨ os + 1 ≤ s.val
    omega

/-- A load of some rows of one block, at an index. -/
theorem quad_load (v : View sig .tc .vmem ⟨4, ![2, 2, A, B]⟩ e) (L : List (View.Piece Val ⟨4, ![2, 2, A, B]⟩ e)) (d s : Fin 2) (od os o : ℕ)
    (hd : od = d.val) (hs : os = s.val)
    (inb : ∀ a, ![od, os, o, 0] a + ![1, 1, n, B] a ≤ (⟨4, ![2, 2, A, B]⟩ : Shape).size a) (i : Fin n) (R : Fin A) (hR : R.val = o + i.val) (j : Fin B) :
    v.readCov L (Rect.unit (s := ⟨4, ![2, 2, A, B]⟩) ![od, os, o, 0] ![1, 1, n, B] inb).toLoadRect (ix4 (0 : Fin 1) (0 : Fin 1) i j)
      = v.read Val (v.writes Val v.junk L) (ix4 d s R j) :=
  congrArg (v.read Val (v.writes Val v.junk L)) (funext fun a => Fin.ext (by
    match a with
    | ⟨0, _⟩ => show od + 1 * 0 = d.val; omega
    | ⟨1, _⟩ => show os + 1 * 0 = s.val; omega
    | ⟨2, _⟩ => show o + 1 * i.val = R.val; omega
    | ⟨3, _⟩ => show 0 + 1 * j.val = j.val; omega))

end Scratch

/-! ## The decay factors and the keys the scratch buffers hold -/

/-- Row `R` of the decay factors of direction `d`, half `o` of the sequence, column `cc`. -/
def XS (x5 : Vec Ideal S2x2x256 .f32) (z : Vec Ideal S256x256 .f32) (x7 : Vec Ideal S2x1152x128 .bf16) (d o : Fin 2) (R : Fin 1152)
    (cc : Fin 256) : EReal :=
  xOf (fun r => x7 (ix3 d R r)) (fun r => gOf (k0_pay3 x5 (ix2 d cc)) (z (ix2 (row o r) cc)))
/-- The keys of direction `d`, half `o` of the sequence. -/
def KS (x5 : Vec Ideal S2x2x256 .f32) (z : Vec Ideal S256x256 .f32) (d o : Fin 2) (t : Fin 128) (cc : Fin 256) : EReal :=
  kOf (k0_pay3 x5 (ix2 d cc)) (z (ix2 (row o t) cc))

variable (c : Dev nD)
  (arg2 : Memref sig .tc .vmem S256x256 .bf16) (harg2 : arg2.IsWhole) (arg3 : Memref sig .tc .vmem S256x256 .f32) (harg3 : arg3.IsWhole)
  (arg4 : Memref sig .tc .vmem S256x256 .f32) (harg4 : arg4.IsWhole) (arg5 : Memref sig .tc .vmem S256x256 .bf16) (harg5 : arg5.IsWhole)
  (arg6 : Memref sig .tc .vmem S256x256 .bf16) (harg6 : arg6.IsWhole) (arg7 : Memref sig .tc .vmem S2x2x256 .f32) (harg7 : arg7.IsWhole)
  (arg8 : Memref sig .tc .vmem S1x128 .f32) (harg8 : arg8.IsWhole) (arg9 : Memref sig .tc .vmem S2x1152x128 .bf16) (harg9 : arg9.IsWhole)
  (arg10 : Memref sig .tc .vmem S2x8x128x128 .f32) (harg10 : arg10.IsWhole) (arg14 : Memref sig .tc .vmem S256x256 .f32)
  (arg15 : Memref sig .tc .vmem S256x256 .f32) (arg16 : Memref sig .tc .vmem S2x2x128x128 .f32)
  (arg17 : Memref sig .tc .vmem S2x2x1152x256 .f32) (arg18 : Memref sig .tc .vmem S2x2x128x256 .f32)
  (x0 : Vec Ideal S256x256 .bf16) (x1 : Vec Ideal S256x256 .f32) (x2 : Vec Ideal S256x256 .f32) (x3 : Vec Ideal S256x256 .bf16)
  (x4 : Vec Ideal S256x256 .bf16) (x5 : Vec Ideal S2x2x256 .f32) (x6 : Vec Ideal S1x128 .f32) (x7 : Vec Ideal S2x1152x128 .bf16)
  (x8 : Vec Ideal S2x8x128x128 .f32)

/-- The lower bounds, read whole. -/
theorem r_eq : kernelRun0_A.sl.r (F := Ideal) c arg7 harg7 x5 = k0_pay3 x5 :=
  congrArg k0_pay3 (funext fun j => (load_ap arg7 harg7 x5 _ j).trans (congrArg x5 (funext fun a => Fin.ext (by
    match a with
    | ⟨0, _⟩ => show 0 + 1 * (j (0 : Fin 3)).val = (j (0 : Fin 3)).val; omega
    | ⟨1, _⟩ => show 0 + 1 * (j (1 : Fin 3)).val = (j (1 : Fin 3)).val; omega
    | ⟨2, _⟩ => show 0 + 1 * (j (2 : Fin 3)).val = (j (2 : Fin 3)).val; omega))))

/-- The decay factors direction 0 leaves at step 0. -/
theorem x_00 (R : Fin 1152) (cc : Fin 256) :
    arg17.view.read (Elt Ideal) (arg17.view.writes (Elt Ideal) arg17.view.junk (kernelRun0_A.sl.HS3_2 (F := Ideal) c arg3 harg3 arg4 harg4 arg7 harg7 arg9 harg9 x1 x2 x5 x7)) (ix4 (0 : Fin 2) (0 : Fin 2) R cc)
      = XS x5 x1 x7 0 0 R cc := by
  unfold kernelRun0_A.sl.HS3_2
  refine (quad_miss arg17.view _ 0 0 1 0 (by decide) _ _ _ R cc).trans ?_
  refine (quad_hit arg17.view _ 0 0 0 0 rfl rfl _ _ _ R cc).trans ?_
  simp only [kernelRun0_A.sl.r_74, kernelRun0_A.sl.r_75, kernelRun0_A.sl.r_76, kernelRun0_A.sl.r_77, kernelRun0_A.sl.r_78, r_eq, k0_pay8, k0_pay9, k0_pay13, k0_pay14, k0_pay95, k0_pay96, k0_pay97, k0_pay98, k0_pay100, k0_pay101, sc_ab_11ab, sc_11ab, exp_ap, addf_ap, mm_decay, shapeCast_1ab_ab_apply, truncf_ap, extf_ap, subf_ap, log_ap, mulf_ap, divf_ap, bct256, row2 0 0 rfl, row2 1 1 rfl, broadcast_apply, scalar_ap, Ideal.ofBits_zero_f32, Ideal.ofBits_one_f32, load_ap, rows0, rows1, blkA _ 0 0 rfl, blkA _ 1 1 rfl, XS, KS, xOf, gOf, kOf, sgm]

/-- The decay factors direction 0 leaves at step 1. -/
theorem x_01 (R : Fin 1152) (cc : Fin 256) :
    arg17.view.read (Elt Ideal) (arg17.view.writes (Elt Ideal) arg17.view.junk (kernelRun0_A.sl.HS3_4 (F := Ideal) c arg3 harg3 arg4 harg4 arg7 harg7 arg9 harg9 x1 x2 x5 x7)) (ix4 (0 : Fin 2) (1 : Fin 2) R cc)
      = XS x5 x1 x7 0 1 R cc := by
  unfold kernelRun0_A.sl.HS3_4
  refine (quad_miss arg17.view _ 0 1 1 1 (by decide) _ _ _ R cc).trans ?_
  refine (quad_hit arg17.view _ 0 1 0 1 rfl rfl _ _ _ R cc).trans ?_
  simp only [kernelRun0_A.sl.r_74, kernelRun0_A.sl.r_75, kernelRun0_A.sl.r_76, kernelRun0_A.sl.r_77, kernelRun0_A.sl.r_78, r_eq, k0_pay8, k0_pay9, k0_pay13, k0_pay14, k0_pay95, k0_pay96, k0_pay97, k0_pay98, k0_pay100, k0_pay101, sc_ab_11ab, sc_11ab, exp_ap, addf_ap, mm_decay, shapeCast_1ab_ab_apply, truncf_ap, extf_ap, subf_ap, log_ap, mulf_ap, divf_ap, bct256, row2 0 0 rfl, row2 1 1 rfl, broadcast_apply, scalar_ap, Ideal.ofBits_zero_f32, Ideal.ofBits_one_f32, load_ap, rows0, rows1, blkA _ 0 0 rfl, blkA _ 1 1 rfl, XS, KS, xOf, gOf, kOf, sgm]

/-- The decay factors direction 1 leaves at step 0. -/
theorem x_10 (R : Fin 1152) (cc : Fin 256) :
    arg17.view.read (Elt Ideal) (arg17.view.writes (Elt Ideal) arg17.view.junk (kernelRun0_A.sl.HS3_2 (F := Ideal) c arg3 harg3 arg4 harg4 arg7 harg7 arg9 harg9 x1 x2 x5 x7)) (ix4 (1 : Fin 2) (0 : Fin 2) R cc)
      = XS x5 x2 x7 1 1 R cc := by
  unfold kernelRun0_A.sl.HS3_2
  refine (quad_hit arg17.view _ 1 0 1 0 rfl rfl _ _ _ R cc).trans ?_
  simp only [kernelRun0_A.sl.r_74, kernelRun0_A.sl.r_75, kernelRun0_A.sl.r_76, kernelRun0_A.sl.r_77, kernelRun0_A.sl.r_78, r_eq, k0_pay8, k0_pay9, k0_pay13, k0_pay14, k0_pay95, k0_pay96, k0_pay97, k0_pay98, k0_pay100, k0_pay101, sc_ab_11ab, sc_11ab, exp_ap, addf_ap, mm_decay, shapeCast_1ab_ab_apply, truncf_ap, extf_ap, subf_ap, log_ap, mulf_ap, divf_ap, bct256, row2 0 0 rfl, row2 1 1 rfl, broadcast_apply, scalar_ap, Ideal.ofBits_zero_f32, Ideal.ofBits_one_f32, load_ap, rows0, rows1, blkA _ 0 0 rfl, blkA _ 1 1 rfl, XS, KS, xOf, gOf, kOf, sgm]

/-- The decay factors direction 1 leaves at step 1. -/
theorem x_11 (R : Fin 1152) (cc : Fin 256) :
    arg17.view.read (Elt Ideal) (arg17.view.writes (Elt Ideal) arg17.view.junk (kernelRun0_A.sl.HS3_4 (F := Ideal) c arg3 harg3 arg4 harg4 arg7 harg7 arg9 harg9 x1 x2 x5 x7)) (ix4 (1 : Fin 2) (1 : Fin 2) R cc)
      = XS x5 x2 x7 1 0 R cc := by
  unfold kernelRun0_A.sl.HS3_4
  refine (quad_hit arg17.view _ 1 1 1 1 rfl rfl _ _ _ R cc).trans ?_
  simp only [kernelRun0_A.sl.r_74, kernelRun0_A.sl.r_75, kernelRun0_A.sl.r_76, kernelRun0_A.sl.r_77, kernelRun0_A.sl.r_78, r_eq, k0_pay8, k0_pay9, k0_pay13, k0_pay14, k0_pay95, k0_pay96, k0_pay97, k0_pay98, k0_pay100, k0_pay101, sc_ab_11ab, sc_11ab, exp_ap, addf_ap, mm_decay, shapeCast_1ab_ab_apply, truncf_ap, extf_ap, subf_ap, log_ap, mulf_ap, divf_ap, bct256, row2 0 0 rfl, row2 1 1 rfl, broadcast_apply, scalar_ap, Ideal.ofBits_zero_f32, Ideal.ofBits_one_f32, load_ap, rows0, rows1, blkA _ 0 0 rfl, blkA _ 1 1 rfl, XS, KS, xOf, gOf, kOf, sgm]

/-- The keys direction 0 leaves at step 0. -/
theorem k_00 (R : Fin 128) (cc : Fin 256) :
    arg18.view.read (Elt Ideal) (arg18.view.writes (Elt Ideal) arg18.view.junk (kernelRun0_A.sl.HS4_2 (F := Ideal) c arg3 harg3 arg4 harg4 arg7 harg7 x1 x2 x5)) (ix4 (0 : Fin 2) (0 : Fin 2) R cc)
      = KS x5 x1 0 0 R cc := by
  unfold kernelRun0_A.sl.HS4_2
  refine (quad_miss arg18.view _ 0 0 1 0 (by decide) _ _ _ R cc).trans ?_
  refine (quad_hit arg18.view _ 0 0 0 0 rfl rfl _ _ _ R cc).trans ?_
  simp only [kernelRun0_A.sl.r_1, kernelRun0_A.sl.r_2, kernelRun0_A.sl.r_3, kernelRun0_A.sl.r_4, kernelRun0_A.sl.r_73, kernelRun0_A.sl.r_74, kernelRun0_A.sl.r_77, kernelRun0_A.sl.r_78, kernelRun0_A.sl.r_79, r_eq, k0_pay8, k0_pay10, k0_pay11, k0_pay12, k0_pay13, k0_pay15, k0_pay16, k0_pay95, k0_pay99, k0_pay100, k0_pay102, k0_pay103, sc_ab_11ab, sc_11ab, exp_ap, addf_ap, mm_decay, shapeCast_1ab_ab_apply, truncf_ap, extf_ap, subf_ap, log_ap, mulf_ap, divf_ap, bct256, row2 0 0 rfl, row2 1 1 rfl, broadcast_apply, scalar_ap, Ideal.ofBits_zero_f32, Ideal.ofBits_one_f32, load_ap, rows0, rows1, blkA _ 0 0 rfl, blkA _ 1 1 rfl, XS, KS, xOf, gOf, kOf, sgm]

/-- The keys direction 0 leaves at step 1. -/
theorem k_01 (R : Fin 128) (cc : Fin 256) :
    arg18.view.read (Elt Ideal) (arg18.view.writes (Elt Ideal) arg18.view.junk (kernelRun0_A.sl.HS4_4 (F := Ideal) c arg3 harg3 arg4 harg4 arg7 harg7 x1 x2 x5)) (ix4 (0 : Fin 2) (1 : Fin 2) R cc)
      = KS x5 x1 0 1 R cc := by
  unfold kernelRun0_A.sl.HS4_4
  refine (quad_miss arg18.view _ 0 1 1 1 (by decide) _ _ _ R cc).trans ?_
  refine (quad_hit arg18.view _ 0 1 0 1 rfl rfl _ _ _ R cc).trans ?_
  simp only [kernelRun0_A.sl.r_1, kernelRun0_A.sl.r_2, kernelRun0_A.sl.r_3, kernelRun0_A.sl.r_4, kernelRun0_A.sl.r_73, kernelRun0_A.sl.r_74, kernelRun0_A.sl.r_77, kernelRun0_A.sl.r_78, kernelRun0_A.sl.r_79, r_eq, k0_pay8, k0_pay10, k0_pay11, k0_pay12, k0_pay13, k0_pay15, k0_pay16, k0_pay95, k0_pay99, k0_pay100, k0_pay102, k0_pay103, sc_ab_11ab, sc_11ab, exp_ap, addf_ap, mm_decay, shapeCast_1ab_ab_apply, truncf_ap, extf_ap, subf_ap, log_ap, mulf_ap, divf_ap, bct256, row2 0 0 rfl, row2 1 1 rfl, broadcast_apply, scalar_ap, Ideal.ofBits_zero_f32, Ideal.ofBits_one_f32, load_ap, rows0, rows1, blkA _ 0 0 rfl, blkA _ 1 1 rfl, XS, KS, xOf, gOf, kOf, sgm]

/-- The keys direction 1 leaves at step 0. -/
theorem k_10 (R : Fin 128) (cc : Fin 256) :
    arg18.view.read (Elt Ideal) (arg18.view.writes (Elt Ideal) arg18.view.junk (kernelRun0_A.sl.HS4_2 (F := Ideal) c arg3 harg3 arg4 harg4 arg7 harg7 x1 x2 x5)) (ix4 (1 : Fin 2) (0 : Fin 2) R cc)
      = KS x5 x2 1 1 R cc := by
  unfold kernelRun0_A.sl.HS4_2
  refine (quad_hit arg18.view _ 1 0 1 0 rfl rfl _ _ _ R cc).trans ?_
  simp only [kernelRun0_A.sl.r_1, kernelRun0_A.sl.r_2, kernelRun0_A.sl.r_3, kernelRun0_A.sl.r_4, kernelRun0_A.sl.r_73, kernelRun0_A.sl.r_74, kernelRun0_A.sl.r_77, kernelRun0_A.sl.r_78, kernelRun0_A.sl.r_79, r_eq, k0_pay8, k0_pay10, k0_pay11, k0_pay12, k0_pay13, k0_pay15, k0_pay16, k0_pay95, k0_pay99, k0_pay100, k0_pay102, k0_pay103, sc_ab_11ab, sc_11ab, exp_ap, addf_ap, mm_decay, shapeCast_1ab_ab_apply, truncf_ap, extf_ap, subf_ap, log_ap, mulf_ap, divf_ap, bct256, row2 0 0 rfl, row2 1 1 rfl, broadcast_apply, scalar_ap, Ideal.ofBits_zero_f32, Ideal.ofBits_one_f32, load_ap, rows0, rows1, blkA _ 0 0 rfl, blkA _ 1 1 rfl, XS, KS, xOf, gOf, kOf, sgm]

/-- The keys direction 1 leaves at step 1. -/
theorem k_11 (R : Fin 128) (cc : Fin 256) :
    arg18.view.read (Elt Ideal) (arg18.view.writes (Elt Ideal) arg18.view.junk (kernelRun0_A.sl.HS4_4 (F := Ideal) c arg3 harg3 arg4 harg4 arg7 harg7 x1 x2 x5)) (ix4 (1 : Fin 2) (1 : Fin 2) R cc)
      = KS x5 x2 1 0 R cc := by
  unfold kernelRun0_A.sl.HS4_4
  refine (quad_hit arg18.view _ 1 1 1 1 rfl rfl _ _ _ R cc).trans ?_
  simp only [kernelRun0_A.sl.r_1, kernelRun0_A.sl.r_2, kernelRun0_A.sl.r_3, kernelRun0_A.sl.r_4, kernelRun0_A.sl.r_73, kernelRun0_A.sl.r_74, kernelRun0_A.sl.r_77, kernelRun0_A.sl.r_78, kernelRun0_A.sl.r_79, r_eq, k0_pay8, k0_pay10, k0_pay11, k0_pay12, k0_pay13, k0_pay15, k0_pay16, k0_pay95, k0_pay99, k0_pay100, k0_pay102, k0_pay103, sc_ab_11ab, sc_11ab, exp_ap, addf_ap, mm_decay, shapeCast_1ab_ab_apply, truncf_ap, extf_ap, subf_ap, log_ap, mulf_ap, divf_ap, bct256, row2 0 0 rfl, row2 1 1 rfl, broadcast_apply, scalar_ap, Ideal.ofBits_zero_f32, Ideal.ofBits_one_f32, load_ap, rows0, rows1, blkA _ 0 0 rfl, blkA _ 1 1 rfl, XS, KS, xOf, gOf, kOf, sgm]

/-- A load of the decay factors of row block 6: direction 1, step 1. -/
theorem v1002_ap (t : Fin 128) (cc : Fin 256) : kernelRun0_A.sl.v1002 (F := Ideal) c arg3 harg3 arg4 harg4 arg7 harg7 arg9 harg9 arg17 x1 x2 x5 x7 (ix4 (0 : Fin 1) (0 : Fin 1) t cc) = XS x5 x2 x7 1 0 (lvRow 6 t) cc :=
  (quad_load arg17.view _ 1 1 1 1 768 rfl rfl _ t (lvRow 6 t) (by show 128 * 6 + t.val = 768 + t.val; omega) cc).trans (x_11 c arg3 harg3 arg4 harg4 arg7 harg7 arg9 harg9 arg17 x1 x2 x5 x7 (lvRow 6 t) cc)
/-- The load of the keys: direction 0, step 0. -/
theorem v132_ap (t : Fin 128) (cc : Fin 256) : kernelRun0_A.sl.v132 (F := Ideal) c arg3 harg3 arg4 harg4 arg7 harg7 arg18 x1 x2 x5 (ix4 (0 : Fin 1) (0 : Fin 1) t cc) = KS x5 x1 0 0 t cc :=
  (quad_load arg18.view _ 0 0 0 0 0 rfl rfl _ t t (by omega) cc).trans (k_00 c arg3 harg3 arg4 harg4 arg7 harg7 arg18 x1 x2 x5 t cc)
/-- A load of the decay factors of row block 7: direction 0, step 0. -/
theorem v136_ap (t : Fin 128) (cc : Fin 256) : kernelRun0_A.sl.v136 (F := Ideal) c arg3 harg3 arg4 harg4 arg7 harg7 arg9 harg9 arg17 x1 x2 x5 x7 (ix4 (0 : Fin 1) (0 : Fin 1) t cc) = XS x5 x1 x7 0 0 (lvRow 7 t) cc :=
  (quad_load arg17.view _ 0 0 0 0 896 rfl rfl _ t (lvRow 7 t) (by show 128 * 7 + t.val = 896 + t.val; omega) cc).trans (x_00 c arg3 harg3 arg4 harg4 arg7 harg7 arg9 harg9 arg17 x1 x2 x5 x7 (lvRow 7 t) cc)
/-- A load of the decay factors of row block 8: direction 0, step 0. -/
theorem v142_ap (t : Fin 128) (cc : Fin 256) : kernelRun0_A.sl.v142 (F := Ideal) c arg3 harg3 arg4 harg4 arg7 harg7 arg9 harg9 arg17 x1 x2 x5 x7 (ix4 (0 : Fin 1) (0 : Fin 1) t cc) = XS x5 x1 x7 0 0 (lvRow 8 t) cc :=
  (quad_load arg17.view _ 0 0 0 0 1024 rfl rfl _ t (lvRow 8 t) (by show 128 * 8 + t.val = 1024 + t.val; omega) cc).trans (x_00 c arg3 harg3 arg4 harg4 arg7 harg7 arg9 harg9 arg17 x1 x2 x5 x7 (lvRow 8 t) cc)
/-- A load of the decay factors of row block 0: direction 0, step 0. -/
theorem v149_ap (t : Fin 128) (cc : Fin 256) : kernelRun0_A.sl.v149 (F := Ideal) c arg3 harg3 arg4 harg4 arg7 harg7 arg9 harg9 arg17 x1 x2 x5 x7 (ix4 (0 : Fin 1) (0 : Fin 1) t cc) = XS x5 x1 x7 0 0 (lvRow 0 t) cc :=
  (quad_load arg17.view _ 0 0 0 0 0 rfl rfl _ t (lvRow 0 t) (by show 128 * 0 + t.val = 0 + t.val; omega) cc).trans (x_00 c arg3 harg3 arg4 harg4 arg7 harg7 arg9 harg9 arg17 x1 x2 x5 x7 (lvRow 0 t) cc)
/-- A load of the decay factors of row block 1: direction 0, step 0. -/
theorem v153_ap (t : Fin 128) (cc : Fin 256) : kernelRun0_A.sl.v153 (F := Ideal) c arg3 harg3 arg4 harg4 arg7 harg7 arg9 harg9 arg17 x1 x2 x5 x7 (ix4 (0 : Fin 1) (0 : Fin 1) t cc) = XS x5 x1 x7 0 0 (lvRow 1 t) cc :=
  (quad_load arg17.view _ 0 0 0 0 128 rfl rfl _ t (lvRow 1 t) (by show 128 * 1 + t.val = 128 + t.val; omega) cc).trans (x_00 c arg3 harg3 arg4 harg4 arg7 harg7 arg9 harg9 arg17 x1 x2 x5 x7 (lvRow 1 t) cc)
/-- A load of the decay factors of row block 2: direction 0, step 0. -/
theorem v157_ap (t : Fin 128) (cc : Fin 256) : kernelRun0_A.sl.v157 (F := Ideal) c arg3 harg3 arg4 harg4 arg7 harg7 arg9 harg9 arg17 x1 x2 x5 x7 (ix4 (0 : Fin 1) (0 : Fin 1) t cc) = XS x5 x1 x7 0 0 (lvRow 2 t) cc :=
  (quad_load arg17.view _ 0 0 0 0 256 rfl rfl _ t (lvRow 2 t) (by show 128 * 2 + t.val = 256 + t.val; omega) cc).trans (x_00 c arg3 harg3 arg4 harg4 arg7 harg7 arg9 harg9 arg17 x1 x2 x5 x7 (lvRow 2 t) cc)
/-- A load of the decay factors of row block 3: direction 0, step 0. -/
theorem v161_ap (t : Fin 128) (cc : Fin 256) : kernelRun0_A.sl.v161 (F := Ideal) c arg3 harg3 arg4 harg4 arg7 harg7 arg9 harg9 arg17 x1 x2 x5 x7 (ix4 (0 : Fin 1) (0 : Fin 1) t cc) = XS x5 x1 x7 0 0 (lvRow 3 t) cc :=
  (quad_load arg17.view _ 0 0 0 0 384 rfl rfl _ t (lvRow 3 t) (by show 128 * 3 + t.val = 384 + t.val; omega) cc).trans (x_00 c arg3 harg3 arg4 harg4 arg7 harg7 arg9 harg9 arg17 x1 x2 x5 x7 (lvRow 3 t) cc)
/-- A load of the decay factors of row block 4: direction 0, step 0. -/
theorem v165_ap (t : Fin 128) (cc : Fin 256) : kernelRun0_A.sl.v165 (F := Ideal) c arg3 harg3 arg4 harg4 arg7 harg7 arg9 harg9 arg17 x1 x2 x5 x7 (ix4 (0 : Fin 1) (0 : Fin 1) t cc) = XS x5 x1 x7 0 0 (lvRow 4 t) cc :=
  (quad_load arg17.view _ 0 0 0 0 512 rfl rfl _ t (lvRow 4 t) (by show 128 * 4 + t.val = 512 + t.val; omega) cc).trans (x_00 c arg3 harg3 arg4 harg4 arg7 harg7 arg9 harg9 arg17 x1 x2 x5 x7 (lvRow 4 t) cc)
/-- A load of the decay factors of row block 5: direction 0, step 0. -/
theorem v169_ap (t : Fin 128) (cc : Fin 256) : kernelRun0_A.sl.v169 (F := Ideal) c arg3 harg3 arg4 harg4 arg7 harg7 arg9 harg9 arg17 x1 x2 x5 x7 (ix4 (0 : Fin 1) (0 : Fin 1) t cc) = XS x5 x1 x7 0 0 (lvRow 5 t) cc :=
  (quad_load arg17.view _ 0 0 0 0 640 rfl rfl _ t (lvRow 5 t) (by show 128 * 5 + t.val = 640 + t.val; omega) cc).trans (x_00 c arg3 harg3 arg4 harg4 arg7 harg7 arg9 harg9 arg17 x1 x2 x5 x7 (lvRow 5 t) cc)
/-- A load of the decay factors of row block 6: direction 0, step 0. -/
theorem v173_ap (t : Fin 128) (cc : Fin 256) : kernelRun0_A.sl.v173 (F := Ideal) c arg3 harg3 arg4 harg4 arg7 harg7 arg9 harg9 arg17 x1 x2 x5 x7 (ix4 (0 : Fin 1) (0 : Fin 1) t cc) = XS x5 x1 x7 0 0 (lvRow 6 t) cc :=
  (quad_load arg17.view _ 0 0 0 0 768 rfl rfl _ t (lvRow 6 t) (by show 128 * 6 + t.val = 768 + t.val; omega) cc).trans (x_00 c arg3 harg3 arg4 harg4 arg7 harg7 arg9 harg9 arg17 x1 x2 x5 x7 (lvRow 6 t) cc)
/-- The load of the keys: direction 1, step 0. -/
theorem v377_ap (t : Fin 128) (cc : Fin 256) : kernelRun0_A.sl.v377 (F := Ideal) c arg3 harg3 arg4 harg4 arg7 harg7 arg18 x1 x2 x5 (ix4 (0 : Fin 1) (0 : Fin 1) t cc) = KS x5 x2 1 1 t cc :=
  (quad_load arg18.view _ 1 0 1 0 0 rfl rfl _ t t (by omega) cc).trans (k_10 c arg3 harg3 arg4 harg4 arg7 harg7 arg18 x1 x2 x5 t cc)
/-- A load of the decay factors of row block 7: direction 1, step 0. -/
theorem v381_ap (t : Fin 128) (cc : Fin 256) : kernelRun0_A.sl.v381 (F := Ideal) c arg3 harg3 arg4 harg4 arg7 harg7 arg9 harg9 arg17 x1 x2 x5 x7 (ix4 (0 : Fin 1) (0 : Fin 1) t cc) = XS x5 x2 x7 1 1 (lvRow 7 t) cc :=
  (quad_load arg17.view _ 1 0 1 0 896 rfl rfl _ t (lvRow 7 t) (by show 128 * 7 + t.val = 896 + t.val; omega) cc).trans (x_10 c arg3 harg3 arg4 harg4 arg7 harg7 arg9 harg9 arg17 x1 x2 x5 x7 (lvRow 7 t) cc)
/-- A load of the decay factors of row block 8: direction 1, step 0. -/
theorem v387_ap (t : Fin 128) (cc : Fin 256) : kernelRun0_A.sl.v387 (F := Ideal) c arg3 harg3 arg4 harg4 arg7 harg7 arg9 harg9 arg17 x1 x2 x5 x7 (ix4 (0 : Fin 1) (0 : Fin 1) t cc) = XS x5 x2 x7 1 1 (lvRow 8 t) cc :=
  (quad_load arg17.view _ 1 0 1 0 1024 rfl rfl _ t (lvRow 8 t) (by show 128 * 8 + t.val = 1024 + t.val; omega) cc).trans (x_10 c arg3 harg3 arg4 harg4 arg7 harg7 arg9 harg9 arg17 x1 x2 x5 x7 (lvRow 8 t) cc)
/-- A load of the decay factors of row block 0: direction 1, step 0. -/
theorem v394_ap (t : Fin 128) (cc : Fin 256) : kernelRun0_A.sl.v394 (F := Ideal) c arg3 harg3 arg4 harg4 arg7 harg7 arg9 harg9 arg17 x1 x2 x5 x7 (ix4 (0 : Fin 1) (0 : Fin 1) t cc) = XS x5 x2 x7 1 1 (lvRow 0 t) cc :=
  (quad_load arg17.view _ 1 0 1 0 0 rfl rfl _ t (lvRow 0 t) (by show 128 * 0 + t.val = 0 + t.val; omega) cc).trans (x_10 c arg3 harg3 arg4 harg4 arg7 harg7 arg9 harg9 arg17 x1 x2 x5 x7 (lvRow 0 t) cc)
/-- A load of the decay factors of row block 1: direction 1, step 0. -/
theorem v398_ap (t : Fin 128) (cc : Fin 256) : kernelRun0_A.sl.v398 (F := Ideal) c arg3 harg3 arg4 harg4 arg7 harg7 arg9 harg9 arg17 x1 x2 x5 x7 (ix4 (0 : Fin 1) (0 : Fin 1) t cc) = XS x5 x2 x7 1 1 (lvRow 1 t) cc :=
  (quad_load arg17.view _ 1 0 1 0 128 rfl rfl _ t (lvRow 1 t) (by show 128 * 1 + t.val = 128 + t.val; omega) cc).trans (x_10 c arg3 harg3 arg4 harg4 arg7 harg7 arg9 harg9 arg17 x1 x2 x5 x7 (lvRow 1 t) cc)
/-- A load of the decay factors of row block 2: direction 1, step 0. -/
theorem v402_ap (t : Fin 128) (cc : Fin 256) : kernelRun0_A.sl.v402 (F := Ideal) c arg3 harg3 arg4 harg4 arg7 harg7 arg9 harg9 arg17 x1 x2 x5 x7 (ix4 (0 : Fin 1) (0 : Fin 1) t cc) = XS x5 x2 x7 1 1 (lvRow 2 t) cc :=
  (quad_load arg17.view _ 1 0 1 0 256 rfl rfl _ t (lvRow 2 t) (by show 128 * 2 + t.val = 256 + t.val; omega) cc).trans (x_10 c arg3 harg3 arg4 harg4 arg7 harg7 arg9 harg9 arg17 x1 x2 x5 x7 (lvRow 2 t) cc)
/-- A load of the decay factors of row block 3: direction 1, step 0. -/
theorem v406_ap (t : Fin 128) (cc : Fin 256) : kernelRun0_A.sl.v406 (F := Ideal) c arg3 harg3 arg4 harg4 arg7 harg7 arg9 harg9 arg17 x1 x2 x5 x7 (ix4 (0 : Fin 1) (0 : Fin 1) t cc) = XS x5 x2 x7 1 1 (lvRow 3 t) cc :=
  (quad_load arg17.view _ 1 0 1 0 384 rfl rfl _ t (lvRow 3 t) (by show 128 * 3 + t.val = 384 + t.val; omega) cc).trans (x_10 c arg3 harg3 arg4 harg4 arg7 harg7 arg9 harg9 arg17 x1 x2 x5 x7 (lvRow 3 t) cc)
/-- A load of the decay factors of row block 4: direction 1, step 0. -/
theorem v410_ap (t : Fin 128) (cc : Fin 256) : kernelRun0_A.sl.v410 (F := Ideal) c arg3 harg3 arg4 harg4 arg7 harg7 arg9 harg9 arg17 x1 x2 x5 x7 (ix4 (0 : Fin 1) (0 : Fin 1) t cc) = XS x5 x2 x7 1 1 (lvRow 4 t) cc :=
  (quad_load arg17.view _ 1 0 1 0 512 rfl rfl _ t (lvRow 4 t) (by show 128 * 4 + t.val = 512 + t.val; omega) cc).trans (x_10 c arg3 harg3 arg4 harg4 arg7 harg7 arg9 harg9 arg17 x1 x2 x5 x7 (lvRow 4 t) cc)
/-- A load of the decay factors of row block 5: direction 1, step 0. -/
theorem v414_ap (t : Fin 128) (cc : Fin 256) : kernelRun0_A.sl.v414 (F := Ideal) c arg3 harg3 arg4 harg4 arg7 harg7 arg9 harg9 arg17 x1 x2 x5 x7 (ix4 (0 : Fin 1) (0 : Fin 1) t cc) = XS x5 x2 x7 1 1 (lvRow 5 t) cc :=
  (quad_load arg17.view _ 1 0 1 0 640 rfl rfl _ t (lvRow 5 t) (by show 128 * 5 + t.val = 640 + t.val; omega) cc).trans (x_10 c arg3 harg3 arg4 harg4 arg7 harg7 arg9 harg9 arg17 x1 x2 x5 x7 (lvRow 5 t) cc)
/-- A load of the decay factors of row block 6: direction 1, step 0. -/
theorem v418_ap (t : Fin 128) (cc : Fin 256) : kernelRun0_A.sl.v418 (F := Ideal) c arg3 harg3 arg4 harg4 arg7 harg7 arg9 harg9 arg17 x1 x2 x5 x7 (ix4 (0 : Fin 1) (0 : Fin 1) t cc) = XS x5 x2 x7 1 1 (lvRow 6 t) cc :=
  (quad_load arg17.view _ 1 0 1 0 768 rfl rfl _ t (lvRow 6 t) (by show 128 * 6 + t.val = 768 + t.val; omega) cc).trans (x_10 c arg3 harg3 arg4 harg4 arg7 harg7 arg9 harg9 arg17 x1 x2 x5 x7 (lvRow 6 t) cc)
/-- The load of the keys: direction 0, step 1. -/
theorem v716_ap (t : Fin 128) (cc : Fin 256) : kernelRun0_A.sl.v716 (F := Ideal) c arg3 harg3 arg4 harg4 arg7 harg7 arg18 x1 x2 x5 (ix4 (0 : Fin 1) (0 : Fin 1) t cc) = KS x5 x1 0 1 t cc :=
  (quad_load arg18.view _ 0 1 0 1 0 rfl rfl _ t t (by omega) cc).trans (k_01 c arg3 harg3 arg4 harg4 arg7 harg7 arg18 x1 x2 x5 t cc)
/-- A load of the decay factors of row block 7: direction 0, step 1. -/
theorem v720_ap (t : Fin 128) (cc : Fin 256) : kernelRun0_A.sl.v720 (F := Ideal) c arg3 harg3 arg4 harg4 arg7 harg7 arg9 harg9 arg17 x1 x2 x5 x7 (ix4 (0 : Fin 1) (0 : Fin 1) t cc) = XS x5 x1 x7 0 1 (lvRow 7 t) cc :=
  (quad_load arg17.view _ 0 1 0 1 896 rfl rfl _ t (lvRow 7 t) (by show 128 * 7 + t.val = 896 + t.val; omega) cc).trans (x_01 c arg3 harg3 arg4 harg4 arg7 harg7 arg9 harg9 arg17 x1 x2 x5 x7 (lvRow 7 t) cc)
/-- A load of the decay factors of row block 8: direction 0, step 1. -/
theorem v726_ap (t : Fin 128) (cc : Fin 256) : kernelRun0_A.sl.v726 (F := Ideal) c arg3 harg3 arg4 harg4 arg7 harg7 arg9 harg9 arg17 x1 x2 x5 x7 (ix4 (0 : Fin 1) (0 : Fin 1) t cc) = XS x5 x1 x7 0 1 (lvRow 8 t) cc :=
  (quad_load arg17.view _ 0 1 0 1 1024 rfl rfl _ t (lvRow 8 t) (by show 128 * 8 + t.val = 1024 + t.val; omega) cc).trans (x_01 c arg3 harg3 arg4 harg4 arg7 harg7 arg9 harg9 arg17 x1 x2 x5 x7 (lvRow 8 t) cc)
/-- A load of the decay factors of row block 0: direction 0, step 1. -/
theorem v733_ap (t : Fin 128) (cc : Fin 256) : kernelRun0_A.sl.v733 (F := Ideal) c arg3 harg3 arg4 harg4 arg7 harg7 arg9 harg9 arg17 x1 x2 x5 x7 (ix4 (0 : Fin 1) (0 : Fin 1) t cc) = XS x5 x1 x7 0 1 (lvRow 0 t) cc :=
  (quad_load arg17.view _ 0 1 0 1 0 rfl rfl _ t (lvRow 0 t) (by show 128 * 0 + t.val = 0 + t.val; omega) cc).trans (x_01 c arg3 harg3 arg4 harg4 arg7 harg7 arg9 harg9 arg17 x1 x2 x5 x7 (lvRow 0 t) cc)
/-- A load of the decay factors of row block 1: direction 0, step 1. -/
theorem v737_ap (t : Fin 128) (cc : Fin 256) : kernelRun0_A.sl.v737 (F := Ideal) c arg3 harg3 arg4 harg4 arg7 harg7 arg9 harg9 arg17 x1 x2 x5 x7 (ix4 (0 : Fin 1) (0 : Fin 1) t cc) = XS x5 x1 x7 0 1 (lvRow 1 t) cc :=
  (quad_load arg17.view _ 0 1 0 1 128 rfl rfl _ t (lvRow 1 t) (by show 128 * 1 + t.val = 128 + t.val; omega) cc).trans (x_01 c arg3 harg3 arg4 harg4 arg7 harg7 arg9 harg9 arg17 x1 x2 x5 x7 (lvRow 1 t) cc)
/-- A load of the decay factors of row block 2: direction 0, step 1. -/
theorem v741_ap (t : Fin 128) (cc : Fin 256) : kernelRun0_A.sl.v741 (F := Ideal) c arg3 harg3 arg4 harg4 arg7 harg7 arg9 harg9 arg17 x1 x2 x5 x7 (ix4 (0 : Fin 1) (0 : Fin 1) t cc) = XS x5 x1 x7 0 1 (lvRow 2 t) cc :=
  (quad_load arg17.view _ 0 1 0 1 256 rfl rfl _ t (lvRow 2 t) (by show 128 * 2 + t.val = 256 + t.val; omega) cc).trans (x_01 c arg3 harg3 arg4 harg4 arg7 harg7 arg9 harg9 arg17 x1 x2 x5 x7 (lvRow 2 t) cc)
/-- A load of the decay factors of row block 3: direction 0, step 1. -/
theorem v745_ap (t : Fin 128) (cc : Fin 256) : kernelRun0_A.sl.v745 (F := Ideal) c arg3 harg3 arg4 harg4 arg7 harg7 arg9 harg9 arg17 x1 x2 x5 x7 (ix4 (0 : Fin 1) (0 : Fin 1) t cc) = XS x5 x1 x7 0 1 (lvRow 3 t) cc :=
  (quad_load arg17.view _ 0 1 0 1 384 rfl rfl _ t (lvRow 3 t) (by show 128 * 3 + t.val = 384 + t.val; omega) cc).trans (x_01 c arg3 harg3 arg4 harg4 arg7 harg7 arg9 harg9 arg17 x1 x2 x5 x7 (lvRow 3 t) cc)
/-- A load of the decay factors of row block 4: direction 0, step 1. -/
theorem v749_ap (t : Fin 128) (cc : Fin 256) : kernelRun0_A.sl.v749 (F := Ideal) c arg3 harg3 arg4 harg4 arg7 harg7 arg9 harg9 arg17 x1 x2 x5 x7 (ix4 (0 : Fin 1) (0 : Fin 1) t cc) = XS x5 x1 x7 0 1 (lvRow 4 t) cc :=
  (quad_load arg17.view _ 0 1 0 1 512 rfl rfl _ t (lvRow 4 t) (by show 128 * 4 + t.val = 512 + t.val; omega) cc).trans (x_01 c arg3 harg3 arg4 harg4 arg7 harg7 arg9 harg9 arg17 x1 x2 x5 x7 (lvRow 4 t) cc)
/-- A load of the decay factors of row block 5: direction 0, step 1. -/
theorem v753_ap (t : Fin 128) (cc : Fin 256) : kernelRun0_A.sl.v753 (F := Ideal) c arg3 harg3 arg4 harg4 arg7 harg7 arg9 harg9 arg17 x1 x2 x5 x7 (ix4 (0 : Fin 1) (0 : Fin 1) t cc) = XS x5 x1 x7 0 1 (lvRow 5 t) cc :=
  (quad_load arg17.view _ 0 1 0 1 640 rfl rfl _ t (lvRow 5 t) (by show 128 * 5 + t.val = 640 + t.val; omega) cc).trans (x_01 c arg3 harg3 arg4 harg4 arg7 harg7 arg9 harg9 arg17 x1 x2 x5 x7 (lvRow 5 t) cc)
/-- A load of the decay factors of row block 6: direction 0, step 1. -/
theorem v757_ap (t : Fin 128) (cc : Fin 256) : kernelRun0_A.sl.v757 (F := Ideal) c arg3 harg3 arg4 harg4 arg7 harg7 arg9 harg9 arg17 x1 x2 x5 x7 (ix4 (0 : Fin 1) (0 : Fin 1) t cc) = XS x5 x1 x7 0 1 (lvRow 6 t) cc :=
  (quad_load arg17.view _ 0 1 0 1 768 rfl rfl _ t (lvRow 6 t) (by show 128 * 6 + t.val = 768 + t.val; omega) cc).trans (x_01 c arg3 harg3 arg4 harg4 arg7 harg7 arg9 harg9 arg17 x1 x2 x5 x7 (lvRow 6 t) cc)
/-- The load of the keys: direction 1, step 1. -/
theorem v961_ap (t : Fin 128) (cc : Fin 256) : kernelRun0_A.sl.v961 (F := Ideal) c arg3 harg3 arg4 harg4 arg7 harg7 arg18 x1 x2 x5 (ix4 (0 : Fin 1) (0 : Fin 1) t cc) = KS x5 x2 1 0 t cc :=
  (quad_load arg18.view _ 1 1 1 1 0 rfl rfl _ t t (by omega) cc).trans (k_11 c arg3 harg3 arg4 harg4 arg7 harg7 arg18 x1 x2 x5 t cc)
/-- A load of the decay factors of row block 7: direction 1, step 1. -/
theorem v965_ap (t : Fin 128) (cc : Fin 256) : kernelRun0_A.sl.v965 (F := Ideal) c arg3 harg3 arg4 harg4 arg7 harg7 arg9 harg9 arg17 x1 x2 x5 x7 (ix4 (0 : Fin 1) (0 : Fin 1) t cc) = XS x5 x2 x7 1 0 (lvRow 7 t) cc :=
  (quad_load arg17.view _ 1 1 1 1 896 rfl rfl _ t (lvRow 7 t) (by show 128 * 7 + t.val = 896 + t.val; omega) cc).trans (x_11 c arg3 harg3 arg4 harg4 arg7 harg7 arg9 harg9 arg17 x1 x2 x5 x7 (lvRow 7 t) cc)
/-- A load of the decay factors of row block 8: direction 1, step 1. -/
theorem v971_ap (t : Fin 128) (cc : Fin 256) : kernelRun0_A.sl.v971 (F := Ideal) c arg3 harg3 arg4 harg4 arg7 harg7 arg9 harg9 arg17 x1 x2 x5 x7 (ix4 (0 : Fin 1) (0 : Fin 1) t cc) = XS x5 x2 x7 1 0 (lvRow 8 t) cc :=
  (quad_load arg17.view _ 1 1 1 1 1024 rfl rfl _ t (lvRow 8 t) (by show 128 * 8 + t.val = 1024 + t.val; omega) cc).trans (x_11 c arg3 harg3 arg4 harg4 arg7 harg7 arg9 harg9 arg17 x1 x2 x5 x7 (lvRow 8 t) cc)
/-- A load of the decay factors of row block 0: direction 1, step 1. -/
theorem v978_ap (t : Fin 128) (cc : Fin 256) : kernelRun0_A.sl.v978 (F := Ideal) c arg3 harg3 arg4 harg4 arg7 harg7 arg9 harg9 arg17 x1 x2 x5 x7 (ix4 (0 : Fin 1) (0 : Fin 1) t cc) = XS x5 x2 x7 1 0 (lvRow 0 t) cc :=
  (quad_load arg17.view _ 1 1 1 1 0 rfl rfl _ t (lvRow 0 t) (by show 128 * 0 + t.val = 0 + t.val; omega) cc).trans (x_11 c arg3 harg3 arg4 harg4 arg7 harg7 arg9 harg9 arg17 x1 x2 x5 x7 (lvRow 0 t) cc)
/-- A load of the decay factors of row block 1: direction 1, step 1. -/
theorem v982_ap (t : Fin 128) (cc : Fin 256) : kernelRun0_A.sl.v982 (F := Ideal) c arg3 harg3 arg4 harg4 arg7 harg7 arg9 harg9 arg17 x1 x2 x5 x7 (ix4 (0 : Fin 1) (0 : Fin 1) t cc) = XS x5 x2 x7 1 0 (lvRow 1 t) cc :=
  (quad_load arg17.view _ 1 1 1 1 128 rfl rfl _ t (lvRow 1 t) (by show 128 * 1 + t.val = 128 + t.val; omega) cc).trans (x_11 c arg3 harg3 arg4 harg4 arg7 harg7 arg9 harg9 arg17 x1 x2 x5 x7 (lvRow 1 t) cc)
/-- A load of the decay factors of row block 2: direction 1, step 1. -/
theorem v986_ap (t : Fin 128) (cc : Fin 256) : kernelRun0_A.sl.v986 (F := Ideal) c arg3 harg3 arg4 harg4 arg7 harg7 arg9 harg9 arg17 x1 x2 x5 x7 (ix4 (0 : Fin 1) (0 : Fin 1) t cc) = XS x5 x2 x7 1 0 (lvRow 2 t) cc :=
  (quad_load arg17.view _ 1 1 1 1 256 rfl rfl _ t (lvRow 2 t) (by show 128 * 2 + t.val = 256 + t.val; omega) cc).trans (x_11 c arg3 harg3 arg4 harg4 arg7 harg7 arg9 harg9 arg17 x1 x2 x5 x7 (lvRow 2 t) cc)
/-- A load of the decay factors of row block 3: direction 1, step 1. -/
theorem v990_ap (t : Fin 128) (cc : Fin 256) : kernelRun0_A.sl.v990 (F := Ideal) c arg3 harg3 arg4 harg4 arg7 harg7 arg9 harg9 arg17 x1 x2 x5 x7 (ix4 (0 : Fin 1) (0 : Fin 1) t cc) = XS x5 x2 x7 1 0 (lvRow 3 t) cc :=
  (quad_load arg17.view _ 1 1 1 1 384 rfl rfl _ t (lvRow 3 t) (by show 128 * 3 + t.val = 384 + t.val; omega) cc).trans (x_11 c arg3 harg3 arg4 harg4 arg7 harg7 arg9 harg9 arg17 x1 x2 x5 x7 (lvRow 3 t) cc)
/-- A load of the decay factors of row block 4: direction 1, step 1. -/
theorem v994_ap (t : Fin 128) (cc : Fin 256) : kernelRun0_A.sl.v994 (F := Ideal) c arg3 harg3 arg4 harg4 arg7 harg7 arg9 harg9 arg17 x1 x2 x5 x7 (ix4 (0 : Fin 1) (0 : Fin 1) t cc) = XS x5 x2 x7 1 0 (lvRow 4 t) cc :=
  (quad_load arg17.view _ 1 1 1 1 512 rfl rfl _ t (lvRow 4 t) (by show 128 * 4 + t.val = 512 + t.val; omega) cc).trans (x_11 c arg3 harg3 arg4 harg4 arg7 harg7 arg9 harg9 arg17 x1 x2 x5 x7 (lvRow 4 t) cc)
/-- A load of the decay factors of row block 5: direction 1, step 1. -/
theorem v998_ap (t : Fin 128) (cc : Fin 256) : kernelRun0_A.sl.v998 (F := Ideal) c arg3 harg3 arg4 harg4 arg7 harg7 arg9 harg9 arg17 x1 x2 x5 x7 (ix4 (0 : Fin 1) (0 : Fin 1) t cc) = XS x5 x2 x7 1 0 (lvRow 5 t) cc :=
  (quad_load arg17.view _ 1 1 1 1 640 rfl rfl _ t (lvRow 5 t) (by show 128 * 5 + t.val = 640 + t.val; omega) cc).trans (x_11 c arg3 harg3 arg4 harg4 arg7 harg7 arg9 harg9 arg17 x1 x2 x5 x7 (lvRow 5 t) cc)

end Cert.Hgrn

end
-- ==== Proof.States.lean ====
module

public import proofs.«01_k».proof.Proof.Decay

@[expose] public section

set_option maxRecDepth 16384

noncomputable section

namespace Cert.Hgrn

open Idealize.ShloMosaic Idealize.ShloMosaic.TcCoe Idealize.ShloMosaic.ValueIdx
open Cert.KernelIdeal Cert.KernelIdeal.Gen
open scoped BigOperators

/-! ## One cell of the layer's tiling -/

/-- The attention weights of one chunk: the diagonal and the seven dyadic levels, each masked. -/
def attOf (M : Fin 8 → Fin 128 → Fin 128 → EReal) (Q K : Fin 128 → Fin 128 → EReal) (X : Fin 9 → Fin 128 → Fin 128 → EReal)
    (t s : Fin 128) : EReal :=
  M 7 t s * (∑ d, Q t d * K s d)
    + M 0 t s * (∑ d, Q t d * X 0 t d * (K s d * X 0 s d))
    + M 1 t s * (∑ d, Q t d * X 1 t d * (K s d * X 1 s d))
    + M 2 t s * (∑ d, Q t d * X 2 t d * (K s d * X 2 s d))
    + M 3 t s * (∑ d, Q t d * X 3 t d * (K s d * X 3 s d))
    + M 4 t s * (∑ d, Q t d * X 4 t d * (K s d * X 4 s d))
    + M 5 t s * (∑ d, Q t d * X 5 t d * (K s d * X 5 s d))
    + M 6 t s * (∑ d, Q t d * X 6 t d * (K s d * X 6 s d))

/-- The outputs of one chunk: the weights against the values, and the carried state read with the decayed query. -/
def outOf (M : Fin 8 → Fin 128 → Fin 128 → EReal) (Q K : Fin 128 → Fin 128 → EReal) (X : Fin 9 → Fin 128 → Fin 128 → EReal)
    (V St : Fin 128 → Fin 128 → EReal) (t e : Fin 128) : EReal :=
  (∑ s, attOf M Q K X t s * V s e) + ∑ d, Q t d * X 7 t d * St e d

/-- The state after one chunk: the carried state decayed, and the chunk's keys and values. -/
def stOf (last : Fin 128) (K : Fin 128 → Fin 128 → EReal) (X : Fin 9 → Fin 128 → Fin 128 → EReal) (V St : Fin 128 → Fin 128 → EReal)
    (e d : Fin 128) : EReal :=
  X 7 last d * St e d + ((∑ t, V t e * (K t d * X 8 t d)) + ∑ t, V t e * (K t d * X 8 t d - K t d * X 8 t d))

/-- The queries of half `o`, head `hh`. -/
def cellQ (x0 : Vec Ideal S256x256 .bf16) (o hh : Fin 2) (t d : Fin 128) : EReal := qOf (x0 (ix2 (row o t) (row hh d)))
/-- The keys of direction `d`, half `o`, head `hh`. -/
def cellK (x5 : Vec Ideal S2x2x256 .f32) (z : Vec Ideal S256x256 .f32) (d o hh : Fin 2) (t dd : Fin 128) : EReal :=
  KS x5 z d o t (row hh dd)
/-- The decay factors of direction `d`, half `o`, head `hh`. -/
def cellX (x5 : Vec Ideal S2x2x256 .f32) (z : Vec Ideal S256x256 .f32) (x7 : Vec Ideal S2x1152x128 .bf16) (d o hh : Fin 2)
    (i : Fin 9) (t dd : Fin 128) : EReal := XS x5 z x7 d o (lvRow i t) (row hh dd)
/-- The values of half `o`, head `hh`. -/
def cellV (x3 : Vec Ideal S256x256 .bf16) (o hh : Fin 2) (t e : Fin 128) : EReal := x3 (ix2 (row o t) (row hh e))
/-- The masks of direction `d`. -/
def cellM (x8 : Vec Ideal S2x8x128x128 .f32) (d : Fin 2) (i : Fin 8) (t s : Fin 128) : EReal := x8 (ix4 d i t s)

/-- The state direction `d` carries from its first half, `o`, to its second. -/
def St1 (last : Fin 128) (x3 : Vec Ideal S256x256 .bf16) (x5 : Vec Ideal S2x2x256 .f32) (z : Vec Ideal S256x256 .f32)
    (x7 : Vec Ideal S2x1152x128 .bf16) (d o hh : Fin 2) (e dd : Fin 128) : EReal :=
  stOf last (cellK x5 z d o hh) (cellX x5 z x7 d o hh) (cellV x3 o hh) (fun _ _ => 0) e dd
/-- The state direction `d` ends with, after its second half `o'`. -/
def St2 (last : Fin 128) (x3 : Vec Ideal S256x256 .bf16) (x5 : Vec Ideal S2x2x256 .f32) (z : Vec Ideal S256x256 .f32)
    (x7 : Vec Ideal S2x1152x128 .bf16) (d o o' hh : Fin 2) (e dd : Fin 128) : EReal :=
  stOf last (cellK x5 z d o' hh) (cellX x5 z x7 d o' hh) (cellV x3 o' hh) (St1 last x3 x5 z x7 d o hh) e dd
/-- The outputs of direction `d` on its first half `o`. -/
def O1 (x0 x3 : Vec Ideal S256x256 .bf16) (x5 : Vec Ideal S2x2x256 .f32) (z : Vec Ideal S256x256 .f32)
    (x7 : Vec Ideal S2x1152x128 .bf16) (x8 : Vec Ideal S2x8x128x128 .f32) (d o hh : Fin 2) (t e : Fin 128) : EReal :=
  outOf (cellM x8 d) (cellQ x0 o hh) (cellK x5 z d o hh) (cellX x5 z x7 d o hh) (cellV x3 o hh) (fun _ _ => 0) t e
/-- The outputs of direction `d` on its second half `o'`. -/
def O2 (last : Fin 128) (x0 x3 : Vec Ideal S256x256 .bf16) (x5 : Vec Ideal S2x2x256 .f32) (z : Vec Ideal S256x256 .f32)
    (x7 : Vec Ideal S2x1152x128 .bf16) (x8 : Vec Ideal S2x8x128x128 .f32) (d o o' hh : Fin 2) (t e : Fin 128) : EReal :=
  outOf (cellM x8 d) (cellQ x0 o' hh) (cellK x5 z d o' hh) (cellX x5 z x7 d o' hh) (cellV x3 o' hh) (St1 last x3 x5 z x7 d o hh) t e

variable (c : Dev nD)
  (arg2 : Memref sig .tc .vmem S256x256 .bf16) (harg2 : arg2.IsWhole) (arg3 : Memref sig .tc .vmem S256x256 .f32) (harg3 : arg3.IsWhole)
  (arg4 : Memref sig .tc .vmem S256x256 .f32) (harg4 : arg4.IsWhole) (arg5 : Memref sig .tc .vmem S256x256 .bf16) (harg5 : arg5.IsWhole)
  (arg6 : Memref sig .tc .vmem S256x256 .bf16) (harg6 : arg6.IsWhole) (arg7 : Memref sig .tc .vmem S2x2x256 .f32) (harg7 : arg7.IsWhole)
  (arg8 : Memref sig .tc .vmem S1x128 .f32) (harg8 : arg8.IsWhole) (arg9 : Memref sig .tc .vmem S2x1152x128 .bf16) (harg9 : arg9.IsWhole)
  (arg10 : Memref sig .tc .vmem S2x8x128x128 .f32) (harg10 : arg10.IsWhole) (arg14 : Memref sig .tc .vmem S256x256 .f32)
  (arg15 : Memref sig .tc .vmem S256x256 .f32) (arg16 : Memref sig .tc .vmem S2x2x128x128 .f32)
  (arg17 : Memref sig .tc .vmem S2x2x1152x256 .f32) (arg18 : Memref sig .tc .vmem S2x2x128x256 .f32)
  (x0 : Vec Ideal S256x256 .bf16) (x1 : Vec Ideal S256x256 .f32) (x2 : Vec Ideal S256x256 .f32) (x3 : Vec Ideal S256x256 .bf16)
  (x4 : Vec Ideal S256x256 .bf16) (x5 : Vec Ideal S2x2x256 .f32) (x6 : Vec Ideal S1x128 .f32) (x7 : Vec Ideal S2x1152x128 .bf16)
  (x8 : Vec Ideal S2x8x128x128 .f32)

/-- The state block of direction 0, head 0, as read in step 1. -/
theorem v260_ap (e dd : Fin 128) : kernelRun0_A.sl.v260 (F := Ideal) c arg16 (ix4 (0 : Fin 1) (0 : Fin 1) e dd) = 0 := by
  refine (quad_load arg16.view _ 0 0 0 0 0 rfl rfl _ e e (by omega) dd).trans ?_
  unfold kernelRun0_A.sl.HS2_4
  refine (quad_miss arg16.view _ 0 0 1 1 (by decide) _ _ _ e dd).trans ?_
  refine (quad_miss arg16.view _ 0 0 1 0 (by decide) _ _ _ e dd).trans ?_
  refine (quad_miss arg16.view _ 0 0 0 1 (by decide) _ _ _ e dd).trans ?_
  refine (quad_hit arg16.view _ 0 0 0 0 rfl rfl _ _ _ e dd).trans ?_
  simp only [k0_pay4, k0_pay5, k0_pay6, k0_pay7, sc_ab_11ab, broadcast_apply, scalar_ap, Ideal.ofBits_zero_f32]

/-- The state direction 0, head 0, writes in step 1. -/
theorem st1_00 (e dd : Fin 128) : k0_pay47 (kernelRun0_A.sl.r_12 (F := Ideal) c arg3 harg3 arg4 harg4 arg7 harg7 arg9 harg9 arg17 arg18 x1 x2 x5 x7) (kernelRun0_A.sl.r_13 (F := Ideal) c arg3 harg3 arg4 harg4 arg7 harg7 arg9 harg9 arg17 arg18 x1 x2 x5 x7) (kernelRun0_A.sl.r_31 (F := Ideal) c arg16) (kernelRun0_A.sl.r_32 (F := Ideal) c arg5 harg5 x3) (kernelRun0_A.sl.r_33 (F := Ideal) c arg3 harg3 arg4 harg4 arg7 harg7 arg9 harg9 arg17 x1 x2 x5 x7) (ix4 (0 : Fin 1) (0 : Fin 1) e dd)
    = St1 127 x3 x5 x1 x7 0 0 0 e dd := by
  simp only [kernelRun0_A.sl.r_12, kernelRun0_A.sl.r_6, kernelRun0_A.sl.r_13, kernelRun0_A.sl.r_31, kernelRun0_A.sl.r_32, kernelRun0_A.sl.r_7, kernelRun0_A.sl.r_33, kernelRun0_A.sl.r_8, k0_pay47, k0_pay24, k0_pay23, k0_pay18, k0_pay25, k0_pay43, k0_pay44, k0_pay46, k0_pay19, v132_ap, v142_ap, v260_ap, v136_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, St1, outOf, attOf, stOf, cellM, cellQ, cellK, cellX, cellV, qOf, sgm]

/-- The state block of direction 0, head 1, as read in step 1. -/
theorem v340_ap (e dd : Fin 128) : kernelRun0_A.sl.v340 (F := Ideal) c arg3 harg3 arg4 harg4 arg5 harg5 arg7 harg7 arg9 harg9 arg16 arg17 arg18 x1 x2 x3 x5 x7 (ix4 (0 : Fin 1) (0 : Fin 1) e dd) = 0 := by
  refine (quad_load arg16.view _ 0 1 0 1 0 rfl rfl _ e e (by omega) dd).trans ?_
  unfold kernelRun0_A.sl.HS2_5
  refine (quad_miss arg16.view _ 0 1 0 0 (by decide) _ _ _ e dd).trans ?_
  unfold kernelRun0_A.sl.HS2_4
  refine (quad_miss arg16.view _ 0 1 1 1 (by decide) _ _ _ e dd).trans ?_
  refine (quad_miss arg16.view _ 0 1 1 0 (by decide) _ _ _ e dd).trans ?_
  refine (quad_hit arg16.view _ 0 1 0 1 rfl rfl _ _ _ e dd).trans ?_
  simp only [k0_pay4, k0_pay5, k0_pay6, k0_pay7, sc_ab_11ab, broadcast_apply, scalar_ap, Ideal.ofBits_zero_f32]

/-- The state direction 0, head 1, writes in step 1. -/
theorem st1_01 (e dd : Fin 128) : k0_pay56 (kernelRun0_A.sl.r_8 (F := Ideal) c arg3 harg3 arg4 harg4 arg7 harg7 arg9 harg9 arg17 x1 x2 x5 x7) (kernelRun0_A.sl.r_12 (F := Ideal) c arg3 harg3 arg4 harg4 arg7 harg7 arg9 harg9 arg17 arg18 x1 x2 x5 x7) (kernelRun0_A.sl.r_13 (F := Ideal) c arg3 harg3 arg4 harg4 arg7 harg7 arg9 harg9 arg17 arg18 x1 x2 x5 x7) (kernelRun0_A.sl.r_38 (F := Ideal) c arg3 harg3 arg4 harg4 arg5 harg5 arg7 harg7 arg9 harg9 arg16 arg17 arg18 x1 x2 x3 x5 x7) (kernelRun0_A.sl.r_39 (F := Ideal) c arg5 harg5 x3) (ix4 (0 : Fin 1) (0 : Fin 1) e dd)
    = St1 127 x3 x5 x1 x7 0 0 1 e dd := by
  simp only [kernelRun0_A.sl.r_8, kernelRun0_A.sl.r_12, kernelRun0_A.sl.r_6, kernelRun0_A.sl.r_13, kernelRun0_A.sl.r_38, kernelRun0_A.sl.r_39, kernelRun0_A.sl.r_7, k0_pay56, k0_pay19, k0_pay24, k0_pay23, k0_pay18, k0_pay25, k0_pay52, k0_pay53, v136_ap, v132_ap, v142_ap, v340_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, St1, outOf, attOf, stOf, cellM, cellQ, cellK, cellX, cellV, qOf, sgm]

/-- The state block of direction 1, head 0, as read in step 1. -/
theorem v505_ap (e dd : Fin 128) : kernelRun0_A.sl.v505 (F := Ideal) c arg3 harg3 arg4 harg4 arg5 harg5 arg7 harg7 arg9 harg9 arg16 arg17 arg18 x1 x2 x3 x5 x7 (ix4 (0 : Fin 1) (0 : Fin 1) e dd) = 0 := by
  refine (quad_load arg16.view _ 1 0 1 0 0 rfl rfl _ e e (by omega) dd).trans ?_
  unfold kernelRun0_A.sl.HS2_6
  refine (quad_miss arg16.view _ 1 0 0 1 (by decide) _ _ _ e dd).trans ?_
  unfold kernelRun0_A.sl.HS2_5
  refine (quad_miss arg16.view _ 1 0 0 0 (by decide) _ _ _ e dd).trans ?_
  unfold kernelRun0_A.sl.HS2_4
  refine (quad_miss arg16.view _ 1 0 1 1 (by decide) _ _ _ e dd).trans ?_
  refine (quad_hit arg16.view _ 1 0 1 0 rfl rfl _ _ _ e dd).trans ?_
  simp only [k0_pay4, k0_pay5, k0_pay6, k0_pay7, sc_ab_11ab, broadcast_apply, scalar_ap, Ideal.ofBits_zero_f32]

/-- The state direction 1, head 0, writes in step 1. -/
theorem st1_10 (e dd : Fin 128) : k0_pay86 (kernelRun0_A.sl.r_44 (F := Ideal) c arg3 harg3 arg4 harg4 arg7 harg7 arg9 harg9 arg17 x1 x2 x5 x7) (kernelRun0_A.sl.r_48 (F := Ideal) c arg3 harg3 arg4 harg4 arg7 harg7 arg9 harg9 arg17 arg18 x1 x2 x5 x7) (kernelRun0_A.sl.r_49 (F := Ideal) c arg3 harg3 arg4 harg4 arg7 harg7 arg9 harg9 arg17 arg18 x1 x2 x5 x7) (kernelRun0_A.sl.r_65 (F := Ideal) c arg3 harg3 arg4 harg4 arg5 harg5 arg7 harg7 arg9 harg9 arg16 arg17 arg18 x1 x2 x3 x5 x7) (kernelRun0_A.sl.r_66 (F := Ideal) c arg5 harg5 x3) (ix4 (0 : Fin 1) (0 : Fin 1) e dd)
    = St1 0 x3 x5 x2 x7 1 1 0 e dd := by
  simp only [kernelRun0_A.sl.r_44, kernelRun0_A.sl.r_48, kernelRun0_A.sl.r_42, kernelRun0_A.sl.r_49, kernelRun0_A.sl.r_65, kernelRun0_A.sl.r_66, kernelRun0_A.sl.r_43, k0_pay86, k0_pay59, k0_pay64, k0_pay63, k0_pay58, k0_pay65, k0_pay81, k0_pay82, v381_ap, v377_ap, v387_ap, v505_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, St1, outOf, attOf, stOf, cellM, cellQ, cellK, cellX, cellV, qOf, sgm]

/-- The state block of direction 1, head 1, as read in step 1. -/
theorem v585_ap (e dd : Fin 128) : kernelRun0_A.sl.v585 (F := Ideal) c arg3 harg3 arg4 harg4 arg5 harg5 arg7 harg7 arg9 harg9 arg16 arg17 arg18 x1 x2 x3 x5 x7 (ix4 (0 : Fin 1) (0 : Fin 1) e dd) = 0 := by
  refine (quad_load arg16.view _ 1 1 1 1 0 rfl rfl _ e e (by omega) dd).trans ?_
  unfold kernelRun0_A.sl.HS2_7
  refine (quad_miss arg16.view _ 1 1 1 0 (by decide) _ _ _ e dd).trans ?_
  unfold kernelRun0_A.sl.HS2_6
  refine (quad_miss arg16.view _ 1 1 0 1 (by decide) _ _ _ e dd).trans ?_
  unfold kernelRun0_A.sl.HS2_5
  refine (quad_miss arg16.view _ 1 1 0 0 (by decide) _ _ _ e dd).trans ?_
  unfold kernelRun0_A.sl.HS2_4
  refine (quad_hit arg16.view _ 1 1 1 1 rfl rfl _ _ _ e dd).trans ?_
  simp only [k0_pay4, k0_pay5, k0_pay6, k0_pay7, sc_ab_11ab, broadcast_apply, scalar_ap, Ideal.ofBits_zero_f32]

/-- The state direction 1, head 1, writes in step 1. -/
theorem st1_11 (e dd : Fin 128) : k0_pay94 (kernelRun0_A.sl.r_43 (F := Ideal) c arg5 harg5 x3) (kernelRun0_A.sl.r_44 (F := Ideal) c arg3 harg3 arg4 harg4 arg7 harg7 arg9 harg9 arg17 x1 x2 x5 x7) (kernelRun0_A.sl.r_48 (F := Ideal) c arg3 harg3 arg4 harg4 arg7 harg7 arg9 harg9 arg17 arg18 x1 x2 x5 x7) (kernelRun0_A.sl.r_49 (F := Ideal) c arg3 harg3 arg4 harg4 arg7 harg7 arg9 harg9 arg17 arg18 x1 x2 x5 x7) (kernelRun0_A.sl.v585 (F := Ideal) c arg3 harg3 arg4 harg4 arg5 harg5 arg7 harg7 arg9 harg9 arg16 arg17 arg18 x1 x2 x3 x5 x7) (ix4 (0 : Fin 1) (0 : Fin 1) e dd)
    = St1 0 x3 x5 x2 x7 1 1 1 e dd := by
  simp only [kernelRun0_A.sl.r_43, kernelRun0_A.sl.r_44, kernelRun0_A.sl.r_48, kernelRun0_A.sl.r_42, kernelRun0_A.sl.r_49, k0_pay94, k0_pay91, k0_pay92, k0_pay59, k0_pay64, k0_pay63, k0_pay58, k0_pay65, v381_ap, v377_ap, v387_ap, v585_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, St1, outOf, attOf, stOf, cellM, cellQ, cellK, cellX, cellV, qOf, sgm]

/-- The state block of direction 0, head 0, as read in step 2. -/
theorem v844_ap (e dd : Fin 128) : kernelRun0_A.sl.v844 (F := Ideal) c arg3 harg3 arg4 harg4 arg5 harg5 arg7 harg7 arg9 harg9 arg16 arg17 arg18 x1 x2 x3 x5 x7 (ix4 (0 : Fin 1) (0 : Fin 1) e dd) = St1 127 x3 x5 x1 x7 0 0 0 e dd := by
  refine (quad_load arg16.view _ 0 0 0 0 0 rfl rfl _ e e (by omega) dd).trans ?_
  unfold kernelRun0_A.sl.HS2_8
  refine (quad_miss arg16.view _ 0 0 1 1 (by decide) _ _ _ e dd).trans ?_
  unfold kernelRun0_A.sl.HS2_7
  refine (quad_miss arg16.view _ 0 0 1 0 (by decide) _ _ _ e dd).trans ?_
  unfold kernelRun0_A.sl.HS2_6
  refine (quad_miss arg16.view _ 0 0 0 1 (by decide) _ _ _ e dd).trans ?_
  unfold kernelRun0_A.sl.HS2_5
  refine (quad_hit arg16.view _ 0 0 0 0 rfl rfl _ _ _ e dd).trans ?_
  exact st1_00 c arg3 harg3 arg4 harg4 arg5 harg5 arg7 harg7 arg9 harg9 arg16 arg17 arg18 x1 x2 x3 x5 x7 e dd

/-- The state direction 0, head 0, writes in step 2. -/
theorem st2_00 (e dd : Fin 128) : (kernelRun0_A.sl.r_105 (F := Ideal) c arg3 harg3 arg4 harg4 arg5 harg5 arg7 harg7 arg9 harg9 arg16 arg17 arg18 x1 x2 x3 x5 x7) (ix4 (0 : Fin 1) (0 : Fin 1) e dd)
    = St2 127 x3 x5 x1 x7 0 0 1 0 e dd := by
  simp only [kernelRun0_A.sl.r_105, kernelRun0_A.sl.r_43, kernelRun0_A.sl.r_82, kernelRun0_A.sl.r_86, kernelRun0_A.sl.r_87, k0_pay133, k0_pay130, k0_pay131, k0_pay106, k0_pay111, k0_pay110, k0_pay105, k0_pay112, v720_ap, v716_ap, v726_ap, v844_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, St2, outOf, attOf, stOf, cellM, cellQ, cellK, cellX, cellV, qOf, sgm]

/-- The state block of direction 0, head 1, as read in step 2. -/
theorem v924_ap (e dd : Fin 128) : kernelRun0_A.sl.v924 (F := Ideal) c arg3 harg3 arg4 harg4 arg5 harg5 arg7 harg7 arg9 harg9 arg16 arg17 arg18 x1 x2 x3 x5 x7 (ix4 (0 : Fin 1) (0 : Fin 1) e dd) = St1 127 x3 x5 x1 x7 0 0 1 e dd := by
  refine (quad_load arg16.view _ 0 1 0 1 0 rfl rfl _ e e (by omega) dd).trans ?_
  unfold kernelRun0_A.sl.HS2_9
  refine (quad_miss arg16.view _ 0 1 0 0 (by decide) _ _ _ e dd).trans ?_
  unfold kernelRun0_A.sl.HS2_8
  refine (quad_miss arg16.view _ 0 1 1 1 (by decide) _ _ _ e dd).trans ?_
  unfold kernelRun0_A.sl.HS2_7
  refine (quad_miss arg16.view _ 0 1 1 0 (by decide) _ _ _ e dd).trans ?_
  unfold kernelRun0_A.sl.HS2_6
  refine (quad_hit arg16.view _ 0 1 0 1 rfl rfl _ _ _ e dd).trans ?_
  exact st1_01 c arg3 harg3 arg4 harg4 arg5 harg5 arg7 harg7 arg9 harg9 arg16 arg17 arg18 x1 x2 x3 x5 x7 e dd

/-- The state direction 0, head 1, writes in step 2. -/
theorem st2_01 (e dd : Fin 128) : k0_pay139 (kernelRun0_A.sl.r_86 (F := Ideal) c arg3 harg3 arg4 harg4 arg7 harg7 arg9 harg9 arg17 arg18 x1 x2 x5 x7) (kernelRun0_A.sl.r_87 (F := Ideal) c arg3 harg3 arg4 harg4 arg7 harg7 arg9 harg9 arg17 arg18 x1 x2 x5 x7) (kernelRun0_A.sl.r_107 (F := Ideal) c arg5 harg5 x3) (kernelRun0_A.sl.r_108 (F := Ideal) c arg3 harg3 arg4 harg4 arg5 harg5 arg7 harg7 arg9 harg9 arg16 arg17 arg18 x1 x2 x3 x5 x7) (ix4 (0 : Fin 1) (0 : Fin 1) e dd)
    = St2 127 x3 x5 x1 x7 0 0 1 1 e dd := by
  simp only [kernelRun0_A.sl.r_86, kernelRun0_A.sl.r_87, kernelRun0_A.sl.r_107, kernelRun0_A.sl.r_43, kernelRun0_A.sl.r_108, kernelRun0_A.sl.r_82, k0_pay139, k0_pay111, k0_pay110, k0_pay105, k0_pay112, k0_pay136, k0_pay138, k0_pay135, k0_pay106, v716_ap, v726_ap, v720_ap, v924_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, St2, outOf, attOf, stOf, cellM, cellQ, cellK, cellX, cellV, qOf, sgm]

/-- The state block of direction 1, head 0, as read in step 2. -/
theorem v1089_ap (e dd : Fin 128) : kernelRun0_A.sl.v1089 (F := Ideal) c arg3 harg3 arg4 harg4 arg5 harg5 arg7 harg7 arg9 harg9 arg16 arg17 arg18 x1 x2 x3 x5 x7 (ix4 (0 : Fin 1) (0 : Fin 1) e dd) = St1 0 x3 x5 x2 x7 1 1 0 e dd := by
  refine (quad_load arg16.view _ 1 0 1 0 0 rfl rfl _ e e (by omega) dd).trans ?_
  unfold kernelRun0_A.sl.HS2_10
  refine (quad_miss arg16.view _ 1 0 0 1 (by decide) _ _ _ e dd).trans ?_
  unfold kernelRun0_A.sl.HS2_9
  refine (quad_miss arg16.view _ 1 0 0 0 (by decide) _ _ _ e dd).trans ?_
  unfold kernelRun0_A.sl.HS2_8
  refine (quad_miss arg16.view _ 1 0 1 1 (by decide) _ _ _ e dd).trans ?_
  unfold kernelRun0_A.sl.HS2_7
  refine (quad_hit arg16.view _ 1 0 1 0 rfl rfl _ _ _ e dd).trans ?_
  exact st1_10 c arg3 harg3 arg4 harg4 arg5 harg5 arg7 harg7 arg9 harg9 arg16 arg17 arg18 x1 x2 x3 x5 x7 e dd

/-- The state direction 1, head 0, writes in step 2. -/
theorem st2_10 (e dd : Fin 128) : k0_pay171 (kernelRun0_A.sl.r_135 (F := Ideal) c arg3 harg3 arg4 harg4 arg5 harg5 arg7 harg7 arg9 harg9 arg16 arg17 arg18 x1 x2 x3 x5 x7) (kernelRun0_A.sl.r_136 (F := Ideal) c arg3 harg3 arg4 harg4 arg5 harg5 arg7 harg7 arg9 harg9 arg17 arg18 x1 x2 x3 x5 x7) (kernelRun0_A.sl.r_137 (F := Ideal) c arg3 harg3 arg4 harg4 arg5 harg5 arg7 harg7 arg9 harg9 arg17 arg18 x1 x2 x3 x5 x7) (ix4 (0 : Fin 1) (0 : Fin 1) e dd)
    = St2 0 x3 x5 x2 x7 1 1 0 0 e dd := by
  simp only [kernelRun0_A.sl.r_135, kernelRun0_A.sl.r_111, kernelRun0_A.sl.r_136, kernelRun0_A.sl.r_7, kernelRun0_A.sl.r_116, kernelRun0_A.sl.r_137, kernelRun0_A.sl.r_117, kernelRun0_A.sl.r_115, k0_pay171, k0_pay168, k0_pay165, k0_pay142, k0_pay169, k0_pay166, k0_pay147, k0_pay146, k0_pay141, k0_pay170, k0_pay148, v965_ap, v1089_ap, v961_ap, v971_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, St2, outOf, attOf, stOf, cellM, cellQ, cellK, cellX, cellV, qOf, sgm]

/-- The state block of direction 1, head 1, as read in step 2. -/
theorem v1169_ap (e dd : Fin 128) : kernelRun0_A.sl.v1169 (F := Ideal) c arg3 harg3 arg4 harg4 arg5 harg5 arg7 harg7 arg9 harg9 arg16 arg17 arg18 x1 x2 x3 x5 x7 (ix4 (0 : Fin 1) (0 : Fin 1) e dd) = St1 0 x3 x5 x2 x7 1 1 1 e dd := by
  refine (quad_load arg16.view _ 1 1 1 1 0 rfl rfl _ e e (by omega) dd).trans ?_
  unfold kernelRun0_A.sl.HS2_11
  refine (quad_miss arg16.view _ 1 1 1 0 (by decide) _ _ _ e dd).trans ?_
  unfold kernelRun0_A.sl.HS2_10
  refine (quad_miss arg16.view _ 1 1 0 1 (by decide) _ _ _ e dd).trans ?_
  unfold kernelRun0_A.sl.HS2_9
  refine (quad_miss arg16.view _ 1 1 0 0 (by decide) _ _ _ e dd).trans ?_
  unfold kernelRun0_A.sl.HS2_8
  refine (quad_hit arg16.view _ 1 1 1 1 rfl rfl _ _ _ e dd).trans ?_
  exact st1_11 c arg3 harg3 arg4 harg4 arg5 harg5 arg7 harg7 arg9 harg9 arg16 arg17 arg18 x1 x2 x3 x5 x7 e dd

/-- The state direction 1, head 1, writes in step 2. -/
theorem st2_11 (e dd : Fin 128) : k0_pay177 (kernelRun0_A.sl.r_111 (F := Ideal) c arg3 harg3 arg4 harg4 arg7 harg7 arg9 harg9 arg17 x1 x2 x5 x7) (kernelRun0_A.sl.r_116 (F := Ideal) c arg3 harg3 arg4 harg4 arg7 harg7 arg9 harg9 arg17 arg18 x1 x2 x5 x7) (kernelRun0_A.sl.r_117 (F := Ideal) c arg3 harg3 arg4 harg4 arg7 harg7 arg9 harg9 arg17 arg18 x1 x2 x5 x7) (kernelRun0_A.sl.r_139 (F := Ideal) c arg3 harg3 arg4 harg4 arg5 harg5 arg7 harg7 arg9 harg9 arg16 arg17 arg18 x1 x2 x3 x5 x7) (kernelRun0_A.sl.r_140 (F := Ideal) c arg5 harg5 x3) (ix4 (0 : Fin 1) (0 : Fin 1) e dd)
    = St2 0 x3 x5 x2 x7 1 1 0 1 e dd := by
  simp only [kernelRun0_A.sl.r_111, kernelRun0_A.sl.r_116, kernelRun0_A.sl.r_117, kernelRun0_A.sl.r_115, kernelRun0_A.sl.r_139, kernelRun0_A.sl.r_140, kernelRun0_A.sl.r_7, k0_pay177, k0_pay142, k0_pay147, k0_pay146, k0_pay141, k0_pay148, k0_pay173, k0_pay174, v965_ap, v961_ap, v971_ap, v1169_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, St2, outOf, attOf, stOf, cellM, cellQ, cellK, cellX, cellV, qOf, sgm]

/-- The state block of direction 0, head 0, as read in step 3. -/
theorem v1246_ap (e dd : Fin 128) : kernelRun0_A.sl.v1246 (F := Ideal) c arg3 harg3 arg4 harg4 arg5 harg5 arg7 harg7 arg9 harg9 arg16 arg17 arg18 x1 x2 x3 x5 x7 (ix4 (0 : Fin 1) (0 : Fin 1) e dd) = St2 127 x3 x5 x1 x7 0 0 1 0 e dd := by
  refine (quad_load arg16.view _ 0 0 0 0 0 rfl rfl _ e e (by omega) dd).trans ?_
  unfold kernelRun0_A.sl.HS2_12
  refine (quad_miss arg16.view _ 0 0 1 1 (by decide) _ _ _ e dd).trans ?_
  unfold kernelRun0_A.sl.HS2_11
  refine (quad_miss arg16.view _ 0 0 1 0 (by decide) _ _ _ e dd).trans ?_
  unfold kernelRun0_A.sl.HS2_10
  refine (quad_miss arg16.view _ 0 0 0 1 (by decide) _ _ _ e dd).trans ?_
  unfold kernelRun0_A.sl.HS2_9
  refine (quad_hit arg16.view _ 0 0 0 0 rfl rfl _ _ _ e dd).trans ?_
  exact st2_00 c arg3 harg3 arg4 harg4 arg5 harg5 arg7 harg7 arg9 harg9 arg16 arg17 arg18 x1 x2 x3 x5 x7 e dd

/-- The state block of direction 0, head 1, as read in step 3. -/
theorem v1252_ap (e dd : Fin 128) : kernelRun0_A.sl.v1252 (F := Ideal) c arg3 harg3 arg4 harg4 arg5 harg5 arg7 harg7 arg9 harg9 arg16 arg17 arg18 x1 x2 x3 x5 x7 (ix4 (0 : Fin 1) (0 : Fin 1) e dd) = St2 127 x3 x5 x1 x7 0 0 1 1 e dd := by
  refine (quad_load arg16.view _ 0 1 0 1 0 rfl rfl _ e e (by omega) dd).trans ?_
  unfold kernelRun0_A.sl.HS2_12
  refine (quad_miss arg16.view _ 0 1 1 1 (by decide) _ _ _ e dd).trans ?_
  unfold kernelRun0_A.sl.HS2_11
  refine (quad_miss arg16.view _ 0 1 1 0 (by decide) _ _ _ e dd).trans ?_
  unfold kernelRun0_A.sl.HS2_10
  refine (quad_hit arg16.view _ 0 1 0 1 rfl rfl _ _ _ e dd).trans ?_
  exact st2_01 c arg3 harg3 arg4 harg4 arg5 harg5 arg7 harg7 arg9 harg9 arg16 arg17 arg18 x1 x2 x3 x5 x7 e dd

/-- The state block of direction 1, head 0, as read in step 3. -/
theorem v1258_ap (e dd : Fin 128) : kernelRun0_A.sl.v1258 (F := Ideal) c arg3 harg3 arg4 harg4 arg5 harg5 arg7 harg7 arg9 harg9 arg16 arg17 arg18 x1 x2 x3 x5 x7 (ix4 (0 : Fin 1) (0 : Fin 1) e dd) = St2 0 x3 x5 x2 x7 1 1 0 0 e dd := by
  refine (quad_load arg16.view _ 1 0 1 0 0 rfl rfl _ e e (by omega) dd).trans ?_
  unfold kernelRun0_A.sl.HS2_12
  refine (quad_miss arg16.view _ 1 0 1 1 (by decide) _ _ _ e dd).trans ?_
  unfold kernelRun0_A.sl.HS2_11
  refine (quad_hit arg16.view _ 1 0 1 0 rfl rfl _ _ _ e dd).trans ?_
  exact st2_10 c arg3 harg3 arg4 harg4 arg5 harg5 arg7 harg7 arg9 harg9 arg16 arg17 arg18 x1 x2 x3 x5 x7 e dd

/-- The state block of direction 1, head 1, as read in step 3. -/
theorem v1264_ap (e dd : Fin 128) : kernelRun0_A.sl.v1264 (F := Ideal) c arg3 harg3 arg4 harg4 arg5 harg5 arg7 harg7 arg9 harg9 arg16 arg17 arg18 x1 x2 x3 x5 x7 (ix4 (0 : Fin 1) (0 : Fin 1) e dd) = St2 0 x3 x5 x2 x7 1 1 0 1 e dd := by
  refine (quad_load arg16.view _ 1 1 1 1 0 rfl rfl _ e e (by omega) dd).trans ?_
  unfold kernelRun0_A.sl.HS2_12
  refine (quad_hit arg16.view _ 1 1 1 1 rfl rfl _ _ _ e dd).trans ?_
  exact st2_11 c arg3 harg3 arg4 harg4 arg5 harg5 arg7 harg7 arg9 harg9 arg16 arg17 arg18 x1 x2 x3 x5 x7 e dd

end Cert.Hgrn

end
-- ==== Proof.Recurrence.lean ====
module

public import proofs.«01_k».proof.Proof.States

@[expose] public section

set_option maxRecDepth 16384

noncomputable section

namespace Cert.Hgrn

open Idealize.ShloMosaic Idealize.ShloMosaic.TcCoe Idealize.ShloMosaic.ValueIdx
open Cert.KernelIdeal Cert.KernelIdeal.Gen
open scoped BigOperators

/-! ## The recurrence over the reals, and its form over a chunk of positions -/

/-- The state after `n` positions: decayed by `exp g`, and the outer product's entry added. -/
def stR (g k v : ℕ → ℝ) : ℕ → ℝ
  | 0 => 0
  | n + 1 => Real.exp (g n) * stR g k v n + k n * v n

/-- The log-decays of the first `n` positions after `p` past the offset `s`, summed. -/
theorem tail_succ (g : ℕ → ℝ) (p n s : ℕ) (h : s < n) :
    (∑ r ∈ Finset.range (n + 1), if s < r then g (p + r) else 0)
      = (∑ r ∈ Finset.range n, if s < r then g (p + r) else 0) + g (p + n) := by
  rw [Finset.sum_range_succ, if_pos h]

/-- The state `n` positions after `p`, from the state at `p` and the positions between. -/
theorem stR_add (g k v : ℕ → ℝ) (p n : ℕ) :
    stR g k v (p + n) = Real.exp (∑ r ∈ Finset.range n, g (p + r)) * stR g k v p
      + ∑ s ∈ Finset.range n, v (p + s) * (k (p + s) * Real.exp (∑ r ∈ Finset.range n, if s < r then g (p + r) else 0)) := by
  induction n with
  | zero => simp
  | succ n ih =>
    rw [← Nat.add_assoc, stR, ih, Finset.sum_range_succ (fun r => g (p + r)), Real.exp_add, Finset.sum_range_succ _ n]
    have h0 : (∑ r ∈ Finset.range (n + 1), if n < r then g (p + r) else 0) = 0 :=
      Finset.sum_eq_zero fun r hr => if_neg (by have := Finset.mem_range.mp hr; omega)
    have h1 : (∑ s ∈ Finset.range n, v (p + s) * (k (p + s) * Real.exp (∑ r ∈ Finset.range (n + 1), if s < r then g (p + r) else 0)))
        = Real.exp (g (p + n)) * ∑ s ∈ Finset.range n, v (p + s) * (k (p + s) * Real.exp (∑ r ∈ Finset.range n, if s < r then g (p + r) else 0)) := by
      rw [Finset.mul_sum]
      refine Finset.sum_congr rfl fun s hs => ?_
      rw [tail_succ g p n s (Finset.mem_range.mp hs), Real.exp_add]
      ring
    rw [h0, h1, Real.exp_zero]
    ring

/-- The sum over a chunk's positions up to `t`, as a sum over the first `t + 1` numbers. -/
theorem sum_upto {C : ℕ} (f : ℕ → ℝ) (t : Fin C) :
    (∑ r : Fin C, if r ≤ t then f r else 0) = ∑ r ∈ Finset.range (t.val + 1), f r := by
  simp only [Fin.le_def]
  rw [Fin.sum_univ_eq_sum_range (fun r => if r ≤ t.val then f r else 0) C, ← Finset.sum_filter]
  refine Finset.sum_congr ?_ fun _ _ => rfl
  ext r
  have := t.isLt
  simp only [Finset.mem_filter, Finset.mem_range]
  omega

/-- The state after position `t` of the chunk at `p`, summed over the chunk's positions. -/
theorem stR_chunk {C : ℕ} (g k v : ℕ → ℝ) (p : ℕ) (t : Fin C) :
    stR g k v (p + t + 1) = Real.exp (∑ r : Fin C, if r ≤ t then g (p + r) else 0) * stR g k v p
      + ∑ s : Fin C, if s ≤ t then v (p + s) * (k (p + s) * Real.exp (∑ r : Fin C, if s < r ∧ r ≤ t then g (p + r) else 0)) else 0 := by
  rw [Nat.add_assoc, stR_add, sum_upto (fun r => g (p + r)) t]
  simp only [Fin.lt_def]
  rw [sum_upto (fun s => v (p + s) * (k (p + s) * Real.exp (∑ r : Fin C, if s < r.val ∧ r ≤ t then g (p + r) else 0))) t]
  congr 1
  refine Finset.sum_congr rfl fun s _ => ?_
  rw [← sum_upto (fun r => if s < r then g (p + r) else 0) t]
  congr 3
  refine Finset.sum_congr rfl fun r _ => ?_
  by_cases h1 : r ≤ t <;> by_cases h2 : s < r.val <;> simp [h1, h2]

/-- The state after the whole chunk at `p`. -/
theorem stR_whole {C : ℕ} (g k v : ℕ → ℝ) (p : ℕ) :
    stR g k v (p + C) = Real.exp (∑ r : Fin C, g (p + r)) * stR g k v p
      + ∑ s : Fin C, v (p + s) * (k (p + s) * Real.exp (∑ r : Fin C, if s < r then g (p + r) else 0)) := by
  rw [stR_add, ← Fin.sum_univ_eq_sum_range (fun r => g (p + r)) C,
    ← Fin.sum_univ_eq_sum_range (fun s => v (p + s) * (k (p + s) * Real.exp (∑ r ∈ Finset.range C, if s < r then g (p + r) else 0))) C]
  congr 1
  refine Finset.sum_congr rfl fun s _ => ?_
  rw [← Fin.sum_univ_eq_sum_range (fun r => if s.val < r then g (p + r) else 0) C]
  rfl

section Model
variable (q g k v : ℕ → ℕ → ℝ)

/-- The state of key channel `d` and value channel `e` after `n` positions. -/
def stM (n d e : ℕ) : ℝ := stR (fun n => g n d) (fun n => k n d) (fun n => v n e) n

/-- The output of value channel `e` at position `n`: the query's product with the state after it. -/
def outM (n e : ℕ) : ℝ := ∑ d : Fin 128, q n d * stM g k v (n + 1) d e

/-- The product of the query at position `t` and the decayed key at position `s` of the chunk at `p`. -/
def pairM {C : ℕ} (p : ℕ) (t s : Fin C) : ℝ :=
  ∑ d : Fin 128, q (p + t) d * (k (p + s) d * Real.exp (∑ r : Fin C, if s < r ∧ r ≤ t then g (p + r) d else 0))

/-- The output at position `t` of the chunk at `p`: the pairs of the chunk, and the query's product with the state at `p`. -/
theorem outM_chunk {C : ℕ} (p : ℕ) (t : Fin C) (e : ℕ) :
    outM q g k v (p + t) e
      = (∑ s : Fin C, (if s ≤ t then pairM q g k p t s else 0) * v (p + s) e)
        + ∑ d : Fin 128, q (p + t) d * Real.exp (∑ r : Fin C, if r ≤ t then g (p + r) d else 0) * stM g k v p d e := by
  have h : ∀ d : Fin 128, q (p + t) d * stM g k v (p + t + 1) d e
      = (∑ s : Fin C, (if s ≤ t then q (p + t) d * (k (p + s) d * Real.exp (∑ r : Fin C, if s < r ∧ r ≤ t then g (p + r) d else 0)) else 0) * v (p + s) e)
        + q (p + t) d * Real.exp (∑ r : Fin C, if r ≤ t then g (p + r) d else 0) * stM g k v p d e := by
    intro d
    unfold stM
    rw [stR_chunk, mul_add, add_comm, Finset.mul_sum, ← mul_assoc]
    congr 1
    refine Finset.sum_congr rfl fun s _ => ?_
    by_cases hs : s ≤ t <;> simp only [hs, if_true, if_false] <;> ring
  unfold outM
  rw [Finset.sum_congr rfl fun d _ => h d, Finset.sum_add_distrib, Finset.sum_comm]
  congr 1
  refine Finset.sum_congr rfl fun s _ => ?_
  rw [← Finset.sum_mul]
  by_cases hs : s ≤ t <;> simp [hs, pairM]

end Model

/-! ## The binary levels of a chunk of 128 positions -/

/-- Whether row `t` of block `i` of the decay matrix sums the log-decay at `r`. -/
def aP (i : Fin 9) (t r : Fin 128) : Prop :=
  if i.val < 7 then t.val / 2 ^ i.val = r.val / 2 ^ i.val ∧ (t.val / 2 ^ i.val % 2 = 1 ↔ r ≤ t)
  else if i.val = 7 then r ≤ t else t < r
instance (i : Fin 9) (t r : Fin 128) : Decidable (aP i t r) := by unfold aP; infer_instance

/-- Whether level `i` takes the pair of positions `t` and `s`; the eighth mask takes the diagonal. -/
def mP (i : Fin 8) (t s : Fin 128) : Prop :=
  if i.val < 7 then s.val / 2 ^ i.val + 1 = t.val / 2 ^ i.val ∧ t.val / 2 ^ i.val % 2 = 1 else t = s
instance (i : Fin 8) (t s : Fin 128) : Decidable (mP i t s) := by unfold mP; infer_instance

/-- The number of levels among the seven that take the pair: one below the diagonal, none elsewhere. -/
theorem mP_count : ∀ t s : Fin 128,
    ((if mP 0 t s then 1 else 0) + (if mP 1 t s then 1 else 0) + (if mP 2 t s then 1 else 0) + (if mP 3 t s then 1 else 0)
      + (if mP 4 t s then 1 else 0) + (if mP 5 t s then 1 else 0) + (if mP 6 t s then 1 else 0) : ℕ) = if s < t then 1 else 0 := by
  decide +kernel

/-- Where a level takes the pair, its two rows together sum the log-decays after `s` up to `t`. -/
theorem level_split (i : Fin 7) (t s r : Fin 128) (h : mP ⟨i.val, by omega⟩ t s) :
    (aP ⟨i.val, by omega⟩ t r ∨ aP ⟨i.val, by omega⟩ s r ↔ s < r ∧ r ≤ t)
      ∧ ¬(aP ⟨i.val, by omega⟩ t r ∧ aP ⟨i.val, by omega⟩ s r) := by
  have ht := t.isLt
  have hs := s.isLt
  have hr := r.isLt
  fin_cases i <;>
    simp only [aP, mP, Fin.lt_def, Fin.le_def, Nat.reduceLT, if_true, Nat.reducePow, Nat.zero_lt_succ, Nat.one_lt_ofNat] at h ⊢ <;>
    constructor <;> omega

end Cert.Hgrn

end
-- ==== Proof.Chunks.lean ====
module

public import proofs.«01_k».proof.Proof.Recurrence

@[expose] public section

set_option maxRecDepth 16384

noncomputable section

namespace Cert.Hgrn

open Idealize.ShloMosaic Idealize.ShloMosaic.TcCoe Idealize.ShloMosaic.ValueIdx
open Cert.KernelIdeal Cert.KernelIdeal.Gen
open scoped BigOperators

/-! ## The kernel's chunk over real operands -/

/-- A finite sum of reals, as a sum of extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The number of a condition. -/
def ind (P : Prop) [Decidable P] : EReal := if P then 1 else 0

theorem ind_coe (P : Prop) [Decidable P] : ind P = ((if P then 1 else 0 : ℝ) : EReal) := by
  unfold ind; split <;> simp

theorem ind_mul (P : Prop) [Decidable P] (x : ℝ) : ind P * (x : EReal) = ((if P then x else 0 : ℝ) : EReal) := by
  unfold ind; split <;> simp

/-- A decay factor over real log-decays: the exponential of their sum over the positions the row takes. -/
theorem xOf_coe (P : Fin 128 → Prop) [DecidablePred P] (g : Fin 128 → ℝ) :
    xOf (fun r => ind (P r)) (fun r => (g r : EReal)) = ((Real.exp (∑ r, if P r then g r else 0) : ℝ) : EReal) := by
  unfold xOf
  have h : ∀ r, ind (P r) * ((g r : EReal) - (g r : EReal)) = 0 := fun r => by
    rw [← EReal.coe_sub, sub_self, EReal.coe_zero, mul_zero]
  simp only [ind_mul, h, Finset.sum_const_zero, add_zero, ← coe_sum]
  rfl

section Chunk
variable (q k g v S : Fin 128 → Fin 128 → ℝ)

/-- The chunk's decay factors over the reals. -/
def xR (i : Fin 9) (t d : Fin 128) : ℝ := Real.exp (∑ r, if aP i t r then g r d else 0)

/-- The product of the query at `t` and the key at `s`, decayed over the positions after `s` up to `t`. -/
def pairR (t s : Fin 128) : ℝ := ∑ d, q t d * (k s d * Real.exp (∑ r, if s < r ∧ r ≤ t then g r d else 0))

/-- Where a level takes the pair, its product is the pair's. -/
theorem level_pair (i : Fin 7) (t s : Fin 128) :
    ind (mP ⟨i.val, by omega⟩ t s)
        * ∑ d, (q t d : EReal) * (xR g ⟨i.val, by omega⟩ t d : EReal) * ((k s d : EReal) * (xR g ⟨i.val, by omega⟩ s d : EReal))
      = (((if mP ⟨i.val, by omega⟩ t s then 1 else 0 : ℝ) * pairR q k g t s : ℝ) : EReal) := by
  simp only [← EReal.coe_mul, ← coe_sum, ind_mul]
  congr 1
  by_cases h : mP ⟨i.val, by omega⟩ t s
  · simp only [h, if_true, one_mul]
    refine Finset.sum_congr rfl fun d _ => ?_
    have e : Real.exp (∑ r, if s < r ∧ r ≤ t then g r d else 0) = xR g ⟨i.val, by omega⟩ t d * xR g ⟨i.val, by omega⟩ s d := by
      unfold xR
      rw [← Real.exp_add, ← Finset.sum_add_distrib]
      congr 1
      refine Finset.sum_congr rfl fun r _ => ?_
      obtain ⟨h1, h2⟩ := level_split i t s r h
      by_cases ha : aP ⟨i.val, by omega⟩ t r <;> by_cases hb : aP ⟨i.val, by omega⟩ s r
      · exact absurd ⟨ha, hb⟩ h2
      · rw [if_pos (h1.mp (.inl ha)), if_pos ha, if_neg hb, add_zero]
      · rw [if_pos (h1.mp (.inr hb)), if_neg ha, if_pos hb, zero_add]
      · rw [if_neg (fun hc => (h1.mpr hc).elim ha hb), if_neg ha, if_neg hb, add_zero]
    rw [e]; ring
  · simp only [h, if_false, zero_mul]

/-- The diagonal mask's product. -/
theorem diag_pair (t s : Fin 128) :
    ind (mP 7 t s) * ∑ d, (q t d : EReal) * (k s d : EReal) = (((if t = s then 1 else 0 : ℝ) * pairR q k g t s : ℝ) : EReal) := by
  simp only [← EReal.coe_mul, ← coe_sum, ind_mul]
  congr 1
  have e : mP 7 t s ↔ t = s := Iff.rfl
  by_cases h : t = s
  · subst h
    simp only [e, if_true, one_mul, pairR]
    refine Finset.sum_congr rfl fun d _ => ?_
    have z : (∑ r, if t < r ∧ r ≤ t then g r d else 0) = 0 :=
      Finset.sum_eq_zero fun r _ => if_neg fun hc => absurd (lt_of_lt_of_le hc.1 hc.2) (lt_irrefl _)
    rw [z, Real.exp_zero, mul_one]
  · simp only [e, h, if_false, zero_mul]

/-- The chunk's weights: the pair's product up to the diagonal, zero past it. -/
theorem attOf_coe (t s : Fin 128) :
    attOf (fun i t s => ind (mP i t s)) (fun t d => (q t d : EReal)) (fun t d => (k t d : EReal)) (fun i t d => (xR g i t d : EReal)) t s
      = ((if s ≤ t then pairR q k g t s else 0 : ℝ) : EReal) := by
  unfold attOf
  have h := fun i => level_pair q k g i t s
  rw [diag_pair q k g]
  refine (congrArg₂ _ (congrArg₂ _ (congrArg₂ _ (congrArg₂ _ (congrArg₂ _ (congrArg₂ _ (congrArg₂ _ rfl (h 0)) (h 1)) (h 2)) (h 3)) (h 4)) (h 5)) (h 6)).trans ?_
  simp only [← EReal.coe_add, ← add_mul]
  congr 1
  have c := congrArg (Nat.cast (R := ℝ)) (mP_count t s)
  push_cast at c
  by_cases h1 : s < t
  · have h2 : t ≠ s := (ne_of_lt h1).symm
    simp only [h1, h2, le_of_lt h1, if_true, if_false] at c ⊢
    rw [zero_add]
    exact (congrArg (· * _) c).trans (one_mul _)
  · by_cases h2 : t = s
    · simp only [h1, if_false] at c
      simp only [h2, le_refl, if_true] at c ⊢
      have c' := congrArg (fun x => (1 + x) * pairR q k g s s) c
      simp only [add_zero, one_mul] at c'
      refine Eq.trans ?_ c'
      simp only [← add_assoc]
      rfl
    · have h3 : ¬ s ≤ t := fun h => (lt_or_eq_of_le h).elim h1 fun e => h2 e.symm
      simp only [h1, h2, h3, if_false] at c ⊢
      rw [zero_add]
      exact (congrArg (· * _) c).trans (zero_mul _)

/-- The chunk's outputs over the reals. -/
theorem outOf_coe (t e : Fin 128) :
    outOf (fun i t s => ind (mP i t s)) (fun t d => (q t d : EReal)) (fun t d => (k t d : EReal)) (fun i t d => (xR g i t d : EReal))
        (fun t e => (v t e : EReal)) (fun e d => (S e d : EReal)) t e
      = (((∑ s, (if s ≤ t then pairR q k g t s else 0) * v s e)
          + ∑ d, q t d * Real.exp (∑ r, if r ≤ t then g r d else 0) * S e d : ℝ) : EReal) := by
  unfold outOf
  simp only [attOf_coe, ← EReal.coe_mul, ← coe_sum, ← EReal.coe_add]
  rfl

/-- The state after the chunk, over the reals. -/
theorem stOf_coe (e d : Fin 128) :
    stOf 127 (fun t d => (k t d : EReal)) (fun i t d => (xR g i t d : EReal)) (fun t e => (v t e : EReal)) (fun e d => (S e d : EReal)) e d
      = ((Real.exp (∑ r, g r d) * S e d + ∑ s, v s e * (k s d * Real.exp (∑ r, if s < r then g r d else 0)) : ℝ) : EReal) := by
  unfold stOf
  simp only [← EReal.coe_mul, ← EReal.coe_sub, sub_self, EReal.coe_zero, mul_zero, Finset.sum_const_zero, add_zero, ← coe_sum, ← EReal.coe_add]
  have h : xR g 7 127 d = Real.exp (∑ r, g r d) := by
    unfold xR
    congr 1
  rw [h]
  rfl

end Chunk

/-! ## A chunk read backwards -/

/-- A decay factor is the same when matrix row and log-decays are both read backwards. -/
theorem xOf_rev (A g : Fin 128 → EReal) : xOf (fun r => A (Fin.rev r)) (fun r => g (Fin.rev r)) = xOf A g := by
  unfold xOf
  rw [Equiv.sum_comp Fin.revPerm (fun r => A r * g r) |>.symm, Equiv.sum_comp Fin.revPerm (fun r => A r * (g r - g r)) |>.symm]
  rfl

/-- The outputs of a chunk read backwards. -/
theorem outOf_rev (M : Fin 8 → Fin 128 → Fin 128 → EReal) (Q K : Fin 128 → Fin 128 → EReal) (X : Fin 9 → Fin 128 → Fin 128 → EReal)
    (V St : Fin 128 → Fin 128 → EReal) (t e : Fin 128) :
    outOf (fun i t s => M i (Fin.rev t) (Fin.rev s)) (fun t d => Q (Fin.rev t) d) (fun t d => K (Fin.rev t) d)
        (fun i t d => X i (Fin.rev t) d) (fun t e => V (Fin.rev t) e) St t e = outOf M Q K X V St (Fin.rev t) e := by
  unfold outOf
  rw [Equiv.sum_comp Fin.revPerm (fun s => attOf M Q K X (Fin.rev t) s * V s e) |>.symm]
  rfl

/-- The state after a chunk read backwards. -/
theorem stOf_rev (last : Fin 128) (K : Fin 128 → Fin 128 → EReal) (X : Fin 9 → Fin 128 → Fin 128 → EReal)
    (V St : Fin 128 → Fin 128 → EReal) (e d : Fin 128) :
    stOf last (fun t d => K (Fin.rev t) d) (fun i t d => X i (Fin.rev t) d) (fun t e => V (Fin.rev t) e) St e d
      = stOf (Fin.rev last) K X V St e d := by
  unfold stOf
  rw [Equiv.sum_comp Fin.revPerm (fun t => V t e * (K t d * X 8 t d)) |>.symm,
    Equiv.sum_comp Fin.revPerm (fun t => V t e * (K t d * X 8 t d - K t d * X 8 t d)) |>.symm]
  rfl

end Cert.Hgrn

end
-- ==== Proof.KerBits.lean ====
module

public import proofs.«01_k».proof.Proof.Chunks
public import Idealize.ShloMosaic.PureOps

@[expose] public section

set_option maxRecDepth 16384

noncomputable section

namespace Cert.Hgrn.Ker

open Idealize.ShloMosaic

/-! ## The words of the 0/1 constants -/

/-- The sums of a level, of its words. -/
def aBit (l t r : BitVec 32) : BitVec 1 :=
  IntOp.andi (IntOp.cmpi .eq (IntOp.shrsi .host t l) (IntOp.shrsi .host r l))
    (IntOp.cmpi .eq (IntOp.cmpi .eq (IntOp.andi (IntOp.shrsi .host t l) 1#32) 1#32) (IntOp.cmpi .sle r t))
/-- The pairs of a level, of its words. -/
def mBit (l t r : BitVec 32) : BitVec 1 :=
  IntOp.andi (IntOp.cmpi .eq (IntOp.shrsi .host r l) (IntOp.subi (IntOp.shrsi .host t l) 1#32))
    (IntOp.cmpi .eq (IntOp.andi (IntOp.shrsi .host t l) 1#32) 1#32)

theorem shr_val : ∀ (l : Fin 7) (t : Fin 128), IntOp.shrsi .host (BitVec.ofNat 32 t.val) (BitVec.ofNat 32 l.val) = BitVec.ofNat 32 (t.val / 2 ^ l.val) := by
  decide +kernel
theorem eq_bit : ∀ a b : Fin 128, IntOp.cmpi .eq (BitVec.ofNat 32 a.val) (BitVec.ofNat 32 b.val) = BitVec.ofBool (decide (a.val = b.val)) := by decide +kernel
theorem le_bit : ∀ a b : Fin 128, IntOp.cmpi .sle (BitVec.ofNat 32 a.val) (BitVec.ofNat 32 b.val) = BitVec.ofBool (decide (a.val ≤ b.val)) := by decide +kernel
theorem gt_bit : ∀ a b : Fin 128, IntOp.cmpi .sgt (BitVec.ofNat 32 a.val) (BitVec.ofNat 32 b.val) = BitVec.ofBool (decide (b.val < a.val)) := by decide +kernel
theorem odd_bit : ∀ a : Fin 128, IntOp.cmpi .eq (IntOp.andi (BitVec.ofNat 32 a.val) 1#32) 1#32 = BitVec.ofBool (decide (a.val % 2 = 1)) := by decide +kernel
theorem pred_bit : ∀ a b : Fin 128, IntOp.cmpi .eq (BitVec.ofNat 32 a.val) (IntOp.subi (BitVec.ofNat 32 b.val) 1#32) = BitVec.ofBool (decide (a.val + 1 = b.val)) := by
  decide +kernel
theorem and_bit : ∀ a b : Bool, (IntOp.andi (BitVec.ofBool a) (BitVec.ofBool b)).toNat = if a = true ∧ b = true then 1 else 0 := by decide
theorem same_bit : ∀ a b : Bool, IntOp.cmpi .eq (BitVec.ofBool a) (BitVec.ofBool b) = BitVec.ofBool (a == b) := by decide
theorem of_bit : ∀ a : Bool, (BitVec.ofBool a).toNat = if a = true then 1 else 0 := by decide

/-- A level's quotient, among 128. -/
def quo (l : Fin 7) (t : Fin 128) : Fin 128 := ⟨t.val / 2 ^ l.val, Nat.lt_of_le_of_lt (Nat.div_le_self _ _) t.isLt⟩

theorem aBit_val (l : Fin 7) (t r : Fin 128) : (aBit (BitVec.ofNat 32 l.val) (BitVec.ofNat 32 t.val) (BitVec.ofNat 32 r.val)).toNat
    = if aP ⟨l.val, by omega⟩ t r then 1 else 0 := by
  unfold aBit
  rw [shr_val, shr_val, le_bit]
  have h1 := eq_bit (quo l t) (quo l r)
  have h2 := odd_bit (quo l t)
  unfold quo at h1 h2
  dsimp only at h1 h2
  rw [h1, h2, same_bit, and_bit]
  unfold aP
  have hl : l.val < 7 := l.isLt
  simp only [hl, if_true, decide_eq_true_eq, beq_iff_eq, decide_eq_decide, Fin.le_def]
theorem mBit_val (l : Fin 7) (t r : Fin 128) : (mBit (BitVec.ofNat 32 l.val) (BitVec.ofNat 32 t.val) (BitVec.ofNat 32 r.val)).toNat
    = if mP ⟨l.val, by omega⟩ t r then 1 else 0 := by
  unfold mBit
  rw [shr_val, shr_val]
  have h1 := pred_bit (quo l r) (quo l t)
  have h2 := odd_bit (quo l t)
  unfold quo at h1 h2
  dsimp only at h1 h2
  rw [h1, h2, and_bit]
  unfold mP
  have hl : l.val < 7 := l.isLt
  simp only [hl, if_true, decide_eq_true_eq]
theorem le_val (t r : Fin 128) : (IntOp.cmpi .sle (BitVec.ofNat 32 r.val) (BitVec.ofNat 32 t.val)).toNat = if r ≤ t then 1 else 0 := by
  rw [le_bit, of_bit]
  simp only [decide_eq_true_eq, Fin.le_def]
theorem gt_val (t r : Fin 128) : (IntOp.cmpi .sgt (BitVec.ofNat 32 r.val) (BitVec.ofNat 32 t.val)).toNat = if t < r then 1 else 0 := by
  rw [gt_bit, of_bit]
  simp only [decide_eq_true_eq, Fin.lt_def]
theorem eq_val (t r : Fin 128) : (IntOp.cmpi .eq (BitVec.ofNat 32 t.val) (BitVec.ofNat 32 r.val)).toNat = if t = r then 1 else 0 := by
  rw [eq_bit, of_bit]
  simp only [decide_eq_true_eq, Fin.ext_iff]

end Cert.Hgrn.Ker

end
-- ==== Proof.KerConsts.lean ====
module

public import proofs.«01_k».proof.Proof.Gen.KernelIdeal.Value
public import proofs.«01_k».proof.Proof.KerBits
public import Idealize.ShloMosaic.Lib.IdealHost

@[expose] public section

set_option maxRecDepth 16384

noncomputable section

namespace Cert.Hgrn.Ker

open Idealize.ShloMosaic Idealize.ShloMosaic.TcCoe Idealize.ShloMosaic.StableHlo Idealize.ShloMosaic.ValueIdx
open Cert.KernelIdeal Cert.KernelIdeal.Gen

/-! ## The kernel's constant operands -/

/-- The level, the row and the column of an entry. -/
abbrev io (k : Fin 3) : IVec S7x128x128 32 := iotaInDim S7x128x128 32 k
/-- Ones. -/
abbrev one7 : IVec S7x128x128 32 := broadcastInDim S7x128x128 ![] bcast_S_S7x128x128 (constantI S_ 32 1#32)
/-- Whether a row lies in the right half of its block. -/
abbrev rightA : IVec S7x128x128 1 := cmpi .eq (andi (Host.shrsi (io 1) (io 0)) one7) one7
/-- The sums of the seven levels. -/
abbrev aLvl : IVec S7x128x128 1 := andi (cmpi .eq (Host.shrsi (io 1) (io 0)) (Host.shrsi (io 2) (io 0))) (cmpi .eq rightA (cmpi .sle (io 2) (io 1)))
/-- The pairs of the seven levels. -/
abbrev mLvl : IVec S7x128x128 1 := andi (cmpi .eq (Host.shrsi (io 2) (io 0)) (subi (Host.shrsi (io 1) (io 0)) one7)) rightA
/-- The first plane. -/
abbrev plane (x : IVec S7x128x128 1) : IVec S1x128x128 1 := extractStridedSlice S1x128x128 ![0, 0, 0] x slices_S7x128x128_S1x128x128_0_0_0
/-- The forward sums. -/
def aF : FVec Ideal S9x128x128 .f32 := uitofp .f32 (concatenate S9x128x128 0 [⟨S7x128x128, aLvl⟩, ⟨S1x128x128, plane (cmpi .sle (io 2) (io 1))⟩,
  ⟨S1x128x128, plane (cmpi .sgt (io 2) (io 1))⟩] concatenates_S7x128x128_S1x128x128_S1x128x128_S9x128x128_d0)
/-- The forward pairs. -/
def mF : FVec Ideal S8x128x128 .f32 := uitofp .f32 (concatenate S8x128x128 0 [⟨S7x128x128, mLvl⟩, ⟨S1x128x128, plane (cmpi .eq (io 1) (io 2))⟩]
  concatenates_S7x128x128_S1x128x128_S8x128x128_d0)
/-- The sums of both directions. -/
def aAll : FVec Ideal S2x1152x128 .bf16 := truncf .bf16 (shapeCast S2x1152x128 (concatenate S2x9x128x128 0
  [⟨S1x9x128x128, broadcastInDim S1x9x128x128 ![1, 2, 3] bcast_S9x128x128_S1x9x128x128_1_2_3 aF⟩,
   ⟨S1x9x128x128, broadcastInDim S1x9x128x128 ![1, 2, 3] bcast_S9x128x128_S1x9x128x128_1_2_3 (Host.reverse [1, 2] aF)⟩]
  concatenates_S1x9x128x128_S1x9x128x128_S2x9x128x128_d0) shapeCasts_S2x9x128x128_S2x1152x128) bitsLt_bf16_f32
/-- The pairs of both directions. -/
def mAll : FVec Ideal S2x8x128x128 .f32 := concatenate S2x8x128x128 0
  [⟨S1x8x128x128, broadcastInDim S1x8x128x128 ![1, 2, 3] bcast_S8x128x128_S1x8x128x128_1_2_3 mF⟩,
   ⟨S1x8x128x128, broadcastInDim S1x8x128x128 ![1, 2, 3] bcast_S8x128x128_S1x8x128x128_1_2_3 (Host.reverse [1, 2] mF)⟩]
  concatenates_S1x8x128x128_S1x8x128x128_S2x8x128x128_d0

variable (m : (ℓ : Loc nD τ sig) → Buf (Elt Ideal) ℓ) (c : Dev nD)

/-- The kernel's eighth operand. -/
theorem V_A : (V m c main_v36 : FVec Ideal S2x1152x128 .bf16) = aAll := by
  unfold V
  after_results
  try simp only [TRef.ofBuf, TRef.toBuf, cast_eq]
  rfl
/-- The kernel's ninth operand. -/
theorem V_M : (V m c main_v35 : FVec Ideal S2x8x128x128 .f32) = mAll := by
  unfold V
  after_results
  try simp only [TRef.ofBuf, TRef.toBuf, cast_eq]
  rfl
/-- The kernel's seventh operand. -/
theorem V_G : (V m c main_v38 : FVec Ideal S1x128 .f32) = shapeCast S1x128 (shapeCast S128 (m ((c : Thread nD τ).loc main_arg3) : FVec Ideal S1x128 .f32) shapeCasts_S1x128_S128) shapeCasts_S128_S1x128 := by
  unfold V
  after_results
  rfl
/-- What the first result starts from. -/
theorem V_Z : (V m c main_v40_0 : FVec Ideal S12288x1024 .bf16) = (broadcastInDim S12288x1024 ![] bcast_S_S12288x1024 (constant S_ .bf16 0x0000#16) : FVec Ideal S12288x1024 .bf16) := by
  unfold V
  after_results
  rfl

/-! ## At an index -/

theorem bit_ind (b : BitVec 1) (P : Prop) [Decidable P] (h : b.toNat = if P then 1 else 0) : (((b.toNat : ℕ) : ℝ) : EReal) = ind P := by
  rw [h, ind_coe]
  split <;> simp

theorem plane_ap (x : IVec S7x128x128 1) (t r : Fin 128) : plane x (ix3 0 t r) = x (ix3 0 t r) :=
  extractStridedSlice_apply _ _ _ _ _ (fun a => by
    match a with
    | ⟨0, _⟩ => rfl
    | ⟨1, _⟩ => exact (Nat.zero_add _).symm
    | ⟨2, _⟩ => exact (Nat.zero_add _).symm)

/-- The forward sums at an index. -/
theorem aF_ap (i : Fin 9) (t r : Fin 128) : aF (ix3 i t r) = ind (aP i t r) := by
  unfold aF
  refine (show _ = (((BitVec.toNat (concatenate S9x128x128 0 _ _ (ix3 i t r)) : ℕ) : ℝ) : EReal) from rfl).trans ?_
  refine bit_ind _ _ ?_
  by_cases h7 : i.val < 7
  · refine (congrArg BitVec.toNat (concatenate_apply_piece 0 [⟨S7x128x128, aLvl⟩, ⟨S1x128x128, plane (cmpi .sle (io 2) (io 1))⟩, ⟨S1x128x128, plane (cmpi .sgt (io 2) (io 1))⟩] concatenates_S7x128x128_S1x128x128_S1x128x128_S9x128x128_d0 (ix3 i t r) 0 (Nat.lt_of_sub_eq_succ rfl) S7x128x128 aLvl rfl rfl 0 rfl (ix3 ⟨i.val, h7⟩ t r) (fun a ha => ?_) (Nat.zero_add _))).trans ?_
    · match a with
      | ⟨0, _⟩ => exact absurd rfl ha
      | ⟨1, _⟩ => rfl
      | ⟨2, _⟩ => rfl
    · exact aBit_val ⟨i.val, h7⟩ t r
  · by_cases h8 : i.val = 7
    · have e : i = 7 := Fin.ext h8
      subst e
      refine (congrArg BitVec.toNat (concatenate_apply_piece 0 [⟨S7x128x128, aLvl⟩, ⟨S1x128x128, plane (cmpi .sle (io 2) (io 1))⟩, ⟨S1x128x128, plane (cmpi .sgt (io 2) (io 1))⟩] concatenates_S7x128x128_S1x128x128_S1x128x128_S9x128x128_d0 (ix3 7 t r) 1 (Nat.lt_of_sub_eq_succ rfl) S1x128x128 (plane (cmpi .sle (io 2) (io 1))) rfl rfl 7 (by rfl) (ix3 0 t r) (fun a ha => ?_) ?_)).trans ?_
      · match a with
        | ⟨0, _⟩ => exact absurd rfl ha
        | ⟨1, _⟩ => rfl
        | ⟨2, _⟩ => rfl
      · rfl
      · rw [plane_ap]
        exact le_val t r
    · have e : i = 8 := Fin.ext (by have := i.isLt; show i.val = 8; omega)
      subst e
      refine (congrArg BitVec.toNat (concatenate_apply_piece 0 [⟨S7x128x128, aLvl⟩, ⟨S1x128x128, plane (cmpi .sle (io 2) (io 1))⟩, ⟨S1x128x128, plane (cmpi .sgt (io 2) (io 1))⟩] concatenates_S7x128x128_S1x128x128_S1x128x128_S9x128x128_d0 (ix3 8 t r) 2 (Nat.lt_of_sub_eq_succ rfl) S1x128x128 (plane (cmpi .sgt (io 2) (io 1))) rfl rfl 8 (by rfl) (ix3 0 t r) (fun a ha => ?_) ?_)).trans ?_
      · match a with
        | ⟨0, _⟩ => exact absurd rfl ha
        | ⟨1, _⟩ => rfl
        | ⟨2, _⟩ => rfl
      · rfl
      · rw [plane_ap]
        exact gt_val t r

/-- The forward pairs at an index. -/
theorem mF_ap (i : Fin 8) (t r : Fin 128) : mF (ix3 i t r) = ind (mP i t r) := by
  unfold mF
  refine (show _ = (((BitVec.toNat (concatenate S8x128x128 0 _ _ (ix3 i t r)) : ℕ) : ℝ) : EReal) from rfl).trans ?_
  refine bit_ind _ _ ?_
  by_cases h7 : i.val < 7
  · refine (congrArg BitVec.toNat (concatenate_apply_piece 0 [⟨S7x128x128, mLvl⟩, ⟨S1x128x128, plane (cmpi .eq (io 1) (io 2))⟩] concatenates_S7x128x128_S1x128x128_S8x128x128_d0 (ix3 i t r) 0 (Nat.lt_of_sub_eq_succ rfl) S7x128x128 mLvl rfl rfl 0 rfl (ix3 ⟨i.val, h7⟩ t r) (fun a ha => ?_) (Nat.zero_add _))).trans ?_
    · match a with
      | ⟨0, _⟩ => exact absurd rfl ha
      | ⟨1, _⟩ => rfl
      | ⟨2, _⟩ => rfl
    · exact mBit_val ⟨i.val, h7⟩ t r
  · have e : i = 7 := Fin.ext (by have := i.isLt; show i.val = 7; omega)
    subst e
    refine (congrArg BitVec.toNat (concatenate_apply_piece 0 [⟨S7x128x128, mLvl⟩, ⟨S1x128x128, plane (cmpi .eq (io 1) (io 2))⟩] concatenates_S7x128x128_S1x128x128_S8x128x128_d0 (ix3 7 t r) 1 (Nat.lt_of_sub_eq_succ rfl) S1x128x128 (plane (cmpi .eq (io 1) (io 2))) rfl rfl 7 (by rfl) (ix3 0 t r) (fun a ha => ?_) ?_)).trans ?_
    · match a with
      | ⟨0, _⟩ => exact absurd rfl ha
      | ⟨1, _⟩ => rfl
      | ⟨2, _⟩ => rfl
    · rfl
    · rw [plane_ap]
      exact eq_val t r

theorem pair9_0 {α : Type} (x y : S9x128x128.Idx → α) (i : Fin 9) (t r : Fin 128) :
    concatenate S2x9x128x128 0
      [⟨S1x9x128x128, broadcastInDim S1x9x128x128 ![1, 2, 3] bcast_S9x128x128_S1x9x128x128_1_2_3 x⟩,
       ⟨S1x9x128x128, broadcastInDim S1x9x128x128 ![1, 2, 3] bcast_S9x128x128_S1x9x128x128_1_2_3 y⟩]
      concatenates_S1x9x128x128_S1x9x128x128_S2x9x128x128_d0 (ix4 0 i t r) = x (ix3 i t r) :=
  (concatenate_pair_apply_left (s₁ := S1x9x128x128) (s₂ := S1x9x128x128) (t := S2x9x128x128) 0
    (broadcastInDim S1x9x128x128 ![1, 2, 3] bcast_S9x128x128_S1x9x128x128_1_2_3 x) (broadcastInDim S1x9x128x128 ![1, 2, 3] bcast_S9x128x128_S1x9x128x128_1_2_3 y) _ _ rfl (ix4 0 i t r) (fun a => by
    match a with
    | ⟨0, _⟩ => rfl
    | ⟨1, _⟩ => rfl
    | ⟨2, _⟩ => rfl
    | ⟨3, _⟩ => rfl)).trans (broadcastInDim_apply _ _ _ _ (ix3 i t r) (fun a => by
    match a with
    | ⟨0, _⟩ => rfl
    | ⟨1, _⟩ => rfl
    | ⟨2, _⟩ => rfl))

theorem pair9_1 {α : Type} (x y : S9x128x128.Idx → α) (i : Fin 9) (t r : Fin 128) :
    concatenate S2x9x128x128 0
      [⟨S1x9x128x128, broadcastInDim S1x9x128x128 ![1, 2, 3] bcast_S9x128x128_S1x9x128x128_1_2_3 x⟩,
       ⟨S1x9x128x128, broadcastInDim S1x9x128x128 ![1, 2, 3] bcast_S9x128x128_S1x9x128x128_1_2_3 y⟩]
      concatenates_S1x9x128x128_S1x9x128x128_S2x9x128x128_d0 (ix4 1 i t r) = y (ix3 i t r) :=
  (concatenate_pair_apply_right (s₁ := S1x9x128x128) (s₂ := S1x9x128x128) (t := S2x9x128x128) 0
    (broadcastInDim S1x9x128x128 ![1, 2, 3] bcast_S9x128x128_S1x9x128x128_1_2_3 x) (broadcastInDim S1x9x128x128 ![1, 2, 3] bcast_S9x128x128_S1x9x128x128_1_2_3 y) _ _ rfl rfl (ix4 0 i t r) (fun a ha => by
    match a with
    | ⟨0, _⟩ => exact absurd rfl ha
    | ⟨1, _⟩ => rfl
    | ⟨2, _⟩ => rfl
    | ⟨3, _⟩ => rfl) rfl).trans (broadcastInDim_apply _ _ _ _ (ix3 i t r) (fun a => by
    match a with
    | ⟨0, _⟩ => rfl
    | ⟨1, _⟩ => rfl
    | ⟨2, _⟩ => rfl))

theorem rev9 {α : Type} (x : S9x128x128.Idx → α) (i : Fin 9) (t r : Fin 128) :
    Host.reverse [1, 2] x (ix3 i t r) = x (ix3 i (Fin.rev t) (Fin.rev r)) := by
  unfold Host.reverse
  refine congrArg x (funext fun a => Fin.ext ?_)
  match a with
  | ⟨0, _⟩ => rfl
  | ⟨1, _⟩ => rfl
  | ⟨2, _⟩ => rfl

theorem pair8_0 {α : Type} (x y : S8x128x128.Idx → α) (i : Fin 8) (t r : Fin 128) :
    concatenate S2x8x128x128 0
      [⟨S1x8x128x128, broadcastInDim S1x8x128x128 ![1, 2, 3] bcast_S8x128x128_S1x8x128x128_1_2_3 x⟩,
       ⟨S1x8x128x128, broadcastInDim S1x8x128x128 ![1, 2, 3] bcast_S8x128x128_S1x8x128x128_1_2_3 y⟩]
      concatenates_S1x8x128x128_S1x8x128x128_S2x8x128x128_d0 (ix4 0 i t r) = x (ix3 i t r) :=
  (concatenate_pair_apply_left (s₁ := S1x8x128x128) (s₂ := S1x8x128x128) (t := S2x8x128x128) 0
    (broadcastInDim S1x8x128x128 ![1, 2, 3] bcast_S8x128x128_S1x8x128x128_1_2_3 x) (broadcastInDim S1x8x128x128 ![1, 2, 3] bcast_S8x128x128_S1x8x128x128_1_2_3 y) _ _ rfl (ix4 0 i t r) (fun a => by
    match a with
    | ⟨0, _⟩ => rfl
    | ⟨1, _⟩ => rfl
    | ⟨2, _⟩ => rfl
    | ⟨3, _⟩ => rfl)).trans (broadcastInDim_apply _ _ _ _ (ix3 i t r) (fun a => by
    match a with
    | ⟨0, _⟩ => rfl
    | ⟨1, _⟩ => rfl
    | ⟨2, _⟩ => rfl))

theorem pair8_1 {α : Type} (x y : S8x128x128.Idx → α) (i : Fin 8) (t r : Fin 128) :
    concatenate S2x8x128x128 0
      [⟨S1x8x128x128, broadcastInDim S1x8x128x128 ![1, 2, 3] bcast_S8x128x128_S1x8x128x128_1_2_3 x⟩,
       ⟨S1x8x128x128, broadcastInDim S1x8x128x128 ![1, 2, 3] bcast_S8x128x128_S1x8x128x128_1_2_3 y⟩]
      concatenates_S1x8x128x128_S1x8x128x128_S2x8x128x128_d0 (ix4 1 i t r) = y (ix3 i t r) :=
  (concatenate_pair_apply_right (s₁ := S1x8x128x128) (s₂ := S1x8x128x128) (t := S2x8x128x128) 0
    (broadcastInDim S1x8x128x128 ![1, 2, 3] bcast_S8x128x128_S1x8x128x128_1_2_3 x) (broadcastInDim S1x8x128x128 ![1, 2, 3] bcast_S8x128x128_S1x8x128x128_1_2_3 y) _ _ rfl rfl (ix4 0 i t r) (fun a ha => by
    match a with
    | ⟨0, _⟩ => exact absurd rfl ha
    | ⟨1, _⟩ => rfl
    | ⟨2, _⟩ => rfl
    | ⟨3, _⟩ => rfl) rfl).trans (broadcastInDim_apply _ _ _ _ (ix3 i t r) (fun a => by
    match a with
    | ⟨0, _⟩ => rfl
    | ⟨1, _⟩ => rfl
    | ⟨2, _⟩ => rfl))

theorem rev8 {α : Type} (x : S8x128x128.Idx → α) (i : Fin 8) (t r : Fin 128) :
    Host.reverse [1, 2] x (ix3 i t r) = x (ix3 i (Fin.rev t) (Fin.rev r)) := by
  unfold Host.reverse
  refine congrArg x (funext fun a => Fin.ext ?_)
  match a with
  | ⟨0, _⟩ => rfl
  | ⟨1, _⟩ => rfl
  | ⟨2, _⟩ => rfl

theorem flat_ap {α : Type} (x : S2x9x128x128.Idx → α) (d : Fin 2) (i : Fin 9) (t r : Fin 128) :
    shapeCast S2x1152x128 x shapeCasts_S2x9x128x128_S2x1152x128 (ix3 d (lvRow i t) r) = x (ix4 d i t r) :=
  shapeCast_apply _ _ _ _ (by
    rw [Shape.rowMajor_val_four, Shape.rowMajor_val_three]
    show ((d.val * 9 + i.val) * 128 + t.val) * 128 + r.val = (d.val * 1152 + (128 * i.val + t.val)) * 128 + r.val
    omega)

/-- The forward sums among those of both directions. -/
theorem aAll_0 (i : Fin 9) (t r : Fin 128) : (aAll (ix3 0 (lvRow i t) r) : EReal) = ind (aP i t r) :=
  (flat_ap _ 0 i t r).trans ((pair9_0 aF (Host.reverse [1, 2] aF) i t r).trans (aF_ap i t r))

/-- The backward sums: the forward ones flipped. -/
theorem aAll_1 (i : Fin 9) (t r : Fin 128) : (aAll (ix3 1 (lvRow i t) r) : EReal) = ind (aP i (Fin.rev t) (Fin.rev r)) :=
  (flat_ap _ 1 i t r).trans ((pair9_1 aF (Host.reverse [1, 2] aF) i t r).trans ((rev9 aF i t r).trans (aF_ap i _ _)))

/-- The forward pairs among those of both directions. -/
theorem mAll_0 (i : Fin 8) (t r : Fin 128) : (mAll (ix4 0 i t r) : EReal) = ind (mP i t r) :=
  (pair8_0 mF (Host.reverse [1, 2] mF) i t r).trans (mF_ap i t r)

/-- The backward pairs: the forward ones flipped. -/
theorem mAll_1 (i : Fin 8) (t r : Fin 128) : (mAll (ix4 1 i t r) : EReal) = ind (mP i (Fin.rev t) (Fin.rev r)) :=
  (pair8_1 mF (Host.reverse [1, 2] mF) i t r).trans ((rev8 mF i t r).trans (mF_ap i _ _))

/-- The kernel's seventh operand is the gain row. -/
theorem gain_ap (x : FVec Ideal S1x128 .f32) (e : Fin 128) :
    shapeCast S1x128 (shapeCast S128 x shapeCasts_S1x128_S128) shapeCasts_S128_S1x128 (ix2 0 e) = x (ix2 0 e) := by
  refine (shapeCast_apply _ _ _ (ix1 e) ?_).trans (shapeCast_apply _ _ _ (ix2 0 e) ?_)
  · rw [Shape.rowMajor_val_one, Shape.rowMajor_val_two]
    show e.val = 0 * 128 + e.val
    omega
  · rw [Shape.rowMajor_val_one, Shape.rowMajor_val_two]
    show 0 * 128 + e.val = e.val
    omega

end Cert.Hgrn.Ker

end
-- ==== Proof.Outs.lean ====
module

public import proofs.«01_k».proof.Proof.States

@[expose] public section

set_option maxRecDepth 16384

noncomputable section

namespace Cert.Hgrn

open Idealize.ShloMosaic Idealize.ShloMosaic.TcCoe Idealize.ShloMosaic.ValueIdx
open Cert.KernelIdeal Cert.KernelIdeal.Gen
open scoped BigOperators

variable (c : Dev nD)
  (arg2 : Memref sig .tc .vmem S256x256 .bf16) (harg2 : arg2.IsWhole) (arg3 : Memref sig .tc .vmem S256x256 .f32) (harg3 : arg3.IsWhole)
  (arg4 : Memref sig .tc .vmem S256x256 .f32) (harg4 : arg4.IsWhole) (arg5 : Memref sig .tc .vmem S256x256 .bf16) (harg5 : arg5.IsWhole)
  (arg6 : Memref sig .tc .vmem S256x256 .bf16) (harg6 : arg6.IsWhole) (arg7 : Memref sig .tc .vmem S2x2x256 .f32) (harg7 : arg7.IsWhole)
  (arg8 : Memref sig .tc .vmem S1x128 .f32) (harg8 : arg8.IsWhole) (arg9 : Memref sig .tc .vmem S2x1152x128 .bf16) (harg9 : arg9.IsWhole)
  (arg10 : Memref sig .tc .vmem S2x8x128x128 .f32) (harg10 : arg10.IsWhole) (arg14 : Memref sig .tc .vmem S256x256 .f32)
  (arg15 : Memref sig .tc .vmem S256x256 .f32) (arg16 : Memref sig .tc .vmem S2x2x128x128 .f32)
  (arg17 : Memref sig .tc .vmem S2x2x1152x256 .f32) (arg18 : Memref sig .tc .vmem S2x2x128x256 .f32)
  (x0 : Vec Ideal S256x256 .bf16) (x1 : Vec Ideal S256x256 .f32) (x2 : Vec Ideal S256x256 .f32) (x3 : Vec Ideal S256x256 .bf16)
  (x4 : Vec Ideal S256x256 .bf16) (x5 : Vec Ideal S2x2x256 .f32) (x6 : Vec Ideal S1x128 .f32) (x7 : Vec Ideal S2x1152x128 .bf16)
  (x8 : Vec Ideal S2x8x128x128 .f32)

/-- The outputs direction 0, head 0, writes for half 0 (its step 1). -/
theorem o_000 (t e : Fin 128) : k0_pay45 (kernelRun0_A.sl.r_7 (F := Ideal) c arg5 harg5 x3) (kernelRun0_A.sl.r_11 (F := Ideal) c arg2 harg2 arg3 harg3 arg4 harg4 arg7 harg7 arg9 harg9 arg17 x0 x1 x2 x5 x7) (kernelRun0_A.sl.r_18 (F := Ideal) c arg2 harg2 arg3 harg3 arg4 harg4 arg7 harg7 arg9 harg9 arg17 x0 x1 x2 x5 x7) (kernelRun0_A.sl.r_19 (F := Ideal) c arg2 harg2 arg3 harg3 arg4 harg4 arg7 harg7 arg9 harg9 arg17 x0 x1 x2 x5 x7) (kernelRun0_A.sl.r_20 (F := Ideal) c arg2 harg2 arg3 harg3 arg4 harg4 arg7 harg7 arg9 harg9 arg17 x0 x1 x2 x5 x7) (kernelRun0_A.sl.r_25 (F := Ideal) c arg3 harg3 arg4 harg4 arg7 harg7 arg9 harg9 arg17 arg18 x1 x2 x5 x7) (kernelRun0_A.sl.r_26 (F := Ideal) c arg3 harg3 arg4 harg4 arg7 harg7 arg9 harg9 arg17 arg18 x1 x2 x5 x7) (kernelRun0_A.sl.r_28 (F := Ideal) c arg3 harg3 arg4 harg4 arg7 harg7 arg9 harg9 arg17 arg18 x1 x2 x5 x7) (kernelRun0_A.sl.r_29 (F := Ideal) c arg2 harg2 arg3 harg3 arg4 harg4 arg7 harg7 arg9 harg9 arg10 harg10 arg17 arg18 x0 x1 x2 x5 x7 x8) (kernelRun0_A.sl.r_30 (F := Ideal) c arg2 harg2 arg3 harg3 arg4 harg4 arg7 harg7 arg9 harg9 arg10 harg10 arg17 arg18 x0 x1 x2 x5 x7 x8) (View.readAt (Elt Ideal) arg10.view (Rect.unit (s := S2x8x128x128) ![0, 4, 0, 0] S1x1x128x128.size inb_S2x8x128x128_S1x1x128x128_0_4_0_0).toLoadRect (harg10.unread x8)) (View.readAt (Elt Ideal) arg10.view (Rect.unit (s := S2x8x128x128) ![0, 5, 0, 0] S1x1x128x128.size inb_S2x8x128x128_S1x1x128x128_0_5_0_0).toLoadRect (harg10.unread x8)) (View.readAt (Elt Ideal) arg10.view (Rect.unit (s := S2x8x128x128) ![0, 6, 0, 0] S1x1x128x128.size inb_S2x8x128x128_S1x1x128x128_0_6_0_0).toLoadRect (harg10.unread x8)) (kernelRun0_A.sl.v260 (F := Ideal) c arg16) (ix2 t e)
    = O1 x0 x3 x5 x1 x7 x8 0 0 0 t e := by
  simp only [kernelRun0_A.sl.r_7, kernelRun0_A.sl.r_11, kernelRun0_A.sl.r_18, kernelRun0_A.sl.r_5, kernelRun0_A.sl.r_19, kernelRun0_A.sl.r_20, kernelRun0_A.sl.r_25, kernelRun0_A.sl.r_6, kernelRun0_A.sl.r_26, kernelRun0_A.sl.r_28, kernelRun0_A.sl.r_27, kernelRun0_A.sl.r_29, kernelRun0_A.sl.r_9, kernelRun0_A.sl.r_10, kernelRun0_A.sl.r_14, kernelRun0_A.sl.r_15, kernelRun0_A.sl.r_16, kernelRun0_A.sl.r_21, kernelRun0_A.sl.r_22, kernelRun0_A.sl.r_23, kernelRun0_A.sl.r_30, kernelRun0_A.sl.r_17, kernelRun0_A.sl.r_24, k0_pay45, k0_pay44, k0_pay43, k0_pay22, k0_pay17, k0_pay19, k0_pay30, k0_pay31, k0_pay32, k0_pay37, k0_pay18, k0_pay38, k0_pay40, k0_pay39, k0_pay41, k0_pay20, k0_pay21, k0_pay26, k0_pay27, k0_pay28, k0_pay33, k0_pay34, k0_pay35, k0_pay42, k0_pay29, k0_pay36, v136_ap, v165_ap, v169_ap, v173_ap, v132_ap, v149_ap, v153_ap, v157_ap, v161_ap, v260_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, O1, outOf, attOf, stOf, cellM, cellQ, cellK, cellX, cellV, qOf, sgm]

/-- The outputs direction 0, head 1, writes for half 0 (its step 1). -/
theorem o_001 (t e : Fin 128) : k0_pay55 (kernelRun0_A.sl.r_11 (F := Ideal) c arg2 harg2 arg3 harg3 arg4 harg4 arg7 harg7 arg9 harg9 arg17 x0 x1 x2 x5 x7) (kernelRun0_A.sl.r_38 (F := Ideal) c arg3 harg3 arg4 harg4 arg5 harg5 arg7 harg7 arg9 harg9 arg16 arg17 arg18 x1 x2 x3 x5 x7) (kernelRun0_A.sl.r_39 (F := Ideal) c arg5 harg5 x3) (kernelRun0_A.sl.r_40 (F := Ideal) c arg2 harg2 arg3 harg3 arg4 harg4 arg7 harg7 arg9 harg9 arg10 harg10 arg17 arg18 x0 x1 x2 x5 x7 x8) (ix2 t e)
    = O1 x0 x3 x5 x1 x7 x8 0 0 1 t e := by
  simp only [kernelRun0_A.sl.r_11, kernelRun0_A.sl.r_38, kernelRun0_A.sl.r_39, kernelRun0_A.sl.r_7, kernelRun0_A.sl.r_40, kernelRun0_A.sl.r_17, kernelRun0_A.sl.r_5, kernelRun0_A.sl.r_18, kernelRun0_A.sl.r_19, kernelRun0_A.sl.r_20, kernelRun0_A.sl.r_24, kernelRun0_A.sl.r_6, kernelRun0_A.sl.r_25, kernelRun0_A.sl.r_26, kernelRun0_A.sl.r_28, kernelRun0_A.sl.r_27, kernelRun0_A.sl.r_34, kernelRun0_A.sl.r_9, kernelRun0_A.sl.r_10, kernelRun0_A.sl.r_14, kernelRun0_A.sl.r_15, kernelRun0_A.sl.r_21, kernelRun0_A.sl.r_22, kernelRun0_A.sl.r_35, kernelRun0_A.sl.r_36, kernelRun0_A.sl.r_16, kernelRun0_A.sl.r_37, kernelRun0_A.sl.r_23, k0_pay55, k0_pay22, k0_pay17, k0_pay19, k0_pay52, k0_pay53, k0_pay54, k0_pay29, k0_pay30, k0_pay31, k0_pay32, k0_pay36, k0_pay18, k0_pay37, k0_pay38, k0_pay40, k0_pay39, k0_pay48, k0_pay20, k0_pay21, k0_pay26, k0_pay27, k0_pay33, k0_pay34, k0_pay49, k0_pay50, k0_pay28, k0_pay51, k0_pay35, v136_ap, v340_ap, v161_ap, v165_ap, v169_ap, v173_ap, v132_ap, v149_ap, v153_ap, v157_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, O1, outOf, attOf, stOf, cellM, cellQ, cellK, cellX, cellV, qOf, sgm]

/-- The outputs direction 0, head 0, writes for half 1 (its step 2). -/
theorem o_010 (t e : Fin 128) : k0_pay132 (kernelRun0_A.sl.r_43 (F := Ideal) c arg5 harg5 x3) (kernelRun0_A.sl.r_85 (F := Ideal) c arg2 harg2 arg3 harg3 arg4 harg4 arg7 harg7 arg9 harg9 arg17 x0 x1 x2 x5 x7) (kernelRun0_A.sl.r_94 (F := Ideal) c arg2 harg2 arg3 harg3 arg4 harg4 arg7 harg7 arg9 harg9 arg17 x0 x1 x2 x5 x7) (kernelRun0_A.sl.r_95 (F := Ideal) c arg2 harg2 arg3 harg3 arg4 harg4 arg7 harg7 arg9 harg9 arg17 x0 x1 x2 x5 x7) (kernelRun0_A.sl.r_101 (F := Ideal) c arg3 harg3 arg4 harg4 arg7 harg7 arg9 harg9 arg17 arg18 x1 x2 x5 x7) (kernelRun0_A.sl.r_102 (F := Ideal) c arg3 harg3 arg4 harg4 arg7 harg7 arg9 harg9 arg17 arg18 x1 x2 x5 x7) (kernelRun0_A.sl.r_104 (F := Ideal) c arg2 harg2 arg3 harg3 arg4 harg4 arg7 harg7 arg9 harg9 arg10 harg10 arg17 arg18 x0 x1 x2 x5 x7 x8) (View.readAt (Elt Ideal) arg10.view (Rect.unit (s := S2x8x128x128) ![0, 5, 0, 0] S1x1x128x128.size inb_S2x8x128x128_S1x1x128x128_0_5_0_0).toLoadRect (harg10.unread x8)) (View.readAt (Elt Ideal) arg10.view (Rect.unit (s := S2x8x128x128) ![0, 6, 0, 0] S1x1x128x128.size inb_S2x8x128x128_S1x1x128x128_0_6_0_0).toLoadRect (harg10.unread x8)) (kernelRun0_A.sl.v844 (F := Ideal) c arg3 harg3 arg4 harg4 arg5 harg5 arg7 harg7 arg9 harg9 arg16 arg17 arg18 x1 x2 x3 x5 x7) (ix2 t e)
    = O2 127 x0 x3 x5 x1 x7 x8 0 0 1 0 t e := by
  simp only [kernelRun0_A.sl.r_43, kernelRun0_A.sl.r_85, kernelRun0_A.sl.r_94, kernelRun0_A.sl.r_80, kernelRun0_A.sl.r_95, kernelRun0_A.sl.r_101, kernelRun0_A.sl.r_81, kernelRun0_A.sl.r_102, kernelRun0_A.sl.r_104, kernelRun0_A.sl.r_89, kernelRun0_A.sl.r_88, kernelRun0_A.sl.r_90, kernelRun0_A.sl.r_91, kernelRun0_A.sl.r_92, kernelRun0_A.sl.r_93, kernelRun0_A.sl.r_96, kernelRun0_A.sl.r_97, kernelRun0_A.sl.r_98, kernelRun0_A.sl.r_99, kernelRun0_A.sl.r_100, kernelRun0_A.sl.r_103, kernelRun0_A.sl.r_83, kernelRun0_A.sl.r_84, k0_pay132, k0_pay131, k0_pay130, k0_pay109, k0_pay104, k0_pay106, k0_pay119, k0_pay120, k0_pay126, k0_pay105, k0_pay127, k0_pay129, k0_pay114, k0_pay113, k0_pay115, k0_pay116, k0_pay117, k0_pay118, k0_pay121, k0_pay122, k0_pay123, k0_pay124, k0_pay125, k0_pay128, k0_pay107, k0_pay108, v720_ap, v753_ap, v757_ap, v716_ap, v733_ap, v737_ap, v741_ap, v745_ap, v749_ap, v844_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, O2, outOf, attOf, stOf, cellM, cellQ, cellK, cellX, cellV, qOf, sgm]

/-- The outputs direction 0, head 1, writes for half 1 (its step 2). -/
theorem o_011 (t e : Fin 128) : k0_pay137 (kernelRun0_A.sl.r_43 (F := Ideal) c arg5 harg5 x3) (kernelRun0_A.sl.r_85 (F := Ideal) c arg2 harg2 arg3 harg3 arg4 harg4 arg7 harg7 arg9 harg9 arg17 x0 x1 x2 x5 x7) (kernelRun0_A.sl.r_93 (F := Ideal) c arg2 harg2 arg3 harg3 arg4 harg4 arg7 harg7 arg9 harg9 arg17 x0 x1 x2 x5 x7) (kernelRun0_A.sl.r_94 (F := Ideal) c arg2 harg2 arg3 harg3 arg4 harg4 arg7 harg7 arg9 harg9 arg17 x0 x1 x2 x5 x7) (kernelRun0_A.sl.r_95 (F := Ideal) c arg2 harg2 arg3 harg3 arg4 harg4 arg7 harg7 arg9 harg9 arg17 x0 x1 x2 x5 x7) (kernelRun0_A.sl.r_100 (F := Ideal) c arg3 harg3 arg4 harg4 arg7 harg7 arg9 harg9 arg17 arg18 x1 x2 x5 x7) (kernelRun0_A.sl.r_101 (F := Ideal) c arg3 harg3 arg4 harg4 arg7 harg7 arg9 harg9 arg17 arg18 x1 x2 x5 x7) (kernelRun0_A.sl.r_102 (F := Ideal) c arg3 harg3 arg4 harg4 arg7 harg7 arg9 harg9 arg17 arg18 x1 x2 x5 x7) (kernelRun0_A.sl.r_106 (F := Ideal) c arg2 harg2 arg3 harg3 arg4 harg4 arg7 harg7 arg9 harg9 arg10 harg10 arg17 arg18 x0 x1 x2 x5 x7 x8) (View.readAt (Elt Ideal) arg10.view (Rect.unit (s := S2x8x128x128) ![0, 4, 0, 0] S1x1x128x128.size inb_S2x8x128x128_S1x1x128x128_0_4_0_0).toLoadRect (harg10.unread x8)) (View.readAt (Elt Ideal) arg10.view (Rect.unit (s := S2x8x128x128) ![0, 5, 0, 0] S1x1x128x128.size inb_S2x8x128x128_S1x1x128x128_0_5_0_0).toLoadRect (harg10.unread x8)) (View.readAt (Elt Ideal) arg10.view (Rect.unit (s := S2x8x128x128) ![0, 6, 0, 0] S1x1x128x128.size inb_S2x8x128x128_S1x1x128x128_0_6_0_0).toLoadRect (harg10.unread x8)) (kernelRun0_A.sl.v924 (F := Ideal) c arg3 harg3 arg4 harg4 arg5 harg5 arg7 harg7 arg9 harg9 arg16 arg17 arg18 x1 x2 x3 x5 x7) (ix2 t e)
    = O2 127 x0 x3 x5 x1 x7 x8 0 0 1 1 t e := by
  simp only [kernelRun0_A.sl.r_43, kernelRun0_A.sl.r_85, kernelRun0_A.sl.r_93, kernelRun0_A.sl.r_80, kernelRun0_A.sl.r_94, kernelRun0_A.sl.r_95, kernelRun0_A.sl.r_100, kernelRun0_A.sl.r_81, kernelRun0_A.sl.r_101, kernelRun0_A.sl.r_102, kernelRun0_A.sl.r_106, kernelRun0_A.sl.r_83, kernelRun0_A.sl.r_84, kernelRun0_A.sl.r_89, kernelRun0_A.sl.r_88, kernelRun0_A.sl.r_90, kernelRun0_A.sl.r_91, kernelRun0_A.sl.r_92, kernelRun0_A.sl.r_96, kernelRun0_A.sl.r_97, kernelRun0_A.sl.r_98, kernelRun0_A.sl.r_99, k0_pay137, k0_pay136, k0_pay135, k0_pay109, k0_pay104, k0_pay106, k0_pay118, k0_pay119, k0_pay120, k0_pay125, k0_pay105, k0_pay126, k0_pay127, k0_pay134, k0_pay107, k0_pay108, k0_pay114, k0_pay113, k0_pay115, k0_pay116, k0_pay117, k0_pay121, k0_pay122, k0_pay123, k0_pay124, v720_ap, v749_ap, v753_ap, v757_ap, v716_ap, v733_ap, v737_ap, v741_ap, v745_ap, v924_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, O2, outOf, attOf, stOf, cellM, cellQ, cellK, cellX, cellV, qOf, sgm]

/-- The outputs direction 1, head 0, writes for half 0 (its step 2). -/
theorem o_100 (t e : Fin 128) : k0_pay167 (kernelRun0_A.sl.r_7 (F := Ideal) c arg5 harg5 x3) (kernelRun0_A.sl.r_114 (F := Ideal) c arg2 harg2 arg3 harg3 arg4 harg4 arg7 harg7 arg9 harg9 arg17 x0 x1 x2 x5 x7) (kernelRun0_A.sl.r_122 (F := Ideal) c arg2 harg2 arg3 harg3 arg4 harg4 arg7 harg7 arg9 harg9 arg17 x0 x1 x2 x5 x7) (kernelRun0_A.sl.r_123 (F := Ideal) c arg2 harg2 arg3 harg3 arg4 harg4 arg7 harg7 arg9 harg9 arg17 x0 x1 x2 x5 x7) (kernelRun0_A.sl.r_124 (F := Ideal) c arg2 harg2 arg3 harg3 arg4 harg4 arg7 harg7 arg9 harg9 arg17 x0 x1 x2 x5 x7) (kernelRun0_A.sl.r_129 (F := Ideal) c arg3 harg3 arg4 harg4 arg7 harg7 arg9 harg9 arg17 arg18 x1 x2 x5 x7) (kernelRun0_A.sl.r_130 (F := Ideal) c arg3 harg3 arg4 harg4 arg7 harg7 arg9 harg9 arg17 arg18 x1 x2 x5 x7) (kernelRun0_A.sl.r_131 (F := Ideal) c arg3 harg3 arg4 harg4 arg7 harg7 arg9 harg9 arg17 arg18 x1 x2 x5 x7) (kernelRun0_A.sl.r_133 (F := Ideal) c arg2 harg2 arg3 harg3 arg4 harg4 arg7 harg7 arg9 harg9 arg10 harg10 arg17 arg18 x0 x1 x2 x5 x7 x8) (kernelRun0_A.sl.r_134 (F := Ideal) c arg10 harg10 x8) (View.readAt (Elt Ideal) arg10.view (Rect.unit (s := S2x8x128x128) ![1, 5, 0, 0] S1x1x128x128.size inb_S2x8x128x128_S1x1x128x128_1_5_0_0).toLoadRect (harg10.unread x8)) (View.readAt (Elt Ideal) arg10.view (Rect.unit (s := S2x8x128x128) ![1, 6, 0, 0] S1x1x128x128.size inb_S2x8x128x128_S1x1x128x128_1_6_0_0).toLoadRect (harg10.unread x8)) (kernelRun0_A.sl.v1089 (F := Ideal) c arg3 harg3 arg4 harg4 arg5 harg5 arg7 harg7 arg9 harg9 arg16 arg17 arg18 x1 x2 x3 x5 x7) (ix2 t e)
    = O2 0 x0 x3 x5 x2 x7 x8 1 1 0 0 t e := by
  simp only [kernelRun0_A.sl.r_7, kernelRun0_A.sl.r_114, kernelRun0_A.sl.r_122, kernelRun0_A.sl.r_109, kernelRun0_A.sl.r_123, kernelRun0_A.sl.r_124, kernelRun0_A.sl.r_129, kernelRun0_A.sl.r_110, kernelRun0_A.sl.r_130, kernelRun0_A.sl.r_131, kernelRun0_A.sl.r_133, kernelRun0_A.sl.r_112, kernelRun0_A.sl.r_113, kernelRun0_A.sl.r_118, kernelRun0_A.sl.r_119, kernelRun0_A.sl.r_120, kernelRun0_A.sl.r_121, kernelRun0_A.sl.r_125, kernelRun0_A.sl.r_126, kernelRun0_A.sl.r_127, kernelRun0_A.sl.r_128, kernelRun0_A.sl.r_132, kernelRun0_A.sl.r_134, k0_pay167, k0_pay166, k0_pay165, k0_pay145, k0_pay140, k0_pay142, k0_pay153, k0_pay154, k0_pay155, k0_pay160, k0_pay141, k0_pay161, k0_pay162, k0_pay163, k0_pay143, k0_pay144, k0_pay149, k0_pay150, k0_pay151, k0_pay152, k0_pay156, k0_pay157, k0_pay158, k0_pay159, k0_pay164, v965_ap, v994_ap, v998_ap, v1002_ap, v961_ap, v978_ap, v982_ap, v986_ap, v990_ap, v1089_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, O2, outOf, attOf, stOf, cellM, cellQ, cellK, cellX, cellV, qOf, sgm]

/-- The outputs direction 1, head 1, writes for half 0 (its step 2). -/
theorem o_101 (t e : Fin 128) : k0_pay176 (kernelRun0_A.sl.r_141 (F := Ideal) c arg2 harg2 arg3 harg3 arg4 harg4 arg5 harg5 arg7 harg7 arg9 harg9 arg10 harg10 arg16 arg17 arg18 x0 x1 x2 x3 x5 x7 x8) (ix2 t e)
    = O2 0 x0 x3 x5 x2 x7 x8 1 1 0 1 t e := by
  simp only [kernelRun0_A.sl.r_141, kernelRun0_A.sl.r_7, kernelRun0_A.sl.r_114, kernelRun0_A.sl.r_121, kernelRun0_A.sl.r_109, kernelRun0_A.sl.r_122, kernelRun0_A.sl.r_123, kernelRun0_A.sl.r_124, kernelRun0_A.sl.r_128, kernelRun0_A.sl.r_110, kernelRun0_A.sl.r_129, kernelRun0_A.sl.r_130, kernelRun0_A.sl.r_131, kernelRun0_A.sl.r_138, kernelRun0_A.sl.r_112, kernelRun0_A.sl.r_113, kernelRun0_A.sl.r_118, kernelRun0_A.sl.r_119, kernelRun0_A.sl.r_120, kernelRun0_A.sl.r_125, kernelRun0_A.sl.r_126, kernelRun0_A.sl.r_127, k0_pay176, k0_pay175, k0_pay174, k0_pay173, k0_pay145, k0_pay140, k0_pay142, k0_pay152, k0_pay153, k0_pay154, k0_pay155, k0_pay159, k0_pay141, k0_pay160, k0_pay161, k0_pay162, k0_pay172, k0_pay143, k0_pay144, k0_pay149, k0_pay150, k0_pay151, k0_pay156, k0_pay157, k0_pay158, v965_ap, v990_ap, v994_ap, v998_ap, v1002_ap, v961_ap, v978_ap, v982_ap, v986_ap, v1169_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, O2, outOf, attOf, stOf, cellM, cellQ, cellK, cellX, cellV, qOf, sgm]

/-- The outputs direction 1, head 0, writes for half 1 (its step 1). -/
theorem o_110 (t e : Fin 128) : k0_pay85 (kernelRun0_A.sl.r_67 (F := Ideal) c arg2 harg2 arg3 harg3 arg4 harg4 arg5 harg5 arg7 harg7 arg9 harg9 arg10 harg10 arg17 arg18 x0 x1 x2 x3 x5 x7 x8) (kernelRun0_A.sl.r_68 (F := Ideal) c arg2 harg2 arg3 harg3 arg4 harg4 arg5 harg5 arg7 harg7 arg9 harg9 arg16 arg17 arg18 x0 x1 x2 x3 x5 x7) (ix2 t e)
    = O1 x0 x3 x5 x2 x7 x8 1 1 0 t e := by
  simp only [kernelRun0_A.sl.r_67, kernelRun0_A.sl.r_43, kernelRun0_A.sl.r_53, kernelRun0_A.sl.r_41, kernelRun0_A.sl.r_54, kernelRun0_A.sl.r_55, kernelRun0_A.sl.r_56, kernelRun0_A.sl.r_60, kernelRun0_A.sl.r_42, kernelRun0_A.sl.r_61, kernelRun0_A.sl.r_62, kernelRun0_A.sl.r_63, kernelRun0_A.sl.r_64, kernelRun0_A.sl.r_45, kernelRun0_A.sl.r_46, kernelRun0_A.sl.r_50, kernelRun0_A.sl.r_51, kernelRun0_A.sl.r_52, kernelRun0_A.sl.r_57, kernelRun0_A.sl.r_58, kernelRun0_A.sl.r_59, kernelRun0_A.sl.r_68, kernelRun0_A.sl.r_47, k0_pay85, k0_pay83, k0_pay82, k0_pay69, k0_pay57, k0_pay70, k0_pay71, k0_pay72, k0_pay76, k0_pay58, k0_pay77, k0_pay78, k0_pay79, k0_pay80, k0_pay60, k0_pay61, k0_pay66, k0_pay67, k0_pay68, k0_pay73, k0_pay74, k0_pay75, k0_pay84, k0_pay81, k0_pay62, k0_pay59, v406_ap, v410_ap, v414_ap, v418_ap, v377_ap, v394_ap, v398_ap, v402_ap, v381_ap, v505_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, O1, outOf, attOf, stOf, cellM, cellQ, cellK, cellX, cellV, qOf, sgm]

/-- The outputs direction 1, head 1, writes for half 1 (its step 1). -/
theorem o_111 (t e : Fin 128) : k0_pay93 (kernelRun0_A.sl.r_43 (F := Ideal) c arg5 harg5 x3) (kernelRun0_A.sl.r_47 (F := Ideal) c arg2 harg2 arg3 harg3 arg4 harg4 arg7 harg7 arg9 harg9 arg17 x0 x1 x2 x5 x7) (kernelRun0_A.sl.r_71 (F := Ideal) c arg2 harg2 arg3 harg3 arg4 harg4 arg7 harg7 arg9 harg9 arg10 harg10 arg17 arg18 x0 x1 x2 x5 x7 x8) (kernelRun0_A.sl.r_72 (F := Ideal) c arg2 harg2 arg3 harg3 arg4 harg4 arg7 harg7 arg9 harg9 arg10 harg10 arg17 arg18 x0 x1 x2 x5 x7 x8) (kernelRun0_A.sl.v585 (F := Ideal) c arg3 harg3 arg4 harg4 arg5 harg5 arg7 harg7 arg9 harg9 arg16 arg17 arg18 x1 x2 x3 x5 x7) (ix2 t e)
    = O1 x0 x3 x5 x2 x7 x8 1 1 1 t e := by
  simp only [kernelRun0_A.sl.r_43, kernelRun0_A.sl.r_47, kernelRun0_A.sl.r_41, kernelRun0_A.sl.r_71, kernelRun0_A.sl.r_52, kernelRun0_A.sl.r_53, kernelRun0_A.sl.r_54, kernelRun0_A.sl.r_55, kernelRun0_A.sl.r_59, kernelRun0_A.sl.r_42, kernelRun0_A.sl.r_60, kernelRun0_A.sl.r_61, kernelRun0_A.sl.r_62, kernelRun0_A.sl.r_69, kernelRun0_A.sl.r_45, kernelRun0_A.sl.r_46, kernelRun0_A.sl.r_50, kernelRun0_A.sl.r_57, kernelRun0_A.sl.r_70, kernelRun0_A.sl.r_51, kernelRun0_A.sl.r_58, kernelRun0_A.sl.r_72, kernelRun0_A.sl.r_56, kernelRun0_A.sl.r_63, k0_pay93, k0_pay92, k0_pay91, k0_pay62, k0_pay59, k0_pay57, k0_pay89, k0_pay68, k0_pay69, k0_pay70, k0_pay71, k0_pay75, k0_pay58, k0_pay76, k0_pay77, k0_pay78, k0_pay87, k0_pay60, k0_pay61, k0_pay66, k0_pay73, k0_pay88, k0_pay67, k0_pay74, k0_pay90, k0_pay72, k0_pay79, v381_ap, v402_ap, v406_ap, v410_ap, v414_ap, v377_ap, v394_ap, v398_ap, v418_ap, v585_ap, extf_ap, truncf_ap, addf_ap, subf_ap, mulf_ap, divf_ap, exp_ap, mm_nn, mm_nt, mm_tn, cols0, cols1, sc_11ab, sc_ab_11ab, shapeCast_self, bct128, broadcast_apply, scalar_ap, Ideal.ofBits_zero_f32, Ideal.ofBits_one_f32, load_ap, rows0, rows1, row1 0 0 0 0 rfl rfl, row1 0 127 127 0 rfl rfl, row1 1 0 0 128 rfl rfl, row1 1 127 127 128 rfl rfl, blkM _ 0 0 0 0 rfl rfl, blkM _ 0 1 0 1 rfl rfl, blkM _ 0 2 0 2 rfl rfl, blkM _ 0 3 0 3 rfl rfl, blkM _ 0 4 0 4 rfl rfl, blkM _ 0 5 0 5 rfl rfl, blkM _ 0 6 0 6 rfl rfl, blkM _ 0 7 0 7 rfl rfl, blkM _ 1 0 1 0 rfl rfl, blkM _ 1 1 1 1 rfl rfl, blkM _ 1 2 1 2 rfl rfl, blkM _ 1 3 1 3 rfl rfl, blkM _ 1 4 1 4 rfl rfl, blkM _ 1 5 1 5 rfl rfl, blkM _ 1 6 1 6 rfl rfl, blkM _ 1 7 1 7 rfl rfl, O1, outOf, attOf, stOf, cellM, cellQ, cellK, cellX, cellV, qOf, sgm]

end Cert.Hgrn

end
-- ==== Proof.Block.lean ====
module

public import proofs.«01_k».proof.Proof.Outs
public import Idealize.ShloMosaic.Lib.ValueLayoutCasts
public import Idealize.ShloMosaic.Lib.ValueIdxRank6

@[expose] public section

set_option maxRecDepth 16384

noncomputable section

namespace Cert.Hgrn

open Idealize.ShloMosaic Idealize.ShloMosaic.TcCoe Idealize.ShloMosaic.ValueIdx
open Cert.KernelIdeal Cert.KernelIdeal.Gen
open scoped BigOperators

/-! ## The output buffers read back -/

section Scratch
variable {Val : EltTy → Type} [∀ e, Nonempty (Val e)] {e : EltTy}

/-- The newest 128 by 128 piece is the one asked for. -/
theorem tile_hit (v : View sig .tc .vmem S256x256 e) (f : v.ty.Contents Val) (a b : Fin 2) (oa ob : ℕ) (ha : oa = 128 * a.val) (hb : ob = 128 * b.val)
    (inb : ∀ x, ![oa, ob] x + S128x128.size x ≤ S256x256.size x)
    (w : (Rect.unit (s := S256x256) ![oa, ob] S128x128.size inb).shape.Idx → Val e)
    (L : List (View.Piece Val S256x256 e)) (i j : Fin 128) :
    v.read Val (v.writes Val f (⟨Rect.unit ![oa, ob] S128x128.size inb, w⟩ :: L)) (ix2 (row a i) (row b j)) = w (ix2 i j) :=
  View.read_writes_cons_unit_of_mem v f inb w L (ix2 (row a i) (row b j)) (ix2 i j) rfl (fun x => by
    match x with
    | ⟨0, _⟩ => show 128 * a.val + i.val = oa + i.val; omega
    | ⟨1, _⟩ => show 128 * b.val + j.val = ob + j.val; omega)

/-- The newest 128 by 128 piece is another. -/
theorem tile_miss (v : View sig .tc .vmem S256x256 e) (f : v.ty.Contents Val) (a b a' b' : Fin 2) (oa ob : ℕ) (ha : oa = 128 * a'.val)
    (hb : ob = 128 * b'.val) (h : a' ≠ a ∨ b' ≠ b) (inb : ∀ x, ![oa, ob] x + S128x128.size x ≤ S256x256.size x)
    (w : (Rect.unit (s := S256x256) ![oa, ob] S128x128.size inb).shape.Idx → Val e)
    (L : List (View.Piece Val S256x256 e)) (i j : Fin 128) :
    v.read Val (v.writes Val f (⟨Rect.unit ![oa, ob] S128x128.size inb, w⟩ :: L)) (ix2 (row a i) (row b j))
      = v.read Val (v.writes Val f L) (ix2 (row a i) (row b j)) := by
  rcases h with h | h
  · refine View.read_writes_cons_unit_of_not_mem v f inb w L _ rfl (0 : Fin 2) ?_
    have h' : a'.val ≠ a.val := fun hh => h (Fin.ext hh)
    show 128 * a.val + i.val < oa ∨ oa + 128 ≤ 128 * a.val + i.val
    omega
  · refine View.read_writes_cons_unit_of_not_mem v f inb w L _ rfl (1 : Fin 2) ?_
    have h' : b'.val ≠ b.val := fun hh => h (Fin.ext hh)
    show 128 * b.val + j.val < ob ∨ ob + 128 ≤ 128 * b.val + j.val
    omega

/-- A load of one head's columns, at an index. -/
theorem tile_load (v : View sig .tc .vmem S256x256 e) (L : List (View.Piece Val S256x256 e)) (b : Fin 2) (ob : ℕ) (hb : ob = 128 * b.val)
    (inb : ∀ x, ![0, ob] x + S256x128.size x ≤ S256x256.size x) (R : Fin 256) (j : Fin 128) :
    v.readCov L (Rect.unit (s := S256x256) ![0, ob] S256x128.size inb).toLoadRect (ix2 R j)
      = v.read Val (v.writes Val v.junk L) (ix2 R (row b j)) :=
  congrArg (v.read Val (v.writes Val v.junk L)) (funext fun x => Fin.ext (by
    match x with
    | ⟨0, _⟩ => show 0 + 1 * R.val = R.val; omega
    | ⟨1, _⟩ => show ob + 1 * j.val = 128 * b.val + j.val; omega))

/-- The newest half of the columns is the one asked for. -/
theorem half_hit (v : View sig .tc .vmem S256x256 e) (f : v.ty.Contents Val) (b : Fin 2) (ob : ℕ) (hb : ob = 128 * b.val)
    (inb : ∀ x, ![0, ob] x + S256x128.size x ≤ S256x256.size x)
    (w : (Rect.unit (s := S256x256) ![0, ob] S256x128.size inb).shape.Idx → Val e)
    (L : List (View.Piece Val S256x256 e)) (R : Fin 256) (j : Fin 128) :
    v.read Val (v.writes Val f (⟨Rect.unit ![0, ob] S256x128.size inb, w⟩ :: L)) (ix2 R (row b j)) = w (ix2 R j) :=
  View.read_writes_cons_unit_of_mem v f inb w L (ix2 R (row b j)) (ix2 R j) rfl (fun x => by
    match x with
    | ⟨0, _⟩ => show R.val = 0 + R.val; omega
    | ⟨1, _⟩ => show 128 * b.val + j.val = ob + j.val; omega)

/-- The newest half of the columns is the other. -/
theorem half_miss (v : View sig .tc .vmem S256x256 e) (f : v.ty.Contents Val) (b b' : Fin 2) (ob : ℕ) (hb : ob = 128 * b'.val) (h : b' ≠ b)
    (inb : ∀ x, ![0, ob] x + S256x128.size x ≤ S256x256.size x)
    (w : (Rect.unit (s := S256x256) ![0, ob] S256x128.size inb).shape.Idx → Val e)
    (L : List (View.Piece Val S256x256 e)) (R : Fin 256) (j : Fin 128) :
    v.read Val (v.writes Val f (⟨Rect.unit ![0, ob] S256x128.size inb, w⟩ :: L)) (ix2 R (row b j))
      = v.read Val (v.writes Val f L) (ix2 R (row b j)) := by
  refine View.read_writes_cons_unit_of_not_mem v f inb w L _ rfl (1 : Fin 2) ?_
  have h' : b'.val ≠ b.val := fun hh => h (Fin.ext hh)
  show 128 * b.val + j.val < ob ∨ ob + 128 ≤ 128 * b.val + j.val
  omega

/-- The newest piece of the states is the one asked for. -/
theorem six_hit (v : View sig .tc .vmem S1x1x2x2x128x128 e) (f : v.ty.Contents Val) (d s : Fin 2) (od os : ℕ) (hd : od = d.val) (hs : os = s.val)
    (inb : ∀ a, ![0, 0, od, os, 0, 0] a + S1x1x1x1x128x128.size a ≤ S1x1x2x2x128x128.size a)
    (w : (Rect.unit (s := S1x1x2x2x128x128) ![0, 0, od, os, 0, 0] S1x1x1x1x128x128.size inb).shape.Idx → Val e)
    (L : List (View.Piece Val S1x1x2x2x128x128 e)) (i j : Fin 128) :
    v.read Val (v.writes Val f (⟨Rect.unit ![0, 0, od, os, 0, 0] S1x1x1x1x128x128.size inb, w⟩ :: L)) (ix6 (0 : Fin 1) (0 : Fin 1) d s i j)
      = w (ix6 (0 : Fin 1) (0 : Fin 1) (0 : Fin 1) (0 : Fin 1) i j) :=
  View.read_writes_cons_unit_of_mem v f inb w L (ix6 (0 : Fin 1) (0 : Fin 1) d s i j) (ix6 (0 : Fin 1) (0 : Fin 1) (0 : Fin 1) (0 : Fin 1) i j) rfl (fun a => by
    match a with
    | ⟨0, _⟩ => rfl
    | ⟨1, _⟩ => rfl
    | ⟨2, _⟩ => show d.val = od + 0; omega
    | ⟨3, _⟩ => show s.val = os + 0; omega
    | ⟨4, _⟩ => show i.val = 0 + i.val; omega
    | ⟨5, _⟩ => show j.val = 0 + j.val; omega)

/-- The newest piece of the states is another. -/
theorem six_miss (v : View sig .tc .vmem S1x1x2x2x128x128 e) (f : v.ty.Contents Val) (d s : Fin 2) (od os : ℕ) (h : od ≠ d.val ∨ os ≠ s.val)
    (inb : ∀ a, ![0, 0, od, os, 0, 0] a + S1x1x1x1x128x128.size a ≤ S1x1x2x2x128x128.size a)
    (w : (Rect.unit (s := S1x1x2x2x128x128) ![0, 0, od, os, 0, 0] S1x1x1x1x128x128.size inb).shape.Idx → Val e)
    (L : List (View.Piece Val S1x1x2x2x128x128 e)) (i j : Fin 128) :
    v.read Val (v.writes Val f (⟨Rect.unit ![0, 0, od, os, 0, 0] S1x1x1x1x128x128.size inb, w⟩ :: L)) (ix6 (0 : Fin 1) (0 : Fin 1) d s i j)
      = v.read Val (v.writes Val f L) (ix6 (0 : Fin 1) (0 : Fin 1) d s i j) := by
  rcases h with h | h
  · refine View.read_writes_cons_unit_of_not_mem v f inb w L _ rfl (2 : Fin 6) ?_
    show d.val < od ∨ od + 1 ≤ d.val
    omega
  · refine View.read_writes_cons_unit_of_not_mem v f inb w L _ rfl (3 : Fin 6) ?_
    show s.val < os ∨ os + 1 ≤ s.val
    omega

end Scratch

/-! ## The layout operations of the epilogue -/

section Layout
variable {α : Type}

/-- Adding four leading unit axes. -/
theorem sc_six (x : S128x128.Idx → α) (h : S128x128.ShapeCasts S1x1x1x1x128x128) (i j : Fin 128) :
    shapeCast S1x1x1x1x128x128 x h (ix6 (0 : Fin 1) (0 : Fin 1) (0 : Fin 1) (0 : Fin 1) i j) = x (ix2 i j) :=
  shapeCast_apply x h _ _ (by
    rw [Shape.rowMajor_val_six, Shape.rowMajor_val_two]
    show i.val * 128 + j.val = ((((0 * 1 + 0) * 1 + 0) * 1 + 0) * 128 + i.val) * 128 + j.val
    simp)

/-- A square transposed. -/
theorem tr_ap (x : S128x128.Idx → α) (h : S128x128.Transposes [1, 0] S128x128) (i j : Fin 128) :
    transpose S128x128 [1, 0] x h (ix2 i j) = x (ix2 j i) :=
  transpose_apply _ x h _ _ fun c => match c with | ⟨0, _⟩ => rfl | ⟨1, _⟩ => rfl

/-- A column repeated along its rows. -/
theorem bct_col (x : S256x1.Idx → α) (h : S256x1.Broadcasts S256x128) (R : Fin 256) (j : Fin 128) :
    broadcastTo S256x128 x h (ix2 R j) = x (ix2 R (0 : Fin 1)) :=
  broadcastTo_apply x h _ _ (fun a => by
    match a with
    | ⟨0, _⟩ => rfl
    | ⟨1, _⟩ => rfl)

/-- One row of 128 repeated down 256 rows. -/
theorem bct_row (x : S1x128.Idx → α) (h : S1x128.Broadcasts S256x128) (R : Fin 256) (j : Fin 128) :
    broadcastTo S256x128 x h (ix2 R j) = x (ix2 (0 : Fin 1) j) :=
  broadcastTo_apply x h _ _ (fun a => by
    match a with
    | ⟨0, _⟩ => rfl
    | ⟨1, _⟩ => rfl)

/-- One head's columns of a block of 256. -/
theorem half_cols (b : Fin 2) (ob : ℕ) (hb : ob = 128 * b.val) (x : S256x256.Idx → α) (h : S256x256.Slices ![0, ob] S256x128) (R : Fin 256) (j : Fin 128) :
    extractStridedSlice S256x128 ![0, ob] x h (ix2 R j) = x (ix2 R (row b j)) :=
  extractStridedSlice_apply _ x h _ _ (fun a => by
    match a with
    | ⟨0, _⟩ => show R.val = 0 + R.val; omega
    | ⟨1, _⟩ => show 128 * b.val + j.val = ob + j.val; omega)

end Layout

/-- The sum over a row of 128. -/
theorem rowSum (x : FVec Ideal S256x128 .f32) (h : S256x128.Reduces [1] S256) (hφ : FKind.Formats .f32)
    (hacc : (0x00000000#32 : BitVec 32) = FKind.add.neutral .f32 hφ) (R : Fin 256) :
    multiReduction .add [1] S256 x 0x00000000#32 h hφ hacc (ix1 R) = ∑ j : Fin 128, x (ix2 R j) :=
  (Ideal.multiReduction_add_single x _ h hφ hacc (ix1 R)).trans (Finset.sum_congr rfl fun k _ =>
    congrArg x (funext fun a => Fin.ext (by
      match a with
      | ⟨0, _⟩ => rfl
      | ⟨1, _⟩ => rfl)))

/-- The whole gain row, read. -/
theorem gain_row {e : EltTy} (X : Vec Ideal S1x128 e) (inb) (j : Fin 128) :
    X ((Rect.unit (s := S1x128) ![0, 0] S1x128.size inb).idx (ix2 (0 : Fin 1) j)) = X (ix2 (0 : Fin 1) j) :=
  congrArg X (funext fun a => Fin.ext (by
    match a with
    | ⟨0, _⟩ => rfl
    | ⟨1, _⟩ => show 0 + 1 * j.val = j.val; omega))

/-- A block of 256 by 256, read whole. -/
theorem whole_block {e : EltTy} (X : Vec Ideal S256x256 e) (inb) (R cc : Fin 256) :
    X ((Rect.unit (s := S256x256) ![0, 0] S256x256.size inb).idx (ix2 R cc)) = X (ix2 R cc) :=
  congrArg X (funext fun a => Fin.ext (by
    match a with
    | ⟨0, _⟩ => show 0 + 1 * R.val = R.val; omega
    | ⟨1, _⟩ => show 0 + 1 * cc.val = cc.val; omega))

/-! ## The two output blocks -/

/-- The outputs of direction 0 over the whole sequence. -/
def OF (x0 x3 : Vec Ideal S256x256 .bf16) (x5 : Vec Ideal S2x2x256 .f32) (z : Vec Ideal S256x256 .f32) (x7 : Vec Ideal S2x1152x128 .bf16)
    (x8 : Vec Ideal S2x8x128x128 .f32) (hh a : Fin 2) (t e : Fin 128) : EReal :=
  if a = 0 then O1 x0 x3 x5 z x7 x8 0 0 hh t e else O2 127 x0 x3 x5 z x7 x8 0 0 1 hh t e
/-- The outputs of direction 1 over the whole sequence. -/
def OB (x0 x3 : Vec Ideal S256x256 .bf16) (x5 : Vec Ideal S2x2x256 .f32) (z : Vec Ideal S256x256 .f32) (x7 : Vec Ideal S2x1152x128 .bf16)
    (x8 : Vec Ideal S2x8x128x128 .f32) (hh a : Fin 2) (t e : Fin 128) : EReal :=
  if a = 0 then O2 0 x0 x3 x5 z x7 x8 1 1 0 hh t e else O1 x0 x3 x5 z x7 x8 1 1 hh t e
/-- A row divided by its root mean square, times the gain, times the gate. -/
def normOf (Y : Fin 128 → EReal) (gn og : EReal) (e : Fin 128) : EReal :=
  Y e * Ideal.rsqrt (Ideal.div (∑ j, Y j * Y j) (Ideal.ofBits .f32 0x43000000#32) + Ideal.ofBits .f32 0x358637BD#32) * gn * (og * sgm og)

variable (c : Dev nD) (i : grid0.Coords) (arg2 : Memref sig .tc .vmem S256x256 .bf16) (harg2 : arg2.IsWhole) (arg3 : Memref sig .tc .vmem S256x256 .f32) (harg3 : arg3.IsWhole)
  (arg4 : Memref sig .tc .vmem S256x256 .f32) (harg4 : arg4.IsWhole) (arg5 : Memref sig .tc .vmem S256x256 .bf16) (harg5 : arg5.IsWhole)
  (arg6 : Memref sig .tc .vmem S256x256 .bf16) (harg6 : arg6.IsWhole) (arg7 : Memref sig .tc .vmem S2x2x256 .f32) (harg7 : arg7.IsWhole)
  (arg8 : Memref sig .tc .vmem S1x128 .f32) (harg8 : arg8.IsWhole) (arg9 : Memref sig .tc .vmem S2x1152x128 .bf16) (harg9 : arg9.IsWhole)
  (arg10 : Memref sig .tc .vmem S2x8x128x128 .f32) (harg10 : arg10.IsWhole) (arg12 : Memref sig .tc .vmem S256x256 .bf16) (harg12 : arg12.IsWhole)
  (arg13 : Memref sig .tc .vmem S1x1x2x2x128x128 .f32) (harg13 : arg13.IsWhole) (arg14 : Memref sig .tc .vmem S256x256 .f32) (harg14 : arg14.IsWhole)
  (arg15 : Memref sig .tc .vmem S256x256 .f32) (harg15 : arg15.IsWhole) (arg16 : Memref sig .tc .vmem S2x2x128x128 .f32) (harg16 : arg16.IsWhole)
  (arg17 : Memref sig .tc .vmem S2x2x1152x256 .f32) (harg17 : arg17.IsWhole) (arg18 : Memref sig .tc .vmem S2x2x128x256 .f32) (harg18 : arg18.IsWhole)
  (x0 : Vec Ideal S256x256 .bf16) (x1 : Vec Ideal S256x256 .f32) (x2 : Vec Ideal S256x256 .f32) (x3 : Vec Ideal S256x256 .bf16)
  (x4 : Vec Ideal S256x256 .bf16) (x5 : Vec Ideal S2x2x256 .f32) (x6 : Vec Ideal S1x128 .f32) (x7 : Vec Ideal S2x1152x128 .bf16)
  (x8 : Vec Ideal S2x8x128x128 .f32)

/-- The outputs direction 0 leaves in its buffer. -/
theorem of_read (hh a : Fin 2) (t e : Fin 128) :
    arg14.view.read (Elt Ideal) (arg14.view.writes (Elt Ideal) arg14.view.junk (kernelRun0_A.sl.HS0_4 (F := Ideal) c arg2 harg2 arg3 harg3 arg4 harg4 arg5 harg5 arg7 harg7 arg9 harg9 arg10 harg10 arg16 arg17 arg18 x0 x1 x2 x3 x5 x7 x8)) (ix2 (row a t) (row hh e))
      = OF x0 x3 x5 x1 x7 x8 hh a t e := by
  unfold kernelRun0_A.sl.HS0_4
  fin_cases hh <;> fin_cases a
  · refine (tile_miss arg14.view _ 0 0 1 1 _ _ rfl rfl (by decide) _ _ _ t e).trans ?_
    refine (tile_miss arg14.view _ 0 0 1 0 _ _ rfl rfl (by decide) _ _ _ t e).trans ?_
    refine (tile_miss arg14.view _ 0 0 0 1 _ _ rfl rfl (by decide) _ _ _ t e).trans ?_
    refine (tile_hit arg14.view _ 0 0 _ _ rfl rfl _ _ _ t e).trans ?_
    exact o_000 c arg2 harg2 arg3 harg3 arg4 harg4 arg5 harg5 arg7 harg7 arg9 harg9 arg10 harg10 arg16 arg17 arg18 x0 x1 x2 x3 x5 x7 x8 t e
  · refine (tile_miss arg14.view _ 1 0 1 1 _ _ rfl rfl (by decide) _ _ _ t e).trans ?_
    refine (tile_hit arg14.view _ 1 0 _ _ rfl rfl _ _ _ t e).trans ?_
    exact o_010 c arg2 harg2 arg3 harg3 arg4 harg4 arg5 harg5 arg7 harg7 arg9 harg9 arg10 harg10 arg16 arg17 arg18 x0 x1 x2 x3 x5 x7 x8 t e
  · refine (tile_miss arg14.view _ 0 1 1 1 _ _ rfl rfl (by decide) _ _ _ t e).trans ?_
    refine (tile_miss arg14.view _ 0 1 1 0 _ _ rfl rfl (by decide) _ _ _ t e).trans ?_
    refine (tile_hit arg14.view _ 0 1 _ _ rfl rfl _ _ _ t e).trans ?_
    exact o_001 c arg2 harg2 arg3 harg3 arg4 harg4 arg5 harg5 arg7 harg7 arg9 harg9 arg10 harg10 arg16 arg17 arg18 x0 x1 x2 x3 x5 x7 x8 t e
  · refine (tile_hit arg14.view _ 1 1 _ _ rfl rfl _ _ _ t e).trans ?_
    exact o_011 c arg2 harg2 arg3 harg3 arg4 harg4 arg5 harg5 arg7 harg7 arg9 harg9 arg10 harg10 arg16 arg17 arg18 x0 x1 x2 x3 x5 x7 x8 t e

/-- The outputs direction 1 leaves in its buffer. -/
theorem ob_read (hh a : Fin 2) (t e : Fin 128) :
    arg15.view.read (Elt Ideal) (arg15.view.writes (Elt Ideal) arg15.view.junk (kernelRun0_A.sl.HS1_4 (F := Ideal) c arg2 harg2 arg3 harg3 arg4 harg4 arg5 harg5 arg7 harg7 arg9 harg9 arg10 harg10 arg16 arg17 arg18 x0 x1 x2 x3 x5 x7 x8)) (ix2 (row a t) (row hh e))
      = OB x0 x3 x5 x2 x7 x8 hh a t e := by
  unfold kernelRun0_A.sl.HS1_4
  fin_cases hh <;> fin_cases a
  · refine (tile_miss arg15.view _ 0 0 0 1 _ _ rfl rfl (by decide) _ _ _ t e).trans ?_
    refine (tile_hit arg15.view _ 0 0 _ _ rfl rfl _ _ _ t e).trans ?_
    exact o_100 c arg2 harg2 arg3 harg3 arg4 harg4 arg5 harg5 arg7 harg7 arg9 harg9 arg10 harg10 arg16 arg17 arg18 x0 x1 x2 x3 x5 x7 x8 t e
  · refine (tile_miss arg15.view _ 1 0 0 1 _ _ rfl rfl (by decide) _ _ _ t e).trans ?_
    refine (tile_miss arg15.view _ 1 0 0 0 _ _ rfl rfl (by decide) _ _ _ t e).trans ?_
    refine (tile_miss arg15.view _ 1 0 1 1 _ _ rfl rfl (by decide) _ _ _ t e).trans ?_
    refine (tile_hit arg15.view _ 1 0 _ _ rfl rfl _ _ _ t e).trans ?_
    exact o_110 c arg2 harg2 arg3 harg3 arg4 harg4 arg5 harg5 arg7 harg7 arg9 harg9 arg10 harg10 arg16 arg17 arg18 x0 x1 x2 x3 x5 x7 x8 t e
  · refine (tile_hit arg15.view _ 0 1 _ _ rfl rfl _ _ _ t e).trans ?_
    exact o_101 c arg2 harg2 arg3 harg3 arg4 harg4 arg5 harg5 arg7 harg7 arg9 harg9 arg10 harg10 arg16 arg17 arg18 x0 x1 x2 x3 x5 x7 x8 t e
  · refine (tile_miss arg15.view _ 1 1 0 1 _ _ rfl rfl (by decide) _ _ _ t e).trans ?_
    refine (tile_miss arg15.view _ 1 1 0 0 _ _ rfl rfl (by decide) _ _ _ t e).trans ?_
    refine (tile_hit arg15.view _ 1 1 _ _ rfl rfl _ _ _ t e).trans ?_
    exact o_111 c arg2 harg2 arg3 harg3 arg4 harg4 arg5 harg5 arg7 harg7 arg9 harg9 arg10 harg10 arg16 arg17 arg18 x0 x1 x2 x3 x5 x7 x8 t e

/-- The load of head 0 of those outputs. -/
theorem v1204_ap (a : Fin 2) (t e : Fin 128) : kernelRun0_A.sl.v1204 (F := Ideal) c arg2 harg2 arg3 harg3 arg4 harg4 arg5 harg5 arg7 harg7 arg9 harg9 arg10 harg10 arg14 arg16 arg17 arg18 x0 x1 x2 x3 x5 x7 x8 (ix2 (row a t) e) = OF x0 x3 x5 x1 x7 x8 0 a t e :=
  (tile_load arg14.view _ 0 _ rfl _ (row a t) e).trans (of_read c arg2 harg2 arg3 harg3 arg4 harg4 arg5 harg5 arg7 harg7 arg9 harg9 arg10 harg10 arg14 arg16 arg17 arg18 x0 x1 x2 x3 x5 x7 x8 0 a t e)
/-- The load of head 0 of those outputs. -/
theorem v1205_ap (a : Fin 2) (t e : Fin 128) : kernelRun0_A.sl.v1205 (F := Ideal) c arg2 harg2 arg3 harg3 arg4 harg4 arg5 harg5 arg7 harg7 arg9 harg9 arg10 harg10 arg15 arg16 arg17 arg18 x0 x1 x2 x3 x5 x7 x8 (ix2 (row a t) e) = OB x0 x3 x5 x2 x7 x8 0 a t e :=
  (tile_load arg15.view _ 0 _ rfl _ (row a t) e).trans (ob_read c arg2 harg2 arg3 harg3 arg4 harg4 arg5 harg5 arg7 harg7 arg9 harg9 arg10 harg10 arg15 arg16 arg17 arg18 x0 x1 x2 x3 x5 x7 x8 0 a t e)
/-- The load of head 1 of those outputs. -/
theorem v1225_ap (a : Fin 2) (t e : Fin 128) : kernelRun0_A.sl.v1225 (F := Ideal) c arg2 harg2 arg3 harg3 arg4 harg4 arg5 harg5 arg7 harg7 arg9 harg9 arg10 harg10 arg14 arg16 arg17 arg18 x0 x1 x2 x3 x5 x7 x8 (ix2 (row a t) e) = OF x0 x3 x5 x1 x7 x8 1 a t e :=
  (tile_load arg14.view _ 1 _ rfl _ (row a t) e).trans (of_read c arg2 harg2 arg3 harg3 arg4 harg4 arg5 harg5 arg7 harg7 arg9 harg9 arg10 harg10 arg14 arg16 arg17 arg18 x0 x1 x2 x3 x5 x7 x8 1 a t e)
/-- The load of head 1 of those outputs. -/
theorem v1226_ap (a : Fin 2) (t e : Fin 128) : kernelRun0_A.sl.v1226 (F := Ideal) c arg2 harg2 arg3 harg3 arg4 harg4 arg5 harg5 arg7 harg7 arg9 harg9 arg10 harg10 arg15 arg16 arg17 arg18 x0 x1 x2 x3 x5 x7 x8 (ix2 (row a t) e) = OB x0 x3 x5 x2 x7 x8 1 a t e :=
  (tile_load arg15.view _ 1 _ rfl _ (row a t) e).trans (ob_read c arg2 harg2 arg3 harg3 arg4 harg4 arg5 harg5 arg7 harg7 arg9 harg9 arg10 harg10 arg15 arg16 arg17 arg18 x0 x1 x2 x3 x5 x7 x8 1 a t e)

/-- The first output block: the two directions' outputs summed, normalised and gated. -/
theorem out9_ap (hh a : Fin 2) (t e : Fin 128) :
    out0_A_9 (F := Ideal) c i arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 x0 x1 x2 x3 x4 x5 x6 x7 x8 (ix2 (row a t) (row hh e))
      = normOf (fun e => OF x0 x3 x5 x1 x7 x8 hh a t e + OB x0 x3 x5 x2 x7 x8 hh a t e) (x6 (ix2 (0 : Fin 1) e)) (x4 (ix2 (row a t) (row hh e))) e := by
  unfold out0_A_9 kernelRun0_A
  dsimp only
  fin_cases hh
  · refine (half_miss VO0_9 _ 0 1 _ rfl (by decide) _ _ _ (row a t) e).trans ?_
    refine (half_hit VO0_9 _ 0 _ rfl _ _ _ (row a t) e).trans ?_
    simp only [k0_pay183, k0_pay182, k0_pay181, k0_pay180, k0_pay179, k0_pay178, kernelRun0_A.sl.r_142, kernelRun0_A.sl.r_143, kernelRun0_A.sl.r_144, kernelRun0_A.sl.r_145, v1204_ap, v1205_ap, truncf_ap, extf_ap, mulf_ap, addf_ap, subf_ap, divf_ap, exp_ap, rsqrt_ap, half_cols 0 0 rfl, half_cols 1 128 rfl, bct_row, bct_col, shapeCast_a_a1_apply, rowSum, shapeCast_self, broadcast_apply, scalar_ap, load_ap, gain_row, whole_block, normOf, sgm, Ideal.ofBits_zero_f32, Ideal.ofBits_one_f32]
    erw [rowSum]
    simp only [mulf_ap, addf_ap, v1204_ap, v1205_ap, v1225_ap, v1226_ap]
    rfl
  · refine (half_hit VO0_9 _ 1 _ rfl _ _ _ (row a t) e).trans ?_
    simp only [k0_pay184, k0_pay178, kernelRun0_A.sl.r_142, v1225_ap, v1226_ap, truncf_ap, extf_ap, mulf_ap, addf_ap, subf_ap, divf_ap, exp_ap, rsqrt_ap, half_cols 0 0 rfl, half_cols 1 128 rfl, bct_row, bct_col, shapeCast_a_a1_apply, rowSum, shapeCast_self, broadcast_apply, scalar_ap, load_ap, gain_row, whole_block, normOf, sgm, Ideal.ofBits_zero_f32, Ideal.ofBits_one_f32]
    erw [rowSum]
    simp only [mulf_ap, addf_ap, v1204_ap, v1205_ap, v1225_ap, v1226_ap]
    rfl

/-- The second output block: the two directions' final states. -/
theorem out10_ap (d hh : Fin 2) (dd e : Fin 128) :
    out0_A_10 (F := Ideal) c i arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 x0 x1 x2 x3 x4 x5 x6 x7 x8 (ix6 (0 : Fin 1) (0 : Fin 1) d hh dd e)
      = if d = 0 then St2 127 x3 x5 x1 x7 0 0 1 hh e dd else St2 0 x3 x5 x2 x7 1 1 0 hh e dd := by
  unfold out0_A_10 kernelRun0_A
  dsimp only
  fin_cases d <;> fin_cases hh
  · refine (six_miss VO0_10 _ 0 0 1 1 (by decide) _ _ _ dd e).trans ?_
    refine (six_miss VO0_10 _ 0 0 1 0 (by decide) _ _ _ dd e).trans ?_
    refine (six_miss VO0_10 _ 0 0 0 1 (by decide) _ _ _ dd e).trans ?_
    refine (six_hit VO0_10 _ 0 0 _ _ rfl rfl _ _ _ dd e).trans ?_
    simp only [k0_pay1, k0_pay2, k0_pay185, k0_pay186, k0_pay187, kernelRun0_A.sl.r_146  , sc_six]
    exact (tr_ap _ _ dd e).trans ((sc_11ab _ _ e dd).trans (v1246_ap c arg3 harg3 arg4 harg4 arg5 harg5 arg7 harg7 arg9 harg9 arg16 arg17 arg18 x1 x2 x3 x5 x7 e dd))
  · refine (six_miss VO0_10 _ 0 1 1 1 (by decide) _ _ _ dd e).trans ?_
    refine (six_miss VO0_10 _ 0 1 1 0 (by decide) _ _ _ dd e).trans ?_
    refine (six_hit VO0_10 _ 0 1 _ _ rfl rfl _ _ _ dd e).trans ?_
    simp only [k0_pay1, k0_pay2, k0_pay185, k0_pay186, k0_pay187, kernelRun0_A.sl.r_146  , sc_six]
    exact (tr_ap _ _ dd e).trans ((sc_11ab _ _ e dd).trans (v1252_ap c arg3 harg3 arg4 harg4 arg5 harg5 arg7 harg7 arg9 harg9 arg16 arg17 arg18 x1 x2 x3 x5 x7 e dd))
  · refine (six_miss VO0_10 _ 1 0 1 1 (by decide) _ _ _ dd e).trans ?_
    refine (six_hit VO0_10 _ 1 0 _ _ rfl rfl _ _ _ dd e).trans ?_
    simp only [k0_pay1, k0_pay2, k0_pay185, k0_pay186, k0_pay187, kernelRun0_A.sl.r_146  , sc_six]
    exact (tr_ap _ _ dd e).trans ((sc_11ab _ _ e dd).trans (v1258_ap c arg3 harg3 arg4 harg4 arg5 harg5 arg7 harg7 arg9 harg9 arg16 arg17 arg18 x1 x2 x3 x5 x7 e dd))
  · refine (six_hit VO0_10 _ 1 1 _ _ rfl rfl _ _ _ dd e).trans ?_
    simp only [k0_pay1, k0_pay2, k0_pay185, k0_pay186, k0_pay187, kernelRun0_A.sl.r_146  , sc_six]
    exact (tr_ap _ _ dd e).trans ((sc_11ab _ _ e dd).trans (v1264_ap c arg3 harg3 arg4 harg4 arg5 harg5 arg7 harg7 arg9 harg9 arg16 arg17 arg18 x1 x2 x3 x5 x7 e dd))

end Cert.Hgrn

end
-- ==== Proof.Gates.lean ====
module

public import proofs.«01_k».proof.Proof.Words

@[expose] public section

set_option maxRecDepth 16384

noncomputable section

namespace Cert.Hgrn

open Idealize.ShloMosaic Idealize.ShloMosaic.TcCoe Idealize.ShloMosaic.ValueIdx
open scoped BigOperators

/-! ## The sigmoid, and the forget gate's logarithm, are real -/

/-- The sigmoid of an extended real, a real number. -/
def sR (z : EReal) : ℝ := (sgm z).toReal

theorem sgm_real (x : ℝ) : sgm (x : EReal) = ((1 / (1 + Real.exp (-x)) : ℝ) : EReal) := by
  have h : (0 : EReal) - (x : EReal) = ((-x : ℝ) : EReal) := by rw [← EReal.coe_zero, ← EReal.coe_sub, zero_sub]
  have hp : 0 < 1 + Real.exp (-x) := by positivity
  unfold sgm
  rw [h]
  show Ideal.div 1 (1 + ((Real.exp (-x) : ℝ) : EReal)) = _
  rw [← EReal.coe_one, ← EReal.coe_add]
  unfold Ideal.div
  rw [if_neg (by rw [← EReal.coe_zero]; exact fun h => hp.ne' (EReal.coe_injective h)), ← EReal.coe_inv, ← EReal.coe_mul, one_div, one_mul]

theorem sgm_bot : sgm ⊥ = 0 := by
  unfold sgm
  have h : (0 : EReal) - ⊥ = ⊤ := rfl
  rw [h]
  show Ideal.div 1 (1 + ⊤) = 0
  have h1 : (1 : EReal) + ⊤ = ⊤ := rfl
  rw [h1]
  unfold Ideal.div
  rw [if_neg (by simp), EReal.inv_top, mul_zero]

theorem sgm_top : sgm ⊤ = 1 := by
  unfold sgm
  have h : (0 : EReal) - ⊤ = ⊥ := rfl
  rw [h]
  show Ideal.div 1 (1 + 0) = 1
  rw [add_zero]
  unfold Ideal.div
  rw [if_neg one_ne_zero, ← EReal.coe_one, ← EReal.coe_inv, ← EReal.coe_mul]
  norm_num

/-- The sigmoid is the real number `sR`. -/
theorem sgm_eq (z : EReal) : sgm z = (sR z : EReal) := by
  unfold sR
  induction z using EReal.rec with
  | bot => rw [sgm_bot]; rfl
  | coe x => rw [sgm_real]; rfl
  | top => rw [sgm_top]; rfl

theorem sR_real (x : ℝ) : sR (x : EReal) = 1 / (1 + Real.exp (-x)) := by
  unfold sR; rw [sgm_real]; rfl
theorem sR_bot : sR ⊥ = 0 := by unfold sR; rw [sgm_bot]; rfl
theorem sR_top : sR ⊤ = 1 := by unfold sR; rw [sgm_top]; rfl

theorem sR_nonneg (z : EReal) : 0 ≤ sR z := by
  induction z using EReal.rec with
  | bot => rw [sR_bot]
  | coe x => rw [sR_real]; positivity
  | top => rw [sR_top]; norm_num

/-- The logarithm of a positive real. -/
theorem log_coe (x : ℝ) (h : 0 < x) : Ideal.log (x : EReal) = (Real.log x : EReal) := by
  show (if x ≤ 0 then (⊥ : EReal) else (Real.log x : EReal)) = _
  rw [if_neg (not_le.mpr h)]

/-- The forget gate, and its logarithm. -/
def fR (lb : ℝ) (z : EReal) : ℝ := lb + (1 - lb) * sR z
def gR (lb : ℝ) (z : EReal) : ℝ := Real.log (fR lb z)
/-- The key. -/
def kR (lb : ℝ) (z : EReal) : ℝ := (1 - lb) * sR (-z)

theorem fR_pos (lb : ℝ) (z : EReal) (h0 : 0 < lb) (h1 : lb < 1) : 0 < fR lb z := by
  have := sR_nonneg z
  unfold fR
  have : 0 ≤ (1 - lb) * sR z := mul_nonneg (by linarith) this
  linarith

theorem zsub (z : EReal) : (0 : EReal) - z = -z := by rw [sub_eq_add_neg, zero_add]

/-- The kernel's log-decay over a real lower bound. -/
theorem gOf_coe (lb : ℝ) (z : EReal) (h0 : 0 < lb) (h1 : lb < 1) : gOf (lb : EReal) z = (gR lb z : EReal) := by
  unfold gOf
  rw [sgm_eq, ← EReal.coe_one, ← EReal.coe_sub, ← EReal.coe_mul, ← EReal.coe_add]
  exact log_coe _ (fR_pos lb z h0 h1)

/-- The kernel's key over a real lower bound. -/
theorem kOf_coe (lb : ℝ) (z : EReal) : kOf (lb : EReal) z = (kR lb z : EReal) := by
  unfold kOf
  rw [sgm_eq, zsub, ← EReal.coe_one, ← EReal.coe_sub, ← EReal.coe_mul]
  rfl

/-- The query of a real. -/
theorem qOf_coe (x : ℝ) : qOf (x : EReal) = ((x * sR (x : EReal) : ℝ) : EReal) := by
  unfold qOf
  rw [sgm_eq, ← EReal.coe_mul]

/-! ## The reference's spelling of the logarithm -/

/-- The logarithm of a sum of exponentials, as it is computed. -/
def laeE (x y : EReal) : EReal := max x y + Ideal.log (1 + Ideal.exp (-(max (x - y) (-(x - y)))))

theorem lae_real (x y : ℝ) : laeE (x : EReal) (y : EReal) = ((Real.log (Real.exp x + Real.exp y) : ℝ) : EReal) := by
  unfold laeE
  have hm : ∀ a b : ℝ, max (a : EReal) (b : EReal) = ((max a b : ℝ) : EReal) := fun a b => (EReal.coe_strictMono.monotone.map_max).symm
  rw [← EReal.coe_sub, ← EReal.coe_neg, hm, hm, ← EReal.coe_neg]
  show _ + Ideal.log (1 + ((Real.exp (-(max (x - y) (-(x - y)))) : ℝ) : EReal)) = _
  rw [← EReal.coe_one, ← EReal.coe_add, log_coe _ (by positivity), ← EReal.coe_add]
  congr 1
  have hp : 0 < 1 + Real.exp (-(max (x - y) (-(x - y)))) := by positivity
  rw [← Real.log_exp (max x y), ← Real.log_mul (Real.exp_pos _).ne' hp.ne']
  congr 1
  rcases le_total x y with h | h
  · rw [max_eq_right h, max_eq_right (by linarith), mul_add, mul_one, ← Real.exp_add, add_comm]
    congr 2; ring
  · rw [max_eq_left h, max_eq_left (by linarith), mul_add, mul_one, ← Real.exp_add]
    congr 2; ring

theorem lae_bot (x : ℝ) : laeE (x : EReal) ⊥ = (x : EReal) := by
  unfold laeE
  have h : (x : EReal) - ⊥ = ⊤ := rfl
  rw [h, max_eq_left bot_le, max_eq_left (by exact le_top)]
  show _ + Ideal.log (1 + 0) = _
  rw [add_zero, ← EReal.coe_one, log_coe 1 one_pos, Real.log_one, EReal.coe_zero, add_zero]

theorem lae_bot_zero : laeE ⊥ 0 = 0 := by
  unfold laeE
  have h : (⊥ : EReal) - 0 = ⊥ := rfl
  have h' : -(⊥ : EReal) = ⊤ := rfl
  rw [h, h', max_eq_right bot_le, max_eq_right bot_le]
  show _ + Ideal.log (1 + 0) = _
  rw [add_zero, ← EReal.coe_one, log_coe 1 one_pos, Real.log_one, EReal.coe_zero, add_zero]

theorem lae_top_zero : laeE ⊤ 0 = ⊤ := by
  unfold laeE
  have h : (⊤ : EReal) - 0 = ⊤ := rfl
  rw [h, max_eq_left le_top, max_eq_left le_top]
  show _ + Ideal.log (1 + 0) = _
  rw [add_zero, ← EReal.coe_one, log_coe 1 one_pos, Real.log_one, EReal.coe_zero, add_zero]

/-- The reference's log-decay. -/
def refLog (lb z : EReal) : EReal := laeE (Ideal.log lb) (Ideal.log (1 + -lb) + -(laeE (-z) 0))

/-- It is the kernel's. -/
theorem refLog_coe (lb : ℝ) (z : EReal) (h0 : 0 < lb) (h1 : lb < 1) : refLog (lb : EReal) z = (gR lb z : EReal) := by
  unfold refLog gR fR
  have h2 : 0 < 1 + -lb := by linarith
  rw [log_coe lb h0, ← EReal.coe_neg, ← EReal.coe_one, ← EReal.coe_add, log_coe _ h2]
  induction z using EReal.rec with
  | bot =>
    have h : -(⊥ : EReal) = ⊤ := rfl
    have h' : ((Real.log (1 + -lb) : ℝ) : EReal) + -⊤ = ⊥ := rfl
    rw [h, lae_top_zero, h', lae_bot, sR_bot, mul_zero, add_zero]
  | coe x =>
    rw [← EReal.coe_neg, ← EReal.coe_zero, lae_real, ← EReal.coe_neg, ← EReal.coe_add, lae_real, sR_real, Real.exp_zero]
    congr 2
    have hp : 0 < Real.exp (-x) + 1 := by positivity
    rw [Real.exp_log h0, Real.exp_add, Real.exp_log h2, Real.exp_neg, Real.exp_log hp, one_div, add_comm (Real.exp (-x)), sub_eq_add_neg]
  | top =>
    have h : -(⊤ : EReal) = ⊥ := rfl
    rw [h, lae_bot_zero, neg_zero, add_zero, lae_real, sR_top, Real.exp_log h0, Real.exp_log h2]
    congr 2; ring

/-! ## The lower bound -/

/-- A softmax weight of two reals lies between zero and one. -/
def lbR (a b : ℝ) : ℝ := Real.exp (a - max a b) / (Real.exp (a - max a b) + Real.exp (b - max a b))

theorem lbR_pos (a b : ℝ) : 0 < lbR a b := by unfold lbR; positivity
theorem lbR_lt_one (a b : ℝ) : lbR a b < 1 := by
  unfold lbR
  rw [div_lt_one (by positivity)]
  have := Real.exp_pos (b - max a b)
  linarith

/-- The weight as it is computed. -/
def lbE (a b : EReal) : EReal := Ideal.div (Ideal.exp (a - max a b)) (Ideal.exp (a - max a b) + Ideal.exp (b - max a b))

theorem lbE_coe (a b : ℝ) : lbE (a : EReal) (b : EReal) = (lbR a b : EReal) := by
  unfold lbE lbR
  have hm : max (a : EReal) (b : EReal) = ((max a b : ℝ) : EReal) := (EReal.coe_strictMono.monotone.map_max).symm
  rw [hm, ← EReal.coe_sub, ← EReal.coe_sub]
  show Ideal.div ((Real.exp (a - max a b) : ℝ) : EReal) (((Real.exp (a - max a b) : ℝ) : EReal) + ((Real.exp (b - max a b) : ℝ) : EReal)) = _
  rw [← EReal.coe_add]
  have hp : 0 < Real.exp (a - max a b) + Real.exp (b - max a b) := by positivity
  unfold Ideal.div
  rw [if_neg (by rw [← EReal.coe_zero]; exact fun h => hp.ne' (EReal.coe_injective h)), ← EReal.coe_inv, ← EReal.coe_mul, div_eq_mul_inv]

end Cert.Hgrn

end
-- ==== Proof.Model.lean ====
module

public import proofs.«01_k».proof.Proof.Gates
public import proofs.«01_k».proof.Proof.Recurrence

@[expose] public section

noncomputable section

namespace Cert.Hgrn

open Idealize.ShloMosaic

/-! ## The layer's mathematics of the arguments: two directions of a gated recurrence, the sum of their outputs normalised and gated -/

/-- Channel `d` of head `h`. -/
abbrev ch (h : Fin 8) (d : Fin 128) : Fin 1024 := ⟨128 * h.val + d.val, by omega⟩
/-- Position `t` of sequence `b`. -/
abbrev rw (b : Fin 32) (t : Fin 256) : Fin 12288 := ⟨256 * b.val + t.val, by omega⟩
/-- Channel `c` of direction `o`'s gates. -/
abbrev gc (o : Fin 2) (c : Fin 1024) : Fin 2048 := ⟨1024 * o.val + c.val, by omega⟩
/-- Channel `c` of the part `o` of the other projections. -/
abbrev rc (o : Fin 7) (c : Fin 1024) : Fin 7168 := ⟨1024 * o.val + c.val, by omega⟩

/-- The position direction `o` comes to at time `n`: the first direction goes forwards, the second backwards. -/
def pos (o : Fin 2) (n : ℕ) : Fin 256 :=
  if o = 0 then ⟨n % 256, Nat.mod_lt _ (by omega)⟩ else Fin.rev ⟨n % 256, Nat.mod_lt _ (by omega)⟩
/-- A channel of head `h`, its number as a natural. -/
def chan (h : Fin 8) (d : ℕ) : Fin 1024 := ch h ⟨d % 128, Nat.mod_lt _ (by omega)⟩

theorem chan_val (h : Fin 8) (d : Fin 128) : chan h d.val = ch h d := by
  unfold chan
  refine congrArg (ch h) (Fin.ext ?_)
  exact Nat.mod_eq_of_lt d.isLt
theorem pos_zero (n : ℕ) (t : Fin 256) (h : t.val = n) : pos 0 n = t := by
  unfold pos
  rw [if_pos rfl]
  apply Fin.ext
  have := t.isLt
  show n % 256 = t.val
  omega
theorem pos_one (n : ℕ) (t : Fin 256) (h : t.val = n) : pos 1 n = Fin.rev t := by
  unfold pos
  rw [if_neg (by decide)]
  refine congrArg Fin.rev (Fin.ext ?_)
  have := t.isLt
  show n % 256 = t.val
  omega

variable (Z : Fin 12288 → Fin 2048 → EReal) (R : Fin 12288 → Fin 7168 → EReal) (L : Fin 2 → Fin 2 → Fin 1024 → EReal)

/-- The lower bounds of the gates: the first layer's share of the softmax over the layers. -/
def lbM (o : Fin 2) (c : Fin 1024) : ℝ := lbR (L 0 o c).toReal (L 1 o c).toReal
/-- The queries, passed through their own sigmoid. -/
def qM (o : Fin 2) (s : Fin 32) (h : Fin 8) (n d : ℕ) : ℝ :=
  (R (rw s (pos o n)) (rc 0 (chan h d))).toReal * sR ((R (rw s (pos o n)) (rc 0 (chan h d))).toReal : EReal)
/-- The values. -/
def vM (o : Fin 2) (s : Fin 32) (h : Fin 8) (n d : ℕ) : ℝ := (R (rw s (pos o n)) (rc 1 (chan h d))).toReal
/-- The log-decays. -/
def gM (o : Fin 2) (s : Fin 32) (h : Fin 8) (n d : ℕ) : ℝ := gR (lbM L o (chan h d)) (Z (rw s (pos o n)) (gc o (chan h d)))
/-- The keys. -/
def kM (o : Fin 2) (s : Fin 32) (h : Fin 8) (n d : ℕ) : ℝ := kR (lbM L o (chan h d)) (Z (rw s (pos o n)) (gc o (chan h d)))
/-- The recurrence's output at time `n`. -/
def oM (o : Fin 2) (s : Fin 32) (h : Fin 8) (n e : ℕ) : ℝ := outM (qM R o s h) (gM Z L o s h) (kM Z L o s h) (vM R o s h) n e
/-- The recurrence's state after the sequence. -/
def sM (o : Fin 2) (s : Fin 32) (h : Fin 8) (d e : ℕ) : ℝ := stM (gM Z L o s h) (kM Z L o s h) (vM R o s h) 256 d e

/-- A row divided by its root mean square, times the gain, times the gate. -/
def normE (Y : Fin 128 → EReal) (gn og : EReal) (e : Fin 128) : EReal :=
  Y e * Ideal.rsqrt (Ideal.div (∑ j, Y j * Y j) (Ideal.ofBits .f32 0x43000000#32) + Ideal.ofBits .f32 0x358637BD#32) * gn * (og * sgm og)

/-- The two directions' outputs at a position, summed. -/
def yM (s : Fin 32) (h : Fin 8) (t : Fin 256) (e : Fin 128) : EReal :=
  (oM Z R L 0 s h t.val e.val : EReal) + (oM Z R L 1 s h (Fin.rev t).val e.val : EReal)

/-- The layer's output at a position and channel. -/
def outE (G : Fin 128 → EReal) (s : Fin 32) (t : Fin 256) (h : Fin 8) (e : Fin 128) : EReal :=
  normE (yM Z R L s h t) (G e) (R (rw s t) (rc 2 (ch h e))) e

/-- The entries the recurrence reads are real numbers: the queries and values, and the logits of the lower bounds. -/
structure Finite : Prop where
  hR : ∀ (r : Fin 12288) (c : Fin 7168), r.val < 8192 → c.val < 2048 → R r c = ((R r c).toReal : EReal)
  hL : ∀ l o c, L l o c = ((L l o c).toReal : EReal)

variable {Z R L} (hF : Finite R L)
include hF

theorem lb_fin (o : Fin 2) (c : Fin 1024) : lbE (L 0 o c) (L 1 o c) = (lbM L o c : EReal) := by
  rw [hF.hL 0 o c, hF.hL 1 o c, lbE_coe]
  rfl
theorem q_fin (o : Fin 2) (s : Fin 32) (h : Fin 8) (n d : ℕ) : qOf (R (rw s (pos o n)) (rc 0 (chan h d))) = (qM R o s h n d : EReal) := by
  have hc := (pos o n).isLt
  have hd := (chan h d).isLt
  rw [hF.hR (rw s (pos o n)) (rc 0 (chan h d)) (by show 256 * s.val + (pos o n).val < 8192; omega) (by show 1024 * 0 + (chan h d).val < 2048; omega), qOf_coe]
  rfl
theorem v_fin (o : Fin 2) (s : Fin 32) (h : Fin 8) (n d : ℕ) : R (rw s (pos o n)) (rc 1 (chan h d)) = (vM R o s h n d : EReal) := by
  have hc := (pos o n).isLt
  have hd := (chan h d).isLt
  exact hF.hR (rw s (pos o n)) (rc 1 (chan h d)) (by show 256 * s.val + (pos o n).val < 8192; omega) (by show 1024 * 1 + (chan h d).val < 2048; omega)

theorem k_fin (o : Fin 2) (s : Fin 32) (h : Fin 8) (n d : ℕ) :
    kOf (lbE (L 0 o (chan h d)) (L 1 o (chan h d))) (Z (rw s (pos o n)) (gc o (chan h d))) = (kM Z L o s h n d : EReal) := by
  rw [lb_fin hF, kOf_coe]
  rfl
theorem g_fin (o : Fin 2) (s : Fin 32) (h : Fin 8) (n d : ℕ) :
    gOf (lbE (L 0 o (chan h d)) (L 1 o (chan h d))) (Z (rw s (pos o n)) (gc o (chan h d))) = (gM Z L o s h n d : EReal) := by
  rw [lb_fin hF]
  exact gOf_coe _ _ (lbR_pos _ _) (lbR_lt_one _ _)
theorem refLog_fin (o : Fin 2) (s : Fin 32) (h : Fin 8) (n d : ℕ) :
    refLog (lbE (L 0 o (chan h d)) (L 1 o (chan h d))) (Z (rw s (pos o n)) (gc o (chan h d))) = (gM Z L o s h n d : EReal) := by
  rw [lb_fin hF]
  exact refLog_coe _ _ (lbR_pos _ _) (lbR_lt_one _ _)

end Cert.Hgrn

end
-- ==== Proof.KerCells.lean ====
module

public import proofs.«01_k».proof.Proof.States
public import proofs.«01_k».proof.Proof.Block
public import proofs.«01_k».proof.Proof.Chunks
public import proofs.«01_k».proof.Proof.Model
public import Idealize.ShloMosaic.Lib.IdealHost

@[expose] public section

set_option maxRecDepth 16384

noncomputable section

namespace Cert.Hgrn.Ker

open Idealize.ShloMosaic Idealize.ShloMosaic.TcCoe Idealize.ShloMosaic.ValueIdx
open Cert.KernelIdeal Cert.KernelIdeal.Gen
open scoped BigOperators

/-! ## The kernel's block is the recurrence -/

theorem ninf : Ideal.ofBits .f32 0xFF800000#32 = ⊥ := by
  simp [Ideal.ofBits, Ideal.ieee]

theorem lift_lay (h : S2x2x256.Reduces [0] S2x256) (d : Fin 2) (c : Fin 256) (k : Fin 2) : h.lift (ix2 d c) k = ix3 k d c := by
  funext a; apply Fin.ext
  match a with
  | ⟨0, _⟩ => rfl
  | ⟨1, _⟩ => rfl
  | ⟨2, _⟩ => rfl

theorem kmax_ap (x : FVec Ideal S2x2x256 .f32) (d : Fin 2) (c : Fin 256) :
    multiReduction .maximumf [0] S2x256 x 0xFF800000#32 reduces_S2x2x256_S2x256 (.inl rfl) rfl (ix2 d c) = max (x (ix3 0 d c)) (x (ix3 1 d c)) := by
  refine (Ideal.multiReduction_maximumf_single x _ _ _ _ (ix2 d c)).trans ?_
  have hf : ∀ f : Fin 2 → EReal, (Finset.univ : Finset (Fin 2)).fold max ⊥ f = max (f 0) (f 1) := fun f => by
    have hu : (Finset.univ : Finset (Fin 2)) = {0, 1} := rfl
    rw [hu, Finset.fold_insert (by decide), Finset.fold_singleton, max_bot_right]
  refine (congrArg (fun z => Finset.fold max z (x ∘ reduces_S2x2x256_S2x256.lift (ix2 d c)) Finset.univ) ninf).trans ((hf _).trans ?_)
  show max (x (reduces_S2x2x256_S2x256.lift (ix2 d c) (0 : Fin 2))) (x (reduces_S2x2x256_S2x256.lift (ix2 d c) (1 : Fin 2))) = _
  rw [lift_lay, lift_lay]

theorem ksum_ap (x : FVec Ideal S2x2x256 .f32) (d : Fin 2) (c : Fin 256) :
    multiReduction .add [0] S2x256 x 0x00000000#32 reduces_S2x2x256_S2x256 (.inl rfl) rfl (ix2 d c) = x (ix3 0 d c) + x (ix3 1 d c) := by
  refine (Ideal.multiReduction_add_single x _ _ _ _ (ix2 d c)).trans ?_
  show ∑ k : Fin 2, x (reduces_S2x2x256_S2x256.lift (ix2 d c) k) = _
  rw [Fin.sum_univ_two, lift_lay, lift_lay]

/-- The lower bounds of the forget gates: the first layer's share of the logits' exponentials. -/
theorem pay3_ap (x : Vec Ideal S2x2x256 .f32) (d : Fin 2) (c : Fin 256) : (k0_pay3 x (ix2 d c) : EReal) = lbE (x (ix3 0 d c)) (x (ix3 1 d c)) := by
  have hb : ∀ l : Fin 2, (exp (F := Ideal) (subf (F := Ideal) x (broadcastTo S2x2x256 (shapeCast S1x2x256 (multiReduction (F := Ideal) .maximumf [0] S2x256 x 0xFF800000#32 reduces_S2x2x256_S2x256 (.inl rfl) rfl)
      shapeCasts_S2x256_S1x2x256) broadcasts_S1x2x256_S2x2x256)) (ix3 l d c) : EReal) = Ideal.exp (x (ix3 l d c) - max (x (ix3 0 d c)) (x (ix3 1 d c))) := fun l => by
    refine congrArg (fun z => Ideal.exp (x (ix3 l d c) - z)) ((broadcastTo_apply _ _ _ (ix3 (0 : Fin 1) d c) (fun a => ?_)).trans ((shapeCast_apply _ _ _ (ix2 d c) ?_).trans (kmax_ap x d c)))
    · match a with
      | ⟨0, _⟩ => rfl
      | ⟨1, _⟩ => rfl
      | ⟨2, _⟩ => rfl
    · rw [Shape.rowMajor_val_two, Shape.rowMajor_val_three]
      show d.val * 256 + c.val = (0 * 2 + d.val) * 256 + c.val
      omega
  unfold k0_pay3 lbE
  refine congrArg₂ Ideal.div ?_ ?_
  · refine (shapeCast_apply _ _ _ (ix3 (0 : Fin 1) d c) ?_).trans ((extractStridedSlice_apply _ _ _ _ (ix3 0 d c) (fun a => ?_)).trans (hb 0))
    · rw [Shape.rowMajor_val_two, Shape.rowMajor_val_three]
      show (0 * 2 + d.val) * 256 + c.val = d.val * 256 + c.val
      omega
    · match a with
      | ⟨0, _⟩ => rfl
      | ⟨1, _⟩ => exact (Nat.zero_add _).symm
      | ⟨2, _⟩ => exact (Nat.zero_add _).symm
  · refine (ksum_ap _ d c).trans ?_
    rw [hb, hb]

/-! ### A chunk read in a direction's order -/

section Order
variable {f : Fin 128 → Fin 128} (hf : f = id ∨ f = Fin.rev)
include hf

theorem xOf_order (A g : Fin 128 → EReal) : xOf A g = xOf (fun r => A (f r)) (fun r => g (f r)) := by
  rcases hf with h | h
  · subst h; rfl
  · subst h; exact (xOf_rev A g).symm

theorem outOf_order (M : Fin 8 → Fin 128 → Fin 128 → EReal) (Q K : Fin 128 → Fin 128 → EReal) (X : Fin 9 → Fin 128 → Fin 128 → EReal)
    (V St : Fin 128 → Fin 128 → EReal) (t e : Fin 128) :
    outOf M Q K X V St (f t) e
      = outOf (fun i t s => M i (f t) (f s)) (fun t d => Q (f t) d) (fun t d => K (f t) d) (fun i t d => X i (f t) d) (fun t e => V (f t) e) St t e := by
  rcases hf with h | h
  · subst h; rfl
  · subst h; exact (outOf_rev M Q K X V St t e).symm

theorem stOf_order (K : Fin 128 → Fin 128 → EReal) (X : Fin 9 → Fin 128 → Fin 128 → EReal)
    (V St : Fin 128 → Fin 128 → EReal) (e d : Fin 128) :
    stOf (f 127) K X V St e d = stOf 127 (fun t d => K (f t) d) (fun i t d => X i (f t) d) (fun t e => V (f t) e) St e d := by
  rcases hf with h | h
  · subst h; rfl
  · subst h; exact (stOf_rev 127 K X V St e d).symm

end Order

/-- Head `hh` of the pair `p`. -/
abbrev hd (p : Fin 4) (hh : Fin 2) : Fin 8 := ⟨2 * p.val + hh.val, by omega⟩

variable {Z : Fin 12288 → Fin 2048 → EReal} {R : Fin 12288 → Fin 7168 → EReal} {L : Fin 2 → Fin 2 → Fin 1024 → EReal} (hF : Finite R L)
  (s : Fin 32) (p : Fin 4)
  {x0 x3 : Vec Ideal S256x256 .bf16} {x5 : Vec Ideal S2x2x256 .f32} {z : Vec Ideal S256x256 .f32} {x7 : Vec Ideal S2x1152x128 .bf16}
  {x8 : Vec Ideal S2x8x128x128 .f32}
  (h0 : ∀ (o hh : Fin 2) (t d : Fin 128), x0 (ix2 (row o t) (row hh d)) = R (rw s (row o t)) (rc 0 (ch (hd p hh) d)))
  (h3 : ∀ (o hh : Fin 2) (t d : Fin 128), x3 (ix2 (row o t) (row hh d)) = R (rw s (row o t)) (rc 1 (ch (hd p hh) d)))
  (h5 : ∀ (l d hh : Fin 2) (dd : Fin 128), x5 (ix3 l d (row hh dd)) = L l d (ch (hd p hh) dd))
  (d : Fin 2)
  (hz : ∀ (o hh : Fin 2) (t dd : Fin 128), z (ix2 (row o t) (row hh dd)) = Z (rw s (row o t)) (gc d (ch (hd p hh) dd)))
  {f : Fin 128 → Fin 128} (hf : f = id ∨ f = Fin.rev)
  (hA : ∀ (i : Fin 9) (t r : Fin 128), (x7 (ix3 d (lvRow i (f t)) (f r)) : EReal) = ind (aP i t r))
  (hM : ∀ (i : Fin 8) (t r : Fin 128), (x8 (ix4 d i (f t) (f r)) : EReal) = ind (mP i t r))
  (o hh : Fin 2) (n : ℕ) (hpos : ∀ t : Fin 128, pos d (n + t.val) = row o (f t))

include hF h0 hpos in
theorem cellQ_re (t dd : Fin 128) : cellQ x0 o hh (f t) dd = (qM R d s (hd p hh) (n + t.val) dd.val : EReal) := by
  rw [← q_fin hF, hpos, chan_val]
  exact congrArg qOf (h0 o hh (f t) dd)

include hF h3 hpos in
theorem cellV_re (t e : Fin 128) : cellV x3 o hh (f t) e = (vM R d s (hd p hh) (n + t.val) e.val : EReal) := by
  rw [← v_fin hF, hpos, chan_val]
  exact h3 o hh (f t) e

include hF h5 hz hpos in
theorem cellK_re (t dd : Fin 128) : cellK x5 z d o hh (f t) dd = (kM Z L d s (hd p hh) (n + t.val) dd.val : EReal) := by
  rw [← k_fin hF, hpos, chan_val, ← h5 0, ← h5 1, ← hz, ← pay3_ap]
  rfl

include hF h5 hz hf hA hpos in
theorem cellX_re (i : Fin 9) (t dd : Fin 128) :
    cellX x5 z x7 d o hh i (f t) dd = (xR (fun r e => gM Z L d s (hd p hh) (n + r.val) e.val) i t dd : EReal) := by
  unfold cellX XS
  refine (xOf_order hf _ _).trans ?_
  refine Eq.trans ?_ (xOf_coe (fun r => aP i t r) (fun r => gM Z L d s (hd p hh) (n + r.val) dd.val))
  refine congrArg₂ xOf (funext fun r => hA i t r) (funext fun r => ?_)
  rw [← g_fin hF, hpos, chan_val, ← h5 0, ← h5 1, ← hz, ← pay3_ap]

include hF h0 h3 h5 hz hf hA hM hpos in
/-- A chunk's outputs are the recurrence's, where the carried state is. -/
theorem out_re (St : Fin 128 → Fin 128 → EReal) (hSt : ∀ e dd : Fin 128, St e dd = (stM (gM Z L d s (hd p hh)) (kM Z L d s (hd p hh)) (vM R d s (hd p hh)) n dd.val e.val : EReal))
    (t e : Fin 128) :
    outOf (cellM x8 d) (cellQ x0 o hh) (cellK x5 z d o hh) (cellX x5 z x7 d o hh) (cellV x3 o hh) St (f t) e = (oM Z R L d s (hd p hh) (n + t.val) e.val : EReal) := by
  rw [outOf_order hf]
  have hS : St = fun e dd => ((stM (gM Z L d s (hd p hh)) (kM Z L d s (hd p hh)) (vM R d s (hd p hh)) n dd.val e.val : ℝ) : EReal) := funext fun e => funext fun dd => hSt e dd
  rw [hS]
  simp only [cellQ_re hF s p h0 d o hh n hpos, cellV_re hF s p h3 d o hh n hpos, cellK_re hF s p h5 d hz o hh n hpos, cellX_re hF s p h5 d hz hf hA o hh n hpos]
  have hMf : (fun (i : Fin 8) (t s : Fin 128) => cellM x8 d i (f t) (f s)) = fun i t s => ind (mP i t s) := funext fun i => funext fun t => funext fun s => hM i t s
  rw [hMf, outOf_coe (fun t dd => qM R d s (hd p hh) (n + t.val) dd.val) (fun t dd => kM Z L d s (hd p hh) (n + t.val) dd.val) (fun t dd => gM Z L d s (hd p hh) (n + t.val) dd.val)
    (fun t e => vM R d s (hd p hh) (n + t.val) e.val) (fun e dd => stM (gM Z L d s (hd p hh)) (kM Z L d s (hd p hh)) (vM R d s (hd p hh)) n dd.val e.val)]
  unfold oM
  rw [outM_chunk]
  rfl

include hF h3 h5 hz hf hA hpos in
/-- A chunk's state is the recurrence's, where the carried state is. -/
theorem st_re (St : Fin 128 → Fin 128 → EReal) (hSt : ∀ e dd : Fin 128, St e dd = (stM (gM Z L d s (hd p hh)) (kM Z L d s (hd p hh)) (vM R d s (hd p hh)) n dd.val e.val : EReal))
    (e dd : Fin 128) :
    stOf (f 127) (cellK x5 z d o hh) (cellX x5 z x7 d o hh) (cellV x3 o hh) St e dd
      = (stM (gM Z L d s (hd p hh)) (kM Z L d s (hd p hh)) (vM R d s (hd p hh)) (n + 128) dd.val e.val : EReal) := by
  rw [stOf_order hf]
  have hS : St = fun e dd => ((stM (gM Z L d s (hd p hh)) (kM Z L d s (hd p hh)) (vM R d s (hd p hh)) n dd.val e.val : ℝ) : EReal) := funext fun e => funext fun dd => hSt e dd
  rw [hS]
  simp only [cellV_re hF s p h3 d o hh n hpos, cellK_re hF s p h5 d hz o hh n hpos, cellX_re hF s p h5 d hz hf hA o hh n hpos]
  rw [stOf_coe (fun t dd => kM Z L d s (hd p hh) (n + t.val) dd.val) (fun t dd => gM Z L d s (hd p hh) (n + t.val) dd.val)
    (fun t e => vM R d s (hd p hh) (n + t.val) e.val) (fun e dd => stM (gM Z L d s (hd p hh)) (kM Z L d s (hd p hh)) (vM R d s (hd p hh)) n dd.val e.val)]
  unfold stM
  rw [stR_whole (C := 128)]

theorem st_zero (dd e : ℕ) : (0 : EReal) = (stM (gM Z L d s (hd p hh)) (kM Z L d s (hd p hh)) (vM R d s (hd p hh)) 0 dd e : EReal) := by
  unfold stM stR
  exact EReal.coe_zero.symm

/-! ### The two directions -/

theorem pos_f (o : Fin 2) (t : Fin 128) : pos 0 (128 * o.val + t.val) = row o t := pos_zero _ _ rfl
theorem pos_b (o : Fin 2) (t : Fin 128) : pos 1 (128 * (Fin.rev o).val + t.val) = row o (Fin.rev t) := by
  refine (pos_one _ ⟨128 * (Fin.rev o).val + t.val, by have := (Fin.rev o).isLt; omega⟩ rfl).trans (Fin.ext ?_)
  rw [Fin.val_rev]
  show 256 - (128 * (Fin.rev o).val + t.val + 1) = 128 * o.val + (Fin.rev t).val
  rw [Fin.val_rev, Fin.val_rev]
  omega

section Forward
variable (hz0 : ∀ (o hh : Fin 2) (t dd : Fin 128), z (ix2 (row o t) (row hh dd)) = Z (rw s (row o t)) (gc 0 (ch (hd p hh) dd)))
  (hA0 : ∀ (i : Fin 9) (t r : Fin 128), (x7 (ix3 0 (lvRow i t) r) : EReal) = ind (aP i t r))
  (hM0 : ∀ (i : Fin 8) (t r : Fin 128), (x8 (ix4 0 i t r) : EReal) = ind (mP i t r))

include hF h3 h5 hz0 hA0 in
theorem st1_f (e dd : Fin 128) :
    St1 127 x3 x5 z x7 0 0 hh e dd = (stM (gM Z L 0 s (hd p hh)) (kM Z L 0 s (hd p hh)) (vM R 0 s (hd p hh)) 128 dd.val e.val : EReal) := by
  refine (st_re hF s p h3 h5 0 hz0 (f := id) (.inl rfl) hA0 0 hh 0 (fun t => pos_f 0 t) (fun _ _ => 0) (fun e dd => st_zero s p 0 hh dd.val e.val) e dd).trans ?_
  rw [Nat.zero_add]

include hF h3 h5 hz0 hA0 in
/-- The first direction's state after the sequence. -/
theorem st2_f (e dd : Fin 128) : St2 127 x3 x5 z x7 0 0 1 hh e dd = (sM Z R L 0 s (hd p hh) dd.val e.val : EReal) :=
  st_re hF s p h3 h5 0 hz0 (f := id) (.inl rfl) hA0 1 hh 128 (fun t => pos_f 1 t) _ (fun e dd => st1_f hF s p h3 h5 hh hz0 hA0 e dd) e dd

include hF h0 h3 h5 hz0 hA0 hM0 in
/-- The first direction's outputs. -/
theorem OF_re (a : Fin 2) (t e : Fin 128) : OF x0 x3 x5 z x7 x8 hh a t e = (oM Z R L 0 s (hd p hh) (row a t).val e.val : EReal) := by
  unfold OF
  by_cases ha : a = 0
  · subst ha
    rw [if_pos rfl]
    refine (out_re hF s p h0 h3 h5 0 hz0 (f := id) (.inl rfl) hA0 hM0 0 hh 0 (fun t => pos_f 0 t) (fun _ _ => 0) (fun e dd => st_zero s p 0 hh dd.val e.val) t e).trans ?_
    rfl
  · have h1 : a = 1 := by omega
    subst h1
    rw [if_neg ha]
    exact out_re hF s p h0 h3 h5 0 hz0 (f := id) (.inl rfl) hA0 hM0 1 hh 128 (fun t => pos_f 1 t) _ (fun e dd => st1_f hF s p h3 h5 hh hz0 hA0 e dd) t e

end Forward

section Backward
variable (hz1 : ∀ (o hh : Fin 2) (t dd : Fin 128), z (ix2 (row o t) (row hh dd)) = Z (rw s (row o t)) (gc 1 (ch (hd p hh) dd)))
  (hA1 : ∀ (i : Fin 9) (t r : Fin 128), (x7 (ix3 1 (lvRow i t) r) : EReal) = ind (aP i (Fin.rev t) (Fin.rev r)))
  (hM1 : ∀ (i : Fin 8) (t r : Fin 128), (x8 (ix4 1 i t r) : EReal) = ind (mP i (Fin.rev t) (Fin.rev r)))

include hA1 in
theorem hA1' (i : Fin 9) (t r : Fin 128) : (x7 (ix3 1 (lvRow i (Fin.rev t)) (Fin.rev r)) : EReal) = ind (aP i t r) := by
  rw [hA1]
  simp only [Fin.rev_rev]
include hM1 in
theorem hM1' (i : Fin 8) (t r : Fin 128) : (x8 (ix4 1 i (Fin.rev t) (Fin.rev r)) : EReal) = ind (mP i t r) := by
  rw [hM1]
  simp only [Fin.rev_rev]

include hF h3 h5 hz1 hA1 in
theorem st1_b (e dd : Fin 128) :
    St1 0 x3 x5 z x7 1 1 hh e dd = (stM (gM Z L 1 s (hd p hh)) (kM Z L 1 s (hd p hh)) (vM R 1 s (hd p hh)) 128 dd.val e.val : EReal) := by
  refine (st_re hF s p h3 h5 1 hz1 (f := Fin.rev) (.inr rfl) (hA1' hA1) 1 hh 0 (fun t => pos_b 1 t) (fun _ _ => 0) (fun e dd => st_zero s p 1 hh dd.val e.val) e dd).trans ?_
  rw [Nat.zero_add]

include hF h3 h5 hz1 hA1 in
/-- The second direction's state after the sequence. -/
theorem st2_b (e dd : Fin 128) : St2 0 x3 x5 z x7 1 1 0 hh e dd = (sM Z R L 1 s (hd p hh) dd.val e.val : EReal) :=
  st_re hF s p h3 h5 1 hz1 (f := Fin.rev) (.inr rfl) (hA1' hA1) 0 hh 128 (fun t => pos_b 0 t) _ (fun e dd => st1_b hF s p h3 h5 hh hz1 hA1 e dd) e dd

include hF h0 h3 h5 hz1 hA1 hM1 in
/-- The second direction's outputs. -/
theorem OB_re (a : Fin 2) (t e : Fin 128) : OB x0 x3 x5 z x7 x8 hh a t e = (oM Z R L 1 s (hd p hh) (Fin.rev (row a t)).val e.val : EReal) := by
  unfold OB
  have ht : Fin.rev (Fin.rev t) = t := Fin.rev_rev t
  by_cases ha : a = 0
  · subst ha
    rw [if_pos rfl]
    have h := out_re hF s p h0 h3 h5 1 hz1 (f := Fin.rev) (.inr rfl) (hA1' hA1) (hM1' hM1) 0 hh 128 (fun t => pos_b 0 t) _ (fun e dd => st1_b hF s p h3 h5 hh hz1 hA1 e dd) (Fin.rev t) e
    rw [ht] at h
    refine h.trans ?_
    have hv : 128 + (Fin.rev t).val = (Fin.rev (row 0 t)).val := by
      rw [Fin.val_rev, Fin.val_rev]
      show 128 + (128 - (t.val + 1)) = 256 - (128 * 0 + t.val + 1)
      omega
    rw [hv]
  · have h1 : a = 1 := by omega
    subst h1
    rw [if_neg ha]
    have h := out_re hF s p h0 h3 h5 1 hz1 (f := Fin.rev) (.inr rfl) (hA1' hA1) (hM1' hM1) 1 hh 0 (fun t => pos_b 1 t) (fun _ _ => 0) (fun e dd => st_zero s p 1 hh dd.val e.val) (Fin.rev t) e
    rw [ht] at h
    refine h.trans ?_
    have hv : 0 + (Fin.rev t).val = (Fin.rev (row 1 t)).val := by
      rw [Fin.val_rev, Fin.val_rev]
      show 0 + (128 - (t.val + 1)) = 256 - (128 * 1 + t.val + 1)
      omega
    rw [hv]

end Backward

end Cert.Hgrn.Ker

end
-- ==== Proof.KerFinal.lean ====
module

public import proofs.«01_k».proof.Proof.KerConsts
public import proofs.«01_k».proof.Proof.KerCells

@[expose] public section

set_option maxRecDepth 16384

noncomputable section

namespace Cert.Hgrn.Ker

open Idealize.ShloMosaic Idealize.ShloMosaic.TcCoe Idealize.ShloMosaic.ValueIdx
open Cert.KernelIdeal Cert.KernelIdeal.Gen
open Idealize.ShloMosaic.Pipeline (Dat Cfg Window)

/-! ## What the kernel's run leaves in its two results -/

/-- The grid point of sequence `s` and head pair `p`. -/
abbrev pt (s : Fin 32) (p : Fin 4) : Fin cfg0.N := ⟨4 * s.val + p.val, by show 4 * s.val + p.val < 128; omega⟩

theorem idxA : ∀ t : Fin cfg0.N, win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = 4 + t.val % 4
    ∧ win0_3.index t (0 : Fin 2) = t.val / 4 ∧ win0_3.index t (1 : Fin 2) = 4 + t.val % 4
    ∧ win0_4.index t (0 : Fin 2) = t.val / 4 ∧ win0_4.index t (1 : Fin 2) = 8 + t.val % 4
    ∧ win0_9.index t (0 : Fin 2) = t.val / 4 ∧ win0_9.index t (1 : Fin 2) = t.val % 4 :=
  (by decide +kernel : ∀ t : Fin grid0.N, _)
theorem idxB : ∀ t : Fin cfg0.N, win0_5.index t (0 : Fin 3) = 0 ∧ win0_5.index t (1 : Fin 3) = 0 ∧ win0_5.index t (2 : Fin 3) = t.val % 4
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)
theorem idxC : ∀ t : Fin cfg0.N, win0_10.index t (0 : Fin 6) = t.val / 4 ∧ win0_10.index t (1 : Fin 6) = 0 ∧ win0_10.index t (2 : Fin 6) = 0
    ∧ win0_10.index t (3 : Fin 6) = t.val % 4 ∧ win0_10.index t (4 : Fin 6) = 0 ∧ win0_10.index t (5 : Fin 6) = 0 :=
  (by decide +kernel : ∀ t : Fin grid0.N, _)
theorem fl9 : ∀ t : Fin cfg0.N, (cfg0.win 9).flush t = true := (by decide +kernel : ∀ t : Fin grid0.N, _)
theorem fl10 : ∀ t : Fin cfg0.N, (cfg0.win 10).flush t = true := (by decide +kernel : ∀ t : Fin grid0.N, _)

theorem pt_div (s : Fin 32) (p : Fin 4) : (pt s p).val / 4 = s.val := by show (4 * s.val + p.val) / 4 = s.val; omega
theorem pt_mod (s : Fin 32) (p : Fin 4) : (pt s p).val % 4 = p.val := by show (4 * s.val + p.val) % 4 = p.val; omega

/-! ### Where a block's entries lie in its array -/

theorem emb0 (s : Fin 32) (p : Fin 4) (o hh : Fin 2) (t d : Fin 128) :
    ((cfg0.win 0).blk (pt s p)).view.emb (ix2 (row o t) (row hh d)) = ix2 (rw s (row o t)) (rc 0 (ch (hd p hh) d)) := by
  have h := idxA (pt s p)
  rw [pt_div, pt_mod] at h
  funext a; apply Fin.ext
  match a with
  | ⟨0, _⟩ => show win0_0.index (pt s p) (0 : Fin 2) * 256 + 1 * (row o t).val = 256 * s.val + (row o t).val; omega
  | ⟨1, _⟩ =>
    show win0_0.index (pt s p) (1 : Fin 2) * 256 + 1 * (128 * hh.val + d.val) = 1024 * 0 + (128 * (2 * p.val + hh.val) + d.val); omega
theorem emb1 (s : Fin 32) (p : Fin 4) (o hh : Fin 2) (t d : Fin 128) :
    ((cfg0.win 1).blk (pt s p)).view.emb (ix2 (row o t) (row hh d)) = ix2 (rw s (row o t)) (gc 0 (ch (hd p hh) d)) := by
  have h := idxA (pt s p)
  rw [pt_div, pt_mod] at h
  funext a; apply Fin.ext
  match a with
  | ⟨0, _⟩ => show win0_1.index (pt s p) (0 : Fin 2) * 256 + 1 * (row o t).val = 256 * s.val + (row o t).val; omega
  | ⟨1, _⟩ =>
    show win0_1.index (pt s p) (1 : Fin 2) * 256 + 1 * (128 * hh.val + d.val) = 1024 * 0 + (128 * (2 * p.val + hh.val) + d.val); omega
theorem emb2 (s : Fin 32) (p : Fin 4) (o hh : Fin 2) (t d : Fin 128) :
    ((cfg0.win 2).blk (pt s p)).view.emb (ix2 (row o t) (row hh d)) = ix2 (rw s (row o t)) (gc 1 (ch (hd p hh) d)) := by
  have h := idxA (pt s p)
  rw [pt_div, pt_mod] at h
  funext a; apply Fin.ext
  match a with
  | ⟨0, _⟩ => show win0_2.index (pt s p) (0 : Fin 2) * 256 + 1 * (row o t).val = 256 * s.val + (row o t).val; omega
  | ⟨1, _⟩ =>
    show win0_2.index (pt s p) (1 : Fin 2) * 256 + 1 * (128 * hh.val + d.val) = 1024 * 1 + (128 * (2 * p.val + hh.val) + d.val); omega
theorem emb3 (s : Fin 32) (p : Fin 4) (o hh : Fin 2) (t d : Fin 128) :
    ((cfg0.win 3).blk (pt s p)).view.emb (ix2 (row o t) (row hh d)) = ix2 (rw s (row o t)) (rc 1 (ch (hd p hh) d)) := by
  have h := idxA (pt s p)
  rw [pt_div, pt_mod] at h
  funext a; apply Fin.ext
  match a with
  | ⟨0, _⟩ => show win0_3.index (pt s p) (0 : Fin 2) * 256 + 1 * (row o t).val = 256 * s.val + (row o t).val; omega
  | ⟨1, _⟩ =>
    show win0_3.index (pt s p) (1 : Fin 2) * 256 + 1 * (128 * hh.val + d.val) = 1024 * 1 + (128 * (2 * p.val + hh.val) + d.val); omega
theorem emb4 (s : Fin 32) (p : Fin 4) (o hh : Fin 2) (t d : Fin 128) :
    ((cfg0.win 4).blk (pt s p)).view.emb (ix2 (row o t) (row hh d)) = ix2 (rw s (row o t)) (rc 2 (ch (hd p hh) d)) := by
  have h := idxA (pt s p)
  rw [pt_div, pt_mod] at h
  funext a; apply Fin.ext
  match a with
  | ⟨0, _⟩ => show win0_4.index (pt s p) (0 : Fin 2) * 256 + 1 * (row o t).val = 256 * s.val + (row o t).val; omega
  | ⟨1, _⟩ =>
    show win0_4.index (pt s p) (1 : Fin 2) * 256 + 1 * (128 * hh.val + d.val) = 1024 * 2 + (128 * (2 * p.val + hh.val) + d.val); omega
theorem emb5 (s : Fin 32) (p : Fin 4) (l d hh : Fin 2) (dd : Fin 128) :
    ((cfg0.win 5).blk (pt s p)).view.emb (ix3 l d (row hh dd)) = ix3 l d (ch (hd p hh) dd) := by
  have h := idxB (pt s p)
  rw [pt_mod] at h
  funext a; apply Fin.ext
  match a with
  | ⟨0, _⟩ => show win0_5.index (pt s p) (0 : Fin 3) * 2 + 1 * l.val = l.val; omega
  | ⟨1, _⟩ => show win0_5.index (pt s p) (1 : Fin 3) * 2 + 1 * d.val = d.val; omega
  | ⟨2, _⟩ => show win0_5.index (pt s p) (2 : Fin 3) * 256 + 1 * (128 * hh.val + dd.val) = 128 * (2 * p.val + hh.val) + dd.val; omega
theorem emb6 (t : Fin cfg0.N) (e : Fin 128) : ((cfg0.win 6).blk t).view.emb (ix2 (0 : Fin 1) e) = ix2 (0 : Fin 1) e := by
  have h := idxB t
  funext a; apply Fin.ext
  match a with
  | ⟨0, _⟩ => show win0_6.index t (0 : Fin 2) * 1 + 1 * 0 = 0; omega
  | ⟨1, _⟩ => show win0_6.index t (1 : Fin 2) * 128 + 1 * e.val = e.val; omega
theorem emb7 (t : Fin cfg0.N) (d : Fin 2) (r : Fin 1152) (e : Fin 128) : ((cfg0.win 7).blk t).view.emb (ix3 d r e) = ix3 d r e := by
  have h := idxB t
  funext a; apply Fin.ext
  match a with
  | ⟨0, _⟩ => show win0_7.index t (0 : Fin 3) * 2 + 1 * d.val = d.val; omega
  | ⟨1, _⟩ => show win0_7.index t (1 : Fin 3) * 1152 + 1 * r.val = r.val; omega
  | ⟨2, _⟩ => show win0_7.index t (2 : Fin 3) * 128 + 1 * e.val = e.val; omega
theorem emb8 (t : Fin cfg0.N) (d : Fin 2) (i : Fin 8) (r e : Fin 128) : ((cfg0.win 8).blk t).view.emb (ix4 d i r e) = ix4 d i r e := by
  have h := idxB t
  funext a; apply Fin.ext
  match a with
  | ⟨0, _⟩ => show win0_8.index t (0 : Fin 4) * 2 + 1 * d.val = d.val; omega
  | ⟨1, _⟩ => show win0_8.index t (1 : Fin 4) * 8 + 1 * i.val = i.val; omega
  | ⟨2, _⟩ => show win0_8.index t (2 : Fin 4) * 128 + 1 * r.val = r.val; omega
  | ⟨3, _⟩ => show win0_8.index t (3 : Fin 4) * 128 + 1 * e.val = e.val; omega
theorem emb9 (s : Fin 32) (p : Fin 4) (o hh : Fin 2) (t d : Fin 128) :
    ((cfg0.win 9).blk (pt s p)).view.emb (ix2 (row o t) (row hh d)) = ix2 (rw s (row o t)) (ch (hd p hh) d) := by
  have h := idxA (pt s p)
  rw [pt_div, pt_mod] at h
  funext a; apply Fin.ext
  match a with
  | ⟨0, _⟩ => show win0_9.index (pt s p) (0 : Fin 2) * 256 + 1 * (row o t).val = 256 * s.val + (row o t).val; omega
  | ⟨1, _⟩ =>
    show win0_9.index (pt s p) (1 : Fin 2) * 256 + 1 * (128 * hh.val + d.val) = 128 * (2 * p.val + hh.val) + d.val; omega
theorem emb10 (s : Fin 32) (p : Fin 4) (o hh : Fin 2) (d e : Fin 128) :
    ((cfg0.win 10).blk (pt s p)).view.emb (ix6 (0 : Fin 1) (0 : Fin 1) o hh d e) = ix6 s (0 : Fin 1) o (hd p hh) d e := by
  have h := idxC (pt s p)
  rw [pt_div, pt_mod] at h
  funext a; apply Fin.ext
  match a with
  | ⟨0, _⟩ => show win0_10.index (pt s p) (0 : Fin 6) * 1 + 1 * 0 = s.val; omega
  | ⟨1, _⟩ => show win0_10.index (pt s p) (1 : Fin 6) * 1 + 1 * 0 = 0; omega
  | ⟨2, _⟩ => show win0_10.index (pt s p) (2 : Fin 6) * 2 + 1 * o.val = o.val; omega
  | ⟨3, _⟩ => show win0_10.index (pt s p) (3 : Fin 6) * 2 + 1 * hh.val = 2 * p.val + hh.val; omega
  | ⟨4, _⟩ => show win0_10.index (pt s p) (4 : Fin 6) * 128 + 1 * d.val = d.val; omega
  | ⟨5, _⟩ => show win0_10.index (pt s p) (5 : Fin 6) * 128 + 1 * e.val = e.val; omega

/-! ### The blocks the kernel reads -/

variable (m : (ℓ : Loc nD τ sig) → Buf (Elt Ideal) ℓ) (c : Dev nD)

/-- The gates. -/
def Zk (r : Fin 12288) (j : Fin 2048) : EReal := (m ((c : Thread nD τ).loc main_arg0) : FVec Ideal S12288x2048 .f32) (ix2 r j)
/-- The other projections. -/
def Rk (r : Fin 12288) (j : Fin 7168) : EReal := (m ((c : Thread nD τ).loc main_arg1) : FVec Ideal S12288x7168 .bf16) (ix2 r j)
/-- The logits. -/
def Lk (l o : Fin 2) (j : Fin 1024) : EReal := (m ((c : Thread nD τ).loc main_arg2) : FVec Ideal S2x2x1024 .f32) (ix3 l o j)
/-- The gain. -/
def Gk (j : Fin 128) : EReal := (m ((c : Thread nD τ).loc main_arg3) : FVec Ideal S1x128 .f32) (ix2 (0 : Fin 1) j)

theorem b0 (s : Fin 32) (p : Fin 4) (o hh : Fin 2) (t d : Fin 128) :
    (iblk m c 0 (pt s p) : Vec Ideal S256x256 .bf16) (ix2 (row o t) (row hh d)) = Rk m c (rw s (row o t)) (rc 0 (ch (hd p hh) d)) := by
  show V m c main_arg1 (((cfg0.win 0).blk (pt s p)).view.emb (ix2 (row o t) (row hh d))) = _
  rw [emb0, V_main_arg1]
  rfl
theorem b1 (s : Fin 32) (p : Fin 4) (o hh : Fin 2) (t d : Fin 128) :
    (iblk m c 1 (pt s p) : Vec Ideal S256x256 .f32) (ix2 (row o t) (row hh d)) = Zk m c (rw s (row o t)) (gc 0 (ch (hd p hh) d)) := by
  show V m c main_arg0 (((cfg0.win 1).blk (pt s p)).view.emb (ix2 (row o t) (row hh d))) = _
  rw [emb1, V_main_arg0]
  rfl
theorem b2 (s : Fin 32) (p : Fin 4) (o hh : Fin 2) (t d : Fin 128) :
    (iblk m c 2 (pt s p) : Vec Ideal S256x256 .f32) (ix2 (row o t) (row hh d)) = Zk m c (rw s (row o t)) (gc 1 (ch (hd p hh) d)) := by
  show V m c main_arg0 (((cfg0.win 2).blk (pt s p)).view.emb (ix2 (row o t) (row hh d))) = _
  rw [emb2, V_main_arg0]
  rfl
theorem b3 (s : Fin 32) (p : Fin 4) (o hh : Fin 2) (t d : Fin 128) :
    (iblk m c 3 (pt s p) : Vec Ideal S256x256 .bf16) (ix2 (row o t) (row hh d)) = Rk m c (rw s (row o t)) (rc 1 (ch (hd p hh) d)) := by
  show V m c main_arg1 (((cfg0.win 3).blk (pt s p)).view.emb (ix2 (row o t) (row hh d))) = _
  rw [emb3, V_main_arg1]
  rfl
theorem b4 (s : Fin 32) (p : Fin 4) (o hh : Fin 2) (t d : Fin 128) :
    (iblk m c 4 (pt s p) : Vec Ideal S256x256 .bf16) (ix2 (row o t) (row hh d)) = Rk m c (rw s (row o t)) (rc 2 (ch (hd p hh) d)) := by
  show V m c main_arg1 (((cfg0.win 4).blk (pt s p)).view.emb (ix2 (row o t) (row hh d))) = _
  rw [emb4, V_main_arg1]
  rfl
theorem b5 (s : Fin 32) (p : Fin 4) (l d hh : Fin 2) (dd : Fin 128) :
    (iblk m c 5 (pt s p) : Vec Ideal S2x2x256 .f32) (ix3 l d (row hh dd)) = Lk m c l d (ch (hd p hh) dd) := by
  show V m c main_arg2 (((cfg0.win 5).blk (pt s p)).view.emb (ix3 l d (row hh dd))) = _
  rw [emb5, V_main_arg2]
  rfl
theorem b6 (t : Fin cfg0.N) (e : Fin 128) : (iblk m c 6 t : Vec Ideal S1x128 .f32) (ix2 (0 : Fin 1) e) = Gk m c e := by
  show V m c main_v38 (((cfg0.win 6).blk t).view.emb (ix2 (0 : Fin 1) e)) = _
  rw [emb6]
  exact (congrFun (V_G m c) _).trans (gain_ap _ e)
theorem b7 (t : Fin cfg0.N) (d : Fin 2) (r : Fin 1152) (e : Fin 128) : (iblk m c 7 t : Vec Ideal S2x1152x128 .bf16) (ix3 d r e) = (aAll (ix3 d r e) : EReal) := by
  show V m c main_v36 (((cfg0.win 7).blk t).view.emb (ix3 d r e)) = _
  rw [emb7]
  exact congrFun (V_A m c) _
theorem b8 (t : Fin cfg0.N) (d : Fin 2) (i : Fin 8) (r e : Fin 128) : (iblk m c 8 t : Vec Ideal S2x8x128x128 .f32) (ix4 d i r e) = (mAll (ix4 d i r e) : EReal) := by
  show V m c main_v35 (((cfg0.win 8).blk t).view.emb (ix4 d i r e)) = _
  rw [emb8]
  exact congrFun (V_M m c) _

/-! ### The results -/

theorem norm_congr {Y Y' : Fin 128 → EReal} {g g' o o' : EReal} (hY : Y = Y') (hg : g = g') (ho : o = o') (e : Fin 128) : normOf Y g o e = normE Y' g' o' e := by
  subst hY hg ho
  rfl
theorem cut9 (t : Fin cfg0.N) (x : Vec Ideal S256x256 .bf16) (y : S256x256.Idx) : (cfg0.win 9).cut (grid0.coords t) x y = x y := rfl
theorem cut10 (t : Fin cfg0.N) (x : Vec Ideal S1x1x2x2x128x128 .f32) (y : S1x1x2x2x128x128.Idx) : (cfg0.win 10).cut (grid0.coords t) x y = x y := rfl

variable {m c} (hF : Finite (Rk m c) (Lk m c))

include hF in
theorem ker_out (s : Fin 32) (p : Fin 4) (a hh : Fin 2) (t e : Fin 128) :
    ((dats m 0 c).arrAt 9 cfg0.N : FVec Ideal S12288x1024 .bf16) (ix2 (rw s (row a t)) (ch (hd p hh) e))
      = outE (Zk m c) (Rk m c) (Lk m c) (Gk m c) s (row a t) (hd p hh) e := by
  refine (congrArg (fun i => (dats m 0 c).arrAt 9 cfg0.N i) (emb9 s p a hh t e).symm).trans ?_
  refine (congrFun (Cert.KernelIdeal.Value.blocks9 m c (pt s p) (fl9 _)) (ix2 (row a t) (row hh e))).trans ?_
  refine (congrFun (Cert.KernelIdeal.Value.flushed9_A m c (pt s p)) (ix2 (row a t) (row hh e))).trans ?_
  refine (cut9 _ _ _).trans ?_
  refine (out9_ap (i := grid0.coords (pt s p)) (hh := hh) (a := a) (t := t) (e := e) ..).trans ?_
  unfold outE
  refine norm_congr (funext fun e => ?_) (b6 m c (pt s p) e) (b4 m c s p a hh t e) e
  unfold yM
  refine congrArg₂ (· + ·) ?_ ?_
  · exact OF_re hF s p (b0 m c s p) (b3 m c s p) (b5 m c s p) hh (b1 m c s p) (fun i t r => (b7 m c _ _ _ _).trans (aAll_0 i t r)) (fun i t r => (b8 m c _ _ _ _ _).trans (mAll_0 i t r)) a t e
  · exact OB_re hF s p (b0 m c s p) (b3 m c s p) (b5 m c s p) hh (b2 m c s p) (fun i t r => (b7 m c _ _ _ _).trans (aAll_1 i t r)) (fun i t r => (b8 m c _ _ _ _ _).trans (mAll_1 i t r)) a t e

include hF in
theorem ker_state (s : Fin 32) (p : Fin 4) (d hh : Fin 2) (dd e : Fin 128) :
    ((dats m 0 c).arrAt 10 cfg0.N : FVec Ideal S32x1x2x8x128x128 .f32) (ix6 s (0 : Fin 1) d (hd p hh) dd e)
      = (sM (Zk m c) (Rk m c) (Lk m c) d s (hd p hh) dd.val e.val : EReal) := by
  refine (congrArg (fun i => (dats m 0 c).arrAt 10 cfg0.N i) (emb10 s p d hh dd e).symm).trans ?_
  refine (congrFun (Cert.KernelIdeal.Value.blocks10 m c (pt s p) (fl10 _)) (ix6 (0 : Fin 1) (0 : Fin 1) d hh dd e)).trans ?_
  refine (congrFun (Cert.KernelIdeal.Value.flushed10_A m c (pt s p)) (ix6 (0 : Fin 1) (0 : Fin 1) d hh dd e)).trans ?_
  refine (cut10 _ _ _).trans ?_
  refine (out10_ap (i := grid0.coords (pt s p)) (d := d) (hh := hh) (dd := dd) (e := e) ..).trans ?_
  match d with
  | 0 => exact st2_f hF s p (b3 m c s p) (b5 m c s p) hh (b1 m c s p) (fun i t r => (b7 m c _ _ _ _).trans (aAll_0 i t r)) e dd
  | 1 => exact st2_b hF s p (b3 m c s p) (b5 m c s p) hh (b2 m c s p) (fun i t r => (b7 m c _ _ _ _).trans (aAll_1 i t r)) e dd

/-- The rows past the sequences stay zero. -/
theorem ker_rest (r : Fin 12288) (j : Fin 1024) (hr : 8192 ≤ r.val) :
    ((dats m 0 c).arrAt 9 cfg0.N : FVec Ideal S12288x1024 .bf16) (ix2 r j) = (0 : EReal) := by
  refine (Cert.KernelIdeal.Value.entry9 m c (ix2 r j) (fun t _ hm => ?_)).trans ?_
  · obtain ⟨y, _, hy⟩ := Finset.mem_map.mp hm
    have h0 := congrArg (fun i : S12288x1024.Idx => (i 0).val) hy
    have h := idxA t
    have ht : t.val < 128 := t.isLt
    have hy0 : (y 0).val < 256 := (y 0).isLt
    have h1 : win0_9.index t (0 : Fin 2) * 256 + 1 * (y 0).val = r.val := h0
    omega
  · refine (congrFun (V_Z m c) (ix2 r j)).trans ?_
    refine (broadcastInDim_apply _ _ _ _ ix0 (fun a => a.elim0)).trans ?_
    show Ideal.ofBits .bf16 0x0000#16 = 0
    simp [Ideal.ofBits, Ideal.ieee]

end Cert.Hgrn.Ker

end
-- ==== Proof.RefArrays.lean ====
module

public import proofs.«01_k».proof.Proof.Gen.ReferenceIdeal.Run
public import Idealize.ShloMosaic.Lib.IdealHost

@[expose] public section

set_option maxRecDepth 16384

noncomputable section

namespace Cert.Hgrn.Ref

open Idealize.ShloMosaic Idealize.ShloMosaic.TcCoe Idealize.ShloMosaic.StableHlo
open Cert.ReferenceIdeal Cert.ReferenceIdeal.Gen Cert.ReferenceIdeal.Value

/-! ## The reference's arrays before its loop, of the arguments -/

/-- A scalar constant, broadcast. -/
abbrev sc (t : Shape) (h : S_.BroadcastsInDim t ![]) (w : BitVec 32) : FVec Ideal t .f32 := broadcastInDim t ![] h (constant S_ .f32 w)
/-- A row of channels, repeated over sequences and positions. -/
abbrev rowB (a : FVec Ideal S1024 .f32) : FVec Ideal S32x256x1024 .f32 :=
  broadcastInDim S32x256x1024 ![0, 1, 2] bcast_S1x1x1024_S32x256x1024_0_1_2 (broadcastInDim S1x1x1024 ![2] bcast_S1024_S1x1x1024_2 a)
/-- A pair of rows of channels, repeated over the layers. -/
abbrev layB (a : FVec Ideal S2x1024 .f32) : FVec Ideal S2x2x1024 .f32 :=
  broadcastInDim S2x2x1024 ![0, 1, 2] bcast_S1x2x1024_S2x2x1024_0_1_2 (broadcastInDim S1x2x1024 ![1, 2] bcast_S2x1024_S1x2x1024_1_2 a)
/-- The exponentials of the logits, less the layers' greatest. -/
def eA (x2 : FVec Ideal S2x2x1024 .f32) : FVec Ideal S2x2x1024 .f32 :=
  Host.exp (subf x2 (layB (maximumf (sc S2x1024 bcast_S_S2x1024 0xFF800000#32)
    (Host.reduce FloatOps.maximumf x2 (constant S_ .f32 0xFF800000#32) reducesTo_S2x2x1024_S2x1024_d0 h_S_))))
/-- The first layer's lower bounds. -/
def lbA (x2 : FVec Ideal S2x2x1024 .f32) : FVec Ideal S2x1024 .f32 :=
  shapeCast S2x1024 (extractStridedSlice S1x2x1024 ![0, 0, 0]
    (Host.reduceWindowAdd ![2, 1, 1] ![1, 1, 1] ![1, 0, 0] ![0, 0, 0]
      (Host.divf (eA x2) (layB (Host.reduceAdd (eA x2) (constant S_ .f32 0x00000000#32) reducesTo_S2x2x1024_S2x1024_d0 h_S_)))
      (broadcastInDim S_ ![] bcast_S_S_ (constant S_ .f32 0x00000000#32))
      reduceWindows_S2x2x1024_S2x2x1024_w2s1p1_0_w1s1p0_0_w1s1p0_0 h_S_)
    slices_S2x2x1024_S1x2x1024_0_0_0) shapeCasts_S1x2x1024_S2x1024
/-- The lower bounds of one direction. -/
def lb0 (x2 : FVec Ideal S2x2x1024 .f32) : FVec Ideal S1024 .f32 :=
  shapeCast S1024 (extractStridedSlice S1x1024 ![0, 0] (lbA x2) slices_S2x1024_S1x1024_0_0) shapeCasts_S1x1024_S1024
def lb1 (x2 : FVec Ideal S2x2x1024 .f32) : FVec Ideal S1024 .f32 :=
  shapeCast S1024 (extractStridedSlice S1x1024 ![1, 0] (lbA x2) slices_S2x1024_S1x1024_1_0) shapeCasts_S1x1024_S1024
/-- The context's gate inputs of one direction. -/
def z0 (x0 : FVec Ideal S12288x2048 .f32) : FVec Ideal S32x256x1024 .f32 :=
  shapeCast S32x256x1024 (extractStridedSlice S8192x1024 ![0, 0] x0 slices_S12288x2048_S8192x1024_0_0) shapeCasts_S8192x1024_S32x256x1024
def z1 (x0 : FVec Ideal S12288x2048 .f32) : FVec Ideal S32x256x1024 .f32 :=
  shapeCast S32x256x1024 (extractStridedSlice S8192x1024 ![0, 1024] x0 slices_S12288x2048_S8192x1024_0_1024) shapeCasts_S8192x1024_S32x256x1024
/-- The context's query and value inputs. -/
def qA (x1 : FVec Ideal S12288x7168 .bf16) : FVec Ideal S32x256x1024 .f32 :=
  shapeCast S32x256x1024 (extf .f32 (extractStridedSlice S8192x1024 ![0, 0] x1 slices_S12288x7168_S8192x1024_0_0) bitsLt_bf16_f32) shapeCasts_S8192x1024_S32x256x1024
def vA (x1 : FVec Ideal S12288x7168 .bf16) : FVec Ideal S32x256x1024 .f32 :=
  shapeCast S32x256x1024 (extf .f32 (extractStridedSlice S8192x1024 ![0, 1024] x1 slices_S12288x7168_S8192x1024_0_1024) bitsLt_bf16_f32) shapeCasts_S8192x1024_S32x256x1024
abbrev one3 : FVec Ideal S32x256x1024 .f32 := sc S32x256x1024 bcast_S_S32x256x1024 0x3F800000#32
abbrev zero3 : FVec Ideal S32x256x1024 .f32 := sc S32x256x1024 bcast_S_S32x256x1024 0x00000000#32
/-- The sigmoid. -/
def sigA (z : FVec Ideal S32x256x1024 .f32) : FVec Ideal S32x256x1024 .f32 := Host.divf one3 (addf one3 (Host.exp (Host.negf z)))
/-- The logarithm of a sum of exponentials. -/
def laeA (x y : FVec Ideal S32x256x1024 .f32) : FVec Ideal S32x256x1024 .f32 :=
  select (cmpf .une (subf x y) (subf x y)) (addf x y) (addf (maximumf x y) (Host.log1p (Host.exp (Host.negf (Host.absf (subf x y))))))
/-- The logarithm of the forget gate. -/
def gA (lb : FVec Ideal S1024 .f32) (z : FVec Ideal S32x256x1024 .f32) : FVec Ideal S32x256x1024 .f32 :=
  laeA (rowB (Host.log lb)) (addf (rowB (Host.log1p (Host.negf lb))) (Host.negf (laeA (Host.negf z) zero3)))
/-- The keys. -/
def kA (lb : FVec Ideal S1024 .f32) (z : FVec Ideal S32x256x1024 .f32) : FVec Ideal S32x256x1024 .f32 :=
  mulf (rowB (subf (sc S1024 bcast_S_S1024 0x3F800000#32) lb)) (sigA (Host.negf z))
/-- The channels split into heads, the heads before the positions. -/
def hd (a : FVec Ideal S32x256x1024 .f32) : FVec Ideal S32x8x256x128 .f32 :=
  transpose S32x8x256x128 [0, 2, 1, 3] (shapeCast S32x256x8x128 a shapeCasts_S32x256x1024_S32x256x8x128) transposes_S32x256x8x128_S32x8x256x128_0_2_1_3
/-- Both directions' sequences, the second's backwards, cut into chunks. -/
def both (a b : FVec Ideal S32x8x256x128 .f32) : FVec Ideal S16x64x8x16x128 .f32 :=
  transpose S16x64x8x16x128 [2, 0, 1, 3, 4] (shapeCast S64x8x16x16x128
    (concatenate S64x8x256x128 0 [⟨S32x8x256x128, a⟩, ⟨S32x8x256x128, Host.reverse [2] b⟩] concatenates_S32x8x256x128_S32x8x256x128_S64x8x256x128_d0)
    shapeCasts_S64x8x256x128_S64x8x16x16x128) transposes_S64x8x16x16x128_S16x64x8x16x128_2_0_1_3_4
/-- The positions of a chunk up to each of its positions. -/
def maskA : IVec S16x16 1 :=
  select (cmpi CmpIPredicate.sge (addi (iotaInDim S16x16 32 0) (broadcastInDim S16x16 ![] bcast_S_S16x16 (constantI S_ 32 0#32))) (iotaInDim S16x16 32 1))
    (broadcastInDim S16x16 ![] bcast_S_S16x16 (constantI S_ 1 1#1)) (broadcastInDim S16x16 ![] bcast_S_S16x16 (constantI S_ 1 0#1))
/-- The state before the first chunk. -/
def s0A : FVec Ideal S64x8x128x128 .f32 :=
  concatenate S64x8x128x128 0
    [⟨S32x8x128x128, shapeCast S32x8x128x128 (extractStridedSlice S32x1x8x128x128 ![0, 0, 0, 0, 0]
        (sc S32x2x8x128x128 bcast_S_S32x2x8x128x128 0x00000000#32) slices_S32x2x8x128x128_S32x1x8x128x128_0_0_0_0_0) shapeCasts_S32x1x8x128x128_S32x8x128x128⟩,
     ⟨S32x8x128x128, shapeCast S32x8x128x128 (extractStridedSlice S32x1x8x128x128 ![0, 1, 0, 0, 0]
        (sc S32x2x8x128x128 bcast_S_S32x2x8x128x128 0x00000000#32) slices_S32x2x8x128x128_S32x1x8x128x128_0_1_0_0_0) shapeCasts_S32x1x8x128x128_S32x8x128x128⟩]
    concatenates_S32x8x128x128_S32x8x128x128_S64x8x128x128_d0

variable (m : (ℓ : Loc nD τ sig) → Buf (Elt Ideal) ℓ) (c : Dev nD)

/-- The contents of the arguments. -/
abbrev a0 : FVec Ideal S12288x2048 .f32 := launchContents m c (Proc.devRef .tc main_arg0)
abbrev a1 : FVec Ideal S12288x7168 .bf16 := launchContents m c (Proc.devRef .tc main_arg1)
abbrev a2 : FVec Ideal S2x2x1024 .f32 := launchContents m c (Proc.devRef .tc main_arg2)
abbrev a3 : FVec Ideal S1x128 .f32 := launchContents m c (Proc.devRef .tc main_arg3)

/-- The queries the loop starts from. -/
theorem entry0 : entryContents (preI (F := Ideal)) m c (Proc.devRef .tc main_v132_0) = both (hd (mulf (qA (a1 m c)) (sigA (qA (a1 m c))))) (hd (mulf (qA (a1 m c)) (sigA (qA (a1 m c))))) := by
  simp only [entryContents, afterL_cons, afterL_nil]
  after_results
  simp only [TRef.ofBuf, TRef.toBuf, cast_eq]
  rfl

/-- The keys the loop starts from. -/
theorem entry1 : entryContents (preI (F := Ideal)) m c (Proc.devRef .tc main_v132_1) = both (hd (kA (lb0 (a2 m c)) (z0 (a0 m c)))) (hd (kA (lb1 (a2 m c)) (z1 (a0 m c)))) := by
  simp only [entryContents, afterL_cons, afterL_nil]
  after_results
  simp only [TRef.ofBuf, TRef.toBuf, cast_eq]
  rfl

/-- The log-decays the loop starts from. -/
theorem entry2 : entryContents (preI (F := Ideal)) m c (Proc.devRef .tc main_v132_2) = both (hd (gA (lb0 (a2 m c)) (z0 (a0 m c)))) (hd (gA (lb1 (a2 m c)) (z1 (a0 m c)))) := by
  simp only [entryContents, afterL_cons, afterL_nil]
  after_results
  simp only [TRef.ofBuf, TRef.toBuf, cast_eq]
  rfl

/-- The values the loop starts from. -/
theorem entry3 : entryContents (preI (F := Ideal)) m c (Proc.devRef .tc main_v132_3) = both (hd (vA (a1 m c))) (hd (vA (a1 m c))) := by
  simp only [entryContents, afterL_cons, afterL_nil]
  after_results
  simp only [TRef.ofBuf, TRef.toBuf, cast_eq]
  rfl

/-- The causal mask the loop starts from. -/
theorem entry4 : entryContents (preI (F := Ideal)) m c (Proc.devRef .tc main_v132_4) = maskA := by
  simp only [entryContents, afterL_cons, afterL_nil]
  after_results
  simp only [TRef.ofBuf, TRef.toBuf, cast_eq]
  rfl

/-- The state the loop starts from. -/
theorem entry6 : entryContents (preI (F := Ideal)) m c (Proc.devRef .tc main_v132_6) = s0A := by
  simp only [entryContents, afterL_cons, afterL_nil]
  after_results
  simp only [TRef.ofBuf, TRef.toBuf, cast_eq]
  rfl

/-- The trip count the loop starts from. -/
theorem entry5 : entryContents (preI (F := Ideal)) m c (Proc.devRef .tc main_v132_5) = constantI S_ 32 0#32 := by
  simp only [entryContents, afterL_cons, afterL_nil]
  after_results
  rfl

end Cert.Hgrn.Ref

end
-- ==== Proof.RefCells.lean ====
module

public import proofs.«01_k».proof.Proof.RefArrays
public import proofs.«01_k».proof.Proof.Model
public import Idealize.ShloMosaic.Lib.KernelVsHost

@[expose] public section

set_option maxRecDepth 16384

noncomputable section

namespace Cert.Hgrn.Ref

open Idealize.ShloMosaic Idealize.ShloMosaic.TcCoe Idealize.ShloMosaic.StableHlo Idealize.ShloMosaic.ValueIdx
open Cert.ReferenceIdeal Cert.ReferenceIdeal.Gen Cert.ReferenceIdeal.Value
open scoped BigOperators

/-! ## Indices: sequence, head, position and channel -/

/-- Position `t` of chunk `n`. -/
abbrev tm (n t : Fin 16) : Fin 256 := ⟨16 * n.val + t.val, by omega⟩
/-- Sequence `b` of direction `o`. -/
abbrev bd (o : Fin 2) (b : Fin 32) : Fin 64 := ⟨32 * o.val + b.val, by omega⟩
/-! ## The arrays before the loop, at an index -/

theorem sc_ap (t : Shape) (h : S_.BroadcastsInDim t ![]) (w : BitVec 32) (i : t.Idx) : sc t h w i = Ideal.ofBits .f32 w :=
  broadcastInDim_apply (s := S_) _ h _ i (fun a => a.elim0) (fun a => a.elim0)

theorem one3_ap (i : S32x256x1024.Idx) : one3 i = 1 := (sc_ap _ _ _ i).trans Ideal.ofBits_one_f32
theorem zero3_ap (i : S32x256x1024.Idx) : zero3 i = 0 := (sc_ap _ _ _ i).trans Ideal.ofBits_zero_f32

theorem hd_ap (a : FVec Ideal S32x256x1024 .f32) (b : Fin 32) (h : Fin 8) (t : Fin 256) (d : Fin 128) :
    hd a (ix4 b h t d) = a (ix3 b t (ch h d)) := by
  unfold hd
  refine (transpose_apply _ _ _ _ (ix4 b t h d) (fun a => ?_)).trans (shapeCast_apply _ _ _ _ ?_)
  · match a with
    | ⟨0, _⟩ => rfl
    | ⟨1, _⟩ => rfl
    | ⟨2, _⟩ => rfl
    | ⟨3, _⟩ => rfl
  · rw [Shape.rowMajor_val_three, Shape.rowMajor_val_four]
    show (b.val * 256 + t.val) * 1024 + (128 * h.val + d.val) = ((b.val * 256 + t.val) * 8 + h.val) * 128 + d.val
    omega

theorem cut_ap (x : FVec Ideal S64x8x256x128 .f32) (n : Fin 16) (b : Fin 64) (h : Fin 8) (t : Fin 16) (d : Fin 128) :
    transpose S16x64x8x16x128 [2, 0, 1, 3, 4] (shapeCast S64x8x16x16x128 x shapeCasts_S64x8x256x128_S64x8x16x16x128)
      transposes_S64x8x16x16x128_S16x64x8x16x128_2_0_1_3_4 (ix5 n b h t d) = x (ix4 b h (tm n t) d) := by
  refine (transpose_apply _ _ _ _ (ix5 b h n t d) (fun a => ?_)).trans (shapeCast_apply _ _ _ _ ?_)
  · match a with
    | ⟨0, _⟩ => rfl
    | ⟨1, _⟩ => rfl
    | ⟨2, _⟩ => rfl
    | ⟨3, _⟩ => rfl
    | ⟨4, _⟩ => rfl
  · rw [Shape.rowMajor_val_five, Shape.rowMajor_val_four]
    show ((b.val * 8 + h.val) * 256 + (16 * n.val + t.val)) * 128 + d.val
      = (((b.val * 8 + h.val) * 16 + n.val) * 16 + t.val) * 128 + d.val
    omega

theorem both_ap0 (x y : FVec Ideal S32x8x256x128 .f32) (n : Fin 16) (b : Fin 32) (h : Fin 8) (t : Fin 16) (d : Fin 128) :
    both x y (ix5 n (bd 0 b) h t d) = x (ix4 b h (tm n t) d) :=
  (cut_ap _ n (bd 0 b) h t d).trans (concatenate_pair_apply_left (s₁ := S32x8x256x128) (s₂ := S32x8x256x128) (t := S64x8x256x128) 0 x (Host.reverse [2] y) _ _ rfl (ix4 b h (tm n t) d) (fun a => by
    match a with
    | ⟨0, _⟩ => show b.val = 32 * 0 + b.val; omega
    | ⟨1, _⟩ => rfl
    | ⟨2, _⟩ => rfl
    | ⟨3, _⟩ => rfl))

theorem both_ap1 (x y : FVec Ideal S32x8x256x128 .f32) (n : Fin 16) (b : Fin 32) (h : Fin 8) (t : Fin 16) (d : Fin 128) :
    both x y (ix5 n (bd 1 b) h t d) = y (ix4 b h (Fin.rev (tm n t)) d) := by
  refine (cut_ap _ n (bd 1 b) h t d).trans ((concatenate_pair_apply_right (s₁ := S32x8x256x128) (s₂ := S32x8x256x128) (t := S64x8x256x128) 0 x (Host.reverse [2] y) _ _ rfl rfl (ix4 b h (tm n t) d) (fun a ha => ?_) ?_).trans ?_)
  · match a with
    | ⟨0, _⟩ => exact absurd rfl ha
    | ⟨1, _⟩ => rfl
    | ⟨2, _⟩ => rfl
    | ⟨3, _⟩ => rfl
  · show b.val + 32 = 32 * 1 + b.val; omega
  · unfold Host.reverse
    refine congrArg y (funext fun a => Fin.ext ?_)
    match a with
    | ⟨0, _⟩ => rfl
    | ⟨1, _⟩ => rfl
    | ⟨2, _⟩ => rfl
    | ⟨3, _⟩ => rfl

theorem seq_ap (y : FVec Ideal S8192x1024 .f32) (b : Fin 32) (t : Fin 256) (c : Fin 1024) :
    shapeCast S32x256x1024 y shapeCasts_S8192x1024_S32x256x1024 (ix3 b t c) = y (ix2 (⟨256 * b.val + t.val, by omega⟩ : Fin 8192) c) :=
  shapeCast_apply _ _ _ _ (by
    rw [Shape.rowMajor_val_three, Shape.rowMajor_val_two]
    show (256 * b.val + t.val) * 1024 + c.val = (b.val * 256 + t.val) * 1024 + c.val
    omega)

theorem z0_ap (x : FVec Ideal S12288x2048 .f32) (b : Fin 32) (t : Fin 256) (c : Fin 1024) :
    z0 x (ix3 b t c) = x (ix2 (rw b t) (gc 0 c)) := by
  unfold z0
  refine (seq_ap _ b t c).trans (extractStridedSlice_apply _ _ _ _ _ (fun a => ?_))
  match a with
  | ⟨0, _⟩ => show 256 * b.val + t.val = 0 + (256 * b.val + t.val); omega
  | ⟨1, _⟩ => show 1024 * 0 + c.val = 0 + c.val; omega

theorem z1_ap (x : FVec Ideal S12288x2048 .f32) (b : Fin 32) (t : Fin 256) (c : Fin 1024) :
    z1 x (ix3 b t c) = x (ix2 (rw b t) (gc 1 c)) := by
  unfold z1
  refine (seq_ap _ b t c).trans (extractStridedSlice_apply _ _ _ _ _ (fun a => ?_))
  match a with
  | ⟨0, _⟩ => show 256 * b.val + t.val = 0 + (256 * b.val + t.val); omega
  | ⟨1, _⟩ => show 1024 * 1 + c.val = 1024 + c.val; omega

/-- A part of the other projections, cut into sequences. -/
theorem part_ap (o : Fin 7) (off : ℕ) (ho : off = 1024 * o.val) (x : FVec Ideal S12288x7168 .bf16) (hs : S12288x7168.Slices ![0, off] S8192x1024)
    (b : Fin 32) (t : Fin 256) (c : Fin 1024) :
    shapeCast S32x256x1024 (extf .f32 (extractStridedSlice S8192x1024 ![0, off] x hs) bitsLt_bf16_f32) shapeCasts_S8192x1024_S32x256x1024 (ix3 b t c)
      = x (ix2 (rw b t) (rc o c)) := by
  refine (seq_ap _ b t c).trans (extractStridedSlice_apply (s := S12288x7168) (t := S8192x1024) ![0, off] x hs _ _ (fun a => ?_))
  match a with
  | ⟨0, _⟩ => show 256 * b.val + t.val = 0 + (256 * b.val + t.val); omega
  | ⟨1, _⟩ => show 1024 * o.val + c.val = off + c.val; omega

theorem qA_ap (x : FVec Ideal S12288x7168 .bf16) (b : Fin 32) (t : Fin 256) (c : Fin 1024) :
    qA x (ix3 b t c) = x (ix2 (rw b t) (rc 0 c)) := part_ap 0 0 rfl x _ b t c
theorem vA_ap (x : FVec Ideal S12288x7168 .bf16) (b : Fin 32) (t : Fin 256) (c : Fin 1024) :
    vA x (ix3 b t c) = x (ix2 (rw b t) (rc 1 c)) := part_ap 1 1024 rfl x _ b t c

theorem rowB_ap (a : FVec Ideal S1024 .f32) (b : Fin 32) (t : Fin 256) (c : Fin 1024) : rowB a (ix3 b t c) = a (ix1 c) := by
  refine (broadcastInDim_apply _ _ _ _ (ix3 (0 : Fin 1) (0 : Fin 1) c) (fun a => ?_)).trans (broadcastInDim_apply _ _ _ _ _ (fun a => ?_))
  · match a with
    | ⟨0, _⟩ => rfl
    | ⟨1, _⟩ => rfl
    | ⟨2, _⟩ => rfl
  · match a with
    | ⟨0, _⟩ => rfl

theorem layB_ap (a : FVec Ideal S2x1024 .f32) (l d : Fin 2) (c : Fin 1024) : layB a (ix3 l d c) = a (ix2 d c) := by
  refine (broadcastInDim_apply _ _ _ _ (ix3 (0 : Fin 1) d c) (fun a => ?_)).trans (broadcastInDim_apply _ _ _ _ _ (fun a => ?_))
  · match a with
    | ⟨0, _⟩ => rfl
    | ⟨1, _⟩ => rfl
    | ⟨2, _⟩ => rfl
  · match a with
    | ⟨0, _⟩ => rfl
    | ⟨1, _⟩ => rfl

/-! ## The gates -/

theorem sigA_ap (z : FVec Ideal S32x256x1024 .f32) (i : S32x256x1024.Idx) : sigA z i = sgm (z i) := by
  unfold sigA sgm
  show Ideal.div (one3 i) (one3 i + Ideal.exp (-(z i))) = _
  rw [one3_ap, zsub]

/-- The queries. -/
theorem qry_ap (x : FVec Ideal S12288x7168 .bf16) (b : Fin 32) (t : Fin 256) (c : Fin 1024) :
    mulf (qA x) (sigA (qA x)) (ix3 b t c) = qOf (x (ix2 (rw b t) (rc 0 c))) := by
  show qA x (ix3 b t c) * sigA (qA x) (ix3 b t c) = _
  rw [sigA_ap, qA_ap]
  rfl

theorem kA_ap (lb : FVec Ideal S1024 .f32) (z : FVec Ideal S32x256x1024 .f32) (b : Fin 32) (t : Fin 256) (c : Fin 1024) :
    kA lb z (ix3 b t c) = kOf (lb (ix1 c)) (z (ix3 b t c)) := by
  unfold kA kOf
  show rowB _ (ix3 b t c) * sigA _ (ix3 b t c) = _
  rw [rowB_ap, sigA_ap]
  show (sc S1024 bcast_S_S1024 0x3F800000#32 (ix1 c) - lb (ix1 c)) * sgm (-(z (ix3 b t c))) = _
  rw [sc_ap, Ideal.ofBits_one_f32, zsub]

theorem laeA_ap (x y : FVec Ideal S32x256x1024 .f32) (i : S32x256x1024.Idx) : laeA x y i = laeE (x i) (y i) := by
  unfold laeA laeE
  show (if Ideal.cmp .une (x i - y i) (x i - y i) = 1#1 then x i + y i
    else max (x i) (y i) + Ideal.log (1 + Ideal.exp (-(max (x i - y i) (-(x i - y i)))))) = _
  have h : ∀ a : EReal, Ideal.cmp .une a a = 0#1 := fun a => by
    show BitVec.ofBool (decide (a ≠ a)) = 0#1
    simp
  rw [h]
  rfl

theorem gA_ap (lb : FVec Ideal S1024 .f32) (z : FVec Ideal S32x256x1024 .f32) (b : Fin 32) (t : Fin 256) (c : Fin 1024) :
    gA lb z (ix3 b t c) = refLog (lb (ix1 c)) (z (ix3 b t c)) := by
  unfold gA refLog
  rw [laeA_ap]
  show laeE (rowB _ (ix3 b t c)) (rowB _ (ix3 b t c) + -(laeA _ _ (ix3 b t c))) = _
  rw [laeA_ap, rowB_ap, rowB_ap, zero3_ap]
  rfl

/-! ## The lower bounds -/

theorem neg_inf : Ideal.ofBits .f32 0xFF800000#32 = ⊥ := by
  simp [Ideal.ofBits, Ideal.ieee]

theorem red_ok : S2x2x1024.Reduces [0] S2x1024 := by decide

theorem lift_layer (h : S2x2x1024.Reduces [0] S2x1024) (d : Fin 2) (c : Fin 1024) (k : Fin 2) : h.lift (ix2 d c) k = ix3 k d c := by
  funext a; apply Fin.ext
  match a with
  | ⟨0, _⟩ => rfl
  | ⟨1, _⟩ => rfl
  | ⟨2, _⟩ => rfl

theorem max_ap (x : FVec Ideal S2x2x1024 .f32) (d : Fin 2) (c : Fin 1024) :
    Host.reduce FloatOps.maximumf x (constant S_ .f32 0xFF800000#32) reducesTo_S2x2x1024_S2x1024_d0 h_S_ (ix2 d c)
      = max (x (ix3 0 d c)) (x (ix3 1 d c)) := by
  refine (congrFun (hostReduce_maximumf_eq_multiReduction x 0xFF800000#32 _ _ red_ok (.inl rfl) rfl) _).trans ?_
  refine (Ideal.multiReduction_maximumf_single x _ _ _ _ (ix2 d c)).trans ?_
  have hf : ∀ f : Fin 2 → EReal, (Finset.univ : Finset (Fin 2)).fold max ⊥ f = max (f 0) (f 1) := fun f => by
    have hu : (Finset.univ : Finset (Fin 2)) = {0, 1} := rfl
    rw [hu, Finset.fold_insert (by decide), Finset.fold_singleton, max_bot_right]
  refine (congrArg (fun z => Finset.fold max z (x ∘ red_ok.lift (ix2 d c)) Finset.univ) neg_inf).trans ((hf _).trans ?_)
  show max (x (red_ok.lift (ix2 d c) (0 : Fin 2))) (x (red_ok.lift (ix2 d c) (1 : Fin 2))) = _
  rw [lift_layer, lift_layer]

theorem eA_ap (x : FVec Ideal S2x2x1024 .f32) (l d : Fin 2) (c : Fin 1024) :
    eA x (ix3 l d c) = Ideal.exp (x (ix3 l d c) - max (x (ix3 0 d c)) (x (ix3 1 d c))) := by
  unfold eA
  show Ideal.exp (x (ix3 l d c) - layB _ (ix3 l d c)) = _
  rw [layB_ap]
  show Ideal.exp (x (ix3 l d c) - max (sc S2x1024 bcast_S_S2x1024 0xFF800000#32 (ix2 d c)) (Host.reduce _ _ _ _ _ (ix2 d c))) = _
  rw [sc_ap, neg_inf, max_ap, max_bot_left]

theorem sum_ap (y : FVec Ideal S2x2x1024 .f32) (d : Fin 2) (c : Fin 1024) :
    Host.reduceAdd y (constant S_ .f32 0x00000000#32) reducesTo_S2x2x1024_S2x1024_d0 h_S_ (ix2 d c) = y (ix3 0 d c) + y (ix3 1 d c) := by
  refine (Ideal.hostReduceAdd_single _ red_ok y _ (ix2 d c)).trans ?_
  show Ideal.ofBits .f32 0x00000000#32 + ∑ k : Fin 2, _ = _
  rw [Ideal.ofBits_zero_f32, zero_add, Fin.sum_univ_two, lift_layer, lift_layer]

theorem foldl_sum {n : ℕ} (f : Fin n → EReal) (v : EReal) : (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; simp only [List.foldl_cons, ih, List.map_cons, List.sum_cons, add_assoc]
  rw [h, Fin.sum_univ_def]

section Window
variable {s t u : Shape} (w st lo hi : Fin s.rank → ℕ) (x : FVec Ideal s .f32) (h : s.ReduceWindows w st lo hi t) (j : t.Idx)

/-- One position of a window: the array's element there, or the initial value in the padding. -/
def wterm (v : EReal) (i : Shape.Idx ⟨s.rank, w⟩) : EReal :=
  if hin : ∀ a, lo a ≤ (j (a.cast h.1.symm)).val * st a + (i a).val ∧ (j (a.cast h.1.symm)).val * st a + (i a).val - lo a < s.size a
    then x (fun a => ⟨(j (a.cast h.1.symm)).val * st a + (i a).val - lo a, (hin a).2⟩) else v

theorem wterm_in (v : EReal) (i : Shape.Idx ⟨s.rank, w⟩) (k : s.Idx)
    (hk : ∀ a, (k a).val + lo a = (j (a.cast h.1.symm)).val * st a + (i a).val) : wterm w st lo hi x h j v i = x k := by
  have e : ∀ a, (j (a.cast h.1.symm)).val * st a + (i a).val - lo a = (k a).val := fun a => by rw [← hk a]; omega
  have hin : ∀ a, lo a ≤ (j (a.cast h.1.symm)).val * st a + (i a).val ∧ (j (a.cast h.1.symm)).val * st a + (i a).val - lo a < s.size a :=
    fun a => ⟨by rw [← hk a]; omega, by rw [e]; exact (k a).isLt⟩
  unfold wterm
  rw [dif_pos hin]
  exact congrArg x (funext fun a => Fin.ext (e a))

theorem wterm_out (v : EReal) (i : Shape.Idx ⟨s.rank, w⟩) (a : Fin s.rank)
    (ha : (j (a.cast h.1.symm)).val * st a + (i a).val < lo a) : wterm w st lo hi x h j v i = v := by
  unfold wterm
  rw [dif_neg]
  intro hh
  have := (hh a).1
  omega

/-- A window's sum, over the window's positions. -/
theorem window_ap (init : FVec Ideal u .f32) (hu : 0 < u.numel) :
    Host.reduceWindowAdd w st lo hi x init h hu j
      = init (Shape.Idx.first hu) + ∑ i, wterm w st lo hi x h j (init (Shape.Idx.first hu)) i := by
  refine Eq.trans (foldl_sum (n := Shape.numel ⟨s.rank, w⟩) _ _) ?_
  refine congrArg _ ((Finset.sum_congr rfl fun n _ => ?_).trans
    (Equiv.sum_comp (Shape.rowMajor ⟨s.rank, w⟩).symm (wterm w st lo hi x h j (init (Shape.Idx.first hu)))))
  unfold wterm
  by_cases hin : ∀ a, lo a ≤ (j (a.cast h.1.symm)).val * st a + (((Shape.rowMajor ⟨s.rank, w⟩).symm n) a).val
      ∧ (j (a.cast h.1.symm)).val * st a + (((Shape.rowMajor ⟨s.rank, w⟩).symm n) a).val - lo a < s.size a
  · rw [dif_pos hin]
    refine Eq.symm ?_
    exact dif_pos hin
  · rw [dif_neg hin]
    refine Eq.symm ?_
    exact dif_neg hin

end Window

/-- The positions of a window along the first of three axes. -/
def win2 : Fin 2 ≃ Shape.Idx ⟨3, ![2, 1, 1]⟩ where
  toFun n := ix3 n 0 0
  invFun i := i 0
  left_inv _ := rfl
  right_inv i := by
    funext a
    match a with
    | ⟨0, _⟩ => rfl
    | ⟨1, _⟩ => exact Subsingleton.elim (α := Fin 1) _ _
    | ⟨2, _⟩ => exact Subsingleton.elim (α := Fin 1) _ _

/-- The positions of a window along the third of four axes. -/
def win16 : Fin 16 ≃ Shape.Idx ⟨4, ![1, 1, 16, 1]⟩ where
  toFun n := ix4 0 0 n 0
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

theorem zero_ap : (broadcastInDim S_ ![] bcast_S_S_ (constant S_ .f32 0x00000000#32) : FVec Ideal S_ .f32) (Shape.Idx.first h_S_) = 0 :=
  (sc_ap _ _ _ _).trans Ideal.ofBits_zero_f32

/-- The running sum's first entry is the array's. -/
theorem first_ap (y : FVec Ideal S2x2x1024 .f32) (d : Fin 2) (c : Fin 1024) :
    Host.reduceWindowAdd ![2, 1, 1] ![1, 1, 1] ![1, 0, 0] ![0, 0, 0] y
      (broadcastInDim S_ ![] bcast_S_S_ (constant S_ .f32 0x00000000#32))
      reduceWindows_S2x2x1024_S2x2x1024_w2s1p1_0_w1s1p0_0_w1s1p0_0 h_S_ (ix3 (0 : Fin 2) d c) = y (ix3 0 d c) := by
  refine (window_ap _ _ _ _ _ _ _ _ _).trans ?_
  rw [zero_ap, zero_add]
  refine (Equiv.sum_comp win2 _).symm.trans ?_
  rw [Fin.sum_univ_two]
  refine (congrArg₂ (· + ·) (wterm_out _ _ _ _ _ _ _ _ _ (0 : Fin 3) (by show 0 * 1 + 0 < 1; omega))
    (wterm_in _ _ _ _ _ _ _ _ _ (ix3 (0 : Fin 2) d c) (fun a => ?_))).trans (zero_add _)
  match a with
  | ⟨0, _⟩ => rfl
  | ⟨1, _⟩ => show d.val + 0 = d.val * 1 + 0; omega
  | ⟨2, _⟩ => show c.val + 0 = c.val * 1 + 0; omega

theorem cum_sum (f : Fin 16 → EReal) (t : Fin 16) :
    (∑ n : Fin 16, if hn : 15 ≤ t.val + n.val then f ⟨t.val + n.val - 15, by omega⟩ else 0) = ∑ r : Fin 16, if r ≤ t then f r else 0 := by
  rw [← Finset.sum_filter]
  have h : (∑ n : Fin 16, if hn : 15 ≤ t.val + n.val then f ⟨t.val + n.val - 15, by omega⟩ else 0)
      = ∑ n ∈ Finset.univ.filter (fun n : Fin 16 => 15 ≤ t.val + n.val), f ⟨t.val + n.val - 15, by omega⟩ := by
    rw [Finset.sum_filter]
    refine Finset.sum_congr rfl fun n _ => ?_
    split <;> rfl
  rw [h]
  refine Finset.sum_bij' (fun n _ => (⟨t.val + n.val - 15, by omega⟩ : Fin 16)) (fun r _ => (⟨(r.val + 15 - t.val) % 16, Nat.mod_lt _ (by omega)⟩ : Fin 16)) ?_ ?_ ?_ ?_ ?_
  · intro n hn
    simp only [Finset.mem_filter, Finset.mem_univ, true_and, Fin.le_def] at hn ⊢
    omega
  · intro r hr
    simp only [Finset.mem_filter, Finset.mem_univ, true_and, Fin.le_def] at hr ⊢
    omega
  · intro n hn
    simp only [Finset.mem_filter, Finset.mem_univ, true_and] at hn
    apply Fin.ext
    show (t.val + n.val - 15 + 15 - t.val) % 16 = n.val
    omega
  · intro r hr
    simp only [Finset.mem_filter, Finset.mem_univ, true_and, Fin.le_def] at hr
    apply Fin.ext
    show t.val + (r.val + 15 - t.val) % 16 - 15 = r.val
    omega
  · intro n hn
    rfl

/-- The running sum over a chunk. -/
theorem cumsum_ap (y : FVec Ideal S64x8x16x128 .f32) (hw : S64x8x16x128.ReduceWindows ![1, 1, 16, 1] ![1, 1, 1, 1] ![0, 0, 15, 0] ![0, 0, 0, 0] S64x8x16x128)
    (b : Fin 64) (h : Fin 8) (t : Fin 16) (d : Fin 128) :
    Host.reduceWindowAdd ![1, 1, 16, 1] ![1, 1, 1, 1] ![0, 0, 15, 0] ![0, 0, 0, 0] y
      (broadcastInDim S_ ![] bcast_S_S_ (constant S_ .f32 0x00000000#32)) hw h_S_ (ix4 b h t d)
      = ∑ r : Fin 16, if r ≤ t then y (ix4 b h r d) else 0 := by
  refine (window_ap _ _ _ _ _ _ _ _ _).trans ?_
  rw [zero_ap, zero_add]
  refine (Equiv.sum_comp win16 _).symm.trans ?_
  have e1 : ∀ n : Fin 16, wterm (s := S64x8x16x128) (t := S64x8x16x128) ![1, 1, 16, 1] ![1, 1, 1, 1] ![0, 0, 15, 0] ![0, 0, 0, 0] y hw (ix4 b h t d) 0 (win16 n)
      = if hn : 15 ≤ t.val + n.val then y (ix4 b h ⟨t.val + n.val - 15, by omega⟩ d) else 0 := by
    intro n
    split
    · rename_i hn
      refine wterm_in _ _ _ _ _ _ _ _ _ (ix4 b h (⟨t.val + n.val - 15, by omega⟩ : Fin 16) d) (fun a => ?_)
      match a with
      | ⟨0, _⟩ => show b.val + 0 = b.val * 1 + 0; omega
      | ⟨1, _⟩ => show h.val + 0 = h.val * 1 + 0; omega
      | ⟨2, _⟩ => show t.val + n.val - 15 + 15 = t.val * 1 + n.val; omega
      | ⟨3, _⟩ => show d.val + 0 = d.val * 1 + 0; omega
    · refine wterm_out _ _ _ _ _ _ _ _ _ (2 : Fin 4) ?_
      show t.val * 1 + n.val < 15
      omega
  refine (Finset.sum_congr rfl fun n _ => e1 n).trans ?_
  exact cum_sum (fun r => y (ix4 b h r d)) t

theorem lbA_ap (x : FVec Ideal S2x2x1024 .f32) (d : Fin 2) (c : Fin 1024) :
    lbA x (ix2 d c) = lbE (x (ix3 0 d c)) (x (ix3 1 d c)) := by
  unfold lbA lbE
  refine (shapeCast_apply _ _ _ (ix3 (0 : Fin 1) d c) ?_).trans ((extractStridedSlice_apply _ _ _ _ (ix3 (0 : Fin 2) d c) (fun a => ?_)).trans ?_)
  · rw [Shape.rowMajor_val_three, Shape.rowMajor_val_two]
    show (0 * 2 + d.val) * 1024 + c.val = d.val * 1024 + c.val
    omega
  · match a with
    | ⟨0, _⟩ => rfl
    | ⟨1, _⟩ => show d.val = 0 + d.val; omega
    | ⟨2, _⟩ => show c.val = 0 + c.val; omega
  · rw [first_ap]
    show Ideal.div (eA x (ix3 0 d c)) (layB _ (ix3 0 d c)) = _
    rw [layB_ap, sum_ap, eA_ap, eA_ap]

theorem lb0_ap (x : FVec Ideal S2x2x1024 .f32) (c : Fin 1024) : lb0 x (ix1 c) = lbE (x (ix3 0 0 c)) (x (ix3 1 0 c)) := by
  unfold lb0
  refine (shapeCast_apply _ _ _ (ix2 (0 : Fin 1) c) ?_).trans ((extractStridedSlice_apply _ _ _ _ (ix2 (0 : Fin 2) c) (fun a => ?_)).trans (lbA_ap x 0 c))
  · rw [Shape.rowMajor_val_one, Shape.rowMajor_val_two]
    show 0 * 1024 + c.val = c.val
    omega
  · match a with
    | ⟨0, _⟩ => rfl
    | ⟨1, _⟩ => show c.val = 0 + c.val; omega

theorem lb1_ap (x : FVec Ideal S2x2x1024 .f32) (c : Fin 1024) : lb1 x (ix1 c) = lbE (x (ix3 0 1 c)) (x (ix3 1 1 c)) := by
  unfold lb1
  refine (shapeCast_apply _ _ _ (ix2 (0 : Fin 1) c) ?_).trans ((extractStridedSlice_apply _ _ _ _ (ix2 (1 : Fin 2) c) (fun a => ?_)).trans (lbA_ap x 1 c))
  · rw [Shape.rowMajor_val_one, Shape.rowMajor_val_two]
    show 0 * 1024 + c.val = c.val
    omega
  · match a with
    | ⟨0, _⟩ => rfl
    | ⟨1, _⟩ => show c.val = 0 + c.val; omega

/-- The state before the first chunk is zero. -/
theorem s0A_ap (i : S64x8x128x128.Idx) : s0A i = 0 := by
  have sc_all : ∀ (off : Fin 5 → ℕ) (hs : S32x2x8x128x128.Slices off S32x1x8x128x128) (j : S32x8x128x128.Idx),
      shapeCast S32x8x128x128 (extractStridedSlice S32x1x8x128x128 off
        (sc S32x2x8x128x128 bcast_S_S32x2x8x128x128 0x00000000#32) hs) shapeCasts_S32x1x8x128x128_S32x8x128x128 j = 0 := fun off hs j => by
    show Ideal.ofBits .f32 0x00000000#32 = 0
    exact Ideal.ofBits_zero_f32
  unfold s0A
  by_cases hi : (i 0).val < 32
  · refine (concatenate_pair_apply_left (s₁ := S32x8x128x128) (s₂ := S32x8x128x128) (t := S64x8x128x128) 0 (shapeCast S32x8x128x128 (extractStridedSlice S32x1x8x128x128 ![0, 0, 0, 0, 0]
        (sc S32x2x8x128x128 bcast_S_S32x2x8x128x128 0x00000000#32) slices_S32x2x8x128x128_S32x1x8x128x128_0_0_0_0_0) shapeCasts_S32x1x8x128x128_S32x8x128x128) _ _ _ rfl
      (ix4 (⟨(i 0).val, hi⟩ : Fin 32) (i 1 : Fin 8) (i 2 : Fin 128) (i 3 : Fin 128)) (fun a => ?_)).trans (sc_all _ _ _)
    match a with
    | ⟨0, _⟩ => rfl
    | ⟨1, _⟩ => rfl
    | ⟨2, _⟩ => rfl
    | ⟨3, _⟩ => rfl
  · have hb : (i 0).val < 64 := (i 0).isLt
    refine (concatenate_pair_apply_right (s₁ := S32x8x128x128) (s₂ := S32x8x128x128) (t := S64x8x128x128) 0 _ (shapeCast S32x8x128x128 (extractStridedSlice S32x1x8x128x128 ![0, 1, 0, 0, 0]
        (sc S32x2x8x128x128 bcast_S_S32x2x8x128x128 0x00000000#32) slices_S32x2x8x128x128_S32x1x8x128x128_0_1_0_0_0) shapeCasts_S32x1x8x128x128_S32x8x128x128) _ _ rfl rfl
      (ix4 (⟨(i 0).val - 32, by omega⟩ : Fin 32) (i 1 : Fin 8) (i 2 : Fin 128) (i 3 : Fin 128)) (fun a ha => ?_) ?_).trans (sc_all _ _ _)
    · match a with
      | ⟨0, _⟩ => exact absurd rfl ha
      | ⟨1, _⟩ => rfl
      | ⟨2, _⟩ => rfl
      | ⟨3, _⟩ => rfl
    · show (i 0).val - 32 + 32 = (i 0).val
      omega

/-- The mask keeps the earlier positions. -/
theorem maskA_ap (t s : Fin 16) : maskA (ix2 t s) = if s ≤ t then 1#1 else 0#1 := by
  have h : ∀ (w : ℕ) (x : IVec S_ w) (hb : S_.BroadcastsInDim S16x16 ![]) (i : S16x16.Idx), broadcastInDim S16x16 ![] hb x i = x ix0 := fun w x hb i =>
    broadcastInDim_apply (s := S_) _ hb _ i ix0 (fun a => a.elim0)
  unfold maskA
  show (if IntOp.cmpi CmpIPredicate.sge (IntOp.addi (BitVec.ofNat 32 t.val) (broadcastInDim S16x16 ![] bcast_S_S16x16 (constantI S_ 32 0#32) (ix2 t s))) (BitVec.ofNat 32 s.val) = 1#1
    then broadcastInDim S16x16 ![] bcast_S_S16x16 (constantI S_ 1 1#1) (ix2 t s) else broadcastInDim S16x16 ![] bcast_S_S16x16 (constantI S_ 1 0#1) (ix2 t s)) = _
  rw [h, h, h]
  show (if IntOp.cmpi CmpIPredicate.sge (IntOp.addi (BitVec.ofNat 32 t.val) 0#32) (BitVec.ofNat 32 s.val) = 1#1 then 1#1 else 0#1) = _
  revert t s
  decide +kernel

end Cert.Hgrn.Ref

end
-- ==== Proof.RefStep.lean ====
module

public import proofs.«01_k».proof.Proof.RefCells
public import proofs.«01_k».proof.Proof.Recurrence
public import Idealize.ShloMosaic.Lib.WordCmp

@[expose] public section

set_option maxRecDepth 16384

noncomputable section

namespace Cert.Hgrn.Ref

open Idealize.ShloMosaic Idealize.ShloMosaic.TcCoe Idealize.ShloMosaic.StableHlo Idealize.ShloMosaic.ValueIdx
open Cert.ReferenceIdeal Cert.ReferenceIdeal.Gen Cert.ReferenceIdeal.Value
open scoped BigOperators

/-! ## The three products of a step, at an index -/

theorem dotS_ap (A : FVec Ideal S64x8x16x128 .f32) (B : FVec Ideal S64x8x128x128 .f32) (b : Fin 64) (h : Fin 8) (t : Fin 16) (e : Fin 128) :
    Host.dotGeneral dot_S64x8x16x128_S64x8x128x128_S64x8x16x128_3_2_2_3_01_01 none A B (ix4 b h t e)
      = ∑ d : Fin 128, A (ix4 b h t d) * B (ix4 b h d e) := by
  show FloatOps.dotGeneral _ none _ A B (ix4 b h t e) = _
  let c := contrEquiv1 dot_S64x8x16x128_S64x8x128x128_S64x8x16x128_3_2_2_3_01_01 128 rfl rfl
  rw [Ideal.dotGeneral_apply, ← Equiv.sum_comp c.symm]
  refine Finset.sum_congr rfl fun k _ => ?_
  have hk := contrEquiv1_symm_val dot_S64x8x16x128_S64x8x128x128_S64x8x16x128_3_2_2_3_01_01 128 rfl rfl k
  have el : dot_S64x8x16x128_S64x8x128x128_S64x8x16x128_3_2_2_3_01_01.lhsIdx (ix4 b h t e) (c.symm k) = ix4 b h t k := by
    funext a; apply Fin.ext
    match a with
    | ⟨0, _⟩ => rfl
    | ⟨1, _⟩ => rfl
    | ⟨2, _⟩ => rfl
    | ⟨3, _⟩ => exact hk
  have er : dot_S64x8x16x128_S64x8x128x128_S64x8x16x128_3_2_2_3_01_01.rhsIdx (ix4 b h t e) (c.symm k) = ix4 b h k e := by
    funext a; apply Fin.ext
    match a with
    | ⟨0, _⟩ => rfl
    | ⟨1, _⟩ => rfl
    | ⟨2, _⟩ => exact hk
    | ⟨3, _⟩ => rfl
  rw [el, er]

theorem dotA_ap (A : FVec Ideal S64x8x16x16 .f32) (B : FVec Ideal S64x8x16x128 .f32) (b : Fin 64) (h : Fin 8) (t : Fin 16) (e : Fin 128) :
    Host.dotGeneral dot_S64x8x16x16_S64x8x16x128_S64x8x16x128_3_2_2_3_01_01 none A B (ix4 b h t e)
      = ∑ s : Fin 16, A (ix4 b h t s) * B (ix4 b h s e) := by
  show FloatOps.dotGeneral _ none _ A B (ix4 b h t e) = _
  let c := contrEquiv1 dot_S64x8x16x16_S64x8x16x128_S64x8x16x128_3_2_2_3_01_01 16 rfl rfl
  rw [Ideal.dotGeneral_apply, ← Equiv.sum_comp c.symm]
  refine Finset.sum_congr rfl fun k _ => ?_
  have hk := contrEquiv1_symm_val dot_S64x8x16x16_S64x8x16x128_S64x8x16x128_3_2_2_3_01_01 16 rfl rfl k
  have el : dot_S64x8x16x16_S64x8x16x128_S64x8x16x128_3_2_2_3_01_01.lhsIdx (ix4 b h t e) (c.symm k) = ix4 b h t k := by
    funext a; apply Fin.ext
    match a with
    | ⟨0, _⟩ => rfl
    | ⟨1, _⟩ => rfl
    | ⟨2, _⟩ => rfl
    | ⟨3, _⟩ => exact hk
  have er : dot_S64x8x16x16_S64x8x16x128_S64x8x16x128_3_2_2_3_01_01.rhsIdx (ix4 b h t e) (c.symm k) = ix4 b h k e := by
    funext a; apply Fin.ext
    match a with
    | ⟨0, _⟩ => rfl
    | ⟨1, _⟩ => rfl
    | ⟨2, _⟩ => exact hk
    | ⟨3, _⟩ => rfl
  rw [el, er]

theorem dotK_ap (A B : FVec Ideal S64x8x16x128 .f32) (b : Fin 64) (h : Fin 8) (d e : Fin 128) :
    Host.dotGeneral dot_S64x8x16x128_S64x8x16x128_S64x8x128x128_2_2_3_3_01_01 none A B (ix4 b h d e)
      = ∑ s : Fin 16, A (ix4 b h s d) * B (ix4 b h s e) := by
  show FloatOps.dotGeneral _ none _ A B (ix4 b h d e) = _
  let c := contrEquiv1 dot_S64x8x16x128_S64x8x16x128_S64x8x128x128_2_2_3_3_01_01 16 rfl rfl
  rw [Ideal.dotGeneral_apply, ← Equiv.sum_comp c.symm]
  refine Finset.sum_congr rfl fun k _ => ?_
  have hk := contrEquiv1_symm_val dot_S64x8x16x128_S64x8x16x128_S64x8x128x128_2_2_3_3_01_01 16 rfl rfl k
  have el : dot_S64x8x16x128_S64x8x16x128_S64x8x128x128_2_2_3_3_01_01.lhsIdx (ix4 b h d e) (c.symm k) = ix4 b h k d := by
    funext a; apply Fin.ext
    match a with
    | ⟨0, _⟩ => rfl
    | ⟨1, _⟩ => rfl
    | ⟨2, _⟩ => exact hk
    | ⟨3, _⟩ => rfl
  have er : dot_S64x8x16x128_S64x8x16x128_S64x8x128x128_2_2_3_3_01_01.rhsIdx (ix4 b h d e) (c.symm k) = ix4 b h k e := by
    funext a; apply Fin.ext
    match a with
    | ⟨0, _⟩ => rfl
    | ⟨1, _⟩ => rfl
    | ⟨2, _⟩ => exact hk
    | ⟨3, _⟩ => rfl
  rw [el, er]

/-! ## The chunk at the counter -/

/-- The starts of a chunk: the counter along the first axis, zero along the others. -/
abbrev starts (cnt : IVec S_ 32) : Fin 5 → Int := fun k =>
  (((![cnt, constantI S_ 32 0#32, constantI S_ 32 0#32, constantI S_ 32 0#32, constantI S_ 32 0#32] : Fin 5 → IVec S_ 32) k (Shape.Idx.first h_S_)).toInt)

theorem starts_eq (N : Fin 16) (k : Fin 5) : starts (fun _ => BitVec.ofNat 32 N.val) k = ((![N.val, 0, 0, 0, 0] : Fin 5 → ℕ) k : Int) := by
  match k with
  | ⟨0, _⟩ =>
    show (BitVec.ofNat 32 N.val).toInt = (N.val : Int)
    revert N
    decide +kernel
  | ⟨1, _⟩ => rfl
  | ⟨2, _⟩ => rfl
  | ⟨3, _⟩ => rfl
  | ⟨4, _⟩ => rfl

theorem chunk_fits (N : Fin 16) : S16x64x8x16x128.Slices ![N.val, 0, 0, 0, 0] S1x64x8x16x128 := by
  revert N
  decide

theorem chunk_ap (x : FVec Ideal S16x64x8x16x128 .f32) (N : Fin 16) (hs) (b : Fin 64) (h : Fin 8) (t : Fin 16) (d : Fin 128) :
    shapeCast S64x8x16x128 (Host.dynamicSlice S1x64x8x16x128 x (starts (fun _ => BitVec.ofNat 32 N.val)) hs) shapeCasts_S1x64x8x16x128_S64x8x16x128 (ix4 b h t d)
      = x (ix5 N b h t d) := by
  rw [WordCmp.dynamicSlice_eq_extract S1x64x8x16x128 x _ hs ![N.val, 0, 0, 0, 0] (chunk_fits N) (starts_eq N)]
  refine (shapeCast_apply _ _ _ (ix5 (0 : Fin 1) b h t d) ?_).trans (extractStridedSlice_apply _ _ _ _ _ (fun a => ?_))
  · rw [Shape.rowMajor_val_five, Shape.rowMajor_val_four]
    show (((0 * 64 + b.val) * 8 + h.val) * 16 + t.val) * 128 + d.val = ((b.val * 8 + h.val) * 16 + t.val) * 128 + d.val
    omega
  · match a with
    | ⟨0, _⟩ => rfl
    | ⟨1, _⟩ => show b.val = 0 + b.val; omega
    | ⟨2, _⟩ => show h.val = 0 + h.val; omega
    | ⟨3, _⟩ => show t.val = 0 + t.val; omega
    | ⟨4, _⟩ => show d.val = 0 + d.val; omega

theorem put_ap (x : FVec Ideal S16x64x8x16x128 .f32) (u : FVec Ideal S64x8x16x128 .f32) (N : Fin 16) (hs) (n : Fin 16) (b : Fin 64) (h : Fin 8)
    (t : Fin 16) (d : Fin 128) :
    Host.dynamicUpdateSlice x (broadcastInDim S1x64x8x16x128 ![1, 2, 3, 4] bcast_S64x8x16x128_S1x64x8x16x128_1_2_3_4 u)
      (starts (fun _ => BitVec.ofNat 32 N.val)) hs (ix5 n b h t d) = if n = N then u (ix4 b h t d) else x (ix5 n b h t d) := by
  rw [WordCmp.dynamicUpdateSlice_eq_update x _ _ hs ![N.val, 0, 0, 0, 0] (chunk_fits N) (starts_eq N)]
  unfold updateSlice
  by_cases hn : n = N
  · subst hn
    rw [if_pos rfl, dif_pos]
    · refine broadcastInDim_apply _ _ _ _ _ (fun a => ?_)
      match a with
      | ⟨0, _⟩ => rfl
      | ⟨1, _⟩ => rfl
      | ⟨2, _⟩ => rfl
      | ⟨3, _⟩ => rfl
    · intro a
      match a with
      | ⟨0, _⟩ => exact ⟨Nat.le_refl _, Nat.lt_succ_self _⟩
      | ⟨1, _⟩ => exact ⟨Nat.zero_le _, by show b.val < 0 + 64; omega⟩
      | ⟨2, _⟩ => exact ⟨Nat.zero_le _, by show h.val < 0 + 8; omega⟩
      | ⟨3, _⟩ => exact ⟨Nat.zero_le _, by show t.val < 0 + 16; omega⟩
      | ⟨4, _⟩ => exact ⟨Nat.zero_le _, by show d.val < 0 + 128; omega⟩
  · rw [if_neg hn, dif_neg]
    intro hh
    have h0 := hh 0
    have h1 : N.val ≤ n.val := h0.1
    have h2 : n.val < N.val + 1 := h0.2
    exact hn (Fin.ext (by omega))

theorem next_counter : ∀ N : Fin 16, IntOp.addi (BitVec.ofNat 32 N.val) 1#32 = BitVec.ofNat 32 (N.val + 1) := by
  decide +kernel

/-! ## One step over the reals -/

theorem coe_ite (P : Prop) [Decidable P] (x : ℝ) : (if P then (x : EReal) else 0) = ((if P then x else 0 : ℝ) : EReal) := by
  split <;> rfl

theorem coe_fsum {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem tail_eq (g : Fin 16 → ℝ) (s t : Fin 16) (h : s ≤ t) :
    (∑ r, if r ≤ t then g r else 0) - (∑ r, if r ≤ s then g r else 0) = ∑ r, if s < r ∧ r ≤ t then g r else 0 := by
  rw [← Finset.sum_sub_distrib]
  refine Finset.sum_congr rfl fun r _ => ?_
  by_cases h1 : r ≤ s
  · rw [if_pos (h1.trans h), if_pos h1, if_neg (fun hh => absurd hh.1 (not_lt.2 h1)), sub_self]
  · by_cases h2 : r ≤ t
    · rw [if_pos h2, if_neg h1, if_pos ⟨not_le.1 h1, h2⟩, sub_zero]
    · rw [if_neg h2, if_neg h1, if_neg (fun hh => h2 hh.2), sub_zero]

section Step
variable (q g k v : Fin 64 → Fin 8 → ℕ → ℕ → ℝ)

/-- The arrays the loop reads hold the model's reals, its mask the earlier positions. -/
structure Reads (V : Valuation τ sig (Elt Ideal)) : Prop where
  hq : ∀ (n : Fin 16) b h (t : Fin 16) (d : Fin 128), (V (Proc.devRef .tc main_v132_0) : FVec Ideal S16x64x8x16x128 .f32) (ix5 n b h t d) = (q b h (16 * n + t) d : EReal)
  hk : ∀ (n : Fin 16) b h (t : Fin 16) (d : Fin 128), (V (Proc.devRef .tc main_v132_1) : FVec Ideal S16x64x8x16x128 .f32) (ix5 n b h t d) = (k b h (16 * n + t) d : EReal)
  hg : ∀ (n : Fin 16) b h (t : Fin 16) (d : Fin 128), (V (Proc.devRef .tc main_v132_2) : FVec Ideal S16x64x8x16x128 .f32) (ix5 n b h t d) = (g b h (16 * n + t) d : EReal)
  hv : ∀ (n : Fin 16) b h (t : Fin 16) (d : Fin 128), (V (Proc.devRef .tc main_v132_3) : FVec Ideal S16x64x8x16x128 .f32) (ix5 n b h t d) = (v b h (16 * n + t) d : EReal)
  hm : ∀ t s : Fin 16, (V (Proc.devRef .tc main_v132_4) : IVec S16x16 1) (ix2 t s) = if s ≤ t then 1#1 else 0#1

/-- The counter and the state before chunk `N`. -/
structure At (N : ℕ) (V : Valuation τ sig (Elt Ideal)) : Prop where
  hc : (V (Proc.devRef .tc main_v132_5) : IVec S_ 32) = fun _ => BitVec.ofNat 32 N
  hS : ∀ b h (d e : Fin 128), (V (Proc.devRef .tc main_v132_6) : FVec Ideal S64x8x128x128 .f32) (ix4 b h d e) = (stM (g b h) (k b h) (v b h) (16 * N) d e : EReal)
  ho : ∀ (n : Fin 16) b h (t : Fin 16) (e : Fin 128), n.val < N → (V (Proc.devRef .tc main_v132_7) : FVec Ideal S16x64x8x16x128 .f32) (ix5 n b h t e)
    = (outM (q b h) (g b h) (k b h) (v b h) (16 * n + t) e : EReal)

variable {q g k v} {V : Valuation τ sig (Elt Ideal)} (N : Fin 16) (hR : Reads q g k v V) (hA : At q g k v N.val V)
include hR hA

theorem q_ap (b : Fin 64) (h : Fin 8) (t : Fin 16) (d : Fin 128) : (res_main_while0b_v170 V : FVec Ideal S64x8x16x128 .f32) (ix4 b h t d) = (q b h (16 * N + t) d : EReal) := by
  unfold res_main_while0b_v170
  refine Eq.trans ?_ (hR.hq N b h t d)
  rw [hA.hc]
  exact chunk_ap (V (Proc.devRef .tc main_v132_0)) N _ b h t d
theorem k_ap (b : Fin 64) (h : Fin 8) (t : Fin 16) (d : Fin 128) : (res_main_while0b_v171 V : FVec Ideal S64x8x16x128 .f32) (ix4 b h t d) = (k b h (16 * N + t) d : EReal) := by
  unfold res_main_while0b_v171
  refine Eq.trans ?_ (hR.hk N b h t d)
  rw [hA.hc]
  exact chunk_ap (V (Proc.devRef .tc main_v132_1)) N _ b h t d
theorem v_ap (b : Fin 64) (h : Fin 8) (t : Fin 16) (d : Fin 128) : (res_main_while0b_v173 V : FVec Ideal S64x8x16x128 .f32) (ix4 b h t d) = (v b h (16 * N + t) d : EReal) := by
  unfold res_main_while0b_v173
  refine Eq.trans ?_ (hR.hv N b h t d)
  rw [hA.hc]
  exact chunk_ap (V (Proc.devRef .tc main_v132_3)) N _ b h t d

/-- The log-decays summed up to a position of the chunk. -/
theorem b_ap (b : Fin 64) (h : Fin 8) (t : Fin 16) (d : Fin 128) : (res_main_while0b_v174 V : FVec Ideal S64x8x16x128 .f32) (ix4 b h t d)
    = ((∑ r : Fin 16, if r ≤ t then g b h (16 * N + r) d else 0 : ℝ) : EReal) := by
  unfold res_main_while0b_v174
  refine (cumsum_ap _ _ b h t d).trans ?_
  rw [← coe_fsum]
  refine Finset.sum_congr rfl fun r _ => ?_
  rw [← coe_ite, ← hR.hg N b h r d]
  rw [hA.hc]
  exact congrArg (fun z => if r ≤ t then z else (0 : EReal)) (chunk_ap (V (Proc.devRef .tc main_v132_2)) N _ b h r d)

theorem last_ap (b : Fin 64) (h : Fin 8) (d : Fin 128) : (res_main_while0b_v194 V : FVec Ideal S64x8x1x128 .f32) (ix4 b h (0 : Fin 1) d)
    = ((∑ r : Fin 16, g b h (16 * N + r) d : ℝ) : EReal) := by
  unfold res_main_while0b_v194
  refine (extractStridedSlice_apply _ _ _ _ (ix4 b h (15 : Fin 16) d) (fun a => ?_)).trans ((b_ap N hR hA b h 15 d).trans ?_)
  · match a with
    | ⟨0, _⟩ => show b.val = 0 + b.val; omega
    | ⟨1, _⟩ => show h.val = 0 + h.val; omega
    | ⟨2, _⟩ => rfl
    | ⟨3, _⟩ => show d.val = 0 + d.val; omega
  · refine congrArg _ (Finset.sum_congr rfl fun r _ => if_pos ?_)
    rw [Fin.le_def]; show r.val ≤ 15; omega

/-- The state after the chunk. -/
theorem state_ap (b : Fin 64) (h : Fin 8) (d e : Fin 128) : (step_main_v132_6 V : FVec Ideal S64x8x128x128 .f32) (ix4 b h d e)
    = (stM (g b h) (k b h) (v b h) (16 * (N.val + 1)) d e : EReal) := by
  unfold step_main_v132_6
  have e1 : (broadcastInDim S64x8x128x128 ![0, 1, 2, 3] bcast_S64x8x128x1_S64x8x128x128_0_1_2_3 (broadcastInDim S64x8x128x1 ![0, 1, 2] bcast_S64x8x128_S64x8x128x1_0_1_2
      (Host.exp (F := Ideal) (φ := .f32) (shapeCast S64x8x128 (res_main_while0b_v194 V) shapeCasts_S64x8x1x128_S64x8x128))) : FVec Ideal S64x8x128x128 .f32) (ix4 b h d e)
      = (Real.exp (∑ r : Fin 16, g b h (16 * N + r) d) : EReal) := by
    refine (broadcastInDim_apply _ _ _ _ (ix4 b h d (0 : Fin 1)) (fun a => ?_)).trans ((broadcastInDim_apply _ _ _ _ (ix3 b h d) (fun a => ?_)).trans ?_)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
    · show Ideal.exp (shapeCast S64x8x128 (res_main_while0b_v194 V) shapeCasts_S64x8x1x128_S64x8x128 (ix3 b h d)) = _
      refine (congrArg Ideal.exp ((shapeCast_apply _ _ _ (ix4 b h (0 : Fin 1) d) ?_).trans (last_ap N hR hA b h d))).trans rfl
      rw [Shape.rowMajor_val_three, Shape.rowMajor_val_four]
      show ((b.val * 8 + h.val) * 1 + 0) * 128 + d.val = (b.val * 8 + h.val) * 128 + d.val
      omega
  have e2 : ∀ s : Fin 16, (mulf (res_main_while0b_v171 V : FVec Ideal S64x8x16x128 .f32) (Host.exp (subf (broadcastInDim S64x8x16x128 ![0, 1, 2, 3] bcast_S64x8x1x128_S64x8x16x128_0_1_2_3
      (res_main_while0b_v194 V)) (res_main_while0b_v174 V)))) (ix4 b h s d)
      = ((k b h (16 * N + s) d * Real.exp (∑ r : Fin 16, if s < r then g b h (16 * N + r) d else 0) : ℝ) : EReal) := by
    intro s
    have e3 : (broadcastInDim S64x8x16x128 ![0, 1, 2, 3] bcast_S64x8x1x128_S64x8x16x128_0_1_2_3
      (res_main_while0b_v194 V) : FVec Ideal S64x8x16x128 .f32) (ix4 b h s d) = ((∑ r : Fin 16, if r ≤ 15 then g b h (16 * N + r) d else 0 : ℝ) : EReal) := by
      refine (broadcastInDim_apply _ _ _ _ (ix4 b h (0 : Fin 1) d) (fun a => ?_)).trans ((last_ap N hR hA b h d).trans ?_)
      · match a with
        | ⟨0, _⟩ => rfl
        | ⟨1, _⟩ => rfl
        | ⟨2, _⟩ => rfl
        | ⟨3, _⟩ => rfl
      · refine congrArg _ (Finset.sum_congr rfl fun r _ => (if_pos ?_).symm)
        rw [Fin.le_def]; show r.val ≤ 15; omega
    refine Eq.trans (congrArg₂ (· * ·) (k_ap N hR hA b h s d) (congrArg Ideal.exp (congrArg₂ (· - ·) e3 (b_ap N hR hA b h s d)))) ?_
    show ((_ : ℝ) : EReal) * Ideal.exp (((_ : ℝ) : EReal) - ((_ : ℝ) : EReal)) = _
    rw [← EReal.coe_sub, tail_eq _ s 15 (by rw [Fin.le_def]; show s.val ≤ 15; omega)]
    show ((k b h (16 * N + s) d : ℝ) : EReal) * ((Real.exp _ : ℝ) : EReal) = _
    rw [← EReal.coe_mul]
    refine congrArg (fun z : ℝ => ((k b h (16 * N + s) d * Real.exp z : ℝ) : EReal)) (Finset.sum_congr rfl fun r _ => ?_)
    have h15 : r ≤ 15 := by rw [Fin.le_def]; show r.val ≤ 15; omega
    simp only [h15, and_true]
  refine Eq.trans (congrArg₂ (· + ·) (congrArg₂ (· * ·) e1 (hA.hS b h d e)) (dotK_ap _ _ b h d e)) ?_
  refine Eq.trans (congrArg₂ (· + ·) rfl (Finset.sum_congr rfl fun s _ => congrArg₂ (· * ·) (e2 s) (v_ap N hR hA b h s e))) ?_
  simp only [← EReal.coe_mul]
  show ((Real.exp _ : ℝ) : EReal) * ((stM _ _ _ _ _ _ : ℝ) : EReal) + _ = _
  rw [coe_fsum, ← EReal.coe_mul, ← EReal.coe_add, Nat.mul_add, Nat.mul_one]
  unfold stM
  rw [stR_whole (C := 16)]
  refine congrArg (fun z : ℝ => ((_ + z : ℝ) : EReal)) (Finset.sum_congr rfl fun s _ => ?_)
  ring

/-- A pair of the chunk: the query's product with the decayed key, nothing for the later positions. -/
theorem pair_ap (b : Fin 64) (h : Fin 8) (t s : Fin 16) :
    (Host.reduceAdd (F := Ideal) (φ := .f32) (mulf (mulf (broadcastInDim S64x8x16x16x128 ![0, 1, 2, 3, 4] bcast_S64x8x16x1x128_S64x8x16x16x128_0_1_2_3_4 (broadcastInDim S64x8x16x1x128 ![0, 1, 2, 4] bcast_S64x8x16x128_S64x8x16x1x128_0_1_2_4 (res_main_while0b_v170 V))) (broadcastInDim S64x8x16x16x128 ![0, 1, 2, 3, 4] bcast_S64x8x1x16x128_S64x8x16x16x128_0_1_2_3_4 (broadcastInDim S64x8x1x16x128 ![0, 1, 3, 4] bcast_S64x8x16x128_S64x8x1x16x128_0_1_3_4 (res_main_while0b_v171 V)))) (Host.exp (select (broadcastInDim S64x8x16x16x128 ![2, 3, 4] bcast_S16x16x1_S64x8x16x16x128_2_3_4 (broadcastInDim S16x16x1 ![0, 1] bcast_S16x16_S16x16x1_0_1 (V (Proc.devRef .tc main_v132_4)))) (subf (broadcastInDim S64x8x16x16x128 ![0, 1, 2, 3, 4] bcast_S64x8x16x1x128_S64x8x16x16x128_0_1_2_3_4 (broadcastInDim S64x8x16x1x128 ![0, 1, 2, 4] bcast_S64x8x16x128_S64x8x16x1x128_0_1_2_4 (res_main_while0b_v174 V))) (broadcastInDim S64x8x16x16x128 ![0, 1, 2, 3, 4] bcast_S64x8x1x16x128_S64x8x16x16x128_0_1_2_3_4 (broadcastInDim S64x8x1x16x128 ![0, 1, 3, 4] bcast_S64x8x16x128_S64x8x1x16x128_0_1_3_4 (res_main_while0b_v174 V)))) (broadcastInDim S64x8x16x16x128 ![] bcast_S_S64x8x16x16x128 (id (constant S_ .f32 0xFF800000#32)))))) (constant S_ .f32 0x00000000#32) reducesTo_S64x8x16x16x128_S64x8x16x16_d4 h_S_) (ix4 b h t s)
      = ((if s ≤ t then pairM (q b h) (g b h) (k b h) (16 * N) t s else 0 : ℝ) : EReal) := by
  have hr : S64x8x16x16x128.Reduces [4] S64x8x16x16 := by decide
  have hl : ∀ d : Fin 128, hr.lift (ix4 b h t s) d = ix5 b h t s d := by
    intro d; funext a; apply Fin.ext
    match a with
    | ⟨0, _⟩ => rfl
    | ⟨1, _⟩ => rfl
    | ⟨2, _⟩ => rfl
    | ⟨3, _⟩ => rfl
    | ⟨4, _⟩ => rfl
  have hT : ∀ (x : FVec Ideal S64x8x16x128 .f32) (d : Fin 128), (broadcastInDim S64x8x16x16x128 ![0, 1, 2, 3, 4] bcast_S64x8x16x1x128_S64x8x16x16x128_0_1_2_3_4 (broadcastInDim S64x8x16x1x128 ![0, 1, 2, 4] bcast_S64x8x16x128_S64x8x16x1x128_0_1_2_4 x)) (ix5 b h t s d) = x (ix4 b h t d) := by
    intro x d
    refine (broadcastInDim_apply _ _ _ _ (ix5 b h t (0 : Fin 1) d) (fun a => ?_)).trans (broadcastInDim_apply _ _ _ _ _ (fun a => ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
  have hS : ∀ (x : FVec Ideal S64x8x16x128 .f32) (d : Fin 128), (broadcastInDim S64x8x16x16x128 ![0, 1, 2, 3, 4] bcast_S64x8x1x16x128_S64x8x16x16x128_0_1_2_3_4 (broadcastInDim S64x8x1x16x128 ![0, 1, 3, 4] bcast_S64x8x16x128_S64x8x1x16x128_0_1_3_4 x)) (ix5 b h t s d) = x (ix4 b h s d) := by
    intro x d
    refine (broadcastInDim_apply _ _ _ _ (ix5 b h (0 : Fin 1) s d) (fun a => ?_)).trans (broadcastInDim_apply _ _ _ _ _ (fun a => ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
  have hM : ∀ (x : IVec S16x16 1) (d : Fin 128), (broadcastInDim S64x8x16x16x128 ![2, 3, 4] bcast_S16x16x1_S64x8x16x16x128_2_3_4 (broadcastInDim S16x16x1 ![0, 1] bcast_S16x16_S16x16x1_0_1 x)) (ix5 b h t s d) = x (ix2 t s) := by
    intro x d
    refine (broadcastInDim_apply _ _ _ _ (ix3 t s (0 : Fin 1)) (fun a => ?_)).trans (broadcastInDim_apply _ _ _ _ _ (fun a => ?_))
    · match a with
      | ⟨0, _⟩ => rfl
      | ⟨1, _⟩ => rfl
      | ⟨2, _⟩ => rfl
    · match a with
      | ⟨0, _⟩ => rfl
      | ⟨1, _⟩ => rfl
  refine (Ideal.hostReduceAdd_single _ hr _ _ (ix4 b h t s)).trans ?_
  show Ideal.ofBits .f32 0x00000000#32 + ∑ d : Fin 128, _ = _
  rw [Ideal.ofBits_zero_f32, zero_add]
  have e : (if s ≤ t then pairM (q b h) (g b h) (k b h) (16 * N) t s else 0 : ℝ) = ∑ d : Fin 128, if s ≤ t then
      q b h (16 * N + t) d * (k b h (16 * N + s) d * Real.exp (∑ r : Fin 16, if s < r ∧ r ≤ t then g b h (16 * N + r) d else 0)) else 0 := by
    split
    · rfl
    · rw [Finset.sum_const_zero]
  rw [e, ← coe_fsum]
  refine Finset.sum_congr rfl fun d _ => ?_
  rw [hl d]
  refine Eq.trans (congrArg₂ (· * ·) (congrArg₂ (· * ·) ((hT _ d).trans (q_ap N hR hA b h t d)) ((hS _ d).trans (k_ap N hR hA b h s d)))
    (congrArg Ideal.exp (a₂ := if s ≤ t then ((∑ r : Fin 16, if s < r ∧ r ≤ t then g b h (16 * N + r) d else 0 : ℝ) : EReal) else ⊥) ?_)) ?_
  · show Scalar.select ((broadcastInDim S64x8x16x16x128 ![2, 3, 4] bcast_S16x16x1_S64x8x16x16x128_2_3_4 (broadcastInDim S16x16x1 ![0, 1] bcast_S16x16_S16x16x1_0_1 (V (Proc.devRef .tc main_v132_4)))) (ix5 b h t s d)) _ _ = _
    refine (congrArg (fun z => Scalar.select z _ _) ((hM _ d).trans (hR.hm t s))).trans ?_
    split
    · rename_i hst
      refine Eq.trans (congrArg₂ (· - ·) ((hT _ d).trans (b_ap N hR hA b h t d)) ((hS _ d).trans (b_ap N hR hA b h s d))) ?_
      show ((_ : ℝ) : EReal) - ((_ : ℝ) : EReal) = _
      rw [← EReal.coe_sub, tail_eq _ s t hst]
    · exact neg_inf
  · split
    · show ((_ : ℝ) : EReal) * ((_ : ℝ) : EReal) * ((Real.exp _ : ℝ) : EReal) = _
      rw [← EReal.coe_mul, ← EReal.coe_mul, mul_assoc]
    · show ((_ : ℝ) : EReal) * ((_ : ℝ) : EReal) * (0 : EReal) = _
      rw [mul_zero]
      rfl

/-- The outputs of the chunk. -/
theorem out_ap (n : Fin 16) (b : Fin 64) (h : Fin 8) (t : Fin 16) (e : Fin 128) (hn : n.val < N.val + 1) :
    (step_main_v132_7 V : FVec Ideal S16x64x8x16x128 .f32) (ix5 n b h t e) = (outM (q b h) (g b h) (k b h) (v b h) (16 * n + t) e : EReal) := by
  unfold step_main_v132_7
  rw [hA.hc]
  refine (put_ap (V (Proc.devRef .tc main_v132_7)) _ N _ n b h t e).trans ?_
  by_cases hnN : n = N
  · rw [if_pos hnN, hnN]
    have e1 : ∀ d : Fin 128, (mulf (F := Ideal) (φ := .f32) (res_main_while0b_v170 V) (Host.exp (res_main_while0b_v174 V)) (ix4 b h t d) : EReal)
        * ((V (Proc.devRef .tc main_v132_6) : FVec Ideal S64x8x128x128 .f32) (ix4 b h d e) : EReal)
        = ((q b h (16 * N + t) d * Real.exp (∑ r : Fin 16, if r ≤ t then g b h (16 * N + r) d else 0) * stM (g b h) (k b h) (v b h) (16 * N) d e : ℝ) : EReal) := by
      intro d
      refine Eq.trans (congrArg₂ (· * ·) (congrArg₂ (· * ·) (q_ap N hR hA b h t d) (congrArg Ideal.exp (b_ap N hR hA b h t d))) (hA.hS b h d e)) ?_
      show ((_ : ℝ) : EReal) * ((Real.exp _ : ℝ) : EReal) * ((_ : ℝ) : EReal) = _
      rw [← EReal.coe_mul, ← EReal.coe_mul]
    refine Eq.trans (congrArg₂ (· + ·) ((dotS_ap _ _ b h t e).trans (Finset.sum_congr rfl fun d _ => e1 d))
      ((dotA_ap _ _ b h t e).trans (Finset.sum_congr rfl fun s _ => congrArg₂ (· * ·) (pair_ap N hR hA b h t s) (v_ap N hR hA b h s e)))) ?_
    simp only [← EReal.coe_mul]
    rw [coe_fsum, coe_fsum, ← EReal.coe_add, outM_chunk, add_comm]
  · rw [if_neg hnN]
    exact hA.ho n b h t e (by have := fun hh => hnN (Fin.ext hh); omega)

/-- One step keeps the arrays. -/
theorem reads_step : Reads q g k v (STEP V) where
  hq := fun n b h t d => (congrFun (STEP_main_v132_0 V) _).trans (hR.hq n b h t d)
  hk := fun n b h t d => (congrFun (STEP_main_v132_1 V) _).trans (hR.hk n b h t d)
  hg := fun n b h t d => (congrFun (STEP_main_v132_2 V) _).trans (hR.hg n b h t d)
  hv := fun n b h t d => (congrFun (STEP_main_v132_3 V) _).trans (hR.hv n b h t d)
  hm := fun t s => (congrFun (STEP_main_v132_4 V) _).trans (hR.hm t s)

/-- One step goes to the next chunk. -/
theorem at_step : At q g k v (N.val + 1) (STEP V) where
  hc := (STEP_main_v132_5 V).trans (by
    unfold step_main_v132_5
    rw [hA.hc]
    funext i
    show IntOp.addi (BitVec.ofNat 32 N.val) 1#32 = BitVec.ofNat 32 (N.val + 1)
    exact next_counter N)
  hS := fun b h d e => (congrFun (STEP_main_v132_6 V) _).trans (state_ap N hR hA b h d e)
  ho := fun n b h t e hn => (congrFun (STEP_main_v132_7 V) _).trans (out_ap N hR hA n b h t e hn)

omit hR hA N in
/-- The loop's sixteen steps. -/
theorem at_loop (hR : Reads q g k v V) (hA : At q g k v 0 V) : ∀ n : ℕ, n ≤ 16 → Reads q g k v (STEP^[n] V) ∧ At q g k v n (STEP^[n] V) := by
  intro n
  induction n with
  | zero => exact fun _ => ⟨hR, hA⟩
  | succ n ih =>
    intro hn
    have h := ih (by omega)
    rw [Function.iterate_succ_apply']
    exact ⟨reads_step ⟨n, by omega⟩ h.1 h.2, at_step ⟨n, by omega⟩ h.1 h.2⟩

end Step

end Cert.Hgrn.Ref

end
-- ==== Proof.RefFinal.lean ====
module

public import proofs.«01_k».proof.Proof.RefStep

@[expose] public section

set_option maxRecDepth 16384

noncomputable section

namespace Cert.Hgrn.Ref

open Idealize.ShloMosaic Idealize.ShloMosaic.TcCoe Idealize.ShloMosaic.StableHlo Idealize.ShloMosaic.ValueIdx
open Cert.ReferenceIdeal Cert.ReferenceIdeal.Gen Cert.ReferenceIdeal.Value
open scoped BigOperators

/-! ## The reference's results, at an index -/

/-- The direction a row of the batch belongs to. -/
def dirOf (B : Fin 64) : Fin 2 := ⟨B.val / 32, by omega⟩
/-- Its sequence. -/
def seqOf (B : Fin 64) : Fin 32 := ⟨B.val % 32, by omega⟩

theorem dir_bd (o : Fin 2) (b : Fin 32) : dirOf (bd o b) = o := Fin.ext (by show (32 * o.val + b.val) / 32 = o.val; omega)
theorem seq_bd (o : Fin 2) (b : Fin 32) : seqOf (bd o b) = b := Fin.ext (by show (32 * o.val + b.val) % 32 = b.val; omega)
theorem bd_of (B : Fin 64) : B = bd (dirOf B) (seqOf B) := Fin.ext (by show B.val = 32 * (B.val / 32) + B.val % 32; omega)

variable (m : (ℓ : Loc nD τ sig) → Buf (Elt Ideal) ℓ) (c : Dev nD)

/-- The gates of the launch. -/
def Zr (r : Fin 12288) (j : Fin 2048) : EReal := a0 m c (ix2 r j)
/-- The other projections of the launch. -/
def Rr (r : Fin 12288) (j : Fin 7168) : EReal := a1 m c (ix2 r j)
/-- The logits of the launch. -/
def Lr (l o : Fin 2) (j : Fin 1024) : EReal := a2 m c (ix3 l o j)
/-- The gain of the launch. -/
def Gr (j : Fin 128) : EReal := a3 m c (ix2 (0 : Fin 1) j)

variable {m c} (hF : Finite (Rr m c) (Lr m c))
include hF

/-- The arrays the loop starts from hold the model's reals. -/
theorem reads0 : Reads (fun B => qM (Rr m c) (dirOf B) (seqOf B)) (fun B => gM (Zr m c) (Lr m c) (dirOf B) (seqOf B))
    (fun B => kM (Zr m c) (Lr m c) (dirOf B) (seqOf B)) (fun B => vM (Rr m c) (dirOf B) (seqOf B)) (entryContents (preI (F := Ideal)) m c) := by
  have hp0 : ∀ n t : Fin 16, pos 0 (16 * n.val + t.val) = tm n t := fun n t => pos_zero _ _ rfl
  have hp1 : ∀ n t : Fin 16, pos 1 (16 * n.val + t.val) = Fin.rev (tm n t) := fun n t => pos_one _ _ rfl
  refine ⟨fun n B h t d => ?_, fun n B h t d => ?_, fun n B h t d => ?_, fun n B h t d => ?_, fun t s => ?_⟩
  · rw [entry0]
    obtain ⟨o, b, rfl⟩ : ∃ o b, B = bd o b := ⟨_, _, bd_of B⟩
    simp only [dir_bd, seq_bd]
    rw [← q_fin hF, chan_val]
    match o with
    | 0 => rw [both_ap0, hd_ap, qry_ap, hp0]; rfl
    | 1 => rw [both_ap1, hd_ap, qry_ap, hp1]; rfl
  · rw [entry1]
    obtain ⟨o, b, rfl⟩ : ∃ o b, B = bd o b := ⟨_, _, bd_of B⟩
    simp only [dir_bd, seq_bd]
    rw [← k_fin hF, chan_val]
    match o with
    | 0 => rw [both_ap0, hd_ap, kA_ap, lb0_ap, z0_ap, hp0]; rfl
    | 1 => rw [both_ap1, hd_ap, kA_ap, lb1_ap, z1_ap, hp1]; rfl
  · rw [entry2]
    obtain ⟨o, b, rfl⟩ : ∃ o b, B = bd o b := ⟨_, _, bd_of B⟩
    simp only [dir_bd, seq_bd]
    rw [← refLog_fin hF, chan_val]
    match o with
    | 0 => rw [both_ap0, hd_ap, gA_ap, lb0_ap, z0_ap, hp0]; rfl
    | 1 => rw [both_ap1, hd_ap, gA_ap, lb1_ap, z1_ap, hp1]; rfl
  · rw [entry3]
    obtain ⟨o, b, rfl⟩ : ∃ o b, B = bd o b := ⟨_, _, bd_of B⟩
    simp only [dir_bd, seq_bd]
    rw [← v_fin hF, chan_val]
    match o with
    | 0 => rw [both_ap0, hd_ap, vA_ap, hp0]; rfl
    | 1 => rw [both_ap1, hd_ap, vA_ap, hp1]; rfl
  · rw [entry4]
    exact maskA_ap t s

omit hF in
theorem at0 (q g k v : Fin 64 → Fin 8 → ℕ → ℕ → ℝ) : At q g k v 0 (entryContents (preI (F := Ideal)) m c) where
  hc := entry5 m c
  hS := fun b h d e => by
    rw [entry6, s0A_ap]
    rfl
  ho := fun n b h t e hn => absurd hn (Nat.not_lt_zero _)

/-- The contents after the loop. -/
abbrev VF (m : (ℓ : Loc nD τ sig) → Buf (Elt Ideal) ℓ) (c : Dev nD) : Valuation τ sig (Elt Ideal) := STEP^[16] (entryContents (preI (F := Ideal)) m c)

theorem final_state (o : Fin 2) (b : Fin 32) (h : Fin 8) (d e : Fin 128) :
    (VF m c (Proc.devRef .tc main_v132_6) : FVec Ideal S64x8x128x128 .f32) (ix4 (bd o b) h d e) = (sM (Zr m c) (Rr m c) (Lr m c) o b h d e : EReal) := by
  have h1 := (at_loop (reads0 hF) (at0 _ _ _ _) 16 (le_refl _)).2.hS (bd o b) h d e
  simp only [dir_bd, seq_bd] at h1
  exact h1

theorem final_out (o : Fin 2) (n : Fin 16) (b : Fin 32) (h : Fin 8) (t : Fin 16) (e : Fin 128) :
    (VF m c (Proc.devRef .tc main_v132_7) : FVec Ideal S16x64x8x16x128 .f32) (ix5 n (bd o b) h t e) = (oM (Zr m c) (Rr m c) (Lr m c) o b h (tm n t).val e.val : EReal) := by
  have h1 := (at_loop (reads0 hF) (at0 _ _ _ _) 16 (le_refl _)).2.ho n (bd o b) h t e n.isLt
  simp only [dir_bd, seq_bd] at h1
  exact h1

omit hF in
/-- The outputs of the chunks, put together along the positions. -/
theorem glue_ap (x : FVec Ideal S16x64x8x16x128 .f32) (b : Fin 64) (h : Fin 8) (t : Fin 256) (e : Fin 128) :
    shapeCast S64x8x256x128 (transpose S64x8x16x16x128 [1, 2, 0, 3, 4] x transposes_S16x64x8x16x128_S64x8x16x16x128_1_2_0_3_4)
        shapeCasts_S64x8x16x16x128_S64x8x256x128 (ix4 b h t e)
      = x (ix5 (⟨t.val / 16, by omega⟩ : Fin 16) b h (⟨t.val % 16, by omega⟩ : Fin 16) e) := by
  refine (shapeCast_apply _ _ _ (ix5 b h (⟨t.val / 16, by omega⟩ : Fin 16) (⟨t.val % 16, by omega⟩ : Fin 16) e) ?_).trans
    (transpose_apply _ _ _ _ _ (fun a => ?_))
  · rw [Shape.rowMajor_val_five, Shape.rowMajor_val_four]
    show (((b.val * 8 + h.val) * 16 + t.val / 16) * 16 + t.val % 16) * 128 + e.val = ((b.val * 8 + h.val) * 256 + t.val) * 128 + e.val
    omega
  · match a with
    | ⟨0, _⟩ => rfl
    | ⟨1, _⟩ => rfl
    | ⟨2, _⟩ => rfl
    | ⟨3, _⟩ => rfl
    | ⟨4, _⟩ => rfl

/-- The two directions' outputs, summed. -/
def sumA (x : FVec Ideal S16x64x8x16x128 .f32) : FVec Ideal S32x8x256x128 .f32 :=
  addf (extractStridedSlice S32x8x256x128 ![0, 0, 0, 0] (shapeCast S64x8x256x128 (transpose S64x8x16x16x128 [1, 2, 0, 3, 4] x transposes_S16x64x8x16x128_S64x8x16x16x128_1_2_0_3_4) shapeCasts_S64x8x16x16x128_S64x8x256x128) slices_S64x8x256x128_S32x8x256x128_0_0_0_0)
    (Host.reverse [2] (extractStridedSlice S32x8x256x128 ![32, 0, 0, 0] (shapeCast S64x8x256x128 (transpose S64x8x16x16x128 [1, 2, 0, 3, 4] x transposes_S16x64x8x16x128_S64x8x16x16x128_1_2_0_3_4) shapeCasts_S64x8x16x16x128_S64x8x256x128) slices_S64x8x256x128_S32x8x256x128_32_0_0_0))

theorem sumA_ap (b : Fin 32) (h : Fin 8) (t : Fin 256) (e : Fin 128) :
    sumA (VF m c (Proc.devRef .tc main_v132_7)) (ix4 b h t e) = yM (Zr m c) (Rr m c) (Lr m c) b h t e := by
  have hg : ∀ (o : Fin 2) (t : Fin 256), (shapeCast S64x8x256x128 (transpose S64x8x16x16x128 [1, 2, 0, 3, 4] (VF m c (Proc.devRef .tc main_v132_7) : FVec Ideal S16x64x8x16x128 .f32) transposes_S16x64x8x16x128_S64x8x16x16x128_1_2_0_3_4)
        shapeCasts_S64x8x16x16x128_S64x8x256x128) (ix4 (bd o b) h t e) = (oM (Zr m c) (Rr m c) (Lr m c) o b h t.val e.val : EReal) := by
    intro o t
    refine (glue_ap _ (bd o b) h t e).trans ((final_out hF o _ b h _ e).trans ?_)
    have ht : (tm (⟨t.val / 16, by omega⟩ : Fin 16) (⟨t.val % 16, by omega⟩ : Fin 16)).val = t.val := by
      show 16 * (t.val / 16) + t.val % 16 = t.val
      omega
    rw [ht]
  unfold sumA yM
  refine congrArg₂ (· + ·) ((extractStridedSlice_apply _ _ _ _ (ix4 (bd 0 b) h t e) (fun a => ?_)).trans (hg 0 t)) ?_
  · match a with
    | ⟨0, _⟩ => show 32 * 0 + b.val = 0 + b.val; omega
    | ⟨1, _⟩ => show h.val = 0 + h.val; omega
    | ⟨2, _⟩ => show t.val = 0 + t.val; omega
    | ⟨3, _⟩ => show e.val = 0 + e.val; omega
  · unfold Host.reverse
    refine (extractStridedSlice_apply _ _ _ _ (ix4 (bd 1 b) h (Fin.rev t) e) (fun a => ?_)).trans (hg 1 (Fin.rev t))
    match a with
    | ⟨0, _⟩ => show 32 * 1 + b.val = 32 + b.val; omega
    | ⟨1, _⟩ => show h.val = 0 + h.val; omega
    | ⟨2, _⟩ => show (Fin.rev t).val = 0 + (Fin.rev t).val; omega
    | ⟨3, _⟩ => show e.val = 0 + e.val; omega

/-- The outputs normalised, times the gain. -/
def nrmA (y : FVec Ideal S32x8x256x128 .f32) (g : FVec Ideal S1x128 .f32) : FVec Ideal S32x8x256x128 .f32 :=
  mulf (mulf y (broadcastInDim S32x8x256x128 ![0, 1, 2, 3] bcast_S32x8x256x1_S32x8x256x128_0_1_2_3 (Host.rsqrt (addf (Host.divf (broadcastInDim S32x8x256x1 ![0, 1, 2] bcast_S32x8x256_S32x8x256x1_0_1_2
    (Host.reduceAdd (mulf y y) (constant S_ .f32 0x00000000#32) reducesTo_S32x8x256x128_S32x8x256_d3 h_S_)) (sc S32x8x256x1 bcast_S_S32x8x256x1 0x43000000#32)) (sc S32x8x256x1 bcast_S_S32x8x256x1 0x358637BD#32)))))
    (broadcastInDim S32x8x256x128 ![0, 1, 2, 3] bcast_S1x1x1x128_S32x8x256x128_0_1_2_3 (broadcastInDim S1x1x1x128 ![3] bcast_S128_S1x1x1x128_3 (shapeCast S128 g shapeCasts_S1x128_S128)))

/-- The gate. -/
def ogA (x : FVec Ideal S12288x7168 .bf16) : FVec Ideal S32x256x1024 .f32 :=
  shapeCast S32x256x1024 (extf .f32 (extractStridedSlice S8192x1024 ![0, 2048] x slices_S12288x7168_S8192x1024_0_2048) bitsLt_bf16_f32) shapeCasts_S8192x1024_S32x256x1024

/-- The reference's first result, of the outputs' array and the arguments. -/
def resA (y : FVec Ideal S32x8x256x128 .f32) (x : FVec Ideal S12288x7168 .bf16) (g : FVec Ideal S1x128 .f32) : FVec Ideal S12288x1024 .bf16 :=
  truncf .bf16 (concatenate S12288x1024 0 [⟨S8192x1024, shapeCast S8192x1024 (mulf (shapeCast S32x256x1024 (transpose S32x256x8x128 [0, 2, 1, 3] (nrmA y g) transposes_S32x8x256x128_S32x256x8x128_0_2_1_3) shapeCasts_S32x256x8x128_S32x256x1024)
    (mulf (ogA x) (sigA (ogA x)))) shapeCasts_S32x256x1024_S8192x1024⟩, ⟨S4096x1024, sc S4096x1024 bcast_S_S4096x1024 0x00000000#32⟩] concatenates_S8192x1024_S4096x1024_S12288x1024_d0) bitsLt_bf16_f32

omit hF in
theorem out_of (V : Valuation τ sig (Elt Ideal)) : (out_main_v168 V : FVec Ideal S12288x1024 .bf16)
    = resA (sumA (V (Proc.devRef .tc main_v132_7))) (V (Proc.devRef .tc main_arg1)) (V (Proc.devRef .tc main_arg3)) := rfl

omit hF in
theorem out_eq : (out_main_v168 (VF m c) : FVec Ideal S12288x1024 .bf16) = resA (sumA (VF m c (Proc.devRef .tc main_v132_7))) (a1 m c) (a3 m c) :=
  (out_of (VF m c)).trans (congrArg₂ (fun x g => resA (sumA (VF m c (Proc.devRef .tc main_v132_7))) x g) (iter_main_arg1 m c 16) (iter_main_arg3 m c 16))

omit hF in
theorem nrmA_ap (y : FVec Ideal S32x8x256x128 .f32) (g : FVec Ideal S1x128 .f32) (b : Fin 32) (h : Fin 8) (t : Fin 256) (e : Fin 128) :
    nrmA y g (ix4 b h t e) = y (ix4 b h t e) * Ideal.rsqrt (Ideal.div (∑ j : Fin 128, y (ix4 b h t j) * y (ix4 b h t j)) (Ideal.ofBits .f32 0x43000000#32)
      + Ideal.ofBits .f32 0x358637BD#32) * g (ix2 (0 : Fin 1) e) := by
  have hr : S32x8x256x128.Reduces [3] S32x8x256 := by decide
  have hl : ∀ d : Fin 128, hr.lift (ix3 b h t) d = ix4 b h t d := by
    intro d; funext a; apply Fin.ext
    match a with
    | ⟨0, _⟩ => rfl
    | ⟨1, _⟩ => rfl
    | ⟨2, _⟩ => rfl
    | ⟨3, _⟩ => rfl
  unfold nrmA
  refine congrArg₂ (· * ·) (congrArg₂ (· * ·) rfl ?_) ?_
  · refine (broadcastInDim_apply _ _ _ _ (ix4 b h t (0 : Fin 1)) (fun a => ?_)).trans
      (congrArg Ideal.rsqrt (congrArg₂ (· + ·) (congrArg₂ Ideal.div ((broadcastInDim_apply _ _ _ _ (ix3 b h t) (fun a => ?_)).trans
        ((Ideal.hostReduceAdd_single _ hr _ _ (ix3 b h t)).trans ?_)) (sc_ap _ _ _ _)) (sc_ap _ _ _ _)))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
    · show Ideal.ofBits .f32 0x00000000#32 + ∑ d : Fin 128, _ = _
      rw [Ideal.ofBits_zero_f32, zero_add]
      refine Finset.sum_congr rfl fun d _ => ?_
      rw [hl d]
      rfl
  · refine (broadcastInDim_apply _ _ _ _ (ix4 (0 : Fin 1) (0 : Fin 1) (0 : Fin 1) e) (fun a => ?_)).trans
      ((broadcastInDim_apply _ _ _ _ (ix1 e) (fun a => ?_)).trans (shapeCast_apply _ _ _ (ix2 (0 : Fin 1) e) ?_))
    · match a with
      | ⟨0, _⟩ => rfl
      | ⟨1, _⟩ => rfl
      | ⟨2, _⟩ => rfl
      | ⟨3, _⟩ => rfl
    · match a with
      | ⟨0, _⟩ => rfl
    · rw [Shape.rowMajor_val_one, Shape.rowMajor_val_two]
      show 0 * 128 + e.val = e.val
      omega

/-- The first result on the sequences' rows. -/
theorem ref_out (b : Fin 32) (t : Fin 256) (h : Fin 8) (e : Fin 128) :
    (out_main_v168 (VF m c) : FVec Ideal S12288x1024 .bf16) (ix2 (rw b t) (ch h e)) = outE (Zr m c) (Rr m c) (Lr m c) (Gr m c) b t h e := by
  rw [out_eq]
  unfold resA
  refine (concatenate_pair_apply_left (s₁ := S8192x1024) (s₂ := S4096x1024) (t := S12288x1024) 0 _ (sc S4096x1024 bcast_S_S4096x1024 0x00000000#32) concatenates_S8192x1024_S4096x1024_S12288x1024_d0 _ rfl
    (ix2 (⟨256 * b.val + t.val, by omega⟩ : Fin 8192) (ch h e)) (fun a => ?_)).trans ((shapeCast_apply _ _ _ (ix3 b t (ch h e)) ?_).trans
      ((congrArg₂ (· * ·) ((shapeCast_apply _ _ _ (ix4 b t h e) ?_).trans ((transpose_apply _ _ _ _ (ix4 b h t e) (fun a => ?_)).trans (nrmA_ap _ _ b h t e))) (congrArg₂ (· * ·) (part_ap 2 2048 rfl _ _ b t (ch h e))
        ((sigA_ap _ _).trans (congrArg sgm (part_ap 2 2048 rfl _ _ b t (ch h e)))))).trans ?_))
  · match a with
    | ⟨0, _⟩ => rfl
    | ⟨1, _⟩ => rfl
  · rw [Shape.rowMajor_val_three, Shape.rowMajor_val_two]
    show (b.val * 256 + t.val) * 1024 + (128 * h.val + e.val) = (256 * b.val + t.val) * 1024 + (128 * h.val + e.val)
    omega
  · rw [Shape.rowMajor_val_three, Shape.rowMajor_val_four]
    show ((b.val * 256 + t.val) * 8 + h.val) * 128 + e.val = (b.val * 256 + t.val) * 1024 + (128 * h.val + e.val)
    omega
  · match a with
    | ⟨0, _⟩ => rfl
    | ⟨1, _⟩ => rfl
    | ⟨2, _⟩ => rfl
    | ⟨3, _⟩ => rfl
  · unfold outE normE
    simp only [sumA_ap hF]
    rfl

omit hF in
/-- The first result past the sequences' rows. -/
theorem ref_rest (r : Fin 12288) (j : Fin 1024) (hr : 8192 ≤ r.val) : (out_main_v168 (VF m c) : FVec Ideal S12288x1024 .bf16) (ix2 r j) = (0 : EReal) := by
  rw [out_eq]
  unfold resA
  refine (concatenate_pair_apply_right (s₁ := S8192x1024) (s₂ := S4096x1024) (t := S12288x1024) 0 _ (sc S4096x1024 bcast_S_S4096x1024 0x00000000#32) concatenates_S8192x1024_S4096x1024_S12288x1024_d0 _ rfl rfl
    (ix2 (⟨r.val - 8192, by omega⟩ : Fin 4096) j) (fun a ha => ?_) ?_).trans ((sc_ap _ _ _ _).trans Ideal.ofBits_zero_f32)
  · match a with
    | ⟨0, _⟩ => exact absurd rfl ha
    | ⟨1, _⟩ => rfl
  · show r.val - 8192 + 8192 = r.val
    omega

/-- The second result. -/
theorem ref_state (b : Fin 32) (o : Fin 2) (h : Fin 8) (d e : Fin 128) :
    (out_main_v169 (VF m c) : FVec Ideal S32x1x2x8x128x128 .f32) (ix6 b (0 : Fin 1) o h d e) = (sM (Zr m c) (Rr m c) (Lr m c) o b h d e : EReal) := by
  unfold out_main_v169
  refine (broadcastInDim_apply _ _ _ _ (ix5 b o h d e) (fun a => ?_)).trans ?_
  · match a with
    | ⟨0, _⟩ => rfl
    | ⟨1, _⟩ => rfl
    | ⟨2, _⟩ => rfl
    | ⟨3, _⟩ => rfl
    | ⟨4, _⟩ => rfl
  · have hb : ∀ (off : ℕ) (o : Fin 2) (ho : off = 32 * o.val) (hs : S64x8x128x128.Slices ![off, 0, 0, 0] S32x8x128x128), (broadcastInDim S32x1x8x128x128 ![0, 2, 3, 4] bcast_S32x8x128x128_S32x1x8x128x128_0_2_3_4
        (extractStridedSlice S32x8x128x128 ![off, 0, 0, 0] (VF m c (Proc.devRef .tc main_v132_6) : FVec Ideal S64x8x128x128 .f32) hs)) (ix5 b (0 : Fin 1) h d e) = (sM (Zr m c) (Rr m c) (Lr m c) o b h d e : EReal) := by
      intro off o ho hs
      refine (broadcastInDim_apply _ _ _ _ (ix4 b h d e) (fun a => ?_)).trans ((extractStridedSlice_apply _ _ _ _ (ix4 (bd o b) h d e) (fun a => ?_)).trans (final_state hF o b h d e))
      · match a with
        | ⟨0, _⟩ => rfl
        | ⟨1, _⟩ => rfl
        | ⟨2, _⟩ => rfl
        | ⟨3, _⟩ => rfl
      · match a with
        | ⟨0, _⟩ => show 32 * o.val + b.val = off + b.val; omega
        | ⟨1, _⟩ => show h.val = 0 + h.val; omega
        | ⟨2, _⟩ => show d.val = 0 + d.val; omega
        | ⟨3, _⟩ => show e.val = 0 + e.val; omega
    match o with
    | 0 =>
      refine (concatenate_pair_apply_left (s₁ := S32x1x8x128x128) (s₂ := S32x1x8x128x128) (t := S32x2x8x128x128) 1 _ _ concatenates_S32x1x8x128x128_S32x1x8x128x128_S32x2x8x128x128_d1 _ rfl (ix5 b (0 : Fin 1) h d e) (fun a => ?_)).trans (hb 0 0 rfl slices_S64x8x128x128_S32x8x128x128_0_0_0_0)
      match a with
      | ⟨0, _⟩ => rfl
      | ⟨1, _⟩ => rfl
      | ⟨2, _⟩ => rfl
      | ⟨3, _⟩ => rfl
      | ⟨4, _⟩ => rfl
    | 1 =>
      refine (concatenate_pair_apply_right (s₁ := S32x1x8x128x128) (s₂ := S32x1x8x128x128) (t := S32x2x8x128x128) 1 _ _ concatenates_S32x1x8x128x128_S32x1x8x128x128_S32x2x8x128x128_d1 _ rfl rfl (ix5 b (0 : Fin 1) h d e) (fun a ha => ?_) rfl).trans (hb 32 1 rfl slices_S64x8x128x128_S32x8x128x128_32_0_0_0)
      match a with
      | ⟨0, _⟩ => rfl
      | ⟨1, _⟩ => exact absurd rfl ha
      | ⟨2, _⟩ => rfl
      | ⟨3, _⟩ => rfl
      | ⟨4, _⟩ => rfl

end Cert.Hgrn.Ref

end
-- ==== Proof.Join.lean ====
module

public import proofs.«01_k».proof.Defs
public import proofs.«01_k».proof.Proof.KerFinal
public import proofs.«01_k».proof.Proof.RefFinal
public import Idealize.ShloMosaic.Lib.ReduceAll

@[expose] public section

noncomputable section

namespace Cert.Hgrn

open Idealize.ShloMosaic Idealize.ShloMosaic.TcCoe Idealize.ShloMosaic.ValueIdx Idealize.SL.Sem

/-! ## The precondition read: the entries of the recurrence are real numbers -/

/-- The facts the precondition's own operations take. -/
theorem preFacts : Cert.Pre_finite_inputs.Facts where
  slices_S12288x7168_S8192x2048_0_0 := by decide
  bitsLt_bf16_f32 := by decide
  bcast_S_S8192x2048 := by decide
  reducesTo_S8192x2048_S_d0_1 := by decide
  h_S_ := by decide
  bcast_S_S2x2x1024 := by decide
  reducesTo_S2x2x1024_S_d0_1_2 := by decide

/-- An extended real whose absolute value is below the greatest one is a real number. -/
theorem real_of_abs (x : EReal) (h : Ideal.cmp .olt (max x (-x)) (Ideal.ofBits .f32 0x7F800000#32) = 1#1) :
    x = (x.toReal : EReal) := by
  have htop : Ideal.ofBits .f32 0x7F800000#32 = ⊤ := by simp [Ideal.ofBits, Ideal.ieee]
  rw [htop] at h
  have hlt : max x (-x) < ⊤ := by
    by_contra hc
    simp [Ideal.cmp, hc] at h
  rw [max_lt_iff] at hlt
  refine (EReal.coe_toReal hlt.1.ne fun hb => ?_).symm
  rw [hb] at hlt
  simp at hlt

/-- Two bits whose conjunction is 1 are 1. -/
theorem both_one {a b : BitVec 1} (h : IntOp.andi a b = 1#1) : a = 1#1 ∧ b = 1#1 := by
  revert a b; decide

/-- The precondition holding of a memory, the queries, the values and the logits are real numbers. -/
theorem finite_of (m : (ℓ : Loc Cert.KernelIdeal.nD Cert.KernelIdeal.τ Cert.KernelIdeal.sig) → Buf (Elt Ideal) ℓ)
    (h : Cert.Pre_KernelIdeal_finite_inputs (hPre_finite_inputs := preFacts) m) (c : Dev Cert.KernelIdeal.nD) :
    Finite (Ker.Rk m c) (Ker.Lk m c) := by
  letI := preFacts
  have h0 := congrFun (h c) (fun a => a.elim0)
  obtain ⟨hr, hl⟩ := both_one h0
  haveI : Subsingleton Cert.Pre_finite_inputs.S_.Idx := ⟨fun a b => funext fun i => i.elim0⟩
  refine ⟨fun r j hr' hj => ?_, fun l o j => ?_⟩
  · have e := Host.reduce_andi_all _ _ _ _ _ hr (ix2 (⟨r.val, hr'⟩ : Fin 8192) (⟨j.val, hj⟩ : Fin 2048))
    refine real_of_abs _ ?_
    refine Eq.trans ?_ e
    have hi : (ix2 r j : Cert.KernelIdeal.S12288x7168.Idx)
        = (fun a => ⟨(![0, 0] : Fin 2 → Nat) a + ((ix2 (⟨r.val, hr'⟩ : Fin 8192) (⟨j.val, hj⟩ : Fin 2048)) a).val, by
            match a with
            | 0 => exact (by simpa using r.isLt)
            | 1 => exact (by simpa using j.isLt)⟩) := by
      funext a
      match a with
      | 0 => exact Fin.ext (Nat.zero_add _).symm
      | 1 => exact Fin.ext (Nat.zero_add _).symm
    unfold Ker.Rk
    rw [hi]
    rfl
  · exact real_of_abs _ (Host.reduce_andi_all _ _ _ _ _ hl (ix3 l o j))

/-! ## The two programs' results are equal -/

/-- The reference's first result. -/
abbrev Ref.out0 (m : (ℓ : Loc Cert.ReferenceIdeal.nD Cert.ReferenceIdeal.τ Cert.ReferenceIdeal.sig) → Buf (Elt Ideal) ℓ) (c : Dev Cert.ReferenceIdeal.nD) :=
  Cert.ReferenceIdeal.Value.out_main_v168 (Ref.VF m c)
/-- The reference's second result. -/
abbrev Ref.out1 (m : (ℓ : Loc Cert.ReferenceIdeal.nD Cert.ReferenceIdeal.τ Cert.ReferenceIdeal.sig) → Buf (Elt Ideal) ℓ) (c : Dev Cert.ReferenceIdeal.nD) :=
  Cert.ReferenceIdeal.Value.out_main_v169 (Ref.VF m c)
/-- The kernel's first result. -/
abbrev Ker.out0 (m : (ℓ : Loc Cert.KernelIdeal.nD Cert.KernelIdeal.τ Cert.KernelIdeal.sig) → Buf (Elt Ideal) ℓ) (c : Dev Cert.KernelIdeal.nD) :=
  (Cert.KernelIdeal.Gen.dats m 0 c).arrAt 9 Cert.KernelIdeal.cfg0.N
/-- The kernel's second result. -/
abbrev Ker.out1 (m : (ℓ : Loc Cert.KernelIdeal.nD Cert.KernelIdeal.τ Cert.KernelIdeal.sig) → Buf (Elt Ideal) ℓ) (c : Dev Cert.KernelIdeal.nD) :=
  (Cert.KernelIdeal.Gen.dats m 0 c).arrAt 10 Cert.KernelIdeal.cfg0.N

section
variable {mk : (ℓ : Loc Cert.KernelIdeal.nD Cert.KernelIdeal.τ Cert.KernelIdeal.sig) → Buf (Elt Ideal) ℓ}
  {mr : (ℓ : Loc Cert.ReferenceIdeal.nD Cert.ReferenceIdeal.τ Cert.ReferenceIdeal.sig) → Buf (Elt Ideal) ℓ}
  {c : Dev Cert.KernelIdeal.nD}
  (hZ : Ref.Zr mr c = Ker.Zk mk c) (hR : Ref.Rr mr c = Ker.Rk mk c) (hL : Ref.Lr mr c = Ker.Lk mk c) (hG : Ref.Gr mr c = Ker.Gk mk c)
  (hF : Finite (Ker.Rk mk c) (Ker.Lk mk c))

theorem head_split (h : Fin 8) : h = Ker.hd (⟨h.val / 2, by omega⟩ : Fin 4) (⟨h.val % 2, by omega⟩ : Fin 2) :=
  Fin.ext (by show h.val = 2 * (h.val / 2) + h.val % 2; omega)

theorem chan_split (j : Fin 1024) : j = ch (⟨j.val / 128, by omega⟩ : Fin 8) (⟨j.val % 128, by omega⟩ : Fin 128) :=
  Fin.ext (by show j.val = 128 * (j.val / 128) + j.val % 128; omega)

theorem row_split (t : Fin 256) : t = row (⟨t.val / 128, by omega⟩ : Fin 2) (⟨t.val % 128, by omega⟩ : Fin 128) :=
  Fin.ext (by show t.val = 128 * (t.val / 128) + t.val % 128; omega)

theorem seq_split (r : Fin 12288) (hr : r.val < 8192) :
    r = rw (⟨r.val / 256, by omega⟩ : Fin 32) (⟨r.val % 256, by omega⟩ : Fin 256) :=
  Fin.ext (by show r.val = 256 * (r.val / 256) + r.val % 256; omega)

include hZ hR hL hG hF in
/-- The gated recurrence outputs agree. -/
theorem out_eq : (Ref.out0 mr c : FVec Ideal Cert.KernelIdeal.S12288x1024 .bf16) = Ker.out0 mk c := by
  have hF' : Finite (Ref.Rr mr c) (Ref.Lr mr c) := by rw [hR, hL]; exact hF
  funext i
  obtain ⟨r, j, rfl⟩ : ∃ (r : Fin 12288) (j : Fin 1024), i = ix2 r j := ⟨_, _, eq_ix2 i⟩
  by_cases hr : r.val < 8192
  · obtain ⟨s, t, rfl⟩ : ∃ s t, r = rw s t := ⟨_, _, seq_split r hr⟩
    obtain ⟨h, e, rfl⟩ : ∃ h e, j = ch h e := ⟨_, _, chan_split j⟩
    refine (Ref.ref_out hF' s t h e).trans ?_
    rw [hZ, hR, hL, hG]
    obtain ⟨p, hh, rfl⟩ : ∃ p hh, h = Ker.hd p hh := ⟨_, _, head_split h⟩
    obtain ⟨a, t', rfl⟩ : ∃ a t', t = row a t' := ⟨_, _, row_split t⟩
    exact (Ker.ker_out hF s p a hh t' e).symm
  · exact (Ref.ref_rest r j (by omega)).trans (Ker.ker_rest r j (by omega)).symm

include hZ hR hL hF in
/-- The states after the sequences agree. -/
theorem state_eq : (Ref.out1 mr c : FVec Ideal Cert.KernelIdeal.S32x1x2x8x128x128 .f32) = Ker.out1 mk c := by
  have hF' : Finite (Ref.Rr mr c) (Ref.Lr mr c) := by rw [hR, hL]; exact hF
  funext i
  obtain ⟨s, z, o, h, d, e, rfl⟩ : ∃ (s : Fin 32) (z : Fin 1) (o : Fin 2) (h : Fin 8) (d e : Fin 128), i = ix6 s z o h d e :=
    ⟨_, _, _, _, _, _, eq_ix6 i⟩
  obtain rfl : z = 0 := Subsingleton.elim _ _
  refine (Ref.ref_state hF' s o h d e).trans ?_
  rw [hZ, hR, hL]
  obtain ⟨p, hh, rfl⟩ : ∃ p hh, h = Ker.hd p hh := ⟨_, _, head_split h⟩
  exact (Ker.ker_state hF s p o hh d e).symm

end

/-! ## The reference's runs, and the two programs joined -/

/-- The reference runs, leaves its arguments and has no semaphore to leave nonzero. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2, sem_eq_zero_of_no_sems (by decide) r.2⟩) (Cert.ReferenceIdeal.Value.run m ρ)

/-- The two programs leave equal results, of memories whose arguments agree and satisfy the precondition. -/
theorem joined : Cert.algebraic_KernelIdeal_ReferenceIdeal_pre_finite_inputs (hKernelIdeal := Cert.KernelIdeal.Gen.facts)
    (hReferenceIdeal := Cert.ReferenceIdeal.Gen.facts) (hPre_finite_inputs := preFacts) := by
  intro m g m' g' hpre hag
  refine ⟨fun c => Ker.out0 m c, fun c => Ker.out1 m c, Cert.KernelIdeal.Value.run_blocks m g, ?_⟩
  refine (θ_run _ _ _).mono (fun r h c => ?_) (Cert.ReferenceIdeal.Value.run m' g')
  obtain ⟨e0, e1, e2, e3⟩ := hag c
  have hF := finite_of m hpre c
  have hZ : Ref.Zr m' c = Ker.Zk m c := funext fun r => funext fun j => congrFun e0 (ix2 r j)
  have hR : Ref.Rr m' c = Ker.Rk m c := funext fun r => funext fun j => congrFun e1 (ix2 r j)
  have hL : Ref.Lr m' c = Ker.Lk m c := funext fun l => funext fun o => funext fun j => congrFun e2 (ix3 l o j)
  have hG : Ref.Gr m' c = Ker.Gk m c := funext fun j => congrFun e3 (ix2 (0 : Fin 1) j)
  exact ⟨(h c).1.trans (out_eq hZ hR hL hG hF), (h c).2.1.trans (state_eq hZ hR hL hF), (h c).2.2⟩

end Cert.Hgrn

end
-- ==== Proof.InStep.lean ====
/- What one point of the input projection's kernel does, over any float type: the four ways through its
   conditionals, each run from whole buffers. At the first column of a row block the kernel normalises and
   modulates the block's rows into its scratch buffer — from the first array of rows or from the second —, at
   the first two columns it stores the gate product, at the others the rest of the projection. -/
module

public import proofs.«01_k».proof.Proof.Gen.Kernel2Ideal.Frame
public import proofs.«01_k».proof.Proof.Gen.Kernel2Ideal.Skeleton
public import Idealize.ShloMosaic.Lib.Pipeline.Value

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition for normalising a block of the first array's rows. -/
abbrev condFirst (i : grid0.Coords) : Prop :=
  Scalar.cmpi .ne (Scalar.extui (Scalar.andi (Scalar.cmpi .eq (BitVec.ofNat 32 (i 1).val) 0#32)
    (Scalar.cmpi .slt (BitVec.ofNat 32 (i 0).val) 8#32)) : BitVec 32) 0#32 = 1#1

/-- The condition for normalising a block of the second array's rows. -/
abbrev condSecond (i : grid0.Coords) : Prop :=
  Scalar.cmpi .ne (Scalar.extui (Scalar.andi (Scalar.cmpi .eq (BitVec.ofNat 32 (i 1).val) 0#32)
    (Scalar.cmpi .sge (BitVec.ofNat 32 (i 0).val) 8#32)) : BitVec 32) 0#32 = 1#1

/-- The condition for storing the gate product. -/
abbrev condGate (i : grid0.Coords) : Prop := k0_cond3 i = 1#1

/-- The condition for storing the rest of the projection. -/
abbrev condRest (i : grid0.Coords) : Prop := k0_cond4 i = 1#1

/-- Row `k` of a point's block of modulation rows, as the kernel loads it. -/
def modRow0 (x2 : Vec F S1x6x1024 .f32) : Vec F S1x1x1024 .f32 :=
  View.ld x2 (Rect.unit (s := S1x6x1024) ![0, 0, 0] S1x1x1024.size inb_S1x6x1024_S1x1x1024_0_0_0)

/-- Row 1 of a point's block of modulation rows, as the kernel loads it. -/
def modRow1 (x2 : Vec F S1x6x1024 .f32) : Vec F S1x1x1024 .f32 :=
  View.ld x2 (Rect.unit (s := S1x6x1024) ![0, 1, 0] S1x1x1024.size inb_S1x6x1024_S1x1x1024_0_1_0)

/-- The normalised, modulated rows of a block `x` under scale `g` and modulation rows `x2`. -/
def hRows (x : Vec F S1024x1024 .f32) (x2 : Vec F S1x6x1024 .f32) (g : Vec F S1x1024 .f32) : Vec F S1024x1024 .bf16 :=
  k0_pay1 x g (modRow1 x2) (modRow0 x2)

/-- Two zeros, as offsets of a two-axis rectangle. -/
theorem zeros2 : (![0, 0] : Fin 2 → Nat) = fun _ => 0 := by funext a; fin_cases a <;> rfl

/-- One store over a whole buffer leaves its payload. -/
theorem storeWhole {sg : RefSig} {κ : Kind} {sp : Space} {S : Shape} {e : EltTy} (v : View sg κ sp S e)
    (f : v.ty.Contents (Elt F)) {off : Fin S.rank → Nat} (inb : ∀ a, off a + S.size a ≤ S.size a)
    (h : off = fun _ => 0) (w : S.Idx → Elt F e) :
    v.read (Elt F) (v.writes (Elt F) f [⟨Rect.unit off S.size inb, w⟩]) = w :=
  (View.read_writes_eq_canon _ _ _ fun y => ⟨_, List.mem_singleton_self _, View.mem_set_unit_zero h inb y⟩).trans
    (View.canon_unit_zero h inb w)

/-- A load through a rectangle of a whole buffer reads its contents there. -/
theorem readPart {sg : RefSig} {κ : Kind} {sp : Space} {S : Shape} {e : EltTy} {v : Memref sg κ sp S e} (hv : v.IsWhole)
    (X : S.Idx → Elt F e) (r : Rect S) : v.view.readAt (Elt F) r.toLoadRect (hv.unread X) = View.ld X r := by
  have e : v.view.readAt (Elt F) r.toLoadRect (hv.unread X) = View.ld (v.view.read (Elt F) (hv.unread X)) r := rfl
  rw [e, hv.read_unread]

/-- A load of a whole buffer reads its contents. -/
theorem readWhole {sg : RefSig} {κ : Kind} {sp : Space} {S : Shape} {e : EltTy} {v : Memref sg κ sp S e} (hv : v.IsWhole)
    {off : Fin S.rank → Nat} (h : off = fun _ => 0) (inb : ∀ a, off a + S.size a ≤ S.size a) (X : S.Idx → Elt F e) :
    v.view.readAt (Elt F) (Rect.unit off S.size inb).toLoadRect (hv.unread X) = X :=
  (readPart hv X _).trans (View.ld_unit_zero h inb X)

set_option maxHeartbeats 1600000 in
/-- At the first column of a block of the first array: the block's rows normalised into the scratch, and their gate product stored. -/
theorem run_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole)
     (x0 : Vec F S1024x1024 .f32) (x1 : Vec F S1024x1024 .f32) (x2 : Vec F S1x6x1024 .f32) (x3 : Vec F S1x1024 .f32) (x4 : Vec F S1024x1024 .bf16) (x5 : Vec F S1024x1024 .f32) (x6 : Vec F S1024x1024 .bf16) (x7 : Vec F S1024x1024 .bf16)
     (hc1 : condFirst i) (hc2 : ¬ condSecond i) (hc3 : condGate i) (hc4 : ¬ condRest i)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (hRows x0 x2 x3) x4) ∗ owns (c : Thread nD τ) arg8 fullShare x6 ∗ owns (c : Thread nD τ) arg9 fullShare (hRows x0 x2 x3)) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; unfold run_first.sl.v16 run_first.sl.H7_1 hRows modRow0 modRow1
    refine (storeWhole _ _ _ zeros2 _).trans ?_
    rw [View.readCov_unit_zero _ zeros2, readWhole harg2 zeros2, readWhole harg5 zeros2, readPart harg4, readPart harg4, readWhole harg6 zeros2]
  isplitl [H6]
  · iexists _; isplitr
    swap; · iexact H6
    ipureintro; exact harg8.read_unread _
  iexists _; isplitr
  swap; · iexact H7
  ipureintro; unfold run_first.sl.H7_1 hRows modRow0 modRow1
  refine (storeWhole _ _ _ zeros2 _).trans ?_
  rw [readWhole harg2 zeros2, readWhole harg5 zeros2, readPart harg4, readPart harg4]

set_option maxHeartbeats 1600000 in
/-- At the first column of a block of the second array: the same from the second array's block. -/
theorem run_second (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole)
     (x0 : Vec F S1024x1024 .f32) (x1 : Vec F S1024x1024 .f32) (x2 : Vec F S1x6x1024 .f32) (x3 : Vec F S1x1024 .f32) (x4 : Vec F S1024x1024 .bf16) (x5 : Vec F S1024x1024 .f32) (x6 : Vec F S1024x1024 .bf16) (x7 : Vec F S1024x1024 .bf16)
     (hc1 : ¬ condFirst i) (hc2 : condSecond i) (hc3 : condGate i) (hc4 : ¬ condRest i)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (hRows x1 x2 x3) x4) ∗ owns (c : Thread nD τ) arg8 fullShare x6 ∗ owns (c : Thread nD τ) arg9 fullShare (hRows x1 x2 x3)) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; unfold run_second.sl.v16 run_second.sl.H7_1 hRows modRow0 modRow1
    refine (storeWhole _ _ _ zeros2 _).trans ?_
    rw [View.readCov_unit_zero _ zeros2, readWhole harg3 zeros2, readWhole harg5 zeros2, readPart harg4, readPart harg4, readWhole harg6 zeros2]
    rfl
  isplitl [H6]
  · iexists _; isplitr
    swap; · iexact H6
    ipureintro; exact harg8.read_unread _
  iexists _; isplitr
  swap; · iexact H7
  ipureintro; unfold run_second.sl.H7_1 hRows modRow0 modRow1
  refine (storeWhole _ _ _ zeros2 _).trans ?_
  rw [readWhole harg3 zeros2, readWhole harg5 zeros2, readPart harg4, readPart harg4]
  rfl

set_option maxHeartbeats 1600000 in
/-- At the second column: the scratch's gate product stored. -/
theorem run_gate (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole)
     (x0 : Vec F S1024x1024 .f32) (x1 : Vec F S1024x1024 .f32) (x2 : Vec F S1x6x1024 .f32) (x3 : Vec F S1x1024 .f32) (x4 : Vec F S1024x1024 .bf16) (x5 : Vec F S1024x1024 .f32) (x6 : Vec F S1024x1024 .bf16) (x7 : Vec F S1024x1024 .bf16)
     (hc1 : ¬ condFirst i) (hc2 : ¬ condSecond i) (hc3 : condGate i) (hc4 : ¬ condRest i)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x7 x4) ∗ owns (c : Thread nD τ) arg8 fullShare x6 ∗ owns (c : Thread nD τ) arg9 fullShare x7) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact (storeWhole _ _ _ zeros2 _).trans (congrArg₂ k0_pay3 (readWhole harg9 zeros2 _ _) (readWhole harg6 zeros2 _ _))
  isplitl [H6]
  · iexists _; isplitr
    swap; · iexact H6
    ipureintro; exact harg8.read_unread _
  iexists _; isplitr
  swap; · iexact H7
  ipureintro; exact harg9.read_unread _

set_option maxHeartbeats 1600000 in
/-- At the later columns: the scratch's product stored in the rest of the projection. -/
theorem run_rest (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole)
     (x0 : Vec F S1024x1024 .f32) (x1 : Vec F S1024x1024 .f32) (x2 : Vec F S1x6x1024 .f32) (x3 : Vec F S1x1024 .f32) (x4 : Vec F S1024x1024 .bf16) (x5 : Vec F S1024x1024 .f32) (x6 : Vec F S1024x1024 .bf16) (x7 : Vec F S1024x1024 .bf16)
     (hc1 : ¬ condFirst i) (hc2 : ¬ condSecond i) (hc3 : ¬ condGate i) (hc4 : condRest i)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x7 x4) ∗ owns (c : Thread nD τ) arg9 fullShare x7) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact (storeWhole _ _ _ zeros2 _).trans (congrArg₂ k0_pay4 (readWhole harg9 zeros2 _ _) (readWhole harg6 zeros2 _ _))
  iexists _; isplitr
  swap; · iexact H7
  ipureintro; exact harg9.read_unread _

end Cert.Inproj

end
-- ==== Proof.InRun.lean ====
/- The run of the input projection's kernel, over any float type: what its buffers hold after each point of the
   12 by 9 grid, the body's obligation at every point, and the run's final state. Points 9 i, …, 9 i + 8 treat row
   block i: the first one fills the scratch buffer, which the others read; the gate's buffer, stored at the first
   two, rests untouched until the last one writes it back. -/
module

public import proofs.«01_k».proof.Proof.InStep
public import Idealize.ShloMosaic.Lib.Pipeline.TableIdle
public import Idealize.ShloMosaic.Lib.Claim

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- A point's number is below 108. -/
theorem pt_lt (t : Fin cfg0.N) : t.val < 108 := N_0 ▸ t.isLt

/-- The first point of a point's row block. -/
def rowPt (t : Fin cfg0.N) : Fin cfg0.N := ⟨9 * (t.val / 9), lt_of_le_of_lt (by omega) t.isLt⟩

/-- The last point at which the gate's buffer was stored, of a point's row block. -/
def gatePt (t : Fin cfg0.N) : Fin cfg0.N := ⟨9 * (t.val / 9) + min (t.val % 9) 1, lt_of_le_of_lt (by omega) t.isLt⟩

theorem first_iff : ∀ t : Fin cfg0.N, condFirst (grid0.coords t) ↔ t.val % 9 = 0 ∧ t.val < 72 :=
  (by decide +kernel : ∀ t : Fin grid0.N, condFirst (grid0.coords t) ↔ t.val % 9 = 0 ∧ t.val < 72)
theorem second_iff : ∀ t : Fin cfg0.N, condSecond (grid0.coords t) ↔ t.val % 9 = 0 ∧ 72 ≤ t.val :=
  (by decide +kernel : ∀ t : Fin grid0.N, condSecond (grid0.coords t) ↔ t.val % 9 = 0 ∧ 72 ≤ t.val)
theorem gate_iff : ∀ t : Fin cfg0.N, condGate (grid0.coords t) ↔ t.val % 9 < 2 :=
  (by decide +kernel : ∀ t : Fin grid0.N, condGate (grid0.coords t) ↔ t.val % 9 < 2)
theorem rest_iff : ∀ t : Fin cfg0.N, condRest (grid0.coords t) ↔ 2 ≤ t.val % 9 :=
  (by decide +kernel : ∀ t : Fin grid0.N, condRest (grid0.coords t) ↔ 2 ≤ t.val % 9)
theorem flush5 : ∀ t : Fin cfg0.N, (cfg0.win 5).flush t = decide (t.val % 9 = 0 ∨ t.val % 9 = 8) :=
  (by decide +kernel : ∀ t : Fin grid0.N, win0_5.flush t = decide (t.val % 9 = 0 ∨ t.val % 9 = 8))
theorem flush6 : ∀ t : Fin cfg0.N, (cfg0.win 6).flush t = decide (2 ≤ t.val % 9) :=
  (by decide +kernel : ∀ t : Fin grid0.N, win0_6.flush t = decide (2 ≤ t.val % 9))
theorem idle5 : ∀ t : Fin cfg0.N, cfg0.idle 5 (cfg0.grid.coords t) = decide (2 ≤ t.val % 9) :=
  (by decide +kernel : ∀ t : Fin grid0.N, (!(k0_cond3 (grid0.coords t) == 1#1)) = decide (2 ≤ t.val % 9))
theorem idle6 : ∀ t : Fin cfg0.N, cfg0.idle 6 (cfg0.grid.coords t) = decide (t.val % 9 < 2) :=
  (by decide +kernel : ∀ t : Fin grid0.N, (!(k0_cond4 (grid0.coords t) == 1#1)) = decide (t.val % 9 < 2))

/-- The gate's buffer is fresh exactly before the first two points of a row block. -/
theorem fresh5 (n : ℕ) (h : n ≤ cfg0.N) : cfg0.fresh 5 n = decide (n % 9 < 2) :=
  cfg0.fresh_tab 5 (fun n => decide (n % 9 < 2)) rfl (fun t => by
    rw [flush5, idle5]
    have : ∀ a : ℕ, a < 9 → decide ((a + 1) % 9 < 2) = (decide (a = 0 ∨ a = 8) || decide (2 ≤ a) && decide (a < 2)) := by decide
    rw [show (t.val + 1) % 9 = (t.val % 9 + 1) % 9 by omega]
    exact this _ (by omega)) n h

/-! ## What the buffers hold -/

/-- The normalised rows in the scratch buffer while a point's row block is treated. -/
def hBlk (c : Dev nD) (t : Fin cfg0.N) : Vec F S1024x1024 .bf16 :=
  hRows (if t.val < 72 then iblk m c 0 (rowPt t) else iblk m c 1 (rowPt t)) (iblk m c 2 (rowPt t)) (iblk m c 3 (rowPt t))

/-- The gate's buffer after a point. -/
def gateBlk (c : Dev nD) (t : Fin cfg0.N) : Vec F S1024x1024 .f32 := k0_pay3 (hBlk m c t) (iblk m c 4 (gatePt t))

/-- The other output's buffer after a point that stores it. -/
def restBlk (c : Dev nD) (t : Fin cfg0.N) : Vec F S1024x1024 .bf16 := k0_pay4 (hBlk m c t) (iblk m c 4 t)

/-- Within a row block the scratch buffer's contents stay. -/
theorem hBlk_prev (c : Dev nD) (t : Fin cfg0.N) (h : t.val % 9 ≠ 0) (h' : t.val - 1 < cfg0.N) :
    hBlk m c ⟨t.val - 1, h'⟩ = hBlk m c t := by
  have hr : rowPt ⟨t.val - 1, h'⟩ = rowPt t := Fin.ext (by show 9 * ((t.val - 1) / 9) = 9 * (t.val / 9); omega)
  unfold hBlk
  rw [hr]
  by_cases h72 : t.val < 72
  · rw [if_pos h72, if_pos (by show t.val - 1 < 72; omega)]
  · rw [if_neg h72, if_neg (by show ¬ t.val - 1 < 72; omega)]

/-- At the later points of a row block the gate's buffer stays. -/
theorem gateBlk_prev (c : Dev nD) (t : Fin cfg0.N) (h : 2 ≤ t.val % 9) (h' : t.val - 1 < cfg0.N) :
    gateBlk m c ⟨t.val - 1, h'⟩ = gateBlk m c t := by
  have hg : gatePt ⟨t.val - 1, h'⟩ = gatePt t :=
    Fin.ext (by show 9 * ((t.val - 1) / 9) + min ((t.val - 1) % 9) 1 = 9 * (t.val / 9) + min (t.val % 9) 1; omega)
  unfold gateBlk
  rw [hBlk_prev m c t (by omega), hg]

/-- The scratch buffer, whole. -/
abbrev scM : Memref sig .tc .vmem S1024x1024 .bf16 := Memref.whole cc0_scratch0

/-- The buffers beside the windows', between row blocks: the scratch buffer and the generator register at anything. -/
theorem PhiA_eq (c : Dev nD) :
    (Pipeline.ΦA spec0 c : sProp 𝕄) = iprop((∃ d, owns (c : Thread nD τ) scM fullShare d) ∗ ∃ r, prngReg c r) := by
  unfold Pipeline.ΦA; rw [scopedRest0_eq]; simp only [scM, owns_whole]; try rfl

/-- The buffers beside the windows', before point `n`: within a row block the scratch buffer holds its rows. -/
def PhiS (c : Dev nD) (n : ℕ) (h : n ≤ cfg0.N) : sProp 𝕄 :=
  if hn : n % 9 = 0 then Pipeline.ΦA spec0 c
  else iprop(owns (c : Thread nD τ) scM fullShare (hBlk m c ⟨n - 1, by omega⟩) ∗ ∃ r, prngReg c r)

theorem PhiS_start (c : Dev nD) (n : ℕ) (h : n ≤ cfg0.N) (hn : n % 9 = 0) : PhiS m c n h = Pipeline.ΦA spec0 c := dif_pos hn

theorem PhiS_before (c : Dev nD) (t : Fin cfg0.N) (hn : t.val % 9 ≠ 0) :
    PhiS m c t.val (Nat.le_of_lt t.isLt) = iprop(owns (c : Thread nD τ) scM fullShare (hBlk m c t) ∗ ∃ r, prngReg c r) := by
  unfold PhiS
  rw [dif_neg hn, hBlk_prev m c t hn]

theorem PhiS_after (c : Dev nD) (t : Fin cfg0.N) :
    iprop(owns (c : Thread nD τ) scM fullShare (hBlk m c t) ∗ ∃ r, prngReg c r) ⊢ PhiS m c (t.val + 1) t.isLt := by
  by_cases hn : (t.val + 1) % 9 = 0
  · rw [PhiS_start m c _ _ hn, PhiA_eq]
    iintro ⟨H, Hg⟩
    isplitl [H]
    · iexists _; iexact H
    iexact Hg
  · unfold PhiS
    rw [dif_neg hn]
    exact .rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gateBlk m c t
    | ⟨6, _⟩ => restBlk m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = gateBlk m c t := by dsimp only [dats]
theorem after6 (c : Dev nD) (t : Fin cfg0.N) : (dats m 0 c).after 6 t = restBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At the later points of a row block the gate's buffer is found as the second point left it. -/
theorem before5 (c : Dev nD) (t : Fin cfg0.N) (h : 2 ≤ t.val % 9) (d) : (dats m 0 c).before 5 t d = gateBlk m c t := by
  have e := (dats m 0 c).before_out_traj 5 rfl (fun _ _ => rfl) (fun t _ hi _ => by
    rw [after5, after5, gateBlk_prev m c t (by rw [idle5] at hi; exact of_decide_eq_true hi)]) t.val t rfl d
  rw [e, fresh5 _ (Nat.le_of_lt t.isLt), decide_eq_false (by omega), if_neg Bool.false_ne_true, after5, gateBlk_prev m c t h]

/-! ## The body's obligation -/

abbrev ms0 (t : Fin cfg0.N) : Memref sig .tc .vmem S1024x1024 .f32 := win0_0.stage (cfg0.slots t 0)
abbrev ms1 (t : Fin cfg0.N) : Memref sig .tc .vmem S1024x1024 .f32 := win0_1.stage (cfg0.slots t 1)
abbrev ms2 (t : Fin cfg0.N) : Memref sig .tc .vmem S1x6x1024 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1024x1024 .f32 := win0_5.stage (cfg0.slots t 5)
abbrev ms6 (t : Fin cfg0.N) : Memref sig .tc .vmem S1024x1024 .bf16 := win0_6.stage (cfg0.slots t 6)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns, the outputs' buffers at `W5` and `W6`. -/
def bodyPost (c : Dev nD) (t : Fin cfg0.N) (W5 W6 : sProp 𝕄) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ W5 ∗ W6)

/-- The two outputs' buffers as the body leaves them where it stores them, and as it found them. -/
abbrev left5 (c : Dev nD) (t : Fin cfg0.N) : sProp 𝕄 := owns (c : Thread nD τ) (ms5 t) fullShare ((dats m 0 c).after 5 t)
abbrev left6 (c : Dev nD) (t : Fin cfg0.N) : sProp 𝕄 := owns (c : Thread nD τ) (ms6 t) fullShare ((dats m 0 c).after 6 t)
abbrev same5 (c : Dev nD) (t : Fin cfg0.N) : sProp 𝕄 := iprop(∃ d, owns (c : Thread nD τ) (ms5 t) fullShare ((dats m 0 c).before 5 t d))
abbrev same6 (c : Dev nD) (t : Fin cfg0.N) : sProp 𝕄 := iprop(∃ d, owns (c : Thread nD τ) (ms6 t) fullShare ((dats m 0 c).before 6 t d))

/-- The invariant before a point and after it. -/
theorem Phi_before (c : Dev nD) (t : Fin cfg0.N) : (dats m 0 c).Φ t.castSucc = PhiS m c t.val (Nat.le_of_lt t.isLt) := by
  dsimp only [dats]; exact Pipeline.Dat.Φ_castSucc (PhiS m c) t
theorem Phi_after (c : Dev nD) (t : Fin cfg0.N) : (dats m 0 c).Φ t.succ = PhiS m c (t.val + 1) t.isLt := by
  dsimp only [dats]; rfl

set_option maxHeartbeats 1600000 in
/-- The first point of a row block of the first array. -/
theorem sound_first (c : Dev nD) (t : Fin cfg0.N) (h0 : t.val % 9 = 0) (h72 : t.val < 72) :
    bodyPre m c t ⊢ wp frame (wpE (defs₀ (F := F)) Variants.none c none) Set.univ (bodyAt0 t)
      (fun _ => bodyPost m c t (left5 m c t) (same6 m c t)) := by
  unfold bodyPre bodyPost bodyAt0 left5 same6
  simp only [before0, before1, before2, before3, before4]
  rw [show (dats m 0 c).owesAt () t.succ = (dats m 0 c).owesAt () t.castSucc from rfl,
    after0, after1, after2, after3, after4, after5, Phi_before, Phi_after]
  rw [PhiS_start m c _ _ h0, PhiA_eq]
  have hr : rowPt t = t := Fin.ext (by show 9 * (t.val / 9) = t.val; omega)
  have hg : gatePt t = t := Fin.ext (by show 9 * (t.val / 9) + min (t.val % 9) 1 = t.val; omega)
  have hh : hBlk m c t = hRows (iblk m c 0 t) (iblk m c 2 t) (iblk m c 3 t) := by unfold hBlk; rw [if_pos h72, hr]
  unfold gateBlk
  rw [hg, hh]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords t) (ms0 t) _ (ms1 t) _ (ms2 t) _ (ms3 t) _ (ms4 t) _ (ms5 t) _ (ms6 t) _ scM _
    (iblk m c 0 t) (iblk m c 1 t) (iblk m c 2 t) (iblk m c 3 t) (iblk m c 4 t) _ _ _
    ((first_iff t).mpr ⟨h0, h72⟩) (fun h => by have := (second_iff t).mp h; omega) ((gate_iff t).mpr (by omega)) (fun h => by have := (rest_iff t).mp h; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · rw [← hh]
    iapply (PhiS_after m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 1600000 in
/-- The first point of a row block of the second array. -/
theorem sound_second (c : Dev nD) (t : Fin cfg0.N) (h0 : t.val % 9 = 0) (h72 : 72 ≤ t.val) :
    bodyPre m c t ⊢ wp frame (wpE (defs₀ (F := F)) Variants.none c none) Set.univ (bodyAt0 t)
      (fun _ => bodyPost m c t (left5 m c t) (same6 m c t)) := by
  unfold bodyPre bodyPost bodyAt0 left5 same6
  simp only [before0, before1, before2, before3, before4]
  rw [show (dats m 0 c).owesAt () t.succ = (dats m 0 c).owesAt () t.castSucc from rfl,
    after0, after1, after2, after3, after4, after5, Phi_before, Phi_after]
  rw [PhiS_start m c _ _ h0, PhiA_eq]
  have hr : rowPt t = t := Fin.ext (by show 9 * (t.val / 9) = t.val; omega)
  have hg : gatePt t = t := Fin.ext (by show 9 * (t.val / 9) + min (t.val % 9) 1 = t.val; omega)
  have hh : hBlk m c t = hRows (iblk m c 1 t) (iblk m c 2 t) (iblk m c 3 t) := by unfold hBlk; rw [if_neg (Nat.not_lt.mpr h72), hr]
  unfold gateBlk
  rw [hg, hh]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run_second c (grid0.coords t) (ms0 t) _ (ms1 t) _ (ms2 t) _ (ms3 t) _ (ms4 t) _ (ms5 t) _ (ms6 t) _ scM _
    (iblk m c 0 t) (iblk m c 1 t) (iblk m c 2 t) (iblk m c 3 t) (iblk m c 4 t) _ _ _
    (fun h => by have := (first_iff t).mp h; omega) ((second_iff t).mpr ⟨h0, h72⟩) ((gate_iff t).mpr (by omega)) (fun h => by have := (rest_iff t).mp h; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · rw [← hh]
    iapply (PhiS_after m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 1600000 in
/-- The second point of a row block. -/
theorem sound_gate (c : Dev nD) (t : Fin cfg0.N) (h1 : t.val % 9 = 1) :
    bodyPre m c t ⊢ wp frame (wpE (defs₀ (F := F)) Variants.none c none) Set.univ (bodyAt0 t)
      (fun _ => bodyPost m c t (left5 m c t) (same6 m c t)) := by
  unfold bodyPre bodyPost bodyAt0 left5 same6
  simp only [before0, before1, before2, before3, before4]
  rw [show (dats m 0 c).owesAt () t.succ = (dats m 0 c).owesAt () t.castSucc from rfl,
    after0, after1, after2, after3, after4, after5, Phi_before, Phi_after]
  rw [PhiS_before m c t (by omega)]
  have hg : gatePt t = t := Fin.ext (by show 9 * (t.val / 9) + min (t.val % 9) 1 = t.val; omega)
  unfold gateBlk
  rw [hg]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run_gate c (grid0.coords t) (ms0 t) _ (ms1 t) _ (ms2 t) _ (ms3 t) _ (ms4 t) _ (ms5 t) _ (ms6 t) _ scM _
    (iblk m c 0 t) (iblk m c 1 t) (iblk m c 2 t) (iblk m c 3 t) (iblk m c 4 t) _ _ (hBlk m c t)
    (fun h => by have := (first_iff t).mp h; omega) (fun h => by have := (second_iff t).mp h; omega) ((gate_iff t).mpr (by omega)) (fun h => by have := (rest_iff t).mp h; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · iapply (PhiS_after m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 1600000 in
/-- The points of a row block from the third to the last but one. -/
theorem sound_rest (c : Dev nD) (t : Fin cfg0.N) (h2 : 2 ≤ t.val % 9) :
    bodyPre m c t ⊢ wp frame (wpE (defs₀ (F := F)) Variants.none c none) Set.univ (bodyAt0 t)
      (fun _ => bodyPost m c t (same5 m c t) (left6 m c t)) := by
  unfold bodyPre bodyPost bodyAt0 same5 left6
  simp only [before0, before1, before2, before3, before4]
  rw [show (dats m 0 c).owesAt () t.succ = (dats m 0 c).owesAt () t.castSucc from rfl,
    after0, after1, after2, after3, after4, after6, Phi_before, Phi_after]
  rw [PhiS_before m c t (by omega)]
  unfold restBlk
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run_rest c (grid0.coords t) (ms0 t) _ (ms1 t) _ (ms2 t) _ (ms3 t) _ (ms4 t) _ (ms5 t) _ (ms6 t) _ scM _
    (iblk m c 0 t) (iblk m c 1 t) (iblk m c 2 t) (iblk m c 3 t) (iblk m c 4 t) _ _ (hBlk m c t)
    (fun h => by have := (first_iff t).mp h; omega) (fun h => by have := (second_iff t).mp h; omega) (fun h => by have := (gate_iff t).mp h; omega) ((rest_iff t).mpr (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · iapply (PhiS_after m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexact H6

set_option maxHeartbeats 1600000 in
/-- The last point of a row block, where the gate's buffer is written back as the second point left it. -/
theorem sound_last (c : Dev nD) (t : Fin cfg0.N) (h8 : t.val % 9 = 8) :
    bodyPre m c t ⊢ wp frame (wpE (defs₀ (F := F)) Variants.none c none) Set.univ (bodyAt0 t)
      (fun _ => bodyPost m c t (left5 m c t) (left6 m c t)) := by
  unfold bodyPre bodyPost bodyAt0 left5 left6
  simp only [before0, before1, before2, before3, before4]
  rw [show (dats m 0 c).owesAt () t.succ = (dats m 0 c).owesAt () t.castSucc from rfl,
    after0, after1, after2, after3, after4, after5, after6, Phi_before, Phi_after]
  rw [PhiS_before m c t (by omega)]
  simp only [before5 m c t (by omega : 2 ≤ t.val % 9)]
  unfold restBlk
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run_rest c (grid0.coords t) (ms0 t) _ (ms1 t) _ (ms2 t) _ (ms3 t) _ (ms4 t) _ (ms5 t) _ (ms6 t) _ scM _
    (iblk m c 0 t) (iblk m c 1 t) (iblk m c 2 t) (iblk m c 3 t) (iblk m c 4 t) _ _ (hBlk m c t)
    (fun h => by have := (first_iff t).mp h; omega) (fun h => by have := (second_iff t).mp h; omega) (fun h => by have := (gate_iff t).mp h; omega) ((rest_iff t).mpr (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · iapply (PhiS_after m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body's obligation at every point of the grid. -/
theorem body_obligation (c : Dev nD) : BodyObligation (dats (F := F) m 0 c) (defs₀ (F := F)) Variants.none () Set.univ := fun t => by
  rw [bigSep_W0, bigSep_W0, defs₀_row]
  have i5 : idle0 5 (grid0.coords t) = _ := idle5 t
  have i6 : idle0 6 (grid0.coords t) = _ := idle6 t
  have f5 : (win0 5).flush t = _ := flush5 t
  have f6 : (win0 6).flush t = _ := flush6 t
  by_cases h0 : t.val % 9 < 2
  · rw [decide_eq_false (by omega)] at i5
    rw [decide_eq_true h0] at i6
    rw [decide_eq_false (by omega)] at f6
    by_cases h1 : t.val % 9 = 1
    · exact triple_restated (sound_gate m c t h1) rfl .rfl fun _ => by simp only [i5, i6, f6]; exact .rfl
    · by_cases h72 : t.val < 72
      · exact triple_restated (sound_first m c t (by omega) h72) rfl .rfl fun _ => by simp only [i5, i6, f6]; exact .rfl
      · exact triple_restated (sound_second m c t (by omega) (by omega)) rfl .rfl fun _ => by simp only [i5, i6, f6]; exact .rfl
  · rw [decide_eq_true (by omega)] at i5
    rw [decide_eq_false h0] at i6
    by_cases h8 : t.val % 9 = 8
    · rw [decide_eq_true (by omega)] at f5
      exact triple_restated (sound_last m c t h8) rfl .rfl fun _ => by simp only [i5, i6, f5]; exact .rfl
    · rw [decide_eq_false (by omega)] at f5
      exact triple_restated (sound_rest m c t (by omega)) rfl .rfl fun _ => by simp only [i5, i6, f5]; exact .rfl

/-! ## The run and the frame -/

set_option backward.isDefEq.respectTransparency.types false in
/-- Every execution of the program ends, with the pipeline's arrays at what the proof data says, every other
    unscoped buffer as the pipeline found it and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m)
    (hin := fun c => (show _ ⊢ PhiS m c 0 (Nat.zero_le _) from by rw [PhiS_start m c 0 _ rfl]))
    (hout := fun c => (show PhiS m c cfg0.N le_rfl ⊢ _ from by rw [PhiS_start m c _ _ (by decide +kernel)]))

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Inproj

end
-- ==== Proof.InFrame.lean ====
/- The frame of the input projection as run: its text is the idealized program's, so the two bodies are one
   program and one run serves both. -/
module

public import proofs.«01_k».proof.Proof.InRun
public import proofs.«01_k».proof.Proof.Gen.Kernel2.Frame
public import proofs.«01_k».proof.Proof.Gen.Kernel2.Skeleton

public section

set_option maxRecDepth 65536

namespace Cert.Inproj

open Idealize.ShloMosaic Idealize.ShloMosaic.TcCoe

variable {F : FTy → Type} [FloatOps F]

/-- The two programs' kernel bodies are one. -/
theorem body_same : Cert.Kernel2.cc0_inproj (F := F) = Cert.Kernel2Ideal.cc0_inproj (F := F) :=
  Cert.Kernel2.Gen.cc0_inproj_eq_skeleton.trans
    ((show Cert.Kernel2.Gen.cc0_inproj_skel (F := F) = Cert.Kernel2Ideal.Gen.cc0_inproj_skel from rfl).trans
      Cert.Kernel2Ideal.Gen.cc0_inproj_eq_skeleton.symm)

/-- So are the tables of bodies. -/
theorem bodies_same : Cert.Kernel2.defs₀ (F := F) = Cert.Kernel2Ideal.defs₀ (F := F) := by
  unfold Cert.Kernel2.defs₀ Cert.Kernel2Ideal.defs₀
  rw [body_same]
  refine congrArg Defs.onTc (funext fun l => ?_)
  match l with
  | 0 => rfl

/-- And the programs' procedures. -/
theorem defs_same : Cert.Kernel2.defs (F := F) = Cert.Kernel2Ideal.defs (F := F) := by
  unfold Cert.Kernel2.defs Cert.Kernel2Ideal.defs
  rw [bodies_same]
  rfl

open Cert.Kernel2 in
/-- The argument arrays of the program as run end unchanged, and every semaphore counter at zero. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same]
  exact Cert.Inproj.frame (F := F) m ρ

end Cert.Inproj
-- ==== Proof.InModel.lean ====
/- The input projection's arithmetic in extended reals — a row divided by its root mean square, scaled, modulated and
   multiplied with a column of weights — and the kernel's stored blocks as it. -/
module

public import proofs.«01_k».proof.Proof.InRun
public import Idealize.ShloMosaic.Lib.KernelVsHost
public import Idealize.ShloMosaic.Lib.MatmulPlain
public import Idealize.ShloMosaic.Lib.ValueLayout
public import Idealize.ShloMosaic.Lib.IdealHost

@[expose] public section

set_option maxRecDepth 16384

noncomputable section

namespace Cert.Inproj

open Idealize.ShloMosaic Idealize.ShloMosaic.TcCoe Idealize.ShloMosaic.ValueIdx

/-- Entry `k` of a row `X` divided by its root mean square, times the scale `g`, times one plus `sc`, plus `sh`. -/
def hMod (X g sc sh : Fin 1024 → EReal) (k : Fin 1024) : EReal :=
  X k * Ideal.rsqrt (Ideal.div (∑ j, X j * X j) (Ideal.ofBits .f32 0x44800000#32) + Ideal.ofBits .f32 0x358637BD#32) * g k
    * (Ideal.ofBits .f32 0x3F800000#32 + sc k) + sh k

/-- That row times a column of weights. -/
def projOf (X g sc sh W : Fin 1024 → EReal) : EReal := ∑ k, hMod X g sc sh k * W k

/-- The tokens' rows, the contexts' before the samples'. -/
def rowX (XP : Fin 32 → Fin 256 → Fin 1024 → EReal) (XS : Fin 2 → Fin 2048 → Fin 1024 → EReal) (r : Fin 12288) : Fin 1024 → EReal :=
  if h : r.val < 8192 then XP ⟨r.val / 256, by omega⟩ ⟨r.val % 256, by omega⟩
  else XS ⟨(r.val - 8192) / 2048, by omega⟩ ⟨(r.val - 8192) % 2048, by omega⟩

/-- The modulation row of a token: row 0 of the context, row 1 + b of sample b. -/
def rowM (r : Fin 12288) : Fin 8 := if h : r.val < 8192 then 0 else ⟨1 + (r.val - 8192) / 2048, by omega⟩

/-- Entry `(r, j)` of the projection of both token sets. -/
def proj (XP : Fin 32 → Fin 256 → Fin 1024 → EReal) (XS : Fin 2 → Fin 2048 → Fin 1024 → EReal) (M : Fin 8 → Fin 6144 → EReal)
    (G : Fin 1024 → EReal) (W : Fin 1024 → Fin 9216 → EReal) (r : Fin 12288) (j : Fin 9216) : EReal :=
  projOf (rowX XP XS r) G (fun k => M (rowM r) ⟨1024 + k.val, by omega⟩) (fun k => M (rowM r) ⟨k.val, by omega⟩) (fun k => W k j)

/-- Where the gates' column `j` lies in the projection. -/
def gateCol (j : Fin 2048) : Fin 9216 := ⟨1024 + j.val, by omega⟩

/-- Where the other columns lie in the projection. -/
def restCol (j : Fin 7168) : Fin 9216 := if h : j.val < 1024 then ⟨j.val, by omega⟩ else ⟨2048 + j.val, by omega⟩

section Cells

open Cert.Kernel2Ideal Cert.Kernel2Ideal.Gen

theorem mul_ap {s : Shape} {φ : FTy} (x y : FVec Ideal s φ) (i : s.Idx) : mulf x y i = (x i * y i : EReal) := rfl
theorem add_ap {s : Shape} {φ : FTy} (x y : FVec Ideal s φ) (i : s.Idx) : addf x y i = (x i + y i : EReal) := rfl
theorem div_ap {s : Shape} {φ : FTy} (x y : FVec Ideal s φ) (i : s.Idx) : divf x y i = (Ideal.div (x i) (y i) : EReal) := rfl
theorem rsqrt_ap {s : Shape} {φ : FTy} (x : FVec Ideal s φ) (i : s.Idx) : rsqrt x i = (Ideal.rsqrt (x i) : EReal) := rfl
theorem trunc_ap {s : Shape} (x : FVec Ideal s .f32) (h) (i : s.Idx) : truncf .bf16 x h i = (x i : EReal) := rfl
theorem lit_ap {s : Shape} (v : Ideal .f32) (i : s.Idx) : broadcast s v i = (v : EReal) := rfl

section Layout
variable {α : Type}

/-- A cast to the same shape. -/
theorem sc_self (s : Shape) (x : s.Idx → α) (h : s.ShapeCasts s) (i : s.Idx) : shapeCast s x h i = x i :=
  shapeCast_apply x h i i rfl
/-- One number per row, as a column. -/
theorem sc_col (x : S1024.Idx → α) (h : S1024.ShapeCasts S1024x1) (r : Fin 1024) :
    shapeCast S1024x1 x h (ix2 r (0 : Fin 1)) = x (ix1 r) :=
  shapeCast_apply x h _ _ (by
    rw [Shape.rowMajor_val_two, Shape.rowMajor_val_one]; show r.val = r.val * 1 + 0; omega)
/-- A row of a block of rows. -/
theorem sc_row (x : S1x1x1024.Idx → α) (h : S1x1x1024.ShapeCasts S1x1024) (k : Fin 1024) :
    shapeCast S1x1024 x h (ix2 (0 : Fin 1) k) = x (ix3 (0 : Fin 1) (0 : Fin 1) k) :=
  shapeCast_apply x h _ _ (by
    rw [Shape.rowMajor_val_three, Shape.rowMajor_val_two]; show (0 * 1 + 0) * 1024 + k.val = 0 * 1024 + k.val; omega)
/-- A column repeated. -/
theorem bct_col (x : S1024x1.Idx → α) (h : S1024x1.Broadcasts S1024x1024) (r k : Fin 1024) :
    broadcastTo S1024x1024 x h (ix2 r k) = x (ix2 r (0 : Fin 1)) :=
  broadcastTo_apply x h _ _ (fun a => by
    match a with
    | ⟨0, _⟩ => rfl
    | ⟨1, _⟩ => rfl)
/-- A row repeated. -/
theorem bct_row (x : S1x1024.Idx → α) (h : S1x1024.Broadcasts S1024x1024) (r k : Fin 1024) :
    broadcastTo S1024x1024 x h (ix2 r k) = x (ix2 (0 : Fin 1) k) :=
  broadcastTo_apply x h _ _ (fun a => by
    match a with
    | ⟨0, _⟩ => rfl
    | ⟨1, _⟩ => rfl)
end Layout

/-- The sum over a row. -/
theorem rowSum (x : FVec Ideal S1024x1024 .f32) (h : S1024x1024.Reduces [1] S1024) (hφ : FKind.Formats .f32)
    (acc : BitVec 32) (hacc : acc = FKind.add.neutral .f32 hφ) (r : Fin 1024) :
    multiReduction .add [1] S1024 x acc h hφ hacc (ix1 r) = ∑ j : Fin 1024, x (ix2 r j) :=
  (Ideal.multiReduction_add_single x _ h hφ hacc (ix1 r)).trans (Finset.sum_congr rfl fun k _ =>
    congrArg x (funext fun a => Fin.ext (by
      match a with
      | ⟨0, _⟩ => rfl
      | ⟨1, _⟩ => rfl)))

/-- Rows times columns. -/
theorem mm (L R : FVec Ideal S1024x1024 .bf16) (i j : Fin 1024) :
    matmul dot_S1024x1024_S1024x1024_S1024x1024_1_0_0_1_n_n none L R (constant S1024x1024 .f32 0x00000000#32) (ix2 i j)
      = ∑ k : Fin 1024, L (ix2 i k) * R (ix2 k j) :=
  (Ideal.matmul_plain_apply (M := 1024) (K := 1024) (N := 1024) none L R (constant S1024x1024 .f32 0x00000000#32) i j).trans (by
    show Ideal.ofBits .f32 0x00000000#32 + _ = _
    rw [Ideal.ofBits_zero_f32, zero_add])

/-- The rows the kernel puts into its scratch buffer. -/
theorem hRows_ap (x : Vec Ideal S1024x1024 .f32) (x2 : Vec Ideal S1x6x1024 .f32) (g : Vec Ideal S1x1024 .f32) (r k : Fin 1024) :
    (hRows x x2 g : FVec Ideal S1024x1024 .bf16) (ix2 r k)
      = hMod (fun j => x (ix2 r j)) (fun j => g (ix2 (0 : Fin 1) j)) (fun j => x2 (ix3 (0 : Fin 1) (1 : Fin 6) j))
          (fun j => x2 (ix3 (0 : Fin 1) (0 : Fin 6) j)) k := by
  have e1 : ∀ j : Fin 1024, modRow1 x2 (ix3 (0 : Fin 1) (0 : Fin 1) j) = x2 (ix3 (0 : Fin 1) (1 : Fin 6) j) := fun j =>
    congrArg x2 (funext fun a => Fin.ext (by
      match a with
      | ⟨0, _⟩ => rfl
      | ⟨1, _⟩ => rfl
      | ⟨2, _⟩ => show 0 + 1 * j.val = j.val; omega))
  have e0 : ∀ j : Fin 1024, modRow0 x2 (ix3 (0 : Fin 1) (0 : Fin 1) j) = x2 (ix3 (0 : Fin 1) (0 : Fin 6) j) := fun j =>
    congrArg x2 (funext fun a => Fin.ext (by
      match a with
      | ⟨0, _⟩ => rfl
      | ⟨1, _⟩ => rfl
      | ⟨2, _⟩ => show 0 + 1 * j.val = j.val; omega))
  unfold hRows k0_pay1 hMod
  simp only [sc_self, trunc_ap, add_ap, mul_ap, bct_col, bct_row, rsqrt_ap, div_ap, lit_ap, sc_col, sc_row, e0, e1]
  have e := rowSum (mulf (shapeCast S1024x1024 x shapeCasts_S1024x1024_S1024x1024) (shapeCast S1024x1024 x shapeCasts_S1024x1024_S1024x1024))
    reduces_S1024x1024_S1024 (.inl rfl) 0x00000000#32 rfl r
  simp only [mul_ap, sc_self] at e
  rw [← e]
  rfl

/-- The gate product's block. -/
theorem pay3_ap (h w : Vec Ideal S1024x1024 .bf16) (r e : Fin 1024) :
    (k0_pay3 h w : FVec Ideal S1024x1024 .f32) (ix2 r e) = ∑ k : Fin 1024, (h (ix2 r k) * w (ix2 k e) : EReal) := by
  unfold k0_pay3
  exact (mm _ _ r e).trans (Finset.sum_congr rfl fun k _ => by rw [sc_self])

/-- The other products' block. -/
theorem pay4_ap (h w : Vec Ideal S1024x1024 .bf16) (r e : Fin 1024) :
    (k0_pay4 h w : FVec Ideal S1024x1024 .bf16) (ix2 r e) = ∑ k : Fin 1024, (h (ix2 r k) * w (ix2 k e) : EReal) :=
  pay3_ap h w r e

end Cells

end Cert.Inproj

end
-- ==== Proof.InKer.lean ====
/- What the input projection's run leaves in its two results: entry by entry the projection of `InModel`. -/
module

public import proofs.«01_k».proof.Proof.InModel

@[expose] public section

set_option maxRecDepth 16384

noncomputable section

namespace Cert.Inproj

open Idealize.ShloMosaic Idealize.ShloMosaic.TcCoe Idealize.ShloMosaic.StableHlo Idealize.ShloMosaic.ValueIdx Idealize.SL.Sem
open Cert.Kernel2Ideal Cert.Kernel2Ideal.Gen
open Idealize.ShloMosaic.Pipeline (Dat Window)

/-! ## Where the blocks lie -/

theorem idxIn : ∀ t : Fin cfg0.N, win0_0.index t (0 : Fin 2) = min (t.val / 9) 7 ∧ win0_0.index t (1 : Fin 2) = 0
    ∧ win0_1.index t (0 : Fin 2) = t.val / 9 - 8 ∧ win0_1.index t (1 : Fin 2) = 0
    ∧ win0_2.index t (0 : Fin 3) = (if t.val / 9 < 8 then 0 else 1 + (t.val / 9 - 8) / 2)
    ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = t.val % 9 :=
  (by decide +kernel : ∀ t : Fin grid0.N, _)
theorem idxOut : ∀ t : Fin cfg0.N, win0_5.index t (0 : Fin 2) = t.val / 9 ∧ win0_5.index t (1 : Fin 2) = min (t.val % 9) 1
    ∧ win0_6.index t (0 : Fin 2) = t.val / 9 ∧ win0_6.index t (1 : Fin 2) = t.val % 9 - 2 :=
  (by decide +kernel : ∀ t : Fin grid0.N, _)

/-- Row `q` of the row block of a point. -/
def rowOf (t : Fin cfg0.N) (q : Fin 1024) : Fin 12288 := ⟨1024 * (t.val / 9) + q.val, by have := pt_lt t; omega⟩

theorem emb0 (t : Fin cfg0.N) (h72 : t.val < 72) (q k : Fin 1024) :
    ((cfg0.win 0).blk t).view.emb (ix2 q k) = ix2 (⟨1024 * (t.val / 9) + q.val, by omega⟩ : Fin 8192) k := by
  have h := idxIn t
  funext a; apply Fin.ext
  match a with
  | ⟨0, _⟩ => show win0_0.index t (0 : Fin 2) * 1024 + 1 * q.val = 1024 * (t.val / 9) + q.val; omega
  | ⟨1, _⟩ => show win0_0.index t (1 : Fin 2) * 1024 + 1 * k.val = k.val; omega
theorem emb1 (t : Fin cfg0.N) (h72 : 72 ≤ t.val) (q k : Fin 1024) :
    ((cfg0.win 1).blk t).view.emb (ix2 q k) = ix2 (⟨1024 * (t.val / 9) + q.val - 8192, by have := pt_lt t; omega⟩ : Fin 4096) k := by
  have h := idxIn t
  funext a; apply Fin.ext
  match a with
  | ⟨0, _⟩ => show win0_1.index t (0 : Fin 2) * 1024 + 1 * q.val = 1024 * (t.val / 9) + q.val - 8192; omega
  | ⟨1, _⟩ => show win0_1.index t (1 : Fin 2) * 1024 + 1 * k.val = k.val; omega
theorem emb2 (t : Fin cfg0.N) (q : Fin 1024) (s : Fin 6) (k : Fin 1024) :
    ((cfg0.win 2).blk t).view.emb (ix3 (0 : Fin 1) s k) = ix3 (rowM (rowOf t q)) s k := by
  have h := (idxIn t).2.2.2.2
  funext a; apply Fin.ext
  match a with
  | ⟨0, _⟩ =>
    show win0_2.index t (0 : Fin 3) * 1 + 1 * 0 = (rowM (rowOf t q)).val
    rw [h.1]
    have := pt_lt t
    unfold rowM rowOf
    by_cases h8 : t.val / 9 < 8
    · rw [if_pos h8, dif_pos (by show 1024 * (t.val / 9) + q.val < 8192; omega)]
      rfl
    · rw [if_neg h8, dif_neg (by show ¬ 1024 * (t.val / 9) + q.val < 8192; omega)]
      show (1 + (t.val / 9 - 8) / 2) * 1 + 1 * 0 = 1 + (1024 * (t.val / 9) + q.val - 8192) / 2048
      omega
  | ⟨1, _⟩ => show win0_2.index t (1 : Fin 3) * 6 + 1 * s.val = s.val; omega
  | ⟨2, _⟩ => show win0_2.index t (2 : Fin 3) * 1024 + 1 * k.val = k.val; omega
theorem emb3 (t : Fin cfg0.N) (k : Fin 1024) : ((cfg0.win 3).blk t).view.emb (ix2 (0 : Fin 1) k) = ix2 (0 : Fin 1) k := by
  have h := idxIn t
  funext a; apply Fin.ext
  match a with
  | ⟨0, _⟩ => show win0_3.index t (0 : Fin 2) * 1 + 1 * 0 = 0; omega
  | ⟨1, _⟩ => show win0_3.index t (1 : Fin 2) * 1024 + 1 * k.val = k.val; omega
theorem emb4 (t : Fin cfg0.N) (k e : Fin 1024) :
    ((cfg0.win 4).blk t).view.emb (ix2 k e) = ix2 k (⟨1024 * (t.val % 9) + e.val, by omega⟩ : Fin 9216) := by
  have h := idxIn t
  funext a; apply Fin.ext
  match a with
  | ⟨0, _⟩ => show win0_4.index t (0 : Fin 2) * 1024 + 1 * k.val = k.val; omega
  | ⟨1, _⟩ => show win0_4.index t (1 : Fin 2) * 1024 + 1 * e.val = 1024 * (t.val % 9) + e.val; omega
theorem emb5 (t : Fin cfg0.N) (q e : Fin 1024) :
    ((cfg0.win 5).blk t).view.emb (ix2 q e) = ix2 (rowOf t q) (⟨1024 * min (t.val % 9) 1 + e.val, by omega⟩ : Fin 2048) := by
  have h := idxOut t
  funext a; apply Fin.ext
  match a with
  | ⟨0, _⟩ => show win0_5.index t (0 : Fin 2) * 1024 + 1 * q.val = 1024 * (t.val / 9) + q.val; omega
  | ⟨1, _⟩ => show win0_5.index t (1 : Fin 2) * 1024 + 1 * e.val = 1024 * min (t.val % 9) 1 + e.val; omega
theorem emb6 (t : Fin cfg0.N) (q e : Fin 1024) :
    ((cfg0.win 6).blk t).view.emb (ix2 q e) = ix2 (rowOf t q) (⟨1024 * (t.val % 9 - 2) + e.val, by omega⟩ : Fin 7168) := by
  have h := idxOut t
  funext a; apply Fin.ext
  match a with
  | ⟨0, _⟩ => show win0_6.index t (0 : Fin 2) * 1024 + 1 * q.val = 1024 * (t.val / 9) + q.val; omega
  | ⟨1, _⟩ => show win0_6.index t (1 : Fin 2) * 1024 + 1 * e.val = 1024 * (t.val % 9 - 2) + e.val; omega

/-! ## The arrays the kernel reads -/

variable (m : (ℓ : Loc nD τ sig) → Buf (Elt Ideal) ℓ) (c : Dev nD)

/-- The contexts' tokens. -/
def XPk (b : Fin 32) (t : Fin 256) (k : Fin 1024) : EReal := (m ((c : Thread nD τ).loc main_arg0) : FVec Ideal S32x256x1024 .f32) (ix3 b t k)
/-- The samples' tokens. -/
def XSk (b : Fin 2) (t : Fin 2048) (k : Fin 1024) : EReal := (m ((c : Thread nD τ).loc main_arg1) : FVec Ideal S2x2048x1024 .f32) (ix3 b t k)
/-- The modulation. -/
def Mk (i : Fin 8) (j : Fin 6144) : EReal := (m ((c : Thread nD τ).loc main_arg2) : FVec Ideal S8x6144 .f32) (ix2 i j)
/-- The norm's scale. -/
def Gk (k : Fin 1024) : EReal := (m ((c : Thread nD τ).loc main_arg3) : FVec Ideal S1x2x1024 .f32) (ix3 (0 : Fin 1) (0 : Fin 2) k)
/-- The weights. -/
def Wk (k : Fin 1024) (j : Fin 9216) : EReal := (m ((c : Thread nD τ).loc main_arg4) : FVec Ideal S1x1024x9216 .f32) (ix3 (0 : Fin 1) k j)

theorem V_xp : (V m c main_v0 : FVec Ideal S8192x1024 .f32)
    = shapeCast S8192x1024 (m ((c : Thread nD τ).loc main_arg0) : FVec Ideal S32x256x1024 .f32) shapeCasts_S32x256x1024_S8192x1024 := by
  unfold V
  after_results
  rfl
theorem V_xs : (V m c main_v1 : FVec Ideal S4096x1024 .f32)
    = shapeCast S4096x1024 (m ((c : Thread nD τ).loc main_arg1) : FVec Ideal S2x2048x1024 .f32) shapeCasts_S2x2048x1024_S4096x1024 := by
  unfold V
  after_results
  rfl
theorem V_mod : (V m c main_v2 : FVec Ideal S8x6x1024 .f32)
    = shapeCast S8x6x1024 (m ((c : Thread nD τ).loc main_arg2) : FVec Ideal S8x6144 .f32) shapeCasts_S8x6144_S8x6x1024 := by
  unfold V
  after_results
  rfl
theorem V_g : (V m c main_v10 : FVec Ideal S1x1024 .f32)
    = shapeCast S1x1024 (extractStridedSlice S1x1x1024 ![0, 0, 0] (m ((c : Thread nD τ).loc main_arg3) : FVec Ideal S1x2x1024 .f32)
        slices_S1x2x1024_S1x1x1024_0_0_0) shapeCasts_S1x1x1024_S1x1024 := by
  unfold V
  after_results
  rfl
/-- The weights without their first axis. -/
def wFlat : FVec Ideal S1024x9216 .f32 :=
  shapeCast S1024x9216 (m ((c : Thread nD τ).loc main_arg4) : FVec Ideal S1x1024x9216 .f32) shapeCasts_S1x1024x9216_S1024x9216
/-- The gates' columns, the first columns and the last ones. -/
def wGate : FVec Ideal S1024x2048 .f32 := extractStridedSlice S1024x2048 ![0, 1024] (wFlat m c) slices_S1024x9216_S1024x2048_0_1024
@[inherit_doc wGate]
def wHead : FVec Ideal S1024x1024 .f32 := extractStridedSlice S1024x1024 ![0, 0] (wFlat m c) slices_S1024x9216_S1024x1024_0_0
@[inherit_doc wGate]
def wTail : FVec Ideal S1024x6144 .f32 := extractStridedSlice S1024x6144 ![0, 3072] (wFlat m c) slices_S1024x9216_S1024x6144_0_3072
theorem V_w : (V m c main_v8 : FVec Ideal S1024x9216 .bf16)
    = truncf .bf16 (concatenate S1024x9216 1 [⟨S1024x2048, wGate m c⟩, ⟨S1024x1024, wHead m c⟩, ⟨S1024x6144, wTail m c⟩]
        concatenates_S1024x2048_S1024x1024_S1024x6144_S1024x9216_d1) bitsLt_bf16_f32 := by
  unfold V
  after_results
  rfl

theorem wFlat_ap (k : Fin 1024) (j : Fin 9216) : (wFlat m c (ix2 k j) : EReal) = Wk m c k j :=
  shapeCast_apply _ _ _ _ (by
    show (S1x1024x9216.rowMajor (ix3 (0 : Fin 1) k j)).val = (S1024x9216.rowMajor (ix2 k j)).val
    rw [Shape.rowMajor_val_three, Shape.rowMajor_val_two]; show (0 * 1024 + k.val) * 9216 + j.val = k.val * 9216 + j.val; omega)

/-- The columns as the kernel reads them: the gates' first. -/
theorem w_ap (k : Fin 1024) (j : Fin 9216) (j' : Fin 9216)
    (hj : j'.val = if j.val < 2048 then 1024 + j.val else if j.val < 3072 then j.val - 2048 else j.val) :
    (V m c main_v8 : FVec Ideal S1024x9216 .bf16) (ix2 k j) = Wk m c k j' := by
  refine (congrFun (V_w m c) (ix2 k j)).trans ?_
  refine (trunc_ap _ _ _).trans ?_
  by_cases h1 : j.val < 2048
  · rw [if_pos h1] at hj
    refine (concatenate_apply_piece 1 [⟨S1024x2048, wGate m c⟩, ⟨S1024x1024, wHead m c⟩, ⟨S1024x6144, wTail m c⟩]
      concatenates_S1024x2048_S1024x1024_S1024x6144_S1024x9216_d1 (ix2 k j) 0 (Nat.lt_of_sub_eq_succ rfl) S1024x2048 (wGate m c) rfl rfl 0 rfl
      (ix2 k ⟨j.val, h1⟩) (fun a ha => ?_) (Nat.zero_add _)).trans ?_
    · match a with
      | ⟨0, _⟩ => rfl
      | ⟨1, _⟩ => exact absurd rfl ha
    · refine (extractStridedSlice_apply _ _ _ _ (ix2 k j') (fun a => ?_)).trans (wFlat_ap m c k j')
      match a with
      | ⟨0, _⟩ => show k.val = 0 + k.val; omega
      | ⟨1, _⟩ => show j'.val = 1024 + j.val; omega
  · rw [if_neg h1] at hj
    by_cases h2 : j.val < 3072
    · rw [if_pos h2] at hj
      refine (concatenate_apply_piece 1 [⟨S1024x2048, wGate m c⟩, ⟨S1024x1024, wHead m c⟩, ⟨S1024x6144, wTail m c⟩]
        concatenates_S1024x2048_S1024x1024_S1024x6144_S1024x9216_d1 (ix2 k j) 1 (Nat.lt_of_sub_eq_succ rfl) S1024x1024 (wHead m c) rfl rfl 2048 (by rfl)
        (ix2 k ⟨j.val - 2048, by omega⟩) (fun a ha => ?_) (by show 2048 + (j.val - 2048) = j.val; omega)).trans ?_
      · match a with
        | ⟨0, _⟩ => rfl
        | ⟨1, _⟩ => exact absurd rfl ha
      · refine (extractStridedSlice_apply _ _ _ _ (ix2 k j') (fun a => ?_)).trans (wFlat_ap m c k j')
        match a with
        | ⟨0, _⟩ => show k.val = 0 + k.val; omega
        | ⟨1, _⟩ => show j'.val = 0 + (j.val - 2048); omega
    · rw [if_neg h2] at hj
      refine (concatenate_apply_piece 1 [⟨S1024x2048, wGate m c⟩, ⟨S1024x1024, wHead m c⟩, ⟨S1024x6144, wTail m c⟩]
        concatenates_S1024x2048_S1024x1024_S1024x6144_S1024x9216_d1 (ix2 k j) 2 (Nat.lt_of_sub_eq_succ rfl) S1024x6144 (wTail m c) rfl rfl 3072 (by rfl)
        (ix2 k ⟨j.val - 3072, by omega⟩) (fun a ha => ?_) (by show 3072 + (j.val - 3072) = j.val; omega)).trans ?_
      · match a with
        | ⟨0, _⟩ => rfl
        | ⟨1, _⟩ => exact absurd rfl ha
      · refine (extractStridedSlice_apply _ _ _ _ (ix2 k j') (fun a => ?_)).trans (wFlat_ap m c k j')
        match a with
        | ⟨0, _⟩ => show k.val = 0 + k.val; omega
        | ⟨1, _⟩ => show j'.val = 3072 + (j.val - 3072); omega

/-! ## The blocks the kernel reads -/

theorem b0 (t : Fin cfg0.N) (h72 : t.val < 72) (q k : Fin 1024) :
    (iblk m c 0 t : Vec Ideal S1024x1024 .f32) (ix2 q k) = rowX (XPk m c) (XSk m c) (rowOf t q) k := by
  show V m c main_v0 (((cfg0.win 0).blk t).view.emb (ix2 q k)) = _
  rw [emb0 t h72, V_xp]
  unfold rowX rowOf
  rw [dif_pos (by show 1024 * (t.val / 9) + q.val < 8192; omega)]
  exact shapeCast_apply _ _ _ _ (by
    show (S32x256x1024.rowMajor (ix3 _ _ _)).val = (S8192x1024.rowMajor (ix2 _ _)).val
    rw [Shape.rowMajor_val_three, Shape.rowMajor_val_two]
    show ((1024 * (t.val / 9) + q.val) / 256 * 256 + (1024 * (t.val / 9) + q.val) % 256) * 1024 + k.val = (1024 * (t.val / 9) + q.val) * 1024 + k.val
    omega)
theorem b1 (t : Fin cfg0.N) (h72 : 72 ≤ t.val) (q k : Fin 1024) :
    (iblk m c 1 t : Vec Ideal S1024x1024 .f32) (ix2 q k) = rowX (XPk m c) (XSk m c) (rowOf t q) k := by
  show V m c main_v1 (((cfg0.win 1).blk t).view.emb (ix2 q k)) = _
  rw [emb1 t h72, V_xs]
  unfold rowX rowOf
  rw [dif_neg (by show ¬ 1024 * (t.val / 9) + q.val < 8192; omega)]
  exact shapeCast_apply _ _ _ _ (by
    show (S2x2048x1024.rowMajor (ix3 _ _ _)).val = (S4096x1024.rowMajor (ix2 _ _)).val
    rw [Shape.rowMajor_val_three, Shape.rowMajor_val_two]
    show ((1024 * (t.val / 9) + q.val - 8192) / 2048 * 2048 + (1024 * (t.val / 9) + q.val - 8192) % 2048) * 1024 + k.val
      = (1024 * (t.val / 9) + q.val - 8192) * 1024 + k.val
    omega)
theorem b2 (t : Fin cfg0.N) (q : Fin 1024) (s : Fin 6) (k : Fin 1024) :
    (iblk m c 2 t : Vec Ideal S1x6x1024 .f32) (ix3 (0 : Fin 1) s k) = Mk m c (rowM (rowOf t q)) ⟨1024 * s.val + k.val, by omega⟩ := by
  show V m c main_v2 (((cfg0.win 2).blk t).view.emb (ix3 (0 : Fin 1) s k)) = _
  rw [emb2 t q, V_mod]
  exact shapeCast_apply _ _ _ _ (by
    show (S8x6144.rowMajor (ix2 _ _)).val = (S8x6x1024.rowMajor (ix3 _ _ _)).val
    rw [Shape.rowMajor_val_three, Shape.rowMajor_val_two]
    show (rowM (rowOf t q)).val * 6144 + (1024 * s.val + k.val) = ((rowM (rowOf t q)).val * 6 + s.val) * 1024 + k.val
    omega)
theorem b3 (t : Fin cfg0.N) (k : Fin 1024) : (iblk m c 3 t : Vec Ideal S1x1024 .f32) (ix2 (0 : Fin 1) k) = Gk m c k := by
  show V m c main_v10 (((cfg0.win 3).blk t).view.emb (ix2 (0 : Fin 1) k)) = _
  rw [emb3, V_g]
  refine (sc_row _ _ k).trans ?_
  exact extractStridedSlice_apply _ _ _ _ _ (fun a => by
    match a with
    | ⟨0, _⟩ => rfl
    | ⟨1, _⟩ => rfl
    | ⟨2, _⟩ => show k.val = 0 + k.val; omega)
theorem b4 (t : Fin cfg0.N) (k e : Fin 1024) (j' : Fin 9216)
    (hj : j'.val = if t.val % 9 < 2 then 1024 + (1024 * (t.val % 9) + e.val)
      else if t.val % 9 < 3 then 1024 * (t.val % 9) + e.val - 2048 else 1024 * (t.val % 9) + e.val) :
    (iblk m c 4 t : Vec Ideal S1024x1024 .bf16) (ix2 k e) = Wk m c k j' := by
  show V m c main_v8 (((cfg0.win 4).blk t).view.emb (ix2 k e)) = _
  rw [emb4]
  refine w_ap m c k _ j' (hj.trans ?_)
  show _ = if 1024 * (t.val % 9) + e.val < 2048 then 1024 + (1024 * (t.val % 9) + e.val)
      else if 1024 * (t.val % 9) + e.val < 3072 then 1024 * (t.val % 9) + e.val - 2048 else 1024 * (t.val % 9) + e.val
  have : (t.val % 9 < 2) = (1024 * (t.val % 9) + e.val < 2048) := propext (by omega)
  have h3 : (t.val % 9 < 3) = (1024 * (t.val % 9) + e.val < 3072) := propext (by omega)
  simp only [this, h3]

/-- The normalised rows, of a point. -/
theorem hBlk_ap (t : Fin cfg0.N) (q k : Fin 1024) :
    (hBlk m c t : FVec Ideal S1024x1024 .bf16) (ix2 q k)
      = hMod (rowX (XPk m c) (XSk m c) (rowOf t q)) (Gk m c) (fun k => Mk m c (rowM (rowOf t q)) ⟨1024 + k.val, by omega⟩)
          (fun k => Mk m c (rowM (rowOf t q)) ⟨k.val, by omega⟩) k := by
  have hr : rowOf (rowPt t) q = rowOf t q := Fin.ext (by
    show 1024 * (9 * (t.val / 9) / 9) + q.val = 1024 * (t.val / 9) + q.val; omega)
  have hg : (fun j => (iblk m c 3 (rowPt t) : Vec Ideal S1x1024 .f32) (ix2 (0 : Fin 1) j)) = Gk m c := funext fun j => b3 m c _ j
  have h1 : (fun j => (iblk m c 2 (rowPt t) : Vec Ideal S1x6x1024 .f32) (ix3 (0 : Fin 1) (1 : Fin 6) j))
      = fun k => Mk m c (rowM (rowOf t q)) ⟨1024 + k.val, by omega⟩ := funext fun j =>
    (b2 m c (rowPt t) q 1 j).trans (by rw [hr]; rfl)
  have h0 : (fun j => (iblk m c 2 (rowPt t) : Vec Ideal S1x6x1024 .f32) (ix3 (0 : Fin 1) (0 : Fin 6) j))
      = fun k => Mk m c (rowM (rowOf t q)) ⟨k.val, by omega⟩ := funext fun j =>
    (b2 m c (rowPt t) q 0 j).trans (by
      rw [hr]; exact congrArg (Mk m c _) (Fin.ext (by show 1024 * 0 + j.val = j.val; omega)))
  unfold hBlk
  refine (hRows_ap _ _ _ q k).trans ?_
  rw [hg, h1, h0]
  by_cases h72 : t.val < 72
  · rw [if_pos h72]
    exact congrArg (fun X => hMod X _ _ _ k) (funext fun j =>
      (b0 m c (rowPt t) (by show 9 * (t.val / 9) < 72; omega) q j).trans (by rw [hr]))
  · rw [if_neg h72]
    exact congrArg (fun X => hMod X _ _ _ k) (funext fun j =>
      (b1 m c (rowPt t) (by show 72 ≤ 9 * (t.val / 9); omega) q j).trans (by rw [hr]))

/-- Both outputs' entries, as the kernel's arguments give them. -/
abbrev Pk : Fin 12288 → Fin 9216 → EReal := proj (XPk m c) (XSk m c) (Mk m c) (Gk m c) (Wk m c)

/-- The gates' block after a point. -/
theorem gateBlk_ap (t : Fin cfg0.N) (q e : Fin 1024) :
    (gateBlk m c t : FVec Ideal S1024x1024 .f32) (ix2 q e)
      = Pk m c (rowOf t q) (gateCol ⟨1024 * min (t.val % 9) 1 + e.val, by omega⟩) := by
  unfold gateBlk
  refine (pay3_ap _ _ q e).trans ?_
  unfold Pk proj projOf
  refine Finset.sum_congr rfl fun k _ => ?_
  refine congrArg₂ (fun a b : EReal => a * b) (hBlk_ap m c t q k) (b4 m c (gatePt t) k e _ ?_)
  have hv : (gatePt t).val % 9 = min (t.val % 9) 1 := by
    show (9 * (t.val / 9) + min (t.val % 9) 1) % 9 = min (t.val % 9) 1; omega
  rw [hv, if_pos (by omega)]
  rfl

/-- The other block after a point that stores it. -/
theorem restBlk_ap (t : Fin cfg0.N) (h2 : 2 ≤ t.val % 9) (q e : Fin 1024) :
    (restBlk m c t : FVec Ideal S1024x1024 .bf16) (ix2 q e)
      = Pk m c (rowOf t q) (restCol ⟨1024 * (t.val % 9 - 2) + e.val, by omega⟩) := by
  unfold restBlk
  refine (pay4_ap _ _ q e).trans ?_
  unfold Pk proj projOf
  refine Finset.sum_congr rfl fun k _ => ?_
  refine congrArg₂ (fun a b : EReal => a * b) (hBlk_ap m c t q k) (b4 m c t k e _ ?_)
  rw [if_neg (by omega)]
  unfold restCol
  by_cases h3 : t.val % 9 < 3
  · rw [dif_pos (by show 1024 * (t.val % 9 - 2) + e.val < 1024; omega), if_pos h3]
    show 1024 * (t.val % 9 - 2) + e.val = 1024 * (t.val % 9) + e.val - 2048
    omega
  · rw [dif_neg (by show ¬ 1024 * (t.val % 9 - 2) + e.val < 1024; omega), if_neg h3]
    show 2048 + (1024 * (t.val % 9 - 2) + e.val) = 1024 * (t.val % 9) + e.val
    omega

/-! ## The results -/

theorem disjoint5 : ∀ t t' : Fin cfg0.N, (cfg0.win 5).flush t = true → (cfg0.win 5).flush t' = true → t ≠ t' →
    Disjoint ((cfg0.win 5).blk t).view.set ((cfg0.win 5).blk t').view.set := fun t t' hf hf' hne =>
  (cfg0.win 5).disjoint_blk fun h => hne (Fin.ext (by
    have h0 : win0_5.index t (0 : Fin 2) = win0_5.index t' (0 : Fin 2) := congrFun h 0
    have h1 : win0_5.index t (1 : Fin 2) = win0_5.index t' (1 : Fin 2) := congrFun h 1
    have a := idxOut t
    have b := idxOut t'
    rw [flush5] at hf hf'
    have := of_decide_eq_true hf
    have := of_decide_eq_true hf'
    omega))
theorem disjoint6 : ∀ t t' : Fin cfg0.N, (cfg0.win 6).flush t = true → (cfg0.win 6).flush t' = true → t ≠ t' →
    Disjoint ((cfg0.win 6).blk t).view.set ((cfg0.win 6).blk t').view.set := fun t t' hf hf' hne =>
  (cfg0.win 6).disjoint_blk fun h => hne (Fin.ext (by
    have h0 : win0_6.index t (0 : Fin 2) = win0_6.index t' (0 : Fin 2) := congrFun h 0
    have h1 : win0_6.index t (1 : Fin 2) = win0_6.index t' (1 : Fin 2) := congrFun h 1
    have a := idxOut t
    have b := idxOut t'
    rw [flush6] at hf hf'
    have := of_decide_eq_true hf
    have := of_decide_eq_true hf'
    omega))

theorem cut5 (t : Fin cfg0.N) (x : Vec Ideal S1024x1024 .f32) (y : S1024x1024.Idx) : (cfg0.win 5).cut (grid0.coords t) x y = x y := rfl
theorem cut6 (t : Fin cfg0.N) (x : Vec Ideal S1024x1024 .bf16) (y : S1024x1024.Idx) : (cfg0.win 6).cut (grid0.coords t) x y = x y := rfl
theorem flushed5 (t : Fin cfg0.N) : (dats m 0 c).flushed 5 t = (cfg0.win 5).cut (grid0.coords t) (gateBlk m c t) := by
  show (cfg0.win 5).cut (grid0.coords t) ((dats m 0 c).after 5 t) = _
  rw [after5]
theorem flushed6 (t : Fin cfg0.N) : (dats m 0 c).flushed 6 t = (cfg0.win 6).cut (grid0.coords t) (restBlk m c t) := by
  show (cfg0.win 6).cut (grid0.coords t) ((dats m 0 c).after 6 t) = _
  rw [after6]

/-- The gates. -/
theorem ker_gate (r : Fin 12288) (j : Fin 2048) :
    ((dats m 0 c).arrAt 5 cfg0.N : FVec Ideal S12288x2048 .f32) (ix2 r j) = Pk m c r (gateCol j) := by
  obtain ⟨t, hf, hi, hj⟩ : ∃ t : Fin cfg0.N, (t.val % 9 = 0 ∨ t.val % 9 = 8) ∧ t.val / 9 = r.val / 1024 ∧ min (t.val % 9) 1 = j.val / 1024 := by
    by_cases h : j.val < 1024
    · exact ⟨⟨9 * (r.val / 1024), lt_of_lt_of_eq (by omega) N_0.symm⟩, .inl (by show 9 * (r.val / 1024) % 9 = 0; omega),
        by show 9 * (r.val / 1024) / 9 = _; omega, by show min (9 * (r.val / 1024) % 9) 1 = _; omega⟩
    · exact ⟨⟨9 * (r.val / 1024) + 8, lt_of_lt_of_eq (by omega) N_0.symm⟩, .inr (by show (9 * (r.val / 1024) + 8) % 9 = 8; omega),
        by show (9 * (r.val / 1024) + 8) / 9 = _; omega, by show min ((9 * (r.val / 1024) + 8) % 9) 1 = _; omega⟩
  have hfl : (cfg0.win 5).flush t = true := by rw [flush5]; exact decide_eq_true hf
  let q : Fin 1024 := ⟨r.val % 1024, by omega⟩
  let e : Fin 1024 := ⟨j.val % 1024, by omega⟩
  have hr : rowOf t q = r := Fin.ext (by show 1024 * (t.val / 9) + r.val % 1024 = r.val; omega)
  have hj' : (⟨1024 * min (t.val % 9) 1 + e.val, by omega⟩ : Fin 2048) = j :=
    Fin.ext (by show 1024 * min (t.val % 9) 1 + j.val % 1024 = j.val; omega)
  have hx : ix2 r j = ((cfg0.win 5).blk t).view.emb (ix2 q e) := by rw [emb5, hr, hj']
  refine (congrArg (fun i => (dats m 0 c).arrAt 5 cfg0.N i) hx).trans ?_
  refine (congrFun ((dats m 0 c).read_blk_arrAt_eq_flushed 5 disjoint5 cfg0.N t t.isLt hfl) (ix2 q e)).trans ?_
  refine (congrFun (flushed5 m c t) (ix2 q e)).trans ?_
  refine (cut5 _ _ _).trans ((gateBlk_ap m c t q e).trans ?_)
  rw [hr, hj']

/-- The other columns. -/
theorem ker_rest (r : Fin 12288) (j : Fin 7168) :
    ((dats m 0 c).arrAt 6 cfg0.N : FVec Ideal S12288x7168 .bf16) (ix2 r j) = Pk m c r (restCol j) := by
  obtain ⟨t, hf, hi, hj⟩ : ∃ t : Fin cfg0.N, 2 ≤ t.val % 9 ∧ t.val / 9 = r.val / 1024 ∧ t.val % 9 - 2 = j.val / 1024 :=
    ⟨⟨9 * (r.val / 1024) + (2 + j.val / 1024), lt_of_lt_of_eq (by omega) N_0.symm⟩,
      by show 2 ≤ (9 * (r.val / 1024) + (2 + j.val / 1024)) % 9; omega,
      by show (9 * (r.val / 1024) + (2 + j.val / 1024)) / 9 = _; omega,
      by show (9 * (r.val / 1024) + (2 + j.val / 1024)) % 9 - 2 = _; omega⟩
  have hfl : (cfg0.win 6).flush t = true := by rw [flush6]; exact decide_eq_true hf
  let q : Fin 1024 := ⟨r.val % 1024, by omega⟩
  let e : Fin 1024 := ⟨j.val % 1024, by omega⟩
  have hr : rowOf t q = r := Fin.ext (by show 1024 * (t.val / 9) + r.val % 1024 = r.val; omega)
  have hj' : (⟨1024 * (t.val % 9 - 2) + e.val, by omega⟩ : Fin 7168) = j :=
    Fin.ext (by show 1024 * (t.val % 9 - 2) + j.val % 1024 = j.val; omega)
  have hx : ix2 r j = ((cfg0.win 6).blk t).view.emb (ix2 q e) := by rw [emb6, hr, hj']
  refine (congrArg (fun i => (dats m 0 c).arrAt 6 cfg0.N i) hx).trans ?_
  refine (congrFun ((dats m 0 c).read_blk_arrAt_eq_flushed 6 disjoint6 cfg0.N t t.isLt hfl) (ix2 q e)).trans ?_
  refine (congrFun (flushed6 m c t) (ix2 q e)).trans ?_
  refine (cut6 _ _ _).trans ((restBlk_ap m c t hf q e).trans ?_)
  rw [hr, hj']

end Cert.Inproj

end
-- ==== Proof.InRef.lean ====
/- What the reference of the input projection leaves in its two results: entry by entry the projection of `InModel`. -/
module

public import proofs.«01_k».proof.Proof.InModel
public import proofs.«01_k».proof.Proof.Gen.Reference2Ideal.Read

@[expose] public section

noncomputable section

namespace Cert.Inproj.Ref

open Idealize.ShloMosaic Idealize.ShloMosaic.TcCoe Idealize.ShloMosaic.ValueIdx Idealize.SL.Sem
open Cert.Reference2Ideal Cert.Reference2Ideal.Gen Cert.Reference2Ideal.Read

variable (x0 : FVec Ideal S32x256x1024 .f32) (x1 : FVec Ideal S2x2048x1024 .f32) (x2 : FVec Ideal S8x6144 .f32)
  (x3 : FVec Ideal S1x2x1024 .f32) (x4 : FVec Ideal S1x1024x9216 .f32)

/-! ## The contexts' tokens -/

/-- The shift of the modulation, spread over the tokens. -/
theorem ctx_sh (b : Fin 32) (t : Fin 256) (k : Fin 1024) :
    (val_main_v31 (F := Ideal) x2 (ix3 b t k) : EReal) = x2 (ix2 (0 : Fin 8) (⟨k.val, by omega⟩ : Fin 6144)) := by
  rw [val_main_v31_apply, val_main_v6_apply, val_main_v5_apply, val_main_v2_apply, val_main_v1_apply, val_main_v0_apply]
  refine congrArg x2 (funext fun a => Fin.ext ?_)
  match a with
  | ⟨0, _⟩ => rfl
  | ⟨1, _⟩ => show k.val % 6144 = k.val; omega

/-- The scale of the modulation, one added, spread over the tokens. -/
theorem ctx_sc (b : Fin 32) (t : Fin 256) (k : Fin 1024) :
    (val_main_v29 (F := Ideal) x2 (ix3 b t k) : EReal)
      = Ideal.ofBits .f32 0x3F800000#32 + x2 (ix2 (0 : Fin 8) (⟨1024 + k.val, by omega⟩ : Fin 6144)) := by
  rw [val_main_v29_apply, val_main_v28_apply, val_main_v27_apply, val_main_cst_2_apply, val_main_v7_apply, val_main_v5_apply, val_main_v2_apply, val_main_v1_apply, val_main_v0_apply]
  refine congrArg (fun i => (Ideal.ofBits .f32 0x3F800000#32 + x2 i : EReal)) (funext fun a => Fin.ext ?_)
  match a with
  | ⟨0, _⟩ => rfl
  | ⟨1, _⟩ => show (1024 + k.val) % 6144 = 1024 + k.val; omega

/-- The norm's scale, spread over the tokens. -/
theorem ctx_g (b : Fin 32) (t : Fin 256) (k : Fin 1024) :
    (val_main_v25 (F := Ideal) x3 (ix3 b t k) : EReal) = x3 (ix3 (0 : Fin 1) (0 : Fin 2) k) := by
  rw [val_main_v25_apply, val_main_v24_apply, val_main_v13_apply, val_main_v12_apply, val_main_v3_apply]
  refine congrArg x3 (funext fun a => Fin.ext ?_)
  match a with
  | ⟨0, _⟩ => rfl
  | ⟨1, _⟩ => show (0 * 1024 + k.val % 1024) / 1024 % 2 = 0; omega
  | ⟨2, _⟩ => show (0 * 1024 + k.val % 1024) % 1024 = k.val; omega

/-- The reciprocal root of a token's mean square, spread over its channels. -/
theorem ctx_rs (b : Fin 32) (t : Fin 256) (k : Fin 1024) :
    (val_main_v22 (F := Ideal) x0 (ix3 b t k) : EReal)
      = Ideal.rsqrt (Ideal.div (∑ j : Fin 1024, x0 (ix3 b t j) * x0 (ix3 b t j)) (Ideal.ofBits .f32 0x44800000#32)
          + Ideal.ofBits .f32 0x358637BD#32) := by
  rw [val_main_v22_apply, val_main_v21_apply, val_main_v20_apply, val_main_v19_apply, val_main_v18_apply, val_main_v17_apply, val_main_v16_apply, val_main_v15_apply, val_main_cst_0_apply, val_main_cst_1_apply, val_main_cst_apply]
  refine congrArg (fun s : EReal => Ideal.rsqrt (Ideal.div s (Ideal.ofBits .f32 0x44800000#32) + Ideal.ofBits .f32 0x358637BD#32)) ?_
  refine (congrArg (fun z : EReal => z + _) Ideal.ofBits_zero_f32).trans ((zero_add _).trans ?_)
  refine Finset.sum_congr rfl fun j _ => ?_
  rw [val_main_v14_apply]
  exact congrArg (fun i => (x0 i * x0 i : EReal)) (funext fun a => match a with
    | ⟨0, _⟩ => rfl
    | ⟨1, _⟩ => rfl
    | ⟨2, _⟩ => rfl)

/-- The normalised and modulated tokens. -/
theorem ctx_h (b : Fin 32) (t : Fin 256) (k : Fin 1024) :
    (val_main_v32 (F := Ideal) x0 x2 x3 (ix3 b t k) : EReal)
      = hMod (fun j => x0 (ix3 b t j)) (fun j => x3 (ix3 (0 : Fin 1) (0 : Fin 2) j)) (fun j => x2 (ix2 (0 : Fin 8) (⟨1024 + j.val, by omega⟩ : Fin 6144)))
          (fun j => x2 (ix2 (0 : Fin 8) (⟨j.val, by omega⟩ : Fin 6144))) k := by
  rw [val_main_v32_apply, val_main_v30_apply, val_main_v26_apply, val_main_v23_apply, ctx_sh, ctx_sc, ctx_g, ctx_rs]
  rfl

/-- The weights' entries. -/
theorem ctx_w (k : Fin 1024) (j : Fin 9216) : (val_main_v4 (F := Ideal) x4 (ix2 k j) : EReal) = x4 (ix3 (0 : Fin 1) k j) := by
  rw [val_main_v4_apply]
  refine congrArg x4 (funext fun a => Fin.ext ?_)
  match a with
  | ⟨0, _⟩ => rfl
  | ⟨1, _⟩ => show (k.val * 9216 + j.val) / 9216 % 1024 = k.val; omega
  | ⟨2, _⟩ => show (k.val * 9216 + j.val) % 9216 = j.val; omega

/-- The projected tokens. -/
theorem ctx_proj (b : Fin 32) (t : Fin 256) (j : Fin 9216) :
    (val_main_v33 (F := Ideal) x0 x2 x3 x4 (ix3 b t j) : EReal)
      = projOf (fun j => x0 (ix3 b t j)) (fun j => x3 (ix3 (0 : Fin 1) (0 : Fin 2) j)) (fun j => x2 (ix2 (0 : Fin 8) (⟨1024 + j.val, by omega⟩ : Fin 6144)))
          (fun j => x2 (ix2 (0 : Fin 8) (⟨j.val, by omega⟩ : Fin 6144))) (fun k => x4 (ix3 (0 : Fin 1) k j)) := by
  rw [val_main_v33_apply]
  unfold projOf
  refine Finset.sum_congr rfl fun k _ => congrArg₂ (fun a b : EReal => a * b) ?_ ?_
  · refine Eq.trans (congrArg (val_main_v32 (F := Ideal) x0 x2 x3) (funext fun a => ?_)) (ctx_h x0 x2 x3 b t k)
    match a with
    | ⟨0, _⟩ => rfl
    | ⟨1, _⟩ => rfl
    | ⟨2, _⟩ => rfl
  · refine Eq.trans (congrArg (val_main_v4 (F := Ideal) x4) (funext fun a => ?_)) (ctx_w x4 k j)
    match a with
    | ⟨0, _⟩ => rfl
    | ⟨1, _⟩ => rfl

/-! ## The samples' tokens -/

/-- The shift of the modulation, spread over the tokens. -/
theorem lat_sh (b : Fin 2) (t : Fin 2048) (k : Fin 1024) :
    (val_main_v63 (F := Ideal) x2 (ix3 b t k) : EReal) = x2 (ix2 (⟨1 + b.val, by omega⟩ : Fin 8) (⟨k.val, by omega⟩ : Fin 6144)) := by
  rw [val_main_v63_apply, val_main_v38_apply, val_main_v37_apply, val_main_v34_apply]
  refine congrArg x2 (funext fun a => Fin.ext ?_)
  match a with
  | ⟨0, _⟩ => rfl
  | ⟨1, _⟩ => rfl

/-- The scale of the modulation, one added, spread over the tokens. -/
theorem lat_sc (b : Fin 2) (t : Fin 2048) (k : Fin 1024) :
    (val_main_v61 (F := Ideal) x2 (ix3 b t k) : EReal)
      = Ideal.ofBits .f32 0x3F800000#32 + x2 (ix2 (⟨1 + b.val, by omega⟩ : Fin 8) (⟨1024 + k.val, by omega⟩ : Fin 6144)) := by
  rw [val_main_v61_apply, val_main_v60_apply, val_main_v59_apply, val_main_cst_6_apply, val_main_v39_apply, val_main_v37_apply, val_main_v34_apply]
  refine congrArg (fun i => (Ideal.ofBits .f32 0x3F800000#32 + x2 i : EReal)) (funext fun a => Fin.ext ?_)
  match a with
  | ⟨0, _⟩ => rfl
  | ⟨1, _⟩ => rfl

/-- The norm's scale, spread over the tokens. -/
theorem lat_g (b : Fin 2) (t : Fin 2048) (k : Fin 1024) :
    (val_main_v57 (F := Ideal) x3 (ix3 b t k) : EReal) = x3 (ix3 (0 : Fin 1) (0 : Fin 2) k) := by
  rw [val_main_v57_apply, val_main_v56_apply, val_main_v45_apply, val_main_v44_apply, val_main_v35_apply]
  refine congrArg x3 (funext fun a => Fin.ext ?_)
  match a with
  | ⟨0, _⟩ => rfl
  | ⟨1, _⟩ => show (0 * 1024 + k.val % 1024) / 1024 % 2 = 0; omega
  | ⟨2, _⟩ => show (0 * 1024 + k.val % 1024) % 1024 = k.val; omega

/-- The reciprocal root of a token's mean square, spread over its channels. -/
theorem lat_rs (b : Fin 2) (t : Fin 2048) (k : Fin 1024) :
    (val_main_v54 (F := Ideal) x1 (ix3 b t k) : EReal)
      = Ideal.rsqrt (Ideal.div (∑ j : Fin 1024, x1 (ix3 b t j) * x1 (ix3 b t j)) (Ideal.ofBits .f32 0x44800000#32)
          + Ideal.ofBits .f32 0x358637BD#32) := by
  rw [val_main_v54_apply, val_main_v53_apply, val_main_v52_apply, val_main_v51_apply, val_main_v50_apply, val_main_v49_apply, val_main_v48_apply, val_main_v47_apply, val_main_cst_4_apply, val_main_cst_5_apply, val_main_cst_3_apply]
  refine congrArg (fun s : EReal => Ideal.rsqrt (Ideal.div s (Ideal.ofBits .f32 0x44800000#32) + Ideal.ofBits .f32 0x358637BD#32)) ?_
  refine (congrArg (fun z : EReal => z + _) Ideal.ofBits_zero_f32).trans ((zero_add _).trans ?_)
  refine Finset.sum_congr rfl fun j _ => ?_
  rw [val_main_v46_apply]
  exact congrArg (fun i => (x1 i * x1 i : EReal)) (funext fun a => match a with
    | ⟨0, _⟩ => rfl
    | ⟨1, _⟩ => rfl
    | ⟨2, _⟩ => rfl)

/-- The normalised and modulated tokens. -/
theorem lat_h (b : Fin 2) (t : Fin 2048) (k : Fin 1024) :
    (val_main_v64 (F := Ideal) x1 x2 x3 (ix3 b t k) : EReal)
      = hMod (fun j => x1 (ix3 b t j)) (fun j => x3 (ix3 (0 : Fin 1) (0 : Fin 2) j)) (fun j => x2 (ix2 (⟨1 + b.val, by omega⟩ : Fin 8) (⟨1024 + j.val, by omega⟩ : Fin 6144)))
          (fun j => x2 (ix2 (⟨1 + b.val, by omega⟩ : Fin 8) (⟨j.val, by omega⟩ : Fin 6144))) k := by
  rw [val_main_v64_apply, val_main_v62_apply, val_main_v58_apply, val_main_v55_apply, lat_sh, lat_sc, lat_g, lat_rs]
  rfl

/-- The weights' entries. -/
theorem lat_w (k : Fin 1024) (j : Fin 9216) : (val_main_v36 (F := Ideal) x4 (ix2 k j) : EReal) = x4 (ix3 (0 : Fin 1) k j) := by
  rw [val_main_v36_apply]
  refine congrArg x4 (funext fun a => Fin.ext ?_)
  match a with
  | ⟨0, _⟩ => rfl
  | ⟨1, _⟩ => show (k.val * 9216 + j.val) / 9216 % 1024 = k.val; omega
  | ⟨2, _⟩ => show (k.val * 9216 + j.val) % 9216 = j.val; omega

/-- The projected tokens. -/
theorem lat_proj (b : Fin 2) (t : Fin 2048) (j : Fin 9216) :
    (val_main_v65 (F := Ideal) x1 x2 x3 x4 (ix3 b t j) : EReal)
      = projOf (fun j => x1 (ix3 b t j)) (fun j => x3 (ix3 (0 : Fin 1) (0 : Fin 2) j)) (fun j => x2 (ix2 (⟨1 + b.val, by omega⟩ : Fin 8) (⟨1024 + j.val, by omega⟩ : Fin 6144)))
          (fun j => x2 (ix2 (⟨1 + b.val, by omega⟩ : Fin 8) (⟨j.val, by omega⟩ : Fin 6144))) (fun k => x4 (ix3 (0 : Fin 1) k j)) := by
  rw [val_main_v65_apply]
  unfold projOf
  refine Finset.sum_congr rfl fun k _ => congrArg₂ (fun a b : EReal => a * b) ?_ ?_
  · refine Eq.trans (congrArg (val_main_v64 (F := Ideal) x1 x2 x3) (funext fun a => ?_)) (lat_h x1 x2 x3 b t k)
    match a with
    | ⟨0, _⟩ => rfl
    | ⟨1, _⟩ => rfl
    | ⟨2, _⟩ => rfl
  · refine Eq.trans (congrArg (val_main_v36 (F := Ideal) x4) (funext fun a => ?_)) (lat_w x4 k j)
    match a with
    | ⟨0, _⟩ => rfl
    | ⟨1, _⟩ => rfl

/-! ## Both together, and the two results -/

/-- The projection of the reference's arguments. -/
abbrev Pr : Fin 12288 → Fin 9216 → EReal :=
  proj (fun b t k => x0 (ix3 b t k)) (fun b t k => x1 (ix3 b t k)) (fun i j => x2 (ix2 i j)) (fun k => x3 (ix3 (0 : Fin 1) (0 : Fin 2) k))
    (fun k j => x4 (ix3 (0 : Fin 1) k j))

/-- The contexts' rows before the samples' rows. -/
theorem ref_all (r : Fin 12288) (j : Fin 9216) : (val_main_v68 (F := Ideal) x0 x1 x2 x3 x4 (ix2 r j) : EReal) = Pr x0 x1 x2 x3 x4 r j := by
  unfold val_main_v68 Pr proj rowX rowM
  by_cases h : r.val < 8192
  · refine (concatenate_apply_piece 0 [⟨S8192x9216, val_main_v66 (F := Ideal) x0 x2 x3 x4⟩, ⟨S4096x9216, val_main_v67 (F := Ideal) x1 x2 x3 x4⟩]
      concatenates_S8192x9216_S4096x9216_S12288x9216_d0 (ix2 r j) 0 (Nat.lt_of_sub_eq_succ rfl) S8192x9216 (val_main_v66 (F := Ideal) x0 x2 x3 x4)
      rfl rfl 0 rfl (ix2 ⟨r.val, h⟩ j) (fun a ha => ?_) (Nat.zero_add _)).trans ?_
    · match a with
      | ⟨0, _⟩ => exact absurd rfl ha
      | ⟨1, _⟩ => rfl
    · simp only [dif_pos h]
      rw [val_main_v66_apply]
      refine Eq.trans (congrArg (val_main_v33 (F := Ideal) x0 x2 x3 x4) (funext fun a => Fin.ext ?_))
        (ctx_proj x0 x2 x3 x4 (⟨r.val / 256, by omega⟩ : Fin 32) (⟨r.val % 256, by omega⟩ : Fin 256) j)
      match a with
      | ⟨0, _⟩ => show (r.val * 9216 + j.val) / 2359296 = r.val / 256; omega
      | ⟨1, _⟩ => show (r.val * 9216 + j.val) / 9216 % 256 = r.val % 256; omega
      | ⟨2, _⟩ => show (r.val * 9216 + j.val) % 9216 = j.val; omega
  · refine (concatenate_apply_piece 0 [⟨S8192x9216, val_main_v66 (F := Ideal) x0 x2 x3 x4⟩, ⟨S4096x9216, val_main_v67 (F := Ideal) x1 x2 x3 x4⟩]
      concatenates_S8192x9216_S4096x9216_S12288x9216_d0 (ix2 r j) 1 (Nat.lt_of_sub_eq_succ rfl) S4096x9216 (val_main_v67 (F := Ideal) x1 x2 x3 x4)
      rfl rfl 8192 (by rfl) (ix2 ⟨r.val - 8192, by omega⟩ j) (fun a ha => ?_) (by show 8192 + (r.val - 8192) = r.val; omega)).trans ?_
    · match a with
      | ⟨0, _⟩ => exact absurd rfl ha
      | ⟨1, _⟩ => rfl
    · simp only [dif_neg h]
      rw [val_main_v67_apply]
      refine Eq.trans (congrArg (val_main_v65 (F := Ideal) x1 x2 x3 x4) (funext fun a => Fin.ext ?_))
        (lat_proj x1 x2 x3 x4 (⟨(r.val - 8192) / 2048, by omega⟩ : Fin 2) (⟨(r.val - 8192) % 2048, by omega⟩ : Fin 2048) j)
      match a with
      | ⟨0, _⟩ => show ((r.val - 8192) * 9216 + j.val) / 18874368 = (r.val - 8192) / 2048; omega
      | ⟨1, _⟩ => show ((r.val - 8192) * 9216 + j.val) / 9216 % 2048 = (r.val - 8192) % 2048; omega
      | ⟨2, _⟩ => show ((r.val - 8192) * 9216 + j.val) % 9216 = j.val; omega

/-- The gates. -/
theorem ref_gate (r : Fin 12288) (j : Fin 2048) :
    (val_main_v69 (F := Ideal) x0 x1 x2 x3 x4 (ix2 r j) : EReal) = Pr x0 x1 x2 x3 x4 r (gateCol j) := by
  rw [val_main_v69_apply]
  refine Eq.trans (congrArg (val_main_v68 (F := Ideal) x0 x1 x2 x3 x4) (funext fun a => ?_)) (ref_all x0 x1 x2 x3 x4 r (gateCol j))
  match a with
  | ⟨0, _⟩ => rfl
  | ⟨1, _⟩ => rfl

/-- The other columns. -/
theorem ref_rest (r : Fin 12288) (j : Fin 7168) :
    (val_main_v73 (F := Ideal) x0 x1 x2 x3 x4 (ix2 r j) : EReal) = Pr x0 x1 x2 x3 x4 r (restCol j) := by
  rw [val_main_v73_apply]
  show (val_main_v72 (F := Ideal) x0 x1 x2 x3 x4 (ix2 r j) : EReal) = _
  unfold val_main_v72
  by_cases h : j.val < 1024
  · refine (concatenate_apply_piece 1 [⟨S12288x1024, val_main_v70 (F := Ideal) x0 x1 x2 x3 x4⟩, ⟨S12288x6144, val_main_v71 (F := Ideal) x0 x1 x2 x3 x4⟩]
      concatenates_S12288x1024_S12288x6144_S12288x7168_d1 (ix2 r j) 0 (Nat.lt_of_sub_eq_succ rfl) S12288x1024 (val_main_v70 (F := Ideal) x0 x1 x2 x3 x4)
      rfl rfl 0 rfl (ix2 r ⟨j.val, h⟩) (fun a ha => ?_) (Nat.zero_add _)).trans ?_
    · match a with
      | ⟨0, _⟩ => rfl
      | ⟨1, _⟩ => exact absurd rfl ha
    · rw [val_main_v70_apply]
      refine Eq.trans (congrArg (val_main_v68 (F := Ideal) x0 x1 x2 x3 x4) (funext fun a => Fin.ext ?_)) (ref_all x0 x1 x2 x3 x4 r (restCol j))
      match a with
      | ⟨0, _⟩ => rfl
      | ⟨1, _⟩ => show j.val = (restCol j).val; unfold restCol; rw [dif_pos h]
  · refine (concatenate_apply_piece 1 [⟨S12288x1024, val_main_v70 (F := Ideal) x0 x1 x2 x3 x4⟩, ⟨S12288x6144, val_main_v71 (F := Ideal) x0 x1 x2 x3 x4⟩]
      concatenates_S12288x1024_S12288x6144_S12288x7168_d1 (ix2 r j) 1 (Nat.lt_of_sub_eq_succ rfl) S12288x6144 (val_main_v71 (F := Ideal) x0 x1 x2 x3 x4)
      rfl rfl 1024 (by rfl) (ix2 r ⟨j.val - 1024, by omega⟩) (fun a ha => ?_) (by show 1024 + (j.val - 1024) = j.val; omega)).trans ?_
    · match a with
      | ⟨0, _⟩ => rfl
      | ⟨1, _⟩ => exact absurd rfl ha
    · rw [val_main_v71_apply]
      refine Eq.trans (congrArg (val_main_v68 (F := Ideal) x0 x1 x2 x3 x4) (funext fun a => Fin.ext ?_)) (ref_all x0 x1 x2 x3 x4 r (restCol j))
      match a with
      | ⟨0, _⟩ => rfl
      | ⟨1, _⟩ => show 3072 + (j.val - 1024) = (restCol j).val; unfold restCol; rw [dif_neg h]; show 3072 + (j.val - 1024) = 2048 + j.val; omega

end Cert.Inproj.Ref

end
-- ==== Proof.InJoin.lean ====
/- The input projection of the kernel and of the reference joined: of equal arguments, equal results. -/
module

public import proofs.«01_k».proof.Defs
public import proofs.«01_k».proof.Proof.InKer
public import proofs.«01_k».proof.Proof.InRef

@[expose] public section

noncomputable section

namespace Cert.Inproj

open Idealize.ShloMosaic Idealize.ShloMosaic.TcCoe Idealize.ShloMosaic.ValueIdx Idealize.SL.Sem

/-- The reference runs, leaves its arguments and has no semaphore to leave nonzero. -/
theorem ref_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0) :=
  (θ_run _ _ _).mono (fun r h => ⟨fun c => (h c).2.2, sem_eq_zero_of_no_sems (by decide) r.2⟩) (Cert.Reference2Ideal.Value.run m ρ)

/-- The kernel leaves its two output arrays as its run's record has them, and its arguments. -/
theorem ker_run (m : (ℓ : Loc Cert.Kernel2Ideal.nD Cert.Kernel2Ideal.τ Cert.Kernel2Ideal.sig) → Buf (Elt Ideal) ℓ) (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩
      (fun r => ∀ c : Dev Cert.Kernel2Ideal.nD,
        r.2.mem ((c.tc : Thread Cert.Kernel2Ideal.nD Cert.Kernel2Ideal.τ).loc Cert.Kernel2Ideal.main_v11_0) = (dats m 0 c).arrAt 5 Cert.Kernel2Ideal.cfg0.N
        ∧ r.2.mem ((c.tc : Thread Cert.Kernel2Ideal.nD Cert.Kernel2Ideal.τ).loc Cert.Kernel2Ideal.main_v11_1) = (dats m 0 c).arrAt 6 Cert.Kernel2Ideal.cfg0.N
        ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)) :=
  (θ_run _ _ _).mono (fun _ h c => ⟨(h.1 c).1 5, (h.1 c).1 6, h.2.1 c⟩) (θ_run_and (run_main m ρ) (frame m ρ))

/-- The two programs leave equal results, of memories whose arguments agree. -/
theorem joined : Cert.algebraic_Kernel2Ideal_Reference2Ideal (hKernel2Ideal := Cert.Kernel2Ideal.Gen.facts) (hReference2Ideal := Cert.Reference2Ideal.Gen.facts) := by
  intro m g m' g' _ hag
  refine ⟨fun c => (dats m 0 c).arrAt 5 Cert.Kernel2Ideal.cfg0.N, fun c => (dats m 0 c).arrAt 6 Cert.Kernel2Ideal.cfg0.N, ker_run m g, ?_⟩
  refine (θ_run _ _ _).mono (fun r h c => ?_) (Cert.Reference2Ideal.Value.run m' g')
  obtain ⟨e0, e1, e2, e3, e4⟩ := hag c
  refine ⟨(h c).1.trans ?_, (h c).2.1.trans ?_, (h c).2.2⟩
  · refine (Cert.Reference2Ideal.Read.val_main_v69_eq m' c).trans ?_
    rw [e0, e1, e2, e3, e4]
    funext i
    obtain ⟨r, j, rfl⟩ : ∃ (r : Fin 12288) (j : Fin 2048), i = ix2 r j := ⟨_, _, eq_ix2 i⟩
    exact (Ref.ref_gate _ _ _ _ _ r j).trans (ker_gate m c r j).symm
  · refine (Cert.Reference2Ideal.Read.val_main_v73_eq m' c).trans ?_
    rw [e0, e1, e2, e3, e4]
    funext i
    obtain ⟨r, j, rfl⟩ : ∃ (r : Fin 12288) (j : Fin 7168), i = ix2 r j := ⟨_, _, eq_ix2 i⟩
    exact (Ref.ref_rest _ _ _ _ _ r j).trans (ker_rest m c r j).symm

end Cert.Inproj

end
-- ==== Proof.MixConv.lean ====
/- The mixer's depthwise convolution: a block of 64 rows by 128 columns as the kernel forms it — the bias, then 31 products
   of a tap and a shifted copy of 96 rows, added shift by shift — and its entries as one sum over the taps. -/
module

public import proofs.«01_k».proof.Proof.Gen.Kernel3Ideal.Skeleton
public import Idealize.ShloMosaic.Lib.KernelVsHost
public import Idealize.ShloMosaic.Lib.MatmulPlain
public import Idealize.ShloMosaic.Lib.ValueLayout
public import Idealize.ShloMosaic.Lib.IdealHost

@[expose] public section

set_option maxRecDepth 16384

noncomputable section

namespace Cert.Mix

open Idealize.ShloMosaic Idealize.ShloMosaic.TcCoe Idealize.ShloMosaic.ValueIdx
open Cert.Kernel3Ideal Cert.Kernel3Ideal.Gen

/-- Tap `k`, repeated over 64 rows. -/
def tap (wv : FVec Ideal S31x128 .f32) (k : ℕ) (h : S31x128.Slices ![k, 0] S1x128) : FVec Ideal S64x128 .f32 :=
  broadcastTo S64x128 (shapeCast S1x128 (extractStridedSlice S1x128 ![k, 0] (shapeCast S31x128 wv shapeCasts_S31x128_S31x128) h)
    shapeCasts_S1x128_S1x128) broadcasts_S1x128_S64x128

/-- Tap `k` times the rows from `o` on. -/
def term (wv : FVec Ideal S31x128 .f32) (us : FVec Ideal S96x128 .f32) (k o : ℕ) (h : S31x128.Slices ![k, 0] S1x128)
    (h' : S96x128.Slices ![o, 0] S64x128) : FVec Ideal S64x128 .f32 :=
  mulf (tap wv k h) (extractStridedSlice S64x128 ![o, 0] us h')

/-- The four taps of a shift, added. -/
def four (wv : FVec Ideal S31x128 .f32) (us : FVec Ideal S96x128 .f32) (k0 k1 k2 k3 : ℕ) (h0 : S31x128.Slices ![k0, 0] S1x128)
    (h1 : S31x128.Slices ![k1, 0] S1x128) (h2 : S31x128.Slices ![k2, 0] S1x128) (h3 : S31x128.Slices ![k3, 0] S1x128)
    (acc : FVec Ideal S64x128 .f32) : FVec Ideal S64x128 .f32 :=
  addf (addf (addf (addf acc (term wv us k0 0 h0 slices_S96x128_o0_0_S64x128)) (term wv us k1 8 h1 slices_S96x128_o8_0_S64x128))
    (term wv us k2 16 h2 slices_S96x128_o16_0_S64x128)) (term wv us k3 24 h3 slices_S96x128_o24_0_S64x128)

/-- The rows shifted. -/
def rot (ext : FVec Ideal S96x128 .f32) (n : BitVec 32) : FVec Ideal S96x128 .f32 := dynamicRotate 0 n none ext rotates_S96x128_d0

/-- A block of the convolution. -/
def convBlk (wv : FVec Ideal S31x128 .f32) (cb : FVec Ideal S1x128 .f32) (ext : FVec Ideal S96x128 .f32) : FVec Ideal S64x128 .f32 :=
  four wv (rot ext 89#32) 6 14 22 30 slices_S31x128_o6_0_S1x128 slices_S31x128_o14_0_S1x128 slices_S31x128_o22_0_S1x128 slices_S31x128_o30_0_S1x128
  (four wv (rot ext 90#32) 5 13 21 29 slices_S31x128_o5_0_S1x128 slices_S31x128_o13_0_S1x128 slices_S31x128_o21_0_S1x128 slices_S31x128_o29_0_S1x128
  (four wv (rot ext 91#32) 4 12 20 28 slices_S31x128_o4_0_S1x128 slices_S31x128_o12_0_S1x128 slices_S31x128_o20_0_S1x128 slices_S31x128_o28_0_S1x128
  (four wv (rot ext 92#32) 3 11 19 27 slices_S31x128_o3_0_S1x128 slices_S31x128_o11_0_S1x128 slices_S31x128_o19_0_S1x128 slices_S31x128_o27_0_S1x128
  (four wv (rot ext 93#32) 2 10 18 26 slices_S31x128_o2_0_S1x128 slices_S31x128_o10_0_S1x128 slices_S31x128_o18_0_S1x128 slices_S31x128_o26_0_S1x128
  (four wv (rot ext 94#32) 1 9 17 25 slices_S31x128_o1_0_S1x128 slices_S31x128_o9_0_S1x128 slices_S31x128_o17_0_S1x128 slices_S31x128_o25_0_S1x128
  (four wv (rot ext 95#32) 0 8 16 24 slices_S31x128_o0_0_S1x128 slices_S31x128_o8_0_S1x128 slices_S31x128_o16_0_S1x128 slices_S31x128_o24_0_S1x128
  (addf (addf (addf (broadcastTo S64x128 (shapeCast S1x128 (shapeCast S1x128 cb shapeCasts_S1x128_S1x128) shapeCasts_S1x128_S1x128) broadcasts_S1x128_S64x128)
    (term wv ext 7 8 slices_S31x128_o7_0_S1x128 slices_S96x128_o8_0_S64x128)) (term wv ext 15 16 slices_S31x128_o15_0_S1x128 slices_S96x128_o16_0_S64x128))
    (term wv ext 23 24 slices_S31x128_o23_0_S1x128 slices_S96x128_o24_0_S64x128))))))))

section Layout
variable {α : Type}

theorem sc_self (s : Shape) (x : s.Idx → α) (h : s.ShapeCasts s) (i : s.Idx) : shapeCast s x h i = x i := shapeCast_apply x h i i rfl
theorem bct_tap (x : S1x128.Idx → α) (h : S1x128.Broadcasts S64x128) (i : Fin 64) (l : Fin 128) :
    broadcastTo S64x128 x h (ix2 i l) = x (ix2 (0 : Fin 1) l) :=
  broadcastTo_apply x h _ _ (fun a => by
    match a with
    | ⟨0, _⟩ => rfl
    | ⟨1, _⟩ => rfl)
theorem row_slice (k : Fin 31) (x : S31x128.Idx → α) (h : S31x128.Slices ![k.val, 0] S1x128) (l : Fin 128) :
    extractStridedSlice S1x128 ![k.val, 0] x h (ix2 (0 : Fin 1) l) = x (ix2 k l) :=
  extractStridedSlice_apply _ x h _ _ (fun a => by
    match a with
    | ⟨0, _⟩ => rfl
    | ⟨1, _⟩ => show l.val = 0 + l.val; omega)
theorem rows_slice (o : ℕ) (ho : o ≤ 32) (x : S96x128.Idx → α) (h : S96x128.Slices ![o, 0] S64x128) (i : Fin 64) (l : Fin 128) :
    extractStridedSlice S64x128 ![o, 0] x h (ix2 i l) = x (ix2 (⟨o + i.val, by omega⟩ : Fin 96) l) :=
  extractStridedSlice_apply _ x h _ _ (fun a => by
    match a with
    | ⟨0, _⟩ => rfl
    | ⟨1, _⟩ => show l.val = 0 + l.val; omega)
/-- A rotation by `96 - s` moves row `i + s` to row `i`. -/
theorem rot_ap (ext : FVec Ideal S96x128 .f32) (n : BitVec 32) (s : ℕ) (hn : n.toNat + s = 96) (hs : s ≤ 8) (hs0 : 0 < s) (i : Fin 96) (l : Fin 128)
    (hi : i.val + s < 96) : rot ext n (ix2 i l) = ext (ix2 (⟨i.val + s, hi⟩ : Fin 96) l) := by
  unfold rot dynamicRotate
  refine congrArg ext (funext fun a => ?_)
  match a with
  | ⟨0, _⟩ =>
    refine (if_pos rfl).trans (Fin.ext ?_)
    show (i.val + 96 - (n.toNat + 0) % 96) % 96 = i.val + s
    omega
  | ⟨1, _⟩ => exact if_neg (fun hh => by simp at hh)
end Layout

/-- Tap `k` of a row of the convolution. -/
def tapTerm (W : Fin 31 → EReal) (E : Fin 96 → EReal) (i : Fin 64) (k : Fin 31) : EReal := W k * E ⟨i.val + 1 + k.val, by omega⟩

theorem term_ap (wv : FVec Ideal S31x128 .f32) (ext us : FVec Ideal S96x128 .f32) (k : Fin 31) (o s : ℕ) (h) (h') (i : Fin 64) (l : Fin 128)
    (hk : o + s = k.val + 1) (ho : o ≤ 24)
    (hus : ∀ (j : Fin 96) (hj : j.val + s < 96), us (ix2 j l) = ext (ix2 (⟨j.val + s, hj⟩ : Fin 96) l)) :
    term wv us k.val o h h' (ix2 i l) = tapTerm (fun k => wv (ix2 k l)) (fun j => ext (ix2 j l)) i k := by
  refine congrArg₂ (fun (a b : EReal) => a * b) ?_ ?_
  · unfold tap
    rw [bct_tap, sc_self, row_slice, sc_self]
  · rw [rows_slice o (by omega), hus _ (by show o + i.val + s < 96; omega)]
    refine congrArg ext (congrArg (fun j => ix2 j l) (Fin.ext ?_))
    show o + i.val + s = i.val + 1 + k.val
    omega

theorem four_ap (wv : FVec Ideal S31x128 .f32) (ext : FVec Ideal S96x128 .f32) (n : BitVec 32) (s : ℕ) (hn : n.toNat + s = 96) (hs : s ≤ 7) (hs0 : 0 < s)
    (k0 k1 k2 k3 : ℕ) (e0 : k0 + 1 = s) (e1 : k1 + 1 = 8 + s) (e2 : k2 + 1 = 16 + s) (e3 : k3 + 1 = 24 + s) (h0) (h1) (h2) (h3)
    (acc : FVec Ideal S64x128 .f32) (i : Fin 64) (l : Fin 128) :
    four wv (rot ext n) k0 k1 k2 k3 h0 h1 h2 h3 acc (ix2 i l)
      = acc (ix2 i l) + tapTerm (fun k => wv (ix2 k l)) (fun j => ext (ix2 j l)) i ⟨k0, by omega⟩ + tapTerm (fun k => wv (ix2 k l)) (fun j => ext (ix2 j l)) i ⟨k1, by omega⟩
        + tapTerm (fun k => wv (ix2 k l)) (fun j => ext (ix2 j l)) i ⟨k2, by omega⟩ + tapTerm (fun k => wv (ix2 k l)) (fun j => ext (ix2 j l)) i ⟨k3, by omega⟩ := by
  have hus : ∀ (j : Fin 96) (hj : j.val + s < 96), rot ext n (ix2 j l) = ext (ix2 (⟨j.val + s, hj⟩ : Fin 96) l) :=
    fun j hj => rot_ap ext n s hn (by omega) hs0 j l hj
  refine congrArg₂ (fun (a b : EReal) => a + b) (congrArg₂ (fun (a b : EReal) => a + b) (congrArg₂ (fun (a b : EReal) => a + b)
    (congrArg₂ (fun (a b : EReal) => a + b) rfl ?_) ?_) ?_) ?_
  · exact term_ap wv ext _ ⟨k0, by omega⟩ 0 s _ _ i l (by show 0 + s = k0 + 1; omega) (by omega) hus
  · exact term_ap wv ext _ ⟨k1, by omega⟩ 8 s _ _ i l (by show 8 + s = k1 + 1; omega) (by omega) hus
  · exact term_ap wv ext _ ⟨k2, by omega⟩ 16 s _ _ i l (by show 16 + s = k2 + 1; omega) (by omega) hus
  · exact term_ap wv ext _ ⟨k3, by omega⟩ 24 s _ _ i l (by show 24 + s = k3 + 1; omega) (by omega) hus

/-- The 31 products in the order of the shifts. -/
theorem taps_order (T : Fin 31 → EReal) (b : EReal) :
    b + T 7 + T 15 + T 23 + T 0 + T 8 + T 16 + T 24 + T 1 + T 9 + T 17 + T 25 + T 2 + T 10 + T 18 + T 26 + T 3 + T 11 + T 19 + T 27
      + T 4 + T 12 + T 20 + T 28 + T 5 + T 13 + T 21 + T 29 + T 6 + T 14 + T 22 + T 30 = b + ∑ k, T k := by
  rw [show (∑ k, T k) = T 0 + T 1 + T 2 + T 3 + T 4 + T 5 + T 6 + T 7 + T 8 + T 9 + T 10 + T 11 + T 12 + T 13 + T 14 + T 15 + T 16 + T 17 + T 18
    + T 19 + T 20 + T 21 + T 22 + T 23 + T 24 + T 25 + T 26 + T 27 + T 28 + T 29 + T 30 from by
      simp only [Fin.sum_univ_castSucc, Fin.sum_univ_zero, zero_add]; rfl]
  abel

/-- A row of the convolution: the bias and the 31 products. -/
def convRow (W : Fin 31 → EReal) (b : EReal) (E : Fin 96 → EReal) (i : Fin 64) : EReal := b + ∑ k, tapTerm W E i k

/-- An entry of a block of the convolution. -/
theorem convBlk_ap (wv : FVec Ideal S31x128 .f32) (cb : FVec Ideal S1x128 .f32) (ext : FVec Ideal S96x128 .f32) (i : Fin 64) (l : Fin 128) :
    convBlk wv cb ext (ix2 i l) = convRow (fun k => wv (ix2 k l)) (cb (ix2 (0 : Fin 1) l)) (fun j => ext (ix2 j l)) i := by
  have h0 : ∀ (j : Fin 96) (hj : j.val + 0 < 96), ext (ix2 j l) = ext (ix2 (⟨j.val + 0, hj⟩ : Fin 96) l) := fun j hj => rfl
  unfold convBlk
  rw [four_ap wv ext 89#32 7 rfl (by omega) (by omega) 6 14 22 30 rfl rfl rfl rfl]
  rw [four_ap wv ext 90#32 6 rfl (by omega) (by omega) 5 13 21 29 rfl rfl rfl rfl]
  rw [four_ap wv ext 91#32 5 rfl (by omega) (by omega) 4 12 20 28 rfl rfl rfl rfl]
  rw [four_ap wv ext 92#32 4 rfl (by omega) (by omega) 3 11 19 27 rfl rfl rfl rfl]
  rw [four_ap wv ext 93#32 3 rfl (by omega) (by omega) 2 10 18 26 rfl rfl rfl rfl]
  rw [four_ap wv ext 94#32 2 rfl (by omega) (by omega) 1 9 17 25 rfl rfl rfl rfl]
  rw [four_ap wv ext 95#32 1 rfl (by omega) (by omega) 0 8 16 24 rfl rfl rfl rfl]
  have hb : ∀ (A T1 T2 T3 : FVec Ideal S64x128 .f32), addf (addf (addf A T1) T2) T3 (ix2 i l) = (A (ix2 i l) + T1 (ix2 i l) + T2 (ix2 i l) + T3 (ix2 i l) : EReal) :=
    fun _ _ _ _ => rfl
  have t0 : term wv ext 7 8 slices_S31x128_o7_0_S1x128 slices_S96x128_o8_0_S64x128 (ix2 i l) = _ := term_ap wv ext ext 7 8 0 _ _ i l rfl (by omega) h0
  have t1 : term wv ext 15 16 slices_S31x128_o15_0_S1x128 slices_S96x128_o16_0_S64x128 (ix2 i l) = _ := term_ap wv ext ext 15 16 0 _ _ i l rfl (by omega) h0
  have t2 : term wv ext 23 24 slices_S31x128_o23_0_S1x128 slices_S96x128_o24_0_S64x128 (ix2 i l) = _ := term_ap wv ext ext 23 24 0 _ _ i l rfl (by omega) h0
  rw [hb, bct_tap, sc_self, sc_self, t0, t1, t2]
  exact taps_order _ _

end Cert.Mix

end
-- ==== Proof.MixPieces.lean ====
/- The rows the convolution's blocks leave in their buffer: 32 stores of 64 rows by 128 columns. -/
module

public import proofs.«01_k».proof.Proof.MixConv
public import proofs.«01_k».proof.Proof.Gen.Kernel3Ideal.Frame.RunA
public import proofs.«01_k».proof.Proof.Gen.Kernel3Ideal.Frame.RunB

@[expose] public section

set_option maxRecDepth 16384

noncomputable section

namespace Cert.Mix

open Idealize.ShloMosaic Idealize.ShloMosaic.TcCoe Idealize.ShloMosaic.ValueIdx
open Cert.Kernel3Ideal Cert.Kernel3Ideal.Gen

/-- A store of the convolution: the block at row `r` and column `o`, from the taps and the bias at that column and the gated
    rows at that row and column. -/
def piece (arg14 : Memref sig .tc .vmem S31x1024 .f32) (harg14 : arg14.IsWhole) (arg15 : Memref sig .tc .vmem S1x1024 .f32) (harg15 : arg15.IsWhole)
    (arg23 : Memref sig .tc .vmem S288x1024 .f32) (x13 : Vec Ideal S31x1024 .f32) (x14 : Vec Ideal S1x1024 .f32)
    (Lu : List (View.Piece (Elt Ideal) S288x1024 .f32)) (r o : ℕ) (inb : ∀ a, ![r, o] a + S64x128.size a ≤ S256x1024.size a)
    (inbW : ∀ a, ![0, o] a + S31x128.size a ≤ S31x1024.size a) (inbC : ∀ a, ![0, o] a + S1x128.size a ≤ S1x1024.size a)
    (inbE : ∀ a, ![r, o] a + S96x128.size a ≤ S288x1024.size a) : View.Piece (Elt Ideal) S256x1024 .f32 :=
  ⟨Rect.unit (s := S256x1024) ![r, o] S64x128.size inb,
    shapeCast S64x128 (convBlk (View.readAt (Elt Ideal) arg14.view (Rect.unit (s := S31x1024) ![0, o] S31x128.size inbW).toLoadRect (harg14.unread x13))
      (View.readAt (Elt Ideal) arg15.view (Rect.unit (s := S1x1024) ![0, o] S1x128.size inbC).toLoadRect (harg15.unread x14))
      (arg23.view.readCov Lu (Rect.unit (s := S288x1024) ![r, o] S96x128.size inbE).toLoadRect)) shapeCasts_S64x128_S64x128⟩

/-- The convolution's stores, the newest first, from the stores `Lu` of the gated rows. -/
def convList (arg14 : Memref sig .tc .vmem S31x1024 .f32) (harg14 : arg14.IsWhole) (arg15 : Memref sig .tc .vmem S1x1024 .f32) (harg15 : arg15.IsWhole)
    (arg23 : Memref sig .tc .vmem S288x1024 .f32) (x13 : Vec Ideal S31x1024 .f32) (x14 : Vec Ideal S1x1024 .f32)
    (Lu : List (View.Piece (Elt Ideal) S288x1024 .f32)) : List (View.Piece (Elt Ideal) S256x1024 .f32) :=
  [piece arg14 harg14 arg15 harg15 arg23 x13 x14 Lu 192 896 inb_S256x1024_S64x128_192_896 inb_S31x1024_S31x128_0_896 inb_S1x1024_S1x128_0_896 inb_S288x1024_S96x128_192_896,
    piece arg14 harg14 arg15 harg15 arg23 x13 x14 Lu 128 896 inb_S256x1024_S64x128_128_896 inb_S31x1024_S31x128_0_896 inb_S1x1024_S1x128_0_896 inb_S288x1024_S96x128_128_896,
    piece arg14 harg14 arg15 harg15 arg23 x13 x14 Lu 64 896 inb_S256x1024_S64x128_64_896 inb_S31x1024_S31x128_0_896 inb_S1x1024_S1x128_0_896 inb_S288x1024_S96x128_64_896,
    piece arg14 harg14 arg15 harg15 arg23 x13 x14 Lu 0 896 inb_S256x1024_S64x128_0_896 inb_S31x1024_S31x128_0_896 inb_S1x1024_S1x128_0_896 inb_S288x1024_S96x128_0_896,
    piece arg14 harg14 arg15 harg15 arg23 x13 x14 Lu 192 768 inb_S256x1024_S64x128_192_768 inb_S31x1024_S31x128_0_768 inb_S1x1024_S1x128_0_768 inb_S288x1024_S96x128_192_768,
    piece arg14 harg14 arg15 harg15 arg23 x13 x14 Lu 128 768 inb_S256x1024_S64x128_128_768 inb_S31x1024_S31x128_0_768 inb_S1x1024_S1x128_0_768 inb_S288x1024_S96x128_128_768,
    piece arg14 harg14 arg15 harg15 arg23 x13 x14 Lu 64 768 inb_S256x1024_S64x128_64_768 inb_S31x1024_S31x128_0_768 inb_S1x1024_S1x128_0_768 inb_S288x1024_S96x128_64_768,
    piece arg14 harg14 arg15 harg15 arg23 x13 x14 Lu 0 768 inb_S256x1024_S64x128_0_768 inb_S31x1024_S31x128_0_768 inb_S1x1024_S1x128_0_768 inb_S288x1024_S96x128_0_768,
    piece arg14 harg14 arg15 harg15 arg23 x13 x14 Lu 192 640 inb_S256x1024_S64x128_192_640 inb_S31x1024_S31x128_0_640 inb_S1x1024_S1x128_0_640 inb_S288x1024_S96x128_192_640,
    piece arg14 harg14 arg15 harg15 arg23 x13 x14 Lu 128 640 inb_S256x1024_S64x128_128_640 inb_S31x1024_S31x128_0_640 inb_S1x1024_S1x128_0_640 inb_S288x1024_S96x128_128_640,
    piece arg14 harg14 arg15 harg15 arg23 x13 x14 Lu 64 640 inb_S256x1024_S64x128_64_640 inb_S31x1024_S31x128_0_640 inb_S1x1024_S1x128_0_640 inb_S288x1024_S96x128_64_640,
    piece arg14 harg14 arg15 harg15 arg23 x13 x14 Lu 0 640 inb_S256x1024_S64x128_0_640 inb_S31x1024_S31x128_0_640 inb_S1x1024_S1x128_0_640 inb_S288x1024_S96x128_0_640,
    piece arg14 harg14 arg15 harg15 arg23 x13 x14 Lu 192 512 inb_S256x1024_S64x128_192_512 inb_S31x1024_S31x128_0_512 inb_S1x1024_S1x128_0_512 inb_S288x1024_S96x128_192_512,
    piece arg14 harg14 arg15 harg15 arg23 x13 x14 Lu 128 512 inb_S256x1024_S64x128_128_512 inb_S31x1024_S31x128_0_512 inb_S1x1024_S1x128_0_512 inb_S288x1024_S96x128_128_512,
    piece arg14 harg14 arg15 harg15 arg23 x13 x14 Lu 64 512 inb_S256x1024_S64x128_64_512 inb_S31x1024_S31x128_0_512 inb_S1x1024_S1x128_0_512 inb_S288x1024_S96x128_64_512,
    piece arg14 harg14 arg15 harg15 arg23 x13 x14 Lu 0 512 inb_S256x1024_S64x128_0_512 inb_S31x1024_S31x128_0_512 inb_S1x1024_S1x128_0_512 inb_S288x1024_S96x128_0_512,
    piece arg14 harg14 arg15 harg15 arg23 x13 x14 Lu 192 384 inb_S256x1024_S64x128_192_384 inb_S31x1024_S31x128_0_384 inb_S1x1024_S1x128_0_384 inb_S288x1024_S96x128_192_384,
    piece arg14 harg14 arg15 harg15 arg23 x13 x14 Lu 128 384 inb_S256x1024_S64x128_128_384 inb_S31x1024_S31x128_0_384 inb_S1x1024_S1x128_0_384 inb_S288x1024_S96x128_128_384,
    piece arg14 harg14 arg15 harg15 arg23 x13 x14 Lu 64 384 inb_S256x1024_S64x128_64_384 inb_S31x1024_S31x128_0_384 inb_S1x1024_S1x128_0_384 inb_S288x1024_S96x128_64_384,
    piece arg14 harg14 arg15 harg15 arg23 x13 x14 Lu 0 384 inb_S256x1024_S64x128_0_384 inb_S31x1024_S31x128_0_384 inb_S1x1024_S1x128_0_384 inb_S288x1024_S96x128_0_384,
    piece arg14 harg14 arg15 harg15 arg23 x13 x14 Lu 192 256 inb_S256x1024_S64x128_192_256 inb_S31x1024_S31x128_0_256 inb_S1x1024_S1x128_0_256 inb_S288x1024_S96x128_192_256,
    piece arg14 harg14 arg15 harg15 arg23 x13 x14 Lu 128 256 inb_S256x1024_S64x128_128_256 inb_S31x1024_S31x128_0_256 inb_S1x1024_S1x128_0_256 inb_S288x1024_S96x128_128_256,
    piece arg14 harg14 arg15 harg15 arg23 x13 x14 Lu 64 256 inb_S256x1024_S64x128_64_256 inb_S31x1024_S31x128_0_256 inb_S1x1024_S1x128_0_256 inb_S288x1024_S96x128_64_256,
    piece arg14 harg14 arg15 harg15 arg23 x13 x14 Lu 0 256 inb_S256x1024_S64x128_0_256 inb_S31x1024_S31x128_0_256 inb_S1x1024_S1x128_0_256 inb_S288x1024_S96x128_0_256,
    piece arg14 harg14 arg15 harg15 arg23 x13 x14 Lu 192 128 inb_S256x1024_S64x128_192_128 inb_S31x1024_S31x128_0_128 inb_S1x1024_S1x128_0_128 inb_S288x1024_S96x128_192_128,
    piece arg14 harg14 arg15 harg15 arg23 x13 x14 Lu 128 128 inb_S256x1024_S64x128_128_128 inb_S31x1024_S31x128_0_128 inb_S1x1024_S1x128_0_128 inb_S288x1024_S96x128_128_128,
    piece arg14 harg14 arg15 harg15 arg23 x13 x14 Lu 64 128 inb_S256x1024_S64x128_64_128 inb_S31x1024_S31x128_0_128 inb_S1x1024_S1x128_0_128 inb_S288x1024_S96x128_64_128,
    piece arg14 harg14 arg15 harg15 arg23 x13 x14 Lu 0 128 inb_S256x1024_S64x128_0_128 inb_S31x1024_S31x128_0_128 inb_S1x1024_S1x128_0_128 inb_S288x1024_S96x128_0_128,
    piece arg14 harg14 arg15 harg15 arg23 x13 x14 Lu 192 0 inb_S256x1024_S64x128_192_0 inb_S31x1024_S31x128_0_0 inb_S1x1024_S1x128_0_0 inb_S288x1024_S96x128_192_0,
    piece arg14 harg14 arg15 harg15 arg23 x13 x14 Lu 128 0 inb_S256x1024_S64x128_128_0 inb_S31x1024_S31x128_0_0 inb_S1x1024_S1x128_0_0 inb_S288x1024_S96x128_128_0,
    piece arg14 harg14 arg15 harg15 arg23 x13 x14 Lu 64 0 inb_S256x1024_S64x128_64_0 inb_S31x1024_S31x128_0_0 inb_S1x1024_S1x128_0_0 inb_S288x1024_S96x128_64_0,
    piece arg14 harg14 arg15 harg15 arg23 x13 x14 Lu 0 0 inb_S256x1024_S64x128_0_0 inb_S31x1024_S31x128_0_0 inb_S1x1024_S1x128_0_0 inb_S288x1024_S96x128_0_0]

/-- The factor of the 16 rows before a tile. -/
def keepPrev (i : grid0.Coords) : Ideal .f32 :=
  Scalar.select (Scalar.ori (Scalar.cmpi .slt (BitVec.ofNat 32 (i 0).val) 32#32)
      (Scalar.cmpi .eq (Scalar.remsi (Scalar.maxsi (Scalar.subi (BitVec.ofNat 32 (i 0).val) 32#32) 0#32) 8#32) 0#32))
    (Scalar.ofBits .f32 0x00000000#32 : Ideal .f32) (Scalar.ofBits .f32 0x3F800000#32)

/-- The gated rows' stores, the newest first: the 16 rows after the tile, the tile, the 16 rows before it. -/
def rowList (i : grid0.Coords) (arg4 : Memref sig .tc .vmem S256x1024 .bf16) (harg4 : arg4.IsWhole)
    (arg5 : Memref sig .tc .vmem S256x1024 .bf16) (harg5 : arg5.IsWhole)
    (arg8 : Memref sig .tc .vmem S16x1024 .bf16) (harg8 : arg8.IsWhole)
    (arg9 : Memref sig .tc .vmem S16x1024 .bf16) (harg9 : arg9.IsWhole)
    (arg10 : Memref sig .tc .vmem S16x1024 .bf16) (harg10 : arg10.IsWhole)
    (arg11 : Memref sig .tc .vmem S16x1024 .bf16) (harg11 : arg11.IsWhole)
    (x3 x4 : Vec Ideal S256x1024 .bf16) (x7 x8 x9 x10 : Vec Ideal S16x1024 .bf16) : List (View.Piece (Elt Ideal) S288x1024 .f32) :=
  [⟨Rect.unit (s := S288x1024) ![272, 0] S16x1024.size inb_S288x1024_S16x1024_272_0,
      k0_pay11 (k0_pay6 i) (View.readAt (Elt Ideal) arg9.view (Rect.unit (s := S16x1024) ![0, 0] S16x1024.size inb_S16x1024_S16x1024_0_0).toLoadRect (harg9.unread x8))
        (View.readAt (Elt Ideal) arg11.view (Rect.unit (s := S16x1024) ![0, 0] S16x1024.size inb_S16x1024_S16x1024_0_0).toLoadRect (harg11.unread x10))⟩,
    ⟨Rect.unit (s := S288x1024) ![16, 0] S256x1024.size inb_S288x1024_S256x1024_16_0,
      k0_pay10 (k0_pay8 (View.readAt (Elt Ideal) arg4.view (Rect.unit (s := S256x1024) ![0, 0] S256x1024.size inb_S256x1024_S256x1024_0_0).toLoadRect (harg4.unread x3)))
        (k0_pay9 (View.readAt (Elt Ideal) arg5.view (Rect.unit (s := S256x1024) ![0, 0] S256x1024.size inb_S256x1024_S256x1024_0_0).toLoadRect (harg5.unread x4)))⟩,
    ⟨Rect.unit (s := S288x1024) ![0, 0] S16x1024.size inb_S288x1024_S16x1024_0_0,
      k0_pay7 i (View.readAt (Elt Ideal) arg8.view (Rect.unit (s := S16x1024) ![0, 0] S16x1024.size inb_S16x1024_S16x1024_0_0).toLoadRect (harg8.unread x7))
        (View.readAt (Elt Ideal) arg10.view (Rect.unit (s := S16x1024) ![0, 0] S16x1024.size inb_S16x1024_S16x1024_0_0).toLoadRect (harg10.unread x9))⟩]

/-- The convolution's rows as they are read back. -/
def convRead (i : grid0.Coords) (arg4 : Memref sig .tc .vmem S256x1024 .bf16) (harg4 : arg4.IsWhole)
    (arg5 : Memref sig .tc .vmem S256x1024 .bf16) (harg5 : arg5.IsWhole)
    (arg8 : Memref sig .tc .vmem S16x1024 .bf16) (harg8 : arg8.IsWhole)
    (arg9 : Memref sig .tc .vmem S16x1024 .bf16) (harg9 : arg9.IsWhole)
    (arg10 : Memref sig .tc .vmem S16x1024 .bf16) (harg10 : arg10.IsWhole)
    (arg11 : Memref sig .tc .vmem S16x1024 .bf16) (harg11 : arg11.IsWhole)
    (arg14 : Memref sig .tc .vmem S31x1024 .f32) (harg14 : arg14.IsWhole) (arg15 : Memref sig .tc .vmem S1x1024 .f32) (harg15 : arg15.IsWhole)
    (arg23 : Memref sig .tc .vmem S288x1024 .f32)
    (arg24 : Memref sig .tc .vmem S256x1024 .f32) (x3 x4 : Vec Ideal S256x1024 .bf16) (x7 x8 x9 x10 : Vec Ideal S16x1024 .bf16)
    (x13 : Vec Ideal S31x1024 .f32) (x14 : Vec Ideal S1x1024 .f32) : Vec Ideal S256x1024 .f32 :=
  arg24.view.readCov (convList arg14 harg14 arg15 harg15 arg23 x13 x14 (rowList i arg4 harg4 arg5 harg5 arg8 harg8 arg9 harg9 arg10 harg10 arg11 harg11 x3 x4 x7 x8 x9 x10))
    (Rect.unit (s := S256x1024) ![0, 0] S256x1024.size inb_S256x1024_S256x1024_0_0).toLoadRect

/-- The gated rows' stores of the first points. -/
theorem rows_eqA (c : Dev nD) (i : grid0.Coords) (arg4 : Memref sig .tc .vmem S256x1024 .bf16) (harg4 : arg4.IsWhole)
    (arg5 : Memref sig .tc .vmem S256x1024 .bf16) (harg5 : arg5.IsWhole)
    (arg8 : Memref sig .tc .vmem S16x1024 .bf16) (harg8 : arg8.IsWhole)
    (arg9 : Memref sig .tc .vmem S16x1024 .bf16) (harg9 : arg9.IsWhole)
    (arg10 : Memref sig .tc .vmem S16x1024 .bf16) (harg10 : arg10.IsWhole)
    (arg11 : Memref sig .tc .vmem S16x1024 .bf16) (harg11 : arg11.IsWhole)
    (x3 x4 : Vec Ideal S256x1024 .bf16) (x7 x8 x9 x10 : Vec Ideal S16x1024 .bf16) :
    kernelRun0_A.sl.HS0_3 (F := Ideal) c i arg4 harg4 arg5 harg5 arg8 harg8 arg9 harg9 arg10 harg10 arg11 harg11 x3 x4 x7 x8 x9 x10 = rowList i arg4 harg4 arg5 harg5 arg8 harg8 arg9 harg9 arg10 harg10 arg11 harg11 x3 x4 x7 x8 x9 x10 := by
  unfold kernelRun0_A.sl.HS0_3
  rfl

/-- The convolution's stores of the first points. -/
theorem list_eqA (c : Dev nD) (i : grid0.Coords) (arg4 : Memref sig .tc .vmem S256x1024 .bf16) (harg4 : arg4.IsWhole)
    (arg5 : Memref sig .tc .vmem S256x1024 .bf16) (harg5 : arg5.IsWhole)
    (arg8 : Memref sig .tc .vmem S16x1024 .bf16) (harg8 : arg8.IsWhole)
    (arg9 : Memref sig .tc .vmem S16x1024 .bf16) (harg9 : arg9.IsWhole)
    (arg10 : Memref sig .tc .vmem S16x1024 .bf16) (harg10 : arg10.IsWhole)
    (arg11 : Memref sig .tc .vmem S16x1024 .bf16) (harg11 : arg11.IsWhole)
    (arg14 : Memref sig .tc .vmem S31x1024 .f32) (harg14 : arg14.IsWhole) (arg15 : Memref sig .tc .vmem S1x1024 .f32) (harg15 : arg15.IsWhole)
    (arg23 : Memref sig .tc .vmem S288x1024 .f32)
    (x3 x4 : Vec Ideal S256x1024 .bf16) (x7 x8 x9 x10 : Vec Ideal S16x1024 .bf16) (x13 : Vec Ideal S31x1024 .f32) (x14 : Vec Ideal S1x1024 .f32) :
    kernelRun0_A.sl.HS1_32 (F := Ideal) c i arg4 harg4 arg5 harg5 arg8 harg8 arg9 harg9 arg10 harg10 arg11 harg11 arg14 harg14 arg15 harg15 arg23 x3 x4 x7 x8 x9 x10 x13 x14
      = convList arg14 harg14 arg15 harg15 arg23 x13 x14 (kernelRun0_A.sl.HS0_3 c i arg4 harg4 arg5 harg5 arg8 harg8 arg9 harg9 arg10 harg10 arg11 harg11 x3 x4 x7 x8 x9 x10) := by
  unfold kernelRun0_A.sl.HS1_32
  rfl

/-- The first points read those rows back. -/
theorem read_eqA (c : Dev nD) (i : grid0.Coords) (arg4 : Memref sig .tc .vmem S256x1024 .bf16) (harg4 : arg4.IsWhole)
    (arg5 : Memref sig .tc .vmem S256x1024 .bf16) (harg5 : arg5.IsWhole)
    (arg8 : Memref sig .tc .vmem S16x1024 .bf16) (harg8 : arg8.IsWhole)
    (arg9 : Memref sig .tc .vmem S16x1024 .bf16) (harg9 : arg9.IsWhole)
    (arg10 : Memref sig .tc .vmem S16x1024 .bf16) (harg10 : arg10.IsWhole)
    (arg11 : Memref sig .tc .vmem S16x1024 .bf16) (harg11 : arg11.IsWhole)
    (arg14 : Memref sig .tc .vmem S31x1024 .f32) (harg14 : arg14.IsWhole) (arg15 : Memref sig .tc .vmem S1x1024 .f32) (harg15 : arg15.IsWhole)
    (arg23 : Memref sig .tc .vmem S288x1024 .f32)
    (arg24 : Memref sig .tc .vmem S256x1024 .f32) (x3 x4 : Vec Ideal S256x1024 .bf16) (x7 x8 x9 x10 : Vec Ideal S16x1024 .bf16)
    (x13 : Vec Ideal S31x1024 .f32) (x14 : Vec Ideal S1x1024 .f32) :
    kernelRun0_A.sl.v4179 (F := Ideal) c i arg4 harg4 arg5 harg5 arg8 harg8 arg9 harg9 arg10 harg10 arg11 harg11 arg14 harg14 arg15 harg15 arg23 arg24 x3 x4 x7 x8 x9 x10 x13 x14
      = convRead i arg4 harg4 arg5 harg5 arg8 harg8 arg9 harg9 arg10 harg10 arg11 harg11 arg14 harg14 arg15 harg15 arg23 arg24 x3 x4 x7 x8 x9 x10 x13 x14 := by
  unfold kernelRun0_A.sl.v4179 convRead
  rw [list_eqA, rows_eqA]

/-- The gated rows' stores of the last points. -/
theorem rows_eqB (c : Dev nD) (i : grid0.Coords) (arg4 : Memref sig .tc .vmem S256x1024 .bf16) (harg4 : arg4.IsWhole)
    (arg5 : Memref sig .tc .vmem S256x1024 .bf16) (harg5 : arg5.IsWhole)
    (arg8 : Memref sig .tc .vmem S16x1024 .bf16) (harg8 : arg8.IsWhole)
    (arg9 : Memref sig .tc .vmem S16x1024 .bf16) (harg9 : arg9.IsWhole)
    (arg10 : Memref sig .tc .vmem S16x1024 .bf16) (harg10 : arg10.IsWhole)
    (arg11 : Memref sig .tc .vmem S16x1024 .bf16) (harg11 : arg11.IsWhole)
    (x3 x4 : Vec Ideal S256x1024 .bf16) (x7 x8 x9 x10 : Vec Ideal S16x1024 .bf16) :
    kernelRun0_B.sl.HS0_3 (F := Ideal) c i arg4 harg4 arg5 harg5 arg8 harg8 arg9 harg9 arg10 harg10 arg11 harg11 x3 x4 x7 x8 x9 x10 = rowList i arg4 harg4 arg5 harg5 arg8 harg8 arg9 harg9 arg10 harg10 arg11 harg11 x3 x4 x7 x8 x9 x10 := by
  unfold kernelRun0_B.sl.HS0_3
  rfl

/-- The convolution's stores of the last points. -/
theorem list_eqB (c : Dev nD) (i : grid0.Coords) (arg4 : Memref sig .tc .vmem S256x1024 .bf16) (harg4 : arg4.IsWhole)
    (arg5 : Memref sig .tc .vmem S256x1024 .bf16) (harg5 : arg5.IsWhole)
    (arg8 : Memref sig .tc .vmem S16x1024 .bf16) (harg8 : arg8.IsWhole)
    (arg9 : Memref sig .tc .vmem S16x1024 .bf16) (harg9 : arg9.IsWhole)
    (arg10 : Memref sig .tc .vmem S16x1024 .bf16) (harg10 : arg10.IsWhole)
    (arg11 : Memref sig .tc .vmem S16x1024 .bf16) (harg11 : arg11.IsWhole)
    (arg14 : Memref sig .tc .vmem S31x1024 .f32) (harg14 : arg14.IsWhole) (arg15 : Memref sig .tc .vmem S1x1024 .f32) (harg15 : arg15.IsWhole)
    (arg23 : Memref sig .tc .vmem S288x1024 .f32)
    (x3 x4 : Vec Ideal S256x1024 .bf16) (x7 x8 x9 x10 : Vec Ideal S16x1024 .bf16) (x13 : Vec Ideal S31x1024 .f32) (x14 : Vec Ideal S1x1024 .f32) :
    kernelRun0_B.sl.HS1_32 (F := Ideal) c i arg4 harg4 arg5 harg5 arg8 harg8 arg9 harg9 arg10 harg10 arg11 harg11 arg14 harg14 arg15 harg15 arg23 x3 x4 x7 x8 x9 x10 x13 x14
      = convList arg14 harg14 arg15 harg15 arg23 x13 x14 (kernelRun0_B.sl.HS0_3 c i arg4 harg4 arg5 harg5 arg8 harg8 arg9 harg9 arg10 harg10 arg11 harg11 x3 x4 x7 x8 x9 x10) := by
  unfold kernelRun0_B.sl.HS1_32
  rfl

/-- The last points read those rows back. -/
theorem read_eqB (c : Dev nD) (i : grid0.Coords) (arg4 : Memref sig .tc .vmem S256x1024 .bf16) (harg4 : arg4.IsWhole)
    (arg5 : Memref sig .tc .vmem S256x1024 .bf16) (harg5 : arg5.IsWhole)
    (arg8 : Memref sig .tc .vmem S16x1024 .bf16) (harg8 : arg8.IsWhole)
    (arg9 : Memref sig .tc .vmem S16x1024 .bf16) (harg9 : arg9.IsWhole)
    (arg10 : Memref sig .tc .vmem S16x1024 .bf16) (harg10 : arg10.IsWhole)
    (arg11 : Memref sig .tc .vmem S16x1024 .bf16) (harg11 : arg11.IsWhole)
    (arg14 : Memref sig .tc .vmem S31x1024 .f32) (harg14 : arg14.IsWhole) (arg15 : Memref sig .tc .vmem S1x1024 .f32) (harg15 : arg15.IsWhole)
    (arg23 : Memref sig .tc .vmem S288x1024 .f32)
    (arg24 : Memref sig .tc .vmem S256x1024 .f32) (x3 x4 : Vec Ideal S256x1024 .bf16) (x7 x8 x9 x10 : Vec Ideal S16x1024 .bf16)
    (x13 : Vec Ideal S31x1024 .f32) (x14 : Vec Ideal S1x1024 .f32) :
    kernelRun0_B.sl.v4179 (F := Ideal) c i arg4 harg4 arg5 harg5 arg8 harg8 arg9 harg9 arg10 harg10 arg11 harg11 arg14 harg14 arg15 harg15 arg23 arg24 x3 x4 x7 x8 x9 x10 x13 x14
      = convRead i arg4 harg4 arg5 harg5 arg8 harg8 arg9 harg9 arg10 harg10 arg11 harg11 arg14 harg14 arg15 harg15 arg23 arg24 x3 x4 x7 x8 x9 x10 x13 x14 := by
  unfold kernelRun0_B.sl.v4179 convRead
  rw [list_eqB, rows_eqB]

end Cert.Mix

end
-- ==== Proof.MixRows.lean ====
/- The rows the convolution reads and the rows it leaves, entry by entry. -/
module

public import proofs.«01_k».proof.Proof.MixPieces
public import Idealize.ShloMosaic.Lib.KernelVsHost
public import Idealize.ShloMosaic.Lib.ValueLayout
public import Idealize.ShloMosaic.Lib.IdealHost

@[expose] public section

set_option maxRecDepth 16384

noncomputable section

namespace Cert.Mix

open Idealize.ShloMosaic Idealize.ShloMosaic.TcCoe Idealize.ShloMosaic.ValueIdx
open Cert.Kernel3Ideal Cert.Kernel3Ideal.Gen
open scoped BigOperators

/-- The logistic function. -/
def sgm (b : EReal) : EReal := Ideal.div (Ideal.ofBits .f32 0x3F800000#32) (Ideal.ofBits .f32 0x3F800000#32 + Ideal.exp (Ideal.ofBits .f32 0x00000000#32 - b))
/-- A value times the logistic function of another. -/
def glu (a b : EReal) : EReal := a * sgm b

/-- A load off a whole buffer reads its contents at the rectangle's index. -/
theorem load_ap {sp : Space} {s : Shape} {e : EltTy} (m : Memref sig .tc sp s e) (h : m.IsWhole) (X : Vec Ideal s e) (r : Rect s)
    (j : r.shape.Idx) : View.readAt (Elt Ideal) m.view r.toLoadRect (h.unread X) j = X (r.idx j) := by
  rw [View.readAt_eq_ld, h.read_unread]

/-- The index of an entry of a rectangle. -/
theorem rect_idx {a b p q : ℕ} (r o : ℕ) (inb : ∀ x, ![r, o] x + (⟨2, ![p, q]⟩ : Shape).size x ≤ (⟨2, ![a, b]⟩ : Shape).size x) (i : Fin p) (j : Fin q)
    (I : Fin a) (J : Fin b) (hI : I.val = r + i.val) (hJ : J.val = o + j.val) :
    (Rect.unit (s := (⟨2, ![a, b]⟩ : Shape)) ![r, o] (⟨2, ![p, q]⟩ : Shape).size inb).idx (ix2 i j) = ix2 I J :=
  funext fun x => Fin.ext (by
    match x with
    | ⟨0, _⟩ => show r + 1 * i.val = I.val; omega
    | ⟨1, _⟩ => show o + 1 * j.val = J.val; omega)

/-- The rows around a tile: the gated rows of the tile, 16 gated rows before it and 16 after it, these times the tile's factors. -/
def U (kp kn : EReal) (x3 x4 : Vec Ideal S256x1024 .bf16) (x7 x8 x9 x10 : Vec Ideal S16x1024 .bf16) (R : Fin 288) (C : Fin 1024) : EReal :=
  if h : R.val < 16 then glu (x7 (ix2 (⟨R.val, h⟩ : Fin 16) C)) (x9 (ix2 (⟨R.val, h⟩ : Fin 16) C)) * kp
  else if h' : R.val < 272 then glu (x3 (ix2 (⟨R.val - 16, by omega⟩ : Fin 256) C)) (x4 (ix2 (⟨R.val - 16, by omega⟩ : Fin 256) C))
  else glu (x8 (ix2 (⟨R.val - 272, by omega⟩ : Fin 16) C)) (x10 (ix2 (⟨R.val - 272, by omega⟩ : Fin 16) C)) * kn

theorem pay7_ap (i : grid0.Coords) (a b : Vec Ideal S16x1024 .bf16) (r : Fin 16) (C : Fin 1024) :
    (k0_pay7 i a b : FVec Ideal S16x1024 .f32) (ix2 r C) = glu (a (ix2 r C)) (b (ix2 r C)) * keepPrev i := by
  unfold k0_pay7
  exact shapeCast_apply _ _ _ (ix2 r C) rfl
theorem pay11_ap (v : Ideal .f32) (a b : Vec Ideal S16x1024 .bf16) (r : Fin 16) (C : Fin 1024) :
    (k0_pay11 v a b : FVec Ideal S16x1024 .f32) (ix2 r C) = glu (a (ix2 r C)) (b (ix2 r C)) * v := by
  unfold k0_pay11
  exact shapeCast_apply _ _ _ (ix2 r C) rfl
theorem pay10_ap (a b : Vec Ideal S256x1024 .bf16) (r : Fin 256) (C : Fin 1024) :
    (k0_pay10 (k0_pay8 a) (k0_pay9 b) : FVec Ideal S256x1024 .f32) (ix2 r C) = glu (a (ix2 r C)) (b (ix2 r C)) := by
  unfold k0_pay10
  exact shapeCast_apply _ _ _ (ix2 r C) rfl

/-- An entry of a list is in it. -/
theorem memAt {α : Type*} (n : ℕ) (l : List α) (p : α) (h : l[n]? = some p) : p ∈ l := List.mem_of_getElem? h

section Rows

variable (i : grid0.Coords)
  (arg4 : Memref sig .tc .vmem S256x1024 .bf16) (harg4 : arg4.IsWhole)
  (arg5 : Memref sig .tc .vmem S256x1024 .bf16) (harg5 : arg5.IsWhole)
  (arg8 : Memref sig .tc .vmem S16x1024 .bf16) (harg8 : arg8.IsWhole)
  (arg9 : Memref sig .tc .vmem S16x1024 .bf16) (harg9 : arg9.IsWhole)
  (arg10 : Memref sig .tc .vmem S16x1024 .bf16) (harg10 : arg10.IsWhole)
  (arg11 : Memref sig .tc .vmem S16x1024 .bf16) (harg11 : arg11.IsWhole)
  (arg14 : Memref sig .tc .vmem S31x1024 .f32) (harg14 : arg14.IsWhole) (arg15 : Memref sig .tc .vmem S1x1024 .f32) (harg15 : arg15.IsWhole)
  (arg23 : Memref sig .tc .vmem S288x1024 .f32) (arg24 : Memref sig .tc .vmem S256x1024 .f32)
  (x3 x4 : Vec Ideal S256x1024 .bf16) (x7 x8 x9 x10 : Vec Ideal S16x1024 .bf16) (x13 : Vec Ideal S31x1024 .f32) (x14 : Vec Ideal S1x1024 .f32)

/-- What the gated rows' buffer holds. -/
theorem rows_ap (R : Fin 288) (C : Fin 1024) :
    View.canon (rowList i arg4 harg4 arg5 harg5 arg8 harg8 arg9 harg9 arg10 harg10 arg11 harg11 x3 x4 x7 x8 x9 x10) (ix2 R C) = U (keepPrev i) (k0_pay6 i : Ideal .f32) x3 x4 x7 x8 x9 x10 R C := by
  refine View.canon_apply_of_pieces (Val := Elt Ideal) (S := S288x1024) (e := .f32)
    (fun y => U (keepPrev i) (k0_pay6 i : Ideal .f32) x3 x4 x7 x8 x9 x10 (y 0) (y 1)) _ ?_ (ix2 R C) ?_
  · refine List.forall_mem_cons.2 ⟨?_, List.forall_mem_cons.2 ⟨?_, List.forall_mem_cons.2 ⟨?_, fun p hp => absurd hp List.not_mem_nil⟩⟩⟩
    · intro x
      obtain ⟨r, k, rfl⟩ : ∃ (r : Fin 16) (k : Fin 1024), x = ix2 r k := ⟨x 0, x 1, eq_ix2 x⟩
      refine (pay11_ap _ _ _ r k).trans ?_
      rw [load_ap, load_ap, rect_idx 0 0 _ r k r k (by omega) (by omega)]
      show _ = U _ _ _ _ _ _ _ _ (⟨272 + 1 * r.val, _⟩ : Fin 288) (⟨0 + 1 * k.val, _⟩ : Fin 1024)
      have hk : (⟨0 + 1 * k.val, by omega⟩ : Fin 1024) = k := Fin.ext (by show 0 + 1 * k.val = k.val; omega)
      have hr : (⟨272 + 1 * r.val - 272, by omega⟩ : Fin 16) = r := Fin.ext (by show 272 + 1 * r.val - 272 = r.val; omega)
      unfold U
      rw [dif_neg (by show ¬ 272 + 1 * r.val < 16; omega), dif_neg (by show ¬ 272 + 1 * r.val < 272; omega), hk, hr]
    · intro x
      obtain ⟨r, k, rfl⟩ : ∃ (r : Fin 256) (k : Fin 1024), x = ix2 r k := ⟨x 0, x 1, eq_ix2 x⟩
      refine (pay10_ap _ _ r k).trans ?_
      rw [load_ap, load_ap, rect_idx 0 0 _ r k r k (by omega) (by omega)]
      show _ = U _ _ _ _ _ _ _ _ (⟨16 + 1 * r.val, _⟩ : Fin 288) (⟨0 + 1 * k.val, _⟩ : Fin 1024)
      have hk : (⟨0 + 1 * k.val, by omega⟩ : Fin 1024) = k := Fin.ext (by show 0 + 1 * k.val = k.val; omega)
      have hr : (⟨16 + 1 * r.val - 16, by omega⟩ : Fin 256) = r := Fin.ext (by show 16 + 1 * r.val - 16 = r.val; omega)
      unfold U
      rw [dif_neg (by show ¬ 16 + 1 * r.val < 16; omega), dif_pos (by show 16 + 1 * r.val < 272; omega), hk, hr]
    · intro x
      obtain ⟨r, k, rfl⟩ : ∃ (r : Fin 16) (k : Fin 1024), x = ix2 r k := ⟨x 0, x 1, eq_ix2 x⟩
      refine (pay7_ap _ _ _ r k).trans ?_
      rw [load_ap, load_ap, rect_idx 0 0 _ r k r k (by omega) (by omega)]
      show _ = U _ _ _ _ _ _ _ _ (⟨0 + 1 * r.val, _⟩ : Fin 288) (⟨0 + 1 * k.val, _⟩ : Fin 1024)
      have hk : (⟨0 + 1 * k.val, by omega⟩ : Fin 1024) = k := Fin.ext (by show 0 + 1 * k.val = k.val; omega)
      have hr : (⟨0 + 1 * r.val, by omega⟩ : Fin 16) = r := Fin.ext (by show 0 + 1 * r.val = r.val; omega)
      unfold U
      rw [dif_pos (by show 0 + 1 * r.val < 16; omega), hk, hr]
  · by_cases h1 : R.val < 16
    · refine ⟨_, List.mem_cons_of_mem _ (List.mem_cons_of_mem _ List.mem_cons_self), (Rect.mem_set_unit (inb := inb_S288x1024_S16x1024_0_0)).2 fun a => ?_⟩
      match a with
      | ⟨0, _⟩ => exact ⟨Nat.zero_le _, (by show R.val < 0 + 16; omega)⟩
      | ⟨1, _⟩ => exact ⟨Nat.zero_le _, (by show C.val < 0 + 1024; omega)⟩
    · by_cases h2 : R.val < 272
      · refine ⟨_, List.mem_cons_of_mem _ List.mem_cons_self, (Rect.mem_set_unit (inb := inb_S288x1024_S256x1024_16_0)).2 fun a => ?_⟩
        match a with
        | ⟨0, _⟩ => exact ⟨(by show 16 ≤ R.val; omega), (by show R.val < 16 + 256; omega)⟩
        | ⟨1, _⟩ => exact ⟨Nat.zero_le _, (by show C.val < 0 + 1024; omega)⟩
      · refine ⟨_, List.mem_cons_self, (Rect.mem_set_unit (inb := inb_S288x1024_S16x1024_272_0)).2 fun a => ?_⟩
        match a with
        | ⟨0, _⟩ => exact ⟨(by show 272 ≤ R.val; omega), (by show R.val < 272 + 16; omega)⟩
        | ⟨1, _⟩ => exact ⟨Nat.zero_le _, (by show C.val < 0 + 1024; omega)⟩

/-- A row of the convolution of rows `V`: the bias and the 31 products of a tap and a row, the row `R + 1 + k` with tap `k`. -/
def convAt (V : Fin 288 → Fin 1024 → EReal) (x13 : Vec Ideal S31x1024 .f32) (x14 : Vec Ideal S1x1024 .f32) (R : Fin 256) (C : Fin 1024) : EReal :=
  x14 (ix2 (0 : Fin 1) C) + ∑ k : Fin 31, x13 (ix2 k C) * V ⟨R.val + 1 + k.val, by omega⟩ C

/-- A store of the convolution holds its rows. -/
theorem piece_ap (Lu : List (View.Piece (Elt Ideal) S288x1024 .f32)) (V : Fin 288 → Fin 1024 → EReal) (hV : ∀ R C, View.canon Lu (ix2 R C) = V R C)
    (r o : ℕ) (hr : r ≤ 192) (ho : o ≤ 896) (inb) (inbW) (inbC) (inbE) :
    ∀ x : (piece arg14 harg14 arg15 harg15 arg23 x13 x14 Lu r o inb inbW inbC inbE).1.shape.Idx,
      (piece arg14 harg14 arg15 harg15 arg23 x13 x14 Lu r o inb inbW inbC inbE).2 x
        = (fun y : S256x1024.Idx => convAt V x13 x14 (y 0) (y 1)) ((piece arg14 harg14 arg15 harg15 arg23 x13 x14 Lu r o inb inbW inbC inbE).1.emb x) := by
  intro x
  obtain ⟨q, l, rfl⟩ : ∃ (q : Fin 64) (l : Fin 128), x = ix2 q l := ⟨x 0, x 1, eq_ix2 x⟩
  have e0 := sc_self S64x128 (convBlk (View.readAt (Elt Ideal) arg14.view (Rect.unit (s := S31x1024) ![0, o] S31x128.size inbW).toLoadRect (harg14.unread x13))
      (View.readAt (Elt Ideal) arg15.view (Rect.unit (s := S1x1024) ![0, o] S1x128.size inbC).toLoadRect (harg15.unread x14))
      (arg23.view.readCov Lu (Rect.unit (s := S288x1024) ![r, o] S96x128.size inbE).toLoadRect)) shapeCasts_S64x128_S64x128 (ix2 q l)
  refine e0.trans ?_
  rw [convBlk_ap]
  unfold convRow tapTerm
  show _ = convAt V x13 x14 (⟨r + 1 * q.val, _⟩ : Fin 256) (⟨o + 1 * l.val, _⟩ : Fin 1024)
  unfold convAt
  refine congrArg₂ (fun (a b : EReal) => a + b) ?_ (Finset.sum_congr rfl fun k _ => congrArg₂ (fun (a b : EReal) => a * b) ?_ ?_)
  · exact (load_ap arg15 harg15 x14 _ _).trans (congrArg x14 (rect_idx 0 o inbC (0 : Fin 1) l (0 : Fin 1) ⟨o + 1 * l.val, by omega⟩ rfl (by show o + 1 * l.val = o + l.val; omega)))
  · exact (load_ap arg14 harg14 x13 _ _).trans (congrArg x13 (rect_idx 0 o inbW k l k ⟨o + 1 * l.val, by omega⟩ (by omega) (by show o + 1 * l.val = o + l.val; omega)))
  · refine (congrFun (View.readCov_eq_canon' arg23.view Lu _) _).trans ?_
    refine Eq.trans (congrArg (View.canon Lu) (rect_idx r o inbE _ l (⟨r + 1 * q.val + 1 + k.val, by omega⟩ : Fin 288) ⟨o + 1 * l.val, by omega⟩
      (by show r + 1 * q.val + 1 + k.val = r + (q.val + 1 + k.val); omega) (by show o + 1 * l.val = o + l.val; omega))) ?_
    exact hV _ _

/-- Where a store lies. -/
theorem piece_mem (Lu : List (View.Piece (Elt Ideal) S288x1024 .f32)) (r o : ℕ) (inb) (inbW) (inbC) (inbE) (R : Fin 256) (C : Fin 1024)
    (hr : r ≤ R.val ∧ R.val < r + 64) (ho : o ≤ C.val ∧ C.val < o + 128) :
    (ix2 R C : S256x1024.Idx) ∈ (piece arg14 harg14 arg15 harg15 arg23 x13 x14 Lu r o inb inbW inbC inbE).1.set :=
  (Rect.mem_set_unit (inb := inb)).2 fun a => by
    match a with
    | ⟨0, _⟩ => exact hr
    | ⟨1, _⟩ => exact ho

/-- The rows of the convolution as they are read back. -/
theorem conv_ap (R : Fin 256) (C : Fin 1024) :
    convRead i arg4 harg4 arg5 harg5 arg8 harg8 arg9 harg9 arg10 harg10 arg11 harg11 arg14 harg14 arg15 harg15 arg23 arg24 x3 x4 x7 x8 x9 x10 x13 x14 (ix2 R C)
      = convAt (U (keepPrev i) (k0_pay6 i : Ideal .f32) x3 x4 x7 x8 x9 x10) x13 x14 R C := by
  unfold convRead
  rw [View.readCov_eq_canon']
  refine Eq.trans (congrArg (View.canon _) (rect_idx 0 0 _ R C R C (by omega) (by omega))) ?_
  refine View.canon_apply_of_pieces (Val := Elt Ideal) (S := S256x1024) (e := .f32)
    (fun y => convAt (U (keepPrev i) (k0_pay6 i : Ideal .f32) x3 x4 x7 x8 x9 x10) x13 x14 (y 0) (y 1)) _ ?_ (ix2 R C) ?_
  · unfold convList
    repeat' refine List.forall_mem_cons.2 ⟨piece_ap arg14 harg14 arg15 harg15 arg23 x13 x14 _ _ (rows_ap i arg4 harg4 arg5 harg5 arg8 harg8 arg9 harg9 arg10 harg10 arg11 harg11 x3 x4 x7 x8 x9 x10) _ _ (by omega) (by omega) _ _ _ _, ?_⟩
    exact fun p hp => absurd hp List.not_mem_nil
  · have hC := C.isLt
    have hR := R.isLt
    unfold convList
    have hrow : (192 ≤ R.val ∧ R.val < 192 + 64) ∨ (128 ≤ R.val ∧ R.val < 128 + 64) ∨ (64 ≤ R.val ∧ R.val < 64 + 64) ∨ (0 ≤ R.val ∧ R.val < 0 + 64) := by omega
    have hcol : (896 ≤ C.val ∧ C.val < 896 + 128) ∨ (768 ≤ C.val ∧ C.val < 768 + 128) ∨ (640 ≤ C.val ∧ C.val < 640 + 128) ∨ (512 ≤ C.val ∧ C.val < 512 + 128)
        ∨ (384 ≤ C.val ∧ C.val < 384 + 128) ∨ (256 ≤ C.val ∧ C.val < 256 + 128) ∨ (128 ≤ C.val ∧ C.val < 128 + 128) ∨ (0 ≤ C.val ∧ C.val < 0 + 128) := by omega
    rcases hcol with ho | ho | ho | ho | ho | ho | ho | ho <;> rcases hrow with hr | hr | hr | hr
    · exact ⟨_, memAt 0 _ _ rfl, piece_mem arg14 harg14 arg15 harg15 arg23 x13 x14 _ 192 896 inb_S256x1024_S64x128_192_896 inb_S31x1024_S31x128_0_896 inb_S1x1024_S1x128_0_896 inb_S288x1024_S96x128_192_896 R C hr ho⟩
    · exact ⟨_, memAt 1 _ _ rfl, piece_mem arg14 harg14 arg15 harg15 arg23 x13 x14 _ 128 896 inb_S256x1024_S64x128_128_896 inb_S31x1024_S31x128_0_896 inb_S1x1024_S1x128_0_896 inb_S288x1024_S96x128_128_896 R C hr ho⟩
    · exact ⟨_, memAt 2 _ _ rfl, piece_mem arg14 harg14 arg15 harg15 arg23 x13 x14 _ 64 896 inb_S256x1024_S64x128_64_896 inb_S31x1024_S31x128_0_896 inb_S1x1024_S1x128_0_896 inb_S288x1024_S96x128_64_896 R C hr ho⟩
    · exact ⟨_, memAt 3 _ _ rfl, piece_mem arg14 harg14 arg15 harg15 arg23 x13 x14 _ 0 896 inb_S256x1024_S64x128_0_896 inb_S31x1024_S31x128_0_896 inb_S1x1024_S1x128_0_896 inb_S288x1024_S96x128_0_896 R C hr ho⟩
    · exact ⟨_, memAt 4 _ _ rfl, piece_mem arg14 harg14 arg15 harg15 arg23 x13 x14 _ 192 768 inb_S256x1024_S64x128_192_768 inb_S31x1024_S31x128_0_768 inb_S1x1024_S1x128_0_768 inb_S288x1024_S96x128_192_768 R C hr ho⟩
    · exact ⟨_, memAt 5 _ _ rfl, piece_mem arg14 harg14 arg15 harg15 arg23 x13 x14 _ 128 768 inb_S256x1024_S64x128_128_768 inb_S31x1024_S31x128_0_768 inb_S1x1024_S1x128_0_768 inb_S288x1024_S96x128_128_768 R C hr ho⟩
    · exact ⟨_, memAt 6 _ _ rfl, piece_mem arg14 harg14 arg15 harg15 arg23 x13 x14 _ 64 768 inb_S256x1024_S64x128_64_768 inb_S31x1024_S31x128_0_768 inb_S1x1024_S1x128_0_768 inb_S288x1024_S96x128_64_768 R C hr ho⟩
    · exact ⟨_, memAt 7 _ _ rfl, piece_mem arg14 harg14 arg15 harg15 arg23 x13 x14 _ 0 768 inb_S256x1024_S64x128_0_768 inb_S31x1024_S31x128_0_768 inb_S1x1024_S1x128_0_768 inb_S288x1024_S96x128_0_768 R C hr ho⟩
    · exact ⟨_, memAt 8 _ _ rfl, piece_mem arg14 harg14 arg15 harg15 arg23 x13 x14 _ 192 640 inb_S256x1024_S64x128_192_640 inb_S31x1024_S31x128_0_640 inb_S1x1024_S1x128_0_640 inb_S288x1024_S96x128_192_640 R C hr ho⟩
    · exact ⟨_, memAt 9 _ _ rfl, piece_mem arg14 harg14 arg15 harg15 arg23 x13 x14 _ 128 640 inb_S256x1024_S64x128_128_640 inb_S31x1024_S31x128_0_640 inb_S1x1024_S1x128_0_640 inb_S288x1024_S96x128_128_640 R C hr ho⟩
    · exact ⟨_, memAt 10 _ _ rfl, piece_mem arg14 harg14 arg15 harg15 arg23 x13 x14 _ 64 640 inb_S256x1024_S64x128_64_640 inb_S31x1024_S31x128_0_640 inb_S1x1024_S1x128_0_640 inb_S288x1024_S96x128_64_640 R C hr ho⟩
    · exact ⟨_, memAt 11 _ _ rfl, piece_mem arg14 harg14 arg15 harg15 arg23 x13 x14 _ 0 640 inb_S256x1024_S64x128_0_640 inb_S31x1024_S31x128_0_640 inb_S1x1024_S1x128_0_640 inb_S288x1024_S96x128_0_640 R C hr ho⟩
    · exact ⟨_, memAt 12 _ _ rfl, piece_mem arg14 harg14 arg15 harg15 arg23 x13 x14 _ 192 512 inb_S256x1024_S64x128_192_512 inb_S31x1024_S31x128_0_512 inb_S1x1024_S1x128_0_512 inb_S288x1024_S96x128_192_512 R C hr ho⟩
    · exact ⟨_, memAt 13 _ _ rfl, piece_mem arg14 harg14 arg15 harg15 arg23 x13 x14 _ 128 512 inb_S256x1024_S64x128_128_512 inb_S31x1024_S31x128_0_512 inb_S1x1024_S1x128_0_512 inb_S288x1024_S96x128_128_512 R C hr ho⟩
    · exact ⟨_, memAt 14 _ _ rfl, piece_mem arg14 harg14 arg15 harg15 arg23 x13 x14 _ 64 512 inb_S256x1024_S64x128_64_512 inb_S31x1024_S31x128_0_512 inb_S1x1024_S1x128_0_512 inb_S288x1024_S96x128_64_512 R C hr ho⟩
    · exact ⟨_, memAt 15 _ _ rfl, piece_mem arg14 harg14 arg15 harg15 arg23 x13 x14 _ 0 512 inb_S256x1024_S64x128_0_512 inb_S31x1024_S31x128_0_512 inb_S1x1024_S1x128_0_512 inb_S288x1024_S96x128_0_512 R C hr ho⟩
    · exact ⟨_, memAt 16 _ _ rfl, piece_mem arg14 harg14 arg15 harg15 arg23 x13 x14 _ 192 384 inb_S256x1024_S64x128_192_384 inb_S31x1024_S31x128_0_384 inb_S1x1024_S1x128_0_384 inb_S288x1024_S96x128_192_384 R C hr ho⟩
    · exact ⟨_, memAt 17 _ _ rfl, piece_mem arg14 harg14 arg15 harg15 arg23 x13 x14 _ 128 384 inb_S256x1024_S64x128_128_384 inb_S31x1024_S31x128_0_384 inb_S1x1024_S1x128_0_384 inb_S288x1024_S96x128_128_384 R C hr ho⟩
    · exact ⟨_, memAt 18 _ _ rfl, piece_mem arg14 harg14 arg15 harg15 arg23 x13 x14 _ 64 384 inb_S256x1024_S64x128_64_384 inb_S31x1024_S31x128_0_384 inb_S1x1024_S1x128_0_384 inb_S288x1024_S96x128_64_384 R C hr ho⟩
    · exact ⟨_, memAt 19 _ _ rfl, piece_mem arg14 harg14 arg15 harg15 arg23 x13 x14 _ 0 384 inb_S256x1024_S64x128_0_384 inb_S31x1024_S31x128_0_384 inb_S1x1024_S1x128_0_384 inb_S288x1024_S96x128_0_384 R C hr ho⟩
    · exact ⟨_, memAt 20 _ _ rfl, piece_mem arg14 harg14 arg15 harg15 arg23 x13 x14 _ 192 256 inb_S256x1024_S64x128_192_256 inb_S31x1024_S31x128_0_256 inb_S1x1024_S1x128_0_256 inb_S288x1024_S96x128_192_256 R C hr ho⟩
    · exact ⟨_, memAt 21 _ _ rfl, piece_mem arg14 harg14 arg15 harg15 arg23 x13 x14 _ 128 256 inb_S256x1024_S64x128_128_256 inb_S31x1024_S31x128_0_256 inb_S1x1024_S1x128_0_256 inb_S288x1024_S96x128_128_256 R C hr ho⟩
    · exact ⟨_, memAt 22 _ _ rfl, piece_mem arg14 harg14 arg15 harg15 arg23 x13 x14 _ 64 256 inb_S256x1024_S64x128_64_256 inb_S31x1024_S31x128_0_256 inb_S1x1024_S1x128_0_256 inb_S288x1024_S96x128_64_256 R C hr ho⟩
    · exact ⟨_, memAt 23 _ _ rfl, piece_mem arg14 harg14 arg15 harg15 arg23 x13 x14 _ 0 256 inb_S256x1024_S64x128_0_256 inb_S31x1024_S31x128_0_256 inb_S1x1024_S1x128_0_256 inb_S288x1024_S96x128_0_256 R C hr ho⟩
    · exact ⟨_, memAt 24 _ _ rfl, piece_mem arg14 harg14 arg15 harg15 arg23 x13 x14 _ 192 128 inb_S256x1024_S64x128_192_128 inb_S31x1024_S31x128_0_128 inb_S1x1024_S1x128_0_128 inb_S288x1024_S96x128_192_128 R C hr ho⟩
    · exact ⟨_, memAt 25 _ _ rfl, piece_mem arg14 harg14 arg15 harg15 arg23 x13 x14 _ 128 128 inb_S256x1024_S64x128_128_128 inb_S31x1024_S31x128_0_128 inb_S1x1024_S1x128_0_128 inb_S288x1024_S96x128_128_128 R C hr ho⟩
    · exact ⟨_, memAt 26 _ _ rfl, piece_mem arg14 harg14 arg15 harg15 arg23 x13 x14 _ 64 128 inb_S256x1024_S64x128_64_128 inb_S31x1024_S31x128_0_128 inb_S1x1024_S1x128_0_128 inb_S288x1024_S96x128_64_128 R C hr ho⟩
    · exact ⟨_, memAt 27 _ _ rfl, piece_mem arg14 harg14 arg15 harg15 arg23 x13 x14 _ 0 128 inb_S256x1024_S64x128_0_128 inb_S31x1024_S31x128_0_128 inb_S1x1024_S1x128_0_128 inb_S288x1024_S96x128_0_128 R C hr ho⟩
    · exact ⟨_, memAt 28 _ _ rfl, piece_mem arg14 harg14 arg15 harg15 arg23 x13 x14 _ 192 0 inb_S256x1024_S64x128_192_0 inb_S31x1024_S31x128_0_0 inb_S1x1024_S1x128_0_0 inb_S288x1024_S96x128_192_0 R C hr ho⟩
    · exact ⟨_, memAt 29 _ _ rfl, piece_mem arg14 harg14 arg15 harg15 arg23 x13 x14 _ 128 0 inb_S256x1024_S64x128_128_0 inb_S31x1024_S31x128_0_0 inb_S1x1024_S1x128_0_0 inb_S288x1024_S96x128_128_0 R C hr ho⟩
    · exact ⟨_, memAt 30 _ _ rfl, piece_mem arg14 harg14 arg15 harg15 arg23 x13 x14 _ 64 0 inb_S256x1024_S64x128_64_0 inb_S31x1024_S31x128_0_0 inb_S1x1024_S1x128_0_0 inb_S288x1024_S96x128_64_0 R C hr ho⟩
    · exact ⟨_, memAt 31 _ _ rfl, piece_mem arg14 harg14 arg15 harg15 arg23 x13 x14 _ 0 0 inb_S256x1024_S64x128_0_0 inb_S31x1024_S31x128_0_0 inb_S1x1024_S1x128_0_0 inb_S288x1024_S96x128_0_0 R C hr ho⟩

end Rows

end Cert.Mix

end
-- ==== Proof.MixMath.lean ====
/- One row of the mix: the convolution's row normalised and gated, the three products, the residual and the modulated norm;
   and the kernel's stored blocks as it. -/
module

public import proofs.«01_k».proof.Proof.MixRows
public import Idealize.ShloMosaic.Lib.MatmulPlain

@[expose] public section

set_option maxRecDepth 16384

noncomputable section

namespace Cert.Mix

open Idealize.ShloMosaic Idealize.ShloMosaic.TcCoe Idealize.ShloMosaic.ValueIdx
open Cert.Kernel3Ideal Cert.Kernel3Ideal.Gen
open scoped BigOperators

/-- The mean of a row. -/
def meanOf (Y : Fin 1024 → EReal) : EReal := Ideal.div (∑ j, Y j) (Ideal.ofBits .f32 0x44800000#32)
/-- A row less its mean, over its standard deviation, times the scale `g`, plus `b`. -/
def lnOf (Y g b : Fin 1024 → EReal) (k : Fin 1024) : EReal :=
  (Y k - meanOf Y) * Ideal.rsqrt (Ideal.div (∑ j, (Y j - meanOf Y) * (Y j - meanOf Y)) (Ideal.ofBits .f32 0x44800000#32) + Ideal.ofBits .f32 0x358637BD#32)
    * g k + b k
/-- The convolution's row normalised and times its own logistic function. -/
def siluOf (Y g b : Fin 1024 → EReal) (k : Fin 1024) : EReal := glu (lnOf Y g b k) (lnOf Y g b k)
/-- The two branches' products, each times its gate, summed. -/
def mixOf (Y g b OA GA GB : Fin 1024 → EReal) (Wc Wh : Fin 1024 → Fin 1024 → EReal) (j : Fin 1024) : EReal :=
  sgm (GA j) * (∑ k, OA k * Wh k j) + sgm (GB j) * (∑ k, siluOf Y g b k * Wc k j)
/-- The first result's row: the token plus the gated product of the mix. -/
def x1Of (X M2 Y g b OA GA GB : Fin 1024 → EReal) (Wc Wh Wm : Fin 1024 → Fin 1024 → EReal) (j : Fin 1024) : EReal :=
  X j + M2 j * ∑ k, mixOf Y g b OA GA GB Wc Wh k * Wm k j
/-- The second result's row: a row over its root mean square, times the scale, times one plus `sc`, plus `sh`. -/
def h2Of (Z g sc sh : Fin 1024 → EReal) (j : Fin 1024) : EReal :=
  Z j * Ideal.rsqrt (Ideal.div (∑ k, Z k * Z k) (Ideal.ofBits .f32 0x44800000#32) + Ideal.ofBits .f32 0x358637BD#32) * g j
    * (Ideal.ofBits .f32 0x3F800000#32 + sc j) + sh j

theorem mul_ap {s : Shape} {φ : FTy} (x y : FVec Ideal s φ) (i : s.Idx) : mulf x y i = (x i * y i : EReal) := rfl
theorem add_ap {s : Shape} {φ : FTy} (x y : FVec Ideal s φ) (i : s.Idx) : addf x y i = (x i + y i : EReal) := rfl
theorem sub_ap {s : Shape} {φ : FTy} (x y : FVec Ideal s φ) (i : s.Idx) : subf x y i = (x i - y i : EReal) := rfl
theorem div_ap {s : Shape} {φ : FTy} (x y : FVec Ideal s φ) (i : s.Idx) : divf x y i = (Ideal.div (x i) (y i) : EReal) := rfl
theorem exp_ap {s : Shape} {φ : FTy} (x : FVec Ideal s φ) (i : s.Idx) : exp x i = (Ideal.exp (x i) : EReal) := rfl
theorem rsqrt_ap {s : Shape} {φ : FTy} (x : FVec Ideal s φ) (i : s.Idx) : rsqrt x i = (Ideal.rsqrt (x i) : EReal) := rfl
theorem lit_ap {s : Shape} (v : Ideal .f32) (i : s.Idx) : broadcast s v i = (v : EReal) := rfl

section Layout
variable {α : Type}
/-- One number per row, as a column. -/
theorem sc_col (x : S256.Idx → α) (h : S256.ShapeCasts S256x1) (r : Fin 256) : shapeCast S256x1 x h (ix2 r (0 : Fin 1)) = x (ix1 r) :=
  shapeCast_apply x h _ _ (by
    rw [Shape.rowMajor_val_two, Shape.rowMajor_val_one]; show r.val = r.val * 1 + 0; omega)
/-- A row of a block of rows. -/
theorem sc_row (x : S1x1x1024.Idx → α) (h : S1x1x1024.ShapeCasts S1x1024) (k : Fin 1024) :
    shapeCast S1x1024 x h (ix2 (0 : Fin 1) k) = x (ix3 (0 : Fin 1) (0 : Fin 1) k) :=
  shapeCast_apply x h _ _ (by
    rw [Shape.rowMajor_val_three, Shape.rowMajor_val_two]; show (0 * 1 + 0) * 1024 + k.val = 0 * 1024 + k.val; omega)
/-- A column repeated. -/
theorem bct_col (x : S256x1.Idx → α) (h : S256x1.Broadcasts S256x1024) (r : Fin 256) (k : Fin 1024) :
    broadcastTo S256x1024 x h (ix2 r k) = x (ix2 r (0 : Fin 1)) :=
  broadcastTo_apply x h _ _ (fun a => by
    match a with
    | ⟨0, _⟩ => rfl
    | ⟨1, _⟩ => rfl)
/-- A row repeated. -/
theorem bct_row (x : S1x1024.Idx → α) (h : S1x1024.Broadcasts S256x1024) (r : Fin 256) (k : Fin 1024) :
    broadcastTo S256x1024 x h (ix2 r k) = x (ix2 (0 : Fin 1) k) :=
  broadcastTo_apply x h _ _ (fun a => by
    match a with
    | ⟨0, _⟩ => rfl
    | ⟨1, _⟩ => rfl)
end Layout

/-- The sum over a row. -/
theorem rowSum (x : FVec Ideal S256x1024 .f32) (h : S256x1024.Reduces [1] S256) (hφ : FKind.Formats .f32)
    (acc : BitVec 32) (hacc : acc = FKind.add.neutral .f32 hφ) (r : Fin 256) :
    multiReduction .add [1] S256 x acc h hφ hacc (ix1 r) = ∑ j : Fin 1024, x (ix2 r j) :=
  (Ideal.multiReduction_add_single x _ h hφ hacc (ix1 r)).trans (Finset.sum_congr rfl fun k _ =>
    congrArg x (funext fun a => Fin.ext (by
      match a with
      | ⟨0, _⟩ => rfl
      | ⟨1, _⟩ => rfl)))

/-- Rows times columns. -/
theorem mm (L : FVec Ideal S256x1024 .bf16) (R : FVec Ideal S1024x1024 .bf16) (i : Fin 256) (j : Fin 1024) :
    matmul dot_S256x1024_S1024x1024_S256x1024_1_0_0_1_n_n none L R (constant S256x1024 .f32 0x00000000#32) (ix2 i j)
      = ∑ k : Fin 1024, L (ix2 i k) * R (ix2 k j) :=
  (Ideal.matmul_plain_apply (M := 256) (K := 1024) (N := 1024) none L R (constant S256x1024 .f32 0x00000000#32) i j).trans (by
    show Ideal.ofBits .f32 0x00000000#32 + _ = _
    rw [Ideal.ofBits_zero_f32, zero_add])

/-- The normalised rows. -/
theorem pay456_ap (v : Vec Ideal S256x1024 .f32) (g b : Vec Ideal S1x1024 .f32) (r : Fin 256) (k : Fin 1024) :
    (k0_pay456 v g b : FVec Ideal S256x1024 .f32) (ix2 r k)
      = lnOf (fun j => v (ix2 r j)) (fun j => g (ix2 (0 : Fin 1) j)) (fun j => b (ix2 (0 : Fin 1) j)) k := by
  have e0 := rowSum v reduces_S256x1024_S256 (.inl rfl) 0x00000000#32 rfl r
  have eM : ∀ j : Fin 1024, (broadcastTo S256x1024 (divf (shapeCast S256x1 (multiReduction .add [1] S256 v 0x00000000#32 reduces_S256x1024_S256 (.inl rfl) rfl) shapeCasts_S256_S256x1)
      (broadcast S256x1 (Scalar.ofBits .f32 0x44800000#32 : Ideal .f32)) : FVec Ideal S256x1 .f32) broadcasts_S256x1_S256x1024 (ix2 r j) : EReal) = meanOf fun j => v (ix2 r j) := fun j =>
    (bct_col _ _ r j).trans (congrArg (fun a : EReal => Ideal.div a (Ideal.ofBits .f32 0x44800000#32)) ((sc_col _ _ r).trans e0))
  have e2 := (rowSum (mulf (subf v (broadcastTo S256x1024 (divf (shapeCast S256x1 (multiReduction .add [1] S256 v 0x00000000#32 reduces_S256x1024_S256 (.inl rfl) rfl) shapeCasts_S256_S256x1)
      (broadcast S256x1 (Scalar.ofBits .f32 0x44800000#32 : Ideal .f32)) : FVec Ideal S256x1 .f32) broadcasts_S256x1_S256x1024))
      (subf v (broadcastTo S256x1024 (divf (shapeCast S256x1 (multiReduction .add [1] S256 v 0x00000000#32 reduces_S256x1024_S256 (.inl rfl) rfl) shapeCasts_S256_S256x1)
      (broadcast S256x1 (Scalar.ofBits .f32 0x44800000#32 : Ideal .f32)) : FVec Ideal S256x1 .f32) broadcasts_S256x1_S256x1024)))
      reduces_S256x1024_S256 (.inl rfl) 0x00000000#32 rfl r).trans (Finset.sum_congr rfl fun j _ =>
        congrArg (fun a : EReal => (v (ix2 r j) - a) * (v (ix2 r j) - a)) (eM j))
  unfold k0_pay456
  simp only [add_ap, mul_ap, sub_ap, bct_col, bct_row, sc_self, rsqrt_ap, div_ap, lit_ap, sc_col]
  unfold lnOf
  rw [← e2]
  unfold meanOf
  rw [← e0]
  rfl

/-- Their logistic denominators. -/
theorem pay457_ap (v : Vec Ideal S256x1024 .f32) (g b : Vec Ideal S1x1024 .f32) (r : Fin 256) (k : Fin 1024) :
    (k0_pay457 v g b : FVec Ideal S256x1024 .f32) (ix2 r k)
      = Ideal.ofBits .f32 0x3F800000#32 + Ideal.exp (Ideal.ofBits .f32 0x00000000#32
          - lnOf (fun j => v (ix2 r j)) (fun j => g (ix2 (0 : Fin 1) j)) (fun j => b (ix2 (0 : Fin 1) j)) k) := by
  rw [← pay456_ap]
  rfl

/-- The mixed rows. -/
theorem pay459_ap (v : Vec Ideal S256x1024 .f32) (g b : Vec Ideal S1x1024 .f32) (wc wh : Vec Ideal S1024x1024 .bf16) (oa ga gb : Vec Ideal S256x1024 .bf16)
    (r : Fin 256) (k : Fin 1024) :
    (k0_pay459 (k0_pay456 v g b) (k0_pay457 v g b) (Scalar.ofBits .f32 0x3F800000#32 : Ideal .f32) wc oa wh ga gb : FVec Ideal S256x1024 .bf16) (ix2 r k)
      = mixOf (fun j => v (ix2 r j)) (fun j => g (ix2 (0 : Fin 1) j)) (fun j => b (ix2 (0 : Fin 1) j)) (fun j => oa (ix2 r j)) (fun j => ga (ix2 r j))
          (fun j => gb (ix2 r j)) (fun k j => wc (ix2 k j)) (fun k j => wh (ix2 k j)) k := by
  unfold k0_pay459 mixOf
  refine congrArg₂ (fun (a b : EReal) => a + b) (congrArg₂ (fun (a b : EReal) => a * b) rfl ?_) (congrArg₂ (fun (a b : EReal) => a * b) rfl ?_)
  · refine (mm _ _ r k).trans (Finset.sum_congr rfl fun j _ => ?_)
    rw [sc_self]
  · refine (mm _ _ r k).trans (Finset.sum_congr rfl fun j _ => ?_)
    rw [sc_self]
    refine congrArg (fun a : EReal => a * _) ?_
    show (k0_pay456 v g b (ix2 r j) : EReal) * Ideal.div _ (k0_pay457 v g b (ix2 r j)) = _
    rw [pay456_ap, pay457_ap]
    rfl

/-- The first result's block. -/
theorem pay2_ap (m2 : Vec Ideal S1x1x1024 .f32) (p : FVec Ideal S256x1024 .bf16) (wm : Vec Ideal S1024x1024 .bf16) (x : Vec Ideal S256x1024 .f32)
    (r : Fin 256) (j : Fin 1024) :
    (k0_pay2 (k0_pay458 m2) p (k0_pay460 wm) x : FVec Ideal S256x1024 .f32) (ix2 r j)
      = x (ix2 r j) + m2 (ix3 (0 : Fin 1) (0 : Fin 1) j) * ∑ k : Fin 1024, (p (ix2 r k) * wm (ix2 k j) : EReal) := by
  unfold k0_pay2 k0_pay1 k0_pay458 k0_pay460
  rw [add_ap, mul_ap, sc_self, bct_row, sc_row, mm]
  simp only [sc_self]

/-- The second result's block. -/
theorem pay3_ap (a : FVec Ideal S1x1024 .f32) (p : FVec Ideal S256x1024 .bf16) (wm : FVec Ideal S1024x1024 .bf16) (x : Vec Ideal S256x1024 .f32)
    (g : Vec Ideal S1x1024 .f32) (sc sh : Vec Ideal S1x1x1024 .f32) (r : Fin 256) (j : Fin 1024) :
    (k0_pay3 a p wm x g sc sh : FVec Ideal S256x1024 .f32) (ix2 r j)
      = h2Of (fun j => (k0_pay2 a p wm x : FVec Ideal S256x1024 .f32) (ix2 r j)) (fun j => g (ix2 (0 : Fin 1) j))
          (fun j => sc (ix3 (0 : Fin 1) (0 : Fin 1) j)) (fun j => sh (ix3 (0 : Fin 1) (0 : Fin 1) j)) j := by
  unfold k0_pay3
  simp only [add_ap, mul_ap, bct_col, bct_row, sc_self, rsqrt_ap, div_ap, lit_ap, sc_col, sc_row]
  have e := rowSum (mulf (k0_pay2 a p wm x) (k0_pay2 a p wm x)) reduces_S256x1024_S256 (.inl rfl) 0x00000000#32 rfl r
  simp only [mul_ap] at e
  unfold h2Of
  rw [← e]
  rfl

end Cert.Mix

end
-- ==== Proof.MixBlock.lean ====
/- The kernel's two stored blocks, row by row, at the points of either case. -/
module

public import proofs.«01_k».proof.Proof.MixMath
public import proofs.«01_k».proof.Proof.Gen.Kernel3Ideal.Frame
public import Idealize.ShloMosaic.Lib.WritesUnit

@[expose] public section

set_option maxRecDepth 16384

noncomputable section

namespace Cert.Mix

open Idealize.ShloMosaic Idealize.ShloMosaic.TcCoe Idealize.ShloMosaic.ValueIdx
open Cert.Kernel3Ideal Cert.Kernel3Ideal.Gen
open scoped BigOperators

/-- A load of a whole buffer's whole block. -/
theorem load_all {sp : Space} {e : EltTy} {a b : ℕ} (m : Memref sig .tc sp ⟨2, ![a, b]⟩ e) (h : m.IsWhole) (X : Vec Ideal ⟨2, ![a, b]⟩ e)
    (inb : ∀ x, ![0, 0] x + (⟨2, ![a, b]⟩ : Shape).size x ≤ (⟨2, ![a, b]⟩ : Shape).size x) :
    View.readAt (Elt Ideal) m.view (Rect.unit (s := (⟨2, ![a, b]⟩ : Shape)) ![0, 0] (⟨2, ![a, b]⟩ : Shape).size inb).toLoadRect (h.unread X) = X := by
  funext y
  obtain ⟨r, k, rfl⟩ : ∃ (r : Fin a) (k : Fin b), y = ix2 r k := ⟨y 0, y 1, eq_ix2 y⟩
  exact (load_ap m h X _ _).trans (congrArg X (rect_idx 0 0 inb r k r k (by omega) (by omega)))

/-- A load of one of the modulation's rows. -/
theorem load_mod {sp : Space} (m : Memref sig .tc sp S1x6x1024 .f32) (h : m.IsWhole) (X : Vec Ideal S1x6x1024 .f32) (n : Fin 6) (o : ℕ) (ho : o = n.val)
    (inb : ∀ x, ![0, o, 0] x + S1x1x1024.size x ≤ S1x6x1024.size x) (j : Fin 1024) :
    View.readAt (Elt Ideal) m.view (Rect.unit (s := S1x6x1024) ![0, o, 0] S1x1x1024.size inb).toLoadRect (h.unread X) (ix3 (0 : Fin 1) (0 : Fin 1) j)
      = X (ix3 (0 : Fin 1) n j) :=
  (load_ap m h X _ _).trans (congrArg X (funext fun x => Fin.ext (by
    match x with
    | ⟨0, _⟩ => rfl
    | ⟨1, _⟩ => show o + 1 * 0 = n.val; omega
    | ⟨2, _⟩ => show 0 + 1 * j.val = j.val; omega)))

/-- One store of the whole block, read back. -/
theorem read_whole (v : View sig .tc .vmem S256x1024 .f32) (f : v.ty.Contents (Elt Ideal)) (inb : ∀ x, ![0, 0] x + S256x1024.size x ≤ S256x1024.size x)
    (w : Vec Ideal S256x1024 .f32) (r : Fin 256) (j : Fin 1024) :
    v.read (Elt Ideal) (v.writes (Elt Ideal) f [⟨Rect.unit (s := S256x1024) ![0, 0] S256x1024.size inb, w⟩]) (ix2 r j) = w (ix2 r j) :=
  View.read_writes_cons_unit_of_mem v f inb w [] (ix2 r j) (ix2 r j) rfl (fun x => by
    match x with
    | ⟨0, _⟩ => show r.val = 0 + r.val; omega
    | ⟨1, _⟩ => show j.val = 0 + j.val; omega)

section Blocks

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S16x1024 .bf16) (harg10 : arg10.IsWhole) (arg11 : Memref sig .tc .vmem S16x1024 .bf16) (harg11 : arg11.IsWhole) (arg12 : Memref sig .tc .vmem S1x6x1024 .f32) (harg12 : arg12.IsWhole) (arg13 : Memref sig .tc .vmem S1x1024 .f32) (harg13 : arg13.IsWhole) (arg14 : Memref sig .tc .vmem S31x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1024x1024 .bf16) (harg20 : arg20.IsWhole) (arg21 : Memref sig .tc .vmem S256x1024 .f32) (harg21 : arg21.IsWhole) (arg22 : Memref sig .tc .vmem S256x1024 .f32) (harg22 : arg22.IsWhole) (arg23 : Memref sig .tc .vmem S288x1024 .f32) (harg23 : arg23.IsWhole) (arg24 : Memref sig .tc .vmem S256x1024 .f32) (harg24 : arg24.IsWhole)
    (x0 : Vec Ideal S256x1024 .f32) (x1 : Vec Ideal S256x1024 .f32) (x2 : Vec Ideal S256x1024 .bf16) (x3 : Vec Ideal S256x1024 .bf16) (x4 : Vec Ideal S256x1024 .bf16) (x5 : Vec Ideal S256x1024 .bf16) (x6 : Vec Ideal S256x1024 .bf16) (x7 : Vec Ideal S16x1024 .bf16) (x8 : Vec Ideal S16x1024 .bf16) (x9 : Vec Ideal S16x1024 .bf16) (x10 : Vec Ideal S16x1024 .bf16) (x11 : Vec Ideal S1x6x1024 .f32) (x12 : Vec Ideal S1x1024 .f32) (x13 : Vec Ideal S31x1024 .f32) (x14 : Vec Ideal S1x1024 .f32) (x15 : Vec Ideal S1x1024 .f32) (x16 : Vec Ideal S1x1024 .f32) (x17 : Vec Ideal S1024x1024 .bf16) (x18 : Vec Ideal S1024x1024 .bf16) (x19 : Vec Ideal S1024x1024 .bf16)

/-- The tile's convolution rows. -/
abbrev convR (r : Fin 256) : Fin 1024 → EReal := convAt (U (keepPrev i) (k0_pay6 i : Ideal .f32) x3 x4 x7 x8 x9 x10) x13 x14 r

/-- A row of the first result, from a token's row. -/
abbrev x1R (X : Fin 1024 → EReal) (r : Fin 256) : Fin 1024 → EReal :=
  x1Of X (fun j => x11 (ix3 (0 : Fin 1) (2 : Fin 6) j)) (convR i x3 x4 x7 x8 x9 x10 x13 x14 r) (fun j => x15 (ix2 (0 : Fin 1) j)) (fun j => x16 (ix2 (0 : Fin 1) j))
    (fun j => x2 (ix2 r j)) (fun j => x5 (ix2 r j)) (fun j => x6 (ix2 r j)) (fun k j => x17 (ix2 k j)) (fun k j => x18 (ix2 k j)) (fun k j => x19 (ix2 k j))

/-- A stored row of the first result, from the loaded values. -/
theorem x1_ap (m2 : Vec Ideal S1x1x1024 .f32) (hm : ∀ j : Fin 1024, m2 (ix3 (0 : Fin 1) (0 : Fin 1) j) = x11 (ix3 (0 : Fin 1) (2 : Fin 6) j)) (x : Vec Ideal S256x1024 .f32)
    (r : Fin 256) (j : Fin 1024) :
    (k0_pay2 (k0_pay458 m2) (k0_pay459 (k0_pay456 (convRead i arg4 harg4 arg5 harg5 arg8 harg8 arg9 harg9 arg10 harg10 arg11 harg11 arg14 harg14 arg15 harg15 arg23 arg24 x3 x4 x7 x8 x9 x10 x13 x14) x15 x16) (k0_pay457 (convRead i arg4 harg4 arg5 harg5 arg8 harg8 arg9 harg9 arg10 harg10 arg11 harg11 arg14 harg14 arg15 harg15 arg23 arg24 x3 x4 x7 x8 x9 x10 x13 x14) x15 x16) (Scalar.ofBits .f32 0x3F800000#32 : Ideal .f32) x17 x2 x18 x5 x6)
      (k0_pay460 x19) x : FVec Ideal S256x1024 .f32) (ix2 r j) = x1R i x2 x3 x4 x5 x6 x7 x8 x9 x10 x11 x13 x14 x15 x16 x17 x18 x19 (fun j => x (ix2 r j)) r j := by
  rw [pay2_ap, hm]
  refine congrArg (fun a : EReal => x (ix2 r j) + x11 (ix3 (0 : Fin 1) (2 : Fin 6) j) * a) (Finset.sum_congr rfl fun k _ => congrArg (fun a : EReal => a * x19 (ix2 k j)) ?_)
  refine (pay459_ap _ _ _ _ _ _ _ _ r k).trans ?_
  rw [show (fun j => (convRead i arg4 harg4 arg5 harg5 arg8 harg8 arg9 harg9 arg10 harg10 arg11 harg11 arg14 harg14 arg15 harg15 arg23 arg24 x3 x4 x7 x8 x9 x10 x13 x14) (ix2 r j)) = convR i x3 x4 x7 x8 x9 x10 x13 x14 r from funext fun j => conv_ap i arg4 harg4 arg5 harg5 arg8 harg8 arg9 harg9 arg10 harg10 arg11 harg11 arg14 harg14 arg15 harg15 arg23 arg24 x3 x4 x7 x8 x9 x10 x13 x14 r j]

/-- The mixed rows of the first points. -/
theorem mixA : kernelRun0_A.sl.r_288 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg23 arg24 x2 x3 x4 x5 x6 x7 x8 x9 x10 x13 x14 x15 x16 x17 x18
    = k0_pay459 (k0_pay456 (convRead i arg4 harg4 arg5 harg5 arg8 harg8 arg9 harg9 arg10 harg10 arg11 harg11 arg14 harg14 arg15 harg15 arg23 arg24 x3 x4 x7 x8 x9 x10 x13 x14) x15 x16) (k0_pay457 (convRead i arg4 harg4 arg5 harg5 arg8 harg8 arg9 harg9 arg10 harg10 arg11 harg11 arg14 harg14 arg15 harg15 arg23 arg24 x3 x4 x7 x8 x9 x10 x13 x14) x15 x16) (Scalar.ofBits .f32 0x3F800000#32 : Ideal .f32) x17 x2 x18 x5 x6 := by
  unfold kernelRun0_A.sl.r_288 kernelRun0_A.sl.r_285 kernelRun0_A.sl.r_286
  rw [read_eqA]
  erw [load_all, load_all, load_all, load_all, load_all, load_all, load_all]
  rfl

/-- A row of the first result at the first points. -/
theorem out20A (hc0 : cond0_0 i) (hc1 : ¬cond0_1 i) (r : Fin 256) (j : Fin 1024) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 (ix2 r j) = x1R i x2 x3 x4 x5 x6 x7 x8 x9 x10 x11 x13 x14 x15 x16 x17 x18 x19 (fun j => x0 (ix2 r j)) r j := by
  unfold out0_A_20 kernelRun0_A
  dsimp only
  refine (read_whole _ _ _ _ r j).trans ?_
  rw [mixA]
  unfold kernelRun0_A.sl.r_287 kernelRun0_A.sl.r_289
  erw [load_all arg1 harg1 x0, load_all arg20 harg20 x19]
  exact x1_ap (m2 := View.readAt (Elt Ideal) arg12.view (Rect.unit (s := S1x6x1024) ![0, 2, 0] S1x1x1024.size inb_S1x6x1024_S1x1x1024_0_2_0).toLoadRect (harg12.unread x11))
    (hm := load_mod arg12 harg12 x11 2 2 rfl _) (x := x0) ..

/-- A row of the second result at the first points. -/
theorem out21A (hc0 : cond0_0 i) (hc1 : ¬cond0_1 i) (r : Fin 256) (j : Fin 1024) :
    out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 (ix2 r j) = h2Of (x1R i x2 x3 x4 x5 x6 x7 x8 x9 x10 x11 x13 x14 x15 x16 x17 x18 x19 (fun j => x0 (ix2 r j)) r) (fun j => x12 (ix2 (0 : Fin 1) j))
      (fun j => x11 (ix3 (0 : Fin 1) (4 : Fin 6) j)) (fun j => x11 (ix3 (0 : Fin 1) (3 : Fin 6) j)) j := by
  unfold out0_A_21 kernelRun0_A
  dsimp only
  refine (read_whole _ _ _ _ r j).trans ?_
  rw [mixA]
  unfold kernelRun0_A.sl.r_287 kernelRun0_A.sl.r_289
  erw [load_all arg1 harg1 x0, load_all arg20 harg20 x19, load_all arg13 harg13 x12]
  refine (pay3_ap _ _ _ _ _ _ _ r j).trans ?_
  refine congr (congr (congr (congr (congrArg h2Of (funext fun k => ?_)) rfl) (funext fun k => ?_)) (funext fun k => ?_)) rfl
  · exact x1_ap (m2 := View.readAt (Elt Ideal) arg12.view (Rect.unit (s := S1x6x1024) ![0, 2, 0] S1x1x1024.size inb_S1x6x1024_S1x1x1024_0_2_0).toLoadRect (harg12.unread x11))
      (hm := load_mod arg12 harg12 x11 2 2 rfl _) (x := x0) ..
  · exact load_mod arg12 harg12 x11 4 4 rfl _ k
  · exact load_mod arg12 harg12 x11 3 3 rfl _ k

/-- The mixed rows of the last points. -/
theorem mixB : kernelRun0_B.sl.r_288 (F := Ideal) c i arg3 harg3 arg4 harg4 arg5 harg5 arg6 harg6 arg7 harg7 arg8 harg8 arg9 harg9 arg10 harg10 arg11 harg11 arg14 harg14 arg15 harg15 arg16 harg16 arg17 harg17 arg18 harg18 arg19 harg19 arg23 arg24 x2 x3 x4 x5 x6 x7 x8 x9 x10 x13 x14 x15 x16 x17 x18
    = k0_pay459 (k0_pay456 (convRead i arg4 harg4 arg5 harg5 arg8 harg8 arg9 harg9 arg10 harg10 arg11 harg11 arg14 harg14 arg15 harg15 arg23 arg24 x3 x4 x7 x8 x9 x10 x13 x14) x15 x16) (k0_pay457 (convRead i arg4 harg4 arg5 harg5 arg8 harg8 arg9 harg9 arg10 harg10 arg11 harg11 arg14 harg14 arg15 harg15 arg23 arg24 x3 x4 x7 x8 x9 x10 x13 x14) x15 x16) (Scalar.ofBits .f32 0x3F800000#32 : Ideal .f32) x17 x2 x18 x5 x6 := by
  unfold kernelRun0_B.sl.r_288 kernelRun0_B.sl.r_285 kernelRun0_B.sl.r_286
  rw [read_eqB]
  erw [load_all, load_all, load_all, load_all, load_all, load_all, load_all]
  rfl

/-- A row of the first result at the last points. -/
theorem out20B (hc0 : ¬cond0_0 i) (hc1 : cond0_1 i) (r : Fin 256) (j : Fin 1024) :
    out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 (ix2 r j) = x1R i x2 x3 x4 x5 x6 x7 x8 x9 x10 x11 x13 x14 x15 x16 x17 x18 x19 (fun j => x1 (ix2 r j)) r j := by
  unfold out0_B_20 kernelRun0_B
  dsimp only
  refine (read_whole _ _ _ _ r j).trans ?_
  rw [mixB]
  unfold kernelRun0_B.sl.r_287 kernelRun0_B.sl.r_289
  erw [load_all arg2 harg2 x1, load_all arg20 harg20 x19]
  exact x1_ap (m2 := View.readAt (Elt Ideal) arg12.view (Rect.unit (s := S1x6x1024) ![0, 2, 0] S1x1x1024.size inb_S1x6x1024_S1x1x1024_0_2_0).toLoadRect (harg12.unread x11))
    (hm := load_mod arg12 harg12 x11 2 2 rfl _) (x := x1) ..

/-- A row of the second result at the last points. -/
theorem out21B (hc0 : ¬cond0_0 i) (hc1 : cond0_1 i) (r : Fin 256) (j : Fin 1024) :
    out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 x16 x17 x18 x19 (ix2 r j) = h2Of (x1R i x2 x3 x4 x5 x6 x7 x8 x9 x10 x11 x13 x14 x15 x16 x17 x18 x19 (fun j => x1 (ix2 r j)) r) (fun j => x12 (ix2 (0 : Fin 1) j))
      (fun j => x11 (ix3 (0 : Fin 1) (4 : Fin 6) j)) (fun j => x11 (ix3 (0 : Fin 1) (3 : Fin 6) j)) j := by
  unfold out0_B_21 kernelRun0_B
  dsimp only
  refine (read_whole _ _ _ _ r j).trans ?_
  rw [mixB]
  unfold kernelRun0_B.sl.r_287 kernelRun0_B.sl.r_289
  erw [load_all arg2 harg2 x1, load_all arg20 harg20 x19, load_all arg13 harg13 x12]
  refine (pay3_ap _ _ _ _ _ _ _ r j).trans ?_
  refine congr (congr (congr (congr (congrArg h2Of (funext fun k => ?_)) rfl) (funext fun k => ?_)) (funext fun k => ?_)) rfl
  · exact x1_ap (m2 := View.readAt (Elt Ideal) arg12.view (Rect.unit (s := S1x6x1024) ![0, 2, 0] S1x1x1024.size inb_S1x6x1024_S1x1x1024_0_2_0).toLoadRect (harg12.unread x11))
      (hm := load_mod arg12 harg12 x11 2 2 rfl _) (x := x1) ..
  · exact load_mod arg12 harg12 x11 4 4 rfl _ k
  · exact load_mod arg12 harg12 x11 3 3 rfl _ k

end Blocks

end Cert.Mix

end
-- ==== Proof.MixKer.lean ====
/- What the mix's run leaves in its two results, entry by entry. -/
module

public import proofs.«01_k».proof.Proof.MixBlock
public import proofs.«01_k».proof.Proof.InModel
public import proofs.«01_k».proof.Proof.Gen.Kernel3Ideal.Value

@[expose] public section

set_option maxRecDepth 16384

noncomputable section

namespace Cert.Mix

open Idealize.ShloMosaic Idealize.ShloMosaic.TcCoe Idealize.ShloMosaic.StableHlo Idealize.ShloMosaic.ValueIdx Idealize.SL.Sem
open Cert.Inproj (rowX rowM)
open scoped BigOperators

/-! ## The layer's mix of tokens, of extended reals -/

/-- The first row of a token's sequence. -/
def seqLo (r : ℕ) : ℕ := if r < 8192 then 256 * (r / 256) else 8192 + 2048 * ((r - 8192) / 2048)
/-- One past its last row. -/
def seqHi (r : ℕ) : ℕ := if r < 8192 then 256 * (r / 256) + 256 else 8192 + 2048 * ((r - 8192) / 2048) + 2048

/-- A gated value of a token. -/
def gatedAt (REST : Fin 12288 → Fin 7168 → EReal) (r : Fin 12288) (C : Fin 1024) : EReal :=
  glu (REST r ⟨3072 + C.val, by omega⟩) (REST r ⟨4096 + C.val, by omega⟩)
/-- The gated value that tap `k` meets at a token: that of the token `k - 15` rows on, or zero outside the sequence. -/
def tapAt (REST : Fin 12288 → Fin 7168 → EReal) (r : Fin 12288) (C : Fin 1024) (k : Fin 31) : EReal :=
  if h : seqLo r.val + 15 ≤ r.val + k.val ∧ r.val + k.val < seqHi r.val + 15 then
    gatedAt REST ⟨r.val + k.val - 15, by
      have := r.isLt
      have := h.2
      unfold seqHi at this
      split at this <;> omega⟩ C
  else 0
/-- A value of the convolution. -/
def convG (REST : Fin 12288 → Fin 7168 → EReal) (CW : Fin 31 → Fin 1024 → EReal) (CB : Fin 1024 → EReal) (r : Fin 12288) (C : Fin 1024) : EReal :=
  CB C + ∑ k : Fin 31, CW k C * tapAt REST r C k

/-- The first result's row of a token. -/
def x1G (XP : Fin 32 → Fin 256 → Fin 1024 → EReal) (XS : Fin 2 → Fin 2048 → Fin 1024 → EReal) (OA : Fin 12288 → Fin 1024 → EReal)
    (REST : Fin 12288 → Fin 7168 → EReal) (M : Fin 8 → Fin 6144 → EReal) (CW : Fin 31 → Fin 1024 → EReal) (CB LG LB : Fin 1024 → EReal)
    (Wc Wh Wm : Fin 1024 → Fin 1024 → EReal) (r : Fin 12288) : Fin 1024 → EReal :=
  x1Of (rowX XP XS r) (fun j => M (rowM r) ⟨2048 + j.val, by omega⟩) (convG REST CW CB r) LG LB (OA r)
    (fun j => REST r ⟨5120 + j.val, by omega⟩) (fun j => REST r ⟨6144 + j.val, by omega⟩) Wc Wh Wm
/-- The second result's row of a token whose first is `Z`. -/
def h2G (Z : Fin 1024 → EReal) (M : Fin 8 → Fin 6144 → EReal) (NG : Fin 1024 → EReal) (r : Fin 12288) : Fin 1024 → EReal :=
  h2Of Z NG (fun j => M (rowM r) ⟨4096 + j.val, by omega⟩) (fun j => M (rowM r) ⟨3072 + j.val, by omega⟩)

section Kernel

open Cert.Kernel3Ideal Cert.Kernel3Ideal.Gen Cert.Kernel3Ideal.Value
open Idealize.ShloMosaic.Pipeline (Dat Window)

/-! ## Where the blocks lie -/

theorem idxX : ∀ t : Fin cfg0.N, win0_0.index t (0 : Fin 2) = min t.val 31 ∧ win0_0.index t (1 : Fin 2) = 0 ∧ win0_1.index t (0 : Fin 2) = t.val - 32 ∧ win0_1.index t (1 : Fin 2) = 0 :=
  (by decide +kernel : ∀ t : Fin grid0.N, _)
theorem idxT : ∀ t : Fin cfg0.N, win0_2.index t (0 : Fin 2) = t.val
    ∧ win0_2.index t (1 : Fin 2) = 0
    ∧ win0_3.index t (0 : Fin 2) = t.val
    ∧ win0_3.index t (1 : Fin 2) = 3
    ∧ win0_4.index t (0 : Fin 2) = t.val
    ∧ win0_4.index t (1 : Fin 2) = 4
    ∧ win0_5.index t (0 : Fin 2) = t.val
    ∧ win0_5.index t (1 : Fin 2) = 5
    ∧ win0_6.index t (0 : Fin 2) = t.val
    ∧ win0_6.index t (1 : Fin 2) = 6
    ∧ win0_20.index t (0 : Fin 2) = t.val
    ∧ win0_20.index t (1 : Fin 2) = 0
    ∧ win0_21.index t (0 : Fin 2) = t.val
    ∧ win0_21.index t (1 : Fin 2) = 0 :=
  (by decide +kernel : ∀ t : Fin grid0.N, _)
theorem idxH : ∀ t : Fin cfg0.N, win0_7.index t (0 : Fin 2) = 16 * t.val - 1
    ∧ win0_7.index t (1 : Fin 2) = 3
    ∧ win0_8.index t (0 : Fin 2) = min (16 * (t.val + 1)) 767
    ∧ win0_8.index t (1 : Fin 2) = 3
    ∧ win0_9.index t (0 : Fin 2) = 16 * t.val - 1
    ∧ win0_9.index t (1 : Fin 2) = 4
    ∧ win0_10.index t (0 : Fin 2) = min (16 * (t.val + 1)) 767
    ∧ win0_10.index t (1 : Fin 2) = 4 :=
  (by decide +kernel : ∀ t : Fin grid0.N, _)
theorem idxM : ∀ t : Fin cfg0.N, win0_11.index t (0 : Fin 3) = (if t.val < 32 then 0 else 1 + (t.val - 32) / 8)
    ∧ win0_11.index t (1 : Fin 3) = 0 ∧ win0_11.index t (2 : Fin 3) = 0 :=
  (by decide +kernel : ∀ t : Fin grid0.N, _)
theorem idxW : ∀ t : Fin cfg0.N, win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = 0
    ∧ win0_17.index t (1 : Fin 2) = 0
    ∧ win0_18.index t (0 : Fin 2) = 0
    ∧ win0_18.index t (1 : Fin 2) = 0
    ∧ win0_19.index t (0 : Fin 2) = 0
    ∧ win0_19.index t (1 : Fin 2) = 0 :=
  (by decide +kernel : ∀ t : Fin grid0.N, _)
theorem t_lt (t : Fin cfg0.N) : t.val < 48 := t.isLt

/-- Row `q` of the tile of a point. -/
def rowOf (t : Fin cfg0.N) (q : Fin 256) : Fin 12288 := ⟨256 * t.val + q.val, by have := t_lt t; omega⟩

theorem emb0 (t : Fin cfg0.N) (hA : t.val < 32) (q : Fin 256) (k : Fin 1024) :
    ((cfg0.win 0).blk t).view.emb (ix2 q k) = ix2 (⟨256 * t.val + q.val, by omega⟩ : Fin 8192) k := by
  have h := idxX t
  have := t_lt t
  funext a; apply Fin.ext
  match a with
  | ⟨0, _⟩ => show win0_0.index t (0 : Fin 2) * 256 + 1 * q.val = 256 * t.val + q.val; omega
  | ⟨1, _⟩ => show win0_0.index t (1 : Fin 2) * 1024 + 1 * k.val = k.val; omega
theorem emb1 (t : Fin cfg0.N) (hB : 32 ≤ t.val) (q : Fin 256) (k : Fin 1024) :
    ((cfg0.win 1).blk t).view.emb (ix2 q k) = ix2 (⟨256 * t.val + q.val - 8192, by have := t_lt t; omega⟩ : Fin 4096) k := by
  have h := idxX t
  have := t_lt t
  funext a; apply Fin.ext
  match a with
  | ⟨0, _⟩ => show win0_1.index t (0 : Fin 2) * 256 + 1 * q.val = 256 * t.val + q.val - 8192; omega
  | ⟨1, _⟩ => show win0_1.index t (1 : Fin 2) * 1024 + 1 * k.val = k.val; omega
theorem emb2 (t : Fin cfg0.N) (q : Fin 256) (k : Fin 1024) :
    ((cfg0.win 2).blk t).view.emb (ix2 q k) = ix2 (rowOf t q) k := by
  have h := idxT t
  have := t_lt t
  funext a; apply Fin.ext
  match a with
  | ⟨0, _⟩ => show win0_2.index t (0 : Fin 2) * 256 + 1 * q.val = 256 * t.val + q.val; omega
  | ⟨1, _⟩ => show win0_2.index t (1 : Fin 2) * 1024 + 1 * k.val = k.val; omega
theorem emb3 (t : Fin cfg0.N) (q : Fin 256) (k : Fin 1024) :
    ((cfg0.win 3).blk t).view.emb (ix2 q k) = ix2 (rowOf t q) (⟨3072 + k.val, by omega⟩ : Fin 7168) := by
  have h := idxT t
  have := t_lt t
  funext a; apply Fin.ext
  match a with
  | ⟨0, _⟩ => show win0_3.index t (0 : Fin 2) * 256 + 1 * q.val = 256 * t.val + q.val; omega
  | ⟨1, _⟩ => show win0_3.index t (1 : Fin 2) * 1024 + 1 * k.val = 3072 + k.val; omega
theorem emb4 (t : Fin cfg0.N) (q : Fin 256) (k : Fin 1024) :
    ((cfg0.win 4).blk t).view.emb (ix2 q k) = ix2 (rowOf t q) (⟨4096 + k.val, by omega⟩ : Fin 7168) := by
  have h := idxT t
  have := t_lt t
  funext a; apply Fin.ext
  match a with
  | ⟨0, _⟩ => show win0_4.index t (0 : Fin 2) * 256 + 1 * q.val = 256 * t.val + q.val; omega
  | ⟨1, _⟩ => show win0_4.index t (1 : Fin 2) * 1024 + 1 * k.val = 4096 + k.val; omega
theorem emb5 (t : Fin cfg0.N) (q : Fin 256) (k : Fin 1024) :
    ((cfg0.win 5).blk t).view.emb (ix2 q k) = ix2 (rowOf t q) (⟨5120 + k.val, by omega⟩ : Fin 7168) := by
  have h := idxT t
  have := t_lt t
  funext a; apply Fin.ext
  match a with
  | ⟨0, _⟩ => show win0_5.index t (0 : Fin 2) * 256 + 1 * q.val = 256 * t.val + q.val; omega
  | ⟨1, _⟩ => show win0_5.index t (1 : Fin 2) * 1024 + 1 * k.val = 5120 + k.val; omega
theorem emb6 (t : Fin cfg0.N) (q : Fin 256) (k : Fin 1024) :
    ((cfg0.win 6).blk t).view.emb (ix2 q k) = ix2 (rowOf t q) (⟨6144 + k.val, by omega⟩ : Fin 7168) := by
  have h := idxT t
  have := t_lt t
  funext a; apply Fin.ext
  match a with
  | ⟨0, _⟩ => show win0_6.index t (0 : Fin 2) * 256 + 1 * q.val = 256 * t.val + q.val; omega
  | ⟨1, _⟩ => show win0_6.index t (1 : Fin 2) * 1024 + 1 * k.val = 6144 + k.val; omega
theorem emb20 (t : Fin cfg0.N) (q : Fin 256) (k : Fin 1024) :
    ((cfg0.win 20).blk t).view.emb (ix2 q k) = ix2 (rowOf t q) k := by
  have h := idxT t
  have := t_lt t
  funext a; apply Fin.ext
  match a with
  | ⟨0, _⟩ => show win0_20.index t (0 : Fin 2) * 256 + 1 * q.val = 256 * t.val + q.val; omega
  | ⟨1, _⟩ => show win0_20.index t (1 : Fin 2) * 1024 + 1 * k.val = k.val; omega
theorem emb21 (t : Fin cfg0.N) (q : Fin 256) (k : Fin 1024) :
    ((cfg0.win 21).blk t).view.emb (ix2 q k) = ix2 (rowOf t q) k := by
  have h := idxT t
  have := t_lt t
  funext a; apply Fin.ext
  match a with
  | ⟨0, _⟩ => show win0_21.index t (0 : Fin 2) * 256 + 1 * q.val = 256 * t.val + q.val; omega
  | ⟨1, _⟩ => show win0_21.index t (1 : Fin 2) * 1024 + 1 * k.val = k.val; omega
theorem emb7 (t : Fin cfg0.N) (q : Fin 16) (k : Fin 1024) :
    ((cfg0.win 7).blk t).view.emb (ix2 q k) = ix2 (⟨16 * (16 * t.val - 1) + q.val, by have := t_lt t; omega⟩ : Fin 12288) (⟨3072 + k.val, by omega⟩ : Fin 7168) := by
  have h := idxH t
  have := t_lt t
  funext a; apply Fin.ext
  match a with
  | ⟨0, _⟩ => show win0_7.index t (0 : Fin 2) * 16 + 1 * q.val = 16 * (16 * t.val - 1) + q.val; omega
  | ⟨1, _⟩ => show win0_7.index t (1 : Fin 2) * 1024 + 1 * k.val = 3072 + k.val; omega
theorem emb8 (t : Fin cfg0.N) (q : Fin 16) (k : Fin 1024) :
    ((cfg0.win 8).blk t).view.emb (ix2 q k) = ix2 (⟨16 * min (16 * (t.val + 1)) 767 + q.val, by have := t_lt t; omega⟩ : Fin 12288) (⟨3072 + k.val, by omega⟩ : Fin 7168) := by
  have h := idxH t
  have := t_lt t
  funext a; apply Fin.ext
  match a with
  | ⟨0, _⟩ => show win0_8.index t (0 : Fin 2) * 16 + 1 * q.val = 16 * min (16 * (t.val + 1)) 767 + q.val; omega
  | ⟨1, _⟩ => show win0_8.index t (1 : Fin 2) * 1024 + 1 * k.val = 3072 + k.val; omega
theorem emb9 (t : Fin cfg0.N) (q : Fin 16) (k : Fin 1024) :
    ((cfg0.win 9).blk t).view.emb (ix2 q k) = ix2 (⟨16 * (16 * t.val - 1) + q.val, by have := t_lt t; omega⟩ : Fin 12288) (⟨4096 + k.val, by omega⟩ : Fin 7168) := by
  have h := idxH t
  have := t_lt t
  funext a; apply Fin.ext
  match a with
  | ⟨0, _⟩ => show win0_9.index t (0 : Fin 2) * 16 + 1 * q.val = 16 * (16 * t.val - 1) + q.val; omega
  | ⟨1, _⟩ => show win0_9.index t (1 : Fin 2) * 1024 + 1 * k.val = 4096 + k.val; omega
theorem emb10 (t : Fin cfg0.N) (q : Fin 16) (k : Fin 1024) :
    ((cfg0.win 10).blk t).view.emb (ix2 q k) = ix2 (⟨16 * min (16 * (t.val + 1)) 767 + q.val, by have := t_lt t; omega⟩ : Fin 12288) (⟨4096 + k.val, by omega⟩ : Fin 7168) := by
  have h := idxH t
  have := t_lt t
  funext a; apply Fin.ext
  match a with
  | ⟨0, _⟩ => show win0_10.index t (0 : Fin 2) * 16 + 1 * q.val = 16 * min (16 * (t.val + 1)) 767 + q.val; omega
  | ⟨1, _⟩ => show win0_10.index t (1 : Fin 2) * 1024 + 1 * k.val = 4096 + k.val; omega
theorem emb11 (t : Fin cfg0.N) (q : Fin 256) (s : Fin 6) (k : Fin 1024) :
    ((cfg0.win 11).blk t).view.emb (ix3 (0 : Fin 1) s k) = ix3 (rowM (rowOf t q)) s k := by
  have h := idxM t
  have := t_lt t
  funext a; apply Fin.ext
  match a with
  | ⟨0, _⟩ =>
    show win0_11.index t (0 : Fin 3) * 1 + 1 * 0 = (rowM (rowOf t q)).val
    rw [h.1]
    unfold rowM rowOf
    by_cases h8 : t.val < 32
    · rw [if_pos h8, dif_pos (by show 256 * t.val + q.val < 8192; omega)]
      rfl
    · rw [if_neg h8, dif_neg (by show ¬ 256 * t.val + q.val < 8192; omega)]
      show (1 + (t.val - 32) / 8) * 1 + 1 * 0 = 1 + (256 * t.val + q.val - 8192) / 2048
      omega
  | ⟨1, _⟩ => show win0_11.index t (1 : Fin 3) * 6 + 1 * s.val = s.val; omega
  | ⟨2, _⟩ => show win0_11.index t (2 : Fin 3) * 1024 + 1 * k.val = k.val; omega
theorem emb12 (t : Fin cfg0.N) (k : Fin 1024) :
    ((cfg0.win 12).blk t).view.emb (ix2 (0 : Fin 1) k) = ix2 (0 : Fin 1) k := by
  have h := idxW t
  have := t_lt t
  funext a; apply Fin.ext
  match a with
  | ⟨0, _⟩ => show win0_12.index t (0 : Fin 2) * 1 + 1 * 0 = 0; omega
  | ⟨1, _⟩ => show win0_12.index t (1 : Fin 2) * 1024 + 1 * k.val = k.val; omega
theorem emb14 (t : Fin cfg0.N) (k : Fin 1024) :
    ((cfg0.win 14).blk t).view.emb (ix2 (0 : Fin 1) k) = ix2 (0 : Fin 1) k := by
  have h := idxW t
  have := t_lt t
  funext a; apply Fin.ext
  match a with
  | ⟨0, _⟩ => show win0_14.index t (0 : Fin 2) * 1 + 1 * 0 = 0; omega
  | ⟨1, _⟩ => show win0_14.index t (1 : Fin 2) * 1024 + 1 * k.val = k.val; omega
theorem emb15 (t : Fin cfg0.N) (k : Fin 1024) :
    ((cfg0.win 15).blk t).view.emb (ix2 (0 : Fin 1) k) = ix2 (0 : Fin 1) k := by
  have h := idxW t
  have := t_lt t
  funext a; apply Fin.ext
  match a with
  | ⟨0, _⟩ => show win0_15.index t (0 : Fin 2) * 1 + 1 * 0 = 0; omega
  | ⟨1, _⟩ => show win0_15.index t (1 : Fin 2) * 1024 + 1 * k.val = k.val; omega
theorem emb16 (t : Fin cfg0.N) (k : Fin 1024) :
    ((cfg0.win 16).blk t).view.emb (ix2 (0 : Fin 1) k) = ix2 (0 : Fin 1) k := by
  have h := idxW t
  have := t_lt t
  funext a; apply Fin.ext
  match a with
  | ⟨0, _⟩ => show win0_16.index t (0 : Fin 2) * 1 + 1 * 0 = 0; omega
  | ⟨1, _⟩ => show win0_16.index t (1 : Fin 2) * 1024 + 1 * k.val = k.val; omega
theorem emb13 (t : Fin cfg0.N) (q : Fin 31) (k : Fin 1024) :
    ((cfg0.win 13).blk t).view.emb (ix2 q k) = ix2 q k := by
  have h := idxW t
  have := t_lt t
  funext a; apply Fin.ext
  match a with
  | ⟨0, _⟩ => show win0_13.index t (0 : Fin 2) * 31 + 1 * q.val = q.val; omega
  | ⟨1, _⟩ => show win0_13.index t (1 : Fin 2) * 1024 + 1 * k.val = k.val; omega
theorem emb17 (t : Fin cfg0.N) (q k : Fin 1024) :
    ((cfg0.win 17).blk t).view.emb (ix2 q k) = ix2 q k := by
  have h := idxW t
  have := t_lt t
  funext a; apply Fin.ext
  match a with
  | ⟨0, _⟩ => show win0_17.index t (0 : Fin 2) * 1024 + 1 * q.val = q.val; omega
  | ⟨1, _⟩ => show win0_17.index t (1 : Fin 2) * 1024 + 1 * k.val = k.val; omega
theorem emb18 (t : Fin cfg0.N) (q k : Fin 1024) :
    ((cfg0.win 18).blk t).view.emb (ix2 q k) = ix2 q k := by
  have h := idxW t
  have := t_lt t
  funext a; apply Fin.ext
  match a with
  | ⟨0, _⟩ => show win0_18.index t (0 : Fin 2) * 1024 + 1 * q.val = q.val; omega
  | ⟨1, _⟩ => show win0_18.index t (1 : Fin 2) * 1024 + 1 * k.val = k.val; omega
theorem emb19 (t : Fin cfg0.N) (q k : Fin 1024) :
    ((cfg0.win 19).blk t).view.emb (ix2 q k) = ix2 q k := by
  have h := idxW t
  have := t_lt t
  funext a; apply Fin.ext
  match a with
  | ⟨0, _⟩ => show win0_19.index t (0 : Fin 2) * 1024 + 1 * q.val = q.val; omega
  | ⟨1, _⟩ => show win0_19.index t (1 : Fin 2) * 1024 + 1 * k.val = k.val; omega

/-! ## The arrays the kernel reads -/

variable (m : (ℓ : Loc nD τ sig) → Buf (Elt Ideal) ℓ) (c : Dev nD)

/-- The contexts' tokens. -/
def XPk (b : Fin 32) (t : Fin 256) (k : Fin 1024) : EReal := (m ((c : Thread nD τ).loc main_arg0) : FVec Ideal S32x256x1024 .f32) (ix3 b t k)
/-- The samples' tokens. -/
def XSk (b : Fin 2) (t : Fin 2048) (k : Fin 1024) : EReal := (m ((c : Thread nD τ).loc main_arg1) : FVec Ideal S2x2048x1024 .f32) (ix3 b t k)
/-- The first branch. -/
def OAk (r : Fin 12288) (k : Fin 1024) : EReal := (m ((c : Thread nD τ).loc main_arg2) : FVec Ideal S12288x1024 .bf16) (ix2 r k)
/-- The projections. -/
def Rk (r : Fin 12288) (k : Fin 7168) : EReal := (m ((c : Thread nD τ).loc main_arg3) : FVec Ideal S12288x7168 .bf16) (ix2 r k)
/-- The modulation. -/
def Mk (i : Fin 8) (j : Fin 6144) : EReal := (m ((c : Thread nD τ).loc main_arg4) : FVec Ideal S8x6144 .f32) (ix2 i j)
/-- The second norm's scale. -/
def NGk (k : Fin 1024) : EReal := (m ((c : Thread nD τ).loc main_arg5) : FVec Ideal S1x2x1024 .f32) (ix3 (0 : Fin 1) (1 : Fin 2) k)
/-- The convolution's taps. -/
def CWk (i : Fin 31) (k : Fin 1024) : EReal := (m ((c : Thread nD τ).loc main_arg6) : FVec Ideal S1x31x1024 .f32) (ix3 (0 : Fin 1) i k)
/-- The convolution's bias. -/
def CBk (k : Fin 1024) : EReal := (m ((c : Thread nD τ).loc main_arg7) : FVec Ideal S1x1024 .f32) (ix2 (0 : Fin 1) k)
/-- The normalisation's scale. -/
def LGk (k : Fin 1024) : EReal := (m ((c : Thread nD τ).loc main_arg8) : FVec Ideal S1x1024 .f32) (ix2 (0 : Fin 1) k)
/-- The normalisation's bias. -/
def LBk (k : Fin 1024) : EReal := (m ((c : Thread nD τ).loc main_arg9) : FVec Ideal S1x1024 .f32) (ix2 (0 : Fin 1) k)
/-- The second branch's weights. -/
def WCk (k j : Fin 1024) : EReal := (m ((c : Thread nD τ).loc main_arg10) : FVec Ideal S1x1024x1024 .f32) (ix3 (0 : Fin 1) k j)
/-- The first branch's weights. -/
def WHk (k j : Fin 1024) : EReal := (m ((c : Thread nD τ).loc main_arg11) : FVec Ideal S1x1024x1024 .f32) (ix3 (0 : Fin 1) k j)
/-- The mix's weights. -/
def WMk (k j : Fin 1024) : EReal := (m ((c : Thread nD τ).loc main_arg12) : FVec Ideal S1x1024x1024 .f32) (ix3 (0 : Fin 1) k j)
theorem V_xp : (V m c main_v0 : FVec Ideal S8192x1024 .f32)
    = shapeCast S8192x1024 (m ((c : Thread nD τ).loc main_arg0) : FVec Ideal S32x256x1024 .f32) shapeCasts_S32x256x1024_S8192x1024 := by
  unfold V
  after_results
  rfl
theorem V_xs : (V m c main_v1 : FVec Ideal S4096x1024 .f32)
    = shapeCast S4096x1024 (m ((c : Thread nD τ).loc main_arg1) : FVec Ideal S2x2048x1024 .f32) shapeCasts_S2x2048x1024_S4096x1024 := by
  unfold V
  after_results
  rfl
theorem V_mod : (V m c main_v2 : FVec Ideal S8x6x1024 .f32)
    = shapeCast S8x6x1024 (m ((c : Thread nD τ).loc main_arg4) : FVec Ideal S8x6144 .f32) shapeCasts_S8x6144_S8x6x1024 := by
  unfold V
  after_results
  rfl
theorem V_g : (V m c main_v4 : FVec Ideal S1x1024 .f32)
    = shapeCast S1x1024 (extractStridedSlice S1x1x1024 ![0, 1, 0] (m ((c : Thread nD τ).loc main_arg5) : FVec Ideal S1x2x1024 .f32)
        slices_S1x2x1024_S1x1x1024_0_1_0) shapeCasts_S1x1x1024_S1x1024 := by
  unfold V
  after_results
  rfl
theorem V_cw : (V m c main_v5 : FVec Ideal S31x1024 .f32)
    = shapeCast S31x1024 (m ((c : Thread nD τ).loc main_arg6) : FVec Ideal S1x31x1024 .f32) shapeCasts_S1x31x1024_S31x1024 := by
  unfold V
  after_results
  rfl
theorem V_cb : (V m c main_v7 : FVec Ideal S1x1024 .f32)
    = shapeCast S1x1024 (shapeCast S1024 (m ((c : Thread nD τ).loc main_arg7) : FVec Ideal S1x1024 .f32) shapeCasts_S1x1024_S1024) shapeCasts_S1024_S1x1024 := by
  unfold V
  after_results
  rfl
theorem V_lg : (V m c main_v9 : FVec Ideal S1x1024 .f32)
    = shapeCast S1x1024 (shapeCast S1024 (m ((c : Thread nD τ).loc main_arg8) : FVec Ideal S1x1024 .f32) shapeCasts_S1x1024_S1024) shapeCasts_S1024_S1x1024 := by
  unfold V
  after_results
  rfl
theorem V_lb : (V m c main_v11 : FVec Ideal S1x1024 .f32)
    = shapeCast S1x1024 (shapeCast S1024 (m ((c : Thread nD τ).loc main_arg9) : FVec Ideal S1x1024 .f32) shapeCasts_S1x1024_S1024) shapeCasts_S1024_S1x1024 := by
  unfold V
  after_results
  rfl
theorem V_wc : (V m c main_v13 : FVec Ideal S1024x1024 .bf16)
    = truncf (F := Ideal) .bf16 (shapeCast S1024x1024 (m ((c : Thread nD τ).loc main_arg10) : FVec Ideal S1x1024x1024 .f32) shapeCasts_S1x1024x1024_S1024x1024) bitsLt_bf16_f32 := by
  unfold V
  after_results
  rfl
theorem V_wh : (V m c main_v15 : FVec Ideal S1024x1024 .bf16)
    = truncf (F := Ideal) .bf16 (shapeCast S1024x1024 (m ((c : Thread nD τ).loc main_arg11) : FVec Ideal S1x1024x1024 .f32) shapeCasts_S1x1024x1024_S1024x1024) bitsLt_bf16_f32 := by
  unfold V
  after_results
  rfl
theorem V_wm : (V m c main_v17 : FVec Ideal S1024x1024 .bf16)
    = truncf (F := Ideal) .bf16 (shapeCast S1024x1024 (m ((c : Thread nD τ).loc main_arg12) : FVec Ideal S1x1024x1024 .f32) shapeCasts_S1x1024x1024_S1024x1024) bitsLt_bf16_f32 := by
  unfold V
  after_results
  rfl
theorem V_oa : (V m c main_arg2 : FVec Ideal S12288x1024 .bf16)
    = (m ((c : Thread nD τ).loc main_arg2) : FVec Ideal S12288x1024 .bf16) := by
  unfold V
  after_results
theorem V_r : (V m c main_arg3 : FVec Ideal S12288x7168 .bf16)
    = (m ((c : Thread nD τ).loc main_arg3) : FVec Ideal S12288x7168 .bf16) := by
  unfold V
  after_results

/-! ## The blocks the kernel reads -/

theorem b0 (t : Fin cfg0.N) (hA : t.val < 32) (q : Fin 256) (k : Fin 1024) :
    (iblk m c 0 t : Vec Ideal S256x1024 .f32) (ix2 q k) = rowX (XPk m c) (XSk m c) (rowOf t q) k := by
  show V m c main_v0 (((cfg0.win 0).blk t).view.emb (ix2 q k)) = _
  rw [emb0 t hA, V_xp]
  unfold rowX rowOf
  rw [dif_pos (by show 256 * t.val + q.val < 8192; omega)]
  exact shapeCast_apply _ _ _ _ (by
    show (S32x256x1024.rowMajor (ix3 _ _ _)).val = (S8192x1024.rowMajor (ix2 _ _)).val
    rw [Shape.rowMajor_val_three, Shape.rowMajor_val_two]
    show ((256 * t.val + q.val) / 256 * 256 + (256 * t.val + q.val) % 256) * 1024 + k.val = (256 * t.val + q.val) * 1024 + k.val
    omega)
theorem b1 (t : Fin cfg0.N) (hB : 32 ≤ t.val) (q : Fin 256) (k : Fin 1024) :
    (iblk m c 1 t : Vec Ideal S256x1024 .f32) (ix2 q k) = rowX (XPk m c) (XSk m c) (rowOf t q) k := by
  show V m c main_v1 (((cfg0.win 1).blk t).view.emb (ix2 q k)) = _
  rw [emb1 t hB, V_xs]
  unfold rowX rowOf
  rw [dif_neg (by show ¬ 256 * t.val + q.val < 8192; omega)]
  exact shapeCast_apply _ _ _ _ (by
    show (S2x2048x1024.rowMajor (ix3 _ _ _)).val = (S4096x1024.rowMajor (ix2 _ _)).val
    rw [Shape.rowMajor_val_three, Shape.rowMajor_val_two]
    show ((256 * t.val + q.val - 8192) / 2048 * 2048 + (256 * t.val + q.val - 8192) % 2048) * 1024 + k.val
      = (256 * t.val + q.val - 8192) * 1024 + k.val
    omega)
theorem b2 (t : Fin cfg0.N) (q : Fin 256) (k : Fin 1024) : (iblk m c 2 t : Vec Ideal S256x1024 .bf16) (ix2 q k) = OAk m c (rowOf t q) k := by
  show V m c main_arg2 (((cfg0.win 2).blk t).view.emb (ix2 q k)) = _
  rw [emb2, V_oa]
  rfl
theorem b3 (t : Fin cfg0.N) (q : Fin 256) (k : Fin 1024) :
    (iblk m c 3 t : Vec Ideal S256x1024 .bf16) (ix2 q k) = Rk m c (rowOf t q) ⟨3072 + k.val, by omega⟩ := by
  show V m c main_arg3 (((cfg0.win 3).blk t).view.emb (ix2 q k)) = _
  rw [emb3, V_r]
  rfl
theorem b4 (t : Fin cfg0.N) (q : Fin 256) (k : Fin 1024) :
    (iblk m c 4 t : Vec Ideal S256x1024 .bf16) (ix2 q k) = Rk m c (rowOf t q) ⟨4096 + k.val, by omega⟩ := by
  show V m c main_arg3 (((cfg0.win 4).blk t).view.emb (ix2 q k)) = _
  rw [emb4, V_r]
  rfl
theorem b5 (t : Fin cfg0.N) (q : Fin 256) (k : Fin 1024) :
    (iblk m c 5 t : Vec Ideal S256x1024 .bf16) (ix2 q k) = Rk m c (rowOf t q) ⟨5120 + k.val, by omega⟩ := by
  show V m c main_arg3 (((cfg0.win 5).blk t).view.emb (ix2 q k)) = _
  rw [emb5, V_r]
  rfl
theorem b6 (t : Fin cfg0.N) (q : Fin 256) (k : Fin 1024) :
    (iblk m c 6 t : Vec Ideal S256x1024 .bf16) (ix2 q k) = Rk m c (rowOf t q) ⟨6144 + k.val, by omega⟩ := by
  show V m c main_arg3 (((cfg0.win 6).blk t).view.emb (ix2 q k)) = _
  rw [emb6, V_r]
  rfl
theorem b7 (t : Fin cfg0.N) (q : Fin 16) (k : Fin 1024) :
    (iblk m c 7 t : Vec Ideal S16x1024 .bf16) (ix2 q k)
      = Rk m c ⟨16 * (16 * t.val - 1) + q.val, by have := t_lt t; omega⟩ ⟨3072 + k.val, by omega⟩ := by
  show V m c main_arg3 (((cfg0.win 7).blk t).view.emb (ix2 q k)) = _
  rw [emb7, V_r]
  rfl
theorem b8 (t : Fin cfg0.N) (q : Fin 16) (k : Fin 1024) :
    (iblk m c 8 t : Vec Ideal S16x1024 .bf16) (ix2 q k)
      = Rk m c ⟨16 * min (16 * (t.val + 1)) 767 + q.val, by have := t_lt t; omega⟩ ⟨3072 + k.val, by omega⟩ := by
  show V m c main_arg3 (((cfg0.win 8).blk t).view.emb (ix2 q k)) = _
  rw [emb8, V_r]
  rfl
theorem b9 (t : Fin cfg0.N) (q : Fin 16) (k : Fin 1024) :
    (iblk m c 9 t : Vec Ideal S16x1024 .bf16) (ix2 q k)
      = Rk m c ⟨16 * (16 * t.val - 1) + q.val, by have := t_lt t; omega⟩ ⟨4096 + k.val, by omega⟩ := by
  show V m c main_arg3 (((cfg0.win 9).blk t).view.emb (ix2 q k)) = _
  rw [emb9, V_r]
  rfl
theorem b10 (t : Fin cfg0.N) (q : Fin 16) (k : Fin 1024) :
    (iblk m c 10 t : Vec Ideal S16x1024 .bf16) (ix2 q k)
      = Rk m c ⟨16 * min (16 * (t.val + 1)) 767 + q.val, by have := t_lt t; omega⟩ ⟨4096 + k.val, by omega⟩ := by
  show V m c main_arg3 (((cfg0.win 10).blk t).view.emb (ix2 q k)) = _
  rw [emb10, V_r]
  rfl
theorem b11 (t : Fin cfg0.N) (q : Fin 256) (s : Fin 6) (k : Fin 1024) (o : Fin 6144) (ho : o.val = 1024 * s.val + k.val) :
    (iblk m c 11 t : Vec Ideal S1x6x1024 .f32) (ix3 (0 : Fin 1) s k) = Mk m c (rowM (rowOf t q)) o := by
  show V m c main_v2 (((cfg0.win 11).blk t).view.emb (ix3 (0 : Fin 1) s k)) = _
  rw [emb11 t q, V_mod]
  exact shapeCast_apply _ _ _ _ (by
    show (S8x6144.rowMajor (ix2 _ _)).val = (S8x6x1024.rowMajor (ix3 _ _ _)).val
    rw [Shape.rowMajor_val_three, Shape.rowMajor_val_two]
    show (rowM (rowOf t q)).val * 6144 + o.val = ((rowM (rowOf t q)).val * 6 + s.val) * 1024 + k.val
    omega)
theorem b12 (t : Fin cfg0.N) (k : Fin 1024) : (iblk m c 12 t : Vec Ideal S1x1024 .f32) (ix2 (0 : Fin 1) k) = NGk m c k := by
  show V m c main_v4 (((cfg0.win 12).blk t).view.emb (ix2 (0 : Fin 1) k)) = _
  rw [emb12, V_g]
  refine (sc_row _ _ k).trans ?_
  exact extractStridedSlice_apply _ _ _ _ _ (fun a => by
    match a with
    | ⟨0, _⟩ => rfl
    | ⟨1, _⟩ => rfl
    | ⟨2, _⟩ => show k.val = 0 + k.val; omega)
theorem b13 (t : Fin cfg0.N) (q : Fin 31) (k : Fin 1024) : (iblk m c 13 t : Vec Ideal S31x1024 .f32) (ix2 q k) = CWk m c q k := by
  show V m c main_v5 (((cfg0.win 13).blk t).view.emb (ix2 q k)) = _
  rw [emb13, V_cw]
  exact shapeCast_apply _ _ _ _ (by
    show (S1x31x1024.rowMajor (ix3 (0 : Fin 1) q k)).val = (S31x1024.rowMajor (ix2 q k)).val
    rw [Shape.rowMajor_val_three, Shape.rowMajor_val_two]; show (0 * 31 + q.val) * 1024 + k.val = q.val * 1024 + k.val; omega)
/-- A row as a vector and back. -/
theorem rowBack (x : FVec Ideal S1x1024 .f32) (h h') (k : Fin 1024) : shapeCast S1x1024 (shapeCast S1024 x h) h' (ix2 (0 : Fin 1) k) = x (ix2 (0 : Fin 1) k) :=
  (shapeCast_apply _ _ _ (ix1 k) (by
    rw [Shape.rowMajor_val_two, Shape.rowMajor_val_one]; show k.val = 0 * 1024 + k.val; omega)).trans
  (shapeCast_apply _ _ _ _ (by
    rw [Shape.rowMajor_val_two, Shape.rowMajor_val_one]; show 0 * 1024 + k.val = k.val; omega))
theorem b14 (t : Fin cfg0.N) (k : Fin 1024) : (iblk m c 14 t : Vec Ideal S1x1024 .f32) (ix2 (0 : Fin 1) k) = CBk m c k := by
  show V m c main_v7 (((cfg0.win 14).blk t).view.emb (ix2 (0 : Fin 1) k)) = _
  rw [emb14, V_cb]
  exact rowBack _ _ _ k
theorem b15 (t : Fin cfg0.N) (k : Fin 1024) : (iblk m c 15 t : Vec Ideal S1x1024 .f32) (ix2 (0 : Fin 1) k) = LGk m c k := by
  show V m c main_v9 (((cfg0.win 15).blk t).view.emb (ix2 (0 : Fin 1) k)) = _
  rw [emb15, V_lg]
  exact rowBack _ _ _ k
theorem b16 (t : Fin cfg0.N) (k : Fin 1024) : (iblk m c 16 t : Vec Ideal S1x1024 .f32) (ix2 (0 : Fin 1) k) = LBk m c k := by
  show V m c main_v11 (((cfg0.win 16).blk t).view.emb (ix2 (0 : Fin 1) k)) = _
  rw [emb16, V_lb]
  exact rowBack _ _ _ k
theorem b17 (t : Fin cfg0.N) (k j : Fin 1024) : (iblk m c 17 t : Vec Ideal S1024x1024 .bf16) (ix2 k j) = WCk m c k j := by
  show V m c main_v13 (((cfg0.win 17).blk t).view.emb (ix2 k j)) = _
  rw [emb17, V_wc]
  exact shapeCast_apply _ _ _ _ (by
    show (S1x1024x1024.rowMajor (ix3 (0 : Fin 1) k j)).val = (S1024x1024.rowMajor (ix2 k j)).val
    rw [Shape.rowMajor_val_three, Shape.rowMajor_val_two]; show (0 * 1024 + k.val) * 1024 + j.val = k.val * 1024 + j.val; omega)
theorem b18 (t : Fin cfg0.N) (k j : Fin 1024) : (iblk m c 18 t : Vec Ideal S1024x1024 .bf16) (ix2 k j) = WHk m c k j := by
  show V m c main_v15 (((cfg0.win 18).blk t).view.emb (ix2 k j)) = _
  rw [emb18, V_wh]
  exact shapeCast_apply _ _ _ _ (by
    show (S1x1024x1024.rowMajor (ix3 (0 : Fin 1) k j)).val = (S1024x1024.rowMajor (ix2 k j)).val
    rw [Shape.rowMajor_val_three, Shape.rowMajor_val_two]; show (0 * 1024 + k.val) * 1024 + j.val = k.val * 1024 + j.val; omega)
theorem b19 (t : Fin cfg0.N) (k j : Fin 1024) : (iblk m c 19 t : Vec Ideal S1024x1024 .bf16) (ix2 k j) = WMk m c k j := by
  show V m c main_v17 (((cfg0.win 19).blk t).view.emb (ix2 k j)) = _
  rw [emb19, V_wm]
  exact shapeCast_apply _ _ _ _ (by
    show (S1x1024x1024.rowMajor (ix3 (0 : Fin 1) k j)).val = (S1024x1024.rowMajor (ix2 k j)).val
    rw [Shape.rowMajor_val_three, Shape.rowMajor_val_two]; show (0 * 1024 + k.val) * 1024 + j.val = k.val * 1024 + j.val; omega)

/-! ## The blocks' edges -/

theorem bitPrev : ∀ t : Fin cfg0.N, Scalar.ori (Scalar.cmpi .slt (BitVec.ofNat 32 ((grid0.coords t) 0).val) 32#32)
      (Scalar.cmpi .eq (Scalar.remsi (Scalar.maxsi (Scalar.subi (BitVec.ofNat 32 ((grid0.coords t) 0).val) 32#32) 0#32) 8#32) 0#32)
    = (if t.val < 32 ∨ (t.val - 32) % 8 = 0 then 1#1 else 0#1) :=
  (by decide +kernel : ∀ t : Fin grid0.N, _)
theorem bitNext : ∀ t : Fin cfg0.N, Scalar.ori (Scalar.cmpi .slt (BitVec.ofNat 32 ((grid0.coords t) 0).val) 32#32)
      (Scalar.cmpi .eq (Scalar.remsi (Scalar.maxsi (Scalar.subi (BitVec.ofNat 32 ((grid0.coords t) 0).val) 32#32) 0#32) 8#32) 7#32)
    = (if t.val < 32 ∨ (t.val - 32) % 8 = 7 then 1#1 else 0#1) :=
  (by decide +kernel : ∀ t : Fin grid0.N, _)
/-- The rows before a tile count unless the tile is the first of its sequence. -/
theorem keepPrev_eq (t : Fin cfg0.N) : (keepPrev (grid0.coords t) : EReal) = if t.val < 32 ∨ (t.val - 32) % 8 = 0 then 0 else 1 := by
  unfold keepPrev
  rw [bitPrev]
  by_cases h : t.val < 32 ∨ (t.val - 32) % 8 = 0
  · rw [if_pos h, if_pos h]; exact Ideal.ofBits_zero_f32
  · rw [if_neg h, if_neg h]; exact Ideal.ofBits_one_f32
/-- The rows after a tile count unless the tile is the last of its sequence. -/
theorem keepNext_eq (t : Fin cfg0.N) : (k0_pay6 (F := Ideal) (grid0.coords t) : EReal) = if t.val < 32 ∨ (t.val - 32) % 8 = 7 then 0 else 1 := by
  unfold k0_pay6
  dsimp only
  rw [bitNext]
  by_cases h : t.val < 32 ∨ (t.val - 32) % 8 = 7
  · rw [if_pos h, if_pos h]; exact Ideal.ofBits_zero_f32
  · rw [if_neg h, if_neg h]; exact Ideal.ofBits_one_f32

theorem glu_of {REST : Fin 12288 → Fin 7168 → EReal} {a b : EReal} {r r' : Fin 12288} {C : Fin 1024} {p q : Fin 7168} (hr : r = r')
    (hp : p.val = 3072 + C.val) (hq : q.val = 4096 + C.val) (ha : a = REST r p) (hb : b = REST r q) : glu a b = gatedAt REST r' C := by
  subst hr
  rw [ha, hb]
  exact congrArg₂ glu (congrArg (REST r) (Fin.ext hp)) (congrArg (REST r) (Fin.ext hq))

/-- The rows a tile's taps meet. -/
theorem U_eq (t : Fin cfg0.N) (R : Fin 256) (k : Fin 31) (C : Fin 1024) :
    U (keepPrev (grid0.coords t)) (k0_pay6 (F := Ideal) (grid0.coords t)) (iblk m c 3 t) (iblk m c 4 t) (iblk m c 7 t) (iblk m c 8 t) (iblk m c 9 t) (iblk m c 10 t)
      ⟨R.val + 1 + k.val, by omega⟩ C = tapAt (Rk m c) (rowOf t R) C k := by
  have ht := t_lt t
  have hR := R.isLt
  have hk := k.isLt
  unfold U tapAt
  rw [keepPrev_eq, keepNext_eq]
  have hlo : seqLo (rowOf t R).val = if t.val < 32 then 256 * t.val else 8192 + 2048 * ((t.val - 32) / 8) := by
    show (if 256 * t.val + R.val < 8192 then 256 * ((256 * t.val + R.val) / 256) else 8192 + 2048 * ((256 * t.val + R.val - 8192) / 2048)) = _
    split <;> split <;> omega
  have hhi : seqHi (rowOf t R).val = if t.val < 32 then 256 * t.val + 256 else 8192 + 2048 * ((t.val - 32) / 8) + 2048 := by
    show (if 256 * t.val + R.val < 8192 then 256 * ((256 * t.val + R.val) / 256) + 256 else 8192 + 2048 * ((256 * t.val + R.val - 8192) / 2048) + 2048) = _
    split <;> split <;> omega
  have hrow : (rowOf t R).val = 256 * t.val + R.val := rfl
  by_cases h16 : R.val + 1 + k.val < 16
  · rw [dif_pos h16]
    by_cases hp : t.val < 32 ∨ (t.val - 32) % 8 = 0
    · rw [if_pos hp, mul_zero, dif_neg (by rw [hlo, hhi, hrow]; split <;> omega)]
    · rw [if_neg hp, mul_one, dif_pos (by rw [hlo, hhi, hrow]; split <;> omega)]
      exact glu_of (Fin.ext (by show 16 * (16 * t.val - 1) + (R.val + 1 + k.val) = 256 * t.val + R.val + k.val - 15; omega)) rfl rfl
        (b7 m c t _ C) (b9 m c t _ C)
  · rw [dif_neg h16]
    by_cases h272 : R.val + 1 + k.val < 272
    · rw [dif_pos h272, dif_pos (by rw [hlo, hhi, hrow]; split <;> omega)]
      exact glu_of (Fin.ext (by show 256 * t.val + (R.val + 1 + k.val - 16) = 256 * t.val + R.val + k.val - 15; omega)) rfl rfl
        (b3 m c t _ C) (b4 m c t _ C)
    · rw [dif_neg h272]
      by_cases hp : t.val < 32 ∨ (t.val - 32) % 8 = 7
      · rw [if_pos hp, mul_zero, dif_neg (by rw [hlo, hhi, hrow]; split <;> omega)]
      · rw [if_neg hp, mul_one, dif_pos (by rw [hlo, hhi, hrow]; split <;> omega)]
        exact glu_of (Fin.ext (by
            show 16 * min (16 * (t.val + 1)) 767 + (R.val + 1 + k.val - 272) = 256 * t.val + R.val + k.val - 15; omega)) rfl rfl
          (b8 m c t _ C) (b10 m c t _ C)

/-- The convolution of a tile's row. -/
theorem convR_eq (t : Fin cfg0.N) (R : Fin 256) (C : Fin 1024) :
    convR (grid0.coords t) (iblk m c 3 t) (iblk m c 4 t) (iblk m c 7 t) (iblk m c 8 t) (iblk m c 9 t) (iblk m c 10 t) (iblk m c 13 t) (iblk m c 14 t) R C
      = convG (Rk m c) (CWk m c) (CBk m c) (rowOf t R) C := by
  unfold convR convAt convG
  refine congrArg₂ (· + ·) (b14 m c t C) (Finset.sum_congr rfl fun k _ => congrArg₂ (· * ·) (b13 m c t k C) (U_eq m c t R k C))

/-! ## The results -/

theorem x1Of_congr {X X' M2 M2' Y Y' g g' b b' OA OA' GA GA' GB GB' : Fin 1024 → EReal} {Wc Wc' Wh Wh' Wm Wm' : Fin 1024 → Fin 1024 → EReal}
    (h0 : ∀ j, X j = X' j) (h1 : ∀ j, M2 j = M2' j) (h2 : ∀ j, Y j = Y' j) (h3 : ∀ j, g j = g' j) (h4 : ∀ j, b j = b' j) (h5 : ∀ j, OA j = OA' j)
    (h6 : ∀ j, GA j = GA' j) (h7 : ∀ j, GB j = GB' j) (h8 : ∀ k j, Wc k j = Wc' k j) (h9 : ∀ k j, Wh k j = Wh' k j) (h10 : ∀ k j, Wm k j = Wm' k j)
    (j : Fin 1024) : x1Of X M2 Y g b OA GA GB Wc Wh Wm j = x1Of X' M2' Y' g' b' OA' GA' GB' Wc' Wh' Wm' j := by
  obtain rfl : X = X' := funext h0
  obtain rfl : M2 = M2' := funext h1
  obtain rfl : Y = Y' := funext h2
  obtain rfl : g = g' := funext h3
  obtain rfl : b = b' := funext h4
  obtain rfl : OA = OA' := funext h5
  obtain rfl : GA = GA' := funext h6
  obtain rfl : GB = GB' := funext h7
  obtain rfl : Wc = Wc' := funext fun k => funext (h8 k)
  obtain rfl : Wh = Wh' := funext fun k => funext (h9 k)
  obtain rfl : Wm = Wm' := funext fun k => funext (h10 k)
  rfl
theorem h2Of_congr {Z Z' g g' a a' b b' : Fin 1024 → EReal} (h0 : ∀ j, Z j = Z' j) (h1 : ∀ j, g j = g' j) (h2 : ∀ j, a j = a' j) (h3 : ∀ j, b j = b' j)
    (j : Fin 1024) : h2Of Z g a b j = h2Of Z' g' a' b' j := by
  obtain rfl : Z = Z' := funext h0
  obtain rfl : g = g' := funext h1
  obtain rfl : a = a' := funext h2
  obtain rfl : b = b' := funext h3
  rfl

/-- The first result's row, of the kernel's arrays. -/
def X1k (r : Fin 12288) : Fin 1024 → EReal :=
  x1G (XPk m c) (XSk m c) (OAk m c) (Rk m c) (Mk m c) (CWk m c) (CBk m c) (LGk m c) (LBk m c) (WCk m c) (WHk m c) (WMk m c) r

theorem x1R_eq (t : Fin cfg0.N) (q : Fin 256) (X : Fin 1024 → EReal) (hX : ∀ j, X j = rowX (XPk m c) (XSk m c) (rowOf t q) j) (j : Fin 1024) :
    x1R (grid0.coords t) (iblk m c 2 t) (iblk m c 3 t) (iblk m c 4 t) (iblk m c 5 t) (iblk m c 6 t) (iblk m c 7 t) (iblk m c 8 t) (iblk m c 9 t) (iblk m c 10 t) (iblk m c 11 t) (iblk m c 13 t) (iblk m c 14 t) (iblk m c 15 t) (iblk m c 16 t) (iblk m c 17 t) (iblk m c 18 t) (iblk m c 19 t) X q j = X1k m c (rowOf t q) j :=
  x1Of_congr hX (fun j => b11 m c t q 2 j ⟨2048 + j.val, by omega⟩ rfl) (fun j => convR_eq m c t q j) (b15 m c t) (b16 m c t) (b2 m c t q)
    (b5 m c t q) (b6 m c t q) (b17 m c t) (b18 m c t) (b19 m c t) j
theorem h2R_eq (t : Fin cfg0.N) (q : Fin 256) (X : Fin 1024 → EReal) (hX : ∀ j, X j = rowX (XPk m c) (XSk m c) (rowOf t q) j) (j : Fin 1024) :
    h2Of (x1R (grid0.coords t) (iblk m c 2 t) (iblk m c 3 t) (iblk m c 4 t) (iblk m c 5 t) (iblk m c 6 t) (iblk m c 7 t) (iblk m c 8 t) (iblk m c 9 t) (iblk m c 10 t) (iblk m c 11 t) (iblk m c 13 t) (iblk m c 14 t) (iblk m c 15 t) (iblk m c 16 t) (iblk m c 17 t) (iblk m c 18 t) (iblk m c 19 t) X q) (fun j => (iblk m c 12 t : Vec Ideal S1x1024 .f32) (ix2 (0 : Fin 1) j))
      (fun j => (iblk m c 11 t : Vec Ideal S1x6x1024 .f32) (ix3 (0 : Fin 1) (4 : Fin 6) j))
      (fun j => (iblk m c 11 t : Vec Ideal S1x6x1024 .f32) (ix3 (0 : Fin 1) (3 : Fin 6) j)) j
      = h2G (X1k m c (rowOf t q)) (Mk m c) (NGk m c) (rowOf t q) j :=
  h2Of_congr (x1R_eq m c t q X hX) (b12 m c t) (fun j => b11 m c t q 4 j ⟨4096 + j.val, by omega⟩ rfl)
    (fun j => b11 m c t q 3 j ⟨3072 + j.val, by omega⟩ rfl) j

theorem cut20 (t : Fin cfg0.N) (x : Vec Ideal S256x1024 .f32) (y : S256x1024.Idx) : (cfg0.win 20).cut (grid0.coords t) x y = x y := rfl
theorem x1Blk_ap (t : Fin cfg0.N) (q : Fin 256) (j : Fin 1024) :
    ((dats m 0 c).flushed 20 t : Vec Ideal S256x1024 .f32) (ix2 q j) = X1k m c (rowOf t q) j := by
  by_cases h : t.val < 32
  · refine (congrFun (flushed20_A m c t h (by omega)) (ix2 q j)).trans ((cut20 _ _ _).trans ?_)
    refine (out20A (hc0 := _) (hc1 := _) (r := q) (j := j) ..).trans ?_
    exact x1R_eq m c t q _ (fun j => b0 m c t h q j) j
  · refine (congrFun (flushed20_B m c t h (by omega)) (ix2 q j)).trans ((cut20 _ _ _).trans ?_)
    refine (out20B (hc0 := _) (hc1 := _) (r := q) (j := j) ..).trans ?_
    exact x1R_eq m c t q _ (fun j => b1 m c t (by omega) q j) j
/-- The first result. -/
theorem ker_x1 (r : Fin 12288) (j : Fin 1024) :
    ((dats m 0 c).arrAt 20 cfg0.N : FVec Ideal S12288x1024 .f32) (ix2 r j) = X1k m c r j := by
  let t : Fin cfg0.N := ⟨r.val / 256, lt_of_lt_of_eq (by omega : r.val / 256 < 48) (by decide +kernel : 48 = cfg0.N)⟩
  let q : Fin 256 := ⟨r.val % 256, by omega⟩
  have hr : rowOf t q = r := Fin.ext (by show 256 * (r.val / 256) + r.val % 256 = r.val; omega)
  have hx : ix2 r j = ((cfg0.win 20).blk t).view.emb (ix2 q j) := by rw [emb20, hr]
  refine (congrArg (fun i => (dats m 0 c).arrAt 20 cfg0.N i) hx).trans ?_
  refine (congrFun ((dats m 0 c).read_blk_arrAt_eq_flushed 20 disjoint20 cfg0.N t t.isLt (flush0_20 t)) (ix2 q j)).trans ?_
  refine (x1Blk_ap m c t q j).trans ?_
  rw [hr]

theorem cut21 (t : Fin cfg0.N) (x : Vec Ideal S256x1024 .f32) (y : S256x1024.Idx) : (cfg0.win 21).cut (grid0.coords t) x y = x y := rfl
theorem h2Blk_ap (t : Fin cfg0.N) (q : Fin 256) (j : Fin 1024) :
    ((dats m 0 c).flushed 21 t : Vec Ideal S256x1024 .f32) (ix2 q j) = h2G (X1k m c (rowOf t q)) (Mk m c) (NGk m c) (rowOf t q) j := by
  by_cases h : t.val < 32
  · refine (congrFun (flushed21_A m c t h (by omega)) (ix2 q j)).trans ((cut21 _ _ _).trans ?_)
    refine (out21A (hc0 := _) (hc1 := _) (r := q) (j := j) ..).trans ?_
    exact h2R_eq m c t q _ (fun j => b0 m c t h q j) j
  · refine (congrFun (flushed21_B m c t h (by omega)) (ix2 q j)).trans ((cut21 _ _ _).trans ?_)
    refine (out21B (hc0 := _) (hc1 := _) (r := q) (j := j) ..).trans ?_
    exact h2R_eq m c t q _ (fun j => b1 m c t (by omega) q j) j
/-- The second result. -/
theorem ker_h2 (r : Fin 12288) (j : Fin 1024) :
    ((dats m 0 c).arrAt 21 cfg0.N : FVec Ideal S12288x1024 .f32) (ix2 r j) = h2G (X1k m c r) (Mk m c) (NGk m c) r j := by
  let t : Fin cfg0.N := ⟨r.val / 256, lt_of_lt_of_eq (by omega : r.val / 256 < 48) (by decide +kernel : 48 = cfg0.N)⟩
  let q : Fin 256 := ⟨r.val % 256, by omega⟩
  have hr : rowOf t q = r := Fin.ext (by show 256 * (r.val / 256) + r.val % 256 = r.val; omega)
  have hx : ix2 r j = ((cfg0.win 21).blk t).view.emb (ix2 q j) := by rw [emb21, hr]
  refine (congrArg (fun i => (dats m 0 c).arrAt 21 cfg0.N i) hx).trans ?_
  refine (congrFun ((dats m 0 c).read_blk_arrAt_eq_flushed 21 disjoint21 cfg0.N t t.isLt (flush0_21 t)) (ix2 q j)).trans ?_
  refine (h2Blk_ap m c t q j).trans ?_
  rw [hr]

end Kernel

end Cert.Mix

end
-- ==== Proof.MixRef.lean ====
/- What the reference of the mix leaves in its two results: entry by entry the mix of tokens of `MixKer`. -/
module

public import proofs.«01_k».proof.Proof.MixKer
public import proofs.«01_k».proof.Proof.Gen.Reference3Ideal.Read
public import Idealize.ShloMosaic.Lib.KernelVsHost

@[expose] public section

set_option maxRecDepth 16384

noncomputable section

namespace Cert.Mix.Ref

open Idealize.ShloMosaic Idealize.ShloMosaic.TcCoe Idealize.ShloMosaic.ValueIdx Idealize.SL.Sem
open Cert.Reference3Ideal Cert.Reference3Ideal.Gen Cert.Reference3Ideal.Read
open Cert.Inproj (rowX rowM)
open scoped BigOperators

variable (x0 : FVec Ideal S32x256x1024 .f32) (x1 : FVec Ideal S2x2048x1024 .f32) (x2 : FVec Ideal S12288x1024 .bf16)
  (x3 : FVec Ideal S12288x7168 .bf16) (x4 : FVec Ideal S8x6144 .f32) (x5 : FVec Ideal S1x2x1024 .f32) (x6 : FVec Ideal S1x31x1024 .f32)
  (x7 x8 x9 : FVec Ideal S1x1024 .f32) (x10 x11 x12 : FVec Ideal S1x1024x1024 .f32)

/-- The projections. -/
def Rr (r : Fin 12288) (k : Fin 7168) : EReal := x3 (ix2 r k)
/-- The modulation. -/
def Mr (i : Fin 8) (j : Fin 6144) : EReal := x4 (ix2 i j)
/-- The convolution's taps. -/
def CWr (i : Fin 31) (k : Fin 1024) : EReal := x6 (ix3 (0 : Fin 1) i k)
/-- A row of an array of one row. -/
def rowr (x : FVec Ideal S1x1024 .f32) (k : Fin 1024) : EReal := x (ix2 (0 : Fin 1) k)
/-- The entries of a square array of weights. -/
def wgtr (x : FVec Ideal S1x1024x1024 .f32) (k j : Fin 1024) : EReal := x (ix3 (0 : Fin 1) k j)

/-- The logistic function in the reference's words. -/
theorem sg_eq (b : EReal) : Ideal.div (Ideal.ofBits .f32 0x3F800000#32) (Ideal.ofBits .f32 0x3F800000#32 + Ideal.exp (-b)) = sgm b := by
  unfold sgm
  rw [show (Ideal.ofBits .f32 0x00000000#32 : EReal) = 0 from Ideal.ofBits_zero_f32, zero_sub]
theorem sum31 (T : Fin 31 → EReal) : T 0 + T 1 + T 2 + T 3 + T 4 + T 5 + T 6 + T 7 + T 8 + T 9 + T 10 + T 11 + T 12 + T 13 + T 14 + T 15 + T 16 + T 17 + T 18
    + T 19 + T 20 + T 21 + T 22 + T 23 + T 24 + T 25 + T 26 + T 27 + T 28 + T 29 + T 30 = ∑ k, T k := by
  simp only [Fin.sum_univ_castSucc, Fin.sum_univ_zero, zero_add]; rfl
/-- A slice of one row of the taps, spread over the tokens. -/
theorem wgt_ap (w : FVec Ideal S31x1024 .f32) (k : Fin 31) (hs : S31x1024.Slices ![k.val, 0] S1x1024) (hc : S1x1024.ShapeCasts S1024) (C : Fin 1024) :
    shapeCast S1024 (extractStridedSlice S1x1024 ![k.val, 0] w hs) hc (ix1 C) = w (ix2 k C) :=
  (shapeCast_apply _ _ _ (ix2 (0 : Fin 1) C) (by
    rw [Shape.rowMajor_val_two, Shape.rowMajor_val_one]; show 0 * 1024 + C.val = C.val; omega)).trans
  (extractStridedSlice_apply _ _ _ _ (ix2 k C) (fun a => match a with
    | ⟨0, _⟩ => rfl
    | ⟨1, _⟩ => by show C.val = 0 + C.val; omega))

theorem w_ap (x : FVec Ideal S1x1024x1024 .f32) (h : S1x1024x1024.ShapeCasts S1024x1024) (k j : Fin 1024) :
    shapeCast S1024x1024 x h (ix2 k j) = wgtr x k j :=
  shapeCast_apply _ _ _ _ (by
    show (S1x1024x1024.rowMajor (ix3 (0 : Fin 1) k j)).val = (S1024x1024.rowMajor (ix2 k j)).val
    rw [Shape.rowMajor_val_three, Shape.rowMajor_val_two]; show (0 * 1024 + k.val) * 1024 + j.val = k.val * 1024 + j.val; omega)
theorem wc_ap (k j : Fin 1024) : (val_main_v5 (F := Ideal) x10 (ix2 k j) : EReal) = wgtr x10 k j := w_ap x10 _ k j
theorem wh_ap (k j : Fin 1024) : (val_main_v6 (F := Ideal) x11 (ix2 k j) : EReal) = wgtr x11 k j := w_ap x11 _ k j
theorem wm_ap (k j : Fin 1024) : (val_main_v7 (F := Ideal) x12 (ix2 k j) : EReal) = wgtr x12 k j := w_ap x12 _ k j
theorem cw_ap (k : Fin 31) (C : Fin 1024) : (val_main_v1 (F := Ideal) x6 (ix2 k C) : EReal) = CWr x6 k C :=
  shapeCast_apply _ _ _ _ (by
    show (S1x31x1024.rowMajor (ix3 (0 : Fin 1) k C)).val = (S31x1024.rowMajor (ix2 k C)).val
    rw [Shape.rowMajor_val_three, Shape.rowMajor_val_two]; show (0 * 31 + k.val) * 1024 + C.val = k.val * 1024 + C.val; omega)

theorem ix3_self {a b c : ℕ} (i : (⟨3, ![a, b, c]⟩ : Shape).Idx) : i = ix3 (i 0) (i 1) (i 2) := funext fun d => match d with
  | ⟨0, _⟩ => rfl
  | ⟨1, _⟩ => rfl
  | ⟨2, _⟩ => rfl

/-! ## The contexts' tokens -/

/-- The row of a token. -/
def grC (b : Fin 32) (t : Fin 256) : Fin 12288 := ⟨256 * b.val + t.val, by omega⟩
theorem ctx_r3072 (b : Fin 32) (t : Fin 256) (k : Fin 1024) :
    (val_main_v16 (F := Ideal) x3 (ix3 b t k) : EReal) = Rr x3 (grC b t) ⟨3072 + k.val, by omega⟩ := by
  rw [val_main_v16_apply, val_main_v15_apply, val_main_v14_apply, val_main_v10_apply]
  refine (val_main_v9_apply (F := Ideal) x3 _).trans ?_
  refine congrArg x3 (funext fun a => Fin.ext ?_)
  match a with
  | ⟨0, _⟩ => show ((b.val * 256 + t.val) * 4096 + k.val) / 4096 = 256 * b.val + t.val; omega
  | ⟨1, _⟩ => show 3072 + ((b.val * 256 + t.val) * 4096 + k.val) % 4096 = 3072 + k.val; omega
theorem ctx_r4096 (b : Fin 32) (t : Fin 256) (k : Fin 1024) :
    (val_main_v17 (F := Ideal) x3 (ix3 b t k) : EReal) = Rr x3 (grC b t) ⟨4096 + k.val, by omega⟩ := by
  rw [val_main_v17_apply, val_main_v15_apply, val_main_v14_apply, val_main_v10_apply]
  refine (val_main_v9_apply (F := Ideal) x3 _).trans ?_
  refine congrArg x3 (funext fun a => Fin.ext ?_)
  match a with
  | ⟨0, _⟩ => show ((b.val * 256 + t.val) * 4096 + (1024 + k.val)) / 4096 = 256 * b.val + t.val; omega
  | ⟨1, _⟩ => show 3072 + ((b.val * 256 + t.val) * 4096 + (1024 + k.val)) % 4096 = 4096 + k.val; omega
theorem ctx_r5120 (b : Fin 32) (t : Fin 256) (k : Fin 1024) :
    (val_main_v18 (F := Ideal) x3 (ix3 b t k) : EReal) = Rr x3 (grC b t) ⟨5120 + k.val, by omega⟩ := by
  rw [val_main_v18_apply, val_main_v15_apply, val_main_v14_apply, val_main_v10_apply]
  refine (val_main_v9_apply (F := Ideal) x3 _).trans ?_
  refine congrArg x3 (funext fun a => Fin.ext ?_)
  match a with
  | ⟨0, _⟩ => show ((b.val * 256 + t.val) * 4096 + (2048 + k.val)) / 4096 = 256 * b.val + t.val; omega
  | ⟨1, _⟩ => show 3072 + ((b.val * 256 + t.val) * 4096 + (2048 + k.val)) % 4096 = 5120 + k.val; omega
theorem ctx_r6144 (b : Fin 32) (t : Fin 256) (k : Fin 1024) :
    (val_main_v19 (F := Ideal) x3 (ix3 b t k) : EReal) = Rr x3 (grC b t) ⟨6144 + k.val, by omega⟩ := by
  rw [val_main_v19_apply, val_main_v15_apply, val_main_v14_apply, val_main_v10_apply]
  refine (val_main_v9_apply (F := Ideal) x3 _).trans ?_
  refine congrArg x3 (funext fun a => Fin.ext ?_)
  match a with
  | ⟨0, _⟩ => show ((b.val * 256 + t.val) * 4096 + (3072 + k.val)) / 4096 = 256 * b.val + t.val; omega
  | ⟨1, _⟩ => show 3072 + ((b.val * 256 + t.val) * 4096 + (3072 + k.val)) % 4096 = 6144 + k.val; omega
theorem ctx_oa (b : Fin 32) (t : Fin 256) (k : Fin 1024) : (val_main_v21 (F := Ideal) x2 (ix3 b t k) : EReal) = x2 (ix2 (grC b t) k) := by
  rw [val_main_v21_apply, val_main_v20_apply]
  refine (val_main_v8_apply (F := Ideal) x2 _).trans ?_
  refine congrArg x2 (funext fun a => Fin.ext ?_)
  match a with
  | ⟨0, _⟩ => show ((b.val * 256 + t.val) * 1024 + k.val) / 1024 = 256 * b.val + t.val; omega
  | ⟨1, _⟩ => show ((b.val * 256 + t.val) * 1024 + k.val) % 1024 = k.val; omega
theorem ctx_gate (b : Fin 32) (t : Fin 256) (k : Fin 1024) : (val_main_v299 (F := Ideal) x4 (ix3 b t k) : EReal) = Mr x4 (0 : Fin 8) ⟨2048 + k.val, by omega⟩ := by
  rw [val_main_v299_apply, val_main_v25_apply, val_main_v22_apply, val_main_v13_apply, val_main_v12_apply, val_main_v11_apply]
  refine congrArg x4 (funext fun a => Fin.ext ?_)
  match a with
  | ⟨0, _⟩ => rfl
  | ⟨1, _⟩ => show (2048 + k.val) % 6144 = 2048 + k.val; omega
theorem ctx_sh (b : Fin 32) (t : Fin 256) (k : Fin 1024) : (val_main_v321 (F := Ideal) x4 (ix3 b t k) : EReal) = Mr x4 (0 : Fin 8) ⟨3072 + k.val, by omega⟩ := by
  rw [val_main_v321_apply, val_main_v26_apply, val_main_v22_apply, val_main_v13_apply, val_main_v12_apply, val_main_v11_apply]
  refine congrArg x4 (funext fun a => Fin.ext ?_)
  match a with
  | ⟨0, _⟩ => rfl
  | ⟨1, _⟩ => show (3072 + k.val) % 6144 = 3072 + k.val; omega
theorem ctx_sc (b : Fin 32) (t : Fin 256) (k : Fin 1024) : (val_main_v319 (F := Ideal) x4 (ix3 b t k) : EReal) = Ideal.ofBits .f32 0x3F800000#32 + Mr x4 (0 : Fin 8) ⟨4096 + k.val, by omega⟩ := by
  rw [val_main_v319_apply, val_main_v318_apply, val_main_v317_apply, val_main_cst_13_apply, val_main_v27_apply, val_main_v22_apply, val_main_v13_apply, val_main_v12_apply, val_main_v11_apply]
  refine congrArg (fun i => (Ideal.ofBits .f32 0x3F800000#32 + x4 i : EReal)) (funext fun a => Fin.ext ?_)
  match a with
  | ⟨0, _⟩ => rfl
  | ⟨1, _⟩ => show (4096 + k.val) % 6144 = 4096 + k.val; omega
theorem ctx_cb (b : Fin 32) (t : Fin 256) (k : Fin 1024) : (val_main_v255 (F := Ideal) x7 (ix3 b t k) : EReal) = rowr x7 k := by
  rw [val_main_v255_apply, val_main_v254_apply, val_main_v2_apply]
  refine congrArg x7 (funext fun a => Fin.ext ?_)
  match a with
  | ⟨0, _⟩ => rfl
  | ⟨1, _⟩ => show k.val % 1024 = k.val; omega
theorem ctx_lg (b : Fin 32) (t : Fin 256) (k : Fin 1024) : (val_main_v276 (F := Ideal) x8 (ix3 b t k) : EReal) = rowr x8 k := by
  rw [val_main_v276_apply, val_main_v275_apply, val_main_v3_apply]
  refine congrArg x8 (funext fun a => Fin.ext ?_)
  match a with
  | ⟨0, _⟩ => rfl
  | ⟨1, _⟩ => show k.val % 1024 = k.val; omega
theorem ctx_lb (b : Fin 32) (t : Fin 256) (k : Fin 1024) : (val_main_v279 (F := Ideal) x9 (ix3 b t k) : EReal) = rowr x9 k := by
  rw [val_main_v279_apply, val_main_v278_apply, val_main_v4_apply]
  refine congrArg x9 (funext fun a => Fin.ext ?_)
  match a with
  | ⟨0, _⟩ => rfl
  | ⟨1, _⟩ => show k.val % 1024 = k.val; omega
theorem ctx_ng (b : Fin 32) (t : Fin 256) (k : Fin 1024) : (val_main_v315 (F := Ideal) x5 (ix3 b t k) : EReal) = x5 (ix3 (0 : Fin 1) (1 : Fin 2) k) := by
  rw [val_main_v315_apply, val_main_v314_apply, val_main_v303_apply, val_main_v302_apply, val_main_v0_apply]
  refine congrArg x5 (funext fun a => Fin.ext ?_)
  match a with
  | ⟨0, _⟩ => rfl
  | ⟨1, _⟩ => show ((1 + 0) * 1024 + k.val % 1024) / 1024 % 2 = 1; omega
  | ⟨2, _⟩ => show ((1 + 0) * 1024 + k.val % 1024) % 1024 = k.val; omega
/-- The gated values. -/
theorem ctx_glu (b : Fin 32) (t : Fin 256) (k : Fin 1024) : (val_main_v36 (F := Ideal) x3 (ix3 b t k) : EReal) = gatedAt (Rr x3) (grC b t) k := by
  rw [val_main_v36_apply, val_main_v35_apply, val_main_v34_apply, val_main_v33_apply, val_main_v32_apply, val_main_v31_apply, val_main_v30_apply, val_main_cst_apply, val_main_cst_0_apply]
  unfold gatedAt glu
  refine congrArg₂ (fun a b : EReal => a * b) (ctx_r3072 x3 b t k) (Eq.trans ?_ (sg_eq _))
  exact congrArg (fun z : EReal => Ideal.div (Ideal.ofBits .f32 0x3F800000#32) (Ideal.ofBits .f32 0x3F800000#32 + Ideal.exp (-z))) (ctx_r4096 x3 b t k)
/-- The gated values with zeros about them. -/
theorem ctx_pad (b : Fin 32) (t : Fin 256) (k : Fin 31) (C : Fin 1024) :
    (val_main_v37 (F := Ideal) x3 (ix3 b (⟨k.val + t.val, by omega⟩ : Fin 286) C) : EReal) = tapAt (Rr x3) (grC b t) C k := by
  have hk := k.isLt
  have ht := t.isLt
  have hb := b.isLt
  have hlo : seqLo (grC b t).val = 0 + 256 * b.val := by
    show (if 256 * b.val + t.val < 8192 then 256 * ((256 * b.val + t.val) / 256) else 8192 + 2048 * ((256 * b.val + t.val - 8192) / 2048)) = _
    split <;> omega
  have hhi : seqHi (grC b t).val = 0 + 256 * b.val + 256 := by
    show (if 256 * b.val + t.val < 8192 then 256 * ((256 * b.val + t.val) / 256) + 256 else 8192 + 2048 * ((256 * b.val + t.val - 8192) / 2048) + 2048) = _
    split <;> omega
  have hrow : (grC b t).val = 256 * b.val + t.val := rfl
  unfold val_main_v37 tapAt
  by_cases h : 15 ≤ k.val + t.val ∧ k.val + t.val < 271
  · rw [dif_pos (by rw [hlo, hhi, hrow]; omega)]
    refine (pad_apply_of_inside _ _ _ _ _ _ _ _ (ix3 b (⟨k.val + t.val - 15, by omega⟩ : Fin 256) C) (fun a => ?_)).trans ?_
    · match a with
      | ⟨0, _⟩ => show b.val = 0 + b.val * (0 + 1); omega
      | ⟨1, _⟩ => show k.val + t.val = 15 + (k.val + t.val - 15) * (0 + 1); omega
      | ⟨2, _⟩ => show C.val = 0 + C.val * (0 + 1); omega
    · refine (ctx_glu x3 _ _ C).trans ?_
      exact congrArg (fun r => gatedAt (Rr x3) r C) (Fin.ext (by
        show 256 * b.val + (k.val + t.val - 15) = 256 * b.val + t.val + k.val - 15; omega))
  · rw [dif_neg (by rw [hlo, hhi, hrow]; omega)]
    refine (pad_apply_of_not_inside _ _ _ _ _ _ _ _ (1 : Fin 3) ?_).trans ?_
    · show ¬(15 ≤ k.val + t.val ∧ (k.val + t.val - 15) % (0 + 1) = 0 ∧ (k.val + t.val - 15) / (0 + 1) < 256)
      omega
    · show (((0#32 : BitVec 32).toInt : ℝ) : EReal) = 0
      simp
/-- A tap's product. -/
theorem ctx_tap (k : Fin 31) (hp : (⟨3, ![32, 286, 1024]⟩ : Shape).Slices ![0, k.val, 0] S32x256x1024) (hs : S31x1024.Slices ![k.val, 0] S1x1024) (hc : S1x1024.ShapeCasts S1024)
    (b : Fin 32) (t : Fin 256) (C : Fin 1024) :
    (mulf (F := Ideal) (extractStridedSlice S32x256x1024 ![0, k.val, 0] (val_main_v37 (F := Ideal) x3) hp)
      (broadcastInDim S32x256x1024 ![0, 1, 2] bcast_S1x1x1024_S32x256x1024_0_1_2 (broadcastInDim S1x1x1024 ![2] bcast_S1024_S1x1x1024_2
        (shapeCast S1024 (extractStridedSlice S1x1024 ![k.val, 0] (val_main_v1 (F := Ideal) x6) hs) hc))) : FVec Ideal S32x256x1024 .f32) (ix3 b t C)
      = (tapAt (Rr x3) (grC b t) C k * CWr x6 k C : EReal) := by
  refine congrArg₂ (fun a b : EReal => a * b) ?_ ?_
  · refine (extractStridedSlice_apply _ _ _ _ (ix3 b (⟨k.val + t.val, by omega⟩ : Fin 286) C) (fun a => ?_)).trans (ctx_pad x3 b t k C)
    match a with
    | ⟨0, _⟩ => show b.val = 0 + b.val; omega
    | ⟨1, _⟩ => rfl
    | ⟨2, _⟩ => show C.val = 0 + C.val; omega
  · refine (broadcastInDim_apply _ _ _ _ (ix3 (0 : Fin 1) (0 : Fin 1) C) (fun a => ?_)).trans ((broadcastInDim_apply _ _ _ _ (ix1 C) (fun a => ?_)).trans
      ((wgt_ap _ k hs hc C).trans (cw_ap x6 k C)))
    · match a with
      | ⟨0, _⟩ => rfl
      | ⟨1, _⟩ => rfl
      | ⟨2, _⟩ => rfl
    · match a with
      | ⟨0, _⟩ => rfl
theorem ctx_tap0 (b : Fin 32) (t : Fin 256) (C : Fin 1024) : (val_main_v43 (F := Ideal) x3 x6 (ix3 b t C) : EReal) = tapAt (Rr x3) (grC b t) C 0 * CWr x6 0 C :=
  ctx_tap x3 x6 0 _ _ _ b t C
theorem ctx_tap1 (b : Fin 32) (t : Fin 256) (C : Fin 1024) : (val_main_v49 (F := Ideal) x3 x6 (ix3 b t C) : EReal) = tapAt (Rr x3) (grC b t) C 1 * CWr x6 1 C :=
  ctx_tap x3 x6 1 _ _ _ b t C
theorem ctx_tap2 (b : Fin 32) (t : Fin 256) (C : Fin 1024) : (val_main_v56 (F := Ideal) x3 x6 (ix3 b t C) : EReal) = tapAt (Rr x3) (grC b t) C 2 * CWr x6 2 C :=
  ctx_tap x3 x6 2 _ _ _ b t C
theorem ctx_tap3 (b : Fin 32) (t : Fin 256) (C : Fin 1024) : (val_main_v63 (F := Ideal) x3 x6 (ix3 b t C) : EReal) = tapAt (Rr x3) (grC b t) C 3 * CWr x6 3 C :=
  ctx_tap x3 x6 3 _ _ _ b t C
theorem ctx_tap4 (b : Fin 32) (t : Fin 256) (C : Fin 1024) : (val_main_v70 (F := Ideal) x3 x6 (ix3 b t C) : EReal) = tapAt (Rr x3) (grC b t) C 4 * CWr x6 4 C :=
  ctx_tap x3 x6 4 _ _ _ b t C
theorem ctx_tap5 (b : Fin 32) (t : Fin 256) (C : Fin 1024) : (val_main_v77 (F := Ideal) x3 x6 (ix3 b t C) : EReal) = tapAt (Rr x3) (grC b t) C 5 * CWr x6 5 C :=
  ctx_tap x3 x6 5 _ _ _ b t C
theorem ctx_tap6 (b : Fin 32) (t : Fin 256) (C : Fin 1024) : (val_main_v84 (F := Ideal) x3 x6 (ix3 b t C) : EReal) = tapAt (Rr x3) (grC b t) C 6 * CWr x6 6 C :=
  ctx_tap x3 x6 6 _ _ _ b t C
theorem ctx_tap7 (b : Fin 32) (t : Fin 256) (C : Fin 1024) : (val_main_v91 (F := Ideal) x3 x6 (ix3 b t C) : EReal) = tapAt (Rr x3) (grC b t) C 7 * CWr x6 7 C :=
  ctx_tap x3 x6 7 _ _ _ b t C
theorem ctx_tap8 (b : Fin 32) (t : Fin 256) (C : Fin 1024) : (val_main_v98 (F := Ideal) x3 x6 (ix3 b t C) : EReal) = tapAt (Rr x3) (grC b t) C 8 * CWr x6 8 C :=
  ctx_tap x3 x6 8 _ _ _ b t C
theorem ctx_tap9 (b : Fin 32) (t : Fin 256) (C : Fin 1024) : (val_main_v105 (F := Ideal) x3 x6 (ix3 b t C) : EReal) = tapAt (Rr x3) (grC b t) C 9 * CWr x6 9 C :=
  ctx_tap x3 x6 9 _ _ _ b t C
theorem ctx_tap10 (b : Fin 32) (t : Fin 256) (C : Fin 1024) : (val_main_v112 (F := Ideal) x3 x6 (ix3 b t C) : EReal) = tapAt (Rr x3) (grC b t) C 10 * CWr x6 10 C :=
  ctx_tap x3 x6 10 _ _ _ b t C
theorem ctx_tap11 (b : Fin 32) (t : Fin 256) (C : Fin 1024) : (val_main_v119 (F := Ideal) x3 x6 (ix3 b t C) : EReal) = tapAt (Rr x3) (grC b t) C 11 * CWr x6 11 C :=
  ctx_tap x3 x6 11 _ _ _ b t C
theorem ctx_tap12 (b : Fin 32) (t : Fin 256) (C : Fin 1024) : (val_main_v126 (F := Ideal) x3 x6 (ix3 b t C) : EReal) = tapAt (Rr x3) (grC b t) C 12 * CWr x6 12 C :=
  ctx_tap x3 x6 12 _ _ _ b t C
theorem ctx_tap13 (b : Fin 32) (t : Fin 256) (C : Fin 1024) : (val_main_v133 (F := Ideal) x3 x6 (ix3 b t C) : EReal) = tapAt (Rr x3) (grC b t) C 13 * CWr x6 13 C :=
  ctx_tap x3 x6 13 _ _ _ b t C
theorem ctx_tap14 (b : Fin 32) (t : Fin 256) (C : Fin 1024) : (val_main_v140 (F := Ideal) x3 x6 (ix3 b t C) : EReal) = tapAt (Rr x3) (grC b t) C 14 * CWr x6 14 C :=
  ctx_tap x3 x6 14 _ _ _ b t C
theorem ctx_tap15 (b : Fin 32) (t : Fin 256) (C : Fin 1024) : (val_main_v147 (F := Ideal) x3 x6 (ix3 b t C) : EReal) = tapAt (Rr x3) (grC b t) C 15 * CWr x6 15 C :=
  ctx_tap x3 x6 15 _ _ _ b t C
theorem ctx_tap16 (b : Fin 32) (t : Fin 256) (C : Fin 1024) : (val_main_v154 (F := Ideal) x3 x6 (ix3 b t C) : EReal) = tapAt (Rr x3) (grC b t) C 16 * CWr x6 16 C :=
  ctx_tap x3 x6 16 _ _ _ b t C
theorem ctx_tap17 (b : Fin 32) (t : Fin 256) (C : Fin 1024) : (val_main_v161 (F := Ideal) x3 x6 (ix3 b t C) : EReal) = tapAt (Rr x3) (grC b t) C 17 * CWr x6 17 C :=
  ctx_tap x3 x6 17 _ _ _ b t C
theorem ctx_tap18 (b : Fin 32) (t : Fin 256) (C : Fin 1024) : (val_main_v168 (F := Ideal) x3 x6 (ix3 b t C) : EReal) = tapAt (Rr x3) (grC b t) C 18 * CWr x6 18 C :=
  ctx_tap x3 x6 18 _ _ _ b t C
theorem ctx_tap19 (b : Fin 32) (t : Fin 256) (C : Fin 1024) : (val_main_v175 (F := Ideal) x3 x6 (ix3 b t C) : EReal) = tapAt (Rr x3) (grC b t) C 19 * CWr x6 19 C :=
  ctx_tap x3 x6 19 _ _ _ b t C
theorem ctx_tap20 (b : Fin 32) (t : Fin 256) (C : Fin 1024) : (val_main_v182 (F := Ideal) x3 x6 (ix3 b t C) : EReal) = tapAt (Rr x3) (grC b t) C 20 * CWr x6 20 C :=
  ctx_tap x3 x6 20 _ _ _ b t C
theorem ctx_tap21 (b : Fin 32) (t : Fin 256) (C : Fin 1024) : (val_main_v189 (F := Ideal) x3 x6 (ix3 b t C) : EReal) = tapAt (Rr x3) (grC b t) C 21 * CWr x6 21 C :=
  ctx_tap x3 x6 21 _ _ _ b t C
theorem ctx_tap22 (b : Fin 32) (t : Fin 256) (C : Fin 1024) : (val_main_v196 (F := Ideal) x3 x6 (ix3 b t C) : EReal) = tapAt (Rr x3) (grC b t) C 22 * CWr x6 22 C :=
  ctx_tap x3 x6 22 _ _ _ b t C
theorem ctx_tap23 (b : Fin 32) (t : Fin 256) (C : Fin 1024) : (val_main_v203 (F := Ideal) x3 x6 (ix3 b t C) : EReal) = tapAt (Rr x3) (grC b t) C 23 * CWr x6 23 C :=
  ctx_tap x3 x6 23 _ _ _ b t C
theorem ctx_tap24 (b : Fin 32) (t : Fin 256) (C : Fin 1024) : (val_main_v210 (F := Ideal) x3 x6 (ix3 b t C) : EReal) = tapAt (Rr x3) (grC b t) C 24 * CWr x6 24 C :=
  ctx_tap x3 x6 24 _ _ _ b t C
theorem ctx_tap25 (b : Fin 32) (t : Fin 256) (C : Fin 1024) : (val_main_v217 (F := Ideal) x3 x6 (ix3 b t C) : EReal) = tapAt (Rr x3) (grC b t) C 25 * CWr x6 25 C :=
  ctx_tap x3 x6 25 _ _ _ b t C
theorem ctx_tap26 (b : Fin 32) (t : Fin 256) (C : Fin 1024) : (val_main_v224 (F := Ideal) x3 x6 (ix3 b t C) : EReal) = tapAt (Rr x3) (grC b t) C 26 * CWr x6 26 C :=
  ctx_tap x3 x6 26 _ _ _ b t C
theorem ctx_tap27 (b : Fin 32) (t : Fin 256) (C : Fin 1024) : (val_main_v231 (F := Ideal) x3 x6 (ix3 b t C) : EReal) = tapAt (Rr x3) (grC b t) C 27 * CWr x6 27 C :=
  ctx_tap x3 x6 27 _ _ _ b t C
theorem ctx_tap28 (b : Fin 32) (t : Fin 256) (C : Fin 1024) : (val_main_v238 (F := Ideal) x3 x6 (ix3 b t C) : EReal) = tapAt (Rr x3) (grC b t) C 28 * CWr x6 28 C :=
  ctx_tap x3 x6 28 _ _ _ b t C
theorem ctx_tap29 (b : Fin 32) (t : Fin 256) (C : Fin 1024) : (val_main_v245 (F := Ideal) x3 x6 (ix3 b t C) : EReal) = tapAt (Rr x3) (grC b t) C 29 * CWr x6 29 C :=
  ctx_tap x3 x6 29 _ _ _ b t C
theorem ctx_tap30 (b : Fin 32) (t : Fin 256) (C : Fin 1024) : (val_main_v252 (F := Ideal) x3 x6 (ix3 b t C) : EReal) = tapAt (Rr x3) (grC b t) C 30 * CWr x6 30 C :=
  ctx_tap x3 x6 30 _ _ _ b t C
/-- The convolution of a token. -/
theorem ctx_conv (b : Fin 32) (t : Fin 256) (C : Fin 1024) : (val_main_v256 (F := Ideal) x3 x6 x7 (ix3 b t C) : EReal) = convG (Rr x3) (CWr x6) (rowr x7) (grC b t) C := by
  rw [val_main_v256_apply, val_main_v253_apply, val_main_v246_apply, val_main_v239_apply, val_main_v232_apply, val_main_v225_apply, val_main_v218_apply, val_main_v211_apply, val_main_v204_apply, val_main_v197_apply, val_main_v190_apply, val_main_v183_apply, val_main_v176_apply, val_main_v169_apply, val_main_v162_apply, val_main_v155_apply, val_main_v148_apply, val_main_v141_apply, val_main_v134_apply, val_main_v127_apply, val_main_v120_apply, val_main_v113_apply, val_main_v106_apply, val_main_v99_apply, val_main_v92_apply, val_main_v85_apply, val_main_v78_apply, val_main_v71_apply, val_main_v64_apply, val_main_v57_apply, val_main_v50_apply]
  rw [ctx_tap0, ctx_tap1, ctx_tap2, ctx_tap3, ctx_tap4, ctx_tap5, ctx_tap6, ctx_tap7, ctx_tap8, ctx_tap9, ctx_tap10, ctx_tap11, ctx_tap12, ctx_tap13, ctx_tap14, ctx_tap15, ctx_tap16, ctx_tap17, ctx_tap18, ctx_tap19, ctx_tap20, ctx_tap21, ctx_tap22, ctx_tap23, ctx_tap24, ctx_tap25, ctx_tap26, ctx_tap27, ctx_tap28, ctx_tap29, ctx_tap30, ctx_cb]
  unfold convG
  refine Eq.trans ?_ (add_comm _ _)
  refine congrArg (fun z : EReal => z + rowr x7 C) ?_
  refine (sum31 (fun k => tapAt (Rr x3) (grC b t) C k * CWr x6 k C)).trans (Finset.sum_congr rfl fun k _ => mul_comm _ _)
theorem ctx_conv' (i : S32x256x1024.Idx) : (val_main_v256 (F := Ideal) x3 x6 x7 i : EReal) = convG (Rr x3) (CWr x6) (rowr x7) (grC (i 0) (i 1)) (i 2) :=
  (congrArg (val_main_v256 (F := Ideal) x3 x6 x7) (ix3_self i)).trans (ctx_conv x3 x6 x7 (i 0) (i 1) (i 2))
/-- A token's mean. -/
theorem ctx_mean (i : S32x256x1.Idx) : (val_main_v260 (F := Ideal) x3 x6 x7 i : EReal) = meanOf (convG (Rr x3) (CWr x6) (rowr x7) (grC (i 0) (i 1))) := by
  rw [val_main_v260_apply, val_main_v258_apply, val_main_v257_apply, val_main_v259_apply, val_main_cst_2_apply, val_main_cst_1_apply]
  refine congrArg (fun s : EReal => Ideal.div s (Ideal.ofBits .f32 0x44800000#32)) ?_
  refine (congrArg (fun z : EReal => z + _) Ideal.ofBits_zero_f32).trans ((zero_add _).trans ?_)
  exact Finset.sum_congr rfl fun j _ => ctx_conv' x3 x6 x7 _
/-- A token less its mean. -/
theorem ctx_ctr (i : S32x256x1024.Idx) : (val_main_v262 (F := Ideal) x3 x6 x7 i : EReal) = (convG (Rr x3) (CWr x6) (rowr x7) (grC (i 0) (i 1))) (i 2) - meanOf (convG (Rr x3) (CWr x6) (rowr x7) (grC (i 0) (i 1))) := by
  rw [val_main_v262_apply, val_main_v261_apply]
  rw [ctx_mean, ctx_conv']
  rfl
theorem ctx_ctr' (i : S32x256x1024.Idx) : (val_main_v269 (F := Ideal) x3 x6 x7 i : EReal) = (convG (Rr x3) (CWr x6) (rowr x7) (grC (i 0) (i 1))) (i 2) - meanOf (convG (Rr x3) (CWr x6) (rowr x7) (grC (i 0) (i 1))) := by
  rw [val_main_v269_apply, val_main_v268_apply]
  rw [ctx_mean, ctx_conv']
  rfl
/-- The reciprocal of a token's deviation. -/
theorem ctx_dev (i : S32x256x1.Idx) : (val_main_v272 (F := Ideal) x3 x6 x7 i : EReal)
    = Ideal.rsqrt (Ideal.div (∑ j, ((convG (Rr x3) (CWr x6) (rowr x7) (grC (i 0) (i 1))) j - meanOf (convG (Rr x3) (CWr x6) (rowr x7) (grC (i 0) (i 1)))) * ((convG (Rr x3) (CWr x6) (rowr x7) (grC (i 0) (i 1))) j - meanOf (convG (Rr x3) (CWr x6) (rowr x7) (grC (i 0) (i 1))))) (Ideal.ofBits .f32 0x44800000#32) + Ideal.ofBits .f32 0x358637BD#32) := by
  rw [val_main_v272_apply, val_main_v271_apply, val_main_v267_apply, val_main_v265_apply, val_main_v264_apply, val_main_v266_apply, val_main_v270_apply, val_main_cst_3_apply, val_main_cst_4_apply, val_main_cst_5_apply]
  refine congrArg (fun s : EReal => Ideal.rsqrt (Ideal.div s (Ideal.ofBits .f32 0x44800000#32) + Ideal.ofBits .f32 0x358637BD#32)) ?_
  refine (congrArg (fun z : EReal => z + _) Ideal.ofBits_zero_f32).trans ((zero_add _).trans ?_)
  refine Finset.sum_congr rfl fun j _ => ?_
  rw [val_main_v263_apply]
  rw [ctx_ctr]
  rfl
/-- The normalised convolution. -/
theorem ctx_ln (b : Fin 32) (t : Fin 256) (k : Fin 1024) : (val_main_v280 (F := Ideal) x3 x6 x7 x8 x9 (ix3 b t k) : EReal)
    = lnOf (convG (Rr x3) (CWr x6) (rowr x7) (grC b t)) (rowr x8) (rowr x9) k := by
  rw [val_main_v280_apply, val_main_v277_apply, val_main_v274_apply, val_main_v273_apply]
  rw [ctx_ctr', ctx_dev, ctx_lg, ctx_lb]
  rfl
/-- The second branch's values. -/
theorem ctx_silu (b : Fin 32) (t : Fin 256) (k : Fin 1024) : (val_main_v281 (F := Ideal) x3 x6 x7 x8 x9 (ix3 b t k) : EReal)
    = siluOf (convG (Rr x3) (CWr x6) (rowr x7) (grC b t)) (rowr x8) (rowr x9) k := by
  rw [val_main_v281_apply, val_main_call1_v5_apply, val_main_call1_v4_apply, val_main_call1_v3_apply, val_main_call1_v2_apply, val_main_call1_v1_apply, val_main_call1_v0_apply, val_main_call1_cst_apply, val_main_call1_cst_0_apply]
  unfold siluOf glu
  refine congrArg₂ (fun a b : EReal => a * b) (ctx_ln x3 x6 x7 x8 x9 b t k) (Eq.trans ?_ (sg_eq _))
  exact congrArg (fun z : EReal => Ideal.div (Ideal.ofBits .f32 0x3F800000#32) (Ideal.ofBits .f32 0x3F800000#32 + Ideal.exp (-z))) (ctx_ln x3 x6 x7 x8 x9 b t k)
/-- The first branch's product. -/
theorem ctx_ya (b : Fin 32) (t : Fin 256) (j : Fin 1024) : (val_main_v29 (F := Ideal) x2 x11 (ix3 b t j) : EReal) = ∑ k : Fin 1024, x2 (ix2 (grC b t) k) * wgtr x11 k j := by
  rw [val_main_v29_apply]
  refine Finset.sum_congr rfl fun k _ => congrArg₂ (fun a b : EReal => a * b) ?_ ?_
  · refine Eq.trans (congrArg (val_main_v21 (F := Ideal) x2) (funext fun a => ?_)) (ctx_oa x2 b t k)
    match a with
    | ⟨0, _⟩ => rfl
    | ⟨1, _⟩ => rfl
    | ⟨2, _⟩ => rfl
  · refine Eq.trans (congrArg (val_main_v6 (F := Ideal) x11) (funext fun a => ?_)) (wh_ap x11 k j)
    match a with
    | ⟨0, _⟩ => rfl
    | ⟨1, _⟩ => rfl
/-- The second branch's product. -/
theorem ctx_yb (b : Fin 32) (t : Fin 256) (j : Fin 1024) : (val_main_v282 (F := Ideal) x3 x6 x7 x8 x9 x10 (ix3 b t j) : EReal) = ∑ k : Fin 1024, siluOf (convG (Rr x3) (CWr x6) (rowr x7) (grC b t)) (rowr x8) (rowr x9) k * wgtr x10 k j := by
  rw [val_main_v282_apply]
  refine Finset.sum_congr rfl fun k _ => congrArg₂ (fun a b : EReal => a * b) ?_ ?_
  · refine Eq.trans (congrArg (val_main_v281 (F := Ideal) x3 x6 x7 x8 x9) (funext fun a => ?_)) (ctx_silu x3 x6 x7 x8 x9 b t k)
    match a with
    | ⟨0, _⟩ => rfl
    | ⟨1, _⟩ => rfl
    | ⟨2, _⟩ => rfl
  · refine Eq.trans (congrArg (val_main_v5 (F := Ideal) x10) (funext fun a => ?_)) (wc_ap x10 k j)
    match a with
    | ⟨0, _⟩ => rfl
    | ⟨1, _⟩ => rfl
/-- The first gate. -/
theorem ctx_sga (b : Fin 32) (t : Fin 256) (k : Fin 1024) : (val_main_v288 (F := Ideal) x3 (ix3 b t k) : EReal) = sgm (Rr x3 (grC b t) ⟨5120 + k.val, by omega⟩) := by
  rw [val_main_v288_apply, val_main_v287_apply, val_main_v286_apply, val_main_v285_apply, val_main_v284_apply, val_main_v283_apply, val_main_cst_6_apply, val_main_cst_7_apply]
  refine Eq.trans ?_ (sg_eq _)
  exact congrArg (fun z : EReal => Ideal.div (Ideal.ofBits .f32 0x3F800000#32) (Ideal.ofBits .f32 0x3F800000#32 + Ideal.exp (-z))) (ctx_r5120 x3 b t k)
/-- The second gate. -/
theorem ctx_sgb (b : Fin 32) (t : Fin 256) (k : Fin 1024) : (val_main_v295 (F := Ideal) x3 (ix3 b t k) : EReal) = sgm (Rr x3 (grC b t) ⟨6144 + k.val, by omega⟩) := by
  rw [val_main_v295_apply, val_main_v294_apply, val_main_v293_apply, val_main_v292_apply, val_main_v291_apply, val_main_v290_apply, val_main_cst_8_apply, val_main_cst_9_apply]
  refine Eq.trans ?_ (sg_eq _)
  exact congrArg (fun z : EReal => Ideal.div (Ideal.ofBits .f32 0x3F800000#32) (Ideal.ofBits .f32 0x3F800000#32 + Ideal.exp (-z))) (ctx_r6144 x3 b t k)
/-- The mix of the branches. -/
theorem ctx_mix (b : Fin 32) (t : Fin 256) (k : Fin 1024) : (val_main_v297 (F := Ideal) x2 x3 x6 x7 x8 x9 x10 x11 (ix3 b t k) : EReal)
    = mixOf (convG (Rr x3) (CWr x6) (rowr x7) (grC b t)) (rowr x8) (rowr x9) (fun k => x2 (ix2 (grC b t) k))
        (fun j => Rr x3 (grC b t) ⟨5120 + j.val, by omega⟩) (fun j => Rr x3 (grC b t) ⟨6144 + j.val, by omega⟩) (wgtr x10) (wgtr x11) k := by
  rw [val_main_v297_apply, val_main_v289_apply, val_main_v296_apply]
  rw [ctx_sga, ctx_sgb, ctx_ya, ctx_yb]
  rfl
/-- The mix's product. -/
theorem ctx_br (b : Fin 32) (t : Fin 256) (j : Fin 1024) : (val_main_v298 (F := Ideal) x2 x3 x6 x7 x8 x9 x10 x11 x12 (ix3 b t j) : EReal) = ∑ k : Fin 1024, mixOf (convG (Rr x3) (CWr x6) (rowr x7) (grC b t)) (rowr x8) (rowr x9) (fun k => x2 (ix2 (grC b t) k))
        (fun j => Rr x3 (grC b t) ⟨5120 + j.val, by omega⟩) (fun j => Rr x3 (grC b t) ⟨6144 + j.val, by omega⟩) (wgtr x10) (wgtr x11) k * wgtr x12 k j := by
  rw [val_main_v298_apply]
  refine Finset.sum_congr rfl fun k _ => congrArg₂ (fun a b : EReal => a * b) ?_ ?_
  · refine Eq.trans (congrArg (val_main_v297 (F := Ideal) x2 x3 x6 x7 x8 x9 x10 x11) (funext fun a => ?_)) (ctx_mix x2 x3 x6 x7 x8 x9 x10 x11 b t k)
    match a with
    | ⟨0, _⟩ => rfl
    | ⟨1, _⟩ => rfl
    | ⟨2, _⟩ => rfl
  · refine Eq.trans (congrArg (val_main_v7 (F := Ideal) x12) (funext fun a => ?_)) (wm_ap x12 k j)
    match a with
    | ⟨0, _⟩ => rfl
    | ⟨1, _⟩ => rfl
/-- The first result's row. -/
def ctxX1 (b : Fin 32) (t : Fin 256) : Fin 1024 → EReal :=
  x1Of (fun j => x0 (ix3 b t j)) (fun j => Mr x4 (0 : Fin 8) ⟨2048 + j.val, by omega⟩) (convG (Rr x3) (CWr x6) (rowr x7) (grC b t)) (rowr x8) (rowr x9) (fun k => x2 (ix2 (grC b t) k))
        (fun j => Rr x3 (grC b t) ⟨5120 + j.val, by omega⟩) (fun j => Rr x3 (grC b t) ⟨6144 + j.val, by omega⟩)
        (wgtr x10) (wgtr x11) (wgtr x12)
theorem ctx_x1 (b : Fin 32) (t : Fin 256) (j : Fin 1024) : (val_main_v301 (F := Ideal) x0 x2 x3 x4 x6 x7 x8 x9 x10 x11 x12 (ix3 b t j) : EReal) = ctxX1 x0 x2 x3 x4 x6 x7 x8 x9 x10 x11 x12 b t j := by
  rw [val_main_v301_apply, val_main_v300_apply]
  rw [ctx_gate, ctx_br]
  rfl
/-- The reciprocal root of the first result's mean square. -/
theorem ctx_rs (b : Fin 32) (t : Fin 256) (k : Fin 1024) : (val_main_v312 (F := Ideal) x0 x2 x3 x4 x6 x7 x8 x9 x10 x11 x12 (ix3 b t k) : EReal)
    = Ideal.rsqrt (Ideal.div (∑ j, ctxX1 x0 x2 x3 x4 x6 x7 x8 x9 x10 x11 x12 b t j * ctxX1 x0 x2 x3 x4 x6 x7 x8 x9 x10 x11 x12 b t j) (Ideal.ofBits .f32 0x44800000#32)
        + Ideal.ofBits .f32 0x358637BD#32) := by
  rw [val_main_v312_apply, val_main_v311_apply, val_main_v310_apply, val_main_v309_apply, val_main_v308_apply, val_main_v307_apply, val_main_v306_apply, val_main_v305_apply, val_main_cst_10_apply, val_main_cst_11_apply, val_main_cst_12_apply]
  refine congrArg (fun s : EReal => Ideal.rsqrt (Ideal.div s (Ideal.ofBits .f32 0x44800000#32) + Ideal.ofBits .f32 0x358637BD#32)) ?_
  refine (congrArg (fun z : EReal => z + _) Ideal.ofBits_zero_f32).trans ((zero_add _).trans ?_)
  refine Finset.sum_congr rfl fun j _ => ?_
  rw [val_main_v304_apply]
  refine congrArg (fun z : EReal => z * z) (Eq.trans (congrArg (val_main_v301 (F := Ideal) x0 x2 x3 x4 x6 x7 x8 x9 x10 x11 x12) (funext fun a => ?_)) (ctx_x1 x0 x2 x3 x4 x6 x7 x8 x9 x10 x11 x12 b t j))
  match a with
  | ⟨0, _⟩ => rfl
  | ⟨1, _⟩ => rfl
  | ⟨2, _⟩ => rfl
/-- The second result's row. -/
theorem ctx_h2 (b : Fin 32) (t : Fin 256) (j : Fin 1024) : (val_main_v322 (F := Ideal) x0 x2 x3 x4 x5 x6 x7 x8 x9 x10 x11 x12 (ix3 b t j) : EReal)
    = h2Of (ctxX1 x0 x2 x3 x4 x6 x7 x8 x9 x10 x11 x12 b t) (fun k => x5 (ix3 (0 : Fin 1) (1 : Fin 2) k)) (fun j => Mr x4 (0 : Fin 8) ⟨4096 + j.val, by omega⟩)
        (fun j => Mr x4 (0 : Fin 8) ⟨3072 + j.val, by omega⟩) j := by
  rw [val_main_v322_apply, val_main_v320_apply, val_main_v316_apply, val_main_v313_apply]
  rw [ctx_sh, ctx_sc, ctx_ng, ctx_rs, ctx_x1]
  rfl

/-! ## The samples' tokens -/

/-- The row of a token. -/
def grS (b : Fin 2) (t : Fin 2048) : Fin 12288 := ⟨8192 + 2048 * b.val + t.val, by omega⟩
theorem lat_r3072 (b : Fin 2) (t : Fin 2048) (k : Fin 1024) :
    (val_main_v326 (F := Ideal) x3 (ix3 b t k) : EReal) = Rr x3 (grS b t) ⟨3072 + k.val, by omega⟩ := by
  rw [val_main_v326_apply, val_main_v325_apply, val_main_v324_apply, val_main_v10_apply]
  refine (val_main_v9_apply (F := Ideal) x3 _).trans ?_
  refine congrArg x3 (funext fun a => Fin.ext ?_)
  match a with
  | ⟨0, _⟩ => show 8192 + ((b.val * 2048 + t.val) * 4096 + k.val) / 4096 = 8192 + 2048 * b.val + t.val; omega
  | ⟨1, _⟩ => show 3072 + ((b.val * 2048 + t.val) * 4096 + k.val) % 4096 = 3072 + k.val; omega
theorem lat_r4096 (b : Fin 2) (t : Fin 2048) (k : Fin 1024) :
    (val_main_v327 (F := Ideal) x3 (ix3 b t k) : EReal) = Rr x3 (grS b t) ⟨4096 + k.val, by omega⟩ := by
  rw [val_main_v327_apply, val_main_v325_apply, val_main_v324_apply, val_main_v10_apply]
  refine (val_main_v9_apply (F := Ideal) x3 _).trans ?_
  refine congrArg x3 (funext fun a => Fin.ext ?_)
  match a with
  | ⟨0, _⟩ => show 8192 + ((b.val * 2048 + t.val) * 4096 + (1024 + k.val)) / 4096 = 8192 + 2048 * b.val + t.val; omega
  | ⟨1, _⟩ => show 3072 + ((b.val * 2048 + t.val) * 4096 + (1024 + k.val)) % 4096 = 4096 + k.val; omega
theorem lat_r5120 (b : Fin 2) (t : Fin 2048) (k : Fin 1024) :
    (val_main_v328 (F := Ideal) x3 (ix3 b t k) : EReal) = Rr x3 (grS b t) ⟨5120 + k.val, by omega⟩ := by
  rw [val_main_v328_apply, val_main_v325_apply, val_main_v324_apply, val_main_v10_apply]
  refine (val_main_v9_apply (F := Ideal) x3 _).trans ?_
  refine congrArg x3 (funext fun a => Fin.ext ?_)
  match a with
  | ⟨0, _⟩ => show 8192 + ((b.val * 2048 + t.val) * 4096 + (2048 + k.val)) / 4096 = 8192 + 2048 * b.val + t.val; omega
  | ⟨1, _⟩ => show 3072 + ((b.val * 2048 + t.val) * 4096 + (2048 + k.val)) % 4096 = 5120 + k.val; omega
theorem lat_r6144 (b : Fin 2) (t : Fin 2048) (k : Fin 1024) :
    (val_main_v329 (F := Ideal) x3 (ix3 b t k) : EReal) = Rr x3 (grS b t) ⟨6144 + k.val, by omega⟩ := by
  rw [val_main_v329_apply, val_main_v325_apply, val_main_v324_apply, val_main_v10_apply]
  refine (val_main_v9_apply (F := Ideal) x3 _).trans ?_
  refine congrArg x3 (funext fun a => Fin.ext ?_)
  match a with
  | ⟨0, _⟩ => show 8192 + ((b.val * 2048 + t.val) * 4096 + (3072 + k.val)) / 4096 = 8192 + 2048 * b.val + t.val; omega
  | ⟨1, _⟩ => show 3072 + ((b.val * 2048 + t.val) * 4096 + (3072 + k.val)) % 4096 = 6144 + k.val; omega
theorem lat_oa (b : Fin 2) (t : Fin 2048) (k : Fin 1024) : (val_main_v331 (F := Ideal) x2 (ix3 b t k) : EReal) = x2 (ix2 (grS b t) k) := by
  rw [val_main_v331_apply, val_main_v330_apply]
  refine (val_main_v8_apply (F := Ideal) x2 _).trans ?_
  refine congrArg x2 (funext fun a => Fin.ext ?_)
  match a with
  | ⟨0, _⟩ => show 8192 + ((b.val * 2048 + t.val) * 1024 + k.val) / 1024 = 8192 + 2048 * b.val + t.val; omega
  | ⟨1, _⟩ => show ((b.val * 2048 + t.val) * 1024 + k.val) % 1024 = k.val; omega
theorem lat_gate (b : Fin 2) (t : Fin 2048) (k : Fin 1024) : (val_main_v609 (F := Ideal) x4 (ix3 b t k) : EReal) = Mr x4 (⟨1 + b.val, by omega⟩ : Fin 8) ⟨2048 + k.val, by omega⟩ := by
  rw [val_main_v609_apply, val_main_v335_apply, val_main_v332_apply, val_main_v323_apply]
  refine congrArg x4 (funext fun a => Fin.ext ?_)
  match a with
  | ⟨0, _⟩ => rfl
  | ⟨1, _⟩ => show 2048 + k.val = 2048 + k.val; rfl
theorem lat_sh (b : Fin 2) (t : Fin 2048) (k : Fin 1024) : (val_main_v631 (F := Ideal) x4 (ix3 b t k) : EReal) = Mr x4 (⟨1 + b.val, by omega⟩ : Fin 8) ⟨3072 + k.val, by omega⟩ := by
  rw [val_main_v631_apply, val_main_v336_apply, val_main_v332_apply, val_main_v323_apply]
  refine congrArg x4 (funext fun a => Fin.ext ?_)
  match a with
  | ⟨0, _⟩ => rfl
  | ⟨1, _⟩ => show 3072 + k.val = 3072 + k.val; rfl
theorem lat_sc (b : Fin 2) (t : Fin 2048) (k : Fin 1024) : (val_main_v629 (F := Ideal) x4 (ix3 b t k) : EReal) = Ideal.ofBits .f32 0x3F800000#32 + Mr x4 (⟨1 + b.val, by omega⟩ : Fin 8) ⟨4096 + k.val, by omega⟩ := by
  rw [val_main_v629_apply, val_main_v628_apply, val_main_v627_apply, val_main_cst_29_apply, val_main_v337_apply, val_main_v332_apply, val_main_v323_apply]
  refine congrArg (fun i => (Ideal.ofBits .f32 0x3F800000#32 + x4 i : EReal)) (funext fun a => Fin.ext ?_)
  match a with
  | ⟨0, _⟩ => rfl
  | ⟨1, _⟩ => show 4096 + k.val = 4096 + k.val; rfl
theorem lat_cb (b : Fin 2) (t : Fin 2048) (k : Fin 1024) : (val_main_v565 (F := Ideal) x7 (ix3 b t k) : EReal) = rowr x7 k := by
  rw [val_main_v565_apply, val_main_v564_apply, val_main_v2_apply]
  refine congrArg x7 (funext fun a => Fin.ext ?_)
  match a with
  | ⟨0, _⟩ => rfl
  | ⟨1, _⟩ => show k.val % 1024 = k.val; omega
theorem lat_lg (b : Fin 2) (t : Fin 2048) (k : Fin 1024) : (val_main_v586 (F := Ideal) x8 (ix3 b t k) : EReal) = rowr x8 k := by
  rw [val_main_v586_apply, val_main_v585_apply, val_main_v3_apply]
  refine congrArg x8 (funext fun a => Fin.ext ?_)
  match a with
  | ⟨0, _⟩ => rfl
  | ⟨1, _⟩ => show k.val % 1024 = k.val; omega
theorem lat_lb (b : Fin 2) (t : Fin 2048) (k : Fin 1024) : (val_main_v589 (F := Ideal) x9 (ix3 b t k) : EReal) = rowr x9 k := by
  rw [val_main_v589_apply, val_main_v588_apply, val_main_v4_apply]
  refine congrArg x9 (funext fun a => Fin.ext ?_)
  match a with
  | ⟨0, _⟩ => rfl
  | ⟨1, _⟩ => show k.val % 1024 = k.val; omega
theorem lat_ng (b : Fin 2) (t : Fin 2048) (k : Fin 1024) : (val_main_v625 (F := Ideal) x5 (ix3 b t k) : EReal) = x5 (ix3 (0 : Fin 1) (1 : Fin 2) k) := by
  rw [val_main_v625_apply, val_main_v624_apply, val_main_v613_apply, val_main_v612_apply, val_main_v0_apply]
  refine congrArg x5 (funext fun a => Fin.ext ?_)
  match a with
  | ⟨0, _⟩ => rfl
  | ⟨1, _⟩ => show ((1 + 0) * 1024 + k.val % 1024) / 1024 % 2 = 1; omega
  | ⟨2, _⟩ => show ((1 + 0) * 1024 + k.val % 1024) % 1024 = k.val; omega
/-- The gated values. -/
theorem lat_glu (b : Fin 2) (t : Fin 2048) (k : Fin 1024) : (val_main_v346 (F := Ideal) x3 (ix3 b t k) : EReal) = gatedAt (Rr x3) (grS b t) k := by
  rw [val_main_v346_apply, val_main_v345_apply, val_main_v344_apply, val_main_v343_apply, val_main_v342_apply, val_main_v341_apply, val_main_v340_apply, val_main_cst_14_apply, val_main_cst_15_apply]
  unfold gatedAt glu
  refine congrArg₂ (fun a b : EReal => a * b) (lat_r3072 x3 b t k) (Eq.trans ?_ (sg_eq _))
  exact congrArg (fun z : EReal => Ideal.div (Ideal.ofBits .f32 0x3F800000#32) (Ideal.ofBits .f32 0x3F800000#32 + Ideal.exp (-z))) (lat_r4096 x3 b t k)
/-- The gated values with zeros about them. -/
theorem lat_pad (b : Fin 2) (t : Fin 2048) (k : Fin 31) (C : Fin 1024) :
    (val_main_v347 (F := Ideal) x3 (ix3 b (⟨k.val + t.val, by omega⟩ : Fin 2078) C) : EReal) = tapAt (Rr x3) (grS b t) C k := by
  have hk := k.isLt
  have ht := t.isLt
  have hb := b.isLt
  have hlo : seqLo (grS b t).val = 8192 + 2048 * b.val := by
    show (if 8192 + 2048 * b.val + t.val < 8192 then 256 * ((8192 + 2048 * b.val + t.val) / 256) else 8192 + 2048 * ((8192 + 2048 * b.val + t.val - 8192) / 2048)) = _
    split <;> omega
  have hhi : seqHi (grS b t).val = 8192 + 2048 * b.val + 2048 := by
    show (if 8192 + 2048 * b.val + t.val < 8192 then 256 * ((8192 + 2048 * b.val + t.val) / 256) + 256 else 8192 + 2048 * ((8192 + 2048 * b.val + t.val - 8192) / 2048) + 2048) = _
    split <;> omega
  have hrow : (grS b t).val = 8192 + 2048 * b.val + t.val := rfl
  unfold val_main_v347 tapAt
  by_cases h : 15 ≤ k.val + t.val ∧ k.val + t.val < 2063
  · rw [dif_pos (by rw [hlo, hhi, hrow]; omega)]
    refine (pad_apply_of_inside _ _ _ _ _ _ _ _ (ix3 b (⟨k.val + t.val - 15, by omega⟩ : Fin 2048) C) (fun a => ?_)).trans ?_
    · match a with
      | ⟨0, _⟩ => show b.val = 0 + b.val * (0 + 1); omega
      | ⟨1, _⟩ => show k.val + t.val = 15 + (k.val + t.val - 15) * (0 + 1); omega
      | ⟨2, _⟩ => show C.val = 0 + C.val * (0 + 1); omega
    · refine (lat_glu x3 _ _ C).trans ?_
      exact congrArg (fun r => gatedAt (Rr x3) r C) (Fin.ext (by
        show 8192 + 2048 * b.val + (k.val + t.val - 15) = 8192 + 2048 * b.val + t.val + k.val - 15; omega))
  · rw [dif_neg (by rw [hlo, hhi, hrow]; omega)]
    refine (pad_apply_of_not_inside _ _ _ _ _ _ _ _ (1 : Fin 3) ?_).trans ?_
    · show ¬(15 ≤ k.val + t.val ∧ (k.val + t.val - 15) % (0 + 1) = 0 ∧ (k.val + t.val - 15) / (0 + 1) < 2048)
      omega
    · show (((0#32 : BitVec 32).toInt : ℝ) : EReal) = 0
      simp
/-- A tap's product. -/
theorem lat_tap (k : Fin 31) (hp : (⟨3, ![2, 2078, 1024]⟩ : Shape).Slices ![0, k.val, 0] S2x2048x1024) (hs : S31x1024.Slices ![k.val, 0] S1x1024) (hc : S1x1024.ShapeCasts S1024)
    (b : Fin 2) (t : Fin 2048) (C : Fin 1024) :
    (mulf (F := Ideal) (extractStridedSlice S2x2048x1024 ![0, k.val, 0] (val_main_v347 (F := Ideal) x3) hp)
      (broadcastInDim S2x2048x1024 ![0, 1, 2] bcast_S1x1x1024_S2x2048x1024_0_1_2 (broadcastInDim S1x1x1024 ![2] bcast_S1024_S1x1x1024_2
        (shapeCast S1024 (extractStridedSlice S1x1024 ![k.val, 0] (val_main_v1 (F := Ideal) x6) hs) hc))) : FVec Ideal S2x2048x1024 .f32) (ix3 b t C)
      = (tapAt (Rr x3) (grS b t) C k * CWr x6 k C : EReal) := by
  refine congrArg₂ (fun a b : EReal => a * b) ?_ ?_
  · refine (extractStridedSlice_apply _ _ _ _ (ix3 b (⟨k.val + t.val, by omega⟩ : Fin 2078) C) (fun a => ?_)).trans (lat_pad x3 b t k C)
    match a with
    | ⟨0, _⟩ => show b.val = 0 + b.val; omega
    | ⟨1, _⟩ => rfl
    | ⟨2, _⟩ => show C.val = 0 + C.val; omega
  · refine (broadcastInDim_apply _ _ _ _ (ix3 (0 : Fin 1) (0 : Fin 1) C) (fun a => ?_)).trans ((broadcastInDim_apply _ _ _ _ (ix1 C) (fun a => ?_)).trans
      ((wgt_ap _ k hs hc C).trans (cw_ap x6 k C)))
    · match a with
      | ⟨0, _⟩ => rfl
      | ⟨1, _⟩ => rfl
      | ⟨2, _⟩ => rfl
    · match a with
      | ⟨0, _⟩ => rfl
theorem lat_tap0 (b : Fin 2) (t : Fin 2048) (C : Fin 1024) : (val_main_v353 (F := Ideal) x3 x6 (ix3 b t C) : EReal) = tapAt (Rr x3) (grS b t) C 0 * CWr x6 0 C :=
  lat_tap x3 x6 0 _ _ _ b t C
theorem lat_tap1 (b : Fin 2) (t : Fin 2048) (C : Fin 1024) : (val_main_v359 (F := Ideal) x3 x6 (ix3 b t C) : EReal) = tapAt (Rr x3) (grS b t) C 1 * CWr x6 1 C :=
  lat_tap x3 x6 1 _ _ _ b t C
theorem lat_tap2 (b : Fin 2) (t : Fin 2048) (C : Fin 1024) : (val_main_v366 (F := Ideal) x3 x6 (ix3 b t C) : EReal) = tapAt (Rr x3) (grS b t) C 2 * CWr x6 2 C :=
  lat_tap x3 x6 2 _ _ _ b t C
theorem lat_tap3 (b : Fin 2) (t : Fin 2048) (C : Fin 1024) : (val_main_v373 (F := Ideal) x3 x6 (ix3 b t C) : EReal) = tapAt (Rr x3) (grS b t) C 3 * CWr x6 3 C :=
  lat_tap x3 x6 3 _ _ _ b t C
theorem lat_tap4 (b : Fin 2) (t : Fin 2048) (C : Fin 1024) : (val_main_v380 (F := Ideal) x3 x6 (ix3 b t C) : EReal) = tapAt (Rr x3) (grS b t) C 4 * CWr x6 4 C :=
  lat_tap x3 x6 4 _ _ _ b t C
theorem lat_tap5 (b : Fin 2) (t : Fin 2048) (C : Fin 1024) : (val_main_v387 (F := Ideal) x3 x6 (ix3 b t C) : EReal) = tapAt (Rr x3) (grS b t) C 5 * CWr x6 5 C :=
  lat_tap x3 x6 5 _ _ _ b t C
theorem lat_tap6 (b : Fin 2) (t : Fin 2048) (C : Fin 1024) : (val_main_v394 (F := Ideal) x3 x6 (ix3 b t C) : EReal) = tapAt (Rr x3) (grS b t) C 6 * CWr x6 6 C :=
  lat_tap x3 x6 6 _ _ _ b t C
theorem lat_tap7 (b : Fin 2) (t : Fin 2048) (C : Fin 1024) : (val_main_v401 (F := Ideal) x3 x6 (ix3 b t C) : EReal) = tapAt (Rr x3) (grS b t) C 7 * CWr x6 7 C :=
  lat_tap x3 x6 7 _ _ _ b t C
theorem lat_tap8 (b : Fin 2) (t : Fin 2048) (C : Fin 1024) : (val_main_v408 (F := Ideal) x3 x6 (ix3 b t C) : EReal) = tapAt (Rr x3) (grS b t) C 8 * CWr x6 8 C :=
  lat_tap x3 x6 8 _ _ _ b t C
theorem lat_tap9 (b : Fin 2) (t : Fin 2048) (C : Fin 1024) : (val_main_v415 (F := Ideal) x3 x6 (ix3 b t C) : EReal) = tapAt (Rr x3) (grS b t) C 9 * CWr x6 9 C :=
  lat_tap x3 x6 9 _ _ _ b t C
theorem lat_tap10 (b : Fin 2) (t : Fin 2048) (C : Fin 1024) : (val_main_v422 (F := Ideal) x3 x6 (ix3 b t C) : EReal) = tapAt (Rr x3) (grS b t) C 10 * CWr x6 10 C :=
  lat_tap x3 x6 10 _ _ _ b t C
theorem lat_tap11 (b : Fin 2) (t : Fin 2048) (C : Fin 1024) : (val_main_v429 (F := Ideal) x3 x6 (ix3 b t C) : EReal) = tapAt (Rr x3) (grS b t) C 11 * CWr x6 11 C :=
  lat_tap x3 x6 11 _ _ _ b t C
theorem lat_tap12 (b : Fin 2) (t : Fin 2048) (C : Fin 1024) : (val_main_v436 (F := Ideal) x3 x6 (ix3 b t C) : EReal) = tapAt (Rr x3) (grS b t) C 12 * CWr x6 12 C :=
  lat_tap x3 x6 12 _ _ _ b t C
theorem lat_tap13 (b : Fin 2) (t : Fin 2048) (C : Fin 1024) : (val_main_v443 (F := Ideal) x3 x6 (ix3 b t C) : EReal) = tapAt (Rr x3) (grS b t) C 13 * CWr x6 13 C :=
  lat_tap x3 x6 13 _ _ _ b t C
theorem lat_tap14 (b : Fin 2) (t : Fin 2048) (C : Fin 1024) : (val_main_v450 (F := Ideal) x3 x6 (ix3 b t C) : EReal) = tapAt (Rr x3) (grS b t) C 14 * CWr x6 14 C :=
  lat_tap x3 x6 14 _ _ _ b t C
theorem lat_tap15 (b : Fin 2) (t : Fin 2048) (C : Fin 1024) : (val_main_v457 (F := Ideal) x3 x6 (ix3 b t C) : EReal) = tapAt (Rr x3) (grS b t) C 15 * CWr x6 15 C :=
  lat_tap x3 x6 15 _ _ _ b t C
theorem lat_tap16 (b : Fin 2) (t : Fin 2048) (C : Fin 1024) : (val_main_v464 (F := Ideal) x3 x6 (ix3 b t C) : EReal) = tapAt (Rr x3) (grS b t) C 16 * CWr x6 16 C :=
  lat_tap x3 x6 16 _ _ _ b t C
theorem lat_tap17 (b : Fin 2) (t : Fin 2048) (C : Fin 1024) : (val_main_v471 (F := Ideal) x3 x6 (ix3 b t C) : EReal) = tapAt (Rr x3) (grS b t) C 17 * CWr x6 17 C :=
  lat_tap x3 x6 17 _ _ _ b t C
theorem lat_tap18 (b : Fin 2) (t : Fin 2048) (C : Fin 1024) : (val_main_v478 (F := Ideal) x3 x6 (ix3 b t C) : EReal) = tapAt (Rr x3) (grS b t) C 18 * CWr x6 18 C :=
  lat_tap x3 x6 18 _ _ _ b t C
theorem lat_tap19 (b : Fin 2) (t : Fin 2048) (C : Fin 1024) : (val_main_v485 (F := Ideal) x3 x6 (ix3 b t C) : EReal) = tapAt (Rr x3) (grS b t) C 19 * CWr x6 19 C :=
  lat_tap x3 x6 19 _ _ _ b t C
theorem lat_tap20 (b : Fin 2) (t : Fin 2048) (C : Fin 1024) : (val_main_v492 (F := Ideal) x3 x6 (ix3 b t C) : EReal) = tapAt (Rr x3) (grS b t) C 20 * CWr x6 20 C :=
  lat_tap x3 x6 20 _ _ _ b t C
theorem lat_tap21 (b : Fin 2) (t : Fin 2048) (C : Fin 1024) : (val_main_v499 (F := Ideal) x3 x6 (ix3 b t C) : EReal) = tapAt (Rr x3) (grS b t) C 21 * CWr x6 21 C :=
  lat_tap x3 x6 21 _ _ _ b t C
theorem lat_tap22 (b : Fin 2) (t : Fin 2048) (C : Fin 1024) : (val_main_v506 (F := Ideal) x3 x6 (ix3 b t C) : EReal) = tapAt (Rr x3) (grS b t) C 22 * CWr x6 22 C :=
  lat_tap x3 x6 22 _ _ _ b t C
theorem lat_tap23 (b : Fin 2) (t : Fin 2048) (C : Fin 1024) : (val_main_v513 (F := Ideal) x3 x6 (ix3 b t C) : EReal) = tapAt (Rr x3) (grS b t) C 23 * CWr x6 23 C :=
  lat_tap x3 x6 23 _ _ _ b t C
theorem lat_tap24 (b : Fin 2) (t : Fin 2048) (C : Fin 1024) : (val_main_v520 (F := Ideal) x3 x6 (ix3 b t C) : EReal) = tapAt (Rr x3) (grS b t) C 24 * CWr x6 24 C :=
  lat_tap x3 x6 24 _ _ _ b t C
theorem lat_tap25 (b : Fin 2) (t : Fin 2048) (C : Fin 1024) : (val_main_v527 (F := Ideal) x3 x6 (ix3 b t C) : EReal) = tapAt (Rr x3) (grS b t) C 25 * CWr x6 25 C :=
  lat_tap x3 x6 25 _ _ _ b t C
theorem lat_tap26 (b : Fin 2) (t : Fin 2048) (C : Fin 1024) : (val_main_v534 (F := Ideal) x3 x6 (ix3 b t C) : EReal) = tapAt (Rr x3) (grS b t) C 26 * CWr x6 26 C :=
  lat_tap x3 x6 26 _ _ _ b t C
theorem lat_tap27 (b : Fin 2) (t : Fin 2048) (C : Fin 1024) : (val_main_v541 (F := Ideal) x3 x6 (ix3 b t C) : EReal) = tapAt (Rr x3) (grS b t) C 27 * CWr x6 27 C :=
  lat_tap x3 x6 27 _ _ _ b t C
theorem lat_tap28 (b : Fin 2) (t : Fin 2048) (C : Fin 1024) : (val_main_v548 (F := Ideal) x3 x6 (ix3 b t C) : EReal) = tapAt (Rr x3) (grS b t) C 28 * CWr x6 28 C :=
  lat_tap x3 x6 28 _ _ _ b t C
theorem lat_tap29 (b : Fin 2) (t : Fin 2048) (C : Fin 1024) : (val_main_v555 (F := Ideal) x3 x6 (ix3 b t C) : EReal) = tapAt (Rr x3) (grS b t) C 29 * CWr x6 29 C :=
  lat_tap x3 x6 29 _ _ _ b t C
theorem lat_tap30 (b : Fin 2) (t : Fin 2048) (C : Fin 1024) : (val_main_v562 (F := Ideal) x3 x6 (ix3 b t C) : EReal) = tapAt (Rr x3) (grS b t) C 30 * CWr x6 30 C :=
  lat_tap x3 x6 30 _ _ _ b t C
/-- The convolution of a token. -/
theorem lat_conv (b : Fin 2) (t : Fin 2048) (C : Fin 1024) : (val_main_v566 (F := Ideal) x3 x6 x7 (ix3 b t C) : EReal) = convG (Rr x3) (CWr x6) (rowr x7) (grS b t) C := by
  rw [val_main_v566_apply, val_main_v563_apply, val_main_v556_apply, val_main_v549_apply, val_main_v542_apply, val_main_v535_apply, val_main_v528_apply, val_main_v521_apply, val_main_v514_apply, val_main_v507_apply, val_main_v500_apply, val_main_v493_apply, val_main_v486_apply, val_main_v479_apply, val_main_v472_apply, val_main_v465_apply, val_main_v458_apply, val_main_v451_apply, val_main_v444_apply, val_main_v437_apply, val_main_v430_apply, val_main_v423_apply, val_main_v416_apply, val_main_v409_apply, val_main_v402_apply, val_main_v395_apply, val_main_v388_apply, val_main_v381_apply, val_main_v374_apply, val_main_v367_apply, val_main_v360_apply]
  rw [lat_tap0, lat_tap1, lat_tap2, lat_tap3, lat_tap4, lat_tap5, lat_tap6, lat_tap7, lat_tap8, lat_tap9, lat_tap10, lat_tap11, lat_tap12, lat_tap13, lat_tap14, lat_tap15, lat_tap16, lat_tap17, lat_tap18, lat_tap19, lat_tap20, lat_tap21, lat_tap22, lat_tap23, lat_tap24, lat_tap25, lat_tap26, lat_tap27, lat_tap28, lat_tap29, lat_tap30, lat_cb]
  unfold convG
  refine Eq.trans ?_ (add_comm _ _)
  refine congrArg (fun z : EReal => z + rowr x7 C) ?_
  refine (sum31 (fun k => tapAt (Rr x3) (grS b t) C k * CWr x6 k C)).trans (Finset.sum_congr rfl fun k _ => mul_comm _ _)
theorem lat_conv' (i : S2x2048x1024.Idx) : (val_main_v566 (F := Ideal) x3 x6 x7 i : EReal) = convG (Rr x3) (CWr x6) (rowr x7) (grS (i 0) (i 1)) (i 2) :=
  (congrArg (val_main_v566 (F := Ideal) x3 x6 x7) (ix3_self i)).trans (lat_conv x3 x6 x7 (i 0) (i 1) (i 2))
/-- A token's mean. -/
theorem lat_mean (i : S2x2048x1.Idx) : (val_main_v570 (F := Ideal) x3 x6 x7 i : EReal) = meanOf (convG (Rr x3) (CWr x6) (rowr x7) (grS (i 0) (i 1))) := by
  rw [val_main_v570_apply, val_main_v568_apply, val_main_v567_apply, val_main_v569_apply, val_main_cst_18_apply, val_main_cst_17_apply]
  refine congrArg (fun s : EReal => Ideal.div s (Ideal.ofBits .f32 0x44800000#32)) ?_
  refine (congrArg (fun z : EReal => z + _) Ideal.ofBits_zero_f32).trans ((zero_add _).trans ?_)
  exact Finset.sum_congr rfl fun j _ => lat_conv' x3 x6 x7 _
/-- A token less its mean. -/
theorem lat_ctr (i : S2x2048x1024.Idx) : (val_main_v572 (F := Ideal) x3 x6 x7 i : EReal) = (convG (Rr x3) (CWr x6) (rowr x7) (grS (i 0) (i 1))) (i 2) - meanOf (convG (Rr x3) (CWr x6) (rowr x7) (grS (i 0) (i 1))) := by
  rw [val_main_v572_apply, val_main_v571_apply]
  rw [lat_mean, lat_conv']
  rfl
theorem lat_ctr' (i : S2x2048x1024.Idx) : (val_main_v579 (F := Ideal) x3 x6 x7 i : EReal) = (convG (Rr x3) (CWr x6) (rowr x7) (grS (i 0) (i 1))) (i 2) - meanOf (convG (Rr x3) (CWr x6) (rowr x7) (grS (i 0) (i 1))) := by
  rw [val_main_v579_apply, val_main_v578_apply]
  rw [lat_mean, lat_conv']
  rfl
/-- The reciprocal of a token's deviation. -/
theorem lat_dev (i : S2x2048x1.Idx) : (val_main_v582 (F := Ideal) x3 x6 x7 i : EReal)
    = Ideal.rsqrt (Ideal.div (∑ j, ((convG (Rr x3) (CWr x6) (rowr x7) (grS (i 0) (i 1))) j - meanOf (convG (Rr x3) (CWr x6) (rowr x7) (grS (i 0) (i 1)))) * ((convG (Rr x3) (CWr x6) (rowr x7) (grS (i 0) (i 1))) j - meanOf (convG (Rr x3) (CWr x6) (rowr x7) (grS (i 0) (i 1))))) (Ideal.ofBits .f32 0x44800000#32) + Ideal.ofBits .f32 0x358637BD#32) := by
  rw [val_main_v582_apply, val_main_v581_apply, val_main_v577_apply, val_main_v575_apply, val_main_v574_apply, val_main_v576_apply, val_main_v580_apply, val_main_cst_19_apply, val_main_cst_20_apply, val_main_cst_21_apply]
  refine congrArg (fun s : EReal => Ideal.rsqrt (Ideal.div s (Ideal.ofBits .f32 0x44800000#32) + Ideal.ofBits .f32 0x358637BD#32)) ?_
  refine (congrArg (fun z : EReal => z + _) Ideal.ofBits_zero_f32).trans ((zero_add _).trans ?_)
  refine Finset.sum_congr rfl fun j _ => ?_
  rw [val_main_v573_apply]
  rw [lat_ctr]
  rfl
/-- The normalised convolution. -/
theorem lat_ln (b : Fin 2) (t : Fin 2048) (k : Fin 1024) : (val_main_v590 (F := Ideal) x3 x6 x7 x8 x9 (ix3 b t k) : EReal)
    = lnOf (convG (Rr x3) (CWr x6) (rowr x7) (grS b t)) (rowr x8) (rowr x9) k := by
  rw [val_main_v590_apply, val_main_v587_apply, val_main_v584_apply, val_main_v583_apply]
  rw [lat_ctr', lat_dev, lat_lg, lat_lb]
  rfl
/-- The second branch's values. -/
theorem lat_silu (b : Fin 2) (t : Fin 2048) (k : Fin 1024) : (val_main_v591 (F := Ideal) x3 x6 x7 x8 x9 (ix3 b t k) : EReal)
    = siluOf (convG (Rr x3) (CWr x6) (rowr x7) (grS b t)) (rowr x8) (rowr x9) k := by
  rw [val_main_v591_apply, val_main_call3_v5_apply, val_main_call3_v4_apply, val_main_call3_v3_apply, val_main_call3_v2_apply, val_main_call3_v1_apply, val_main_call3_v0_apply, val_main_call3_cst_apply, val_main_call3_cst_0_apply]
  unfold siluOf glu
  refine congrArg₂ (fun a b : EReal => a * b) (lat_ln x3 x6 x7 x8 x9 b t k) (Eq.trans ?_ (sg_eq _))
  exact congrArg (fun z : EReal => Ideal.div (Ideal.ofBits .f32 0x3F800000#32) (Ideal.ofBits .f32 0x3F800000#32 + Ideal.exp (-z))) (lat_ln x3 x6 x7 x8 x9 b t k)
/-- The first branch's product. -/
theorem lat_ya (b : Fin 2) (t : Fin 2048) (j : Fin 1024) : (val_main_v339 (F := Ideal) x2 x11 (ix3 b t j) : EReal) = ∑ k : Fin 1024, x2 (ix2 (grS b t) k) * wgtr x11 k j := by
  rw [val_main_v339_apply]
  refine Finset.sum_congr rfl fun k _ => congrArg₂ (fun a b : EReal => a * b) ?_ ?_
  · refine Eq.trans (congrArg (val_main_v331 (F := Ideal) x2) (funext fun a => ?_)) (lat_oa x2 b t k)
    match a with
    | ⟨0, _⟩ => rfl
    | ⟨1, _⟩ => rfl
    | ⟨2, _⟩ => rfl
  · refine Eq.trans (congrArg (val_main_v6 (F := Ideal) x11) (funext fun a => ?_)) (wh_ap x11 k j)
    match a with
    | ⟨0, _⟩ => rfl
    | ⟨1, _⟩ => rfl
/-- The second branch's product. -/
theorem lat_yb (b : Fin 2) (t : Fin 2048) (j : Fin 1024) : (val_main_v592 (F := Ideal) x3 x6 x7 x8 x9 x10 (ix3 b t j) : EReal) = ∑ k : Fin 1024, siluOf (convG (Rr x3) (CWr x6) (rowr x7) (grS b t)) (rowr x8) (rowr x9) k * wgtr x10 k j := by
  rw [val_main_v592_apply]
  refine Finset.sum_congr rfl fun k _ => congrArg₂ (fun a b : EReal => a * b) ?_ ?_
  · refine Eq.trans (congrArg (val_main_v591 (F := Ideal) x3 x6 x7 x8 x9) (funext fun a => ?_)) (lat_silu x3 x6 x7 x8 x9 b t k)
    match a with
    | ⟨0, _⟩ => rfl
    | ⟨1, _⟩ => rfl
    | ⟨2, _⟩ => rfl
  · refine Eq.trans (congrArg (val_main_v5 (F := Ideal) x10) (funext fun a => ?_)) (wc_ap x10 k j)
    match a with
    | ⟨0, _⟩ => rfl
    | ⟨1, _⟩ => rfl
/-- The first gate. -/
theorem lat_sga (b : Fin 2) (t : Fin 2048) (k : Fin 1024) : (val_main_v598 (F := Ideal) x3 (ix3 b t k) : EReal) = sgm (Rr x3 (grS b t) ⟨5120 + k.val, by omega⟩) := by
  rw [val_main_v598_apply, val_main_v597_apply, val_main_v596_apply, val_main_v595_apply, val_main_v594_apply, val_main_v593_apply, val_main_cst_22_apply, val_main_cst_23_apply]
  refine Eq.trans ?_ (sg_eq _)
  exact congrArg (fun z : EReal => Ideal.div (Ideal.ofBits .f32 0x3F800000#32) (Ideal.ofBits .f32 0x3F800000#32 + Ideal.exp (-z))) (lat_r5120 x3 b t k)
/-- The second gate. -/
theorem lat_sgb (b : Fin 2) (t : Fin 2048) (k : Fin 1024) : (val_main_v605 (F := Ideal) x3 (ix3 b t k) : EReal) = sgm (Rr x3 (grS b t) ⟨6144 + k.val, by omega⟩) := by
  rw [val_main_v605_apply, val_main_v604_apply, val_main_v603_apply, val_main_v602_apply, val_main_v601_apply, val_main_v600_apply, val_main_cst_24_apply, val_main_cst_25_apply]
  refine Eq.trans ?_ (sg_eq _)
  exact congrArg (fun z : EReal => Ideal.div (Ideal.ofBits .f32 0x3F800000#32) (Ideal.ofBits .f32 0x3F800000#32 + Ideal.exp (-z))) (lat_r6144 x3 b t k)
/-- The mix of the branches. -/
theorem lat_mix (b : Fin 2) (t : Fin 2048) (k : Fin 1024) : (val_main_v607 (F := Ideal) x2 x3 x6 x7 x8 x9 x10 x11 (ix3 b t k) : EReal)
    = mixOf (convG (Rr x3) (CWr x6) (rowr x7) (grS b t)) (rowr x8) (rowr x9) (fun k => x2 (ix2 (grS b t) k))
        (fun j => Rr x3 (grS b t) ⟨5120 + j.val, by omega⟩) (fun j => Rr x3 (grS b t) ⟨6144 + j.val, by omega⟩) (wgtr x10) (wgtr x11) k := by
  rw [val_main_v607_apply, val_main_v599_apply, val_main_v606_apply]
  rw [lat_sga, lat_sgb, lat_ya, lat_yb]
  rfl
/-- The mix's product. -/
theorem lat_br (b : Fin 2) (t : Fin 2048) (j : Fin 1024) : (val_main_v608 (F := Ideal) x2 x3 x6 x7 x8 x9 x10 x11 x12 (ix3 b t j) : EReal) = ∑ k : Fin 1024, mixOf (convG (Rr x3) (CWr x6) (rowr x7) (grS b t)) (rowr x8) (rowr x9) (fun k => x2 (ix2 (grS b t) k))
        (fun j => Rr x3 (grS b t) ⟨5120 + j.val, by omega⟩) (fun j => Rr x3 (grS b t) ⟨6144 + j.val, by omega⟩) (wgtr x10) (wgtr x11) k * wgtr x12 k j := by
  rw [val_main_v608_apply]
  refine Finset.sum_congr rfl fun k _ => congrArg₂ (fun a b : EReal => a * b) ?_ ?_
  · refine Eq.trans (congrArg (val_main_v607 (F := Ideal) x2 x3 x6 x7 x8 x9 x10 x11) (funext fun a => ?_)) (lat_mix x2 x3 x6 x7 x8 x9 x10 x11 b t k)
    match a with
    | ⟨0, _⟩ => rfl
    | ⟨1, _⟩ => rfl
    | ⟨2, _⟩ => rfl
  · refine Eq.trans (congrArg (val_main_v7 (F := Ideal) x12) (funext fun a => ?_)) (wm_ap x12 k j)
    match a with
    | ⟨0, _⟩ => rfl
    | ⟨1, _⟩ => rfl
/-- The first result's row. -/
def latX1 (b : Fin 2) (t : Fin 2048) : Fin 1024 → EReal :=
  x1Of (fun j => x1 (ix3 b t j)) (fun j => Mr x4 (⟨1 + b.val, by omega⟩ : Fin 8) ⟨2048 + j.val, by omega⟩) (convG (Rr x3) (CWr x6) (rowr x7) (grS b t)) (rowr x8) (rowr x9) (fun k => x2 (ix2 (grS b t) k))
        (fun j => Rr x3 (grS b t) ⟨5120 + j.val, by omega⟩) (fun j => Rr x3 (grS b t) ⟨6144 + j.val, by omega⟩)
        (wgtr x10) (wgtr x11) (wgtr x12)
theorem lat_x1 (b : Fin 2) (t : Fin 2048) (j : Fin 1024) : (val_main_v611 (F := Ideal) x1 x2 x3 x4 x6 x7 x8 x9 x10 x11 x12 (ix3 b t j) : EReal) = latX1 x1 x2 x3 x4 x6 x7 x8 x9 x10 x11 x12 b t j := by
  rw [val_main_v611_apply, val_main_v610_apply]
  rw [lat_gate, lat_br]
  rfl
/-- The reciprocal root of the first result's mean square. -/
theorem lat_rs (b : Fin 2) (t : Fin 2048) (k : Fin 1024) : (val_main_v622 (F := Ideal) x1 x2 x3 x4 x6 x7 x8 x9 x10 x11 x12 (ix3 b t k) : EReal)
    = Ideal.rsqrt (Ideal.div (∑ j, latX1 x1 x2 x3 x4 x6 x7 x8 x9 x10 x11 x12 b t j * latX1 x1 x2 x3 x4 x6 x7 x8 x9 x10 x11 x12 b t j) (Ideal.ofBits .f32 0x44800000#32)
        + Ideal.ofBits .f32 0x358637BD#32) := by
  rw [val_main_v622_apply, val_main_v621_apply, val_main_v620_apply, val_main_v619_apply, val_main_v618_apply, val_main_v617_apply, val_main_v616_apply, val_main_v615_apply, val_main_cst_26_apply, val_main_cst_27_apply, val_main_cst_28_apply]
  refine congrArg (fun s : EReal => Ideal.rsqrt (Ideal.div s (Ideal.ofBits .f32 0x44800000#32) + Ideal.ofBits .f32 0x358637BD#32)) ?_
  refine (congrArg (fun z : EReal => z + _) Ideal.ofBits_zero_f32).trans ((zero_add _).trans ?_)
  refine Finset.sum_congr rfl fun j _ => ?_
  rw [val_main_v614_apply]
  refine congrArg (fun z : EReal => z * z) (Eq.trans (congrArg (val_main_v611 (F := Ideal) x1 x2 x3 x4 x6 x7 x8 x9 x10 x11 x12) (funext fun a => ?_)) (lat_x1 x1 x2 x3 x4 x6 x7 x8 x9 x10 x11 x12 b t j))
  match a with
  | ⟨0, _⟩ => rfl
  | ⟨1, _⟩ => rfl
  | ⟨2, _⟩ => rfl
/-- The second result's row. -/
theorem lat_h2 (b : Fin 2) (t : Fin 2048) (j : Fin 1024) : (val_main_v632 (F := Ideal) x1 x2 x3 x4 x5 x6 x7 x8 x9 x10 x11 x12 (ix3 b t j) : EReal)
    = h2Of (latX1 x1 x2 x3 x4 x6 x7 x8 x9 x10 x11 x12 b t) (fun k => x5 (ix3 (0 : Fin 1) (1 : Fin 2) k)) (fun j => Mr x4 (⟨1 + b.val, by omega⟩ : Fin 8) ⟨4096 + j.val, by omega⟩)
        (fun j => Mr x4 (⟨1 + b.val, by omega⟩ : Fin 8) ⟨3072 + j.val, by omega⟩) j := by
  rw [val_main_v632_apply, val_main_v630_apply, val_main_v626_apply, val_main_v623_apply]
  rw [lat_sh, lat_sc, lat_ng, lat_rs, lat_x1]
  rfl

/-! ## All tokens -/

/-- The first result's row, of the reference's arrays. -/
def X1r (r : Fin 12288) : Fin 1024 → EReal :=
  x1G (fun b t k => x0 (ix3 b t k)) (fun b t k => x1 (ix3 b t k)) (fun r k => x2 (ix2 r k)) (Rr x3) (Mr x4) (CWr x6) (rowr x7) (rowr x8) (rowr x9)
    (wgtr x10) (wgtr x11) (wgtr x12) r
/-- The first result. -/
theorem ref_x1 (r : Fin 12288) (j : Fin 1024) : (val_main_v635 (F := Ideal) x0 x1 x2 x3 x4 x6 x7 x8 x9 x10 x11 x12 (ix2 r j) : EReal) = X1r x0 x1 x2 x3 x4 x6 x7 x8 x9 x10 x11 x12 r j := by
  unfold val_main_v635
  by_cases h : r.val < 8192
  · refine (concatenate_apply_piece 0 [⟨S8192x1024, val_main_v633 (F := Ideal) x0 x2 x3 x4 x6 x7 x8 x9 x10 x11 x12⟩, ⟨S4096x1024, val_main_v634 (F := Ideal) x1 x2 x3 x4 x6 x7 x8 x9 x10 x11 x12⟩]
      concatenates_S8192x1024_S4096x1024_S12288x1024_d0 (ix2 r j) 0 (Nat.lt_of_sub_eq_succ rfl) S8192x1024 (val_main_v633 (F := Ideal) x0 x2 x3 x4 x6 x7 x8 x9 x10 x11 x12)
      rfl rfl 0 rfl (ix2 ⟨r.val, h⟩ j) (fun a ha => ?_) (Nat.zero_add _)).trans ?_
    · match a with
      | ⟨0, _⟩ => exact absurd rfl ha
      | ⟨1, _⟩ => rfl
    · have hg : grC (⟨r.val / 256, by omega⟩ : Fin 32) (⟨r.val % 256, by omega⟩ : Fin 256) = r :=
        Fin.ext (by show 256 * (r.val / 256) + r.val % 256 = r.val; omega)
      rw [val_main_v633_apply]
      refine Eq.trans (congrArg (val_main_v301 (F := Ideal) x0 x2 x3 x4 x6 x7 x8 x9 x10 x11 x12) (funext fun a => Fin.ext ?_))
        ((ctx_x1 x0 x2 x3 x4 x6 x7 x8 x9 x10 x11 x12 (⟨r.val / 256, by omega⟩ : Fin 32) (⟨r.val % 256, by omega⟩ : Fin 256) j).trans ?_)
      · match a with
        | ⟨0, _⟩ => show (r.val * 1024 + j.val) / 262144 = r.val / 256; omega
        | ⟨1, _⟩ => show (r.val * 1024 + j.val) / 1024 % 256 = r.val % 256; omega
        | ⟨2, _⟩ => show (r.val * 1024 + j.val) % 1024 = j.val; omega
      · unfold X1r x1G ctxX1 rowX rowM
        rw [hg]
        simp only [dif_pos h]
  · refine (concatenate_apply_piece 0 [⟨S8192x1024, val_main_v633 (F := Ideal) x0 x2 x3 x4 x6 x7 x8 x9 x10 x11 x12⟩, ⟨S4096x1024, val_main_v634 (F := Ideal) x1 x2 x3 x4 x6 x7 x8 x9 x10 x11 x12⟩]
      concatenates_S8192x1024_S4096x1024_S12288x1024_d0 (ix2 r j) 1 (Nat.lt_of_sub_eq_succ rfl) S4096x1024 (val_main_v634 (F := Ideal) x1 x2 x3 x4 x6 x7 x8 x9 x10 x11 x12)
      rfl rfl 8192 (by rfl) (ix2 ⟨r.val - 8192, by omega⟩ j) (fun a ha => ?_) (by show 8192 + (r.val - 8192) = r.val; omega)).trans ?_
    · match a with
      | ⟨0, _⟩ => exact absurd rfl ha
      | ⟨1, _⟩ => rfl
    · have hg : grS (⟨(r.val - 8192) / 2048, by omega⟩ : Fin 2) (⟨(r.val - 8192) % 2048, by omega⟩ : Fin 2048) = r :=
        Fin.ext (by show 8192 + 2048 * ((r.val - 8192) / 2048) + (r.val - 8192) % 2048 = r.val; omega)
      rw [val_main_v634_apply]
      refine Eq.trans (congrArg (val_main_v611 (F := Ideal) x1 x2 x3 x4 x6 x7 x8 x9 x10 x11 x12) (funext fun a => Fin.ext ?_))
        ((lat_x1 x1 x2 x3 x4 x6 x7 x8 x9 x10 x11 x12 (⟨(r.val - 8192) / 2048, by omega⟩ : Fin 2) (⟨(r.val - 8192) % 2048, by omega⟩ : Fin 2048) j).trans ?_)
      · match a with
        | ⟨0, _⟩ => show ((r.val - 8192) * 1024 + j.val) / 2097152 = (r.val - 8192) / 2048; omega
        | ⟨1, _⟩ => show ((r.val - 8192) * 1024 + j.val) / 1024 % 2048 = (r.val - 8192) % 2048; omega
        | ⟨2, _⟩ => show ((r.val - 8192) * 1024 + j.val) % 1024 = j.val; omega
      · unfold X1r x1G latX1 rowX rowM
        rw [hg]
        simp only [dif_neg h]

/-- The second result. -/
theorem ref_h2 (r : Fin 12288) (j : Fin 1024) : (val_main_v638 (F := Ideal) x0 x1 x2 x3 x4 x5 x6 x7 x8 x9 x10 x11 x12 (ix2 r j) : EReal) = h2G (X1r x0 x1 x2 x3 x4 x6 x7 x8 x9 x10 x11 x12 r) (Mr x4) (fun k => x5 (ix3 (0 : Fin 1) (1 : Fin 2) k)) r j := by
  unfold val_main_v638
  by_cases h : r.val < 8192
  · refine (concatenate_apply_piece 0 [⟨S8192x1024, val_main_v636 (F := Ideal) x0 x2 x3 x4 x5 x6 x7 x8 x9 x10 x11 x12⟩, ⟨S4096x1024, val_main_v637 (F := Ideal) x1 x2 x3 x4 x5 x6 x7 x8 x9 x10 x11 x12⟩]
      concatenates_S8192x1024_S4096x1024_S12288x1024_d0 (ix2 r j) 0 (Nat.lt_of_sub_eq_succ rfl) S8192x1024 (val_main_v636 (F := Ideal) x0 x2 x3 x4 x5 x6 x7 x8 x9 x10 x11 x12)
      rfl rfl 0 rfl (ix2 ⟨r.val, h⟩ j) (fun a ha => ?_) (Nat.zero_add _)).trans ?_
    · match a with
      | ⟨0, _⟩ => exact absurd rfl ha
      | ⟨1, _⟩ => rfl
    · have hg : grC (⟨r.val / 256, by omega⟩ : Fin 32) (⟨r.val % 256, by omega⟩ : Fin 256) = r :=
        Fin.ext (by show 256 * (r.val / 256) + r.val % 256 = r.val; omega)
      rw [val_main_v636_apply]
      refine Eq.trans (congrArg (val_main_v322 (F := Ideal) x0 x2 x3 x4 x5 x6 x7 x8 x9 x10 x11 x12) (funext fun a => Fin.ext ?_))
        ((ctx_h2 x0 x2 x3 x4 x5 x6 x7 x8 x9 x10 x11 x12 (⟨r.val / 256, by omega⟩ : Fin 32) (⟨r.val % 256, by omega⟩ : Fin 256) j).trans ?_)
      · match a with
        | ⟨0, _⟩ => show (r.val * 1024 + j.val) / 262144 = r.val / 256; omega
        | ⟨1, _⟩ => show (r.val * 1024 + j.val) / 1024 % 256 = r.val % 256; omega
        | ⟨2, _⟩ => show (r.val * 1024 + j.val) % 1024 = j.val; omega
      · unfold X1r x1G ctxX1 h2G rowX rowM
        rw [hg]
        simp only [dif_pos h]
  · refine (concatenate_apply_piece 0 [⟨S8192x1024, val_main_v636 (F := Ideal) x0 x2 x3 x4 x5 x6 x7 x8 x9 x10 x11 x12⟩, ⟨S4096x1024, val_main_v637 (F := Ideal) x1 x2 x3 x4 x5 x6 x7 x8 x9 x10 x11 x12⟩]
      concatenates_S8192x1024_S4096x1024_S12288x1024_d0 (ix2 r j) 1 (Nat.lt_of_sub_eq_succ rfl) S4096x1024 (val_main_v637 (F := Ideal) x1 x2 x3 x4 x5 x6 x7 x8 x9 x10 x11 x12)
      rfl rfl 8192 (by rfl) (ix2 ⟨r.val - 8192, by omega⟩ j) (fun a ha => ?_) (by show 8192 + (r.val - 8192) = r.val; omega)).trans ?_
    · match a with
      | ⟨0, _⟩ => exact absurd rfl ha
      | ⟨1, _⟩ => rfl
    · have hg : grS (⟨(r.val - 8192) / 2048, by omega⟩ : Fin 2) (⟨(r.val - 8192) % 2048, by omega⟩ : Fin 2048) = r :=
        Fin.ext (by show 8192 + 2048 * ((r.val - 8192) / 2048) + (r.val - 8192) % 2048 = r.val; omega)
      rw [val_main_v637_apply]
      refine Eq.trans (congrArg (val_main_v632 (F := Ideal) x1 x2 x3 x4 x5 x6 x7 x8 x9 x10 x11 x12) (funext fun a => Fin.ext ?_))
        ((lat_h2 x1 x2 x3 x4 x5 x6 x7 x8 x9 x10 x11 x12 (⟨(r.val - 8192) / 2048, by omega⟩ : Fin 2) (⟨(r.val - 8192) % 2048, by omega⟩ : Fin 2048) j).trans ?_)
      · match a with
        | ⟨0, _⟩ => show ((r.val - 8192) * 1024 + j.val) / 2097152 = (r.val - 8192) / 2048; omega
        | ⟨1, _⟩ => show ((r.val - 8192) * 1024 + j.val) / 1024 % 2048 = (r.val - 8192) % 2048; omega
        | ⟨2, _⟩ => show ((r.val - 8192) * 1024 + j.val) % 1024 = j.val; omega
      · unfold X1r x1G latX1 h2G rowX rowM
        rw [hg]
        simp only [dif_neg h]

end Cert.Mix.Ref

end
-- ==== Proof.MixJoin.lean ====
/- The mix of the kernel and of the reference joined: of equal arguments, equal results. -/
module

public import proofs.«01_k».proof.Defs
public import proofs.«01_k».proof.Proof.MixKer
public import proofs.«01_k».proof.Proof.MixRef

@[expose] public section

noncomputable section

namespace Cert.Mix

open Idealize.ShloMosaic Idealize.ShloMosaic.TcCoe Idealize.ShloMosaic.ValueIdx Idealize.SL.Sem

/-- The reference runs, leaves its arguments and has no semaphore to leave nonzero. -/
theorem ref_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
        ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
        ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
        ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
        ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
        ∧ r.2.sem = fun _ => 0) :=
  (θ_run _ _ _).mono (fun r h => ⟨fun c => (h c).2.2, sem_eq_zero_of_no_sems (by decide) r.2⟩) (Cert.Reference3Ideal.Value.run m ρ)

/-- The two programs leave equal results, of memories whose arguments agree. -/
theorem joined : Cert.algebraic_Kernel3Ideal_Reference3Ideal (hKernel3Ideal := Cert.Kernel3Ideal.Gen.facts) (hReference3Ideal := Cert.Reference3Ideal.Gen.facts) := by
  intro m g m' g' _ hag
  refine ⟨fun c => (Cert.Kernel3Ideal.Gen.dats m 0 c).arrAt 20 Cert.Kernel3Ideal.cfg0.N, fun c => (Cert.Kernel3Ideal.Gen.dats m 0 c).arrAt 21 Cert.Kernel3Ideal.cfg0.N, Cert.Kernel3Ideal.Value.run_blocks m g, ?_⟩
  refine (θ_run _ _ _).mono (fun r h c => ?_) (Cert.Reference3Ideal.Value.run m' g')
  obtain ⟨e0, e1, e2, e3, e4, e5, e6, e7, e8, e9, e10, e11, e12⟩ := hag c
  refine ⟨(h c).1.trans ?_, (h c).2.1.trans ?_, (h c).2.2⟩
  · refine (Cert.Reference3Ideal.Read.val_main_v635_eq _).trans ?_
    show Cert.Reference3Ideal.Read.val_main_v635 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = _
    rw [e0, e1, e2, e3, e4, e6, e7, e8, e9, e10, e11, e12]
    funext i
    obtain ⟨r, j, rfl⟩ : ∃ (r : Fin 12288) (j : Fin 1024), i = ix2 r j := ⟨_, _, eq_ix2 i⟩
    exact (Ref.ref_x1 _ _ _ _ _ _ _ _ _ _ _ _ r j).trans (ker_x1 m c r j).symm
  · refine (Cert.Reference3Ideal.Read.val_main_v638_eq _).trans ?_
    show Cert.Reference3Ideal.Read.val_main_v638 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) = _
    rw [e0, e1, e2, e3, e4, e5, e6, e7, e8, e9, e10, e11, e12]
    funext i
    obtain ⟨r, j, rfl⟩ : ∃ (r : Fin 12288) (j : Fin 1024), i = ix2 r j := ⟨_, _, eq_ix2 i⟩
    exact (Ref.ref_h2 _ _ _ _ _ _ _ _ _ _ _ _ _ r j).trans (ker_h2 m c r j).symm

end Cert.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Join
public import proofs.«01_k».proof.Proof.InFrame
public import proofs.«01_k».proof.Proof.InJoin
public import proofs.«01_k».proof.Proof.MixJoin
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Hgrn.preFacts,
  fun m ρ _ => Cert.Kernel.Gen.frame m ρ,
  fun m ρ _ => Cert.KernelIdeal.Gen.frame m ρ,
  fun m ρ _ => Cert.KernelIdeal.Gen.frame m ρ,
  fun m ρ _ => Cert.Hgrn.ref_frame m ρ,
  fun m ρ _ => Cert.Hgrn.ref_frame m ρ,
  fun m ρ _ => Cert.Inproj.frame_run m ρ,
  fun m ρ _ => Cert.Inproj.frame m ρ,
  fun m ρ _ => Cert.Inproj.ref_frame m ρ,
  fun m ρ _ => Cert.Kernel3.Gen.frame m ρ,
  fun m ρ _ => Cert.Kernel3Ideal.Gen.frame m ρ,
  fun m ρ _ => Cert.Mix.ref_frame m ρ,
  trivial,
  Cert.Hgrn.joined,
  trivial,
  Cert.Inproj.joined,
  trivial,
  Cert.Mix.joined⟩

end Cert.Proof

end
